-- ==== Defs.lean ====
def Pre_Kernel [hPre_perm_in_range : Cert.Pre_perm_in_range.Facts] (m : (ℓ : Loc Cert.Kernel.nD Cert.Kernel.τ Cert.Kernel.sig) → Buf (Elt Bits) ℓ) : Prop :=
  ∀ c : Dev Cert.Kernel.nD,
    (Cert.Pre_perm_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_perm_in_range : Cert.Pre_perm_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_perm_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_perm_onto [hPre_perm_onto : Cert.Pre_perm_onto.Facts] (m : (ℓ : Loc Cert.KernelIdeal.nD Cert.KernelIdeal.τ Cert.KernelIdeal.sig) → Buf (Elt Ideal) ℓ) : Prop :=
  ∀ c : Dev Cert.KernelIdeal.nD,
    (Cert.Pre_perm_onto.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_perm_onto [hPre_perm_onto : Cert.Pre_perm_onto.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_onto.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_LastKernel [hPre_last_perm_in_range : Cert.Pre_last_perm_in_range.Facts] (m : (ℓ : Loc Cert.LastKernel.nD Cert.LastKernel.τ Cert.LastKernel.sig) → Buf (Elt Bits) ℓ) : Prop :=
  ∀ c : Dev Cert.LastKernel.nD,
    (Cert.Pre_last_perm_in_range.fn (F := Bits) (m ((c.tc : Thread Cert.LastKernel.nD Cert.LastKernel.τ).loc Cert.LastKernel.main_arg0)) (m ((c.tc : Thread Cert.LastKernel.nD Cert.LastKernel.τ).loc Cert.LastKernel.main_arg1)) (m ((c.tc : Thread Cert.LastKernel.nD Cert.LastKernel.τ).loc Cert.LastKernel.main_arg2)) (m ((c.tc : Thread Cert.LastKernel.nD Cert.LastKernel.τ).loc Cert.LastKernel.main_arg3)) (m ((c.tc : Thread Cert.LastKernel.nD Cert.LastKernel.τ).loc Cert.LastKernel.main_arg4))) = (fun _ => 1#1)

def Pre_LastKernelIdeal [hPre_last_perm_in_range : Cert.Pre_last_perm_in_range.Facts] (m : (ℓ : Loc Cert.LastKernelIdeal.nD Cert.LastKernelIdeal.τ Cert.LastKernelIdeal.sig) → Buf (Elt Ideal) ℓ) : Prop :=
  ∀ c : Dev Cert.LastKernelIdeal.nD,
    (Cert.Pre_last_perm_in_range.fn (F := Ideal) (m ((c.tc : Thread Cert.LastKernelIdeal.nD Cert.LastKernelIdeal.τ).loc Cert.LastKernelIdeal.main_arg0)) (m ((c.tc : Thread Cert.LastKernelIdeal.nD Cert.LastKernelIdeal.τ).loc Cert.LastKernelIdeal.main_arg1)) (m ((c.tc : Thread Cert.LastKernelIdeal.nD Cert.LastKernelIdeal.τ).loc Cert.LastKernelIdeal.main_arg2)) (m ((c.tc : Thread Cert.LastKernelIdeal.nD Cert.LastKernelIdeal.τ).loc Cert.LastKernelIdeal.main_arg3)) (m ((c.tc : Thread Cert.LastKernelIdeal.nD Cert.LastKernelIdeal.τ).loc Cert.LastKernelIdeal.main_arg4))) = (fun _ => 1#1)

def Pre_LastKernelIdeal_last_perm_onto [hPre_last_perm_onto : Cert.Pre_last_perm_onto.Facts] (m : (ℓ : Loc Cert.LastKernelIdeal.nD Cert.LastKernelIdeal.τ Cert.LastKernelIdeal.sig) → Buf (Elt Ideal) ℓ) : Prop :=
  ∀ c : Dev Cert.LastKernelIdeal.nD,
    (Cert.Pre_last_perm_onto.fn (F := Ideal) (m ((c.tc : Thread Cert.LastKernelIdeal.nD Cert.LastKernelIdeal.τ).loc Cert.LastKernelIdeal.main_arg0)) (m ((c.tc : Thread Cert.LastKernelIdeal.nD Cert.LastKernelIdeal.τ).loc Cert.LastKernelIdeal.main_arg1)) (m ((c.tc : Thread Cert.LastKernelIdeal.nD Cert.LastKernelIdeal.τ).loc Cert.LastKernelIdeal.main_arg2)) (m ((c.tc : Thread Cert.LastKernelIdeal.nD Cert.LastKernelIdeal.τ).loc Cert.LastKernelIdeal.main_arg3)) (m ((c.tc : Thread Cert.LastKernelIdeal.nD Cert.LastKernelIdeal.τ).loc Cert.LastKernelIdeal.main_arg4))) = (fun _ => 1#1)

def Pre_LastReferenceIdeal (m : (ℓ : Loc Cert.LastReferenceIdeal.nD Cert.LastReferenceIdeal.τ Cert.LastReferenceIdeal.sig) → Buf (Elt Ideal) ℓ) : Prop :=
  True

def Pre_LastReferenceIdeal_last_perm_onto [hPre_last_perm_onto : Cert.Pre_last_perm_onto.Facts] (m : (ℓ : Loc Cert.LastReferenceIdeal.nD Cert.LastReferenceIdeal.τ Cert.LastReferenceIdeal.sig) → Buf (Elt Ideal) ℓ) : Prop :=
  ∀ c : Dev Cert.LastReferenceIdeal.nD,
    (Cert.Pre_last_perm_onto.fn (F := Ideal) (m ((c.tc : Thread Cert.LastReferenceIdeal.nD Cert.LastReferenceIdeal.τ).loc Cert.LastReferenceIdeal.main_arg0)) (m ((c.tc : Thread Cert.LastReferenceIdeal.nD Cert.LastReferenceIdeal.τ).loc Cert.LastReferenceIdeal.main_arg1)) (m ((c.tc : Thread Cert.LastReferenceIdeal.nD Cert.LastReferenceIdeal.τ).loc Cert.LastReferenceIdeal.main_arg2)) (m ((c.tc : Thread Cert.LastReferenceIdeal.nD Cert.LastReferenceIdeal.τ).loc Cert.LastReferenceIdeal.main_arg3)) (m ((c.tc : Thread Cert.LastReferenceIdeal.nD Cert.LastReferenceIdeal.τ).loc Cert.LastReferenceIdeal.main_arg4))) = (fun _ => 1#1)

def quiescent_Kernel [hKernel : Cert.Kernel.Facts] [hPre_perm_in_range : Cert.Pre_perm_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_perm_in_range : Cert.Pre_perm_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_perm_onto [hKernelIdeal : Cert.KernelIdeal.Facts] [hPre_perm_onto : Cert.Pre_perm_onto.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_onto m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_perm_onto [hReferenceIdeal : Cert.ReferenceIdeal.Facts] [hPre_perm_onto : Cert.Pre_perm_onto.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_onto m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_LastKernel [hLastKernel : Cert.LastKernel.Facts] [hPre_last_perm_in_range : Cert.Pre_last_perm_in_range.Facts] : Prop :=
  ∀ (m : (ℓ : Loc Cert.LastKernel.nD Cert.LastKernel.τ Cert.LastKernel.sig) → Buf (Elt Bits) ℓ) (g : Dev Cert.LastKernel.nD → PrngReg), Pre_LastKernel m →
    θ_run (Cert.LastKernel.defs (F := Bits)) (onTc (τ := Cert.LastKernel.τ) (Cert.LastKernel.main (F := Bits))) ⟨m, fun _ => 0, g⟩ (fun r => (∀ c : Dev Cert.LastKernel.nD,
      r.2.mem ((c.tc : Thread Cert.LastKernel.nD Cert.LastKernel.τ).loc Cert.LastKernel.main_arg0) = m ((c.tc : Thread Cert.LastKernel.nD Cert.LastKernel.τ).loc Cert.LastKernel.main_arg0)
      ∧ r.2.mem ((c.tc : Thread Cert.LastKernel.nD Cert.LastKernel.τ).loc Cert.LastKernel.main_arg1) = m ((c.tc : Thread Cert.LastKernel.nD Cert.LastKernel.τ).loc Cert.LastKernel.main_arg1)
      ∧ r.2.mem ((c.tc : Thread Cert.LastKernel.nD Cert.LastKernel.τ).loc Cert.LastKernel.main_arg2) = m ((c.tc : Thread Cert.LastKernel.nD Cert.LastKernel.τ).loc Cert.LastKernel.main_arg2)
      ∧ r.2.mem ((c.tc : Thread Cert.LastKernel.nD Cert.LastKernel.τ).loc Cert.LastKernel.main_arg3) = m ((c.tc : Thread Cert.LastKernel.nD Cert.LastKernel.τ).loc Cert.LastKernel.main_arg3)
      ∧ r.2.mem ((c.tc : Thread Cert.LastKernel.nD Cert.LastKernel.τ).loc Cert.LastKernel.main_arg4) = m ((c.tc : Thread Cert.LastKernel.nD Cert.LastKernel.τ).loc Cert.LastKernel.main_arg4))
      ∧ r.2.sem = fun _ => 0)

def quiescent_LastKernelIdeal [hLastKernelIdeal : Cert.LastKernelIdeal.Facts] [hPre_last_perm_in_range : Cert.Pre_last_perm_in_range.Facts] : Prop :=
  ∀ (m : (ℓ : Loc Cert.LastKernelIdeal.nD Cert.LastKernelIdeal.τ Cert.LastKernelIdeal.sig) → Buf (Elt Ideal) ℓ) (g : Dev Cert.LastKernelIdeal.nD → PrngReg), Pre_LastKernelIdeal m →
    θ_run (Cert.LastKernelIdeal.defs (F := Ideal)) (onTc (τ := Cert.LastKernelIdeal.τ) (Cert.LastKernelIdeal.main (F := Ideal))) ⟨m, fun _ => 0, g⟩ (fun r => (∀ c : Dev Cert.LastKernelIdeal.nD,
      r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
      ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
      ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2)
      ∧ r.2.mem ((c.tc : Thread Cert.LastKernelIdeal.nD Cert.LastKernelIdeal.τ).loc Cert.LastKernelIdeal.main_arg3) = m ((c.tc : Thread Cert.LastKernelIdeal.nD Cert.LastKernelIdeal.τ).loc Cert.LastKernelIdeal.main_arg3)
      ∧ r.2.mem ((c.tc : Thread Cert.LastKernelIdeal.nD Cert.LastKernelIdeal.τ).loc Cert.LastKernelIdeal.main_arg4) = m ((c.tc : Thread Cert.LastKernelIdeal.nD Cert.LastKernelIdeal.τ).loc Cert.LastKernelIdeal.main_arg4))
      ∧ r.2.sem = fun _ => 0)

def quiescent_LastKernelIdeal_pre_last_perm_onto [hLastKernelIdeal : Cert.LastKernelIdeal.Facts] [hPre_last_perm_onto : Cert.Pre_last_perm_onto.Facts] : Prop :=
  ∀ (m : (ℓ : Loc Cert.LastKernelIdeal.nD Cert.LastKernelIdeal.τ Cert.LastKernelIdeal.sig) → Buf (Elt Ideal) ℓ) (g : Dev Cert.LastKernelIdeal.nD → PrngReg), Pre_LastKernelIdeal_last_perm_onto m →
    θ_run (Cert.LastKernelIdeal.defs (F := Ideal)) (onTc (τ := Cert.LastKernelIdeal.τ) (Cert.LastKernelIdeal.main (F := Ideal))) ⟨m, fun _ => 0, g⟩ (fun r => (∀ c : Dev Cert.LastKernelIdeal.nD,
      r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
      ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
      ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2)
      ∧ r.2.mem ((c.tc : Thread Cert.LastKernelIdeal.nD Cert.LastKernelIdeal.τ).loc Cert.LastKernelIdeal.main_arg3) = m ((c.tc : Thread Cert.LastKernelIdeal.nD Cert.LastKernelIdeal.τ).loc Cert.LastKernelIdeal.main_arg3)
      ∧ r.2.mem ((c.tc : Thread Cert.LastKernelIdeal.nD Cert.LastKernelIdeal.τ).loc Cert.LastKernelIdeal.main_arg4) = m ((c.tc : Thread Cert.LastKernelIdeal.nD Cert.LastKernelIdeal.τ).loc Cert.LastKernelIdeal.main_arg4))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4))
      ∧ r.2.sem = fun _ => 0)

def quiescent_LastReferenceIdeal_pre_last_perm_onto [hLastReferenceIdeal : Cert.LastReferenceIdeal.Facts] [hPre_last_perm_onto : Cert.Pre_last_perm_onto.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal_last_perm_onto m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4))
      ∧ r.2.sem = fun _ => 0)

def preserves_Kernel_KernelIdeal : Prop :=
  IdealRules.bf16_pair.BufferStatement Cert.KernelIdeal.S4x2304x2x128 Cert.KernelIdeal.S4x2304x1x128
  ∧ IdealRules.bf16_pair.BufferStatement Cert.KernelIdeal.S2304x2x128 Cert.KernelIdeal.S2304x1x128
  ∧ IdealRules.named_const.Statement Cert.KernelIdeal.κ "inv_d" .f32 0x3BCCCCCD#32 ((1 / 160 : ℝ) : EReal)
  ∧ IdealRules.named_const.Statement Cert.KernelIdeal.κ "scale" .f32 0x3DE995B3#32 (((Real.sqrt 160)⁻¹ * (Real.log 2)⁻¹ : ℝ) : EReal)
  ∧ IdealRules.bf16_pair.PackStatement Cert.KernelIdeal.S128x128
  ∧ IdealRules.bf16_pair.Statement Cert.KernelIdeal.S128x2x128 Cert.KernelIdeal.S128x1x128
  ∧ IdealRules.bf16_pair.Statement Cert.KernelIdeal.S1x2x128 Cert.KernelIdeal.S1x1x128
  ∧ IdealRules.bf16_pair.Statement Cert.KernelIdeal.S1x1x2x128 Cert.KernelIdeal.S1x1x1x128
  ∧ IdealRules.bf16_pair.Statement Cert.KernelIdeal.S1x8x2x128 Cert.KernelIdeal.S1x8x1x128
  ∧ IdealRules.bf16_pair.Statement Cert.KernelIdeal.S16x128 Cert.KernelIdeal.S8x128

def algebraic_KernelIdeal_ReferenceIdeal_pre_perm_onto [hKernelIdeal : Cert.KernelIdeal.Facts] [hReferenceIdeal : Cert.ReferenceIdeal.Facts] [hPre_perm_onto : Cert.Pre_perm_onto.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_onto m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_LastKernel_LastKernelIdeal : Prop :=
  IdealRules.bf16_pair.BufferStatement Cert.LastKernelIdeal.S4x2304x2x128 Cert.LastKernelIdeal.S4x2304x1x128
  ∧ IdealRules.bf16_pair.BufferStatement Cert.LastKernelIdeal.S2304x2x128 Cert.LastKernelIdeal.S2304x1x128
  ∧ IdealRules.named_const.Statement Cert.LastKernelIdeal.κ "inv_d" .f32 0x3BCCCCCD#32 ((1 / 160 : ℝ) : EReal)
  ∧ IdealRules.named_const.Statement Cert.LastKernelIdeal.κ "scale" .f32 0x3DE995B3#32 (((Real.sqrt 160)⁻¹ * (Real.log 2)⁻¹ : ℝ) : EReal)
  ∧ IdealRules.bf16_pair.PackStatement Cert.LastKernelIdeal.S128x128
  ∧ IdealRules.bf16_pair.Statement Cert.LastKernelIdeal.S128x2x128 Cert.LastKernelIdeal.S128x1x128
  ∧ IdealRules.bf16_pair.Statement Cert.LastKernelIdeal.S1x2x128 Cert.LastKernelIdeal.S1x1x128
  ∧ IdealRules.bf16_pair.Statement Cert.LastKernelIdeal.S1x1x2x128 Cert.LastKernelIdeal.S1x1x1x128
  ∧ IdealRules.bf16_pair.Statement Cert.LastKernelIdeal.S1x8x2x128 Cert.LastKernelIdeal.S1x8x1x128
  ∧ IdealRules.bf16_pair.Statement Cert.LastKernelIdeal.S16x128 Cert.LastKernelIdeal.S8x128

def algebraic_LastKernelIdeal_LastReferenceIdeal_pre_last_perm_onto [hLastKernelIdeal : Cert.LastKernelIdeal.Facts] [hLastReferenceIdeal : Cert.LastReferenceIdeal.Facts] [hPre_last_perm_onto : Cert.Pre_last_perm_onto.Facts] : Prop :=
  ∀ (m : (ℓ : Loc Cert.LastKernelIdeal.nD Cert.LastKernelIdeal.τ Cert.LastKernelIdeal.sig) → Buf (Elt Ideal) ℓ) (g : Dev Cert.LastKernelIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastKernelIdeal_last_perm_onto m →
    (∀ c : Dev Cert.LastKernelIdeal.nD,
      m' ((c.tc : Thread Cert.LastReferenceIdeal.nD Cert.LastReferenceIdeal.τ).loc Cert.LastReferenceIdeal.main_arg0) = m ((c.tc : Thread Cert.LastKernelIdeal.nD Cert.LastKernelIdeal.τ).loc Cert.LastKernelIdeal.main_arg0)
      ∧ m' ((c.tc : Thread Cert.LastReferenceIdeal.nD Cert.LastReferenceIdeal.τ).loc Cert.LastReferenceIdeal.main_arg1) = m ((c.tc : Thread Cert.LastKernelIdeal.nD Cert.LastKernelIdeal.τ).loc Cert.LastKernelIdeal.main_arg1)
      ∧ m' ((c.tc : Thread Cert.LastReferenceIdeal.nD Cert.LastReferenceIdeal.τ).loc Cert.LastReferenceIdeal.main_arg2) = m ((c.tc : Thread Cert.LastKernelIdeal.nD Cert.LastKernelIdeal.τ).loc Cert.LastKernelIdeal.main_arg2)
      ∧ m' ((c.tc : Thread Cert.LastReferenceIdeal.nD Cert.LastReferenceIdeal.τ).loc Cert.LastReferenceIdeal.main_arg3) = m ((c.tc : Thread Cert.LastKernelIdeal.nD Cert.LastKernelIdeal.τ).loc Cert.LastKernelIdeal.main_arg3)
      ∧ m' ((c.tc : Thread Cert.LastReferenceIdeal.nD Cert.LastReferenceIdeal.τ).loc Cert.LastReferenceIdeal.main_arg4) = m ((c.tc : Thread Cert.LastKernelIdeal.nD Cert.LastKernelIdeal.τ).loc Cert.LastKernelIdeal.main_arg4)) →
    ∃ (v0 : (c : Dev Cert.LastKernelIdeal.nD) → Buf (Elt Ideal) ((c.tc : Thread Cert.LastKernelIdeal.nD Cert.LastKernelIdeal.τ).loc Cert.LastKernelIdeal.main_v21)),
      θ_run (Cert.LastKernelIdeal.defs (F := Ideal)) (onTc (τ := Cert.LastKernelIdeal.τ) (Cert.LastKernelIdeal.main (F := Ideal))) ⟨m, fun _ => 0, g⟩ (fun r => ∀ c : Dev Cert.LastKernelIdeal.nD,
          r.2.mem ((c.tc : Thread Cert.LastKernelIdeal.nD Cert.LastKernelIdeal.τ).loc Cert.LastKernelIdeal.main_v21) = v0 c
          ∧ r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
          ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
          ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2)
          ∧ r.2.mem ((c.tc : Thread Cert.LastKernelIdeal.nD Cert.LastKernelIdeal.τ).loc Cert.LastKernelIdeal.main_arg3) = m ((c.tc : Thread Cert.LastKernelIdeal.nD Cert.LastKernelIdeal.τ).loc Cert.LastKernelIdeal.main_arg3)
          ∧ r.2.mem ((c.tc : Thread Cert.LastKernelIdeal.nD Cert.LastKernelIdeal.τ).loc Cert.LastKernelIdeal.main_arg4) = m ((c.tc : Thread Cert.LastKernelIdeal.nD Cert.LastKernelIdeal.τ).loc Cert.LastKernelIdeal.main_arg4))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v122) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4))

def Claim : Prop :=
  ∃ (hKernel : Cert.Kernel.Facts) (hKernelIdeal : Cert.KernelIdeal.Facts) (hReferenceIdeal : Cert.ReferenceIdeal.Facts) (hLastKernel : Cert.LastKernel.Facts) (hLastKernelIdeal : Cert.LastKernelIdeal.Facts) (hLastReferenceIdeal : Cert.LastReferenceIdeal.Facts) (hPre_perm_in_range : Cert.Pre_perm_in_range.Facts) (hPre_perm_onto : Cert.Pre_perm_onto.Facts) (hPre_last_perm_in_range : Cert.Pre_last_perm_in_range.Facts) (hPre_last_perm_onto : Cert.Pre_last_perm_onto.Facts),
    quiescent_Kernel (hKernel := hKernel) (hPre_perm_in_range := hPre_perm_in_range)
    ∧ quiescent_KernelIdeal (hKernelIdeal := hKernelIdeal) (hPre_perm_in_range := hPre_perm_in_range)
    ∧ quiescent_KernelIdeal_pre_perm_onto (hKernelIdeal := hKernelIdeal) (hPre_perm_onto := hPre_perm_onto)
    ∧ quiescent_ReferenceIdeal (hReferenceIdeal := hReferenceIdeal)
    ∧ quiescent_ReferenceIdeal_pre_perm_onto (hReferenceIdeal := hReferenceIdeal) (hPre_perm_onto := hPre_perm_onto)
    ∧ quiescent_LastKernel (hLastKernel := hLastKernel) (hPre_last_perm_in_range := hPre_last_perm_in_range)
    ∧ quiescent_LastKernelIdeal (hLastKernelIdeal := hLastKernelIdeal) (hPre_last_perm_in_range := hPre_last_perm_in_range)
    ∧ quiescent_LastKernelIdeal_pre_last_perm_onto (hLastKernelIdeal := hLastKernelIdeal) (hPre_last_perm_onto := hPre_last_perm_onto)
    ∧ quiescent_LastReferenceIdeal (hLastReferenceIdeal := hLastReferenceIdeal)
    ∧ quiescent_LastReferenceIdeal_pre_last_perm_onto (hLastReferenceIdeal := hLastReferenceIdeal) (hPre_last_perm_onto := hPre_last_perm_onto)
    ∧ preserves_Kernel_KernelIdeal
    ∧ algebraic_KernelIdeal_ReferenceIdeal_pre_perm_onto (hKernelIdeal := hKernelIdeal) (hReferenceIdeal := hReferenceIdeal) (hPre_perm_onto := hPre_perm_onto)
    ∧ preserves_LastKernel_LastKernelIdeal
    ∧ algebraic_LastKernelIdeal_LastReferenceIdeal_pre_last_perm_onto (hLastKernelIdeal := hLastKernelIdeal) (hLastReferenceIdeal := hLastReferenceIdeal) (hPre_last_perm_onto := hPre_last_perm_onto)
-- ==== Pre_last_perm_in_range.lean ====
abbrev S24x3x4x2304 : Shape := ⟨4, ![24, 3, 4, 2304]⟩
abbrev S8x12x5x144x128 : Shape := ⟨5, ![8, 12, 5, 144, 128]⟩
abbrev S8x12x144x128 : Shape := ⟨4, ![8, 12, 144, 128]⟩
abbrev S24x2304x1920 : Shape := ⟨3, ![24, 2304, 1920]⟩
abbrev S8x3x4x2304 : Shape := ⟨4, ![8, 3, 4, 2304]⟩
abbrev S_ : Shape := ⟨0, ![]⟩

class Facts : Prop where
  slices_S24x3x4x2304_S8x3x4x2304_16_0_0_0 : S24x3x4x2304.Slices ![16, 0, 0, 0] S8x3x4x2304
  bcast_S_S8x3x4x2304 : S_.BroadcastsInDim S8x3x4x2304 (![] : Fin 0 → Fin S8x3x4x2304.rank)

variable [Facts]

def fn {F : FTy → Type} [FloatOps F] (main_arg0 : IVec S24x3x4x2304 32) (main_arg1 : IVec S8x12x5x144x128 32) (main_arg2 : IVec S8x12x5x144x128 32) (main_arg3 : FVec F S8x12x144x128 .f32) (main_arg4 : FVec F S24x2304x1920 .bf16) : IVec S8x3x4x2304 1 :=
  let main_v0 : IVec S8x3x4x2304 32 := (extractStridedSlice S8x3x4x2304 ![16, 0, 0, 0] · slices_S24x3x4x2304_S8x3x4x2304_16_0_0_0) main_arg0
  let main_c : IVec S_ 32 := constantI S_ 32 0#32
  let main_v1 : IVec S8x3x4x2304 32 := broadcastInDim S8x3x4x2304 ![] bcast_S_S8x3x4x2304 main_c
  let main_v2 : IVec S8x3x4x2304 1 := cmpi .sge main_v0 main_v1
  let main_c_0 : IVec S_ 32 := constantI S_ 32 2304#32
  let main_v3 : IVec S8x3x4x2304 32 := broadcastInDim S8x3x4x2304 ![] bcast_S_S8x3x4x2304 main_c_0
  let main_v4 : IVec S8x3x4x2304 1 := cmpi .slt main_v0 main_v3
  let main_v5 : IVec S8x3x4x2304 1 := andi main_v2 main_v4
  main_v5
-- ==== Pre_last_perm_onto.lean ====
abbrev S24x3x4x2304 : Shape := ⟨4, ![24, 3, 4, 2304]⟩
abbrev S8x12x5x144x128 : Shape := ⟨5, ![8, 12, 5, 144, 128]⟩
abbrev S8x12x144x128 : Shape := ⟨4, ![8, 12, 144, 128]⟩
abbrev S24x2304x1920 : Shape := ⟨3, ![24, 2304, 1920]⟩
abbrev S8x3x4x2304 : Shape := ⟨4, ![8, 3, 4, 2304]⟩
abbrev S8x3x4x2304x1 : Shape := ⟨5, ![8, 3, 4, 2304, 1]⟩
abbrev S2304 : Shape := ⟨1, ![2304]⟩
abbrev S1x1x1x1x2304 : Shape := ⟨5, ![1, 1, 1, 1, 2304]⟩
abbrev S8x3x4x2304x2304 : Shape := ⟨5, ![8, 3, 4, 2304, 2304]⟩
abbrev S_ : Shape := ⟨0, ![]⟩

class Facts : Prop where
  slices_S24x3x4x2304_S8x3x4x2304_16_0_0_0 : S24x3x4x2304.Slices ![16, 0, 0, 0] S8x3x4x2304
  bcast_S8x3x4x2304_S8x3x4x2304x1_0_1_2_3 : S8x3x4x2304.BroadcastsInDim S8x3x4x2304x1 (![0, 1, 2, 3] : Fin 4 → Fin S8x3x4x2304x1.rank)
  bcast_S2304_S1x1x1x1x2304_4 : S2304.BroadcastsInDim S1x1x1x1x2304 (![4] : Fin 1 → Fin S1x1x1x1x2304.rank)
  bcast_S8x3x4x2304x1_S8x3x4x2304x2304_0_1_2_3_4 : S8x3x4x2304x1.BroadcastsInDim S8x3x4x2304x2304 (![0, 1, 2, 3, 4] : Fin 5 → Fin S8x3x4x2304x2304.rank)
  bcast_S1x1x1x1x2304_S8x3x4x2304x2304_0_1_2_3_4 : S1x1x1x1x2304.BroadcastsInDim S8x3x4x2304x2304 (![0, 1, 2, 3, 4] : Fin 5 → Fin S8x3x4x2304x2304.rank)
  reducesTo_S8x3x4x2304x2304_S8x3x4x2304_d3 : S8x3x4x2304x2304.ReducesTo [3] S8x3x4x2304
  h_S_ : 0 < S_.numel

variable [Facts]

def fn {F : FTy → Type} [FloatOps F] (main_arg0 : IVec S24x3x4x2304 32) (main_arg1 : IVec S8x12x5x144x128 32) (main_arg2 : IVec S8x12x5x144x128 32) (main_arg3 : FVec F S8x12x144x128 .f32) (main_arg4 : FVec F S24x2304x1920 .bf16) : IVec S8x3x4x2304 1 :=
  let main_v0 : IVec S8x3x4x2304 32 := (extractStridedSlice S8x3x4x2304 ![16, 0, 0, 0] · slices_S24x3x4x2304_S8x3x4x2304_16_0_0_0) main_arg0
  let main_v1 : IVec S8x3x4x2304x1 32 := broadcastInDim S8x3x4x2304x1 ![0, 1, 2, 3] bcast_S8x3x4x2304_S8x3x4x2304x1_0_1_2_3 main_v0
  let main_v2 : IVec S2304 32 := iotaInDim S2304 32 0
  let main_v3 : IVec S1x1x1x1x2304 32 := broadcastInDim S1x1x1x1x2304 ![4] bcast_S2304_S1x1x1x1x2304_4 main_v2
  let main_v4 : IVec S8x3x4x2304x2304 32 := broadcastInDim S8x3x4x2304x2304 ![0, 1, 2, 3, 4] bcast_S8x3x4x2304x1_S8x3x4x2304x2304_0_1_2_3_4 main_v1
  let main_v5 : IVec S8x3x4x2304x2304 32 := broadcastInDim S8x3x4x2304x2304 ![0, 1, 2, 3, 4] bcast_S1x1x1x1x2304_S8x3x4x2304x2304_0_1_2_3_4 main_v3
  let main_v6 : IVec S8x3x4x2304x2304 1 := cmpi .eq main_v4 main_v5
  let main_c : IVec S_ 1 := constantI S_ 1 0#1
  let main_v7 : IVec S8x3x4x2304 1 := (fun x v => Host.reduce IntOp.ori x v reducesTo_S8x3x4x2304x2304_S8x3x4x2304_d3 h_S_) main_v6 main_c
  main_v7
-- ==== Pre_perm_in_range.lean ====
abbrev S24x3x4x2304 : Shape := ⟨4, ![24, 3, 4, 2304]⟩
abbrev S8x12x5x144x128 : Shape := ⟨5, ![8, 12, 5, 144, 128]⟩
abbrev S8x12x144x128 : Shape := ⟨4, ![8, 12, 144, 128]⟩
abbrev S24x2304x1920 : Shape := ⟨3, ![24, 2304, 1920]⟩
abbrev S8x3x4x2304 : Shape := ⟨4, ![8, 3, 4, 2304]⟩
abbrev S_ : Shape := ⟨0, ![]⟩

class Facts : Prop where
  slices_S24x3x4x2304_S8x3x4x2304_8_0_0_0 : S24x3x4x2304.Slices ![8, 0, 0, 0] S8x3x4x2304
  bcast_S_S8x3x4x2304 : S_.BroadcastsInDim S8x3x4x2304 (![] : Fin 0 → Fin S8x3x4x2304.rank)

variable [Facts]

def fn {F : FTy → Type} [FloatOps F] (main_arg0 : IVec S24x3x4x2304 32) (main_arg1 : IVec S8x12x5x144x128 32) (main_arg2 : IVec S8x12x5x144x128 32) (main_arg3 : FVec F S8x12x144x128 .f32) (main_arg4 : FVec F S24x2304x1920 .bf16) : IVec S8x3x4x2304 1 :=
  let main_v0 : IVec S8x3x4x2304 32 := (extractStridedSlice S8x3x4x2304 ![8, 0, 0, 0] · slices_S24x3x4x2304_S8x3x4x2304_8_0_0_0) main_arg0
  let main_c : IVec S_ 32 := constantI S_ 32 0#32
  let main_v1 : IVec S8x3x4x2304 32 := broadcastInDim S8x3x4x2304 ![] bcast_S_S8x3x4x2304 main_c
  let main_v2 : IVec S8x3x4x2304 1 := cmpi .sge main_v0 main_v1
  let main_c_0 : IVec S_ 32 := constantI S_ 32 2304#32
  let main_v3 : IVec S8x3x4x2304 32 := broadcastInDim S8x3x4x2304 ![] bcast_S_S8x3x4x2304 main_c_0
  let main_v4 : IVec S8x3x4x2304 1 := cmpi .slt main_v0 main_v3
  let main_v5 : IVec S8x3x4x2304 1 := andi main_v2 main_v4
  main_v5
-- ==== Pre_perm_onto.lean ====
abbrev S24x3x4x2304 : Shape := ⟨4, ![24, 3, 4, 2304]⟩
abbrev S8x12x5x144x128 : Shape := ⟨5, ![8, 12, 5, 144, 128]⟩
abbrev S8x12x144x128 : Shape := ⟨4, ![8, 12, 144, 128]⟩
abbrev S24x2304x1920 : Shape := ⟨3, ![24, 2304, 1920]⟩
abbrev S8x3x4x2304 : Shape := ⟨4, ![8, 3, 4, 2304]⟩
abbrev S8x3x4x2304x1 : Shape := ⟨5, ![8, 3, 4, 2304, 1]⟩
abbrev S2304 : Shape := ⟨1, ![2304]⟩
abbrev S1x1x1x1x2304 : Shape := ⟨5, ![1, 1, 1, 1, 2304]⟩
abbrev S8x3x4x2304x2304 : Shape := ⟨5, ![8, 3, 4, 2304, 2304]⟩
abbrev S_ : Shape := ⟨0, ![]⟩

class Facts : Prop where
  slices_S24x3x4x2304_S8x3x4x2304_8_0_0_0 : S24x3x4x2304.Slices ![8, 0, 0, 0] S8x3x4x2304
  bcast_S8x3x4x2304_S8x3x4x2304x1_0_1_2_3 : S8x3x4x2304.BroadcastsInDim S8x3x4x2304x1 (![0, 1, 2, 3] : Fin 4 → Fin S8x3x4x2304x1.rank)
  bcast_S2304_S1x1x1x1x2304_4 : S2304.BroadcastsInDim S1x1x1x1x2304 (![4] : Fin 1 → Fin S1x1x1x1x2304.rank)
  bcast_S8x3x4x2304x1_S8x3x4x2304x2304_0_1_2_3_4 : S8x3x4x2304x1.BroadcastsInDim S8x3x4x2304x2304 (![0, 1, 2, 3, 4] : Fin 5 → Fin S8x3x4x2304x2304.rank)
  bcast_S1x1x1x1x2304_S8x3x4x2304x2304_0_1_2_3_4 : S1x1x1x1x2304.BroadcastsInDim S8x3x4x2304x2304 (![0, 1, 2, 3, 4] : Fin 5 → Fin S8x3x4x2304x2304.rank)
  reducesTo_S8x3x4x2304x2304_S8x3x4x2304_d3 : S8x3x4x2304x2304.ReducesTo [3] S8x3x4x2304
  h_S_ : 0 < S_.numel

variable [Facts]

def fn {F : FTy → Type} [FloatOps F] (main_arg0 : IVec S24x3x4x2304 32) (main_arg1 : IVec S8x12x5x144x128 32) (main_arg2 : IVec S8x12x5x144x128 32) (main_arg3 : FVec F S8x12x144x128 .f32) (main_arg4 : FVec F S24x2304x1920 .bf16) : IVec S8x3x4x2304 1 :=
  let main_v0 : IVec S8x3x4x2304 32 := (extractStridedSlice S8x3x4x2304 ![8, 0, 0, 0] · slices_S24x3x4x2304_S8x3x4x2304_8_0_0_0) main_arg0
  let main_v1 : IVec S8x3x4x2304x1 32 := broadcastInDim S8x3x4x2304x1 ![0, 1, 2, 3] bcast_S8x3x4x2304_S8x3x4x2304x1_0_1_2_3 main_v0
  let main_v2 : IVec S2304 32 := iotaInDim S2304 32 0
  let main_v3 : IVec S1x1x1x1x2304 32 := broadcastInDim S1x1x1x1x2304 ![4] bcast_S2304_S1x1x1x1x2304_4 main_v2
  let main_v4 : IVec S8x3x4x2304x2304 32 := broadcastInDim S8x3x4x2304x2304 ![0, 1, 2, 3, 4] bcast_S8x3x4x2304x1_S8x3x4x2304x2304_0_1_2_3_4 main_v1
  let main_v5 : IVec S8x3x4x2304x2304 32 := broadcastInDim S8x3x4x2304x2304 ![0, 1, 2, 3, 4] bcast_S1x1x1x1x2304_S8x3x4x2304x2304_0_1_2_3_4 main_v3
  let main_v6 : IVec S8x3x4x2304x2304 1 := cmpi .eq main_v4 main_v5
  let main_c : IVec S_ 1 := constantI S_ 1 0#1
  let main_v7 : IVec S8x3x4x2304 1 := (fun x v => Host.reduce IntOp.ori x v reducesTo_S8x3x4x2304x2304_S8x3x4x2304_d3 h_S_) main_v6 main_c
  main_v7
-- ==== Kernel.lean ====
abbrev S24x3x4x2304 : Shape := ⟨4, ![24, 3, 4, 2304]⟩
abbrev S8x12x5x144x128 : Shape := ⟨5, ![8, 12, 5, 144, 128]⟩
abbrev S8x12x144x128 : Shape := ⟨4, ![8, 12, 144, 128]⟩
abbrev S24x2304x1920 : Shape := ⟨3, ![24, 2304, 1920]⟩
abbrev S128x128 : Shape := ⟨2, ![128, 128]⟩
abbrev S_ : Shape := ⟨0, ![]⟩
abbrev S1x1x4x2304 : Shape := ⟨4, ![1, 1, 4, 2304]⟩
abbrev S1x4x5x144x128 : Shape := ⟨5, ![1, 4, 5, 144, 128]⟩
abbrev S1x4x144x128 : Shape := ⟨4, ![1, 4, 144, 128]⟩
abbrev S1x2304x640 : Shape := ⟨3, ![1, 2304, 640]⟩
abbrev S160x2432 : Shape := ⟨2, ![160, 2432]⟩
abbrev S2304x160 : Shape := ⟨2, ![2304, 160]⟩
abbrev S176x2432 : Shape := ⟨2, ![176, 2432]⟩
abbrev S8x2432 : Shape := ⟨2, ![8, 2432]⟩
abbrev S4x2304x128 : Shape := ⟨3, ![4, 2304, 128]⟩
abbrev S2304x128 : Shape := ⟨2, ![2304, 128]⟩
abbrev S1x128 : Shape := ⟨2, ![1, 128]⟩
abbrev S64x128 : Shape := ⟨2, ![64, 128]⟩
abbrev S16x128 : Shape := ⟨2, ![16, 128]⟩
abbrev S1x1x8x128 : Shape := ⟨4, ![1, 1, 8, 128]⟩
abbrev S8x128 : Shape := ⟨2, ![8, 128]⟩
abbrev S1x1x1x8x128 : Shape := ⟨5, ![1, 1, 1, 8, 128]⟩
abbrev S32x128 : Shape := ⟨2, ![32, 128]⟩
abbrev S4x8x128 : Shape := ⟨3, ![4, 8, 128]⟩
abbrev S160x128 : Shape := ⟨2, ![160, 128]⟩
abbrev S128x160 : Shape := ⟨2, ![128, 160]⟩
abbrev S176x128 : Shape := ⟨2, ![176, 128]⟩
abbrev S128 : Shape := ⟨1, ![128]⟩
abbrev S96x128 : Shape := ⟨2, ![96, 128]⟩
abbrev S160x256 : Shape := ⟨2, ![160, 256]⟩
abbrev S128x256 : Shape := ⟨2, ![128, 256]⟩
abbrev S2x128 : Shape := ⟨2, ![2, 128]⟩
abbrev S64 : Shape := ⟨1, ![64]⟩
abbrev S64x1 : Shape := ⟨2, ![64, 1]⟩
abbrev S64x256 : Shape := ⟨2, ![64, 256]⟩
abbrev S176x256 : Shape := ⟨2, ![176, 256]⟩
abbrev S1x1x1x1 : Shape := ⟨4, ![1, 1, 1, 1]⟩
abbrev S1x1x128 : Shape := ⟨3, ![1, 1, 128]⟩
abbrev S1x8x128 : Shape := ⟨3, ![1, 8, 128]⟩
abbrev S1x16x128 : Shape := ⟨3, ![1, 16, 128]⟩

abbrev nBuf : Space → Nat
  | .hbm => 39
  | .vmem => 16
  | .smem => 2
  | _ => 0

abbrev bufTy : (tb : Table) → Fin (tcTables nBuf tb) → BufTy
  | .hbm, ⟨0, _⟩ => ⟨S24x3x4x2304, .i32⟩
  | .hbm, ⟨1, _⟩ => ⟨S8x12x5x144x128, .i32⟩
  | .hbm, ⟨2, _⟩ => ⟨S8x12x5x144x128, .i32⟩
  | .hbm, ⟨3, _⟩ => ⟨S8x12x144x128, .f32⟩
  | .hbm, ⟨4, _⟩ => ⟨S24x2304x1920, .bf16⟩
  | .hbm, ⟨5, _⟩ => ⟨S128x128, .i32⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i1⟩
  | .hbm, ⟨10, _⟩ => ⟨S_, .i32⟩
  | .hbm, ⟨11, _⟩ => ⟨S128x128, .i32⟩
  | .hbm, ⟨12, _⟩ => ⟨S128x128, .i1⟩
  | .hbm, ⟨13, _⟩ => ⟨S128x128, .i1⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S128x128, .i32⟩
  | .hbm, ⟨18, _⟩ => ⟨S128x128, .i1⟩
  | .hbm, ⟨19, _⟩ => ⟨S128x128, .i32⟩
  | .hbm, ⟨20, _⟩ => ⟨S_, .i32⟩
  | .hbm, ⟨21, _⟩ => ⟨S128x128, .i32⟩
  | .hbm, ⟨22, _⟩ => ⟨S128x128, .i32⟩
  | .hbm, ⟨23, _⟩ => ⟨S_, .i32⟩
  | .hbm, ⟨24, _⟩ => ⟨S_, .i32⟩
  | .hbm, ⟨25, _⟩ => ⟨S128x128, .i32⟩
  | .hbm, ⟨26, _⟩ => ⟨S128x128, .i32⟩
  | .hbm, ⟨27, _⟩ => ⟨S128x128, .f32⟩
  | .hbm, ⟨28, _⟩ => ⟨S128x128, .i1⟩
  | .hbm, ⟨29, _⟩ => ⟨S_, .f32⟩
  | .hbm, ⟨30, _⟩ => ⟨S_, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S_, .f32⟩
  | .hbm, ⟨35, _⟩ => ⟨S_, .f32⟩
  | .hbm, ⟨36, _⟩ => ⟨S128x128, .f32⟩
  | .hbm, ⟨37, _⟩ => ⟨S128x128, .f32⟩
  | .hbm, ⟨38, _⟩ => ⟨S24x2304x1920, .bf16⟩
  | .local _ .vmem, ⟨0, _⟩ => ⟨S1x4x5x144x128, .i32⟩
  | .local _ .vmem, ⟨1, _⟩ => ⟨S1x4x5x144x128, .i32⟩
  | .local _ .vmem, ⟨2, _⟩ => ⟨S1x4x5x144x128, .i32⟩
  | .local _ .vmem, ⟨3, _⟩ => ⟨S1x4x5x144x128, .i32⟩
  | .local _ .vmem, ⟨4, _⟩ => ⟨S1x4x144x128, .f32⟩
  | .local _ .vmem, ⟨5, _⟩ => ⟨S1x4x144x128, .f32⟩
  | .local _ .vmem, ⟨6, _⟩ => ⟨S128x128, .f32⟩
  | .local _ .vmem, ⟨7, _⟩ => ⟨S128x128, .f32⟩
  | .local _ .vmem, ⟨8, _⟩ => ⟨S1x2304x640, .bf16⟩
  | .local _ .vmem, ⟨9, _⟩ => ⟨S1x2304x640, .bf16⟩
  | .local _ .vmem, ⟨10, _⟩ => ⟨S160x2432, .bf16⟩
  | .local _ .vmem, ⟨11, _⟩ => ⟨S2304x160, .bf16⟩
  | .local _ .vmem, ⟨12, _⟩ => ⟨S176x2432, .bf16⟩
  | .local _ .vmem, ⟨13, _⟩ => ⟨S8x2432, .f32⟩
  | .local _ .vmem, ⟨14, _⟩ => ⟨S4x2304x128, .i32⟩
  | .local _ .vmem, ⟨15, _⟩ => ⟨S2304x128, .i32⟩
  | .local _ .smem, ⟨0, _⟩ => ⟨S1x1x4x2304, .i32⟩
  | .local _ .smem, ⟨1, _⟩ => ⟨S1x1x4x2304, .i32⟩
  | _, _ => ⟨S24x3x4x2304, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_call1_v0 : Ref sig .tc := ⟨.hbm, 24, rfl⟩
abbrev main_call1_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_cst_4 : Ref sig .tc := ⟨.hbm, 30, rfl⟩
abbrev main_call2_v0 : Ref sig .tc := ⟨.hbm, 31, rfl⟩
abbrev main_call2_v1 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [BitOps F]

abbrev grid0 : Pipeline.Grid := ⟨2, ![8, 3], ![false, false]⟩

@[reducible] def k0_t1_loop : Scf.Loop 32 :=
  let c0_i32 : BitVec 32 := 0#32
  let c18_i32 : BitVec 32 := 18#32
  let v7 : BitVec 32 := Scalar.addi c0_i32 c18_i32
  let c1_i32 : BitVec 32 := 1#32
  ⟨c0_i32, v7, c1_i32⟩
def k0_mult1 (k0_t1 : Fin k0_t1_loop.trips) : BitVec 32 :=
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  v92
def k0_mult2 (k0_t1 : Fin k0_t1_loop.trips) : BitVec 32 :=
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  v95
def k0_off1 (k0_t1 : Fin k0_t1_loop.trips) : Fin 4 → Nat :=
  let c0_114 : Index := 0#32
  let c0_115 : Index := 0#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v97 : Index := Scalar.indexCast v93
  let c0_116 : Index := 0#32
  ![0, 0, v97.toNat, 0]
def k0_off2 (k0_t1 : Fin k0_t1_loop.trips) : Fin 5 → Nat :=
  let c0_118 : Index := 0#32
  let c0_119 : Index := 0#32
  let c0_120 : Index := 0#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v103 : Index := Scalar.indexCast v93
  let c0_121 : Index := 0#32
  ![0, 0, 0, v103.toNat, 0]
def k0_off3 (k0_t1 : Fin k0_t1_loop.trips) : Fin 5 → Nat :=
  let c0_127 : Index := 0#32
  let c0_128 : Index := 0#32
  let c1_129 : Index := 1#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v124 : Index := Scalar.indexCast v93
  let c0_130 : Index := 0#32
  ![0, 0, 1, v124.toNat, 0]
def k0_off4 (k0_t1 : Fin k0_t1_loop.trips) : Fin 5 → Nat :=
  let c0_136 : Index := 0#32
  let c0_137 : Index := 0#32
  let c2 : Index := 2#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v145 : Index := Scalar.indexCast v93
  let c0_138 : Index := 0#32
  ![0, 0, 2, v145.toNat, 0]
def k0_off5 (k0_t1 : Fin k0_t1_loop.trips) : Fin 5 → Nat :=
  let c0_144 : Index := 0#32
  let c0_145 : Index := 0#32
  let c3 : Index := 3#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v166 : Index := Scalar.indexCast v93
  let c0_146 : Index := 0#32
  ![0, 0, 3, v166.toNat, 0]
def k0_off6 (k0_t1 : Fin k0_t1_loop.trips) : Fin 5 → Nat :=
  let c0_152 : Index := 0#32
  let c0_153 : Index := 0#32
  let c4 : Index := 4#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v187 : Index := Scalar.indexCast v93
  let c0_154 : Index := 0#32
  ![0, 0, 4, v187.toNat, 0]
def k0_off7 (k0_t1 : Fin k0_t1_loop.trips) : Fin 2 → Nat :=
  let c0_160 : Index := 0#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v209 : Index := Scalar.indexCast v96
  ![0, v209.toNat]
def k0_mult3 (k0_t1 : Fin k0_t1_loop.trips) : BitVec 32 :=
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  v214
def k0_off8 (k0_t1 : Fin k0_t1_loop.trips) : Fin 2 → Nat :=
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  let v215 : BitVec 32 := v214
  let v216 : Index := Scalar.indexCast v215
  let c0_162 : Index := 0#32
  ![v216.toNat, 0]
def k0_off9 (k0_t1 : Fin k0_t1_loop.trips) : Fin 2 → Nat :=
  let c0_163 : Index := 0#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v221 : Index := Scalar.indexCast v96
  ![0, v221.toNat]
def k0_off10 (k0_t1 : Fin k0_t1_loop.trips) : Fin 2 → Nat :=
  let c0_168 : Index := 0#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v234 : Index := Scalar.indexCast v96
  ![0, v234.toNat]
def k0_off11 (k0_t1 : Fin k0_t1_loop.trips) : Fin 2 → Nat :=
  let c1_169 : Index := 1#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v239 : Index := Scalar.indexCast v96
  ![1, v239.toNat]
@[reducible] def k0_t2_loop : Scf.Loop 32 :=
  let c0_i32_15 : BitVec 32 := 0#32
  let c18_i32_16 : BitVec 32 := 18#32
  let v25 : BitVec 32 := Scalar.addi c0_i32_15 c18_i32_16
  let c1_i32_17 : BitVec 32 := 1#32
  ⟨c0_i32_15, v25, c1_i32_17⟩
def k0_mult4 (k0_t2 : Fin k0_t2_loop.trips) : BitVec 32 :=
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  v92
def k0_mult5 (k0_t2 : Fin k0_t2_loop.trips) : BitVec 32 :=
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  v94
def k0_mult6 (k0_t2 : Fin k0_t2_loop.trips) : BitVec 32 :=
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  v97
def k0_mult7 (k0_t2 : Fin k0_t2_loop.trips) : BitVec 32 :=
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  v99
def k0_off12 (k0_t2 : Fin k0_t2_loop.trips) : Fin 2 → Nat :=
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v101 : Index := Scalar.indexCast v93
  let c0_117 : Index := 0#32
  ![v101.toNat, 0]
def k0_off13 (k0_t2 : Fin k0_t2_loop.trips) : Fin 2 → Nat :=
  let c0_118 : Index := 0#32
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v103 : Index := Scalar.indexCast v100
  ![0, v103.toNat]
def k0_off14 (k0_t2 : Fin k0_t2_loop.trips) : Fin 2 → Nat :=
  let c0_120 : Index := 0#32
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  let v95 : BitVec 32 := v94
  let v106 : Index := Scalar.indexCast v95
  ![0, v106.toNat]
def k0_off15 (k0_t2 : Fin k0_t2_loop.trips) : Fin 2 → Nat :=
  let c0_121 : Index := 0#32
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  let v98 : BitVec 32 := v97
  let v108 : Index := Scalar.indexCast v98
  ![0, v108.toNat]
def k0_off16 (k0_t2 : Fin k0_t2_loop.trips) : Fin 2 → Nat :=
  let c0_132 : Index := 0#32
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v157 : Index := Scalar.indexCast v100
  ![0, v157.toNat]
def k0_off17 (k0_t2 : Fin k0_t2_loop.trips) : Fin 2 → Nat :=
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v172 : Index := Scalar.indexCast v93
  let c0_135 : Index := 0#32
  ![v172.toNat, 0]
@[reducible] def k0_t3_loop : Scf.Loop 32 :=
  let c0_i32_19 : BitVec 32 := 0#32
  let c2304_i32 : BitVec 32 := 2304#32
  let v26 : BitVec 32 := Scalar.addi c0_i32_19 c2304_i32
  let c1_i32_20 : BitVec 32 := 1#32
  ⟨c0_i32_19, v26, c1_i32_20⟩
def k0_off18 (k0_t3 : Fin k0_t3_loop.trips) : Fin 2 → Nat :=
  let c0_i32_112 : BitVec 32 := 0#32
  let c0_i32_19 : BitVec 32 := 0#32
  let c1_i32_20 : BitVec 32 := 1#32
  let arg16 : BitVec 32 := Scf.iv c0_i32_19 c1_i32_20 k0_t3
  let c1_i32_111 : BitVec 32 := 1#32
  let v90 : BitVec 32 := Scalar.muli arg16 c1_i32_111
  let v91 : BitVec 32 := Scalar.addi c0_i32_112 v90
  let v92 : Index := Scalar.indexCast v91
  let c0_113 : Index := 0#32
  ![v92.toNat, 0]
def k0_off19 (k0_t3 : Fin k0_t3_loop.trips) : Fin 4 → Nat :=
  let c0_114 : Index := 0#32
  let c0_115 : Index := 0#32
  let c0_116 : Index := 0#32
  let c0_i32_112 : BitVec 32 := 0#32
  let c0_i32_19 : BitVec 32 := 0#32
  let c1_i32_20 : BitVec 32 := 1#32
  let arg16 : BitVec 32 := Scf.iv c0_i32_19 c1_i32_20 k0_t3
  let c1_i32_111 : BitVec 32 := 1#32
  let v90 : BitVec 32 := Scalar.muli arg16 c1_i32_111
  let v91 : BitVec 32 := Scalar.addi c0_i32_112 v90
  let v94 : Index := Scalar.indexCast v91
  ![0, 0, 0, v94.toNat]
def k0_off20 (v95 : BitVec 32) : Fin 3 → Nat :=
  let c0_117 : Index := 0#32
  let v96 : Index := Scalar.indexCast v95
  let c0_118 : Index := 0#32
  ![0, v96.toNat, 0]

def k0_chk1 (v95 : BitVec 32) : Prop :=
  (∀ a, (k0_off20 v95) a + S1x1x128.size a ≤ S4x2304x128.size a)
theorem k0_off20_inb : ∀ (v95 : BitVec 32) (k0_hw1 : k0_chk1 v95), ∀ a, (k0_off20 v95) a + S1x1x128.size a ≤ S4x2304x128.size a := fun v95 k0_hw1 => k0_hw1

@[reducible] def k0_t4_loop : Scf.Loop 32 :=
  let c0_i32_22 : BitVec 32 := 0#32
  let c18_i32_23 : BitVec 32 := 18#32
  let v27 : BitVec 32 := Scalar.addi c0_i32_22 c18_i32_23
  let c1_i32_24 : BitVec 32 := 1#32
  ⟨c0_i32_22, v27, c1_i32_24⟩
def k0_mult8 (k0_t4 : Fin k0_t4_loop.trips) : BitVec 32 :=
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  v92
def k0_mult9 (k0_t4 : Fin k0_t4_loop.trips) : BitVec 32 :=
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  v95
def k0_off21 (k0_t4 : Fin k0_t4_loop.trips) : Fin 4 → Nat :=
  let c0_114 : Index := 0#32
  let c1_115 : Index := 1#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v97 : Index := Scalar.indexCast v93
  let c0_116 : Index := 0#32
  ![0, 1, v97.toNat, 0]
def k0_off22 (k0_t4 : Fin k0_t4_loop.trips) : Fin 5 → Nat :=
  let c0_118 : Index := 0#32
  let c1_119 : Index := 1#32
  let c0_120 : Index := 0#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v103 : Index := Scalar.indexCast v93
  let c0_121 : Index := 0#32
  ![0, 1, 0, v103.toNat, 0]
def k0_off23 (k0_t4 : Fin k0_t4_loop.trips) : Fin 5 → Nat :=
  let c0_127 : Index := 0#32
  let c1_128 : Index := 1#32
  let c1_129 : Index := 1#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v124 : Index := Scalar.indexCast v93
  let c0_130 : Index := 0#32
  ![0, 1, 1, v124.toNat, 0]
def k0_off24 (k0_t4 : Fin k0_t4_loop.trips) : Fin 5 → Nat :=
  let c0_136 : Index := 0#32
  let c1_137 : Index := 1#32
  let c2 : Index := 2#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v145 : Index := Scalar.indexCast v93
  let c0_138 : Index := 0#32
  ![0, 1, 2, v145.toNat, 0]
def k0_off25 (k0_t4 : Fin k0_t4_loop.trips) : Fin 5 → Nat :=
  let c0_144 : Index := 0#32
  let c1_145 : Index := 1#32
  let c3 : Index := 3#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v166 : Index := Scalar.indexCast v93
  let c0_146 : Index := 0#32
  ![0, 1, 3, v166.toNat, 0]
def k0_off26 (k0_t4 : Fin k0_t4_loop.trips) : Fin 5 → Nat :=
  let c0_152 : Index := 0#32
  let c1_153 : Index := 1#32
  let c4 : Index := 4#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v187 : Index := Scalar.indexCast v93
  let c0_154 : Index := 0#32
  ![0, 1, 4, v187.toNat, 0]
def k0_off27 (k0_t4 : Fin k0_t4_loop.trips) : Fin 2 → Nat :=
  let c0_160 : Index := 0#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v209 : Index := Scalar.indexCast v96
  ![0, v209.toNat]
def k0_mult10 (k0_t4 : Fin k0_t4_loop.trips) : BitVec 32 :=
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  v214
def k0_off28 (k0_t4 : Fin k0_t4_loop.trips) : Fin 2 → Nat :=
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  let v215 : BitVec 32 := v214
  let v216 : Index := Scalar.indexCast v215
  let c0_162 : Index := 0#32
  ![v216.toNat, 0]
def k0_off29 (k0_t4 : Fin k0_t4_loop.trips) : Fin 2 → Nat :=
  let c0_163 : Index := 0#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v221 : Index := Scalar.indexCast v96
  ![0, v221.toNat]
def k0_off30 (k0_t4 : Fin k0_t4_loop.trips) : Fin 2 → Nat :=
  let c0_168 : Index := 0#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v234 : Index := Scalar.indexCast v96
  ![0, v234.toNat]
def k0_off31 (k0_t4 : Fin k0_t4_loop.trips) : Fin 2 → Nat :=
  let c1_169 : Index := 1#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v239 : Index := Scalar.indexCast v96
  ![1, v239.toNat]
@[reducible] def k0_t5_loop : Scf.Loop 32 :=
  let c0_i32_43 : BitVec 32 := 0#32
  let c18_i32_44 : BitVec 32 := 18#32
  let v46 : BitVec 32 := Scalar.addi c0_i32_43 c18_i32_44
  let c1_i32_45 : BitVec 32 := 1#32
  ⟨c0_i32_43, v46, c1_i32_45⟩
def k0_mult11 (k0_t5 : Fin k0_t5_loop.trips) : BitVec 32 :=
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  v92
def k0_mult12 (k0_t5 : Fin k0_t5_loop.trips) : BitVec 32 :=
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  v94
def k0_mult13 (k0_t5 : Fin k0_t5_loop.trips) : BitVec 32 :=
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  v97
def k0_mult14 (k0_t5 : Fin k0_t5_loop.trips) : BitVec 32 :=
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  v99
def k0_off32 (k0_t5 : Fin k0_t5_loop.trips) : Fin 2 → Nat :=
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v101 : Index := Scalar.indexCast v93
  let c0_117 : Index := 0#32
  ![v101.toNat, 0]
def k0_off33 (k0_t5 : Fin k0_t5_loop.trips) : Fin 2 → Nat :=
  let c0_118 : Index := 0#32
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v103 : Index := Scalar.indexCast v100
  ![0, v103.toNat]
def k0_off34 (k0_t5 : Fin k0_t5_loop.trips) : Fin 2 → Nat :=
  let c0_120 : Index := 0#32
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  let v95 : BitVec 32 := v94
  let v106 : Index := Scalar.indexCast v95
  ![0, v106.toNat]
def k0_off35 (k0_t5 : Fin k0_t5_loop.trips) : Fin 2 → Nat :=
  let c0_121 : Index := 0#32
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  let v98 : BitVec 32 := v97
  let v108 : Index := Scalar.indexCast v98
  ![0, v108.toNat]
def k0_off36 (k0_t5 : Fin k0_t5_loop.trips) : Fin 2 → Nat :=
  let c0_132 : Index := 0#32
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v157 : Index := Scalar.indexCast v100
  ![0, v157.toNat]
def k0_off37 (k0_t5 : Fin k0_t5_loop.trips) : Fin 2 → Nat :=
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v173 : Index := Scalar.indexCast v93
  let c0_135 : Index := 0#32
  ![v173.toNat, 0]
@[reducible] def k0_t6_loop : Scf.Loop 32 :=
  let c0_i32_47 : BitVec 32 := 0#32
  let c2304_i32_48 : BitVec 32 := 2304#32
  let v47 : BitVec 32 := Scalar.addi c0_i32_47 c2304_i32_48
  let c1_i32_49 : BitVec 32 := 1#32
  ⟨c0_i32_47, v47, c1_i32_49⟩
def k0_off38 (k0_t6 : Fin k0_t6_loop.trips) : Fin 2 → Nat :=
  let c0_i32_112 : BitVec 32 := 0#32
  let c0_i32_47 : BitVec 32 := 0#32
  let c1_i32_49 : BitVec 32 := 1#32
  let arg16 : BitVec 32 := Scf.iv c0_i32_47 c1_i32_49 k0_t6
  let c1_i32_111 : BitVec 32 := 1#32
  let v90 : BitVec 32 := Scalar.muli arg16 c1_i32_111
  let v91 : BitVec 32 := Scalar.addi c0_i32_112 v90
  let v92 : Index := Scalar.indexCast v91
  let c0_113 : Index := 0#32
  ![v92.toNat, 0]
def k0_off39 (k0_t6 : Fin k0_t6_loop.trips) : Fin 4 → Nat :=
  let c0_114 : Index := 0#32
  let c0_115 : Index := 0#32
  let c1_116 : Index := 1#32
  let c0_i32_112 : BitVec 32 := 0#32
  let c0_i32_47 : BitVec 32 := 0#32
  let c1_i32_49 : BitVec 32 := 1#32
  let arg16 : BitVec 32 := Scf.iv c0_i32_47 c1_i32_49 k0_t6
  let c1_i32_111 : BitVec 32 := 1#32
  let v90 : BitVec 32 := Scalar.muli arg16 c1_i32_111
  let v91 : BitVec 32 := Scalar.addi c0_i32_112 v90
  let v94 : Index := Scalar.indexCast v91
  ![0, 0, 1, v94.toNat]
def k0_off40 (v95 : BitVec 32) : Fin 3 → Nat :=
  let c1_117 : Index := 1#32
  let v96 : Index := Scalar.indexCast v95
  let c0_118 : Index := 0#32
  ![1, v96.toNat, 0]

def k0_chk2 (v95 : BitVec 32) : Prop :=
  (∀ a, (k0_off40 v95) a + S1x1x128.size a ≤ S4x2304x128.size a)
theorem k0_off40_inb : ∀ (v95 : BitVec 32) (k0_hw2 : k0_chk2 v95), ∀ a, (k0_off40 v95) a + S1x1x128.size a ≤ S4x2304x128.size a := fun v95 k0_hw2 => k0_hw2

@[reducible] def k0_t7_loop : Scf.Loop 32 :=
  let c0_i32_51 : BitVec 32 := 0#32
  let c18_i32_52 : BitVec 32 := 18#32
  let v48 : BitVec 32 := Scalar.addi c0_i32_51 c18_i32_52
  let c1_i32_53 : BitVec 32 := 1#32
  ⟨c0_i32_51, v48, c1_i32_53⟩
def k0_mult15 (k0_t7 : Fin k0_t7_loop.trips) : BitVec 32 :=
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  v92
def k0_mult16 (k0_t7 : Fin k0_t7_loop.trips) : BitVec 32 :=
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  v95
def k0_off41 (k0_t7 : Fin k0_t7_loop.trips) : Fin 4 → Nat :=
  let c0_114 : Index := 0#32
  let c2 : Index := 2#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v97 : Index := Scalar.indexCast v93
  let c0_115 : Index := 0#32
  ![0, 2, v97.toNat, 0]
def k0_off42 (k0_t7 : Fin k0_t7_loop.trips) : Fin 5 → Nat :=
  let c0_117 : Index := 0#32
  let c2_118 : Index := 2#32
  let c0_119 : Index := 0#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v103 : Index := Scalar.indexCast v93
  let c0_120 : Index := 0#32
  ![0, 2, 0, v103.toNat, 0]
def k0_off43 (k0_t7 : Fin k0_t7_loop.trips) : Fin 5 → Nat :=
  let c0_126 : Index := 0#32
  let c2_127 : Index := 2#32
  let c1_128 : Index := 1#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v124 : Index := Scalar.indexCast v93
  let c0_129 : Index := 0#32
  ![0, 2, 1, v124.toNat, 0]
def k0_off44 (k0_t7 : Fin k0_t7_loop.trips) : Fin 5 → Nat :=
  let c0_135 : Index := 0#32
  let c2_136 : Index := 2#32
  let c2_137 : Index := 2#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v145 : Index := Scalar.indexCast v93
  let c0_138 : Index := 0#32
  ![0, 2, 2, v145.toNat, 0]
def k0_off45 (k0_t7 : Fin k0_t7_loop.trips) : Fin 5 → Nat :=
  let c0_144 : Index := 0#32
  let c2_145 : Index := 2#32
  let c3 : Index := 3#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v166 : Index := Scalar.indexCast v93
  let c0_146 : Index := 0#32
  ![0, 2, 3, v166.toNat, 0]
def k0_off46 (k0_t7 : Fin k0_t7_loop.trips) : Fin 5 → Nat :=
  let c0_152 : Index := 0#32
  let c2_153 : Index := 2#32
  let c4 : Index := 4#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v187 : Index := Scalar.indexCast v93
  let c0_154 : Index := 0#32
  ![0, 2, 4, v187.toNat, 0]
def k0_off47 (k0_t7 : Fin k0_t7_loop.trips) : Fin 2 → Nat :=
  let c0_160 : Index := 0#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v209 : Index := Scalar.indexCast v96
  ![0, v209.toNat]
def k0_mult17 (k0_t7 : Fin k0_t7_loop.trips) : BitVec 32 :=
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  v214
def k0_off48 (k0_t7 : Fin k0_t7_loop.trips) : Fin 2 → Nat :=
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  let v215 : BitVec 32 := v214
  let v216 : Index := Scalar.indexCast v215
  let c0_162 : Index := 0#32
  ![v216.toNat, 0]
def k0_off49 (k0_t7 : Fin k0_t7_loop.trips) : Fin 2 → Nat :=
  let c0_163 : Index := 0#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v221 : Index := Scalar.indexCast v96
  ![0, v221.toNat]
def k0_off50 (k0_t7 : Fin k0_t7_loop.trips) : Fin 2 → Nat :=
  let c0_168 : Index := 0#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v234 : Index := Scalar.indexCast v96
  ![0, v234.toNat]
def k0_off51 (k0_t7 : Fin k0_t7_loop.trips) : Fin 2 → Nat :=
  let c1_169 : Index := 1#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v239 : Index := Scalar.indexCast v96
  ![1, v239.toNat]
@[reducible] def k0_t8_loop : Scf.Loop 32 :=
  let c0_i32_72 : BitVec 32 := 0#32
  let c18_i32_73 : BitVec 32 := 18#32
  let v67 : BitVec 32 := Scalar.addi c0_i32_72 c18_i32_73
  let c1_i32_74 : BitVec 32 := 1#32
  ⟨c0_i32_72, v67, c1_i32_74⟩
def k0_mult18 (k0_t8 : Fin k0_t8_loop.trips) : BitVec 32 :=
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  v92
def k0_mult19 (k0_t8 : Fin k0_t8_loop.trips) : BitVec 32 :=
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  v94
def k0_mult20 (k0_t8 : Fin k0_t8_loop.trips) : BitVec 32 :=
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  v97
def k0_mult21 (k0_t8 : Fin k0_t8_loop.trips) : BitVec 32 :=
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  v99
def k0_off52 (k0_t8 : Fin k0_t8_loop.trips) : Fin 2 → Nat :=
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v101 : Index := Scalar.indexCast v93
  let c0_117 : Index := 0#32
  ![v101.toNat, 0]
def k0_off53 (k0_t8 : Fin k0_t8_loop.trips) : Fin 2 → Nat :=
  let c0_118 : Index := 0#32
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v103 : Index := Scalar.indexCast v100
  ![0, v103.toNat]
def k0_off54 (k0_t8 : Fin k0_t8_loop.trips) : Fin 2 → Nat :=
  let c0_120 : Index := 0#32
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  let v95 : BitVec 32 := v94
  let v106 : Index := Scalar.indexCast v95
  ![0, v106.toNat]
def k0_off55 (k0_t8 : Fin k0_t8_loop.trips) : Fin 2 → Nat :=
  let c0_121 : Index := 0#32
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  let v98 : BitVec 32 := v97
  let v108 : Index := Scalar.indexCast v98
  ![0, v108.toNat]
def k0_off56 (k0_t8 : Fin k0_t8_loop.trips) : Fin 2 → Nat :=
  let c0_132 : Index := 0#32
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v157 : Index := Scalar.indexCast v100
  ![0, v157.toNat]
def k0_off57 (k0_t8 : Fin k0_t8_loop.trips) : Fin 2 → Nat :=
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v173 : Index := Scalar.indexCast v93
  let c0_135 : Index := 0#32
  ![v173.toNat, 0]
@[reducible] def k0_t9_loop : Scf.Loop 32 :=
  let c0_i32_76 : BitVec 32 := 0#32
  let c2304_i32_77 : BitVec 32 := 2304#32
  let v68 : BitVec 32 := Scalar.addi c0_i32_76 c2304_i32_77
  let c1_i32_78 : BitVec 32 := 1#32
  ⟨c0_i32_76, v68, c1_i32_78⟩
def k0_off58 (k0_t9 : Fin k0_t9_loop.trips) : Fin 2 → Nat :=
  let c0_i32_112 : BitVec 32 := 0#32
  let c0_i32_76 : BitVec 32 := 0#32
  let c1_i32_78 : BitVec 32 := 1#32
  let arg16 : BitVec 32 := Scf.iv c0_i32_76 c1_i32_78 k0_t9
  let c1_i32_111 : BitVec 32 := 1#32
  let v90 : BitVec 32 := Scalar.muli arg16 c1_i32_111
  let v91 : BitVec 32 := Scalar.addi c0_i32_112 v90
  let v92 : Index := Scalar.indexCast v91
  let c0_113 : Index := 0#32
  ![v92.toNat, 0]
def k0_off59 (k0_t9 : Fin k0_t9_loop.trips) : Fin 4 → Nat :=
  let c0_114 : Index := 0#32
  let c0_115 : Index := 0#32
  let c2 : Index := 2#32
  let c0_i32_112 : BitVec 32 := 0#32
  let c0_i32_76 : BitVec 32 := 0#32
  let c1_i32_78 : BitVec 32 := 1#32
  let arg16 : BitVec 32 := Scf.iv c0_i32_76 c1_i32_78 k0_t9
  let c1_i32_111 : BitVec 32 := 1#32
  let v90 : BitVec 32 := Scalar.muli arg16 c1_i32_111
  let v91 : BitVec 32 := Scalar.addi c0_i32_112 v90
  let v94 : Index := Scalar.indexCast v91
  ![0, 0, 2, v94.toNat]
def k0_off60 (v95 : BitVec 32) : Fin 3 → Nat :=
  let c2_116 : Index := 2#32
  let v96 : Index := Scalar.indexCast v95
  let c0_117 : Index := 0#32
  ![2, v96.toNat, 0]

def k0_chk3 (v95 : BitVec 32) : Prop :=
  (∀ a, (k0_off60 v95) a + S1x1x128.size a ≤ S4x2304x128.size a)
theorem k0_off60_inb : ∀ (v95 : BitVec 32) (k0_hw3 : k0_chk3 v95), ∀ a, (k0_off60 v95) a + S1x1x128.size a ≤ S4x2304x128.size a := fun v95 k0_hw3 => k0_hw3

@[reducible] def k0_t10_loop : Scf.Loop 32 :=
  let c0_i32_80 : BitVec 32 := 0#32
  let c18_i32_81 : BitVec 32 := 18#32
  let v69 : BitVec 32 := Scalar.addi c0_i32_80 c18_i32_81
  let c1_i32_82 : BitVec 32 := 1#32
  ⟨c0_i32_80, v69, c1_i32_82⟩
def k0_mult22 (k0_t10 : Fin k0_t10_loop.trips) : BitVec 32 :=
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  v92
def k0_mult23 (k0_t10 : Fin k0_t10_loop.trips) : BitVec 32 :=
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  v95
def k0_off61 (k0_t10 : Fin k0_t10_loop.trips) : Fin 4 → Nat :=
  let c0_114 : Index := 0#32
  let c3 : Index := 3#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v97 : Index := Scalar.indexCast v93
  let c0_115 : Index := 0#32
  ![0, 3, v97.toNat, 0]
def k0_off62 (k0_t10 : Fin k0_t10_loop.trips) : Fin 5 → Nat :=
  let c0_117 : Index := 0#32
  let c3_118 : Index := 3#32
  let c0_119 : Index := 0#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v103 : Index := Scalar.indexCast v93
  let c0_120 : Index := 0#32
  ![0, 3, 0, v103.toNat, 0]
def k0_off63 (k0_t10 : Fin k0_t10_loop.trips) : Fin 5 → Nat :=
  let c0_126 : Index := 0#32
  let c3_127 : Index := 3#32
  let c1_128 : Index := 1#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v124 : Index := Scalar.indexCast v93
  let c0_129 : Index := 0#32
  ![0, 3, 1, v124.toNat, 0]
def k0_off64 (k0_t10 : Fin k0_t10_loop.trips) : Fin 5 → Nat :=
  let c0_135 : Index := 0#32
  let c3_136 : Index := 3#32
  let c2 : Index := 2#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v145 : Index := Scalar.indexCast v93
  let c0_137 : Index := 0#32
  ![0, 3, 2, v145.toNat, 0]
def k0_off65 (k0_t10 : Fin k0_t10_loop.trips) : Fin 5 → Nat :=
  let c0_143 : Index := 0#32
  let c3_144 : Index := 3#32
  let c3_145 : Index := 3#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v166 : Index := Scalar.indexCast v93
  let c0_146 : Index := 0#32
  ![0, 3, 3, v166.toNat, 0]
def k0_off66 (k0_t10 : Fin k0_t10_loop.trips) : Fin 5 → Nat :=
  let c0_152 : Index := 0#32
  let c3_153 : Index := 3#32
  let c4 : Index := 4#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v187 : Index := Scalar.indexCast v93
  let c0_154 : Index := 0#32
  ![0, 3, 4, v187.toNat, 0]
def k0_off67 (k0_t10 : Fin k0_t10_loop.trips) : Fin 2 → Nat :=
  let c0_160 : Index := 0#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v209 : Index := Scalar.indexCast v96
  ![0, v209.toNat]
def k0_mult24 (k0_t10 : Fin k0_t10_loop.trips) : BitVec 32 :=
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  v214
def k0_off68 (k0_t10 : Fin k0_t10_loop.trips) : Fin 2 → Nat :=
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  let v215 : BitVec 32 := v214
  let v216 : Index := Scalar.indexCast v215
  let c0_162 : Index := 0#32
  ![v216.toNat, 0]
def k0_off69 (k0_t10 : Fin k0_t10_loop.trips) : Fin 2 → Nat :=
  let c0_163 : Index := 0#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v221 : Index := Scalar.indexCast v96
  ![0, v221.toNat]
def k0_off70 (k0_t10 : Fin k0_t10_loop.trips) : Fin 2 → Nat :=
  let c0_168 : Index := 0#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v234 : Index := Scalar.indexCast v96
  ![0, v234.toNat]
def k0_off71 (k0_t10 : Fin k0_t10_loop.trips) : Fin 2 → Nat :=
  let c1_169 : Index := 1#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v239 : Index := Scalar.indexCast v96
  ![1, v239.toNat]
@[reducible] def k0_t11_loop : Scf.Loop 32 :=
  let c0_i32_100 : BitVec 32 := 0#32
  let c18_i32_101 : BitVec 32 := 18#32
  let v87 : BitVec 32 := Scalar.addi c0_i32_100 c18_i32_101
  let c1_i32_102 : BitVec 32 := 1#32
  ⟨c0_i32_100, v87, c1_i32_102⟩
def k0_mult25 (k0_t11 : Fin k0_t11_loop.trips) : BitVec 32 :=
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  v92
def k0_mult26 (k0_t11 : Fin k0_t11_loop.trips) : BitVec 32 :=
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  v94
def k0_mult27 (k0_t11 : Fin k0_t11_loop.trips) : BitVec 32 :=
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  v97
def k0_mult28 (k0_t11 : Fin k0_t11_loop.trips) : BitVec 32 :=
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  v99
def k0_off72 (k0_t11 : Fin k0_t11_loop.trips) : Fin 2 → Nat :=
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v101 : Index := Scalar.indexCast v93
  let c0_117 : Index := 0#32
  ![v101.toNat, 0]
def k0_off73 (k0_t11 : Fin k0_t11_loop.trips) : Fin 2 → Nat :=
  let c0_118 : Index := 0#32
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v103 : Index := Scalar.indexCast v100
  ![0, v103.toNat]
def k0_off74 (k0_t11 : Fin k0_t11_loop.trips) : Fin 2 → Nat :=
  let c0_120 : Index := 0#32
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  let v95 : BitVec 32 := v94
  let v106 : Index := Scalar.indexCast v95
  ![0, v106.toNat]
def k0_off75 (k0_t11 : Fin k0_t11_loop.trips) : Fin 2 → Nat :=
  let c0_121 : Index := 0#32
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  let v98 : BitVec 32 := v97
  let v108 : Index := Scalar.indexCast v98
  ![0, v108.toNat]
def k0_off76 (k0_t11 : Fin k0_t11_loop.trips) : Fin 2 → Nat :=
  let c0_132 : Index := 0#32
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v157 : Index := Scalar.indexCast v100
  ![0, v157.toNat]
def k0_off77 (k0_t11 : Fin k0_t11_loop.trips) : Fin 2 → Nat :=
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v172 : Index := Scalar.indexCast v93
  let c0_135 : Index := 0#32
  ![v172.toNat, 0]
@[reducible] def k0_t12_loop : Scf.Loop 32 :=
  let c0_i32_104 : BitVec 32 := 0#32
  let c2304_i32_105 : BitVec 32 := 2304#32
  let v88 : BitVec 32 := Scalar.addi c0_i32_104 c2304_i32_105
  let c1_i32_106 : BitVec 32 := 1#32
  ⟨c0_i32_104, v88, c1_i32_106⟩
def k0_off78 (k0_t12 : Fin k0_t12_loop.trips) : Fin 2 → Nat :=
  let c0_i32_112 : BitVec 32 := 0#32
  let c0_i32_104 : BitVec 32 := 0#32
  let c1_i32_106 : BitVec 32 := 1#32
  let arg16 : BitVec 32 := Scf.iv c0_i32_104 c1_i32_106 k0_t12
  let c1_i32_111 : BitVec 32 := 1#32
  let v90 : BitVec 32 := Scalar.muli arg16 c1_i32_111
  let v91 : BitVec 32 := Scalar.addi c0_i32_112 v90
  let v92 : Index := Scalar.indexCast v91
  let c0_113 : Index := 0#32
  ![v92.toNat, 0]
def k0_off79 (k0_t12 : Fin k0_t12_loop.trips) : Fin 4 → Nat :=
  let c0_114 : Index := 0#32
  let c0_115 : Index := 0#32
  let c3 : Index := 3#32
  let c0_i32_112 : BitVec 32 := 0#32
  let c0_i32_104 : BitVec 32 := 0#32
  let c1_i32_106 : BitVec 32 := 1#32
  let arg16 : BitVec 32 := Scf.iv c0_i32_104 c1_i32_106 k0_t12
  let c1_i32_111 : BitVec 32 := 1#32
  let v90 : BitVec 32 := Scalar.muli arg16 c1_i32_111
  let v91 : BitVec 32 := Scalar.addi c0_i32_112 v90
  let v94 : Index := Scalar.indexCast v91
  ![0, 0, 3, v94.toNat]
def k0_off80 (v95 : BitVec 32) : Fin 3 → Nat :=
  let c3_116 : Index := 3#32
  let v96 : Index := Scalar.indexCast v95
  let c0_117 : Index := 0#32
  ![3, v96.toNat, 0]

def k0_chk4 (v95 : BitVec 32) : Prop :=
  (∀ a, (k0_off80 v95) a + S1x1x128.size a ≤ S4x2304x128.size a)
theorem k0_off80_inb : ∀ (v95 : BitVec 32) (k0_hw4 : k0_chk4 v95), ∀ a, (k0_off80 v95) a + S1x1x128.size a ≤ S4x2304x128.size a := fun v95 k0_hw4 => k0_hw4

@[reducible] def k0_t13_loop : Scf.Loop 32 :=
  let c0_i32_108 : BitVec 32 := 0#32
  let c144_i32 : BitVec 32 := 144#32
  let v89 : BitVec 32 := Scalar.addi c0_i32_108 c144_i32
  let c1_i32_109 : BitVec 32 := 1#32
  ⟨c0_i32_108, v89, c1_i32_109⟩
def k0_off81 (k0_t13 : Fin k0_t13_loop.trips) : Fin 3 → Nat :=
  let c0_113 : Index := 0#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32 : BitVec 32 := 16#32
  let v93 : BitVec 32 := Scalar.muli v91 c16_i32
  let v94 : Index := Scalar.indexCast v93
  let c0_114 : Index := 0#32
  ![0, v94.toNat, 0]
def k0_off82 (k0_t13 : Fin k0_t13_loop.trips) : Fin 3 → Nat :=
  let c1_116 : Index := 1#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_115 : BitVec 32 := 16#32
  let v97 : BitVec 32 := Scalar.muli v91 c16_i32_115
  let v98 : Index := Scalar.indexCast v97
  let c0_117 : Index := 0#32
  ![1, v98.toNat, 0]
def k0_off83 (k0_t13 : Fin k0_t13_loop.trips) : Fin 3 → Nat :=
  let c2 : Index := 2#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_118 : BitVec 32 := 16#32
  let v101 : BitVec 32 := Scalar.muli v91 c16_i32_118
  let v102 : Index := Scalar.indexCast v101
  let c0_119 : Index := 0#32
  ![2, v102.toNat, 0]
def k0_off84 (k0_t13 : Fin k0_t13_loop.trips) : Fin 3 → Nat :=
  let c3 : Index := 3#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_120 : BitVec 32 := 16#32
  let v105 : BitVec 32 := Scalar.muli v91 c16_i32_120
  let v106 : Index := Scalar.indexCast v105
  let c0_121 : Index := 0#32
  ![3, v106.toNat, 0]
def k0_off85 (k0_t13 : Fin k0_t13_loop.trips) : Fin 3 → Nat :=
  let c0_124 : Index := 0#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_122 : BitVec 32 := 16#32
  let v109 : BitVec 32 := Scalar.muli v91 c16_i32_122
  let c1_i32_123 : BitVec 32 := 1#32
  let v110 : BitVec 32 := Scalar.addi v109 c1_i32_123
  let v111 : Index := Scalar.indexCast v110
  let c0_125 : Index := 0#32
  ![0, v111.toNat, 0]
def k0_off86 (k0_t13 : Fin k0_t13_loop.trips) : Fin 3 → Nat :=
  let c1_128 : Index := 1#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_126 : BitVec 32 := 16#32
  let v114 : BitVec 32 := Scalar.muli v91 c16_i32_126
  let c1_i32_127 : BitVec 32 := 1#32
  let v115 : BitVec 32 := Scalar.addi v114 c1_i32_127
  let v116 : Index := Scalar.indexCast v115
  let c0_129 : Index := 0#32
  ![1, v116.toNat, 0]
def k0_off87 (k0_t13 : Fin k0_t13_loop.trips) : Fin 3 → Nat :=
  let c2_132 : Index := 2#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_130 : BitVec 32 := 16#32
  let v119 : BitVec 32 := Scalar.muli v91 c16_i32_130
  let c1_i32_131 : BitVec 32 := 1#32
  let v120 : BitVec 32 := Scalar.addi v119 c1_i32_131
  let v121 : Index := Scalar.indexCast v120
  let c0_133 : Index := 0#32
  ![2, v121.toNat, 0]
def k0_off88 (k0_t13 : Fin k0_t13_loop.trips) : Fin 3 → Nat :=
  let c3_136 : Index := 3#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_134 : BitVec 32 := 16#32
  let v124 : BitVec 32 := Scalar.muli v91 c16_i32_134
  let c1_i32_135 : BitVec 32 := 1#32
  let v125 : BitVec 32 := Scalar.addi v124 c1_i32_135
  let v126 : Index := Scalar.indexCast v125
  let c0_137 : Index := 0#32
  ![3, v126.toNat, 0]
def k0_mult29 (k0_t13 : Fin k0_t13_loop.trips) : BitVec 32 :=
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_153 : BitVec 32 := 16#32
  let v179 : BitVec 32 := Scalar.muli v91 c16_i32_153
  v179
def k0_off89 (k0_t13 : Fin k0_t13_loop.trips) : Fin 3 → Nat :=
  let c0_154 : Index := 0#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_153 : BitVec 32 := 16#32
  let v179 : BitVec 32 := Scalar.muli v91 c16_i32_153
  let v180 : BitVec 32 := v179
  let v181 : Index := Scalar.indexCast v180
  let c0_155 : Index := 0#32
  ![0, v181.toNat, 0]
def k0_mult30 (k0_t13 : Fin k0_t13_loop.trips) : BitVec 32 :=
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_156 : BitVec 32 := 16#32
  let v186 : BitVec 32 := Scalar.muli v91 c16_i32_156
  v186
def k0_off90 (k0_t13 : Fin k0_t13_loop.trips) : Fin 3 → Nat :=
  let c0_157 : Index := 0#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_156 : BitVec 32 := 16#32
  let v186 : BitVec 32 := Scalar.muli v91 c16_i32_156
  let v187 : BitVec 32 := v186
  let v188 : Index := Scalar.indexCast v187
  let c128 : Index := 128#32
  ![0, v188.toNat, 128]
def k0_mult31 (k0_t13 : Fin k0_t13_loop.trips) : BitVec 32 :=
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_158 : BitVec 32 := 16#32
  let v193 : BitVec 32 := Scalar.muli v91 c16_i32_158
  v193
def k0_off91 (k0_t13 : Fin k0_t13_loop.trips) : Fin 3 → Nat :=
  let c0_159 : Index := 0#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_158 : BitVec 32 := 16#32
  let v193 : BitVec 32 := Scalar.muli v91 c16_i32_158
  let v194 : BitVec 32 := v193
  let v195 : Index := Scalar.indexCast v194
  let c256 : Index := 256#32
  ![0, v195.toNat, 256]
def k0_mult32 (k0_t13 : Fin k0_t13_loop.trips) : BitVec 32 :=
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_160 : BitVec 32 := 16#32
  let v200 : BitVec 32 := Scalar.muli v91 c16_i32_160
  v200
def k0_off92 (k0_t13 : Fin k0_t13_loop.trips) : Fin 3 → Nat :=
  let c0_161 : Index := 0#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_160 : BitVec 32 := 16#32
  let v200 : BitVec 32 := Scalar.muli v91 c16_i32_160
  let v201 : BitVec 32 := v200
  let v202 : Index := Scalar.indexCast v201
  let c384 : Index := 384#32
  ![0, v202.toNat, 384]
def k0_mult33 (k0_t13 : Fin k0_t13_loop.trips) : BitVec 32 :=
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_162 : BitVec 32 := 16#32
  let v207 : BitVec 32 := Scalar.muli v91 c16_i32_162
  v207
def k0_off93 (k0_t13 : Fin k0_t13_loop.trips) : Fin 3 → Nat :=
  let c0_163 : Index := 0#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_162 : BitVec 32 := 16#32
  let v207 : BitVec 32 := Scalar.muli v91 c16_i32_162
  let v208 : BitVec 32 := v207
  let v209 : Index := Scalar.indexCast v208
  let c512 : Index := 512#32
  ![0, v209.toNat, 512]
def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![v0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat, arg1.toNat]

abbrev stage0_0 : Fin 2 → Memref sig .tc .smem S1x1x4x2304 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x5x144x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x5x144x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x144x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2304x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
abbrev S24x3x4x2304 : Shape := ⟨4, ![24, 3, 4, 2304]⟩
abbrev S8x12x5x144x128 : Shape := ⟨5, ![8, 12, 5, 144, 128]⟩
abbrev S8x12x144x128 : Shape := ⟨4, ![8, 12, 144, 128]⟩
abbrev S24x2304x1920 : Shape := ⟨3, ![24, 2304, 1920]⟩
abbrev S128x128 : Shape := ⟨2, ![128, 128]⟩
abbrev S_ : Shape := ⟨0, ![]⟩
abbrev S1x1x4x2304 : Shape := ⟨4, ![1, 1, 4, 2304]⟩
abbrev S1x4x5x144x128 : Shape := ⟨5, ![1, 4, 5, 144, 128]⟩
abbrev S1x4x144x128 : Shape := ⟨4, ![1, 4, 144, 128]⟩
abbrev S1x2304x640 : Shape := ⟨3, ![1, 2304, 640]⟩
abbrev S160x2432 : Shape := ⟨2, ![160, 2432]⟩
abbrev S2304x160 : Shape := ⟨2, ![2304, 160]⟩
abbrev S176x2432 : Shape := ⟨2, ![176, 2432]⟩
abbrev S8x2432 : Shape := ⟨2, ![8, 2432]⟩
abbrev S4x2304x128 : Shape := ⟨3, ![4, 2304, 128]⟩
abbrev S4x2304x2x128 : Shape := ⟨4, ![4, 2304, 2, 128]⟩
abbrev S4x2304x1x128 : Shape := ⟨4, ![4, 2304, 1, 128]⟩
abbrev S2304x128 : Shape := ⟨2, ![2304, 128]⟩
abbrev S2304x2x128 : Shape := ⟨3, ![2304, 2, 128]⟩
abbrev S2304x1x128 : Shape := ⟨3, ![2304, 1, 128]⟩
abbrev S1x128 : Shape := ⟨2, ![1, 128]⟩
abbrev S64x128 : Shape := ⟨2, ![64, 128]⟩
abbrev S16x128 : Shape := ⟨2, ![16, 128]⟩
abbrev S1x1x8x128 : Shape := ⟨4, ![1, 1, 8, 128]⟩
abbrev S8x128 : Shape := ⟨2, ![8, 128]⟩
abbrev S1x1x1x8x128 : Shape := ⟨5, ![1, 1, 1, 8, 128]⟩
abbrev S32x128 : Shape := ⟨2, ![32, 128]⟩
abbrev S4x8x128 : Shape := ⟨3, ![4, 8, 128]⟩
abbrev S160x128 : Shape := ⟨2, ![160, 128]⟩
abbrev S128x160 : Shape := ⟨2, ![128, 160]⟩
abbrev S176x128 : Shape := ⟨2, ![176, 128]⟩
abbrev S128 : Shape := ⟨1, ![128]⟩
abbrev S96x128 : Shape := ⟨2, ![96, 128]⟩
abbrev S160x256 : Shape := ⟨2, ![160, 256]⟩
abbrev S128x256 : Shape := ⟨2, ![128, 256]⟩
abbrev S2x128 : Shape := ⟨2, ![2, 128]⟩
abbrev S64 : Shape := ⟨1, ![64]⟩
abbrev S64x1 : Shape := ⟨2, ![64, 1]⟩
abbrev S64x256 : Shape := ⟨2, ![64, 256]⟩
abbrev S176x256 : Shape := ⟨2, ![176, 256]⟩
abbrev S128x2x128 : Shape := ⟨3, ![128, 2, 128]⟩
abbrev S128x1x128 : Shape := ⟨3, ![128, 1, 128]⟩
abbrev S1x2x128 : Shape := ⟨3, ![1, 2, 128]⟩
abbrev S1x1x128 : Shape := ⟨3, ![1, 1, 128]⟩
abbrev S1x1x1x1 : Shape := ⟨4, ![1, 1, 1, 1]⟩
abbrev S1x1x2x128 : Shape := ⟨4, ![1, 1, 2, 128]⟩
abbrev S1x1x1x128 : Shape := ⟨4, ![1, 1, 1, 128]⟩
abbrev S1x8x128 : Shape := ⟨3, ![1, 8, 128]⟩
abbrev S1x8x2x128 : Shape := ⟨4, ![1, 8, 2, 128]⟩
abbrev S1x8x1x128 : Shape := ⟨4, ![1, 8, 1, 128]⟩
abbrev S1x16x128 : Shape := ⟨3, ![1, 16, 128]⟩

abbrev nBuf : Space → Nat
  | .hbm => 39
  | .vmem => 16
  | .smem => 2
  | _ => 0

abbrev bufTy : (tb : Table) → Fin (tcTables nBuf tb) → BufTy
  | .hbm, ⟨0, _⟩ => ⟨S24x3x4x2304, .i32⟩
  | .hbm, ⟨1, _⟩ => ⟨S8x12x5x144x128, .i32⟩
  | .hbm, ⟨2, _⟩ => ⟨S8x12x5x144x128, .i32⟩
  | .hbm, ⟨3, _⟩ => ⟨S8x12x144x128, .f32⟩
  | .hbm, ⟨4, _⟩ => ⟨S24x2304x1920, .bf16⟩
  | .hbm, ⟨5, _⟩ => ⟨S128x128, .i32⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i1⟩
  | .hbm, ⟨10, _⟩ => ⟨S_, .i32⟩
  | .hbm, ⟨11, _⟩ => ⟨S128x128, .i32⟩
  | .hbm, ⟨12, _⟩ => ⟨S128x128, .i1⟩
  | .hbm, ⟨13, _⟩ => ⟨S128x128, .i1⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S128x128, .i32⟩
  | .hbm, ⟨18, _⟩ => ⟨S128x128, .i1⟩
  | .hbm, ⟨19, _⟩ => ⟨S128x128, .i32⟩
  | .hbm, ⟨20, _⟩ => ⟨S_, .i32⟩
  | .hbm, ⟨21, _⟩ => ⟨S128x128, .i32⟩
  | .hbm, ⟨22, _⟩ => ⟨S128x128, .i32⟩
  | .hbm, ⟨23, _⟩ => ⟨S_, .i32⟩
  | .hbm, ⟨24, _⟩ => ⟨S_, .i32⟩
  | .hbm, ⟨25, _⟩ => ⟨S128x128, .i32⟩
  | .hbm, ⟨26, _⟩ => ⟨S128x128, .i32⟩
  | .hbm, ⟨27, _⟩ => ⟨S128x128, .f32⟩
  | .hbm, ⟨28, _⟩ => ⟨S128x128, .i1⟩
  | .hbm, ⟨29, _⟩ => ⟨S_, .f32⟩
  | .hbm, ⟨30, _⟩ => ⟨S_, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S_, .f32⟩
  | .hbm, ⟨35, _⟩ => ⟨S_, .f32⟩
  | .hbm, ⟨36, _⟩ => ⟨S128x128, .f32⟩
  | .hbm, ⟨37, _⟩ => ⟨S128x128, .f32⟩
  | .hbm, ⟨38, _⟩ => ⟨S24x2304x1920, .bf16⟩
  | .local _ .vmem, ⟨0, _⟩ => ⟨S1x4x5x144x128, .i32⟩
  | .local _ .vmem, ⟨1, _⟩ => ⟨S1x4x5x144x128, .i32⟩
  | .local _ .vmem, ⟨2, _⟩ => ⟨S1x4x5x144x128, .i32⟩
  | .local _ .vmem, ⟨3, _⟩ => ⟨S1x4x5x144x128, .i32⟩
  | .local _ .vmem, ⟨4, _⟩ => ⟨S1x4x144x128, .f32⟩
  | .local _ .vmem, ⟨5, _⟩ => ⟨S1x4x144x128, .f32⟩
  | .local _ .vmem, ⟨6, _⟩ => ⟨S128x128, .f32⟩
  | .local _ .vmem, ⟨7, _⟩ => ⟨S128x128, .f32⟩
  | .local _ .vmem, ⟨8, _⟩ => ⟨S1x2304x640, .bf16⟩
  | .local _ .vmem, ⟨9, _⟩ => ⟨S1x2304x640, .bf16⟩
  | .local _ .vmem, ⟨10, _⟩ => ⟨S160x2432, .bf16⟩
  | .local _ .vmem, ⟨11, _⟩ => ⟨S2304x160, .bf16⟩
  | .local _ .vmem, ⟨12, _⟩ => ⟨S176x2432, .bf16⟩
  | .local _ .vmem, ⟨13, _⟩ => ⟨S8x2432, .f32⟩
  | .local _ .vmem, ⟨14, _⟩ => ⟨S4x2304x2x128, .bf16⟩
  | .local _ .vmem, ⟨15, _⟩ => ⟨S2304x2x128, .bf16⟩
  | .local _ .smem, ⟨0, _⟩ => ⟨S1x1x4x2304, .i32⟩
  | .local _ .smem, ⟨1, _⟩ => ⟨S1x1x4x2304, .i32⟩
  | _, _ => ⟨S24x3x4x2304, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_call1_v0 : Ref sig .tc := ⟨.hbm, 24, rfl⟩
abbrev main_call1_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_cst_4 : Ref sig .tc := ⟨.hbm, 30, rfl⟩
abbrev main_call2_v0 : Ref sig .tc := ⟨.hbm, 31, rfl⟩
abbrev main_call2_v1 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F] [Named F]

def κ : String → Option EReal := fun
  | "inv_d" => some ((1 / 160 : ℝ) : EReal)
  | "scale" => some (((Real.sqrt 160)⁻¹ * (Real.log 2)⁻¹ : ℝ) : EReal)
  | _ => none

abbrev grid0 : Pipeline.Grid := ⟨2, ![8, 3], ![false, false]⟩

@[reducible] def k0_t1_loop : Scf.Loop 32 :=
  let c0_i32 : BitVec 32 := 0#32
  let c18_i32 : BitVec 32 := 18#32
  let v7 : BitVec 32 := Scalar.addi c0_i32 c18_i32
  let c1_i32 : BitVec 32 := 1#32
  ⟨c0_i32, v7, c1_i32⟩
def k0_mult1 (k0_t1 : Fin k0_t1_loop.trips) : BitVec 32 :=
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  v92
def k0_mult2 (k0_t1 : Fin k0_t1_loop.trips) : BitVec 32 :=
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  v95
def k0_off1 (k0_t1 : Fin k0_t1_loop.trips) : Fin 4 → Nat :=
  let c0_114 : Index := 0#32
  let c0_115 : Index := 0#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v97 : Index := Scalar.indexCast v93
  let c0_116 : Index := 0#32
  ![0, 0, v97.toNat, 0]
def k0_off2 (k0_t1 : Fin k0_t1_loop.trips) : Fin 5 → Nat :=
  let c0_118 : Index := 0#32
  let c0_119 : Index := 0#32
  let c0_120 : Index := 0#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v103 : Index := Scalar.indexCast v93
  let c0_121 : Index := 0#32
  ![0, 0, 0, v103.toNat, 0]
def k0_off3 (k0_t1 : Fin k0_t1_loop.trips) : Fin 5 → Nat :=
  let c0_127 : Index := 0#32
  let c0_128 : Index := 0#32
  let c1_129 : Index := 1#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v124 : Index := Scalar.indexCast v93
  let c0_130 : Index := 0#32
  ![0, 0, 1, v124.toNat, 0]
def k0_off4 (k0_t1 : Fin k0_t1_loop.trips) : Fin 5 → Nat :=
  let c0_136 : Index := 0#32
  let c0_137 : Index := 0#32
  let c2 : Index := 2#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v145 : Index := Scalar.indexCast v93
  let c0_138 : Index := 0#32
  ![0, 0, 2, v145.toNat, 0]
def k0_off5 (k0_t1 : Fin k0_t1_loop.trips) : Fin 5 → Nat :=
  let c0_144 : Index := 0#32
  let c0_145 : Index := 0#32
  let c3 : Index := 3#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v166 : Index := Scalar.indexCast v93
  let c0_146 : Index := 0#32
  ![0, 0, 3, v166.toNat, 0]
def k0_off6 (k0_t1 : Fin k0_t1_loop.trips) : Fin 5 → Nat :=
  let c0_152 : Index := 0#32
  let c0_153 : Index := 0#32
  let c4 : Index := 4#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v187 : Index := Scalar.indexCast v93
  let c0_154 : Index := 0#32
  ![0, 0, 4, v187.toNat, 0]
def k0_off7 (k0_t1 : Fin k0_t1_loop.trips) : Fin 2 → Nat :=
  let c0_160 : Index := 0#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v209 : Index := Scalar.indexCast v96
  ![0, v209.toNat]
def k0_mult3 (k0_t1 : Fin k0_t1_loop.trips) : BitVec 32 :=
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  v214
def k0_off8 (k0_t1 : Fin k0_t1_loop.trips) : Fin 2 → Nat :=
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  let v215 : BitVec 32 := v214
  let v216 : Index := Scalar.indexCast v215
  let c0_162 : Index := 0#32
  ![v216.toNat, 0]
def k0_off9 (k0_t1 : Fin k0_t1_loop.trips) : Fin 2 → Nat :=
  let c0_163 : Index := 0#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v221 : Index := Scalar.indexCast v96
  ![0, v221.toNat]
def k0_off10 (k0_t1 : Fin k0_t1_loop.trips) : Fin 2 → Nat :=
  let c0_168 : Index := 0#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v234 : Index := Scalar.indexCast v96
  ![0, v234.toNat]
def k0_off11 (k0_t1 : Fin k0_t1_loop.trips) : Fin 2 → Nat :=
  let c1_169 : Index := 1#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v239 : Index := Scalar.indexCast v96
  ![1, v239.toNat]
@[reducible] def k0_t2_loop : Scf.Loop 32 :=
  let c0_i32_15 : BitVec 32 := 0#32
  let c18_i32_16 : BitVec 32 := 18#32
  let v25 : BitVec 32 := Scalar.addi c0_i32_15 c18_i32_16
  let c1_i32_17 : BitVec 32 := 1#32
  ⟨c0_i32_15, v25, c1_i32_17⟩
def k0_mult4 (k0_t2 : Fin k0_t2_loop.trips) : BitVec 32 :=
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  v92
def k0_mult5 (k0_t2 : Fin k0_t2_loop.trips) : BitVec 32 :=
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  v94
def k0_mult6 (k0_t2 : Fin k0_t2_loop.trips) : BitVec 32 :=
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  v97
def k0_mult7 (k0_t2 : Fin k0_t2_loop.trips) : BitVec 32 :=
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  v99
def k0_off12 (k0_t2 : Fin k0_t2_loop.trips) : Fin 2 → Nat :=
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v101 : Index := Scalar.indexCast v93
  let c0_117 : Index := 0#32
  ![v101.toNat, 0]
def k0_off13 (k0_t2 : Fin k0_t2_loop.trips) : Fin 2 → Nat :=
  let c0_118 : Index := 0#32
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v103 : Index := Scalar.indexCast v100
  ![0, v103.toNat]
def k0_off14 (k0_t2 : Fin k0_t2_loop.trips) : Fin 2 → Nat :=
  let c0_120 : Index := 0#32
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  let v95 : BitVec 32 := v94
  let v106 : Index := Scalar.indexCast v95
  ![0, v106.toNat]
def k0_off15 (k0_t2 : Fin k0_t2_loop.trips) : Fin 2 → Nat :=
  let c0_121 : Index := 0#32
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  let v98 : BitVec 32 := v97
  let v108 : Index := Scalar.indexCast v98
  ![0, v108.toNat]
def k0_off16 (k0_t2 : Fin k0_t2_loop.trips) : Fin 2 → Nat :=
  let c0_132 : Index := 0#32
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v157 : Index := Scalar.indexCast v100
  ![0, v157.toNat]
def k0_off17 (k0_t2 : Fin k0_t2_loop.trips) : Fin 3 → Nat :=
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v172 : Index := Scalar.indexCast v93
  let c0_135 : Index := 0#32
  ![v172.toNat, 0, 0]
@[reducible] def k0_t3_loop : Scf.Loop 32 :=
  let c0_i32_19 : BitVec 32 := 0#32
  let c2304_i32 : BitVec 32 := 2304#32
  let v26 : BitVec 32 := Scalar.addi c0_i32_19 c2304_i32
  let c1_i32_20 : BitVec 32 := 1#32
  ⟨c0_i32_19, v26, c1_i32_20⟩
def k0_off18 (k0_t3 : Fin k0_t3_loop.trips) : Fin 3 → Nat :=
  let c0_i32_112 : BitVec 32 := 0#32
  let c0_i32_19 : BitVec 32 := 0#32
  let c1_i32_20 : BitVec 32 := 1#32
  let arg16 : BitVec 32 := Scf.iv c0_i32_19 c1_i32_20 k0_t3
  let c1_i32_111 : BitVec 32 := 1#32
  let v90 : BitVec 32 := Scalar.muli arg16 c1_i32_111
  let v91 : BitVec 32 := Scalar.addi c0_i32_112 v90
  let v92 : Index := Scalar.indexCast v91
  let c0_113 : Index := 0#32
  ![v92.toNat, 0, 0]
def k0_off19 (k0_t3 : Fin k0_t3_loop.trips) : Fin 4 → Nat :=
  let c0_114 : Index := 0#32
  let c0_115 : Index := 0#32
  let c0_116 : Index := 0#32
  let c0_i32_112 : BitVec 32 := 0#32
  let c0_i32_19 : BitVec 32 := 0#32
  let c1_i32_20 : BitVec 32 := 1#32
  let arg16 : BitVec 32 := Scf.iv c0_i32_19 c1_i32_20 k0_t3
  let c1_i32_111 : BitVec 32 := 1#32
  let v90 : BitVec 32 := Scalar.muli arg16 c1_i32_111
  let v91 : BitVec 32 := Scalar.addi c0_i32_112 v90
  let v94 : Index := Scalar.indexCast v91
  ![0, 0, 0, v94.toNat]
def k0_off20 (v95 : BitVec 32) : Fin 4 → Nat :=
  let c0_117 : Index := 0#32
  let v96 : Index := Scalar.indexCast v95
  let c0_118 : Index := 0#32
  ![0, v96.toNat, 0, 0]

def k0_chk1 (v95 : BitVec 32) : Prop :=
  (∀ a, (k0_off20 v95) a + S1x1x2x128.size a ≤ S4x2304x2x128.size a)
theorem k0_off20_inb : ∀ (v95 : BitVec 32) (k0_hw1 : k0_chk1 v95), ∀ a, (k0_off20 v95) a + S1x1x2x128.size a ≤ S4x2304x2x128.size a := fun v95 k0_hw1 => k0_hw1

@[reducible] def k0_t4_loop : Scf.Loop 32 :=
  let c0_i32_22 : BitVec 32 := 0#32
  let c18_i32_23 : BitVec 32 := 18#32
  let v27 : BitVec 32 := Scalar.addi c0_i32_22 c18_i32_23
  let c1_i32_24 : BitVec 32 := 1#32
  ⟨c0_i32_22, v27, c1_i32_24⟩
def k0_mult8 (k0_t4 : Fin k0_t4_loop.trips) : BitVec 32 :=
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  v92
def k0_mult9 (k0_t4 : Fin k0_t4_loop.trips) : BitVec 32 :=
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  v95
def k0_off21 (k0_t4 : Fin k0_t4_loop.trips) : Fin 4 → Nat :=
  let c0_114 : Index := 0#32
  let c1_115 : Index := 1#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v97 : Index := Scalar.indexCast v93
  let c0_116 : Index := 0#32
  ![0, 1, v97.toNat, 0]
def k0_off22 (k0_t4 : Fin k0_t4_loop.trips) : Fin 5 → Nat :=
  let c0_118 : Index := 0#32
  let c1_119 : Index := 1#32
  let c0_120 : Index := 0#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v103 : Index := Scalar.indexCast v93
  let c0_121 : Index := 0#32
  ![0, 1, 0, v103.toNat, 0]
def k0_off23 (k0_t4 : Fin k0_t4_loop.trips) : Fin 5 → Nat :=
  let c0_127 : Index := 0#32
  let c1_128 : Index := 1#32
  let c1_129 : Index := 1#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v124 : Index := Scalar.indexCast v93
  let c0_130 : Index := 0#32
  ![0, 1, 1, v124.toNat, 0]
def k0_off24 (k0_t4 : Fin k0_t4_loop.trips) : Fin 5 → Nat :=
  let c0_136 : Index := 0#32
  let c1_137 : Index := 1#32
  let c2 : Index := 2#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v145 : Index := Scalar.indexCast v93
  let c0_138 : Index := 0#32
  ![0, 1, 2, v145.toNat, 0]
def k0_off25 (k0_t4 : Fin k0_t4_loop.trips) : Fin 5 → Nat :=
  let c0_144 : Index := 0#32
  let c1_145 : Index := 1#32
  let c3 : Index := 3#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v166 : Index := Scalar.indexCast v93
  let c0_146 : Index := 0#32
  ![0, 1, 3, v166.toNat, 0]
def k0_off26 (k0_t4 : Fin k0_t4_loop.trips) : Fin 5 → Nat :=
  let c0_152 : Index := 0#32
  let c1_153 : Index := 1#32
  let c4 : Index := 4#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v187 : Index := Scalar.indexCast v93
  let c0_154 : Index := 0#32
  ![0, 1, 4, v187.toNat, 0]
def k0_off27 (k0_t4 : Fin k0_t4_loop.trips) : Fin 2 → Nat :=
  let c0_160 : Index := 0#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v209 : Index := Scalar.indexCast v96
  ![0, v209.toNat]
def k0_mult10 (k0_t4 : Fin k0_t4_loop.trips) : BitVec 32 :=
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  v214
def k0_off28 (k0_t4 : Fin k0_t4_loop.trips) : Fin 2 → Nat :=
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  let v215 : BitVec 32 := v214
  let v216 : Index := Scalar.indexCast v215
  let c0_162 : Index := 0#32
  ![v216.toNat, 0]
def k0_off29 (k0_t4 : Fin k0_t4_loop.trips) : Fin 2 → Nat :=
  let c0_163 : Index := 0#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v221 : Index := Scalar.indexCast v96
  ![0, v221.toNat]
def k0_off30 (k0_t4 : Fin k0_t4_loop.trips) : Fin 2 → Nat :=
  let c0_168 : Index := 0#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v234 : Index := Scalar.indexCast v96
  ![0, v234.toNat]
def k0_off31 (k0_t4 : Fin k0_t4_loop.trips) : Fin 2 → Nat :=
  let c1_169 : Index := 1#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v239 : Index := Scalar.indexCast v96
  ![1, v239.toNat]
@[reducible] def k0_t5_loop : Scf.Loop 32 :=
  let c0_i32_43 : BitVec 32 := 0#32
  let c18_i32_44 : BitVec 32 := 18#32
  let v46 : BitVec 32 := Scalar.addi c0_i32_43 c18_i32_44
  let c1_i32_45 : BitVec 32 := 1#32
  ⟨c0_i32_43, v46, c1_i32_45⟩
def k0_mult11 (k0_t5 : Fin k0_t5_loop.trips) : BitVec 32 :=
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  v92
def k0_mult12 (k0_t5 : Fin k0_t5_loop.trips) : BitVec 32 :=
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  v94
def k0_mult13 (k0_t5 : Fin k0_t5_loop.trips) : BitVec 32 :=
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  v97
def k0_mult14 (k0_t5 : Fin k0_t5_loop.trips) : BitVec 32 :=
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  v99
def k0_off32 (k0_t5 : Fin k0_t5_loop.trips) : Fin 2 → Nat :=
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v101 : Index := Scalar.indexCast v93
  let c0_117 : Index := 0#32
  ![v101.toNat, 0]
def k0_off33 (k0_t5 : Fin k0_t5_loop.trips) : Fin 2 → Nat :=
  let c0_118 : Index := 0#32
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v103 : Index := Scalar.indexCast v100
  ![0, v103.toNat]
def k0_off34 (k0_t5 : Fin k0_t5_loop.trips) : Fin 2 → Nat :=
  let c0_120 : Index := 0#32
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  let v95 : BitVec 32 := v94
  let v106 : Index := Scalar.indexCast v95
  ![0, v106.toNat]
def k0_off35 (k0_t5 : Fin k0_t5_loop.trips) : Fin 2 → Nat :=
  let c0_121 : Index := 0#32
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  let v98 : BitVec 32 := v97
  let v108 : Index := Scalar.indexCast v98
  ![0, v108.toNat]
def k0_off36 (k0_t5 : Fin k0_t5_loop.trips) : Fin 2 → Nat :=
  let c0_132 : Index := 0#32
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v157 : Index := Scalar.indexCast v100
  ![0, v157.toNat]
def k0_off37 (k0_t5 : Fin k0_t5_loop.trips) : Fin 3 → Nat :=
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v173 : Index := Scalar.indexCast v93
  let c0_135 : Index := 0#32
  ![v173.toNat, 0, 0]
@[reducible] def k0_t6_loop : Scf.Loop 32 :=
  let c0_i32_47 : BitVec 32 := 0#32
  let c2304_i32_48 : BitVec 32 := 2304#32
  let v47 : BitVec 32 := Scalar.addi c0_i32_47 c2304_i32_48
  let c1_i32_49 : BitVec 32 := 1#32
  ⟨c0_i32_47, v47, c1_i32_49⟩
def k0_off38 (k0_t6 : Fin k0_t6_loop.trips) : Fin 3 → Nat :=
  let c0_i32_112 : BitVec 32 := 0#32
  let c0_i32_47 : BitVec 32 := 0#32
  let c1_i32_49 : BitVec 32 := 1#32
  let arg16 : BitVec 32 := Scf.iv c0_i32_47 c1_i32_49 k0_t6
  let c1_i32_111 : BitVec 32 := 1#32
  let v90 : BitVec 32 := Scalar.muli arg16 c1_i32_111
  let v91 : BitVec 32 := Scalar.addi c0_i32_112 v90
  let v92 : Index := Scalar.indexCast v91
  let c0_113 : Index := 0#32
  ![v92.toNat, 0, 0]
def k0_off39 (k0_t6 : Fin k0_t6_loop.trips) : Fin 4 → Nat :=
  let c0_114 : Index := 0#32
  let c0_115 : Index := 0#32
  let c1_116 : Index := 1#32
  let c0_i32_112 : BitVec 32 := 0#32
  let c0_i32_47 : BitVec 32 := 0#32
  let c1_i32_49 : BitVec 32 := 1#32
  let arg16 : BitVec 32 := Scf.iv c0_i32_47 c1_i32_49 k0_t6
  let c1_i32_111 : BitVec 32 := 1#32
  let v90 : BitVec 32 := Scalar.muli arg16 c1_i32_111
  let v91 : BitVec 32 := Scalar.addi c0_i32_112 v90
  let v94 : Index := Scalar.indexCast v91
  ![0, 0, 1, v94.toNat]
def k0_off40 (v95 : BitVec 32) : Fin 4 → Nat :=
  let c1_117 : Index := 1#32
  let v96 : Index := Scalar.indexCast v95
  let c0_118 : Index := 0#32
  ![1, v96.toNat, 0, 0]

def k0_chk2 (v95 : BitVec 32) : Prop :=
  (∀ a, (k0_off40 v95) a + S1x1x2x128.size a ≤ S4x2304x2x128.size a)
theorem k0_off40_inb : ∀ (v95 : BitVec 32) (k0_hw2 : k0_chk2 v95), ∀ a, (k0_off40 v95) a + S1x1x2x128.size a ≤ S4x2304x2x128.size a := fun v95 k0_hw2 => k0_hw2

@[reducible] def k0_t7_loop : Scf.Loop 32 :=
  let c0_i32_51 : BitVec 32 := 0#32
  let c18_i32_52 : BitVec 32 := 18#32
  let v48 : BitVec 32 := Scalar.addi c0_i32_51 c18_i32_52
  let c1_i32_53 : BitVec 32 := 1#32
  ⟨c0_i32_51, v48, c1_i32_53⟩
def k0_mult15 (k0_t7 : Fin k0_t7_loop.trips) : BitVec 32 :=
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  v92
def k0_mult16 (k0_t7 : Fin k0_t7_loop.trips) : BitVec 32 :=
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  v95
def k0_off41 (k0_t7 : Fin k0_t7_loop.trips) : Fin 4 → Nat :=
  let c0_114 : Index := 0#32
  let c2 : Index := 2#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v97 : Index := Scalar.indexCast v93
  let c0_115 : Index := 0#32
  ![0, 2, v97.toNat, 0]
def k0_off42 (k0_t7 : Fin k0_t7_loop.trips) : Fin 5 → Nat :=
  let c0_117 : Index := 0#32
  let c2_118 : Index := 2#32
  let c0_119 : Index := 0#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v103 : Index := Scalar.indexCast v93
  let c0_120 : Index := 0#32
  ![0, 2, 0, v103.toNat, 0]
def k0_off43 (k0_t7 : Fin k0_t7_loop.trips) : Fin 5 → Nat :=
  let c0_126 : Index := 0#32
  let c2_127 : Index := 2#32
  let c1_128 : Index := 1#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v124 : Index := Scalar.indexCast v93
  let c0_129 : Index := 0#32
  ![0, 2, 1, v124.toNat, 0]
def k0_off44 (k0_t7 : Fin k0_t7_loop.trips) : Fin 5 → Nat :=
  let c0_135 : Index := 0#32
  let c2_136 : Index := 2#32
  let c2_137 : Index := 2#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v145 : Index := Scalar.indexCast v93
  let c0_138 : Index := 0#32
  ![0, 2, 2, v145.toNat, 0]
def k0_off45 (k0_t7 : Fin k0_t7_loop.trips) : Fin 5 → Nat :=
  let c0_144 : Index := 0#32
  let c2_145 : Index := 2#32
  let c3 : Index := 3#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v166 : Index := Scalar.indexCast v93
  let c0_146 : Index := 0#32
  ![0, 2, 3, v166.toNat, 0]
def k0_off46 (k0_t7 : Fin k0_t7_loop.trips) : Fin 5 → Nat :=
  let c0_152 : Index := 0#32
  let c2_153 : Index := 2#32
  let c4 : Index := 4#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v187 : Index := Scalar.indexCast v93
  let c0_154 : Index := 0#32
  ![0, 2, 4, v187.toNat, 0]
def k0_off47 (k0_t7 : Fin k0_t7_loop.trips) : Fin 2 → Nat :=
  let c0_160 : Index := 0#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v209 : Index := Scalar.indexCast v96
  ![0, v209.toNat]
def k0_mult17 (k0_t7 : Fin k0_t7_loop.trips) : BitVec 32 :=
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  v214
def k0_off48 (k0_t7 : Fin k0_t7_loop.trips) : Fin 2 → Nat :=
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  let v215 : BitVec 32 := v214
  let v216 : Index := Scalar.indexCast v215
  let c0_162 : Index := 0#32
  ![v216.toNat, 0]
def k0_off49 (k0_t7 : Fin k0_t7_loop.trips) : Fin 2 → Nat :=
  let c0_163 : Index := 0#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v221 : Index := Scalar.indexCast v96
  ![0, v221.toNat]
def k0_off50 (k0_t7 : Fin k0_t7_loop.trips) : Fin 2 → Nat :=
  let c0_168 : Index := 0#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v234 : Index := Scalar.indexCast v96
  ![0, v234.toNat]
def k0_off51 (k0_t7 : Fin k0_t7_loop.trips) : Fin 2 → Nat :=
  let c1_169 : Index := 1#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v239 : Index := Scalar.indexCast v96
  ![1, v239.toNat]
@[reducible] def k0_t8_loop : Scf.Loop 32 :=
  let c0_i32_72 : BitVec 32 := 0#32
  let c18_i32_73 : BitVec 32 := 18#32
  let v67 : BitVec 32 := Scalar.addi c0_i32_72 c18_i32_73
  let c1_i32_74 : BitVec 32 := 1#32
  ⟨c0_i32_72, v67, c1_i32_74⟩
def k0_mult18 (k0_t8 : Fin k0_t8_loop.trips) : BitVec 32 :=
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  v92
def k0_mult19 (k0_t8 : Fin k0_t8_loop.trips) : BitVec 32 :=
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  v94
def k0_mult20 (k0_t8 : Fin k0_t8_loop.trips) : BitVec 32 :=
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  v97
def k0_mult21 (k0_t8 : Fin k0_t8_loop.trips) : BitVec 32 :=
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  v99
def k0_off52 (k0_t8 : Fin k0_t8_loop.trips) : Fin 2 → Nat :=
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v101 : Index := Scalar.indexCast v93
  let c0_117 : Index := 0#32
  ![v101.toNat, 0]
def k0_off53 (k0_t8 : Fin k0_t8_loop.trips) : Fin 2 → Nat :=
  let c0_118 : Index := 0#32
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v103 : Index := Scalar.indexCast v100
  ![0, v103.toNat]
def k0_off54 (k0_t8 : Fin k0_t8_loop.trips) : Fin 2 → Nat :=
  let c0_120 : Index := 0#32
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  let v95 : BitVec 32 := v94
  let v106 : Index := Scalar.indexCast v95
  ![0, v106.toNat]
def k0_off55 (k0_t8 : Fin k0_t8_loop.trips) : Fin 2 → Nat :=
  let c0_121 : Index := 0#32
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  let v98 : BitVec 32 := v97
  let v108 : Index := Scalar.indexCast v98
  ![0, v108.toNat]
def k0_off56 (k0_t8 : Fin k0_t8_loop.trips) : Fin 2 → Nat :=
  let c0_132 : Index := 0#32
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v157 : Index := Scalar.indexCast v100
  ![0, v157.toNat]
def k0_off57 (k0_t8 : Fin k0_t8_loop.trips) : Fin 3 → Nat :=
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v173 : Index := Scalar.indexCast v93
  let c0_135 : Index := 0#32
  ![v173.toNat, 0, 0]
@[reducible] def k0_t9_loop : Scf.Loop 32 :=
  let c0_i32_76 : BitVec 32 := 0#32
  let c2304_i32_77 : BitVec 32 := 2304#32
  let v68 : BitVec 32 := Scalar.addi c0_i32_76 c2304_i32_77
  let c1_i32_78 : BitVec 32 := 1#32
  ⟨c0_i32_76, v68, c1_i32_78⟩
def k0_off58 (k0_t9 : Fin k0_t9_loop.trips) : Fin 3 → Nat :=
  let c0_i32_112 : BitVec 32 := 0#32
  let c0_i32_76 : BitVec 32 := 0#32
  let c1_i32_78 : BitVec 32 := 1#32
  let arg16 : BitVec 32 := Scf.iv c0_i32_76 c1_i32_78 k0_t9
  let c1_i32_111 : BitVec 32 := 1#32
  let v90 : BitVec 32 := Scalar.muli arg16 c1_i32_111
  let v91 : BitVec 32 := Scalar.addi c0_i32_112 v90
  let v92 : Index := Scalar.indexCast v91
  let c0_113 : Index := 0#32
  ![v92.toNat, 0, 0]
def k0_off59 (k0_t9 : Fin k0_t9_loop.trips) : Fin 4 → Nat :=
  let c0_114 : Index := 0#32
  let c0_115 : Index := 0#32
  let c2 : Index := 2#32
  let c0_i32_112 : BitVec 32 := 0#32
  let c0_i32_76 : BitVec 32 := 0#32
  let c1_i32_78 : BitVec 32 := 1#32
  let arg16 : BitVec 32 := Scf.iv c0_i32_76 c1_i32_78 k0_t9
  let c1_i32_111 : BitVec 32 := 1#32
  let v90 : BitVec 32 := Scalar.muli arg16 c1_i32_111
  let v91 : BitVec 32 := Scalar.addi c0_i32_112 v90
  let v94 : Index := Scalar.indexCast v91
  ![0, 0, 2, v94.toNat]
def k0_off60 (v95 : BitVec 32) : Fin 4 → Nat :=
  let c2_116 : Index := 2#32
  let v96 : Index := Scalar.indexCast v95
  let c0_117 : Index := 0#32
  ![2, v96.toNat, 0, 0]

def k0_chk3 (v95 : BitVec 32) : Prop :=
  (∀ a, (k0_off60 v95) a + S1x1x2x128.size a ≤ S4x2304x2x128.size a)
theorem k0_off60_inb : ∀ (v95 : BitVec 32) (k0_hw3 : k0_chk3 v95), ∀ a, (k0_off60 v95) a + S1x1x2x128.size a ≤ S4x2304x2x128.size a := fun v95 k0_hw3 => k0_hw3

@[reducible] def k0_t10_loop : Scf.Loop 32 :=
  let c0_i32_80 : BitVec 32 := 0#32
  let c18_i32_81 : BitVec 32 := 18#32
  let v69 : BitVec 32 := Scalar.addi c0_i32_80 c18_i32_81
  let c1_i32_82 : BitVec 32 := 1#32
  ⟨c0_i32_80, v69, c1_i32_82⟩
def k0_mult22 (k0_t10 : Fin k0_t10_loop.trips) : BitVec 32 :=
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  v92
def k0_mult23 (k0_t10 : Fin k0_t10_loop.trips) : BitVec 32 :=
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  v95
def k0_off61 (k0_t10 : Fin k0_t10_loop.trips) : Fin 4 → Nat :=
  let c0_114 : Index := 0#32
  let c3 : Index := 3#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v97 : Index := Scalar.indexCast v93
  let c0_115 : Index := 0#32
  ![0, 3, v97.toNat, 0]
def k0_off62 (k0_t10 : Fin k0_t10_loop.trips) : Fin 5 → Nat :=
  let c0_117 : Index := 0#32
  let c3_118 : Index := 3#32
  let c0_119 : Index := 0#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v103 : Index := Scalar.indexCast v93
  let c0_120 : Index := 0#32
  ![0, 3, 0, v103.toNat, 0]
def k0_off63 (k0_t10 : Fin k0_t10_loop.trips) : Fin 5 → Nat :=
  let c0_126 : Index := 0#32
  let c3_127 : Index := 3#32
  let c1_128 : Index := 1#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v124 : Index := Scalar.indexCast v93
  let c0_129 : Index := 0#32
  ![0, 3, 1, v124.toNat, 0]
def k0_off64 (k0_t10 : Fin k0_t10_loop.trips) : Fin 5 → Nat :=
  let c0_135 : Index := 0#32
  let c3_136 : Index := 3#32
  let c2 : Index := 2#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v145 : Index := Scalar.indexCast v93
  let c0_137 : Index := 0#32
  ![0, 3, 2, v145.toNat, 0]
def k0_off65 (k0_t10 : Fin k0_t10_loop.trips) : Fin 5 → Nat :=
  let c0_143 : Index := 0#32
  let c3_144 : Index := 3#32
  let c3_145 : Index := 3#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v166 : Index := Scalar.indexCast v93
  let c0_146 : Index := 0#32
  ![0, 3, 3, v166.toNat, 0]
def k0_off66 (k0_t10 : Fin k0_t10_loop.trips) : Fin 5 → Nat :=
  let c0_152 : Index := 0#32
  let c3_153 : Index := 3#32
  let c4 : Index := 4#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v187 : Index := Scalar.indexCast v93
  let c0_154 : Index := 0#32
  ![0, 3, 4, v187.toNat, 0]
def k0_off67 (k0_t10 : Fin k0_t10_loop.trips) : Fin 2 → Nat :=
  let c0_160 : Index := 0#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v209 : Index := Scalar.indexCast v96
  ![0, v209.toNat]
def k0_mult24 (k0_t10 : Fin k0_t10_loop.trips) : BitVec 32 :=
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  v214
def k0_off68 (k0_t10 : Fin k0_t10_loop.trips) : Fin 2 → Nat :=
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  let v215 : BitVec 32 := v214
  let v216 : Index := Scalar.indexCast v215
  let c0_162 : Index := 0#32
  ![v216.toNat, 0]
def k0_off69 (k0_t10 : Fin k0_t10_loop.trips) : Fin 2 → Nat :=
  let c0_163 : Index := 0#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v221 : Index := Scalar.indexCast v96
  ![0, v221.toNat]
def k0_off70 (k0_t10 : Fin k0_t10_loop.trips) : Fin 2 → Nat :=
  let c0_168 : Index := 0#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v234 : Index := Scalar.indexCast v96
  ![0, v234.toNat]
def k0_off71 (k0_t10 : Fin k0_t10_loop.trips) : Fin 2 → Nat :=
  let c1_169 : Index := 1#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v239 : Index := Scalar.indexCast v96
  ![1, v239.toNat]
@[reducible] def k0_t11_loop : Scf.Loop 32 :=
  let c0_i32_100 : BitVec 32 := 0#32
  let c18_i32_101 : BitVec 32 := 18#32
  let v87 : BitVec 32 := Scalar.addi c0_i32_100 c18_i32_101
  let c1_i32_102 : BitVec 32 := 1#32
  ⟨c0_i32_100, v87, c1_i32_102⟩
def k0_mult25 (k0_t11 : Fin k0_t11_loop.trips) : BitVec 32 :=
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  v92
def k0_mult26 (k0_t11 : Fin k0_t11_loop.trips) : BitVec 32 :=
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  v94
def k0_mult27 (k0_t11 : Fin k0_t11_loop.trips) : BitVec 32 :=
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  v97
def k0_mult28 (k0_t11 : Fin k0_t11_loop.trips) : BitVec 32 :=
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  v99
def k0_off72 (k0_t11 : Fin k0_t11_loop.trips) : Fin 2 → Nat :=
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v101 : Index := Scalar.indexCast v93
  let c0_117 : Index := 0#32
  ![v101.toNat, 0]
def k0_off73 (k0_t11 : Fin k0_t11_loop.trips) : Fin 2 → Nat :=
  let c0_118 : Index := 0#32
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v103 : Index := Scalar.indexCast v100
  ![0, v103.toNat]
def k0_off74 (k0_t11 : Fin k0_t11_loop.trips) : Fin 2 → Nat :=
  let c0_120 : Index := 0#32
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  let v95 : BitVec 32 := v94
  let v106 : Index := Scalar.indexCast v95
  ![0, v106.toNat]
def k0_off75 (k0_t11 : Fin k0_t11_loop.trips) : Fin 2 → Nat :=
  let c0_121 : Index := 0#32
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  let v98 : BitVec 32 := v97
  let v108 : Index := Scalar.indexCast v98
  ![0, v108.toNat]
def k0_off76 (k0_t11 : Fin k0_t11_loop.trips) : Fin 2 → Nat :=
  let c0_132 : Index := 0#32
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v157 : Index := Scalar.indexCast v100
  ![0, v157.toNat]
def k0_off77 (k0_t11 : Fin k0_t11_loop.trips) : Fin 3 → Nat :=
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v172 : Index := Scalar.indexCast v93
  let c0_135 : Index := 0#32
  ![v172.toNat, 0, 0]
@[reducible] def k0_t12_loop : Scf.Loop 32 :=
  let c0_i32_104 : BitVec 32 := 0#32
  let c2304_i32_105 : BitVec 32 := 2304#32
  let v88 : BitVec 32 := Scalar.addi c0_i32_104 c2304_i32_105
  let c1_i32_106 : BitVec 32 := 1#32
  ⟨c0_i32_104, v88, c1_i32_106⟩
def k0_off78 (k0_t12 : Fin k0_t12_loop.trips) : Fin 3 → Nat :=
  let c0_i32_112 : BitVec 32 := 0#32
  let c0_i32_104 : BitVec 32 := 0#32
  let c1_i32_106 : BitVec 32 := 1#32
  let arg16 : BitVec 32 := Scf.iv c0_i32_104 c1_i32_106 k0_t12
  let c1_i32_111 : BitVec 32 := 1#32
  let v90 : BitVec 32 := Scalar.muli arg16 c1_i32_111
  let v91 : BitVec 32 := Scalar.addi c0_i32_112 v90
  let v92 : Index := Scalar.indexCast v91
  let c0_113 : Index := 0#32
  ![v92.toNat, 0, 0]
def k0_off79 (k0_t12 : Fin k0_t12_loop.trips) : Fin 4 → Nat :=
  let c0_114 : Index := 0#32
  let c0_115 : Index := 0#32
  let c3 : Index := 3#32
  let c0_i32_112 : BitVec 32 := 0#32
  let c0_i32_104 : BitVec 32 := 0#32
  let c1_i32_106 : BitVec 32 := 1#32
  let arg16 : BitVec 32 := Scf.iv c0_i32_104 c1_i32_106 k0_t12
  let c1_i32_111 : BitVec 32 := 1#32
  let v90 : BitVec 32 := Scalar.muli arg16 c1_i32_111
  let v91 : BitVec 32 := Scalar.addi c0_i32_112 v90
  let v94 : Index := Scalar.indexCast v91
  ![0, 0, 3, v94.toNat]
def k0_off80 (v95 : BitVec 32) : Fin 4 → Nat :=
  let c3_116 : Index := 3#32
  let v96 : Index := Scalar.indexCast v95
  let c0_117 : Index := 0#32
  ![3, v96.toNat, 0, 0]

def k0_chk4 (v95 : BitVec 32) : Prop :=
  (∀ a, (k0_off80 v95) a + S1x1x2x128.size a ≤ S4x2304x2x128.size a)
theorem k0_off80_inb : ∀ (v95 : BitVec 32) (k0_hw4 : k0_chk4 v95), ∀ a, (k0_off80 v95) a + S1x1x2x128.size a ≤ S4x2304x2x128.size a := fun v95 k0_hw4 => k0_hw4

@[reducible] def k0_t13_loop : Scf.Loop 32 :=
  let c0_i32_108 : BitVec 32 := 0#32
  let c144_i32 : BitVec 32 := 144#32
  let v89 : BitVec 32 := Scalar.addi c0_i32_108 c144_i32
  let c1_i32_109 : BitVec 32 := 1#32
  ⟨c0_i32_108, v89, c1_i32_109⟩
def k0_off81 (k0_t13 : Fin k0_t13_loop.trips) : Fin 4 → Nat :=
  let c0_113 : Index := 0#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32 : BitVec 32 := 16#32
  let v93 : BitVec 32 := Scalar.muli v91 c16_i32
  let v94 : Index := Scalar.indexCast v93
  let c0_114 : Index := 0#32
  ![0, v94.toNat, 0, 0]
def k0_off82 (k0_t13 : Fin k0_t13_loop.trips) : Fin 4 → Nat :=
  let c1_116 : Index := 1#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_115 : BitVec 32 := 16#32
  let v97 : BitVec 32 := Scalar.muli v91 c16_i32_115
  let v98 : Index := Scalar.indexCast v97
  let c0_117 : Index := 0#32
  ![1, v98.toNat, 0, 0]
def k0_off83 (k0_t13 : Fin k0_t13_loop.trips) : Fin 4 → Nat :=
  let c2 : Index := 2#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_118 : BitVec 32 := 16#32
  let v101 : BitVec 32 := Scalar.muli v91 c16_i32_118
  let v102 : Index := Scalar.indexCast v101
  let c0_119 : Index := 0#32
  ![2, v102.toNat, 0, 0]
def k0_off84 (k0_t13 : Fin k0_t13_loop.trips) : Fin 4 → Nat :=
  let c3 : Index := 3#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_120 : BitVec 32 := 16#32
  let v105 : BitVec 32 := Scalar.muli v91 c16_i32_120
  let v106 : Index := Scalar.indexCast v105
  let c0_121 : Index := 0#32
  ![3, v106.toNat, 0, 0]
def k0_off85 (k0_t13 : Fin k0_t13_loop.trips) : Fin 4 → Nat :=
  let c0_124 : Index := 0#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_122 : BitVec 32 := 16#32
  let v109 : BitVec 32 := Scalar.muli v91 c16_i32_122
  let c1_i32_123 : BitVec 32 := 1#32
  let v110 : BitVec 32 := Scalar.addi v109 c1_i32_123
  let v111 : Index := Scalar.indexCast v110
  let c0_125 : Index := 0#32
  ![0, v111.toNat, 0, 0]
def k0_off86 (k0_t13 : Fin k0_t13_loop.trips) : Fin 4 → Nat :=
  let c1_128 : Index := 1#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_126 : BitVec 32 := 16#32
  let v114 : BitVec 32 := Scalar.muli v91 c16_i32_126
  let c1_i32_127 : BitVec 32 := 1#32
  let v115 : BitVec 32 := Scalar.addi v114 c1_i32_127
  let v116 : Index := Scalar.indexCast v115
  let c0_129 : Index := 0#32
  ![1, v116.toNat, 0, 0]
def k0_off87 (k0_t13 : Fin k0_t13_loop.trips) : Fin 4 → Nat :=
  let c2_132 : Index := 2#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_130 : BitVec 32 := 16#32
  let v119 : BitVec 32 := Scalar.muli v91 c16_i32_130
  let c1_i32_131 : BitVec 32 := 1#32
  let v120 : BitVec 32 := Scalar.addi v119 c1_i32_131
  let v121 : Index := Scalar.indexCast v120
  let c0_133 : Index := 0#32
  ![2, v121.toNat, 0, 0]
def k0_off88 (k0_t13 : Fin k0_t13_loop.trips) : Fin 4 → Nat :=
  let c3_136 : Index := 3#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_134 : BitVec 32 := 16#32
  let v124 : BitVec 32 := Scalar.muli v91 c16_i32_134
  let c1_i32_135 : BitVec 32 := 1#32
  let v125 : BitVec 32 := Scalar.addi v124 c1_i32_135
  let v126 : Index := Scalar.indexCast v125
  let c0_137 : Index := 0#32
  ![3, v126.toNat, 0, 0]
def k0_mult29 (k0_t13 : Fin k0_t13_loop.trips) : BitVec 32 :=
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_153 : BitVec 32 := 16#32
  let v179 : BitVec 32 := Scalar.muli v91 c16_i32_153
  v179
def k0_off89 (k0_t13 : Fin k0_t13_loop.trips) : Fin 3 → Nat :=
  let c0_154 : Index := 0#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_153 : BitVec 32 := 16#32
  let v179 : BitVec 32 := Scalar.muli v91 c16_i32_153
  let v180 : BitVec 32 := v179
  let v181 : Index := Scalar.indexCast v180
  let c0_155 : Index := 0#32
  ![0, v181.toNat, 0]
def k0_mult30 (k0_t13 : Fin k0_t13_loop.trips) : BitVec 32 :=
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_156 : BitVec 32 := 16#32
  let v186 : BitVec 32 := Scalar.muli v91 c16_i32_156
  v186
def k0_off90 (k0_t13 : Fin k0_t13_loop.trips) : Fin 3 → Nat :=
  let c0_157 : Index := 0#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_156 : BitVec 32 := 16#32
  let v186 : BitVec 32 := Scalar.muli v91 c16_i32_156
  let v187 : BitVec 32 := v186
  let v188 : Index := Scalar.indexCast v187
  let c128 : Index := 128#32
  ![0, v188.toNat, 128]
def k0_mult31 (k0_t13 : Fin k0_t13_loop.trips) : BitVec 32 :=
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_158 : BitVec 32 := 16#32
  let v193 : BitVec 32 := Scalar.muli v91 c16_i32_158
  v193
def k0_off91 (k0_t13 : Fin k0_t13_loop.trips) : Fin 3 → Nat :=
  let c0_159 : Index := 0#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_158 : BitVec 32 := 16#32
  let v193 : BitVec 32 := Scalar.muli v91 c16_i32_158
  let v194 : BitVec 32 := v193
  let v195 : Index := Scalar.indexCast v194
  let c256 : Index := 256#32
  ![0, v195.toNat, 256]
def k0_mult32 (k0_t13 : Fin k0_t13_loop.trips) : BitVec 32 :=
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_160 : BitVec 32 := 16#32
  let v200 : BitVec 32 := Scalar.muli v91 c16_i32_160
  v200
def k0_off92 (k0_t13 : Fin k0_t13_loop.trips) : Fin 3 → Nat :=
  let c0_161 : Index := 0#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_160 : BitVec 32 := 16#32
  let v200 : BitVec 32 := Scalar.muli v91 c16_i32_160
  let v201 : BitVec 32 := v200
  let v202 : Index := Scalar.indexCast v201
  let c384 : Index := 384#32
  ![0, v202.toNat, 384]
def k0_mult33 (k0_t13 : Fin k0_t13_loop.trips) : BitVec 32 :=
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_162 : BitVec 32 := 16#32
  let v207 : BitVec 32 := Scalar.muli v91 c16_i32_162
  v207
def k0_off93 (k0_t13 : Fin k0_t13_loop.trips) : Fin 3 → Nat :=
  let c0_163 : Index := 0#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_162 : BitVec 32 := 16#32
  let v207 : BitVec 32 := Scalar.muli v91 c16_i32_162
  let v208 : BitVec 32 := v207
  let v209 : Index := Scalar.indexCast v208
  let c512 : Index := 512#32
  ![0, v209.toNat, 512]
def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![v0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat, arg1.toNat]

abbrev stage0_0 : Fin 2 → Memref sig .tc .smem S1x1x4x2304 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x5x144x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x5x144x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x144x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2304x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S24x3x4x2304 : Shape := ⟨4, ![24, 3, 4, 2304]⟩
abbrev S8x12x5x144x128 : Shape := ⟨5, ![8, 12, 5, 144, 128]⟩
abbrev S8x12x144x128 : Shape := ⟨4, ![8, 12, 144, 128]⟩
abbrev S24x2304x1920 : Shape := ⟨3, ![24, 2304, 1920]⟩
abbrev S69120x128 : Shape := ⟨2, ![69120, 128]⟩
abbrev S276480x128 : Shape := ⟨2, ![276480, 128]⟩
abbrev S8x12x5x18x32x128 : Shape := ⟨6, ![8, 12, 5, 18, 32, 128]⟩
abbrev S8x12x18x128x5x32 : Shape := ⟨6, ![8, 12, 18, 128, 5, 32]⟩
abbrev S8x12x2304x160 : Shape := ⟨4, ![8, 12, 2304, 160]⟩
abbrev S8x12x18x8x128 : Shape := ⟨5, ![8, 12, 18, 8, 128]⟩
abbrev S8x12x18x128x8 : Shape := ⟨5, ![8, 12, 18, 128, 8]⟩
abbrev S8x12x2304x8 : Shape := ⟨4, ![8, 12, 2304, 8]⟩
abbrev S8x12x2304x5 : Shape := ⟨4, ![8, 12, 2304, 5]⟩
abbrev S8x12x2304x1 : Shape := ⟨4, ![8, 12, 2304, 1]⟩
abbrev S8x12x2304 : Shape := ⟨3, ![8, 12, 2304]⟩
abbrev S8x12x2304x5x32 : Shape := ⟨5, ![8, 12, 2304, 5, 32]⟩
abbrev S8x12x2304x5x1 : Shape := ⟨5, ![8, 12, 2304, 5, 1]⟩
abbrev S_ : Shape := ⟨0, ![]⟩
abbrev S8x12x36x64x160 : Shape := ⟨5, ![8, 12, 36, 64, 160]⟩
abbrev S8x12x1x64x160 : Shape := ⟨5, ![8, 12, 1, 64, 160]⟩
abbrev S8x12x35x64x160 : Shape := ⟨5, ![8, 12, 35, 64, 160]⟩
abbrev S8x12x36x128x160 : Shape := ⟨5, ![8, 12, 36, 128, 160]⟩
abbrev S8x12x36x64x128 : Shape := ⟨5, ![8, 12, 36, 64, 128]⟩
abbrev S8x12x36x64 : Shape := ⟨4, ![8, 12, 36, 64]⟩
abbrev S8x12x1x64 : Shape := ⟨4, ![8, 12, 1, 64]⟩
abbrev S8x12x35x64 : Shape := ⟨4, ![8, 12, 35, 64]⟩
abbrev S8x12x36x128 : Shape := ⟨4, ![8, 12, 36, 128]⟩
abbrev S8x12x36x1x128 : Shape := ⟨5, ![8, 12, 36, 1, 128]⟩
abbrev S36x64x128 : Shape := ⟨3, ![36, 64, 128]⟩
abbrev S1x1x36x64x128 : Shape := ⟨5, ![1, 1, 36, 64, 128]⟩
abbrev S8x12x36x64x1 : Shape := ⟨5, ![8, 12, 36, 64, 1]⟩
abbrev S8x3x4x2304 : Shape := ⟨4, ![8, 3, 4, 2304]⟩
abbrev S2304 : Shape := ⟨1, ![2304]⟩
abbrev S1x1x1x2304 : Shape := ⟨4, ![1, 1, 1, 2304]⟩
abbrev S8x12x2304x2304 : Shape := ⟨4, ![8, 12, 2304, 2304]⟩
abbrev S8x12x160x2304 : Shape := ⟨4, ![8, 12, 160, 2304]⟩
abbrev S8x2304x12x160 : Shape := ⟨4, ![8, 2304, 12, 160]⟩
abbrev S8x2304x1920 : Shape := ⟨3, ![8, 2304, 1920]⟩

abbrev nBuf : Space → Nat
  | .hbm => 150
  | .vmem => 4
  | .smem => 0
  | _ => 0

abbrev hbmTy0_0 (i : Nat) : BufTy := match i % 128 with
  | 0 => ⟨S24x3x4x2304, .i32⟩
  | 1 => ⟨S8x12x5x144x128, .i32⟩
  | 2 => ⟨S8x12x5x144x128, .i32⟩
  | 3 => ⟨S8x12x144x128, .f32⟩
  | 4 => ⟨S24x2304x1920, .bf16⟩
  | 5 => ⟨S69120x128, .i32⟩
  | 6 => ⟨S69120x128, .i32⟩
  | 7 => ⟨S276480x128, .bf16⟩
  | 8 => ⟨S276480x128, .bf16⟩
  | 9 => ⟨S8x12x5x18x32x128, .bf16⟩
  | 10 => ⟨S8x12x18x128x5x32, .bf16⟩
  | 11 => ⟨S8x12x2304x160, .bf16⟩
  | 12 => ⟨S8x12x5x18x32x128, .bf16⟩
  | 13 => ⟨S8x12x18x128x5x32, .bf16⟩
  | 14 => ⟨S8x12x2304x160, .bf16⟩
  | 15 => ⟨S8x12x18x8x128, .f32⟩
  | 16 => ⟨S8x12x18x128x8, .f32⟩
  | 17 => ⟨S8x12x2304x8, .f32⟩
  | 18 => ⟨S8x12x2304x5, .f32⟩
  | 19 => ⟨S8x12x2304x1, .f32⟩
  | 20 => ⟨S8x12x2304, .f32⟩
  | 21 => ⟨S8x12x2304x1, .f32⟩
  | 22 => ⟨S8x12x2304, .f32⟩
  | 23 => ⟨S8x12x2304x5x32, .bf16⟩
  | 24 => ⟨S8x12x2304x5, .bf16⟩
  | 25 => ⟨S8x12x2304x5x1, .bf16⟩
  | 26 => ⟨S8x12x2304x5x32, .bf16⟩
  | 27 => ⟨S8x12x2304x5x32, .bf16⟩
  | 28 => ⟨S8x12x2304x160, .bf16⟩
  | 29 => ⟨S8x12x2304x160, .f32⟩
  | 30 => ⟨S8x12x2304x160, .f32⟩
  | 31 => ⟨S_, .f32⟩
  | 32 => ⟨S8x12x2304, .f32⟩
  | 33 => ⟨S_, .f32⟩
  | 34 => ⟨S8x12x2304, .f32⟩
  | 35 => ⟨S8x12x2304, .f32⟩
  | 36 => ⟨S_, .f32⟩
  | 37 => ⟨S8x12x2304, .f32⟩
  | 38 => ⟨S8x12x2304, .f32⟩
  | 39 => ⟨S8x12x2304, .f32⟩
  | 40 => ⟨S_, .f32⟩
  | 41 => ⟨S_, .f32⟩
  | 42 => ⟨S8x12x2304, .f32⟩
  | 43 => ⟨S8x12x2304, .f32⟩
  | 44 => ⟨S8x12x36x64x160, .bf16⟩
  | 45 => ⟨S8x12x1x64x160, .bf16⟩
  | 46 => ⟨S8x12x35x64x160, .bf16⟩
  | 47 => ⟨S8x12x36x64x160, .bf16⟩
  | 48 => ⟨S8x12x36x128x160, .bf16⟩
  | 49 => ⟨S8x12x36x64x128, .f32⟩
  | 50 => ⟨S8x12x36x64, .f32⟩
  | 51 => ⟨S8x12x1x64, .f32⟩
  | 52 => ⟨S8x12x35x64, .f32⟩
  | 53 => ⟨S8x12x36x64, .f32⟩
  | 54 => ⟨S8x12x36x128, .f32⟩
  | 55 => ⟨S8x12x36x1x128, .f32⟩
  | 56 => ⟨S8x12x36x64x128, .f32⟩
  | 57 => ⟨S8x12x36x64x128, .f32⟩
  | 58 => ⟨S36x64x128, .i32⟩
  | 59 => ⟨S36x64x128, .i32⟩
  | 60 => ⟨S36x64x128, .i32⟩
  | 61 => ⟨S_, .i32⟩
  | 62 => ⟨S36x64x128, .i32⟩
  | 63 => ⟨S36x64x128, .i32⟩
  | 64 => ⟨S_, .i32⟩
  | 65 => ⟨S36x64x128, .i32⟩
  | 66 => ⟨S36x64x128, .i1⟩
  | 67 => ⟨S_, .i32⟩
  | 68 => ⟨S36x64x128, .i32⟩
  | 69 => ⟨S36x64x128, .i1⟩
  | 70 => ⟨S36x64x128, .i1⟩
  | 71 => ⟨S36x64x128, .i1⟩
  | 72 => ⟨S36x64x128, .i32⟩
  | 73 => ⟨S_, .i32⟩
  | 74 => ⟨S36x64x128, .i32⟩
  | 75 => ⟨S36x64x128, .i32⟩
  | 76 => ⟨S_, .i32⟩
  | 77 => ⟨S_, .i32⟩
  | 78 => ⟨S36x64x128, .i32⟩
  | 79 => ⟨S36x64x128, .i32⟩
  | 80 => ⟨S36x64x128, .f32⟩
  | 81 => ⟨S8x12x36x64, .f32⟩
  | 82 => ⟨S8x12x1x64, .f32⟩
  | 83 => ⟨S8x12x35x64, .f32⟩
  | 84 => ⟨S8x12x36x64, .f32⟩
  | 85 => ⟨S8x12x36x128, .f32⟩
  | 86 => ⟨S8x12x36x1x128, .f32⟩
  | 87 => ⟨S1x1x36x64x128, .f32⟩
  | 88 => ⟨S8x12x36x64x128, .f32⟩
  | 89 => ⟨S8x12x36x64x128, .f32⟩
  | 90 => ⟨S8x12x36x64x128, .i1⟩
  | 91 => ⟨S1x1x36x64x128, .i1⟩
  | 92 => ⟨S8x12x36x64x128, .i1⟩
  | 93 => ⟨S8x12x36x64x128, .i1⟩
  | 94 => ⟨S36x64x128, .i1⟩
  | 95 => ⟨S_, .f32⟩
  | 96 => ⟨S_, .f32⟩
  | 97 => ⟨S36x64x128, .f32⟩
  | 98 => ⟨S36x64x128, .f32⟩
  | 99 => ⟨S36x64x128, .f32⟩
  | 100 => ⟨S36x64x128, .f32⟩
  | 101 => ⟨S8x12x36x64x128, .f32⟩
  | 102 => ⟨S8x12x36x64x128, .f32⟩
  | 103 => ⟨S_, .f32⟩
  | 104 => ⟨S8x12x36x64, .f32⟩
  | 105 => ⟨S8x12x36x64x1, .f32⟩
  | 106 => ⟨S8x12x36x64x128, .f32⟩
  | 107 => ⟨S8x12x36x64x128, .f32⟩
  | 108 => ⟨S8x12x36x64x128, .f32⟩
  | 109 => ⟨S_, .f32⟩
  | 110 => ⟨S8x12x36x64, .f32⟩
  | 111 => ⟨S8x12x36x64x1, .f32⟩
  | 112 => ⟨S_, .f32⟩
  | 113 => ⟨S8x12x36x64x1, .f32⟩
  | 114 => ⟨S8x12x36x64x1, .f32⟩
  | 115 => ⟨S8x12x36x64x128, .f32⟩
  | 116 => ⟨S8x12x36x64x128, .f32⟩
  | 117 => ⟨S8x12x36x64, .f32⟩
  | 118 => ⟨S8x12x1x64, .f32⟩
  | 119 => ⟨S8x12x35x64, .f32⟩
  | 120 => ⟨S8x12x36x64, .f32⟩
  | 121 => ⟨S8x12x36x128, .f32⟩
  | 122 => ⟨S8x12x36x1x128, .f32⟩
  | 123 => ⟨S8x12x36x64x128, .f32⟩
  | 124 => ⟨S8x12x36x64x128, .f32⟩
  | 125 => ⟨S8x12x36x64x128, .bf16⟩
  | 126 => ⟨S8x12x36x64x160, .bf16⟩
  | 127 => ⟨S8x12x1x64x160, .bf16⟩
  | _ => ⟨S24x3x4x2304, .i32⟩

abbrev hbmTy0_1 (i : Nat) : BufTy := match i % 128 with
  | 0 => ⟨S8x12x35x64x160, .bf16⟩
  | 1 => ⟨S8x12x36x64x160, .bf16⟩
  | 2 => ⟨S8x12x36x128x160, .bf16⟩
  | 3 => ⟨S8x12x36x64x160, .f32⟩
  | 4 => ⟨S8x12x36x64x160, .bf16⟩
  | 5 => ⟨S8x12x2304x160, .bf16⟩
  | 6 => ⟨S8x3x4x2304, .i32⟩
  | 7 => ⟨S8x12x2304, .i32⟩
  | 8 => ⟨S8x12x2304x1, .i32⟩
  | 9 => ⟨S2304, .i32⟩
  | 10 => ⟨S1x1x1x2304, .i32⟩
  | 11 => ⟨S8x12x2304x2304, .i32⟩
  | 12 => ⟨S8x12x2304x2304, .i32⟩
  | 13 => ⟨S8x12x2304x2304, .i1⟩
  | 14 => ⟨S8x12x2304x2304, .bf16⟩
  | 15 => ⟨S8x12x160x2304, .f32⟩
  | 16 => ⟨S8x2304x12x160, .f32⟩
  | 17 => ⟨S8x2304x12x160, .bf16⟩
  | 18 => ⟨S8x2304x1920, .bf16⟩
  | 19 => ⟨S8x2304x1920, .bf16⟩
  | 20 => ⟨S8x2304x1920, .bf16⟩
  | 21 => ⟨S24x2304x1920, .bf16⟩
  | _ => ⟨S24x3x4x2304, .i32⟩

abbrev hbmTy (i : Nat) : BufTy := match i / 128 with
  | 0 => hbmTy0_0 i
  | 1 => hbmTy0_1 i
  | _ => ⟨S24x3x4x2304, .i32⟩

abbrev bufTy : (tb : Table) → Fin (tcTables nBuf tb) → BufTy
  | .hbm, ⟨i, _⟩ => hbmTy i
  | .local _ .vmem, ⟨0, _⟩ => ⟨S69120x128, .i32⟩
  | .local _ .vmem, ⟨1, _⟩ => ⟨S69120x128, .i32⟩
  | .local _ .vmem, ⟨2, _⟩ => ⟨S276480x128, .bf16⟩
  | .local _ .vmem, ⟨3, _⟩ => ⟨S276480x128, .bf16⟩
  | _, _ => ⟨S24x3x4x2304, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_v25 : Ref sig .tc := ⟨.hbm, 32, rfl⟩
abbrev main_cst_0 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_c : Ref sig .tc := ⟨.hbm, 61, rfl⟩
abbrev main_v51 : Ref sig .tc := ⟨.hbm, 62, rfl⟩
abbrev main_v52 : Ref sig .tc := ⟨.hbm, 63, rfl⟩
abbrev main_c_3 : Ref sig .tc := ⟨.hbm, 64, rfl⟩
abbrev main_v53 : Ref sig .tc := ⟨.hbm, 65, rfl⟩
abbrev main_v54 : Ref sig .tc := ⟨.hbm, 66, rfl⟩
abbrev main_c_4 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_c_5 : Ref sig .tc := ⟨.hbm, 73, rfl⟩
abbrev main_v60 : Ref sig .tc := ⟨.hbm, 74, rfl⟩
abbrev main_v61 : Ref sig .tc := ⟨.hbm, 75, rfl⟩
abbrev main_c_6 : Ref sig .tc := ⟨.hbm, 76, rfl⟩
abbrev main_call0_v0 : Ref sig .tc := ⟨.hbm, 77, rfl⟩
abbrev main_call0_v1 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_7 : Ref sig .tc := ⟨.hbm, 95, rfl⟩
abbrev main_cst_8 : Ref sig .tc := ⟨.hbm, 96, rfl⟩
abbrev main_call1_v0 : Ref sig .tc := ⟨.hbm, 97, rfl⟩
abbrev main_call1_v1 : Ref sig .tc := ⟨.hbm, 98, rfl⟩
abbrev main_v78 : Ref sig .tc := ⟨.hbm, 99, rfl⟩
abbrev main_call2_v0 : Ref sig .tc := ⟨.hbm, 100, rfl⟩
abbrev main_call2_v1 : Ref sig .tc := ⟨.hbm, 101, rfl⟩
abbrev main_v79 : Ref sig .tc := ⟨.hbm, 102, rfl⟩
abbrev main_cst_9 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_10 : Ref sig .tc := ⟨.hbm, 109, rfl⟩
abbrev main_v85 : Ref sig .tc := ⟨.hbm, 110, rfl⟩
abbrev main_v86 : Ref sig .tc := ⟨.hbm, 111, rfl⟩
abbrev main_cst_11 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S69120x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S69120x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S276480x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S276480x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== LastKernel.lean ====
abbrev S24x3x4x2304 : Shape := ⟨4, ![24, 3, 4, 2304]⟩
abbrev S8x12x5x144x128 : Shape := ⟨5, ![8, 12, 5, 144, 128]⟩
abbrev S8x12x144x128 : Shape := ⟨4, ![8, 12, 144, 128]⟩
abbrev S24x2304x1920 : Shape := ⟨3, ![24, 2304, 1920]⟩
abbrev S128x128 : Shape := ⟨2, ![128, 128]⟩
abbrev S_ : Shape := ⟨0, ![]⟩
abbrev S1x1x4x2304 : Shape := ⟨4, ![1, 1, 4, 2304]⟩
abbrev S1x4x5x144x128 : Shape := ⟨5, ![1, 4, 5, 144, 128]⟩
abbrev S1x4x144x128 : Shape := ⟨4, ![1, 4, 144, 128]⟩
abbrev S1x2304x640 : Shape := ⟨3, ![1, 2304, 640]⟩
abbrev S160x2432 : Shape := ⟨2, ![160, 2432]⟩
abbrev S2304x160 : Shape := ⟨2, ![2304, 160]⟩
abbrev S176x2432 : Shape := ⟨2, ![176, 2432]⟩
abbrev S8x2432 : Shape := ⟨2, ![8, 2432]⟩
abbrev S4x2304x128 : Shape := ⟨3, ![4, 2304, 128]⟩
abbrev S2304x128 : Shape := ⟨2, ![2304, 128]⟩
abbrev S1x128 : Shape := ⟨2, ![1, 128]⟩
abbrev S64x128 : Shape := ⟨2, ![64, 128]⟩
abbrev S16x128 : Shape := ⟨2, ![16, 128]⟩
abbrev S1x1x8x128 : Shape := ⟨4, ![1, 1, 8, 128]⟩
abbrev S8x128 : Shape := ⟨2, ![8, 128]⟩
abbrev S1x1x1x8x128 : Shape := ⟨5, ![1, 1, 1, 8, 128]⟩
abbrev S32x128 : Shape := ⟨2, ![32, 128]⟩
abbrev S4x8x128 : Shape := ⟨3, ![4, 8, 128]⟩
abbrev S160x128 : Shape := ⟨2, ![160, 128]⟩
abbrev S128x160 : Shape := ⟨2, ![128, 160]⟩
abbrev S176x128 : Shape := ⟨2, ![176, 128]⟩
abbrev S128 : Shape := ⟨1, ![128]⟩
abbrev S96x128 : Shape := ⟨2, ![96, 128]⟩
abbrev S160x256 : Shape := ⟨2, ![160, 256]⟩
abbrev S128x256 : Shape := ⟨2, ![128, 256]⟩
abbrev S2x128 : Shape := ⟨2, ![2, 128]⟩
abbrev S64 : Shape := ⟨1, ![64]⟩
abbrev S64x1 : Shape := ⟨2, ![64, 1]⟩
abbrev S64x256 : Shape := ⟨2, ![64, 256]⟩
abbrev S176x256 : Shape := ⟨2, ![176, 256]⟩
abbrev S1x1x1x1 : Shape := ⟨4, ![1, 1, 1, 1]⟩
abbrev S1x1x128 : Shape := ⟨3, ![1, 1, 128]⟩
abbrev S1x8x128 : Shape := ⟨3, ![1, 8, 128]⟩
abbrev S1x16x128 : Shape := ⟨3, ![1, 16, 128]⟩

abbrev nBuf : Space → Nat
  | .hbm => 39
  | .vmem => 16
  | .smem => 2
  | _ => 0

abbrev bufTy : (tb : Table) → Fin (tcTables nBuf tb) → BufTy
  | .hbm, ⟨0, _⟩ => ⟨S24x3x4x2304, .i32⟩
  | .hbm, ⟨1, _⟩ => ⟨S8x12x5x144x128, .i32⟩
  | .hbm, ⟨2, _⟩ => ⟨S8x12x5x144x128, .i32⟩
  | .hbm, ⟨3, _⟩ => ⟨S8x12x144x128, .f32⟩
  | .hbm, ⟨4, _⟩ => ⟨S24x2304x1920, .bf16⟩
  | .hbm, ⟨5, _⟩ => ⟨S128x128, .i32⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i1⟩
  | .hbm, ⟨10, _⟩ => ⟨S_, .i32⟩
  | .hbm, ⟨11, _⟩ => ⟨S128x128, .i32⟩
  | .hbm, ⟨12, _⟩ => ⟨S128x128, .i1⟩
  | .hbm, ⟨13, _⟩ => ⟨S128x128, .i1⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S128x128, .i32⟩
  | .hbm, ⟨18, _⟩ => ⟨S128x128, .i1⟩
  | .hbm, ⟨19, _⟩ => ⟨S128x128, .i32⟩
  | .hbm, ⟨20, _⟩ => ⟨S_, .i32⟩
  | .hbm, ⟨21, _⟩ => ⟨S128x128, .i32⟩
  | .hbm, ⟨22, _⟩ => ⟨S128x128, .i32⟩
  | .hbm, ⟨23, _⟩ => ⟨S_, .i32⟩
  | .hbm, ⟨24, _⟩ => ⟨S_, .i32⟩
  | .hbm, ⟨25, _⟩ => ⟨S128x128, .i32⟩
  | .hbm, ⟨26, _⟩ => ⟨S128x128, .i32⟩
  | .hbm, ⟨27, _⟩ => ⟨S128x128, .f32⟩
  | .hbm, ⟨28, _⟩ => ⟨S128x128, .i1⟩
  | .hbm, ⟨29, _⟩ => ⟨S_, .f32⟩
  | .hbm, ⟨30, _⟩ => ⟨S_, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S_, .f32⟩
  | .hbm, ⟨35, _⟩ => ⟨S_, .f32⟩
  | .hbm, ⟨36, _⟩ => ⟨S128x128, .f32⟩
  | .hbm, ⟨37, _⟩ => ⟨S128x128, .f32⟩
  | .hbm, ⟨38, _⟩ => ⟨S24x2304x1920, .bf16⟩
  | .local _ .vmem, ⟨0, _⟩ => ⟨S1x4x5x144x128, .i32⟩
  | .local _ .vmem, ⟨1, _⟩ => ⟨S1x4x5x144x128, .i32⟩
  | .local _ .vmem, ⟨2, _⟩ => ⟨S1x4x5x144x128, .i32⟩
  | .local _ .vmem, ⟨3, _⟩ => ⟨S1x4x5x144x128, .i32⟩
  | .local _ .vmem, ⟨4, _⟩ => ⟨S1x4x144x128, .f32⟩
  | .local _ .vmem, ⟨5, _⟩ => ⟨S1x4x144x128, .f32⟩
  | .local _ .vmem, ⟨6, _⟩ => ⟨S128x128, .f32⟩
  | .local _ .vmem, ⟨7, _⟩ => ⟨S128x128, .f32⟩
  | .local _ .vmem, ⟨8, _⟩ => ⟨S1x2304x640, .bf16⟩
  | .local _ .vmem, ⟨9, _⟩ => ⟨S1x2304x640, .bf16⟩
  | .local _ .vmem, ⟨10, _⟩ => ⟨S160x2432, .bf16⟩
  | .local _ .vmem, ⟨11, _⟩ => ⟨S2304x160, .bf16⟩
  | .local _ .vmem, ⟨12, _⟩ => ⟨S176x2432, .bf16⟩
  | .local _ .vmem, ⟨13, _⟩ => ⟨S8x2432, .f32⟩
  | .local _ .vmem, ⟨14, _⟩ => ⟨S4x2304x128, .i32⟩
  | .local _ .vmem, ⟨15, _⟩ => ⟨S2304x128, .i32⟩
  | .local _ .smem, ⟨0, _⟩ => ⟨S1x1x4x2304, .i32⟩
  | .local _ .smem, ⟨1, _⟩ => ⟨S1x1x4x2304, .i32⟩
  | _, _ => ⟨S24x3x4x2304, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_call1_v0 : Ref sig .tc := ⟨.hbm, 24, rfl⟩
abbrev main_call1_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_cst_4 : Ref sig .tc := ⟨.hbm, 30, rfl⟩
abbrev main_call2_v0 : Ref sig .tc := ⟨.hbm, 31, rfl⟩
abbrev main_call2_v1 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [BitOps F]

abbrev grid0 : Pipeline.Grid := ⟨2, ![8, 3], ![false, false]⟩

@[reducible] def k0_t1_loop : Scf.Loop 32 :=
  let c0_i32 : BitVec 32 := 0#32
  let c18_i32 : BitVec 32 := 18#32
  let v7 : BitVec 32 := Scalar.addi c0_i32 c18_i32
  let c1_i32 : BitVec 32 := 1#32
  ⟨c0_i32, v7, c1_i32⟩
def k0_mult1 (k0_t1 : Fin k0_t1_loop.trips) : BitVec 32 :=
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  v92
def k0_mult2 (k0_t1 : Fin k0_t1_loop.trips) : BitVec 32 :=
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  v95
def k0_off1 (k0_t1 : Fin k0_t1_loop.trips) : Fin 4 → Nat :=
  let c0_114 : Index := 0#32
  let c0_115 : Index := 0#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v97 : Index := Scalar.indexCast v93
  let c0_116 : Index := 0#32
  ![0, 0, v97.toNat, 0]
def k0_off2 (k0_t1 : Fin k0_t1_loop.trips) : Fin 5 → Nat :=
  let c0_118 : Index := 0#32
  let c0_119 : Index := 0#32
  let c0_120 : Index := 0#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v103 : Index := Scalar.indexCast v93
  let c0_121 : Index := 0#32
  ![0, 0, 0, v103.toNat, 0]
def k0_off3 (k0_t1 : Fin k0_t1_loop.trips) : Fin 5 → Nat :=
  let c0_127 : Index := 0#32
  let c0_128 : Index := 0#32
  let c1_129 : Index := 1#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v124 : Index := Scalar.indexCast v93
  let c0_130 : Index := 0#32
  ![0, 0, 1, v124.toNat, 0]
def k0_off4 (k0_t1 : Fin k0_t1_loop.trips) : Fin 5 → Nat :=
  let c0_136 : Index := 0#32
  let c0_137 : Index := 0#32
  let c2 : Index := 2#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v145 : Index := Scalar.indexCast v93
  let c0_138 : Index := 0#32
  ![0, 0, 2, v145.toNat, 0]
def k0_off5 (k0_t1 : Fin k0_t1_loop.trips) : Fin 5 → Nat :=
  let c0_144 : Index := 0#32
  let c0_145 : Index := 0#32
  let c3 : Index := 3#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v166 : Index := Scalar.indexCast v93
  let c0_146 : Index := 0#32
  ![0, 0, 3, v166.toNat, 0]
def k0_off6 (k0_t1 : Fin k0_t1_loop.trips) : Fin 5 → Nat :=
  let c0_152 : Index := 0#32
  let c0_153 : Index := 0#32
  let c4 : Index := 4#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v187 : Index := Scalar.indexCast v93
  let c0_154 : Index := 0#32
  ![0, 0, 4, v187.toNat, 0]
def k0_off7 (k0_t1 : Fin k0_t1_loop.trips) : Fin 2 → Nat :=
  let c0_160 : Index := 0#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v209 : Index := Scalar.indexCast v96
  ![0, v209.toNat]
def k0_mult3 (k0_t1 : Fin k0_t1_loop.trips) : BitVec 32 :=
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  v214
def k0_off8 (k0_t1 : Fin k0_t1_loop.trips) : Fin 2 → Nat :=
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  let v215 : BitVec 32 := v214
  let v216 : Index := Scalar.indexCast v215
  let c0_162 : Index := 0#32
  ![v216.toNat, 0]
def k0_off9 (k0_t1 : Fin k0_t1_loop.trips) : Fin 2 → Nat :=
  let c0_163 : Index := 0#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v221 : Index := Scalar.indexCast v96
  ![0, v221.toNat]
def k0_off10 (k0_t1 : Fin k0_t1_loop.trips) : Fin 2 → Nat :=
  let c0_168 : Index := 0#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v234 : Index := Scalar.indexCast v96
  ![0, v234.toNat]
def k0_off11 (k0_t1 : Fin k0_t1_loop.trips) : Fin 2 → Nat :=
  let c1_169 : Index := 1#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v239 : Index := Scalar.indexCast v96
  ![1, v239.toNat]
@[reducible] def k0_t2_loop : Scf.Loop 32 :=
  let c0_i32_15 : BitVec 32 := 0#32
  let c18_i32_16 : BitVec 32 := 18#32
  let v25 : BitVec 32 := Scalar.addi c0_i32_15 c18_i32_16
  let c1_i32_17 : BitVec 32 := 1#32
  ⟨c0_i32_15, v25, c1_i32_17⟩
def k0_mult4 (k0_t2 : Fin k0_t2_loop.trips) : BitVec 32 :=
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  v92
def k0_mult5 (k0_t2 : Fin k0_t2_loop.trips) : BitVec 32 :=
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  v94
def k0_mult6 (k0_t2 : Fin k0_t2_loop.trips) : BitVec 32 :=
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  v97
def k0_mult7 (k0_t2 : Fin k0_t2_loop.trips) : BitVec 32 :=
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  v99
def k0_off12 (k0_t2 : Fin k0_t2_loop.trips) : Fin 2 → Nat :=
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v101 : Index := Scalar.indexCast v93
  let c0_117 : Index := 0#32
  ![v101.toNat, 0]
def k0_off13 (k0_t2 : Fin k0_t2_loop.trips) : Fin 2 → Nat :=
  let c0_118 : Index := 0#32
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v103 : Index := Scalar.indexCast v100
  ![0, v103.toNat]
def k0_off14 (k0_t2 : Fin k0_t2_loop.trips) : Fin 2 → Nat :=
  let c0_120 : Index := 0#32
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  let v95 : BitVec 32 := v94
  let v106 : Index := Scalar.indexCast v95
  ![0, v106.toNat]
def k0_off15 (k0_t2 : Fin k0_t2_loop.trips) : Fin 2 → Nat :=
  let c0_121 : Index := 0#32
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  let v98 : BitVec 32 := v97
  let v108 : Index := Scalar.indexCast v98
  ![0, v108.toNat]
def k0_off16 (k0_t2 : Fin k0_t2_loop.trips) : Fin 2 → Nat :=
  let c0_132 : Index := 0#32
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v157 : Index := Scalar.indexCast v100
  ![0, v157.toNat]
def k0_off17 (k0_t2 : Fin k0_t2_loop.trips) : Fin 2 → Nat :=
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v172 : Index := Scalar.indexCast v93
  let c0_135 : Index := 0#32
  ![v172.toNat, 0]
@[reducible] def k0_t3_loop : Scf.Loop 32 :=
  let c0_i32_19 : BitVec 32 := 0#32
  let c2304_i32 : BitVec 32 := 2304#32
  let v26 : BitVec 32 := Scalar.addi c0_i32_19 c2304_i32
  let c1_i32_20 : BitVec 32 := 1#32
  ⟨c0_i32_19, v26, c1_i32_20⟩
def k0_off18 (k0_t3 : Fin k0_t3_loop.trips) : Fin 2 → Nat :=
  let c0_i32_112 : BitVec 32 := 0#32
  let c0_i32_19 : BitVec 32 := 0#32
  let c1_i32_20 : BitVec 32 := 1#32
  let arg16 : BitVec 32 := Scf.iv c0_i32_19 c1_i32_20 k0_t3
  let c1_i32_111 : BitVec 32 := 1#32
  let v90 : BitVec 32 := Scalar.muli arg16 c1_i32_111
  let v91 : BitVec 32 := Scalar.addi c0_i32_112 v90
  let v92 : Index := Scalar.indexCast v91
  let c0_113 : Index := 0#32
  ![v92.toNat, 0]
def k0_off19 (k0_t3 : Fin k0_t3_loop.trips) : Fin 4 → Nat :=
  let c0_114 : Index := 0#32
  let c0_115 : Index := 0#32
  let c0_116 : Index := 0#32
  let c0_i32_112 : BitVec 32 := 0#32
  let c0_i32_19 : BitVec 32 := 0#32
  let c1_i32_20 : BitVec 32 := 1#32
  let arg16 : BitVec 32 := Scf.iv c0_i32_19 c1_i32_20 k0_t3
  let c1_i32_111 : BitVec 32 := 1#32
  let v90 : BitVec 32 := Scalar.muli arg16 c1_i32_111
  let v91 : BitVec 32 := Scalar.addi c0_i32_112 v90
  let v94 : Index := Scalar.indexCast v91
  ![0, 0, 0, v94.toNat]
def k0_off20 (v95 : BitVec 32) : Fin 3 → Nat :=
  let c0_117 : Index := 0#32
  let v96 : Index := Scalar.indexCast v95
  let c0_118 : Index := 0#32
  ![0, v96.toNat, 0]

def k0_chk1 (v95 : BitVec 32) : Prop :=
  (∀ a, (k0_off20 v95) a + S1x1x128.size a ≤ S4x2304x128.size a)
theorem k0_off20_inb : ∀ (v95 : BitVec 32) (k0_hw1 : k0_chk1 v95), ∀ a, (k0_off20 v95) a + S1x1x128.size a ≤ S4x2304x128.size a := fun v95 k0_hw1 => k0_hw1

@[reducible] def k0_t4_loop : Scf.Loop 32 :=
  let c0_i32_22 : BitVec 32 := 0#32
  let c18_i32_23 : BitVec 32 := 18#32
  let v27 : BitVec 32 := Scalar.addi c0_i32_22 c18_i32_23
  let c1_i32_24 : BitVec 32 := 1#32
  ⟨c0_i32_22, v27, c1_i32_24⟩
def k0_mult8 (k0_t4 : Fin k0_t4_loop.trips) : BitVec 32 :=
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  v92
def k0_mult9 (k0_t4 : Fin k0_t4_loop.trips) : BitVec 32 :=
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  v95
def k0_off21 (k0_t4 : Fin k0_t4_loop.trips) : Fin 4 → Nat :=
  let c0_114 : Index := 0#32
  let c1_115 : Index := 1#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v97 : Index := Scalar.indexCast v93
  let c0_116 : Index := 0#32
  ![0, 1, v97.toNat, 0]
def k0_off22 (k0_t4 : Fin k0_t4_loop.trips) : Fin 5 → Nat :=
  let c0_118 : Index := 0#32
  let c1_119 : Index := 1#32
  let c0_120 : Index := 0#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v103 : Index := Scalar.indexCast v93
  let c0_121 : Index := 0#32
  ![0, 1, 0, v103.toNat, 0]
def k0_off23 (k0_t4 : Fin k0_t4_loop.trips) : Fin 5 → Nat :=
  let c0_127 : Index := 0#32
  let c1_128 : Index := 1#32
  let c1_129 : Index := 1#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v124 : Index := Scalar.indexCast v93
  let c0_130 : Index := 0#32
  ![0, 1, 1, v124.toNat, 0]
def k0_off24 (k0_t4 : Fin k0_t4_loop.trips) : Fin 5 → Nat :=
  let c0_136 : Index := 0#32
  let c1_137 : Index := 1#32
  let c2 : Index := 2#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v145 : Index := Scalar.indexCast v93
  let c0_138 : Index := 0#32
  ![0, 1, 2, v145.toNat, 0]
def k0_off25 (k0_t4 : Fin k0_t4_loop.trips) : Fin 5 → Nat :=
  let c0_144 : Index := 0#32
  let c1_145 : Index := 1#32
  let c3 : Index := 3#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v166 : Index := Scalar.indexCast v93
  let c0_146 : Index := 0#32
  ![0, 1, 3, v166.toNat, 0]
def k0_off26 (k0_t4 : Fin k0_t4_loop.trips) : Fin 5 → Nat :=
  let c0_152 : Index := 0#32
  let c1_153 : Index := 1#32
  let c4 : Index := 4#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v187 : Index := Scalar.indexCast v93
  let c0_154 : Index := 0#32
  ![0, 1, 4, v187.toNat, 0]
def k0_off27 (k0_t4 : Fin k0_t4_loop.trips) : Fin 2 → Nat :=
  let c0_160 : Index := 0#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v209 : Index := Scalar.indexCast v96
  ![0, v209.toNat]
def k0_mult10 (k0_t4 : Fin k0_t4_loop.trips) : BitVec 32 :=
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  v214
def k0_off28 (k0_t4 : Fin k0_t4_loop.trips) : Fin 2 → Nat :=
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  let v215 : BitVec 32 := v214
  let v216 : Index := Scalar.indexCast v215
  let c0_162 : Index := 0#32
  ![v216.toNat, 0]
def k0_off29 (k0_t4 : Fin k0_t4_loop.trips) : Fin 2 → Nat :=
  let c0_163 : Index := 0#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v221 : Index := Scalar.indexCast v96
  ![0, v221.toNat]
def k0_off30 (k0_t4 : Fin k0_t4_loop.trips) : Fin 2 → Nat :=
  let c0_168 : Index := 0#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v234 : Index := Scalar.indexCast v96
  ![0, v234.toNat]
def k0_off31 (k0_t4 : Fin k0_t4_loop.trips) : Fin 2 → Nat :=
  let c1_169 : Index := 1#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v239 : Index := Scalar.indexCast v96
  ![1, v239.toNat]
@[reducible] def k0_t5_loop : Scf.Loop 32 :=
  let c0_i32_43 : BitVec 32 := 0#32
  let c18_i32_44 : BitVec 32 := 18#32
  let v46 : BitVec 32 := Scalar.addi c0_i32_43 c18_i32_44
  let c1_i32_45 : BitVec 32 := 1#32
  ⟨c0_i32_43, v46, c1_i32_45⟩
def k0_mult11 (k0_t5 : Fin k0_t5_loop.trips) : BitVec 32 :=
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  v92
def k0_mult12 (k0_t5 : Fin k0_t5_loop.trips) : BitVec 32 :=
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  v94
def k0_mult13 (k0_t5 : Fin k0_t5_loop.trips) : BitVec 32 :=
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  v97
def k0_mult14 (k0_t5 : Fin k0_t5_loop.trips) : BitVec 32 :=
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  v99
def k0_off32 (k0_t5 : Fin k0_t5_loop.trips) : Fin 2 → Nat :=
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v101 : Index := Scalar.indexCast v93
  let c0_117 : Index := 0#32
  ![v101.toNat, 0]
def k0_off33 (k0_t5 : Fin k0_t5_loop.trips) : Fin 2 → Nat :=
  let c0_118 : Index := 0#32
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v103 : Index := Scalar.indexCast v100
  ![0, v103.toNat]
def k0_off34 (k0_t5 : Fin k0_t5_loop.trips) : Fin 2 → Nat :=
  let c0_120 : Index := 0#32
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  let v95 : BitVec 32 := v94
  let v106 : Index := Scalar.indexCast v95
  ![0, v106.toNat]
def k0_off35 (k0_t5 : Fin k0_t5_loop.trips) : Fin 2 → Nat :=
  let c0_121 : Index := 0#32
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  let v98 : BitVec 32 := v97
  let v108 : Index := Scalar.indexCast v98
  ![0, v108.toNat]
def k0_off36 (k0_t5 : Fin k0_t5_loop.trips) : Fin 2 → Nat :=
  let c0_132 : Index := 0#32
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v157 : Index := Scalar.indexCast v100
  ![0, v157.toNat]
def k0_off37 (k0_t5 : Fin k0_t5_loop.trips) : Fin 2 → Nat :=
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v173 : Index := Scalar.indexCast v93
  let c0_135 : Index := 0#32
  ![v173.toNat, 0]
@[reducible] def k0_t6_loop : Scf.Loop 32 :=
  let c0_i32_47 : BitVec 32 := 0#32
  let c2304_i32_48 : BitVec 32 := 2304#32
  let v47 : BitVec 32 := Scalar.addi c0_i32_47 c2304_i32_48
  let c1_i32_49 : BitVec 32 := 1#32
  ⟨c0_i32_47, v47, c1_i32_49⟩
def k0_off38 (k0_t6 : Fin k0_t6_loop.trips) : Fin 2 → Nat :=
  let c0_i32_112 : BitVec 32 := 0#32
  let c0_i32_47 : BitVec 32 := 0#32
  let c1_i32_49 : BitVec 32 := 1#32
  let arg16 : BitVec 32 := Scf.iv c0_i32_47 c1_i32_49 k0_t6
  let c1_i32_111 : BitVec 32 := 1#32
  let v90 : BitVec 32 := Scalar.muli arg16 c1_i32_111
  let v91 : BitVec 32 := Scalar.addi c0_i32_112 v90
  let v92 : Index := Scalar.indexCast v91
  let c0_113 : Index := 0#32
  ![v92.toNat, 0]
def k0_off39 (k0_t6 : Fin k0_t6_loop.trips) : Fin 4 → Nat :=
  let c0_114 : Index := 0#32
  let c0_115 : Index := 0#32
  let c1_116 : Index := 1#32
  let c0_i32_112 : BitVec 32 := 0#32
  let c0_i32_47 : BitVec 32 := 0#32
  let c1_i32_49 : BitVec 32 := 1#32
  let arg16 : BitVec 32 := Scf.iv c0_i32_47 c1_i32_49 k0_t6
  let c1_i32_111 : BitVec 32 := 1#32
  let v90 : BitVec 32 := Scalar.muli arg16 c1_i32_111
  let v91 : BitVec 32 := Scalar.addi c0_i32_112 v90
  let v94 : Index := Scalar.indexCast v91
  ![0, 0, 1, v94.toNat]
def k0_off40 (v95 : BitVec 32) : Fin 3 → Nat :=
  let c1_117 : Index := 1#32
  let v96 : Index := Scalar.indexCast v95
  let c0_118 : Index := 0#32
  ![1, v96.toNat, 0]

def k0_chk2 (v95 : BitVec 32) : Prop :=
  (∀ a, (k0_off40 v95) a + S1x1x128.size a ≤ S4x2304x128.size a)
theorem k0_off40_inb : ∀ (v95 : BitVec 32) (k0_hw2 : k0_chk2 v95), ∀ a, (k0_off40 v95) a + S1x1x128.size a ≤ S4x2304x128.size a := fun v95 k0_hw2 => k0_hw2

@[reducible] def k0_t7_loop : Scf.Loop 32 :=
  let c0_i32_51 : BitVec 32 := 0#32
  let c18_i32_52 : BitVec 32 := 18#32
  let v48 : BitVec 32 := Scalar.addi c0_i32_51 c18_i32_52
  let c1_i32_53 : BitVec 32 := 1#32
  ⟨c0_i32_51, v48, c1_i32_53⟩
def k0_mult15 (k0_t7 : Fin k0_t7_loop.trips) : BitVec 32 :=
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  v92
def k0_mult16 (k0_t7 : Fin k0_t7_loop.trips) : BitVec 32 :=
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  v95
def k0_off41 (k0_t7 : Fin k0_t7_loop.trips) : Fin 4 → Nat :=
  let c0_114 : Index := 0#32
  let c2 : Index := 2#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v97 : Index := Scalar.indexCast v93
  let c0_115 : Index := 0#32
  ![0, 2, v97.toNat, 0]
def k0_off42 (k0_t7 : Fin k0_t7_loop.trips) : Fin 5 → Nat :=
  let c0_117 : Index := 0#32
  let c2_118 : Index := 2#32
  let c0_119 : Index := 0#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v103 : Index := Scalar.indexCast v93
  let c0_120 : Index := 0#32
  ![0, 2, 0, v103.toNat, 0]
def k0_off43 (k0_t7 : Fin k0_t7_loop.trips) : Fin 5 → Nat :=
  let c0_126 : Index := 0#32
  let c2_127 : Index := 2#32
  let c1_128 : Index := 1#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v124 : Index := Scalar.indexCast v93
  let c0_129 : Index := 0#32
  ![0, 2, 1, v124.toNat, 0]
def k0_off44 (k0_t7 : Fin k0_t7_loop.trips) : Fin 5 → Nat :=
  let c0_135 : Index := 0#32
  let c2_136 : Index := 2#32
  let c2_137 : Index := 2#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v145 : Index := Scalar.indexCast v93
  let c0_138 : Index := 0#32
  ![0, 2, 2, v145.toNat, 0]
def k0_off45 (k0_t7 : Fin k0_t7_loop.trips) : Fin 5 → Nat :=
  let c0_144 : Index := 0#32
  let c2_145 : Index := 2#32
  let c3 : Index := 3#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v166 : Index := Scalar.indexCast v93
  let c0_146 : Index := 0#32
  ![0, 2, 3, v166.toNat, 0]
def k0_off46 (k0_t7 : Fin k0_t7_loop.trips) : Fin 5 → Nat :=
  let c0_152 : Index := 0#32
  let c2_153 : Index := 2#32
  let c4 : Index := 4#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v187 : Index := Scalar.indexCast v93
  let c0_154 : Index := 0#32
  ![0, 2, 4, v187.toNat, 0]
def k0_off47 (k0_t7 : Fin k0_t7_loop.trips) : Fin 2 → Nat :=
  let c0_160 : Index := 0#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v209 : Index := Scalar.indexCast v96
  ![0, v209.toNat]
def k0_mult17 (k0_t7 : Fin k0_t7_loop.trips) : BitVec 32 :=
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  v214
def k0_off48 (k0_t7 : Fin k0_t7_loop.trips) : Fin 2 → Nat :=
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  let v215 : BitVec 32 := v214
  let v216 : Index := Scalar.indexCast v215
  let c0_162 : Index := 0#32
  ![v216.toNat, 0]
def k0_off49 (k0_t7 : Fin k0_t7_loop.trips) : Fin 2 → Nat :=
  let c0_163 : Index := 0#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v221 : Index := Scalar.indexCast v96
  ![0, v221.toNat]
def k0_off50 (k0_t7 : Fin k0_t7_loop.trips) : Fin 2 → Nat :=
  let c0_168 : Index := 0#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v234 : Index := Scalar.indexCast v96
  ![0, v234.toNat]
def k0_off51 (k0_t7 : Fin k0_t7_loop.trips) : Fin 2 → Nat :=
  let c1_169 : Index := 1#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v239 : Index := Scalar.indexCast v96
  ![1, v239.toNat]
@[reducible] def k0_t8_loop : Scf.Loop 32 :=
  let c0_i32_72 : BitVec 32 := 0#32
  let c18_i32_73 : BitVec 32 := 18#32
  let v67 : BitVec 32 := Scalar.addi c0_i32_72 c18_i32_73
  let c1_i32_74 : BitVec 32 := 1#32
  ⟨c0_i32_72, v67, c1_i32_74⟩
def k0_mult18 (k0_t8 : Fin k0_t8_loop.trips) : BitVec 32 :=
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  v92
def k0_mult19 (k0_t8 : Fin k0_t8_loop.trips) : BitVec 32 :=
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  v94
def k0_mult20 (k0_t8 : Fin k0_t8_loop.trips) : BitVec 32 :=
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  v97
def k0_mult21 (k0_t8 : Fin k0_t8_loop.trips) : BitVec 32 :=
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  v99
def k0_off52 (k0_t8 : Fin k0_t8_loop.trips) : Fin 2 → Nat :=
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v101 : Index := Scalar.indexCast v93
  let c0_117 : Index := 0#32
  ![v101.toNat, 0]
def k0_off53 (k0_t8 : Fin k0_t8_loop.trips) : Fin 2 → Nat :=
  let c0_118 : Index := 0#32
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v103 : Index := Scalar.indexCast v100
  ![0, v103.toNat]
def k0_off54 (k0_t8 : Fin k0_t8_loop.trips) : Fin 2 → Nat :=
  let c0_120 : Index := 0#32
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  let v95 : BitVec 32 := v94
  let v106 : Index := Scalar.indexCast v95
  ![0, v106.toNat]
def k0_off55 (k0_t8 : Fin k0_t8_loop.trips) : Fin 2 → Nat :=
  let c0_121 : Index := 0#32
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  let v98 : BitVec 32 := v97
  let v108 : Index := Scalar.indexCast v98
  ![0, v108.toNat]
def k0_off56 (k0_t8 : Fin k0_t8_loop.trips) : Fin 2 → Nat :=
  let c0_132 : Index := 0#32
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v157 : Index := Scalar.indexCast v100
  ![0, v157.toNat]
def k0_off57 (k0_t8 : Fin k0_t8_loop.trips) : Fin 2 → Nat :=
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v173 : Index := Scalar.indexCast v93
  let c0_135 : Index := 0#32
  ![v173.toNat, 0]
@[reducible] def k0_t9_loop : Scf.Loop 32 :=
  let c0_i32_76 : BitVec 32 := 0#32
  let c2304_i32_77 : BitVec 32 := 2304#32
  let v68 : BitVec 32 := Scalar.addi c0_i32_76 c2304_i32_77
  let c1_i32_78 : BitVec 32 := 1#32
  ⟨c0_i32_76, v68, c1_i32_78⟩
def k0_off58 (k0_t9 : Fin k0_t9_loop.trips) : Fin 2 → Nat :=
  let c0_i32_112 : BitVec 32 := 0#32
  let c0_i32_76 : BitVec 32 := 0#32
  let c1_i32_78 : BitVec 32 := 1#32
  let arg16 : BitVec 32 := Scf.iv c0_i32_76 c1_i32_78 k0_t9
  let c1_i32_111 : BitVec 32 := 1#32
  let v90 : BitVec 32 := Scalar.muli arg16 c1_i32_111
  let v91 : BitVec 32 := Scalar.addi c0_i32_112 v90
  let v92 : Index := Scalar.indexCast v91
  let c0_113 : Index := 0#32
  ![v92.toNat, 0]
def k0_off59 (k0_t9 : Fin k0_t9_loop.trips) : Fin 4 → Nat :=
  let c0_114 : Index := 0#32
  let c0_115 : Index := 0#32
  let c2 : Index := 2#32
  let c0_i32_112 : BitVec 32 := 0#32
  let c0_i32_76 : BitVec 32 := 0#32
  let c1_i32_78 : BitVec 32 := 1#32
  let arg16 : BitVec 32 := Scf.iv c0_i32_76 c1_i32_78 k0_t9
  let c1_i32_111 : BitVec 32 := 1#32
  let v90 : BitVec 32 := Scalar.muli arg16 c1_i32_111
  let v91 : BitVec 32 := Scalar.addi c0_i32_112 v90
  let v94 : Index := Scalar.indexCast v91
  ![0, 0, 2, v94.toNat]
def k0_off60 (v95 : BitVec 32) : Fin 3 → Nat :=
  let c2_116 : Index := 2#32
  let v96 : Index := Scalar.indexCast v95
  let c0_117 : Index := 0#32
  ![2, v96.toNat, 0]

def k0_chk3 (v95 : BitVec 32) : Prop :=
  (∀ a, (k0_off60 v95) a + S1x1x128.size a ≤ S4x2304x128.size a)
theorem k0_off60_inb : ∀ (v95 : BitVec 32) (k0_hw3 : k0_chk3 v95), ∀ a, (k0_off60 v95) a + S1x1x128.size a ≤ S4x2304x128.size a := fun v95 k0_hw3 => k0_hw3

@[reducible] def k0_t10_loop : Scf.Loop 32 :=
  let c0_i32_80 : BitVec 32 := 0#32
  let c18_i32_81 : BitVec 32 := 18#32
  let v69 : BitVec 32 := Scalar.addi c0_i32_80 c18_i32_81
  let c1_i32_82 : BitVec 32 := 1#32
  ⟨c0_i32_80, v69, c1_i32_82⟩
def k0_mult22 (k0_t10 : Fin k0_t10_loop.trips) : BitVec 32 :=
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  v92
def k0_mult23 (k0_t10 : Fin k0_t10_loop.trips) : BitVec 32 :=
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  v95
def k0_off61 (k0_t10 : Fin k0_t10_loop.trips) : Fin 4 → Nat :=
  let c0_114 : Index := 0#32
  let c3 : Index := 3#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v97 : Index := Scalar.indexCast v93
  let c0_115 : Index := 0#32
  ![0, 3, v97.toNat, 0]
def k0_off62 (k0_t10 : Fin k0_t10_loop.trips) : Fin 5 → Nat :=
  let c0_117 : Index := 0#32
  let c3_118 : Index := 3#32
  let c0_119 : Index := 0#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v103 : Index := Scalar.indexCast v93
  let c0_120 : Index := 0#32
  ![0, 3, 0, v103.toNat, 0]
def k0_off63 (k0_t10 : Fin k0_t10_loop.trips) : Fin 5 → Nat :=
  let c0_126 : Index := 0#32
  let c3_127 : Index := 3#32
  let c1_128 : Index := 1#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v124 : Index := Scalar.indexCast v93
  let c0_129 : Index := 0#32
  ![0, 3, 1, v124.toNat, 0]
def k0_off64 (k0_t10 : Fin k0_t10_loop.trips) : Fin 5 → Nat :=
  let c0_135 : Index := 0#32
  let c3_136 : Index := 3#32
  let c2 : Index := 2#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v145 : Index := Scalar.indexCast v93
  let c0_137 : Index := 0#32
  ![0, 3, 2, v145.toNat, 0]
def k0_off65 (k0_t10 : Fin k0_t10_loop.trips) : Fin 5 → Nat :=
  let c0_143 : Index := 0#32
  let c3_144 : Index := 3#32
  let c3_145 : Index := 3#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v166 : Index := Scalar.indexCast v93
  let c0_146 : Index := 0#32
  ![0, 3, 3, v166.toNat, 0]
def k0_off66 (k0_t10 : Fin k0_t10_loop.trips) : Fin 5 → Nat :=
  let c0_152 : Index := 0#32
  let c3_153 : Index := 3#32
  let c4 : Index := 4#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v187 : Index := Scalar.indexCast v93
  let c0_154 : Index := 0#32
  ![0, 3, 4, v187.toNat, 0]
def k0_off67 (k0_t10 : Fin k0_t10_loop.trips) : Fin 2 → Nat :=
  let c0_160 : Index := 0#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v209 : Index := Scalar.indexCast v96
  ![0, v209.toNat]
def k0_mult24 (k0_t10 : Fin k0_t10_loop.trips) : BitVec 32 :=
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  v214
def k0_off68 (k0_t10 : Fin k0_t10_loop.trips) : Fin 2 → Nat :=
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  let v215 : BitVec 32 := v214
  let v216 : Index := Scalar.indexCast v215
  let c0_162 : Index := 0#32
  ![v216.toNat, 0]
def k0_off69 (k0_t10 : Fin k0_t10_loop.trips) : Fin 2 → Nat :=
  let c0_163 : Index := 0#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v221 : Index := Scalar.indexCast v96
  ![0, v221.toNat]
def k0_off70 (k0_t10 : Fin k0_t10_loop.trips) : Fin 2 → Nat :=
  let c0_168 : Index := 0#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v234 : Index := Scalar.indexCast v96
  ![0, v234.toNat]
def k0_off71 (k0_t10 : Fin k0_t10_loop.trips) : Fin 2 → Nat :=
  let c1_169 : Index := 1#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v239 : Index := Scalar.indexCast v96
  ![1, v239.toNat]
@[reducible] def k0_t11_loop : Scf.Loop 32 :=
  let c0_i32_100 : BitVec 32 := 0#32
  let c18_i32_101 : BitVec 32 := 18#32
  let v87 : BitVec 32 := Scalar.addi c0_i32_100 c18_i32_101
  let c1_i32_102 : BitVec 32 := 1#32
  ⟨c0_i32_100, v87, c1_i32_102⟩
def k0_mult25 (k0_t11 : Fin k0_t11_loop.trips) : BitVec 32 :=
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  v92
def k0_mult26 (k0_t11 : Fin k0_t11_loop.trips) : BitVec 32 :=
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  v94
def k0_mult27 (k0_t11 : Fin k0_t11_loop.trips) : BitVec 32 :=
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  v97
def k0_mult28 (k0_t11 : Fin k0_t11_loop.trips) : BitVec 32 :=
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  v99
def k0_off72 (k0_t11 : Fin k0_t11_loop.trips) : Fin 2 → Nat :=
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v101 : Index := Scalar.indexCast v93
  let c0_117 : Index := 0#32
  ![v101.toNat, 0]
def k0_off73 (k0_t11 : Fin k0_t11_loop.trips) : Fin 2 → Nat :=
  let c0_118 : Index := 0#32
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v103 : Index := Scalar.indexCast v100
  ![0, v103.toNat]
def k0_off74 (k0_t11 : Fin k0_t11_loop.trips) : Fin 2 → Nat :=
  let c0_120 : Index := 0#32
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  let v95 : BitVec 32 := v94
  let v106 : Index := Scalar.indexCast v95
  ![0, v106.toNat]
def k0_off75 (k0_t11 : Fin k0_t11_loop.trips) : Fin 2 → Nat :=
  let c0_121 : Index := 0#32
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  let v98 : BitVec 32 := v97
  let v108 : Index := Scalar.indexCast v98
  ![0, v108.toNat]
def k0_off76 (k0_t11 : Fin k0_t11_loop.trips) : Fin 2 → Nat :=
  let c0_132 : Index := 0#32
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v157 : Index := Scalar.indexCast v100
  ![0, v157.toNat]
def k0_off77 (k0_t11 : Fin k0_t11_loop.trips) : Fin 2 → Nat :=
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v172 : Index := Scalar.indexCast v93
  let c0_135 : Index := 0#32
  ![v172.toNat, 0]
@[reducible] def k0_t12_loop : Scf.Loop 32 :=
  let c0_i32_104 : BitVec 32 := 0#32
  let c2304_i32_105 : BitVec 32 := 2304#32
  let v88 : BitVec 32 := Scalar.addi c0_i32_104 c2304_i32_105
  let c1_i32_106 : BitVec 32 := 1#32
  ⟨c0_i32_104, v88, c1_i32_106⟩
def k0_off78 (k0_t12 : Fin k0_t12_loop.trips) : Fin 2 → Nat :=
  let c0_i32_112 : BitVec 32 := 0#32
  let c0_i32_104 : BitVec 32 := 0#32
  let c1_i32_106 : BitVec 32 := 1#32
  let arg16 : BitVec 32 := Scf.iv c0_i32_104 c1_i32_106 k0_t12
  let c1_i32_111 : BitVec 32 := 1#32
  let v90 : BitVec 32 := Scalar.muli arg16 c1_i32_111
  let v91 : BitVec 32 := Scalar.addi c0_i32_112 v90
  let v92 : Index := Scalar.indexCast v91
  let c0_113 : Index := 0#32
  ![v92.toNat, 0]
def k0_off79 (k0_t12 : Fin k0_t12_loop.trips) : Fin 4 → Nat :=
  let c0_114 : Index := 0#32
  let c0_115 : Index := 0#32
  let c3 : Index := 3#32
  let c0_i32_112 : BitVec 32 := 0#32
  let c0_i32_104 : BitVec 32 := 0#32
  let c1_i32_106 : BitVec 32 := 1#32
  let arg16 : BitVec 32 := Scf.iv c0_i32_104 c1_i32_106 k0_t12
  let c1_i32_111 : BitVec 32 := 1#32
  let v90 : BitVec 32 := Scalar.muli arg16 c1_i32_111
  let v91 : BitVec 32 := Scalar.addi c0_i32_112 v90
  let v94 : Index := Scalar.indexCast v91
  ![0, 0, 3, v94.toNat]
def k0_off80 (v95 : BitVec 32) : Fin 3 → Nat :=
  let c3_116 : Index := 3#32
  let v96 : Index := Scalar.indexCast v95
  let c0_117 : Index := 0#32
  ![3, v96.toNat, 0]

def k0_chk4 (v95 : BitVec 32) : Prop :=
  (∀ a, (k0_off80 v95) a + S1x1x128.size a ≤ S4x2304x128.size a)
theorem k0_off80_inb : ∀ (v95 : BitVec 32) (k0_hw4 : k0_chk4 v95), ∀ a, (k0_off80 v95) a + S1x1x128.size a ≤ S4x2304x128.size a := fun v95 k0_hw4 => k0_hw4

@[reducible] def k0_t13_loop : Scf.Loop 32 :=
  let c0_i32_108 : BitVec 32 := 0#32
  let c144_i32 : BitVec 32 := 144#32
  let v89 : BitVec 32 := Scalar.addi c0_i32_108 c144_i32
  let c1_i32_109 : BitVec 32 := 1#32
  ⟨c0_i32_108, v89, c1_i32_109⟩
def k0_off81 (k0_t13 : Fin k0_t13_loop.trips) : Fin 3 → Nat :=
  let c0_113 : Index := 0#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32 : BitVec 32 := 16#32
  let v93 : BitVec 32 := Scalar.muli v91 c16_i32
  let v94 : Index := Scalar.indexCast v93
  let c0_114 : Index := 0#32
  ![0, v94.toNat, 0]
def k0_off82 (k0_t13 : Fin k0_t13_loop.trips) : Fin 3 → Nat :=
  let c1_116 : Index := 1#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_115 : BitVec 32 := 16#32
  let v97 : BitVec 32 := Scalar.muli v91 c16_i32_115
  let v98 : Index := Scalar.indexCast v97
  let c0_117 : Index := 0#32
  ![1, v98.toNat, 0]
def k0_off83 (k0_t13 : Fin k0_t13_loop.trips) : Fin 3 → Nat :=
  let c2 : Index := 2#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_118 : BitVec 32 := 16#32
  let v101 : BitVec 32 := Scalar.muli v91 c16_i32_118
  let v102 : Index := Scalar.indexCast v101
  let c0_119 : Index := 0#32
  ![2, v102.toNat, 0]
def k0_off84 (k0_t13 : Fin k0_t13_loop.trips) : Fin 3 → Nat :=
  let c3 : Index := 3#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_120 : BitVec 32 := 16#32
  let v105 : BitVec 32 := Scalar.muli v91 c16_i32_120
  let v106 : Index := Scalar.indexCast v105
  let c0_121 : Index := 0#32
  ![3, v106.toNat, 0]
def k0_off85 (k0_t13 : Fin k0_t13_loop.trips) : Fin 3 → Nat :=
  let c0_124 : Index := 0#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_122 : BitVec 32 := 16#32
  let v109 : BitVec 32 := Scalar.muli v91 c16_i32_122
  let c1_i32_123 : BitVec 32 := 1#32
  let v110 : BitVec 32 := Scalar.addi v109 c1_i32_123
  let v111 : Index := Scalar.indexCast v110
  let c0_125 : Index := 0#32
  ![0, v111.toNat, 0]
def k0_off86 (k0_t13 : Fin k0_t13_loop.trips) : Fin 3 → Nat :=
  let c1_128 : Index := 1#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_126 : BitVec 32 := 16#32
  let v114 : BitVec 32 := Scalar.muli v91 c16_i32_126
  let c1_i32_127 : BitVec 32 := 1#32
  let v115 : BitVec 32 := Scalar.addi v114 c1_i32_127
  let v116 : Index := Scalar.indexCast v115
  let c0_129 : Index := 0#32
  ![1, v116.toNat, 0]
def k0_off87 (k0_t13 : Fin k0_t13_loop.trips) : Fin 3 → Nat :=
  let c2_132 : Index := 2#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_130 : BitVec 32 := 16#32
  let v119 : BitVec 32 := Scalar.muli v91 c16_i32_130
  let c1_i32_131 : BitVec 32 := 1#32
  let v120 : BitVec 32 := Scalar.addi v119 c1_i32_131
  let v121 : Index := Scalar.indexCast v120
  let c0_133 : Index := 0#32
  ![2, v121.toNat, 0]
def k0_off88 (k0_t13 : Fin k0_t13_loop.trips) : Fin 3 → Nat :=
  let c3_136 : Index := 3#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_134 : BitVec 32 := 16#32
  let v124 : BitVec 32 := Scalar.muli v91 c16_i32_134
  let c1_i32_135 : BitVec 32 := 1#32
  let v125 : BitVec 32 := Scalar.addi v124 c1_i32_135
  let v126 : Index := Scalar.indexCast v125
  let c0_137 : Index := 0#32
  ![3, v126.toNat, 0]
def k0_mult29 (k0_t13 : Fin k0_t13_loop.trips) : BitVec 32 :=
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_153 : BitVec 32 := 16#32
  let v179 : BitVec 32 := Scalar.muli v91 c16_i32_153
  v179
def k0_off89 (k0_t13 : Fin k0_t13_loop.trips) : Fin 3 → Nat :=
  let c0_154 : Index := 0#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_153 : BitVec 32 := 16#32
  let v179 : BitVec 32 := Scalar.muli v91 c16_i32_153
  let v180 : BitVec 32 := v179
  let v181 : Index := Scalar.indexCast v180
  let c0_155 : Index := 0#32
  ![0, v181.toNat, 0]
def k0_mult30 (k0_t13 : Fin k0_t13_loop.trips) : BitVec 32 :=
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_156 : BitVec 32 := 16#32
  let v186 : BitVec 32 := Scalar.muli v91 c16_i32_156
  v186
def k0_off90 (k0_t13 : Fin k0_t13_loop.trips) : Fin 3 → Nat :=
  let c0_157 : Index := 0#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_156 : BitVec 32 := 16#32
  let v186 : BitVec 32 := Scalar.muli v91 c16_i32_156
  let v187 : BitVec 32 := v186
  let v188 : Index := Scalar.indexCast v187
  let c128 : Index := 128#32
  ![0, v188.toNat, 128]
def k0_mult31 (k0_t13 : Fin k0_t13_loop.trips) : BitVec 32 :=
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_158 : BitVec 32 := 16#32
  let v193 : BitVec 32 := Scalar.muli v91 c16_i32_158
  v193
def k0_off91 (k0_t13 : Fin k0_t13_loop.trips) : Fin 3 → Nat :=
  let c0_159 : Index := 0#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_158 : BitVec 32 := 16#32
  let v193 : BitVec 32 := Scalar.muli v91 c16_i32_158
  let v194 : BitVec 32 := v193
  let v195 : Index := Scalar.indexCast v194
  let c256 : Index := 256#32
  ![0, v195.toNat, 256]
def k0_mult32 (k0_t13 : Fin k0_t13_loop.trips) : BitVec 32 :=
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_160 : BitVec 32 := 16#32
  let v200 : BitVec 32 := Scalar.muli v91 c16_i32_160
  v200
def k0_off92 (k0_t13 : Fin k0_t13_loop.trips) : Fin 3 → Nat :=
  let c0_161 : Index := 0#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_160 : BitVec 32 := 16#32
  let v200 : BitVec 32 := Scalar.muli v91 c16_i32_160
  let v201 : BitVec 32 := v200
  let v202 : Index := Scalar.indexCast v201
  let c384 : Index := 384#32
  ![0, v202.toNat, 384]
def k0_mult33 (k0_t13 : Fin k0_t13_loop.trips) : BitVec 32 :=
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_162 : BitVec 32 := 16#32
  let v207 : BitVec 32 := Scalar.muli v91 c16_i32_162
  v207
def k0_off93 (k0_t13 : Fin k0_t13_loop.trips) : Fin 3 → Nat :=
  let c0_163 : Index := 0#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_162 : BitVec 32 := 16#32
  let v207 : BitVec 32 := Scalar.muli v91 c16_i32_162
  let v208 : BitVec 32 := v207
  let v209 : Index := Scalar.indexCast v208
  let c512 : Index := 512#32
  ![0, v209.toNat, 512]
def cc0_transform_0 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![v0.toNat, c0_i32.toNat, arg1.toNat]

abbrev stage0_0 : Fin 2 → Memref sig .tc .smem S1x1x4x2304 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x5x144x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x5x144x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x144x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2304x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== LastKernelIdeal.lean ====
abbrev S24x3x4x2304 : Shape := ⟨4, ![24, 3, 4, 2304]⟩
abbrev S8x12x5x144x128 : Shape := ⟨5, ![8, 12, 5, 144, 128]⟩
abbrev S8x12x144x128 : Shape := ⟨4, ![8, 12, 144, 128]⟩
abbrev S24x2304x1920 : Shape := ⟨3, ![24, 2304, 1920]⟩
abbrev S128x128 : Shape := ⟨2, ![128, 128]⟩
abbrev S_ : Shape := ⟨0, ![]⟩
abbrev S1x1x4x2304 : Shape := ⟨4, ![1, 1, 4, 2304]⟩
abbrev S1x4x5x144x128 : Shape := ⟨5, ![1, 4, 5, 144, 128]⟩
abbrev S1x4x144x128 : Shape := ⟨4, ![1, 4, 144, 128]⟩
abbrev S1x2304x640 : Shape := ⟨3, ![1, 2304, 640]⟩
abbrev S160x2432 : Shape := ⟨2, ![160, 2432]⟩
abbrev S2304x160 : Shape := ⟨2, ![2304, 160]⟩
abbrev S176x2432 : Shape := ⟨2, ![176, 2432]⟩
abbrev S8x2432 : Shape := ⟨2, ![8, 2432]⟩
abbrev S4x2304x128 : Shape := ⟨3, ![4, 2304, 128]⟩
abbrev S4x2304x2x128 : Shape := ⟨4, ![4, 2304, 2, 128]⟩
abbrev S4x2304x1x128 : Shape := ⟨4, ![4, 2304, 1, 128]⟩
abbrev S2304x128 : Shape := ⟨2, ![2304, 128]⟩
abbrev S2304x2x128 : Shape := ⟨3, ![2304, 2, 128]⟩
abbrev S2304x1x128 : Shape := ⟨3, ![2304, 1, 128]⟩
abbrev S1x128 : Shape := ⟨2, ![1, 128]⟩
abbrev S64x128 : Shape := ⟨2, ![64, 128]⟩
abbrev S16x128 : Shape := ⟨2, ![16, 128]⟩
abbrev S1x1x8x128 : Shape := ⟨4, ![1, 1, 8, 128]⟩
abbrev S8x128 : Shape := ⟨2, ![8, 128]⟩
abbrev S1x1x1x8x128 : Shape := ⟨5, ![1, 1, 1, 8, 128]⟩
abbrev S32x128 : Shape := ⟨2, ![32, 128]⟩
abbrev S4x8x128 : Shape := ⟨3, ![4, 8, 128]⟩
abbrev S160x128 : Shape := ⟨2, ![160, 128]⟩
abbrev S128x160 : Shape := ⟨2, ![128, 160]⟩
abbrev S176x128 : Shape := ⟨2, ![176, 128]⟩
abbrev S128 : Shape := ⟨1, ![128]⟩
abbrev S96x128 : Shape := ⟨2, ![96, 128]⟩
abbrev S160x256 : Shape := ⟨2, ![160, 256]⟩
abbrev S128x256 : Shape := ⟨2, ![128, 256]⟩
abbrev S2x128 : Shape := ⟨2, ![2, 128]⟩
abbrev S64 : Shape := ⟨1, ![64]⟩
abbrev S64x1 : Shape := ⟨2, ![64, 1]⟩
abbrev S64x256 : Shape := ⟨2, ![64, 256]⟩
abbrev S176x256 : Shape := ⟨2, ![176, 256]⟩
abbrev S128x2x128 : Shape := ⟨3, ![128, 2, 128]⟩
abbrev S128x1x128 : Shape := ⟨3, ![128, 1, 128]⟩
abbrev S1x2x128 : Shape := ⟨3, ![1, 2, 128]⟩
abbrev S1x1x128 : Shape := ⟨3, ![1, 1, 128]⟩
abbrev S1x1x1x1 : Shape := ⟨4, ![1, 1, 1, 1]⟩
abbrev S1x1x2x128 : Shape := ⟨4, ![1, 1, 2, 128]⟩
abbrev S1x1x1x128 : Shape := ⟨4, ![1, 1, 1, 128]⟩
abbrev S1x8x128 : Shape := ⟨3, ![1, 8, 128]⟩
abbrev S1x8x2x128 : Shape := ⟨4, ![1, 8, 2, 128]⟩
abbrev S1x8x1x128 : Shape := ⟨4, ![1, 8, 1, 128]⟩
abbrev S1x16x128 : Shape := ⟨3, ![1, 16, 128]⟩

abbrev nBuf : Space → Nat
  | .hbm => 39
  | .vmem => 16
  | .smem => 2
  | _ => 0

abbrev bufTy : (tb : Table) → Fin (tcTables nBuf tb) → BufTy
  | .hbm, ⟨0, _⟩ => ⟨S24x3x4x2304, .i32⟩
  | .hbm, ⟨1, _⟩ => ⟨S8x12x5x144x128, .i32⟩
  | .hbm, ⟨2, _⟩ => ⟨S8x12x5x144x128, .i32⟩
  | .hbm, ⟨3, _⟩ => ⟨S8x12x144x128, .f32⟩
  | .hbm, ⟨4, _⟩ => ⟨S24x2304x1920, .bf16⟩
  | .hbm, ⟨5, _⟩ => ⟨S128x128, .i32⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i1⟩
  | .hbm, ⟨10, _⟩ => ⟨S_, .i32⟩
  | .hbm, ⟨11, _⟩ => ⟨S128x128, .i32⟩
  | .hbm, ⟨12, _⟩ => ⟨S128x128, .i1⟩
  | .hbm, ⟨13, _⟩ => ⟨S128x128, .i1⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S128x128, .i32⟩
  | .hbm, ⟨18, _⟩ => ⟨S128x128, .i1⟩
  | .hbm, ⟨19, _⟩ => ⟨S128x128, .i32⟩
  | .hbm, ⟨20, _⟩ => ⟨S_, .i32⟩
  | .hbm, ⟨21, _⟩ => ⟨S128x128, .i32⟩
  | .hbm, ⟨22, _⟩ => ⟨S128x128, .i32⟩
  | .hbm, ⟨23, _⟩ => ⟨S_, .i32⟩
  | .hbm, ⟨24, _⟩ => ⟨S_, .i32⟩
  | .hbm, ⟨25, _⟩ => ⟨S128x128, .i32⟩
  | .hbm, ⟨26, _⟩ => ⟨S128x128, .i32⟩
  | .hbm, ⟨27, _⟩ => ⟨S128x128, .f32⟩
  | .hbm, ⟨28, _⟩ => ⟨S128x128, .i1⟩
  | .hbm, ⟨29, _⟩ => ⟨S_, .f32⟩
  | .hbm, ⟨30, _⟩ => ⟨S_, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S_, .f32⟩
  | .hbm, ⟨35, _⟩ => ⟨S_, .f32⟩
  | .hbm, ⟨36, _⟩ => ⟨S128x128, .f32⟩
  | .hbm, ⟨37, _⟩ => ⟨S128x128, .f32⟩
  | .hbm, ⟨38, _⟩ => ⟨S24x2304x1920, .bf16⟩
  | .local _ .vmem, ⟨0, _⟩ => ⟨S1x4x5x144x128, .i32⟩
  | .local _ .vmem, ⟨1, _⟩ => ⟨S1x4x5x144x128, .i32⟩
  | .local _ .vmem, ⟨2, _⟩ => ⟨S1x4x5x144x128, .i32⟩
  | .local _ .vmem, ⟨3, _⟩ => ⟨S1x4x5x144x128, .i32⟩
  | .local _ .vmem, ⟨4, _⟩ => ⟨S1x4x144x128, .f32⟩
  | .local _ .vmem, ⟨5, _⟩ => ⟨S1x4x144x128, .f32⟩
  | .local _ .vmem, ⟨6, _⟩ => ⟨S128x128, .f32⟩
  | .local _ .vmem, ⟨7, _⟩ => ⟨S128x128, .f32⟩
  | .local _ .vmem, ⟨8, _⟩ => ⟨S1x2304x640, .bf16⟩
  | .local _ .vmem, ⟨9, _⟩ => ⟨S1x2304x640, .bf16⟩
  | .local _ .vmem, ⟨10, _⟩ => ⟨S160x2432, .bf16⟩
  | .local _ .vmem, ⟨11, _⟩ => ⟨S2304x160, .bf16⟩
  | .local _ .vmem, ⟨12, _⟩ => ⟨S176x2432, .bf16⟩
  | .local _ .vmem, ⟨13, _⟩ => ⟨S8x2432, .f32⟩
  | .local _ .vmem, ⟨14, _⟩ => ⟨S4x2304x2x128, .bf16⟩
  | .local _ .vmem, ⟨15, _⟩ => ⟨S2304x2x128, .bf16⟩
  | .local _ .smem, ⟨0, _⟩ => ⟨S1x1x4x2304, .i32⟩
  | .local _ .smem, ⟨1, _⟩ => ⟨S1x1x4x2304, .i32⟩
  | _, _ => ⟨S24x3x4x2304, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_call1_v0 : Ref sig .tc := ⟨.hbm, 24, rfl⟩
abbrev main_call1_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_cst_4 : Ref sig .tc := ⟨.hbm, 30, rfl⟩
abbrev main_call2_v0 : Ref sig .tc := ⟨.hbm, 31, rfl⟩
abbrev main_call2_v1 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F] [Named F]

def κ : String → Option EReal := fun
  | "inv_d" => some ((1 / 160 : ℝ) : EReal)
  | "scale" => some (((Real.sqrt 160)⁻¹ * (Real.log 2)⁻¹ : ℝ) : EReal)
  | _ => none

abbrev grid0 : Pipeline.Grid := ⟨2, ![8, 3], ![false, false]⟩

@[reducible] def k0_t1_loop : Scf.Loop 32 :=
  let c0_i32 : BitVec 32 := 0#32
  let c18_i32 : BitVec 32 := 18#32
  let v7 : BitVec 32 := Scalar.addi c0_i32 c18_i32
  let c1_i32 : BitVec 32 := 1#32
  ⟨c0_i32, v7, c1_i32⟩
def k0_mult1 (k0_t1 : Fin k0_t1_loop.trips) : BitVec 32 :=
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  v92
def k0_mult2 (k0_t1 : Fin k0_t1_loop.trips) : BitVec 32 :=
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  v95
def k0_off1 (k0_t1 : Fin k0_t1_loop.trips) : Fin 4 → Nat :=
  let c0_114 : Index := 0#32
  let c0_115 : Index := 0#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v97 : Index := Scalar.indexCast v93
  let c0_116 : Index := 0#32
  ![0, 0, v97.toNat, 0]
def k0_off2 (k0_t1 : Fin k0_t1_loop.trips) : Fin 5 → Nat :=
  let c0_118 : Index := 0#32
  let c0_119 : Index := 0#32
  let c0_120 : Index := 0#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v103 : Index := Scalar.indexCast v93
  let c0_121 : Index := 0#32
  ![0, 0, 0, v103.toNat, 0]
def k0_off3 (k0_t1 : Fin k0_t1_loop.trips) : Fin 5 → Nat :=
  let c0_127 : Index := 0#32
  let c0_128 : Index := 0#32
  let c1_129 : Index := 1#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v124 : Index := Scalar.indexCast v93
  let c0_130 : Index := 0#32
  ![0, 0, 1, v124.toNat, 0]
def k0_off4 (k0_t1 : Fin k0_t1_loop.trips) : Fin 5 → Nat :=
  let c0_136 : Index := 0#32
  let c0_137 : Index := 0#32
  let c2 : Index := 2#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v145 : Index := Scalar.indexCast v93
  let c0_138 : Index := 0#32
  ![0, 0, 2, v145.toNat, 0]
def k0_off5 (k0_t1 : Fin k0_t1_loop.trips) : Fin 5 → Nat :=
  let c0_144 : Index := 0#32
  let c0_145 : Index := 0#32
  let c3 : Index := 3#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v166 : Index := Scalar.indexCast v93
  let c0_146 : Index := 0#32
  ![0, 0, 3, v166.toNat, 0]
def k0_off6 (k0_t1 : Fin k0_t1_loop.trips) : Fin 5 → Nat :=
  let c0_152 : Index := 0#32
  let c0_153 : Index := 0#32
  let c4 : Index := 4#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v187 : Index := Scalar.indexCast v93
  let c0_154 : Index := 0#32
  ![0, 0, 4, v187.toNat, 0]
def k0_off7 (k0_t1 : Fin k0_t1_loop.trips) : Fin 2 → Nat :=
  let c0_160 : Index := 0#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v209 : Index := Scalar.indexCast v96
  ![0, v209.toNat]
def k0_mult3 (k0_t1 : Fin k0_t1_loop.trips) : BitVec 32 :=
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  v214
def k0_off8 (k0_t1 : Fin k0_t1_loop.trips) : Fin 2 → Nat :=
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  let v215 : BitVec 32 := v214
  let v216 : Index := Scalar.indexCast v215
  let c0_162 : Index := 0#32
  ![v216.toNat, 0]
def k0_off9 (k0_t1 : Fin k0_t1_loop.trips) : Fin 2 → Nat :=
  let c0_163 : Index := 0#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v221 : Index := Scalar.indexCast v96
  ![0, v221.toNat]
def k0_off10 (k0_t1 : Fin k0_t1_loop.trips) : Fin 2 → Nat :=
  let c0_168 : Index := 0#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v234 : Index := Scalar.indexCast v96
  ![0, v234.toNat]
def k0_off11 (k0_t1 : Fin k0_t1_loop.trips) : Fin 2 → Nat :=
  let c1_169 : Index := 1#32
  let c0_i32_112 : BitVec 32 := 0#32
  let c0_i32 : BitVec 32 := 0#32
  let c1_i32 : BitVec 32 := 1#32
  let arg16 : BitVec 32 := Scf.iv c0_i32 c1_i32 k0_t1
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v239 : Index := Scalar.indexCast v96
  ![1, v239.toNat]
@[reducible] def k0_t2_loop : Scf.Loop 32 :=
  let c0_i32_15 : BitVec 32 := 0#32
  let c18_i32_16 : BitVec 32 := 18#32
  let v25 : BitVec 32 := Scalar.addi c0_i32_15 c18_i32_16
  let c1_i32_17 : BitVec 32 := 1#32
  ⟨c0_i32_15, v25, c1_i32_17⟩
def k0_mult4 (k0_t2 : Fin k0_t2_loop.trips) : BitVec 32 :=
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  v92
def k0_mult5 (k0_t2 : Fin k0_t2_loop.trips) : BitVec 32 :=
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  v94
def k0_mult6 (k0_t2 : Fin k0_t2_loop.trips) : BitVec 32 :=
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  v97
def k0_mult7 (k0_t2 : Fin k0_t2_loop.trips) : BitVec 32 :=
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  v99
def k0_off12 (k0_t2 : Fin k0_t2_loop.trips) : Fin 2 → Nat :=
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v101 : Index := Scalar.indexCast v93
  let c0_117 : Index := 0#32
  ![v101.toNat, 0]
def k0_off13 (k0_t2 : Fin k0_t2_loop.trips) : Fin 2 → Nat :=
  let c0_118 : Index := 0#32
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v103 : Index := Scalar.indexCast v100
  ![0, v103.toNat]
def k0_off14 (k0_t2 : Fin k0_t2_loop.trips) : Fin 2 → Nat :=
  let c0_120 : Index := 0#32
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  let v95 : BitVec 32 := v94
  let v106 : Index := Scalar.indexCast v95
  ![0, v106.toNat]
def k0_off15 (k0_t2 : Fin k0_t2_loop.trips) : Fin 2 → Nat :=
  let c0_121 : Index := 0#32
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  let v98 : BitVec 32 := v97
  let v108 : Index := Scalar.indexCast v98
  ![0, v108.toNat]
def k0_off16 (k0_t2 : Fin k0_t2_loop.trips) : Fin 2 → Nat :=
  let c0_132 : Index := 0#32
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v157 : Index := Scalar.indexCast v100
  ![0, v157.toNat]
def k0_off17 (k0_t2 : Fin k0_t2_loop.trips) : Fin 3 → Nat :=
  let c0_i32_112 : BitVec 32 := 0#32
  let c0_i32_15 : BitVec 32 := 0#32
  let c1_i32_17 : BitVec 32 := 1#32
  let arg16 : BitVec 32 := Scf.iv c0_i32_15 c1_i32_17 k0_t2
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v172 : Index := Scalar.indexCast v93
  let c0_135 : Index := 0#32
  ![v172.toNat, 0, 0]
@[reducible] def k0_t3_loop : Scf.Loop 32 :=
  let c0_i32_19 : BitVec 32 := 0#32
  let c2304_i32 : BitVec 32 := 2304#32
  let v26 : BitVec 32 := Scalar.addi c0_i32_19 c2304_i32
  let c1_i32_20 : BitVec 32 := 1#32
  ⟨c0_i32_19, v26, c1_i32_20⟩
def k0_off18 (k0_t3 : Fin k0_t3_loop.trips) : Fin 3 → Nat :=
  let c0_i32_112 : BitVec 32 := 0#32
  let c0_i32_19 : BitVec 32 := 0#32
  let c1_i32_20 : BitVec 32 := 1#32
  let arg16 : BitVec 32 := Scf.iv c0_i32_19 c1_i32_20 k0_t3
  let c1_i32_111 : BitVec 32 := 1#32
  let v90 : BitVec 32 := Scalar.muli arg16 c1_i32_111
  let v91 : BitVec 32 := Scalar.addi c0_i32_112 v90
  let v92 : Index := Scalar.indexCast v91
  let c0_113 : Index := 0#32
  ![v92.toNat, 0, 0]
def k0_off19 (k0_t3 : Fin k0_t3_loop.trips) : Fin 4 → Nat :=
  let c0_114 : Index := 0#32
  let c0_115 : Index := 0#32
  let c0_116 : Index := 0#32
  let c0_i32_112 : BitVec 32 := 0#32
  let c0_i32_19 : BitVec 32 := 0#32
  let c1_i32_20 : BitVec 32 := 1#32
  let arg16 : BitVec 32 := Scf.iv c0_i32_19 c1_i32_20 k0_t3
  let c1_i32_111 : BitVec 32 := 1#32
  let v90 : BitVec 32 := Scalar.muli arg16 c1_i32_111
  let v91 : BitVec 32 := Scalar.addi c0_i32_112 v90
  let v94 : Index := Scalar.indexCast v91
  ![0, 0, 0, v94.toNat]
def k0_off20 (v95 : BitVec 32) : Fin 4 → Nat :=
  let c0_117 : Index := 0#32
  let v96 : Index := Scalar.indexCast v95
  let c0_118 : Index := 0#32
  ![0, v96.toNat, 0, 0]

def k0_chk1 (v95 : BitVec 32) : Prop :=
  (∀ a, (k0_off20 v95) a + S1x1x2x128.size a ≤ S4x2304x2x128.size a)
theorem k0_off20_inb : ∀ (v95 : BitVec 32) (k0_hw1 : k0_chk1 v95), ∀ a, (k0_off20 v95) a + S1x1x2x128.size a ≤ S4x2304x2x128.size a := fun v95 k0_hw1 => k0_hw1

@[reducible] def k0_t4_loop : Scf.Loop 32 :=
  let c0_i32_22 : BitVec 32 := 0#32
  let c18_i32_23 : BitVec 32 := 18#32
  let v27 : BitVec 32 := Scalar.addi c0_i32_22 c18_i32_23
  let c1_i32_24 : BitVec 32 := 1#32
  ⟨c0_i32_22, v27, c1_i32_24⟩
def k0_mult8 (k0_t4 : Fin k0_t4_loop.trips) : BitVec 32 :=
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  v92
def k0_mult9 (k0_t4 : Fin k0_t4_loop.trips) : BitVec 32 :=
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  v95
def k0_off21 (k0_t4 : Fin k0_t4_loop.trips) : Fin 4 → Nat :=
  let c0_114 : Index := 0#32
  let c1_115 : Index := 1#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v97 : Index := Scalar.indexCast v93
  let c0_116 : Index := 0#32
  ![0, 1, v97.toNat, 0]
def k0_off22 (k0_t4 : Fin k0_t4_loop.trips) : Fin 5 → Nat :=
  let c0_118 : Index := 0#32
  let c1_119 : Index := 1#32
  let c0_120 : Index := 0#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v103 : Index := Scalar.indexCast v93
  let c0_121 : Index := 0#32
  ![0, 1, 0, v103.toNat, 0]
def k0_off23 (k0_t4 : Fin k0_t4_loop.trips) : Fin 5 → Nat :=
  let c0_127 : Index := 0#32
  let c1_128 : Index := 1#32
  let c1_129 : Index := 1#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v124 : Index := Scalar.indexCast v93
  let c0_130 : Index := 0#32
  ![0, 1, 1, v124.toNat, 0]
def k0_off24 (k0_t4 : Fin k0_t4_loop.trips) : Fin 5 → Nat :=
  let c0_136 : Index := 0#32
  let c1_137 : Index := 1#32
  let c2 : Index := 2#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v145 : Index := Scalar.indexCast v93
  let c0_138 : Index := 0#32
  ![0, 1, 2, v145.toNat, 0]
def k0_off25 (k0_t4 : Fin k0_t4_loop.trips) : Fin 5 → Nat :=
  let c0_144 : Index := 0#32
  let c1_145 : Index := 1#32
  let c3 : Index := 3#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v166 : Index := Scalar.indexCast v93
  let c0_146 : Index := 0#32
  ![0, 1, 3, v166.toNat, 0]
def k0_off26 (k0_t4 : Fin k0_t4_loop.trips) : Fin 5 → Nat :=
  let c0_152 : Index := 0#32
  let c1_153 : Index := 1#32
  let c4 : Index := 4#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v187 : Index := Scalar.indexCast v93
  let c0_154 : Index := 0#32
  ![0, 1, 4, v187.toNat, 0]
def k0_off27 (k0_t4 : Fin k0_t4_loop.trips) : Fin 2 → Nat :=
  let c0_160 : Index := 0#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v209 : Index := Scalar.indexCast v96
  ![0, v209.toNat]
def k0_mult10 (k0_t4 : Fin k0_t4_loop.trips) : BitVec 32 :=
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  v214
def k0_off28 (k0_t4 : Fin k0_t4_loop.trips) : Fin 2 → Nat :=
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  let v215 : BitVec 32 := v214
  let v216 : Index := Scalar.indexCast v215
  let c0_162 : Index := 0#32
  ![v216.toNat, 0]
def k0_off29 (k0_t4 : Fin k0_t4_loop.trips) : Fin 2 → Nat :=
  let c0_163 : Index := 0#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v221 : Index := Scalar.indexCast v96
  ![0, v221.toNat]
def k0_off30 (k0_t4 : Fin k0_t4_loop.trips) : Fin 2 → Nat :=
  let c0_168 : Index := 0#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v234 : Index := Scalar.indexCast v96
  ![0, v234.toNat]
def k0_off31 (k0_t4 : Fin k0_t4_loop.trips) : Fin 2 → Nat :=
  let c1_169 : Index := 1#32
  let c0_i32_112 : BitVec 32 := 0#32
  let c0_i32_22 : BitVec 32 := 0#32
  let c1_i32_24 : BitVec 32 := 1#32
  let arg16 : BitVec 32 := Scf.iv c0_i32_22 c1_i32_24 k0_t4
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v239 : Index := Scalar.indexCast v96
  ![1, v239.toNat]
@[reducible] def k0_t5_loop : Scf.Loop 32 :=
  let c0_i32_43 : BitVec 32 := 0#32
  let c18_i32_44 : BitVec 32 := 18#32
  let v46 : BitVec 32 := Scalar.addi c0_i32_43 c18_i32_44
  let c1_i32_45 : BitVec 32 := 1#32
  ⟨c0_i32_43, v46, c1_i32_45⟩
def k0_mult11 (k0_t5 : Fin k0_t5_loop.trips) : BitVec 32 :=
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  v92
def k0_mult12 (k0_t5 : Fin k0_t5_loop.trips) : BitVec 32 :=
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  v94
def k0_mult13 (k0_t5 : Fin k0_t5_loop.trips) : BitVec 32 :=
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  v97
def k0_mult14 (k0_t5 : Fin k0_t5_loop.trips) : BitVec 32 :=
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  v99
def k0_off32 (k0_t5 : Fin k0_t5_loop.trips) : Fin 2 → Nat :=
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v101 : Index := Scalar.indexCast v93
  let c0_117 : Index := 0#32
  ![v101.toNat, 0]
def k0_off33 (k0_t5 : Fin k0_t5_loop.trips) : Fin 2 → Nat :=
  let c0_118 : Index := 0#32
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v103 : Index := Scalar.indexCast v100
  ![0, v103.toNat]
def k0_off34 (k0_t5 : Fin k0_t5_loop.trips) : Fin 2 → Nat :=
  let c0_120 : Index := 0#32
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  let v95 : BitVec 32 := v94
  let v106 : Index := Scalar.indexCast v95
  ![0, v106.toNat]
def k0_off35 (k0_t5 : Fin k0_t5_loop.trips) : Fin 2 → Nat :=
  let c0_121 : Index := 0#32
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  let v98 : BitVec 32 := v97
  let v108 : Index := Scalar.indexCast v98
  ![0, v108.toNat]
def k0_off36 (k0_t5 : Fin k0_t5_loop.trips) : Fin 2 → Nat :=
  let c0_132 : Index := 0#32
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v157 : Index := Scalar.indexCast v100
  ![0, v157.toNat]
def k0_off37 (k0_t5 : Fin k0_t5_loop.trips) : Fin 3 → Nat :=
  let c0_i32_112 : BitVec 32 := 0#32
  let c0_i32_43 : BitVec 32 := 0#32
  let c1_i32_45 : BitVec 32 := 1#32
  let arg16 : BitVec 32 := Scf.iv c0_i32_43 c1_i32_45 k0_t5
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v173 : Index := Scalar.indexCast v93
  let c0_135 : Index := 0#32
  ![v173.toNat, 0, 0]
@[reducible] def k0_t6_loop : Scf.Loop 32 :=
  let c0_i32_47 : BitVec 32 := 0#32
  let c2304_i32_48 : BitVec 32 := 2304#32
  let v47 : BitVec 32 := Scalar.addi c0_i32_47 c2304_i32_48
  let c1_i32_49 : BitVec 32 := 1#32
  ⟨c0_i32_47, v47, c1_i32_49⟩
def k0_off38 (k0_t6 : Fin k0_t6_loop.trips) : Fin 3 → Nat :=
  let c0_i32_112 : BitVec 32 := 0#32
  let c0_i32_47 : BitVec 32 := 0#32
  let c1_i32_49 : BitVec 32 := 1#32
  let arg16 : BitVec 32 := Scf.iv c0_i32_47 c1_i32_49 k0_t6
  let c1_i32_111 : BitVec 32 := 1#32
  let v90 : BitVec 32 := Scalar.muli arg16 c1_i32_111
  let v91 : BitVec 32 := Scalar.addi c0_i32_112 v90
  let v92 : Index := Scalar.indexCast v91
  let c0_113 : Index := 0#32
  ![v92.toNat, 0, 0]
def k0_off39 (k0_t6 : Fin k0_t6_loop.trips) : Fin 4 → Nat :=
  let c0_114 : Index := 0#32
  let c0_115 : Index := 0#32
  let c1_116 : Index := 1#32
  let c0_i32_112 : BitVec 32 := 0#32
  let c0_i32_47 : BitVec 32 := 0#32
  let c1_i32_49 : BitVec 32 := 1#32
  let arg16 : BitVec 32 := Scf.iv c0_i32_47 c1_i32_49 k0_t6
  let c1_i32_111 : BitVec 32 := 1#32
  let v90 : BitVec 32 := Scalar.muli arg16 c1_i32_111
  let v91 : BitVec 32 := Scalar.addi c0_i32_112 v90
  let v94 : Index := Scalar.indexCast v91
  ![0, 0, 1, v94.toNat]
def k0_off40 (v95 : BitVec 32) : Fin 4 → Nat :=
  let c1_117 : Index := 1#32
  let v96 : Index := Scalar.indexCast v95
  let c0_118 : Index := 0#32
  ![1, v96.toNat, 0, 0]

def k0_chk2 (v95 : BitVec 32) : Prop :=
  (∀ a, (k0_off40 v95) a + S1x1x2x128.size a ≤ S4x2304x2x128.size a)
theorem k0_off40_inb : ∀ (v95 : BitVec 32) (k0_hw2 : k0_chk2 v95), ∀ a, (k0_off40 v95) a + S1x1x2x128.size a ≤ S4x2304x2x128.size a := fun v95 k0_hw2 => k0_hw2

@[reducible] def k0_t7_loop : Scf.Loop 32 :=
  let c0_i32_51 : BitVec 32 := 0#32
  let c18_i32_52 : BitVec 32 := 18#32
  let v48 : BitVec 32 := Scalar.addi c0_i32_51 c18_i32_52
  let c1_i32_53 : BitVec 32 := 1#32
  ⟨c0_i32_51, v48, c1_i32_53⟩
def k0_mult15 (k0_t7 : Fin k0_t7_loop.trips) : BitVec 32 :=
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  v92
def k0_mult16 (k0_t7 : Fin k0_t7_loop.trips) : BitVec 32 :=
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  v95
def k0_off41 (k0_t7 : Fin k0_t7_loop.trips) : Fin 4 → Nat :=
  let c0_114 : Index := 0#32
  let c2 : Index := 2#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v97 : Index := Scalar.indexCast v93
  let c0_115 : Index := 0#32
  ![0, 2, v97.toNat, 0]
def k0_off42 (k0_t7 : Fin k0_t7_loop.trips) : Fin 5 → Nat :=
  let c0_117 : Index := 0#32
  let c2_118 : Index := 2#32
  let c0_119 : Index := 0#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v103 : Index := Scalar.indexCast v93
  let c0_120 : Index := 0#32
  ![0, 2, 0, v103.toNat, 0]
def k0_off43 (k0_t7 : Fin k0_t7_loop.trips) : Fin 5 → Nat :=
  let c0_126 : Index := 0#32
  let c2_127 : Index := 2#32
  let c1_128 : Index := 1#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v124 : Index := Scalar.indexCast v93
  let c0_129 : Index := 0#32
  ![0, 2, 1, v124.toNat, 0]
def k0_off44 (k0_t7 : Fin k0_t7_loop.trips) : Fin 5 → Nat :=
  let c0_135 : Index := 0#32
  let c2_136 : Index := 2#32
  let c2_137 : Index := 2#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v145 : Index := Scalar.indexCast v93
  let c0_138 : Index := 0#32
  ![0, 2, 2, v145.toNat, 0]
def k0_off45 (k0_t7 : Fin k0_t7_loop.trips) : Fin 5 → Nat :=
  let c0_144 : Index := 0#32
  let c2_145 : Index := 2#32
  let c3 : Index := 3#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v166 : Index := Scalar.indexCast v93
  let c0_146 : Index := 0#32
  ![0, 2, 3, v166.toNat, 0]
def k0_off46 (k0_t7 : Fin k0_t7_loop.trips) : Fin 5 → Nat :=
  let c0_152 : Index := 0#32
  let c2_153 : Index := 2#32
  let c4 : Index := 4#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v187 : Index := Scalar.indexCast v93
  let c0_154 : Index := 0#32
  ![0, 2, 4, v187.toNat, 0]
def k0_off47 (k0_t7 : Fin k0_t7_loop.trips) : Fin 2 → Nat :=
  let c0_160 : Index := 0#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v209 : Index := Scalar.indexCast v96
  ![0, v209.toNat]
def k0_mult17 (k0_t7 : Fin k0_t7_loop.trips) : BitVec 32 :=
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  v214
def k0_off48 (k0_t7 : Fin k0_t7_loop.trips) : Fin 2 → Nat :=
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  let v215 : BitVec 32 := v214
  let v216 : Index := Scalar.indexCast v215
  let c0_162 : Index := 0#32
  ![v216.toNat, 0]
def k0_off49 (k0_t7 : Fin k0_t7_loop.trips) : Fin 2 → Nat :=
  let c0_163 : Index := 0#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v221 : Index := Scalar.indexCast v96
  ![0, v221.toNat]
def k0_off50 (k0_t7 : Fin k0_t7_loop.trips) : Fin 2 → Nat :=
  let c0_168 : Index := 0#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v234 : Index := Scalar.indexCast v96
  ![0, v234.toNat]
def k0_off51 (k0_t7 : Fin k0_t7_loop.trips) : Fin 2 → Nat :=
  let c1_169 : Index := 1#32
  let c0_i32_112 : BitVec 32 := 0#32
  let c0_i32_51 : BitVec 32 := 0#32
  let c1_i32_53 : BitVec 32 := 1#32
  let arg16 : BitVec 32 := Scf.iv c0_i32_51 c1_i32_53 k0_t7
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v239 : Index := Scalar.indexCast v96
  ![1, v239.toNat]
@[reducible] def k0_t8_loop : Scf.Loop 32 :=
  let c0_i32_72 : BitVec 32 := 0#32
  let c18_i32_73 : BitVec 32 := 18#32
  let v67 : BitVec 32 := Scalar.addi c0_i32_72 c18_i32_73
  let c1_i32_74 : BitVec 32 := 1#32
  ⟨c0_i32_72, v67, c1_i32_74⟩
def k0_mult18 (k0_t8 : Fin k0_t8_loop.trips) : BitVec 32 :=
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  v92
def k0_mult19 (k0_t8 : Fin k0_t8_loop.trips) : BitVec 32 :=
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  v94
def k0_mult20 (k0_t8 : Fin k0_t8_loop.trips) : BitVec 32 :=
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  v97
def k0_mult21 (k0_t8 : Fin k0_t8_loop.trips) : BitVec 32 :=
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  v99
def k0_off52 (k0_t8 : Fin k0_t8_loop.trips) : Fin 2 → Nat :=
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v101 : Index := Scalar.indexCast v93
  let c0_117 : Index := 0#32
  ![v101.toNat, 0]
def k0_off53 (k0_t8 : Fin k0_t8_loop.trips) : Fin 2 → Nat :=
  let c0_118 : Index := 0#32
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v103 : Index := Scalar.indexCast v100
  ![0, v103.toNat]
def k0_off54 (k0_t8 : Fin k0_t8_loop.trips) : Fin 2 → Nat :=
  let c0_120 : Index := 0#32
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  let v95 : BitVec 32 := v94
  let v106 : Index := Scalar.indexCast v95
  ![0, v106.toNat]
def k0_off55 (k0_t8 : Fin k0_t8_loop.trips) : Fin 2 → Nat :=
  let c0_121 : Index := 0#32
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  let v98 : BitVec 32 := v97
  let v108 : Index := Scalar.indexCast v98
  ![0, v108.toNat]
def k0_off56 (k0_t8 : Fin k0_t8_loop.trips) : Fin 2 → Nat :=
  let c0_132 : Index := 0#32
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v157 : Index := Scalar.indexCast v100
  ![0, v157.toNat]
def k0_off57 (k0_t8 : Fin k0_t8_loop.trips) : Fin 3 → Nat :=
  let c0_i32_112 : BitVec 32 := 0#32
  let c0_i32_72 : BitVec 32 := 0#32
  let c1_i32_74 : BitVec 32 := 1#32
  let arg16 : BitVec 32 := Scf.iv c0_i32_72 c1_i32_74 k0_t8
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v173 : Index := Scalar.indexCast v93
  let c0_135 : Index := 0#32
  ![v173.toNat, 0, 0]
@[reducible] def k0_t9_loop : Scf.Loop 32 :=
  let c0_i32_76 : BitVec 32 := 0#32
  let c2304_i32_77 : BitVec 32 := 2304#32
  let v68 : BitVec 32 := Scalar.addi c0_i32_76 c2304_i32_77
  let c1_i32_78 : BitVec 32 := 1#32
  ⟨c0_i32_76, v68, c1_i32_78⟩
def k0_off58 (k0_t9 : Fin k0_t9_loop.trips) : Fin 3 → Nat :=
  let c0_i32_112 : BitVec 32 := 0#32
  let c0_i32_76 : BitVec 32 := 0#32
  let c1_i32_78 : BitVec 32 := 1#32
  let arg16 : BitVec 32 := Scf.iv c0_i32_76 c1_i32_78 k0_t9
  let c1_i32_111 : BitVec 32 := 1#32
  let v90 : BitVec 32 := Scalar.muli arg16 c1_i32_111
  let v91 : BitVec 32 := Scalar.addi c0_i32_112 v90
  let v92 : Index := Scalar.indexCast v91
  let c0_113 : Index := 0#32
  ![v92.toNat, 0, 0]
def k0_off59 (k0_t9 : Fin k0_t9_loop.trips) : Fin 4 → Nat :=
  let c0_114 : Index := 0#32
  let c0_115 : Index := 0#32
  let c2 : Index := 2#32
  let c0_i32_112 : BitVec 32 := 0#32
  let c0_i32_76 : BitVec 32 := 0#32
  let c1_i32_78 : BitVec 32 := 1#32
  let arg16 : BitVec 32 := Scf.iv c0_i32_76 c1_i32_78 k0_t9
  let c1_i32_111 : BitVec 32 := 1#32
  let v90 : BitVec 32 := Scalar.muli arg16 c1_i32_111
  let v91 : BitVec 32 := Scalar.addi c0_i32_112 v90
  let v94 : Index := Scalar.indexCast v91
  ![0, 0, 2, v94.toNat]
def k0_off60 (v95 : BitVec 32) : Fin 4 → Nat :=
  let c2_116 : Index := 2#32
  let v96 : Index := Scalar.indexCast v95
  let c0_117 : Index := 0#32
  ![2, v96.toNat, 0, 0]

def k0_chk3 (v95 : BitVec 32) : Prop :=
  (∀ a, (k0_off60 v95) a + S1x1x2x128.size a ≤ S4x2304x2x128.size a)
theorem k0_off60_inb : ∀ (v95 : BitVec 32) (k0_hw3 : k0_chk3 v95), ∀ a, (k0_off60 v95) a + S1x1x2x128.size a ≤ S4x2304x2x128.size a := fun v95 k0_hw3 => k0_hw3

@[reducible] def k0_t10_loop : Scf.Loop 32 :=
  let c0_i32_80 : BitVec 32 := 0#32
  let c18_i32_81 : BitVec 32 := 18#32
  let v69 : BitVec 32 := Scalar.addi c0_i32_80 c18_i32_81
  let c1_i32_82 : BitVec 32 := 1#32
  ⟨c0_i32_80, v69, c1_i32_82⟩
def k0_mult22 (k0_t10 : Fin k0_t10_loop.trips) : BitVec 32 :=
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  v92
def k0_mult23 (k0_t10 : Fin k0_t10_loop.trips) : BitVec 32 :=
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  v95
def k0_off61 (k0_t10 : Fin k0_t10_loop.trips) : Fin 4 → Nat :=
  let c0_114 : Index := 0#32
  let c3 : Index := 3#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v97 : Index := Scalar.indexCast v93
  let c0_115 : Index := 0#32
  ![0, 3, v97.toNat, 0]
def k0_off62 (k0_t10 : Fin k0_t10_loop.trips) : Fin 5 → Nat :=
  let c0_117 : Index := 0#32
  let c3_118 : Index := 3#32
  let c0_119 : Index := 0#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v103 : Index := Scalar.indexCast v93
  let c0_120 : Index := 0#32
  ![0, 3, 0, v103.toNat, 0]
def k0_off63 (k0_t10 : Fin k0_t10_loop.trips) : Fin 5 → Nat :=
  let c0_126 : Index := 0#32
  let c3_127 : Index := 3#32
  let c1_128 : Index := 1#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v124 : Index := Scalar.indexCast v93
  let c0_129 : Index := 0#32
  ![0, 3, 1, v124.toNat, 0]
def k0_off64 (k0_t10 : Fin k0_t10_loop.trips) : Fin 5 → Nat :=
  let c0_135 : Index := 0#32
  let c3_136 : Index := 3#32
  let c2 : Index := 2#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v145 : Index := Scalar.indexCast v93
  let c0_137 : Index := 0#32
  ![0, 3, 2, v145.toNat, 0]
def k0_off65 (k0_t10 : Fin k0_t10_loop.trips) : Fin 5 → Nat :=
  let c0_143 : Index := 0#32
  let c3_144 : Index := 3#32
  let c3_145 : Index := 3#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v166 : Index := Scalar.indexCast v93
  let c0_146 : Index := 0#32
  ![0, 3, 3, v166.toNat, 0]
def k0_off66 (k0_t10 : Fin k0_t10_loop.trips) : Fin 5 → Nat :=
  let c0_152 : Index := 0#32
  let c3_153 : Index := 3#32
  let c4 : Index := 4#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c8_i32 : BitVec 32 := 8#32
  let v92 : BitVec 32 := Scalar.muli v91 c8_i32
  let v93 : BitVec 32 := v92
  let v187 : Index := Scalar.indexCast v93
  let c0_154 : Index := 0#32
  ![0, 3, 4, v187.toNat, 0]
def k0_off67 (k0_t10 : Fin k0_t10_loop.trips) : Fin 2 → Nat :=
  let c0_160 : Index := 0#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v209 : Index := Scalar.indexCast v96
  ![0, v209.toNat]
def k0_mult24 (k0_t10 : Fin k0_t10_loop.trips) : BitVec 32 :=
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  v214
def k0_off68 (k0_t10 : Fin k0_t10_loop.trips) : Fin 2 → Nat :=
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c128_i32_161 : BitVec 32 := 128#32
  let v214 : BitVec 32 := Scalar.muli v91 c128_i32_161
  let v215 : BitVec 32 := v214
  let v216 : Index := Scalar.indexCast v215
  let c0_162 : Index := 0#32
  ![v216.toNat, 0]
def k0_off69 (k0_t10 : Fin k0_t10_loop.trips) : Fin 2 → Nat :=
  let c0_163 : Index := 0#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v221 : Index := Scalar.indexCast v96
  ![0, v221.toNat]
def k0_off70 (k0_t10 : Fin k0_t10_loop.trips) : Fin 2 → Nat :=
  let c0_168 : Index := 0#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v234 : Index := Scalar.indexCast v96
  ![0, v234.toNat]
def k0_off71 (k0_t10 : Fin k0_t10_loop.trips) : Fin 2 → Nat :=
  let c1_169 : Index := 1#32
  let c0_i32_112 : BitVec 32 := 0#32
  let c0_i32_80 : BitVec 32 := 0#32
  let c1_i32_82 : BitVec 32 := 1#32
  let arg16 : BitVec 32 := Scf.iv c0_i32_80 c1_i32_82 k0_t10
  let c1_i32_111 : BitVec 32 := 1#32
  let v90 : BitVec 32 := Scalar.muli arg16 c1_i32_111
  let v91 : BitVec 32 := Scalar.addi c0_i32_112 v90
  let c1_i32_113 : BitVec 32 := 1#32
  let v94 : BitVec 32 := Scalar.addi v91 c1_i32_113
  let c128_i32 : BitVec 32 := 128#32
  let v95 : BitVec 32 := Scalar.muli v94 c128_i32
  let v96 : BitVec 32 := v95
  let v239 : Index := Scalar.indexCast v96
  ![1, v239.toNat]
@[reducible] def k0_t11_loop : Scf.Loop 32 :=
  let c0_i32_100 : BitVec 32 := 0#32
  let c18_i32_101 : BitVec 32 := 18#32
  let v87 : BitVec 32 := Scalar.addi c0_i32_100 c18_i32_101
  let c1_i32_102 : BitVec 32 := 1#32
  ⟨c0_i32_100, v87, c1_i32_102⟩
def k0_mult25 (k0_t11 : Fin k0_t11_loop.trips) : BitVec 32 :=
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  v92
def k0_mult26 (k0_t11 : Fin k0_t11_loop.trips) : BitVec 32 :=
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  v94
def k0_mult27 (k0_t11 : Fin k0_t11_loop.trips) : BitVec 32 :=
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  v97
def k0_mult28 (k0_t11 : Fin k0_t11_loop.trips) : BitVec 32 :=
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  v99
def k0_off72 (k0_t11 : Fin k0_t11_loop.trips) : Fin 2 → Nat :=
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v101 : Index := Scalar.indexCast v93
  let c0_117 : Index := 0#32
  ![v101.toNat, 0]
def k0_off73 (k0_t11 : Fin k0_t11_loop.trips) : Fin 2 → Nat :=
  let c0_118 : Index := 0#32
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v103 : Index := Scalar.indexCast v100
  ![0, v103.toNat]
def k0_off74 (k0_t11 : Fin k0_t11_loop.trips) : Fin 2 → Nat :=
  let c0_120 : Index := 0#32
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32_113 : BitVec 32 := 128#32
  let v94 : BitVec 32 := Scalar.muli v91 c128_i32_113
  let v95 : BitVec 32 := v94
  let v106 : Index := Scalar.indexCast v95
  ![0, v106.toNat]
def k0_off75 (k0_t11 : Fin k0_t11_loop.trips) : Fin 2 → Nat :=
  let c0_121 : Index := 0#32
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c1_i32_114 : BitVec 32 := 1#32
  let v96 : BitVec 32 := Scalar.addi v91 c1_i32_114
  let c128_i32_115 : BitVec 32 := 128#32
  let v97 : BitVec 32 := Scalar.muli v96 c128_i32_115
  let v98 : BitVec 32 := v97
  let v108 : Index := Scalar.indexCast v98
  ![0, v108.toNat]
def k0_off76 (k0_t11 : Fin k0_t11_loop.trips) : Fin 2 → Nat :=
  let c0_132 : Index := 0#32
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32_116 : BitVec 32 := 128#32
  let v99 : BitVec 32 := Scalar.muli v91 c128_i32_116
  let v100 : BitVec 32 := v99
  let v157 : Index := Scalar.indexCast v100
  ![0, v157.toNat]
def k0_off77 (k0_t11 : Fin k0_t11_loop.trips) : Fin 3 → Nat :=
  let c0_i32_112 : BitVec 32 := 0#32
  let c0_i32_100 : BitVec 32 := 0#32
  let c1_i32_102 : BitVec 32 := 1#32
  let arg16 : BitVec 32 := Scf.iv c0_i32_100 c1_i32_102 k0_t11
  let c1_i32_111 : BitVec 32 := 1#32
  let v90 : BitVec 32 := Scalar.muli arg16 c1_i32_111
  let v91 : BitVec 32 := Scalar.addi c0_i32_112 v90
  let c128_i32 : BitVec 32 := 128#32
  let v92 : BitVec 32 := Scalar.muli v91 c128_i32
  let v93 : BitVec 32 := v92
  let v172 : Index := Scalar.indexCast v93
  let c0_135 : Index := 0#32
  ![v172.toNat, 0, 0]
@[reducible] def k0_t12_loop : Scf.Loop 32 :=
  let c0_i32_104 : BitVec 32 := 0#32
  let c2304_i32_105 : BitVec 32 := 2304#32
  let v88 : BitVec 32 := Scalar.addi c0_i32_104 c2304_i32_105
  let c1_i32_106 : BitVec 32 := 1#32
  ⟨c0_i32_104, v88, c1_i32_106⟩
def k0_off78 (k0_t12 : Fin k0_t12_loop.trips) : Fin 3 → Nat :=
  let c0_i32_112 : BitVec 32 := 0#32
  let c0_i32_104 : BitVec 32 := 0#32
  let c1_i32_106 : BitVec 32 := 1#32
  let arg16 : BitVec 32 := Scf.iv c0_i32_104 c1_i32_106 k0_t12
  let c1_i32_111 : BitVec 32 := 1#32
  let v90 : BitVec 32 := Scalar.muli arg16 c1_i32_111
  let v91 : BitVec 32 := Scalar.addi c0_i32_112 v90
  let v92 : Index := Scalar.indexCast v91
  let c0_113 : Index := 0#32
  ![v92.toNat, 0, 0]
def k0_off79 (k0_t12 : Fin k0_t12_loop.trips) : Fin 4 → Nat :=
  let c0_114 : Index := 0#32
  let c0_115 : Index := 0#32
  let c3 : Index := 3#32
  let c0_i32_112 : BitVec 32 := 0#32
  let c0_i32_104 : BitVec 32 := 0#32
  let c1_i32_106 : BitVec 32 := 1#32
  let arg16 : BitVec 32 := Scf.iv c0_i32_104 c1_i32_106 k0_t12
  let c1_i32_111 : BitVec 32 := 1#32
  let v90 : BitVec 32 := Scalar.muli arg16 c1_i32_111
  let v91 : BitVec 32 := Scalar.addi c0_i32_112 v90
  let v94 : Index := Scalar.indexCast v91
  ![0, 0, 3, v94.toNat]
def k0_off80 (v95 : BitVec 32) : Fin 4 → Nat :=
  let c3_116 : Index := 3#32
  let v96 : Index := Scalar.indexCast v95
  let c0_117 : Index := 0#32
  ![3, v96.toNat, 0, 0]

def k0_chk4 (v95 : BitVec 32) : Prop :=
  (∀ a, (k0_off80 v95) a + S1x1x2x128.size a ≤ S4x2304x2x128.size a)
theorem k0_off80_inb : ∀ (v95 : BitVec 32) (k0_hw4 : k0_chk4 v95), ∀ a, (k0_off80 v95) a + S1x1x2x128.size a ≤ S4x2304x2x128.size a := fun v95 k0_hw4 => k0_hw4

@[reducible] def k0_t13_loop : Scf.Loop 32 :=
  let c0_i32_108 : BitVec 32 := 0#32
  let c144_i32 : BitVec 32 := 144#32
  let v89 : BitVec 32 := Scalar.addi c0_i32_108 c144_i32
  let c1_i32_109 : BitVec 32 := 1#32
  ⟨c0_i32_108, v89, c1_i32_109⟩
def k0_off81 (k0_t13 : Fin k0_t13_loop.trips) : Fin 4 → Nat :=
  let c0_113 : Index := 0#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32 : BitVec 32 := 16#32
  let v93 : BitVec 32 := Scalar.muli v91 c16_i32
  let v94 : Index := Scalar.indexCast v93
  let c0_114 : Index := 0#32
  ![0, v94.toNat, 0, 0]
def k0_off82 (k0_t13 : Fin k0_t13_loop.trips) : Fin 4 → Nat :=
  let c1_116 : Index := 1#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_115 : BitVec 32 := 16#32
  let v97 : BitVec 32 := Scalar.muli v91 c16_i32_115
  let v98 : Index := Scalar.indexCast v97
  let c0_117 : Index := 0#32
  ![1, v98.toNat, 0, 0]
def k0_off83 (k0_t13 : Fin k0_t13_loop.trips) : Fin 4 → Nat :=
  let c2 : Index := 2#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_118 : BitVec 32 := 16#32
  let v101 : BitVec 32 := Scalar.muli v91 c16_i32_118
  let v102 : Index := Scalar.indexCast v101
  let c0_119 : Index := 0#32
  ![2, v102.toNat, 0, 0]
def k0_off84 (k0_t13 : Fin k0_t13_loop.trips) : Fin 4 → Nat :=
  let c3 : Index := 3#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_120 : BitVec 32 := 16#32
  let v105 : BitVec 32 := Scalar.muli v91 c16_i32_120
  let v106 : Index := Scalar.indexCast v105
  let c0_121 : Index := 0#32
  ![3, v106.toNat, 0, 0]
def k0_off85 (k0_t13 : Fin k0_t13_loop.trips) : Fin 4 → Nat :=
  let c0_124 : Index := 0#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_122 : BitVec 32 := 16#32
  let v109 : BitVec 32 := Scalar.muli v91 c16_i32_122
  let c1_i32_123 : BitVec 32 := 1#32
  let v110 : BitVec 32 := Scalar.addi v109 c1_i32_123
  let v111 : Index := Scalar.indexCast v110
  let c0_125 : Index := 0#32
  ![0, v111.toNat, 0, 0]
def k0_off86 (k0_t13 : Fin k0_t13_loop.trips) : Fin 4 → Nat :=
  let c1_128 : Index := 1#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_126 : BitVec 32 := 16#32
  let v114 : BitVec 32 := Scalar.muli v91 c16_i32_126
  let c1_i32_127 : BitVec 32 := 1#32
  let v115 : BitVec 32 := Scalar.addi v114 c1_i32_127
  let v116 : Index := Scalar.indexCast v115
  let c0_129 : Index := 0#32
  ![1, v116.toNat, 0, 0]
def k0_off87 (k0_t13 : Fin k0_t13_loop.trips) : Fin 4 → Nat :=
  let c2_132 : Index := 2#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_130 : BitVec 32 := 16#32
  let v119 : BitVec 32 := Scalar.muli v91 c16_i32_130
  let c1_i32_131 : BitVec 32 := 1#32
  let v120 : BitVec 32 := Scalar.addi v119 c1_i32_131
  let v121 : Index := Scalar.indexCast v120
  let c0_133 : Index := 0#32
  ![2, v121.toNat, 0, 0]
def k0_off88 (k0_t13 : Fin k0_t13_loop.trips) : Fin 4 → Nat :=
  let c3_136 : Index := 3#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_134 : BitVec 32 := 16#32
  let v124 : BitVec 32 := Scalar.muli v91 c16_i32_134
  let c1_i32_135 : BitVec 32 := 1#32
  let v125 : BitVec 32 := Scalar.addi v124 c1_i32_135
  let v126 : Index := Scalar.indexCast v125
  let c0_137 : Index := 0#32
  ![3, v126.toNat, 0, 0]
def k0_mult29 (k0_t13 : Fin k0_t13_loop.trips) : BitVec 32 :=
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_153 : BitVec 32 := 16#32
  let v179 : BitVec 32 := Scalar.muli v91 c16_i32_153
  v179
def k0_off89 (k0_t13 : Fin k0_t13_loop.trips) : Fin 3 → Nat :=
  let c0_154 : Index := 0#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_153 : BitVec 32 := 16#32
  let v179 : BitVec 32 := Scalar.muli v91 c16_i32_153
  let v180 : BitVec 32 := v179
  let v181 : Index := Scalar.indexCast v180
  let c0_155 : Index := 0#32
  ![0, v181.toNat, 0]
def k0_mult30 (k0_t13 : Fin k0_t13_loop.trips) : BitVec 32 :=
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_156 : BitVec 32 := 16#32
  let v186 : BitVec 32 := Scalar.muli v91 c16_i32_156
  v186
def k0_off90 (k0_t13 : Fin k0_t13_loop.trips) : Fin 3 → Nat :=
  let c0_157 : Index := 0#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_156 : BitVec 32 := 16#32
  let v186 : BitVec 32 := Scalar.muli v91 c16_i32_156
  let v187 : BitVec 32 := v186
  let v188 : Index := Scalar.indexCast v187
  let c128 : Index := 128#32
  ![0, v188.toNat, 128]
def k0_mult31 (k0_t13 : Fin k0_t13_loop.trips) : BitVec 32 :=
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_158 : BitVec 32 := 16#32
  let v193 : BitVec 32 := Scalar.muli v91 c16_i32_158
  v193
def k0_off91 (k0_t13 : Fin k0_t13_loop.trips) : Fin 3 → Nat :=
  let c0_159 : Index := 0#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_158 : BitVec 32 := 16#32
  let v193 : BitVec 32 := Scalar.muli v91 c16_i32_158
  let v194 : BitVec 32 := v193
  let v195 : Index := Scalar.indexCast v194
  let c256 : Index := 256#32
  ![0, v195.toNat, 256]
def k0_mult32 (k0_t13 : Fin k0_t13_loop.trips) : BitVec 32 :=
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_160 : BitVec 32 := 16#32
  let v200 : BitVec 32 := Scalar.muli v91 c16_i32_160
  v200
def k0_off92 (k0_t13 : Fin k0_t13_loop.trips) : Fin 3 → Nat :=
  let c0_161 : Index := 0#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_160 : BitVec 32 := 16#32
  let v200 : BitVec 32 := Scalar.muli v91 c16_i32_160
  let v201 : BitVec 32 := v200
  let v202 : Index := Scalar.indexCast v201
  let c384 : Index := 384#32
  ![0, v202.toNat, 384]
def k0_mult33 (k0_t13 : Fin k0_t13_loop.trips) : BitVec 32 :=
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_162 : BitVec 32 := 16#32
  let v207 : BitVec 32 := Scalar.muli v91 c16_i32_162
  v207
def k0_off93 (k0_t13 : Fin k0_t13_loop.trips) : Fin 3 → Nat :=
  let c0_163 : Index := 0#32
  let c0_i32_112 : BitVec 32 := 0#32
  let c0_i32_108 : BitVec 32 := 0#32
  let c1_i32_109 : BitVec 32 := 1#32
  let arg16 : BitVec 32 := Scf.iv c0_i32_108 c1_i32_109 k0_t13
  let c1_i32_111 : BitVec 32 := 1#32
  let v90 : BitVec 32 := Scalar.muli arg16 c1_i32_111
  let v91 : BitVec 32 := Scalar.addi c0_i32_112 v90
  let c16_i32_162 : BitVec 32 := 16#32
  let v207 : BitVec 32 := Scalar.muli v91 c16_i32_162
  let v208 : BitVec 32 := v207
  let v209 : Index := Scalar.indexCast v208
  let c512 : Index := 512#32
  ![0, v209.toNat, 512]
def cc0_transform_0 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![v0.toNat, c0_i32.toNat, arg1.toNat]

abbrev stage0_0 : Fin 2 → Memref sig .tc .smem S1x1x4x2304 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x5x144x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x5x144x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x144x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2304x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== LastReferenceIdeal.lean ====
abbrev S24x3x4x2304 : Shape := ⟨4, ![24, 3, 4, 2304]⟩
abbrev S8x12x5x144x128 : Shape := ⟨5, ![8, 12, 5, 144, 128]⟩
abbrev S8x12x144x128 : Shape := ⟨4, ![8, 12, 144, 128]⟩
abbrev S24x2304x1920 : Shape := ⟨3, ![24, 2304, 1920]⟩
abbrev S69120x128 : Shape := ⟨2, ![69120, 128]⟩
abbrev S276480x128 : Shape := ⟨2, ![276480, 128]⟩
abbrev S8x12x5x18x32x128 : Shape := ⟨6, ![8, 12, 5, 18, 32, 128]⟩
abbrev S8x12x18x128x5x32 : Shape := ⟨6, ![8, 12, 18, 128, 5, 32]⟩
abbrev S8x12x2304x160 : Shape := ⟨4, ![8, 12, 2304, 160]⟩
abbrev S8x12x18x8x128 : Shape := ⟨5, ![8, 12, 18, 8, 128]⟩
abbrev S8x12x18x128x8 : Shape := ⟨5, ![8, 12, 18, 128, 8]⟩
abbrev S8x12x2304x8 : Shape := ⟨4, ![8, 12, 2304, 8]⟩
abbrev S8x12x2304x5 : Shape := ⟨4, ![8, 12, 2304, 5]⟩
abbrev S8x12x2304x1 : Shape := ⟨4, ![8, 12, 2304, 1]⟩
abbrev S8x12x2304 : Shape := ⟨3, ![8, 12, 2304]⟩
abbrev S8x12x2304x5x32 : Shape := ⟨5, ![8, 12, 2304, 5, 32]⟩
abbrev S8x12x2304x5x1 : Shape := ⟨5, ![8, 12, 2304, 5, 1]⟩
abbrev S_ : Shape := ⟨0, ![]⟩
abbrev S8x12x36x64x160 : Shape := ⟨5, ![8, 12, 36, 64, 160]⟩
abbrev S8x12x1x64x160 : Shape := ⟨5, ![8, 12, 1, 64, 160]⟩
abbrev S8x12x35x64x160 : Shape := ⟨5, ![8, 12, 35, 64, 160]⟩
abbrev S8x12x36x128x160 : Shape := ⟨5, ![8, 12, 36, 128, 160]⟩
abbrev S8x12x36x64x128 : Shape := ⟨5, ![8, 12, 36, 64, 128]⟩
abbrev S8x12x36x64 : Shape := ⟨4, ![8, 12, 36, 64]⟩
abbrev S8x12x1x64 : Shape := ⟨4, ![8, 12, 1, 64]⟩
abbrev S8x12x35x64 : Shape := ⟨4, ![8, 12, 35, 64]⟩
abbrev S8x12x36x128 : Shape := ⟨4, ![8, 12, 36, 128]⟩
abbrev S8x12x36x1x128 : Shape := ⟨5, ![8, 12, 36, 1, 128]⟩
abbrev S36x64x128 : Shape := ⟨3, ![36, 64, 128]⟩
abbrev S1x1x36x64x128 : Shape := ⟨5, ![1, 1, 36, 64, 128]⟩
abbrev S8x12x36x64x1 : Shape := ⟨5, ![8, 12, 36, 64, 1]⟩
abbrev S8x3x4x2304 : Shape := ⟨4, ![8, 3, 4, 2304]⟩
abbrev S2304 : Shape := ⟨1, ![2304]⟩
abbrev S1x1x1x2304 : Shape := ⟨4, ![1, 1, 1, 2304]⟩
abbrev S8x12x2304x2304 : Shape := ⟨4, ![8, 12, 2304, 2304]⟩
abbrev S8x12x160x2304 : Shape := ⟨4, ![8, 12, 160, 2304]⟩
abbrev S8x2304x12x160 : Shape := ⟨4, ![8, 2304, 12, 160]⟩
abbrev S8x2304x1920 : Shape := ⟨3, ![8, 2304, 1920]⟩
abbrev S16x2304x1920 : Shape := ⟨3, ![16, 2304, 1920]⟩

abbrev nBuf : Space → Nat
  | .hbm => 149
  | .vmem => 4
  | .smem => 0
  | _ => 0

abbrev hbmTy0_0 (i : Nat) : BufTy := match i % 128 with
  | 0 => ⟨S24x3x4x2304, .i32⟩
  | 1 => ⟨S8x12x5x144x128, .i32⟩
  | 2 => ⟨S8x12x5x144x128, .i32⟩
  | 3 => ⟨S8x12x144x128, .f32⟩
  | 4 => ⟨S24x2304x1920, .bf16⟩
  | 5 => ⟨S69120x128, .i32⟩
  | 6 => ⟨S69120x128, .i32⟩
  | 7 => ⟨S276480x128, .bf16⟩
  | 8 => ⟨S276480x128, .bf16⟩
  | 9 => ⟨S8x12x5x18x32x128, .bf16⟩
  | 10 => ⟨S8x12x18x128x5x32, .bf16⟩
  | 11 => ⟨S8x12x2304x160, .bf16⟩
  | 12 => ⟨S8x12x5x18x32x128, .bf16⟩
  | 13 => ⟨S8x12x18x128x5x32, .bf16⟩
  | 14 => ⟨S8x12x2304x160, .bf16⟩
  | 15 => ⟨S8x12x18x8x128, .f32⟩
  | 16 => ⟨S8x12x18x128x8, .f32⟩
  | 17 => ⟨S8x12x2304x8, .f32⟩
  | 18 => ⟨S8x12x2304x5, .f32⟩
  | 19 => ⟨S8x12x2304x1, .f32⟩
  | 20 => ⟨S8x12x2304, .f32⟩
  | 21 => ⟨S8x12x2304x1, .f32⟩
  | 22 => ⟨S8x12x2304, .f32⟩
  | 23 => ⟨S8x12x2304x5x32, .bf16⟩
  | 24 => ⟨S8x12x2304x5, .bf16⟩
  | 25 => ⟨S8x12x2304x5x1, .bf16⟩
  | 26 => ⟨S8x12x2304x5x32, .bf16⟩
  | 27 => ⟨S8x12x2304x5x32, .bf16⟩
  | 28 => ⟨S8x12x2304x160, .bf16⟩
  | 29 => ⟨S8x12x2304x160, .f32⟩
  | 30 => ⟨S8x12x2304x160, .f32⟩
  | 31 => ⟨S_, .f32⟩
  | 32 => ⟨S8x12x2304, .f32⟩
  | 33 => ⟨S_, .f32⟩
  | 34 => ⟨S8x12x2304, .f32⟩
  | 35 => ⟨S8x12x2304, .f32⟩
  | 36 => ⟨S_, .f32⟩
  | 37 => ⟨S8x12x2304, .f32⟩
  | 38 => ⟨S8x12x2304, .f32⟩
  | 39 => ⟨S8x12x2304, .f32⟩
  | 40 => ⟨S_, .f32⟩
  | 41 => ⟨S_, .f32⟩
  | 42 => ⟨S8x12x2304, .f32⟩
  | 43 => ⟨S8x12x2304, .f32⟩
  | 44 => ⟨S8x12x36x64x160, .bf16⟩
  | 45 => ⟨S8x12x1x64x160, .bf16⟩
  | 46 => ⟨S8x12x35x64x160, .bf16⟩
  | 47 => ⟨S8x12x36x64x160, .bf16⟩
  | 48 => ⟨S8x12x36x128x160, .bf16⟩
  | 49 => ⟨S8x12x36x64x128, .f32⟩
  | 50 => ⟨S8x12x36x64, .f32⟩
  | 51 => ⟨S8x12x1x64, .f32⟩
  | 52 => ⟨S8x12x35x64, .f32⟩
  | 53 => ⟨S8x12x36x64, .f32⟩
  | 54 => ⟨S8x12x36x128, .f32⟩
  | 55 => ⟨S8x12x36x1x128, .f32⟩
  | 56 => ⟨S8x12x36x64x128, .f32⟩
  | 57 => ⟨S8x12x36x64x128, .f32⟩
  | 58 => ⟨S36x64x128, .i32⟩
  | 59 => ⟨S36x64x128, .i32⟩
  | 60 => ⟨S36x64x128, .i32⟩
  | 61 => ⟨S_, .i32⟩
  | 62 => ⟨S36x64x128, .i32⟩
  | 63 => ⟨S36x64x128, .i32⟩
  | 64 => ⟨S_, .i32⟩
  | 65 => ⟨S36x64x128, .i32⟩
  | 66 => ⟨S36x64x128, .i1⟩
  | 67 => ⟨S_, .i32⟩
  | 68 => ⟨S36x64x128, .i32⟩
  | 69 => ⟨S36x64x128, .i1⟩
  | 70 => ⟨S36x64x128, .i1⟩
  | 71 => ⟨S36x64x128, .i1⟩
  | 72 => ⟨S36x64x128, .i32⟩
  | 73 => ⟨S_, .i32⟩
  | 74 => ⟨S36x64x128, .i32⟩
  | 75 => ⟨S36x64x128, .i32⟩
  | 76 => ⟨S_, .i32⟩
  | 77 => ⟨S_, .i32⟩
  | 78 => ⟨S36x64x128, .i32⟩
  | 79 => ⟨S36x64x128, .i32⟩
  | 80 => ⟨S36x64x128, .f32⟩
  | 81 => ⟨S8x12x36x64, .f32⟩
  | 82 => ⟨S8x12x1x64, .f32⟩
  | 83 => ⟨S8x12x35x64, .f32⟩
  | 84 => ⟨S8x12x36x64, .f32⟩
  | 85 => ⟨S8x12x36x128, .f32⟩
  | 86 => ⟨S8x12x36x1x128, .f32⟩
  | 87 => ⟨S1x1x36x64x128, .f32⟩
  | 88 => ⟨S8x12x36x64x128, .f32⟩
  | 89 => ⟨S8x12x36x64x128, .f32⟩
  | 90 => ⟨S8x12x36x64x128, .i1⟩
  | 91 => ⟨S1x1x36x64x128, .i1⟩
  | 92 => ⟨S8x12x36x64x128, .i1⟩
  | 93 => ⟨S8x12x36x64x128, .i1⟩
  | 94 => ⟨S36x64x128, .i1⟩
  | 95 => ⟨S_, .f32⟩
  | 96 => ⟨S_, .f32⟩
  | 97 => ⟨S36x64x128, .f32⟩
  | 98 => ⟨S36x64x128, .f32⟩
  | 99 => ⟨S36x64x128, .f32⟩
  | 100 => ⟨S36x64x128, .f32⟩
  | 101 => ⟨S8x12x36x64x128, .f32⟩
  | 102 => ⟨S8x12x36x64x128, .f32⟩
  | 103 => ⟨S_, .f32⟩
  | 104 => ⟨S8x12x36x64, .f32⟩
  | 105 => ⟨S8x12x36x64x1, .f32⟩
  | 106 => ⟨S8x12x36x64x128, .f32⟩
  | 107 => ⟨S8x12x36x64x128, .f32⟩
  | 108 => ⟨S8x12x36x64x128, .f32⟩
  | 109 => ⟨S_, .f32⟩
  | 110 => ⟨S8x12x36x64, .f32⟩
  | 111 => ⟨S8x12x36x64x1, .f32⟩
  | 112 => ⟨S_, .f32⟩
  | 113 => ⟨S8x12x36x64x1, .f32⟩
  | 114 => ⟨S8x12x36x64x1, .f32⟩
  | 115 => ⟨S8x12x36x64x128, .f32⟩
  | 116 => ⟨S8x12x36x64x128, .f32⟩
  | 117 => ⟨S8x12x36x64, .f32⟩
  | 118 => ⟨S8x12x1x64, .f32⟩
  | 119 => ⟨S8x12x35x64, .f32⟩
  | 120 => ⟨S8x12x36x64, .f32⟩
  | 121 => ⟨S8x12x36x128, .f32⟩
  | 122 => ⟨S8x12x36x1x128, .f32⟩
  | 123 => ⟨S8x12x36x64x128, .f32⟩
  | 124 => ⟨S8x12x36x64x128, .f32⟩
  | 125 => ⟨S8x12x36x64x128, .bf16⟩
  | 126 => ⟨S8x12x36x64x160, .bf16⟩
  | 127 => ⟨S8x12x1x64x160, .bf16⟩
  | _ => ⟨S24x3x4x2304, .i32⟩

abbrev hbmTy0_1 (i : Nat) : BufTy := match i % 128 with
  | 0 => ⟨S8x12x35x64x160, .bf16⟩
  | 1 => ⟨S8x12x36x64x160, .bf16⟩
  | 2 => ⟨S8x12x36x128x160, .bf16⟩
  | 3 => ⟨S8x12x36x64x160, .f32⟩
  | 4 => ⟨S8x12x36x64x160, .bf16⟩
  | 5 => ⟨S8x12x2304x160, .bf16⟩
  | 6 => ⟨S8x3x4x2304, .i32⟩
  | 7 => ⟨S8x12x2304, .i32⟩
  | 8 => ⟨S8x12x2304x1, .i32⟩
  | 9 => ⟨S2304, .i32⟩
  | 10 => ⟨S1x1x1x2304, .i32⟩
  | 11 => ⟨S8x12x2304x2304, .i32⟩
  | 12 => ⟨S8x12x2304x2304, .i32⟩
  | 13 => ⟨S8x12x2304x2304, .i1⟩
  | 14 => ⟨S8x12x2304x2304, .bf16⟩
  | 15 => ⟨S8x12x160x2304, .f32⟩
  | 16 => ⟨S8x2304x12x160, .f32⟩
  | 17 => ⟨S8x2304x12x160, .bf16⟩
  | 18 => ⟨S8x2304x1920, .bf16⟩
  | 19 => ⟨S16x2304x1920, .bf16⟩
  | 20 => ⟨S24x2304x1920, .bf16⟩
  | _ => ⟨S24x3x4x2304, .i32⟩

abbrev hbmTy (i : Nat) : BufTy := match i / 128 with
  | 0 => hbmTy0_0 i
  | 1 => hbmTy0_1 i
  | _ => ⟨S24x3x4x2304, .i32⟩

abbrev bufTy : (tb : Table) → Fin (tcTables nBuf tb) → BufTy
  | .hbm, ⟨i, _⟩ => hbmTy i
  | .local _ .vmem, ⟨0, _⟩ => ⟨S69120x128, .i32⟩
  | .local _ .vmem, ⟨1, _⟩ => ⟨S69120x128, .i32⟩
  | .local _ .vmem, ⟨2, _⟩ => ⟨S276480x128, .bf16⟩
  | .local _ .vmem, ⟨3, _⟩ => ⟨S276480x128, .bf16⟩
  | _, _ => ⟨S24x3x4x2304, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_v25 : Ref sig .tc := ⟨.hbm, 32, rfl⟩
abbrev main_cst_0 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_c : Ref sig .tc := ⟨.hbm, 61, rfl⟩
abbrev main_v51 : Ref sig .tc := ⟨.hbm, 62, rfl⟩
abbrev main_v52 : Ref sig .tc := ⟨.hbm, 63, rfl⟩
abbrev main_c_3 : Ref sig .tc := ⟨.hbm, 64, rfl⟩
abbrev main_v53 : Ref sig .tc := ⟨.hbm, 65, rfl⟩
abbrev main_v54 : Ref sig .tc := ⟨.hbm, 66, rfl⟩
abbrev main_c_4 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_c_5 : Ref sig .tc := ⟨.hbm, 73, rfl⟩
abbrev main_v60 : Ref sig .tc := ⟨.hbm, 74, rfl⟩
abbrev main_v61 : Ref sig .tc := ⟨.hbm, 75, rfl⟩
abbrev main_c_6 : Ref sig .tc := ⟨.hbm, 76, rfl⟩
abbrev main_call0_v0 : Ref sig .tc := ⟨.hbm, 77, rfl⟩
abbrev main_call0_v1 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_7 : Ref sig .tc := ⟨.hbm, 95, rfl⟩
abbrev main_cst_8 : Ref sig .tc := ⟨.hbm, 96, rfl⟩
abbrev main_call1_v0 : Ref sig .tc := ⟨.hbm, 97, rfl⟩
abbrev main_call1_v1 : Ref sig .tc := ⟨.hbm, 98, rfl⟩
abbrev main_v78 : Ref sig .tc := ⟨.hbm, 99, rfl⟩
abbrev main_call2_v0 : Ref sig .tc := ⟨.hbm, 100, rfl⟩
abbrev main_call2_v1 : Ref sig .tc := ⟨.hbm, 101, rfl⟩
abbrev main_v79 : Ref sig .tc := ⟨.hbm, 102, rfl⟩
abbrev main_cst_9 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_10 : Ref sig .tc := ⟨.hbm, 109, rfl⟩
abbrev main_v85 : Ref sig .tc := ⟨.hbm, 110, rfl⟩
abbrev main_v86 : Ref sig .tc := ⟨.hbm, 111, rfl⟩
abbrev main_cst_11 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S69120x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S69120x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S276480x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S276480x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Perm.lean ====
/- What the two preconditions say of the sorted positions, read at one word: `perm_in_range` bounds every
   word of batches 8 to 15 by the number of rows, `perm_onto` says every row is named by some word of its
   head. A head naming every row names each row once, so the second implies the first. -/
module

public import proofs.«01_k».proof.Proof.Gen.Pre_perm_in_range
public import proofs.«01_k».proof.Proof.Gen.Pre_perm_onto
public import Idealize.ShloMosaic.Lib.ValueIdxCore
public import Idealize.ShloMosaic.Lib.Routing.OpsOrder
public import Idealize.ShloMosaic.Lib.Pipeline.ValueKit

@[expose] public section

set_option maxRecDepth 16384

noncomputable section

namespace Cert.Perm

open Idealize.ShloMosaic

/-- The sorted positions of all batches. -/
abbrev PermArr := (⟨4, ![24, 3, 4, 2304]⟩ : Shape).Idx → BitVec 32

/-- Every word of batches 8 to 15 names a row. -/
def InRange (p : PermArr) : Prop := ∀ (b : Fin 8) (g : Fin 3) (h : Fin 4) (r : Fin 2304),
  (p (ix4 ⟨8 + b.val, by omega⟩ g h r)).toNat < 2304

/-- Every row is named by a word of each head of batches 8 to 15. -/
def Onto (p : PermArr) : Prop := ∀ (b : Fin 8) (g : Fin 3) (h : Fin 4) (q : Fin 2304),
  ∃ r : Fin 2304, (p (ix4 ⟨8 + b.val, by omega⟩ g h r)).toNat = q.val

theorem inRange_of_pre {F : FTy → Type} [FloatOps F] [Cert.Pre_perm_in_range.Facts] {p : PermArr} {a1 a2 a3 a4}
    (h : Cert.Pre_perm_in_range.fn (F := F) p a1 a2 a3 a4 = fun _ => 1#1) : InRange p := by
  intro b g hd r
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h (ix4 b g hd r)
  simp only [Cert.Pre_perm_in_range.fn, andi, cmpi, broadcastInDim, constantI, IntOp.cmpi, andi_ofBool,
    ofBool_eq_one, Bool.and_eq_true] at e
  obtain ⟨hge, hlt⟩ := e
  have hi : ∀ hs, (extractStridedSlice Cert.Pre_perm_in_range.S8x3x4x2304 ![8, 0, 0, 0] p hs (ix4 b g hd r))
      = p (ix4 ⟨8 + b.val, by omega⟩ g hd r) := by
    intro hs
    pointwise
    blk_ext []
  rw [hi] at hge hlt
  simp only [BitVec.sle, BitVec.slt, decide_eq_true_eq, BitVec.toInt, BitVec.toNat_ofNat] at hge hlt
  omega

theorem onto_of_pre {F : FTy → Type} [FloatOps F] [Cert.Pre_perm_onto.Facts] {p : PermArr} {a1 a2 a3 a4}
    (h : Cert.Pre_perm_onto.fn (F := F) p a1 a2 a3 a4 = fun _ => 1#1) : Onto p := by
  intro b g hd q
  have ofBool_eq_one (p : Bool) : (BitVec.ofBool p = 1#1) ↔ p = true := by cases p <;> decide
  have e := congrFun h (ix4 b g hd q)
  simp only [Cert.Pre_perm_onto.fn] at e
  rw [Host.reduce_eq_fold_single IntOp.ori _ _ _ (show Shape.Reduces _ [3] _ by decide)] at e
  obtain ⟨r, -, hr⟩ := (Routing.fold_ori _ _).1 e
  refine ⟨r, ?_⟩
  have hl : (show Shape.Reduces Cert.Pre_perm_onto.S8x3x4x2304x2304 [3] Cert.Pre_perm_onto.S8x3x4x2304 by decide).lift
      (ix4 b g hd q) r = ix5 b g hd r q := by
    funext c; fin_cases c <;> rfl
  rw [Function.comp_apply, hl] at hr
  simp only [cmpi, IntOp.cmpi, ofBool_eq_one, beq_iff_eq] at hr
  pointwise at hr
  rw [hr, BitVec.toNat_ofNat]; omega

/-- A head naming every row names rows only. -/
theorem Onto.inRange {p : PermArr} (h : Onto p) : InRange p := by
  intro b g hd r
  choose s hs using h b g hd
  have hinj : Function.Injective s := fun x y hxy => by
    have := hs x; rw [hxy, hs y] at this; exact Fin.ext this.symm
  obtain ⟨q, rfl⟩ := (Finite.injective_iff_surjective.mp hinj) r
  rw [hs q]; exact q.isLt

/-- and each row once. -/
theorem Onto.inj {p : PermArr} (h : Onto p) (b : Fin 8) (g : Fin 3) (hd : Fin 4) {r r' : Fin 2304}
    (e : p (ix4 ⟨8 + b.val, by omega⟩ g hd r) = p (ix4 ⟨8 + b.val, by omega⟩ g hd r')) : r = r' := by
  choose s hs using h b g hd
  have hinj : Function.Injective s := fun x y hxy => by
    have := hs x; rw [hxy, hs y] at this; exact Fin.ext this.symm
  obtain ⟨q, rfl⟩ := (Finite.injective_iff_surjective.mp hinj) r
  obtain ⟨q', rfl⟩ := (Finite.injective_iff_surjective.mp hinj) r'
  have : q.val = q'.val := by rw [← hs q, ← hs q', e]
  rw [Fin.ext this]

end Cert.Perm

end
-- ==== Proof.KernelRun.lean ====
/- The frame of `Kernel`: the body's run at one point, each perm word a row of the window, the output
   window handed back at some contents; then the launch, whose final states have the argument arrays
   unchanged and every counter at zero. -/
module

public import proofs.«01_k».proof.Proof.Gen.Kernel.Frame
public import proofs.«01_k».proof.Proof.Gen.Kernel.Loops
public import Idealize.ShloMosaic.Lib.Claim

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c)⟩) h

/-! ## The kernel body on any staging memrefs: a subtype the run finds -/

/-- Each window's current staging memref at point `t`, spelled as the pipeline passes it (`bodyAt0`), and its wholeness. -/
abbrev ms0_0 (t : Fin cfg0.N) : Memref sig .tc .smem S1x1x4x2304 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x5x144x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x5x144x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4x144x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2304x640 .bf16 := win0_6.stage (cfg0.slots t 6)
abbrev hs0_6 (t : Fin cfg0.N) : (ms0_6 t).IsWhole := hstage0_6 ((cfg0.slots t 6).cast nbuf0_6)

/-! ## The side conditions the body assumes, as the frame's hypothesis -/

/-- The side conditions the body ASSUMES of words it loads from its input SMEM windows, or inside a counted
    loop of the loop's carried counter at every trip (the printed `TpuEff.assume
    (kK_chkN …)`: facts computed from the words that no program decides for every word), at EVERY point, over the
    words of the argument blocks there — spelled as each case's run reads them (`View.readAt` through the window's
    memref at its held contents), each under the conditions of the branches it sits inside. The frame holds
    under it; Proof.lean proves it from the certificate's
    precondition (`hyps_of_pre`; `View.readAt_apply` and `Memref.IsWhole.read_unread` rewrite a conjunct to the
    predicate at the block's word). -/
def Hyps (m : (ℓ : Loc nD τ sig) → Buf (Elt F) ℓ) : Prop :=
  ∀ (c : Dev nD) (t : Fin cfg0.N),
    (∀ (kq : ℕ) (hkq : kq < k0_t3_loop.trips), k0_chk1 ((ms0_0 t).view.readAt (Elt F) (Rect.unit (s := S1x1x4x2304) (k0_off19 ⟨kq, hkq⟩) S1x1x1x1.size (k0_off19_inb ⟨kq, hkq⟩)).toLoadRect ((hs0_0 t).unread (iblk m c 0 t)) (Shape.Idx.first (numel1_S1x1x1x1.symm ▸ Nat.one_pos))))
    ∧ (∀ (kq : ℕ) (hkq : kq < k0_t6_loop.trips), k0_chk2 ((ms0_0 t).view.readAt (Elt F) (Rect.unit (s := S1x1x4x2304) (k0_off39 ⟨kq, hkq⟩) S1x1x1x1.size (k0_off39_inb ⟨kq, hkq⟩)).toLoadRect ((hs0_0 t).unread (iblk m c 0 t)) (Shape.Idx.first (numel1_S1x1x1x1.symm ▸ Nat.one_pos))))
    ∧ (∀ (kq : ℕ) (hkq : kq < k0_t9_loop.trips), k0_chk3 ((ms0_0 t).view.readAt (Elt F) (Rect.unit (s := S1x1x4x2304) (k0_off59 ⟨kq, hkq⟩) S1x1x1x1.size (k0_off59_inb ⟨kq, hkq⟩)).toLoadRect ((hs0_0 t).unread (iblk m c 0 t)) (Shape.Idx.first (numel1_S1x1x1x1.symm ▸ Nat.one_pos))))
    ∧ (∀ (kq : ℕ) (hkq : kq < k0_t12_loop.trips), k0_chk4 ((ms0_0 t).view.readAt (Elt F) (Rect.unit (s := S1x1x4x2304) (k0_off79 ⟨kq, hkq⟩) S1x1x1x1.size (k0_off79_inb ⟨kq, hkq⟩)).toLoadRect ((hs0_0 t).unread (iblk m c 0 t)) (Shape.Idx.first (numel1_S1x1x1x1.symm ▸ Nat.one_pos))))

/-! Each conjunct of `Hyps` by name: its statement (`Hyps.pN`), a lemma citing it (`Hyps.cN`: what a run, or a
    statement over it, takes for that side condition), and `Hyps` built from one proof per conjunct (`Hyps.of`:
    what Proof.lean's `hyps_of_pre` applies). -/

/-- Conjunct 0 of `Hyps` at point `t`: the side condition `k0_chk1` the body assumes as `k0_hw1L`. -/
abbrev Hyps.p0 (m : (ℓ : Loc nD τ sig) → Buf (Elt F) ℓ) (c : Dev nD) (t : Fin cfg0.N) : Prop :=
  (∀ (kq : ℕ) (hkq : kq < k0_t3_loop.trips), k0_chk1 ((ms0_0 t).view.readAt (Elt F) (Rect.unit (s := S1x1x4x2304) (k0_off19 ⟨kq, hkq⟩) S1x1x1x1.size (k0_off19_inb ⟨kq, hkq⟩)).toLoadRect ((hs0_0 t).unread (iblk m c 0 t)) (Shape.Idx.first (numel1_S1x1x1x1.symm ▸ Nat.one_pos))))
variable {m} in
theorem Hyps.c0 (hH : Hyps m) (c : Dev nD) (t : Fin cfg0.N) :
    (∀ (kq : ℕ) (hkq : kq < k0_t3_loop.trips), k0_chk1 ((ms0_0 t).view.readAt (Elt F) (Rect.unit (s := S1x1x4x2304) (k0_off19 ⟨kq, hkq⟩) S1x1x1x1.size (k0_off19_inb ⟨kq, hkq⟩)).toLoadRect ((hs0_0 t).unread (iblk m c 0 t)) (Shape.Idx.first (numel1_S1x1x1x1.symm ▸ Nat.one_pos)))) := (hH c t).1
/-- Conjunct 1 of `Hyps` at point `t`: the side condition `k0_chk2` the body assumes as `k0_hw2L`. -/
abbrev Hyps.p1 (m : (ℓ : Loc nD τ sig) → Buf (Elt F) ℓ) (c : Dev nD) (t : Fin cfg0.N) : Prop :=
  (∀ (kq : ℕ) (hkq : kq < k0_t6_loop.trips), k0_chk2 ((ms0_0 t).view.readAt (Elt F) (Rect.unit (s := S1x1x4x2304) (k0_off39 ⟨kq, hkq⟩) S1x1x1x1.size (k0_off39_inb ⟨kq, hkq⟩)).toLoadRect ((hs0_0 t).unread (iblk m c 0 t)) (Shape.Idx.first (numel1_S1x1x1x1.symm ▸ Nat.one_pos))))
variable {m} in
theorem Hyps.c1 (hH : Hyps m) (c : Dev nD) (t : Fin cfg0.N) :
    (∀ (kq : ℕ) (hkq : kq < k0_t6_loop.trips), k0_chk2 ((ms0_0 t).view.readAt (Elt F) (Rect.unit (s := S1x1x4x2304) (k0_off39 ⟨kq, hkq⟩) S1x1x1x1.size (k0_off39_inb ⟨kq, hkq⟩)).toLoadRect ((hs0_0 t).unread (iblk m c 0 t)) (Shape.Idx.first (numel1_S1x1x1x1.symm ▸ Nat.one_pos)))) := (hH c t).2.1
/-- Conjunct 2 of `Hyps` at point `t`: the side condition `k0_chk3` the body assumes as `k0_hw3L`. -/
abbrev Hyps.p2 (m : (ℓ : Loc nD τ sig) → Buf (Elt F) ℓ) (c : Dev nD) (t : Fin cfg0.N) : Prop :=
  (∀ (kq : ℕ) (hkq : kq < k0_t9_loop.trips), k0_chk3 ((ms0_0 t).view.readAt (Elt F) (Rect.unit (s := S1x1x4x2304) (k0_off59 ⟨kq, hkq⟩) S1x1x1x1.size (k0_off59_inb ⟨kq, hkq⟩)).toLoadRect ((hs0_0 t).unread (iblk m c 0 t)) (Shape.Idx.first (numel1_S1x1x1x1.symm ▸ Nat.one_pos))))
variable {m} in
theorem Hyps.c2 (hH : Hyps m) (c : Dev nD) (t : Fin cfg0.N) :
    (∀ (kq : ℕ) (hkq : kq < k0_t9_loop.trips), k0_chk3 ((ms0_0 t).view.readAt (Elt F) (Rect.unit (s := S1x1x4x2304) (k0_off59 ⟨kq, hkq⟩) S1x1x1x1.size (k0_off59_inb ⟨kq, hkq⟩)).toLoadRect ((hs0_0 t).unread (iblk m c 0 t)) (Shape.Idx.first (numel1_S1x1x1x1.symm ▸ Nat.one_pos)))) := (hH c t).2.2.1
/-- Conjunct 3 of `Hyps` at point `t`: the side condition `k0_chk4` the body assumes as `k0_hw4L`. -/
abbrev Hyps.p3 (m : (ℓ : Loc nD τ sig) → Buf (Elt F) ℓ) (c : Dev nD) (t : Fin cfg0.N) : Prop :=
  (∀ (kq : ℕ) (hkq : kq < k0_t12_loop.trips), k0_chk4 ((ms0_0 t).view.readAt (Elt F) (Rect.unit (s := S1x1x4x2304) (k0_off79 ⟨kq, hkq⟩) S1x1x1x1.size (k0_off79_inb ⟨kq, hkq⟩)).toLoadRect ((hs0_0 t).unread (iblk m c 0 t)) (Shape.Idx.first (numel1_S1x1x1x1.symm ▸ Nat.one_pos))))
variable {m} in
theorem Hyps.c3 (hH : Hyps m) (c : Dev nD) (t : Fin cfg0.N) :
    (∀ (kq : ℕ) (hkq : kq < k0_t12_loop.trips), k0_chk4 ((ms0_0 t).view.readAt (Elt F) (Rect.unit (s := S1x1x4x2304) (k0_off79 ⟨kq, hkq⟩) S1x1x1x1.size (k0_off79_inb ⟨kq, hkq⟩)).toLoadRect ((hs0_0 t).unread (iblk m c 0 t)) (Shape.Idx.first (numel1_S1x1x1x1.symm ▸ Nat.one_pos)))) := (hH c t).2.2.2
variable {m} in
theorem Hyps.of
    (p0 : ∀ (c : Dev nD) (t : Fin cfg0.N), Hyps.p0 m c t)
    (p1 : ∀ (c : Dev nD) (t : Fin cfg0.N), Hyps.p1 m c t)
    (p2 : ∀ (c : Dev nD) (t : Fin cfg0.N), Hyps.p2 m c t)
    (p3 : ∀ (c : Dev nD) (t : Fin cfg0.N), Hyps.p3 m c t) :
    Hyps m := fun c t =>
  And.intro (p0 c t) (And.intro (p1 c t) (And.intro (p2 c t) (p3 c t)))

/-- The scratch operands: whole scoped buffers of the kernel's own, passed beside the windows. -/
abbrev scM0_0 : Memref sig .tc .vmem S160x2432 .bf16 := Memref.whole cc0_scratch0
abbrev scM0_1 : Memref sig .tc .vmem S2304x160 .bf16 := Memref.whole cc0_scratch1
abbrev scM0_2 : Memref sig .tc .vmem S176x2432 .bf16 := Memref.whole cc0_scratch2
abbrev scM0_3 : Memref sig .tc .vmem S8x2432 .f32 := Memref.whole cc0_scratch3
abbrev scM0_4 : Memref sig .tc .vmem S4x2304x128 .i32 := Memref.whole cc0_scratch4
abbrev scM0_5 : Memref sig .tc .vmem S2304x128 .i32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

-- (the run's proof term is large: checking it walks past the default budget)
set_option maxHeartbeats 1476000 in
/-- The body's triple: on whole staging memrefs — the inputs' at their contents,
    the FORGOTTEN outputs' (6) at anything, handed back at some contents nothing names —
    the body runs to the continuation holding the inputs' as they were, the scratch at some contents: the printed functions are their skeletons (`*_eq_skeleton`),
    which `sl_exec` runs (Lib/Exec.lean). -/
theorem kernelRun0_A (c : Dev nD) (i : grid0.Coords) (arg2 : Memref sig .tc .smem S1x1x4x2304 .i32) (harg2 : arg2.IsWhole) (arg3 : Memref sig .tc .vmem S1x4x5x144x128 .i32) (harg3 : arg3.IsWhole) (arg4 : Memref sig .tc .vmem S1x4x5x144x128 .i32) (harg4 : arg4.IsWhole) (arg5 : Memref sig .tc .vmem S1x4x144x128 .f32) (harg5 : arg5.IsWhole) (arg6 : Memref sig .tc .vmem S128x128 .f32) (harg6 : arg6.IsWhole) (arg7 : Memref sig .tc .vmem S128x128 .f32) (harg7 : arg7.IsWhole) (arg9 : Memref sig .tc .vmem S1x2304x640 .bf16) (harg9 : arg9.IsWhole) (arg10 : Memref sig .tc .vmem S160x2432 .bf16) (harg10 : arg10.IsWhole) (arg11 : Memref sig .tc .vmem S2304x160 .bf16) (harg11 : arg11.IsWhole) (arg12 : Memref sig .tc .vmem S176x2432 .bf16) (harg12 : arg12.IsWhole) (arg13 : Memref sig .tc .vmem S8x2432 .f32) (harg13 : arg13.IsWhole) (arg14 : Memref sig .tc .vmem S4x2304x128 .i32) (harg14 : arg14.IsWhole) (arg15 : Memref sig .tc .vmem S2304x128 .i32) (harg15 : arg15.IsWhole)
    (x0 : Vec F S1x1x4x2304 .i32) (x1 : Vec F S1x4x5x144x128 .i32) (x2 : Vec F S1x4x5x144x128 .i32) (x3 : Vec F S1x4x144x128 .f32) (x4 : Vec F S128x128 .f32) (x5 : Vec F S128x128 .f32) (k0_hw1L : (∀ (kq : ℕ) (hkq : kq < k0_t3_loop.trips), k0_chk1 (arg2.view.readAt (Elt F) (Rect.unit (s := S1x1x4x2304) (k0_off19 ⟨kq, hkq⟩) S1x1x1x1.size (k0_off19_inb ⟨kq, hkq⟩)).toLoadRect (harg2.unread x0) (Shape.Idx.first (numel1_S1x1x1x1.symm ▸ Nat.one_pos))))) (k0_hw2L : (∀ (kq : ℕ) (hkq : kq < k0_t6_loop.trips), k0_chk2 (arg2.view.readAt (Elt F) (Rect.unit (s := S1x1x4x2304) (k0_off39 ⟨kq, hkq⟩) S1x1x1x1.size (k0_off39_inb ⟨kq, hkq⟩)).toLoadRect (harg2.unread x0) (Shape.Idx.first (numel1_S1x1x1x1.symm ▸ Nat.one_pos))))) (k0_hw3L : (∀ (kq : ℕ) (hkq : kq < k0_t9_loop.trips), k0_chk3 (arg2.view.readAt (Elt F) (Rect.unit (s := S1x1x4x2304) (k0_off59 ⟨kq, hkq⟩) S1x1x1x1.size (k0_off59_inb ⟨kq, hkq⟩)).toLoadRect (harg2.unread x0) (Shape.Idx.first (numel1_S1x1x1x1.symm ▸ Nat.one_pos))))) (k0_hw4L : (∀ (kq : ℕ) (hkq : kq < k0_t12_loop.trips), k0_chk4 (arg2.view.readAt (Elt F) (Rect.unit (s := S1x1x4x2304) (k0_off79 ⟨kq, hkq⟩) S1x1x1x1.size (k0_off79_inb ⟨kq, hkq⟩)).toLoadRect (harg2.unread x0) (Shape.Idx.first (numel1_S1x1x1x1.symm ▸ Nat.one_pos))))) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_attend i arg2 harg2 arg3 harg3 arg4 harg4 arg5 harg5 arg6 harg6 arg7 harg7 (Memref.whole main_arg4) (Memref.isWhole_whole _) arg9 harg9 arg10 harg10 arg11 harg11 arg12 harg12 arg13 harg13 arg14 harg14 arg15 harg15) K := by
    intro E K
    simp only [cc0_attend_eq_skeleton]; unfold cc0_attend_skel
    simp only [k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (hH : Hyps m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (hH : Hyps m) (c : Dev nD) (w : Fin cfg0.W) : (dats m hH 0 c).A w = V m c (Pipeline.arrRef spec0 w) := by
  dsimp only [dats]

/-- What the body leaves, window by window (the proof data's `match` reduced by `dsimp`). -/
theorem after0_0 (hH : Hyps m) (c : Dev nD) (t : Fin cfg0.N) : (dats m hH 0 c).after 0 t = iblk m c 0 t := by dsimp only [dats]
theorem after0_1 (hH : Hyps m) (c : Dev nD) (t : Fin cfg0.N) : (dats m hH 0 c).after 1 t = iblk m c 1 t := by dsimp only [dats]
theorem after0_2 (hH : Hyps m) (c : Dev nD) (t : Fin cfg0.N) : (dats m hH 0 c).after 2 t = iblk m c 2 t := by dsimp only [dats]
theorem after0_3 (hH : Hyps m) (c : Dev nD) (t : Fin cfg0.N) : (dats m hH 0 c).after 3 t = iblk m c 3 t := by dsimp only [dats]
theorem after0_4 (hH : Hyps m) (c : Dev nD) (t : Fin cfg0.N) : (dats m hH 0 c).after 4 t = iblk m c 4 t := by dsimp only [dats]
theorem after0_5 (hH : Hyps m) (c : Dev nD) (t : Fin cfg0.N) : (dats m hH 0 c).after 5 t = iblk m c 5 t := by dsimp only [dats]

/-- Each input's current staging buffer holds its block at every point, fetched there or not (`beforeK_W_of`). -/
theorem before0_0 (hH : Hyps m) (c : Dev nD) (t : Fin cfg0.N) (d) : (dats m hH 0 c).before 0 t d = iblk m c 0 t :=
  before0_0_of m (dats m hH 0 c) (A_eq m hH c 0) (after0_0 m hH c) t d
theorem before0_1 (hH : Hyps m) (c : Dev nD) (t : Fin cfg0.N) (d) : (dats m hH 0 c).before 1 t d = iblk m c 1 t :=
  before0_1_of m (dats m hH 0 c) (A_eq m hH c 1) (after0_1 m hH c) t d
theorem before0_2 (hH : Hyps m) (c : Dev nD) (t : Fin cfg0.N) (d) : (dats m hH 0 c).before 2 t d = iblk m c 2 t :=
  before0_2_of m (dats m hH 0 c) (A_eq m hH c 2) (after0_2 m hH c) t d
theorem before0_3 (hH : Hyps m) (c : Dev nD) (t : Fin cfg0.N) (d) : (dats m hH 0 c).before 3 t d = iblk m c 3 t :=
  before0_3_of m (dats m hH 0 c) (A_eq m hH c 3) (after0_3 m hH c) t d
theorem before0_4 (hH : Hyps m) (c : Dev nD) (t : Fin cfg0.N) (d) : (dats m hH 0 c).before 4 t d = iblk m c 4 t :=
  before0_4_of m (dats m hH 0 c) (A_eq m hH c 4) (after0_4 m hH c) t d
theorem before0_5 (hH : Hyps m) (c : Dev nD) (t : Fin cfg0.N) (d) : (dats m hH 0 c).before 5 t d = iblk m c 5 t :=
  before0_5_of m (dats m hH 0 c) (A_eq m hH c 5) (after0_5 m hH c) t d

/-! ## The body obligation, at a generic point -/

/-- What the body is called with at point `t` (Lib/Pipeline.lean `BodyObligation`'s precondition, the windows one by one), -/
def bodyPre (hH : Hyps m) (c : Dev nD) (t : Fin cfg0.N) : sProp 𝕄 :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d))
    ∗ (∃ d, owns (c : Thread nD τ) (ms0_3 t) fullShare ((dats m hH 0 c).before 3 t d))
    ∗ (∃ d, owns (c : Thread nD τ) (ms0_4 t) fullShare ((dats m hH 0 c).before 4 t d))
    ∗ (∃ d, owns (c : Thread nD τ) (ms0_5 t) fullShare ((dats m hH 0 c).before 5 t d))
    ∗ (∃ d, owns (c : Thread nD τ) (ms0_6 t) fullShare d))

/-- and what it returns. -/
def bodyPost (hH : Hyps m) (c : Dev nD) (t : Fin cfg0.N) : sProp 𝕄 :=
  iprop((dats m hH 0 c).Φ t.succ ∗ (dats m hH 0 c).owesAt () t.succ
    ∗ owns (c : Thread nD τ) (ms0_0 t) fullShare ((dats m hH 0 c).after 0 t)
    ∗ owns (c : Thread nD τ) (ms0_1 t) fullShare ((dats m hH 0 c).after 1 t)
    ∗ owns (c : Thread nD τ) (ms0_2 t) fullShare ((dats m hH 0 c).after 2 t)
    ∗ owns (c : Thread nD τ) (ms0_3 t) fullShare ((dats m hH 0 c).after 3 t)
    ∗ owns (c : Thread nD τ) (ms0_4 t) fullShare ((dats m hH 0 c).after 4 t)
    ∗ owns (c : Thread nD τ) (ms0_5 t) fullShare ((dats m hH 0 c).after 5 t)
    ∗ (∃ d, owns (c : Thread nD τ) (ms0_6 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hH : Hyps m) (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0_0, before0_1, before0_2, before0_3, before0_4, before0_5]
  rw [show (dats m hH 0 c).Φ t.succ = (dats m hH 0 c).Φ t.castSucc from rfl,
    show (dats m hH 0 c).owesAt () t.succ = (dats m hH 0 c).owesAt () t.castSucc from rfl,
    after0_0, after0_1, after0_2, after0_3, after0_4, after0_5]
  rw [show (dats m hH 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (Hyps.c0 hH c t) (Hyps.c1 hH c t) (Hyps.c2 hH c t) (Hyps.c3 hH c t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hH : Hyps m) (c : Dev nD) : BodyObligation (dats (F := F) m hH 0 c) (defs₀ (F := F)) Variants.none () Set.univ forgets0 := fun t => by
  rw [bigSep_W0, bigSep_W0, defs₀_row]
  exact triple_restated (sound_body m hH c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hH : Hyps m) : θ_run defs (onTc (τ := τ) (main (F := F))) (s₀ m ρ) (fun r => (Pipeline.RDat.FramePost (cfgs 0) (fun c => (dats m hH 0 c).toRForget forgets0) (V m)) r ∧ r.2.sem = fun _ => 0) :=
  Pipeline.θ_run_frame_forget (Q' := _) cfgs (dats m hH) (0 : Fin 1) launch0 defs₀ Variants.none forgets0 m ρ main
    (hbody := fun c => (body_obligation m hH c).loose) (hshare := fun c => (dats m hH 0 c).share_full fun _ => rfl)
    (howed := fun _ _ => rfl) (V := V m) (hmain := hmain m Variants.none) (hA := A_eq m hH) (hΦ := fun _ _ => rfl)

/-- At the compiled mesh, for any values, from any memory with zero counters: every weakly fair execution of @main on the
    TensorCores terminates, and every final state has every INPUT array of the pipeline unchanged, nothing stated of the
    FORGOTTEN outputs (window 6) (Lib/Pipeline/Frame.lean `RDat.FramePost` over the proof data with those windows
    forgotten, Dat.lean `Dat.toRForget`), and every other unscoped buffer at its region-entry contents. -/
theorem run_main (hH : Hyps m) : θ_run defs (onTc (τ := τ) (main (F := F))) (s₀ m ρ) (Pipeline.RDat.FramePost (cfgs 0) (fun c => (dats m hH 0 c).toRForget forgets0) (V m)) :=
  (θ_run defs _ _).mono (fun _ h => h.1) (run_main_quiescent m ρ hH)

/-- `frame` without the counters: the argument arrays end unchanged. -/
theorem unchanged (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m hH 0 c).toRForget forgets0) (A_eq m hH) (run_main m ρ hH)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here UNDER `Hyps` (the side conditions the body assumes,
    at every point), which Proof.lean proves from the precondition: `⟨…, fun m ρ h => Cert.Kernel.Gen.frame m ρ (hyps_of_pre m h)⟩`. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hH) ((θ_run defs _ _).mono (fun _ h => h.2) (run_main_quiescent m ρ hH))

end Cert.Kernel.Run

end
-- ==== Proof.KernelSide.lean ====
/- The side conditions `Kernel`'s body assumes of the sorted positions it reads, from their range. -/
module

public import proofs.«01_k».proof.Proof.Perm
public import proofs.«01_k».proof.Proof.KernelRun

@[expose] public section

set_option maxRecDepth 16384

noncomputable section

namespace Cert.Kernel.Run

open Cert.Kernel Cert.Kernel.Gen
open Idealize.ShloMosaic Idealize.ShloMosaic.TcCoe

variable (m : (ℓ : Loc nD τ sig) → Buf (Elt Bits) ℓ)

theorem index0 : ∀ t : Fin grid0.N, win0_0.index t = ![8 + (grid0.coords t 0).val, (grid0.coords t 1).val, 0, 0] := by
  decide +kernel

/-- A word of a point's block is a word of its batch and head group. -/
theorem iblk0 (c : Dev nD) (t : Fin cfg0.N) (h : Fin 4) (r : Fin 2304) :
    iblk m c 0 t (ix4 0 0 h r)
      = m ((c : Thread nD τ).loc main_arg0)
        (ix4 ⟨8 + (grid0.coords t 0).val, by have := (grid0.coords t 0).isLt; change _ < 8 at this; omega⟩ (grid0.coords t 1) h r) := by
  blk_ext [iblk, index0 t]

theorem iblk0_lt (c : Dev nD) (t : Fin cfg0.N) (hp : Perm.InRange (m ((c : Thread nD τ).loc main_arg0))) (i) :
    (iblk m c 0 t i).toNat < 2304 := by
  have hi : i = (ix4 (0 : Fin 1) (0 : Fin 1) (i 2 : Fin 4) (i 3 : Fin 2304) : (⟨4, ![1, 1, 4, 2304]⟩ : Shape).Idx) := by
    have h0 : (i 0).val < 1 := (i 0).isLt
    have h1 : (i 1).val < 1 := (i 1).isLt
    funext a; fin_cases a
    · exact Fin.ext (by show (i 0).val = 0; omega)
    · exact Fin.ext (by show (i 1).val = 0; omega)
    · rfl
    · rfl
  have e := iblk0 m c t (i 2 : Fin 4) (i 3 : Fin 2304)
  rw [← hi] at e
  rw [e]
  exact hp ⟨(grid0.coords t 0).val, (grid0.coords t 0).isLt⟩ (grid0.coords t 1) (i 2) (i 3)

theorem chk1_of_lt (v : BitVec 32) (h : v.toNat < 2304) : k0_chk1 v := by
  intro a; fin_cases a <;> simp [k0_off20, Scalar.indexCast] <;> omega
theorem chk2_of_lt (v : BitVec 32) (h : v.toNat < 2304) : k0_chk2 v := by
  intro a; fin_cases a <;> simp [k0_off40, Scalar.indexCast] <;> omega
theorem chk3_of_lt (v : BitVec 32) (h : v.toNat < 2304) : k0_chk3 v := by
  intro a; fin_cases a <;> simp [k0_off60, Scalar.indexCast] <;> omega
theorem chk4_of_lt (v : BitVec 32) (h : v.toNat < 2304) : k0_chk4 v := by
  intro a; fin_cases a <;> simp [k0_off80, Scalar.indexCast] <;> omega

/-- The range of the sorted positions gives every side condition. -/
theorem hyps_of_inRange (hp : ∀ c : Dev nD, Perm.InRange (m ((c : Thread nD τ).loc main_arg0))) : Hyps m :=
  Hyps.of
    (fun c t k hk => by simp only [View.readAt_apply, Memref.IsWhole.read_unread]; exact chk1_of_lt _ (iblk0_lt m c t (hp c) _))
    (fun c t k hk => by simp only [View.readAt_apply, Memref.IsWhole.read_unread]; exact chk2_of_lt _ (iblk0_lt m c t (hp c) _))
    (fun c t k hk => by simp only [View.readAt_apply, Memref.IsWhole.read_unread]; exact chk3_of_lt _ (iblk0_lt m c t (hp c) _))
    (fun c t k hk => by simp only [View.readAt_apply, Memref.IsWhole.read_unread]; exact chk4_of_lt _ (iblk0_lt m c t (hp c) _))

end Cert.Kernel.Run

end
-- ==== Proof.KernelIdealRun.lean ====
/- The frame of `KernelIdeal`: the body's run at one point, each perm word a row of the window, the output
   window handed back at some contents; then the launch, whose final states have the argument arrays
   unchanged and every counter at zero. -/
module

public import proofs.«01_k».proof.Proof.Gen.KernelIdeal.Frame
public import proofs.«01_k».proof.Proof.Gen.KernelIdeal.Loops
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c)⟩) h

/-! ## The kernel body on any staging memrefs: a subtype the run finds -/

/-- Each window's current staging memref at point `t`, spelled as the pipeline passes it (`bodyAt0`), and its wholeness. -/
abbrev ms0_0 (t : Fin cfg0.N) : Memref sig .tc .smem S1x1x4x2304 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x5x144x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x5x144x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4x144x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2304x640 .bf16 := win0_6.stage (cfg0.slots t 6)
abbrev hs0_6 (t : Fin cfg0.N) : (ms0_6 t).IsWhole := hstage0_6 ((cfg0.slots t 6).cast nbuf0_6)

/-! ## The side conditions the body assumes, as the frame's hypothesis -/

/-- The side conditions the body ASSUMES of words it loads from its input SMEM windows, or inside a counted
    loop of the loop's carried counter at every trip (the printed `TpuEff.assume
    (kK_chkN …)`: facts computed from the words that no program decides for every word), at EVERY point, over the
    words of the argument blocks there — spelled as each case's run reads them (`View.readAt` through the window's
    memref at its held contents), each under the conditions of the branches it sits inside. The frame holds
    under it; Proof.lean proves it from the certificate's
    precondition (`hyps_of_pre`; `View.readAt_apply` and `Memref.IsWhole.read_unread` rewrite a conjunct to the
    predicate at the block's word). -/
def Hyps (m : (ℓ : Loc nD τ sig) → Buf (Elt F) ℓ) : Prop :=
  ∀ (c : Dev nD) (t : Fin cfg0.N),
    (∀ (kq : ℕ) (hkq : kq < k0_t3_loop.trips), k0_chk1 ((ms0_0 t).view.readAt (Elt F) (Rect.unit (s := S1x1x4x2304) (k0_off19 ⟨kq, hkq⟩) S1x1x1x1.size (k0_off19_inb ⟨kq, hkq⟩)).toLoadRect ((hs0_0 t).unread (iblk m c 0 t)) (Shape.Idx.first (numel1_S1x1x1x1.symm ▸ Nat.one_pos))))
    ∧ (∀ (kq : ℕ) (hkq : kq < k0_t6_loop.trips), k0_chk2 ((ms0_0 t).view.readAt (Elt F) (Rect.unit (s := S1x1x4x2304) (k0_off39 ⟨kq, hkq⟩) S1x1x1x1.size (k0_off39_inb ⟨kq, hkq⟩)).toLoadRect ((hs0_0 t).unread (iblk m c 0 t)) (Shape.Idx.first (numel1_S1x1x1x1.symm ▸ Nat.one_pos))))
    ∧ (∀ (kq : ℕ) (hkq : kq < k0_t9_loop.trips), k0_chk3 ((ms0_0 t).view.readAt (Elt F) (Rect.unit (s := S1x1x4x2304) (k0_off59 ⟨kq, hkq⟩) S1x1x1x1.size (k0_off59_inb ⟨kq, hkq⟩)).toLoadRect ((hs0_0 t).unread (iblk m c 0 t)) (Shape.Idx.first (numel1_S1x1x1x1.symm ▸ Nat.one_pos))))
    ∧ (∀ (kq : ℕ) (hkq : kq < k0_t12_loop.trips), k0_chk4 ((ms0_0 t).view.readAt (Elt F) (Rect.unit (s := S1x1x4x2304) (k0_off79 ⟨kq, hkq⟩) S1x1x1x1.size (k0_off79_inb ⟨kq, hkq⟩)).toLoadRect ((hs0_0 t).unread (iblk m c 0 t)) (Shape.Idx.first (numel1_S1x1x1x1.symm ▸ Nat.one_pos))))

/-! Each conjunct of `Hyps` by name: its statement (`Hyps.pN`), a lemma citing it (`Hyps.cN`: what a run, or a
    statement over it, takes for that side condition), and `Hyps` built from one proof per conjunct (`Hyps.of`:
    what Proof.lean's `hyps_of_pre` applies). -/

/-- Conjunct 0 of `Hyps` at point `t`: the side condition `k0_chk1` the body assumes as `k0_hw1L`. -/
abbrev Hyps.p0 (m : (ℓ : Loc nD τ sig) → Buf (Elt F) ℓ) (c : Dev nD) (t : Fin cfg0.N) : Prop :=
  (∀ (kq : ℕ) (hkq : kq < k0_t3_loop.trips), k0_chk1 ((ms0_0 t).view.readAt (Elt F) (Rect.unit (s := S1x1x4x2304) (k0_off19 ⟨kq, hkq⟩) S1x1x1x1.size (k0_off19_inb ⟨kq, hkq⟩)).toLoadRect ((hs0_0 t).unread (iblk m c 0 t)) (Shape.Idx.first (numel1_S1x1x1x1.symm ▸ Nat.one_pos))))
variable {m} in
theorem Hyps.c0 (hH : Hyps m) (c : Dev nD) (t : Fin cfg0.N) :
    (∀ (kq : ℕ) (hkq : kq < k0_t3_loop.trips), k0_chk1 ((ms0_0 t).view.readAt (Elt F) (Rect.unit (s := S1x1x4x2304) (k0_off19 ⟨kq, hkq⟩) S1x1x1x1.size (k0_off19_inb ⟨kq, hkq⟩)).toLoadRect ((hs0_0 t).unread (iblk m c 0 t)) (Shape.Idx.first (numel1_S1x1x1x1.symm ▸ Nat.one_pos)))) := (hH c t).1
/-- Conjunct 1 of `Hyps` at point `t`: the side condition `k0_chk2` the body assumes as `k0_hw2L`. -/
abbrev Hyps.p1 (m : (ℓ : Loc nD τ sig) → Buf (Elt F) ℓ) (c : Dev nD) (t : Fin cfg0.N) : Prop :=
  (∀ (kq : ℕ) (hkq : kq < k0_t6_loop.trips), k0_chk2 ((ms0_0 t).view.readAt (Elt F) (Rect.unit (s := S1x1x4x2304) (k0_off39 ⟨kq, hkq⟩) S1x1x1x1.size (k0_off39_inb ⟨kq, hkq⟩)).toLoadRect ((hs0_0 t).unread (iblk m c 0 t)) (Shape.Idx.first (numel1_S1x1x1x1.symm ▸ Nat.one_pos))))
variable {m} in
theorem Hyps.c1 (hH : Hyps m) (c : Dev nD) (t : Fin cfg0.N) :
    (∀ (kq : ℕ) (hkq : kq < k0_t6_loop.trips), k0_chk2 ((ms0_0 t).view.readAt (Elt F) (Rect.unit (s := S1x1x4x2304) (k0_off39 ⟨kq, hkq⟩) S1x1x1x1.size (k0_off39_inb ⟨kq, hkq⟩)).toLoadRect ((hs0_0 t).unread (iblk m c 0 t)) (Shape.Idx.first (numel1_S1x1x1x1.symm ▸ Nat.one_pos)))) := (hH c t).2.1
/-- Conjunct 2 of `Hyps` at point `t`: the side condition `k0_chk3` the body assumes as `k0_hw3L`. -/
abbrev Hyps.p2 (m : (ℓ : Loc nD τ sig) → Buf (Elt F) ℓ) (c : Dev nD) (t : Fin cfg0.N) : Prop :=
  (∀ (kq : ℕ) (hkq : kq < k0_t9_loop.trips), k0_chk3 ((ms0_0 t).view.readAt (Elt F) (Rect.unit (s := S1x1x4x2304) (k0_off59 ⟨kq, hkq⟩) S1x1x1x1.size (k0_off59_inb ⟨kq, hkq⟩)).toLoadRect ((hs0_0 t).unread (iblk m c 0 t)) (Shape.Idx.first (numel1_S1x1x1x1.symm ▸ Nat.one_pos))))
variable {m} in
theorem Hyps.c2 (hH : Hyps m) (c : Dev nD) (t : Fin cfg0.N) :
    (∀ (kq : ℕ) (hkq : kq < k0_t9_loop.trips), k0_chk3 ((ms0_0 t).view.readAt (Elt F) (Rect.unit (s := S1x1x4x2304) (k0_off59 ⟨kq, hkq⟩) S1x1x1x1.size (k0_off59_inb ⟨kq, hkq⟩)).toLoadRect ((hs0_0 t).unread (iblk m c 0 t)) (Shape.Idx.first (numel1_S1x1x1x1.symm ▸ Nat.one_pos)))) := (hH c t).2.2.1
/-- Conjunct 3 of `Hyps` at point `t`: the side condition `k0_chk4` the body assumes as `k0_hw4L`. -/
abbrev Hyps.p3 (m : (ℓ : Loc nD τ sig) → Buf (Elt F) ℓ) (c : Dev nD) (t : Fin cfg0.N) : Prop :=
  (∀ (kq : ℕ) (hkq : kq < k0_t12_loop.trips), k0_chk4 ((ms0_0 t).view.readAt (Elt F) (Rect.unit (s := S1x1x4x2304) (k0_off79 ⟨kq, hkq⟩) S1x1x1x1.size (k0_off79_inb ⟨kq, hkq⟩)).toLoadRect ((hs0_0 t).unread (iblk m c 0 t)) (Shape.Idx.first (numel1_S1x1x1x1.symm ▸ Nat.one_pos))))
variable {m} in
theorem Hyps.c3 (hH : Hyps m) (c : Dev nD) (t : Fin cfg0.N) :
    (∀ (kq : ℕ) (hkq : kq < k0_t12_loop.trips), k0_chk4 ((ms0_0 t).view.readAt (Elt F) (Rect.unit (s := S1x1x4x2304) (k0_off79 ⟨kq, hkq⟩) S1x1x1x1.size (k0_off79_inb ⟨kq, hkq⟩)).toLoadRect ((hs0_0 t).unread (iblk m c 0 t)) (Shape.Idx.first (numel1_S1x1x1x1.symm ▸ Nat.one_pos)))) := (hH c t).2.2.2
variable {m} in
theorem Hyps.of
    (p0 : ∀ (c : Dev nD) (t : Fin cfg0.N), Hyps.p0 m c t)
    (p1 : ∀ (c : Dev nD) (t : Fin cfg0.N), Hyps.p1 m c t)
    (p2 : ∀ (c : Dev nD) (t : Fin cfg0.N), Hyps.p2 m c t)
    (p3 : ∀ (c : Dev nD) (t : Fin cfg0.N), Hyps.p3 m c t) :
    Hyps m := fun c t =>
  And.intro (p0 c t) (And.intro (p1 c t) (And.intro (p2 c t) (p3 c t)))

/-- The scratch operands: whole scoped buffers of the kernel's own, passed beside the windows. -/
abbrev scM0_0 : Memref sig .tc .vmem S160x2432 .bf16 := Memref.whole cc0_scratch0
abbrev scM0_1 : Memref sig .tc .vmem S2304x160 .bf16 := Memref.whole cc0_scratch1
abbrev scM0_2 : Memref sig .tc .vmem S176x2432 .bf16 := Memref.whole cc0_scratch2
abbrev scM0_3 : Memref sig .tc .vmem S8x2432 .f32 := Memref.whole cc0_scratch3
abbrev scM0_4 : Memref sig .tc .vmem S4x2304x2x128 .bf16 := Memref.whole cc0_scratch4
abbrev scM0_5 : Memref sig .tc .vmem S2304x2x128 .bf16 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

-- (the run's proof term is large: checking it walks past the default budget)
set_option maxHeartbeats 1424000 in
/-- The body's triple: on whole staging memrefs — the inputs' at their contents,
    the FORGOTTEN outputs' (6) at anything, handed back at some contents nothing names —
    the body runs to the continuation holding the inputs' as they were, the scratch at some contents: the printed functions are their skeletons (`*_eq_skeleton`),
    which `sl_exec` runs (Lib/Exec.lean). -/
theorem kernelRun0_A (c : Dev nD) (i : grid0.Coords) (arg2 : Memref sig .tc .smem S1x1x4x2304 .i32) (harg2 : arg2.IsWhole) (arg3 : Memref sig .tc .vmem S1x4x5x144x128 .i32) (harg3 : arg3.IsWhole) (arg4 : Memref sig .tc .vmem S1x4x5x144x128 .i32) (harg4 : arg4.IsWhole) (arg5 : Memref sig .tc .vmem S1x4x144x128 .f32) (harg5 : arg5.IsWhole) (arg6 : Memref sig .tc .vmem S128x128 .f32) (harg6 : arg6.IsWhole) (arg7 : Memref sig .tc .vmem S128x128 .f32) (harg7 : arg7.IsWhole) (arg9 : Memref sig .tc .vmem S1x2304x640 .bf16) (harg9 : arg9.IsWhole) (arg10 : Memref sig .tc .vmem S160x2432 .bf16) (harg10 : arg10.IsWhole) (arg11 : Memref sig .tc .vmem S2304x160 .bf16) (harg11 : arg11.IsWhole) (arg12 : Memref sig .tc .vmem S176x2432 .bf16) (harg12 : arg12.IsWhole) (arg13 : Memref sig .tc .vmem S8x2432 .f32) (harg13 : arg13.IsWhole) (arg14 : Memref sig .tc .vmem S4x2304x2x128 .bf16) (harg14 : arg14.IsWhole) (arg15 : Memref sig .tc .vmem S2304x2x128 .bf16) (harg15 : arg15.IsWhole)
    (x0 : Vec F S1x1x4x2304 .i32) (x1 : Vec F S1x4x5x144x128 .i32) (x2 : Vec F S1x4x5x144x128 .i32) (x3 : Vec F S1x4x144x128 .f32) (x4 : Vec F S128x128 .f32) (x5 : Vec F S128x128 .f32) (k0_hw1L : (∀ (kq : ℕ) (hkq : kq < k0_t3_loop.trips), k0_chk1 (arg2.view.readAt (Elt F) (Rect.unit (s := S1x1x4x2304) (k0_off19 ⟨kq, hkq⟩) S1x1x1x1.size (k0_off19_inb ⟨kq, hkq⟩)).toLoadRect (harg2.unread x0) (Shape.Idx.first (numel1_S1x1x1x1.symm ▸ Nat.one_pos))))) (k0_hw2L : (∀ (kq : ℕ) (hkq : kq < k0_t6_loop.trips), k0_chk2 (arg2.view.readAt (Elt F) (Rect.unit (s := S1x1x4x2304) (k0_off39 ⟨kq, hkq⟩) S1x1x1x1.size (k0_off39_inb ⟨kq, hkq⟩)).toLoadRect (harg2.unread x0) (Shape.Idx.first (numel1_S1x1x1x1.symm ▸ Nat.one_pos))))) (k0_hw3L : (∀ (kq : ℕ) (hkq : kq < k0_t9_loop.trips), k0_chk3 (arg2.view.readAt (Elt F) (Rect.unit (s := S1x1x4x2304) (k0_off59 ⟨kq, hkq⟩) S1x1x1x1.size (k0_off59_inb ⟨kq, hkq⟩)).toLoadRect (harg2.unread x0) (Shape.Idx.first (numel1_S1x1x1x1.symm ▸ Nat.one_pos))))) (k0_hw4L : (∀ (kq : ℕ) (hkq : kq < k0_t12_loop.trips), k0_chk4 (arg2.view.readAt (Elt F) (Rect.unit (s := S1x1x4x2304) (k0_off79 ⟨kq, hkq⟩) S1x1x1x1.size (k0_off79_inb ⟨kq, hkq⟩)).toLoadRect (harg2.unread x0) (Shape.Idx.first (numel1_S1x1x1x1.symm ▸ Nat.one_pos))))) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_attend i arg2 harg2 arg3 harg3 arg4 harg4 arg5 harg5 arg6 harg6 arg7 harg7 (Memref.whole main_arg4) (Memref.isWhole_whole _) arg9 harg9 arg10 harg10 arg11 harg11 arg12 harg12 arg13 harg13 arg14 harg14 arg15 harg15) K := by
    intro E K
    simp only [cc0_attend_eq_skeleton]; unfold cc0_attend_skel
    simp only [k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (hH : Hyps m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (hH : Hyps m) (c : Dev nD) (w : Fin cfg0.W) : (dats m hH 0 c).A w = V m c (Pipeline.arrRef spec0 w) := by
  dsimp only [dats]

/-- What the body leaves, window by window (the proof data's `match` reduced by `dsimp`). -/
theorem after0_0 (hH : Hyps m) (c : Dev nD) (t : Fin cfg0.N) : (dats m hH 0 c).after 0 t = iblk m c 0 t := by dsimp only [dats]
theorem after0_1 (hH : Hyps m) (c : Dev nD) (t : Fin cfg0.N) : (dats m hH 0 c).after 1 t = iblk m c 1 t := by dsimp only [dats]
theorem after0_2 (hH : Hyps m) (c : Dev nD) (t : Fin cfg0.N) : (dats m hH 0 c).after 2 t = iblk m c 2 t := by dsimp only [dats]
theorem after0_3 (hH : Hyps m) (c : Dev nD) (t : Fin cfg0.N) : (dats m hH 0 c).after 3 t = iblk m c 3 t := by dsimp only [dats]
theorem after0_4 (hH : Hyps m) (c : Dev nD) (t : Fin cfg0.N) : (dats m hH 0 c).after 4 t = iblk m c 4 t := by dsimp only [dats]
theorem after0_5 (hH : Hyps m) (c : Dev nD) (t : Fin cfg0.N) : (dats m hH 0 c).after 5 t = iblk m c 5 t := by dsimp only [dats]

/-- Each input's current staging buffer holds its block at every point, fetched there or not (`beforeK_W_of`). -/
theorem before0_0 (hH : Hyps m) (c : Dev nD) (t : Fin cfg0.N) (d) : (dats m hH 0 c).before 0 t d = iblk m c 0 t :=
  before0_0_of m (dats m hH 0 c) (A_eq m hH c 0) (after0_0 m hH c) t d
theorem before0_1 (hH : Hyps m) (c : Dev nD) (t : Fin cfg0.N) (d) : (dats m hH 0 c).before 1 t d = iblk m c 1 t :=
  before0_1_of m (dats m hH 0 c) (A_eq m hH c 1) (after0_1 m hH c) t d
theorem before0_2 (hH : Hyps m) (c : Dev nD) (t : Fin cfg0.N) (d) : (dats m hH 0 c).before 2 t d = iblk m c 2 t :=
  before0_2_of m (dats m hH 0 c) (A_eq m hH c 2) (after0_2 m hH c) t d
theorem before0_3 (hH : Hyps m) (c : Dev nD) (t : Fin cfg0.N) (d) : (dats m hH 0 c).before 3 t d = iblk m c 3 t :=
  before0_3_of m (dats m hH 0 c) (A_eq m hH c 3) (after0_3 m hH c) t d
theorem before0_4 (hH : Hyps m) (c : Dev nD) (t : Fin cfg0.N) (d) : (dats m hH 0 c).before 4 t d = iblk m c 4 t :=
  before0_4_of m (dats m hH 0 c) (A_eq m hH c 4) (after0_4 m hH c) t d
theorem before0_5 (hH : Hyps m) (c : Dev nD) (t : Fin cfg0.N) (d) : (dats m hH 0 c).before 5 t d = iblk m c 5 t :=
  before0_5_of m (dats m hH 0 c) (A_eq m hH c 5) (after0_5 m hH c) t d

/-! ## The body obligation, at a generic point -/

/-- What the body is called with at point `t` (Lib/Pipeline.lean `BodyObligation`'s precondition, the windows one by one), -/
def bodyPre (hH : Hyps m) (c : Dev nD) (t : Fin cfg0.N) : sProp 𝕄 :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d))
    ∗ (∃ d, owns (c : Thread nD τ) (ms0_3 t) fullShare ((dats m hH 0 c).before 3 t d))
    ∗ (∃ d, owns (c : Thread nD τ) (ms0_4 t) fullShare ((dats m hH 0 c).before 4 t d))
    ∗ (∃ d, owns (c : Thread nD τ) (ms0_5 t) fullShare ((dats m hH 0 c).before 5 t d))
    ∗ (∃ d, owns (c : Thread nD τ) (ms0_6 t) fullShare d))

/-- and what it returns. -/
def bodyPost (hH : Hyps m) (c : Dev nD) (t : Fin cfg0.N) : sProp 𝕄 :=
  iprop((dats m hH 0 c).Φ t.succ ∗ (dats m hH 0 c).owesAt () t.succ
    ∗ owns (c : Thread nD τ) (ms0_0 t) fullShare ((dats m hH 0 c).after 0 t)
    ∗ owns (c : Thread nD τ) (ms0_1 t) fullShare ((dats m hH 0 c).after 1 t)
    ∗ owns (c : Thread nD τ) (ms0_2 t) fullShare ((dats m hH 0 c).after 2 t)
    ∗ owns (c : Thread nD τ) (ms0_3 t) fullShare ((dats m hH 0 c).after 3 t)
    ∗ owns (c : Thread nD τ) (ms0_4 t) fullShare ((dats m hH 0 c).after 4 t)
    ∗ owns (c : Thread nD τ) (ms0_5 t) fullShare ((dats m hH 0 c).after 5 t)
    ∗ (∃ d, owns (c : Thread nD τ) (ms0_6 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hH : Hyps m) (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0_0, before0_1, before0_2, before0_3, before0_4, before0_5]
  rw [show (dats m hH 0 c).Φ t.succ = (dats m hH 0 c).Φ t.castSucc from rfl,
    show (dats m hH 0 c).owesAt () t.succ = (dats m hH 0 c).owesAt () t.castSucc from rfl,
    after0_0, after0_1, after0_2, after0_3, after0_4, after0_5]
  rw [show (dats m hH 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (Hyps.c0 hH c t) (Hyps.c1 hH c t) (Hyps.c2 hH c t) (Hyps.c3 hH c t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hH : Hyps m) (c : Dev nD) : BodyObligation (dats (F := F) m hH 0 c) (defs₀ (F := F)) Variants.none () Set.univ forgets0 := fun t => by
  rw [bigSep_W0, bigSep_W0, defs₀_row]
  exact triple_restated (sound_body m hH c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hH : Hyps m) : θ_run defs (onTc (τ := τ) (main (F := F))) (s₀ m ρ) (fun r => (Pipeline.RDat.FramePost (cfgs 0) (fun c => (dats m hH 0 c).toRForget forgets0) (V m)) r ∧ r.2.sem = fun _ => 0) :=
  Pipeline.θ_run_frame_forget (Q' := _) cfgs (dats m hH) (0 : Fin 1) launch0 defs₀ Variants.none forgets0 m ρ main
    (hbody := fun c => (body_obligation m hH c).loose) (hshare := fun c => (dats m hH 0 c).share_full fun _ => rfl)
    (howed := fun _ _ => rfl) (V := V m) (hmain := hmain m Variants.none) (hA := A_eq m hH) (hΦ := fun _ _ => rfl)

/-- At the compiled mesh, for any values, from any memory with zero counters: every weakly fair execution of @main on the
    TensorCores terminates, and every final state has every INPUT array of the pipeline unchanged, nothing stated of the
    FORGOTTEN outputs (window 6) (Lib/Pipeline/Frame.lean `RDat.FramePost` over the proof data with those windows
    forgotten, Dat.lean `Dat.toRForget`), and every other unscoped buffer at its region-entry contents. -/
theorem run_main (hH : Hyps m) : θ_run defs (onTc (τ := τ) (main (F := F))) (s₀ m ρ) (Pipeline.RDat.FramePost (cfgs 0) (fun c => (dats m hH 0 c).toRForget forgets0) (V m)) :=
  (θ_run defs _ _).mono (fun _ h => h.1) (run_main_quiescent m ρ hH)

/-- `frame` without the counters: the argument arrays end unchanged. -/
theorem unchanged (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m hH 0 c).toRForget forgets0) (A_eq m hH) (run_main m ρ hH)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here UNDER `Hyps` (the side conditions the body assumes,
    at every point), which Proof.lean proves from the precondition: `⟨…, fun m ρ h => Cert.KernelIdeal.Gen.frame m ρ (hyps_of_pre m h)⟩`. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hH) ((θ_run defs _ _).mono (fun _ h => h.2) (run_main_quiescent m ρ hH))

end Cert.KernelIdeal.Run

end
-- ==== Proof.KernelIdealSide.lean ====
/- The side conditions `KernelIdeal`'s body assumes of the sorted positions it reads, from their range. -/
module

public import proofs.«01_k».proof.Proof.Perm
public import proofs.«01_k».proof.Proof.KernelIdealRun

@[expose] public section

set_option maxRecDepth 16384

noncomputable section

namespace Cert.KernelIdeal.Run

open Cert.KernelIdeal Cert.KernelIdeal.Gen
open Idealize.ShloMosaic Idealize.ShloMosaic.TcCoe

variable (m : (ℓ : Loc nD τ sig) → Buf (Elt Ideal) ℓ)

theorem index0 : ∀ t : Fin grid0.N, win0_0.index t = ![8 + (grid0.coords t 0).val, (grid0.coords t 1).val, 0, 0] := by
  decide +kernel

/-- A word of a point's block is a word of its batch and head group. -/
theorem iblk0 (c : Dev nD) (t : Fin cfg0.N) (h : Fin 4) (r : Fin 2304) :
    iblk m c 0 t (ix4 0 0 h r)
      = m ((c : Thread nD τ).loc main_arg0)
        (ix4 ⟨8 + (grid0.coords t 0).val, by have := (grid0.coords t 0).isLt; change _ < 8 at this; omega⟩ (grid0.coords t 1) h r) := by
  blk_ext [iblk, index0 t]

theorem iblk0_lt (c : Dev nD) (t : Fin cfg0.N) (hp : Perm.InRange (m ((c : Thread nD τ).loc main_arg0))) (i) :
    (iblk m c 0 t i).toNat < 2304 := by
  have hi : i = (ix4 (0 : Fin 1) (0 : Fin 1) (i 2 : Fin 4) (i 3 : Fin 2304) : (⟨4, ![1, 1, 4, 2304]⟩ : Shape).Idx) := by
    have h0 : (i 0).val < 1 := (i 0).isLt
    have h1 : (i 1).val < 1 := (i 1).isLt
    funext a; fin_cases a
    · exact Fin.ext (by show (i 0).val = 0; omega)
    · exact Fin.ext (by show (i 1).val = 0; omega)
    · rfl
    · rfl
  have e := iblk0 m c t (i 2 : Fin 4) (i 3 : Fin 2304)
  rw [← hi] at e
  rw [e]
  exact hp ⟨(grid0.coords t 0).val, (grid0.coords t 0).isLt⟩ (grid0.coords t 1) (i 2) (i 3)

theorem chk1_of_lt (v : BitVec 32) (h : v.toNat < 2304) : k0_chk1 v := by
  intro a; fin_cases a <;> simp [k0_off20, Scalar.indexCast] <;> omega
theorem chk2_of_lt (v : BitVec 32) (h : v.toNat < 2304) : k0_chk2 v := by
  intro a; fin_cases a <;> simp [k0_off40, Scalar.indexCast] <;> omega
theorem chk3_of_lt (v : BitVec 32) (h : v.toNat < 2304) : k0_chk3 v := by
  intro a; fin_cases a <;> simp [k0_off60, Scalar.indexCast] <;> omega
theorem chk4_of_lt (v : BitVec 32) (h : v.toNat < 2304) : k0_chk4 v := by
  intro a; fin_cases a <;> simp [k0_off80, Scalar.indexCast] <;> omega

/-- The range of the sorted positions gives every side condition. -/
theorem hyps_of_inRange (hp : ∀ c : Dev nD, Perm.InRange (m ((c : Thread nD τ).loc main_arg0))) : Hyps m :=
  Hyps.of
    (fun c t k hk => by simp only [View.readAt_apply, Memref.IsWhole.read_unread]; exact chk1_of_lt _ (iblk0_lt m c t (hp c) _))
    (fun c t k hk => by simp only [View.readAt_apply, Memref.IsWhole.read_unread]; exact chk2_of_lt _ (iblk0_lt m c t (hp c) _))
    (fun c t k hk => by simp only [View.readAt_apply, Memref.IsWhole.read_unread]; exact chk3_of_lt _ (iblk0_lt m c t (hp c) _))
    (fun c t k hk => by simp only [View.readAt_apply, Memref.IsWhole.read_unread]; exact chk4_of_lt _ (iblk0_lt m c t (hp c) _))

end Cert.KernelIdeal.Run

end
-- ==== Proof.Preserves.lean ====
/- The idealization changed `Kernel` only where its rules say: each rule's statement at the shapes and constants it was
   taken at. -/
module

public import proofs.«01_k».proof.Defs
public import Idealize.ShloMosaic.Lib.Bf16PairInverse

@[expose] public section

noncomputable section

namespace Cert.Preserves

open Idealize.ShloMosaic

theorem preserves : Cert.preserves_Kernel_KernelIdeal :=
  ⟨IdealRules.bf16_pair.bufferStatement _ _, IdealRules.bf16_pair.bufferStatement _ _,
    IdealRules.named_const.statement _ _ _ _ _ rfl, IdealRules.named_const.statement _ _ _ _ _ rfl,
    IdealRules.bf16_pair.packStatement _, IdealRules.bf16_pair.statement _ _, IdealRules.bf16_pair.statement _ _,
    IdealRules.bf16_pair.statement _ _, IdealRules.bf16_pair.statement _ _, IdealRules.bf16_pair.statement _ _⟩

end Cert.Preserves

end
-- ==== Proof.Ops.lean ====
/- The operations of a head of the kernel, each read at an index: the codes decoded and scaled, the scores, their
   exponentials and the weighted sums. -/
module
public import proofs.«01_k».proof.Proof.Gen.KernelIdeal.Frame
public import proofs.«01_k».proof.Proof.Gen.KernelIdeal.Loops
public import Idealize.ShloMosaic.Lib.Pipeline.ValueKit
public import Idealize.ShloMosaic.PureOps.Ideal
public import Idealize.ShloMosaic.Lib.BitcastFour
@[expose] public section
set_option maxRecDepth 16384
noncomputable section
namespace Cert.KernelIdeal.Ops
open Cert.KernelIdeal Cert.KernelIdeal.Gen
open Idealize.ShloMosaic Idealize.ShloMosaic.TcCoe
variable {F : FTy → Type} [FloatOps F] [Named F]

/-- A slab of words, its bytes read as fp8. -/
def slab (w : Vec F S1x1x1x8x128 .i32) : FVec F S32x128 .bf16 :=
  extf .bf16 (bitcastToFloat .fp8e4m3 (bitcast S32x128 8 (shapeCast S8x128 w shapeCasts_S1x1x1x8x128_S8x128) bitcasts_S8x128_w32_S32x128_w8)) bitsLt_fp8e4m3_bf16

def auxTile (a : Vec F S1x1x8x128 .f32) : FVec F S8x128 .f32 := shapeCast S8x128 a shapeCasts_S1x1x8x128_S8x128

/-- A slab's values, each lane multiplied by its scale. -/
def scaled (w : Vec F S1x1x1x8x128 .i32) (r : FVec F S1x128 .f32) : FVec F S32x128 .bf16 :=
  mulf (slab w) (broadcastTo S32x128 (truncf .bf16 r bitsLt_bf16_f32) broadcasts_S1x128_S32x128)

def keyParts (w : Fin 5 → Vec F S1x1x1x8x128 .i32) (a : Vec F S1x1x8x128 .f32) : Fin 5 → FVec F S32x128 .bf16 :=
  ![scaled (w 0) (extractStridedSlice S1x128 ![0, 0] (auxTile a) slices_S8x128_o0_0_S1x128),
    scaled (w 1) (extractStridedSlice S1x128 ![1, 0] (auxTile a) slices_S8x128_o1_0_S1x128),
    scaled (w 2) (extractStridedSlice S1x128 ![2, 0] (auxTile a) slices_S8x128_o2_0_S1x128),
    scaled (w 3) (extractStridedSlice S1x128 ![3, 0] (auxTile a) slices_S8x128_o3_0_S1x128),
    scaled (w 4) (extractStridedSlice S1x128 ![4, 0] (auxTile a) slices_S8x128_o4_0_S1x128)]

/-- The keys of a tile, channel by lane. -/
def keys (w : Fin 5 → Vec F S1x1x1x8x128 .i32) (a : Vec F S1x1x8x128 .f32) : FVec F S160x128 .bf16 :=
  concatenate S160x128 0 [⟨S32x128, keyParts w a 0⟩, ⟨S32x128, keyParts w a 1⟩, ⟨S32x128, keyParts w a 2⟩,
    ⟨S32x128, keyParts w a 3⟩, ⟨S32x128, keyParts w a 4⟩] concatenates_S32x128_S32x128_S32x128_S32x128_S32x128_S160x128_d0

def valParts (w : Fin 5 → Vec F S1x1x1x8x128 .i32) (a : Vec F S1x1x8x128 .f32) (j : Fin 5) : FVec F S32x128 .bf16 :=
  scaled (w j) (extractStridedSlice S1x128 ![5, 0] (auxTile a) slices_S8x128_o5_0_S1x128)

/-- The values of a tile and the sixteen rows of ones. -/
def vals (w : Fin 5 → Vec F S1x1x1x8x128 .i32) (a : Vec F S1x1x8x128 .f32) : FVec F S176x128 .bf16 :=
  k0_pay123 (valParts w a 0) (valParts w a 1) (valParts w a 2) (valParts w a 3) (valParts w a 4)

def sqPart (k : FVec F S32x128 .bf16) : FVec F S8x128 .f32 :=
  multiReduction .add [0] S8x128 (shapeCast S4x8x128 (mulf (extf .f32 k bitsLt_bf16_f32) (extf .f32 k bitsLt_bf16_f32)) shapeCasts_S32x128_S4x8x128) 0x00000000#32 reduces_S4x8x128_S8x128 (.inl rfl) rfl

def squares (w : Fin 5 → Vec F S1x1x1x8x128 .i32) (a : Vec F S1x1x8x128 .f32) : FVec F S8x128 .f32 :=
  addf (addf (addf (addf (addf (broadcast S8x128 (Scalar.ofBits .f32 0x00000000#32)) (sqPart (keyParts w a 0))) (sqPart (keyParts w a 1)))
    (sqPart (keyParts w a 2))) (sqPart (keyParts w a 3))) (sqPart (keyParts w a 4))

/-- The factor each key's scores carry. -/
def norms (w : Fin 5 → Vec F S1x1x1x8x128 .i32) (a : Vec F S1x1x8x128 .f32) : FVec F S1x128 .f32 := k0_pay124 (squares w a)

/-- A byte of a word, read as fp8. -/
def codeAt (x : BitVec 32) (b : ℕ) : EReal := Ideal.ofBits .fp8e4m3 (x.extractLsb' (8 * b) 8)

theorem bitcast_byte {R n : ℕ} {R4 : ℕ} (x : (⟨2, ![R, n]⟩ : Shape).Idx → BitVec 32)
    (h : (⟨2, ![R, n]⟩ : Shape).Bitcasts 32 ⟨2, ![R4, n]⟩ 8) (p : Fin R4) (l : Fin n) (a : Fin R) (ha : a.val = p.val / 4) :
    bitcast ⟨2, ![R4, n]⟩ 8 x h (ix2 p l) = (x (ix2 a l)).extractLsb' (8 * (p.val % 4)) 8 := by
  apply BitVec.eq_of_getLsbD_eq
  intro q hq
  rw [bitcast_getLsbD x h _ q hq (by decide), BitVec.getLsbD_extractLsb']
  have hr : (⟨2, ![R4, n]⟩ : Shape).row (ix2 p l) = p.val := rfl
  have e2 : ((⟨2, ![R4, n]⟩ : Shape).row (ix2 p l) * 8 + q) % 32 = 8 * (p.val % 4) + q := by rw [hr]; omega
  rw [e2]
  simp only [hq, decide_true, Bool.true_and]
  congr 2
  funext c
  match c with
  | ⟨0, _⟩ => exact Fin.ext ((h.srcIdx_row _ _ _ ⟨0, Nat.zero_lt_two⟩ rfl).trans (by rw [hr]; show _ = a.val; omega))
  | ⟨1, _⟩ => exact Fin.ext (h.srcIdx_other _ _ _ ⟨1, Nat.one_lt_two⟩ (by show ¬ 1 + 2 = 2; omega))

theorem slab_at (w : Vec Ideal S1x1x1x8x128 .i32) (r : Fin 32) (l : Fin 128) :
    slab w (ix2 r l) = codeAt (w (ix5 0 0 0 ⟨r.val / 4, by omega⟩ l)) (r.val % 4) := by
  pointwise [slab]
  rw [codeAt]
  refine congrArg (Ideal.ofBits .fp8e4m3) ((bitcast_byte _ _ r l ⟨r.val / 4, by omega⟩ rfl).trans ?_)
  pointwise

theorem scaled_at (w : Vec Ideal S1x1x1x8x128 .i32) (x : FVec Ideal S1x128 .f32) (r : Fin 32) (l : Fin 128) :
    scaled w x (ix2 r l) = codeAt (w (ix5 0 0 0 ⟨r.val / 4, by omega⟩ l)) (r.val % 4) * x (ix2 0 l) := by
  pointwise [scaled]
  rw [slab_at]

/-- A value of a tile: the code of channel `d`, multiplied by row `j` of the side values. -/
def elt (w : Fin 5 → Vec Ideal S1x1x1x8x128 .i32) (a : Vec Ideal S1x1x8x128 .f32) (j : ℕ → Fin 8) (d : Fin 160) (l : Fin 128) : EReal :=
  codeAt (w ⟨d.val / 32, by omega⟩ (ix5 0 0 0 ⟨d.val % 32 / 4, by omega⟩ l)) (d.val % 4) * a (ix4 0 0 (j (d.val / 32)) l)

def rowOf (n : ℕ) : Fin 8 := ⟨n % 8, by omega⟩

theorem keyParts_at (w : Fin 5 → Vec Ideal S1x1x1x8x128 .i32) (a : Vec Ideal S1x1x8x128 .f32) (j : Fin 5) (r : Fin 32) (l : Fin 128) :
    keyParts w a j (ix2 r l) = elt w a rowOf ⟨32 * j.val + r.val, by omega⟩ l := by
  have e1 : (32 * j.val + r.val) / 32 = j.val := by omega
  have e2 : (32 * j.val + r.val) % 32 = r.val := by omega
  have e3 : (32 * j.val + r.val) % 4 = r.val % 4 := by omega
  unfold elt
  simp only [e1, e2, e3]
  fin_cases j <;> (show scaled _ _ (ix2 r l) = _; rw [scaled_at]; congr 1 <;> pointwise [auxTile, rowOf])

theorem keys_at (w : Fin 5 → Vec Ideal S1x1x1x8x128 .i32) (a : Vec Ideal S1x1x8x128 .f32) (d : Fin 160) (l : Fin 128) :
    keys w a (ix2 d l) = elt w a rowOf d l := by
  have hd := d.isLt
  pointwise [keys]
  split_ifs <;> (rw [keyParts_at]; congr 1; apply Fin.ext; simp only [Fin.val_zero, Fin.val_one, Fin.val_two]; simp; try omega)

theorem valParts_at (w : Fin 5 → Vec Ideal S1x1x1x8x128 .i32) (a : Vec Ideal S1x1x8x128 .f32) (j : Fin 5) (r : Fin 32) (l : Fin 128) :
    valParts w a j (ix2 r l) = elt w a (fun _ => 5) ⟨32 * j.val + r.val, by omega⟩ l := by
  have e1 : (32 * j.val + r.val) / 32 = j.val := by omega
  have e2 : (32 * j.val + r.val) % 32 = r.val := by omega
  have e3 : (32 * j.val + r.val) % 4 = r.val % 4 := by omega
  unfold elt
  simp only [e1, e2, e3]
  rw [valParts, scaled_at]; congr 1; pointwise [auxTile]

theorem vals_at (w : Fin 5 → Vec Ideal S1x1x1x8x128 .i32) (a : Vec Ideal S1x1x8x128 .f32) (d : Fin 160) (l : Fin 128) :
    vals w a (ix2 ⟨d.val, by omega⟩ l) = elt w a (fun _ => 5) d l := by
  have hd := d.isLt
  pointwise [vals, k0_pay123]
  split_ifs <;> first | (exfalso; omega) | (rw [valParts_at]; congr 1; apply Fin.ext; simp only [Fin.val_zero, Fin.val_one, Fin.val_two]; simp; try omega)

theorem vals_one (w : Fin 5 → Vec Ideal S1x1x1x8x128 .i32) (a : Vec Ideal S1x1x8x128 .f32) (d : Fin 176) (hd : 160 ≤ d.val) (l : Fin 128) :
    vals w a (ix2 d l) = 1 := by
  pointwise [vals, k0_pay123, k0_pay121]
  repeat rw [dif_neg (by omega)]

/-- Eight sums of five sums of four are one sum of a hundred and sixty. -/
theorem sum_regroup (f : Fin 160 → EReal) :
    (∑ x : Fin 8, (∑ y : Fin 4, f ⟨32 * (0 : Fin 5).val + (y.val * 8 + x.val), by omega⟩ + ∑ y : Fin 4, f ⟨32 * (1 : Fin 5).val + (y.val * 8 + x.val), by have : (1 : Fin 5).val = 1 := rfl; omega⟩
      + ∑ y : Fin 4, f ⟨32 * (2 : Fin 5).val + (y.val * 8 + x.val), by have : (2 : Fin 5).val = 2 := rfl; omega⟩ + ∑ y : Fin 4, f ⟨32 * (3 : Fin 5).val + (y.val * 8 + x.val), by have : (3 : Fin 5).val = 3 := rfl; omega⟩
      + ∑ y : Fin 4, f ⟨32 * (4 : Fin 5).val + (y.val * 8 + x.val), by have : (4 : Fin 5).val = 4 := rfl; omega⟩)) = ∑ d, f d := by
  have h : ∀ x : Fin 8, (∑ y : Fin 4, f ⟨32 * (0 : Fin 5).val + (y.val * 8 + x.val), by omega⟩ + ∑ y : Fin 4, f ⟨32 * (1 : Fin 5).val + (y.val * 8 + x.val), by have : (1 : Fin 5).val = 1 := rfl; omega⟩
      + ∑ y : Fin 4, f ⟨32 * (2 : Fin 5).val + (y.val * 8 + x.val), by have : (2 : Fin 5).val = 2 := rfl; omega⟩ + ∑ y : Fin 4, f ⟨32 * (3 : Fin 5).val + (y.val * 8 + x.val), by have : (3 : Fin 5).val = 3 := rfl; omega⟩
      + ∑ y : Fin 4, f ⟨32 * (4 : Fin 5).val + (y.val * 8 + x.val), by have : (4 : Fin 5).val = 4 := rfl; omega⟩)
      = ∑ j : Fin 5, ∑ y : Fin 4, f ⟨32 * j.val + (y.val * 8 + x.val), by omega⟩ := fun x => by
    rw [Fin.sum_univ_five]
  rw [Finset.sum_congr rfl fun x _ => h x]
  rw [← Finset.sum_congr rfl fun x _ => Fintype.sum_prod_type (f := fun p : Fin 5 × Fin 4 => f ⟨32 * p.1.val + (p.2.val * 8 + x.val), by omega⟩)]
  rw [← Fintype.sum_prod_type (f := fun p : Fin 8 × (Fin 5 × Fin 4) => f ⟨32 * p.2.1.val + (p.2.2.val * 8 + p.1.val), by omega⟩)]
  refine Fintype.sum_bijective (fun p : Fin 8 × (Fin 5 × Fin 4) => (⟨32 * p.2.1.val + (p.2.2.val * 8 + p.1.val), by omega⟩ : Fin 160)) ⟨?_, ?_⟩ _ _ fun _ => rfl
  · rintro ⟨a, b, c⟩ ⟨a', b', c'⟩ h
    have h := congrArg Fin.val h
    simp only at h
    simp only [Prod.mk.injEq, Fin.ext_iff]
    omega
  · intro d
    exact ⟨(⟨d.val % 8, by omega⟩, ⟨d.val / 32, by omega⟩, ⟨d.val % 32 / 8, by omega⟩), Fin.ext (by simp only; omega)⟩

/-- The factor of the key at lane `l`: the root mean square's reciprocal and the score's scale. -/
def normAt (w : Fin 5 → Vec Ideal S1x1x1x8x128 .i32) (a : Vec Ideal S1x1x8x128 .f32) (l : Fin 128) : EReal :=
  Ideal.rsqrt ((∑ d : Fin 160, elt w a rowOf d l * elt w a rowOf d l) * Named.named (F := Ideal) κ "inv_d" (φ := .f32) 1003277517#32 + Ideal.ofBits FTy.f32 897988541#32)
    * Named.named (F := Ideal) κ "scale" (φ := .f32) 1038718387#32

theorem norms_at (w : Fin 5 → Vec Ideal S1x1x1x8x128 .i32) (a : Vec Ideal S1x1x8x128 .f32) (l : Fin 128) :
    norms w a (ix2 0 l) = normAt w a l := by
  pointwise [norms, k0_pay124, squares, sqPart]
  simp only [keyParts_at]
  rw [sum_regroup (fun d => elt w a rowOf d l * elt w a rowOf d l)]
  rfl

theorem later_at (a : Vec Ideal S1x1x8x128 .f32) (l : Fin 128) : k0_pay125 (auxTile a) (ix2 0 l) = a (ix4 0 0 6 l) := by
  pointwise [k0_pay125, auxTile]

/-! ## One tile's scores and its product with the values -/

/-- The scores of the first chunk's rows: each row's 128 keys lie one to a lane. -/
def scoreLo (d : FVec F S128x256 .f32) (pr cr : Vec F S2x128 .f32) (ds fl : Vec F S64x128 .f32) : FVec F S64x128 .f32 :=
  have v112 : Vec F S2x128 .f32 := select (broadcastTo S2x128 (shapeCast S1x128 k0_pay119 shapeCasts_S1x128_S1x128) broadcasts_S1x128_S2x128) cr pr
  select (cmpf .olt (shapeCast S64x128 ds shapeCasts_S64x128_S64x128) (broadcastTo S64x128 (extractStridedSlice S1x128 ![1, 0] v112 slices_S2x128_o1_0_S1x128) broadcasts_S1x128_S64x128))
    (mulf (select k0_pay120 (extractStridedSlice S64x128 ![0, 128] d slices_S128x256_o0_128_S64x128) (extractStridedSlice S64x128 ![0, 0] d slices_S128x256_o0_0_S64x128))
      (broadcastTo S64x128 (extractStridedSlice S1x128 ![0, 0] v112 slices_S2x128_o0_0_S1x128) broadcasts_S1x128_S64x128))
    (shapeCast S64x128 fl shapeCasts_S64x128_S64x128)

def scoreHi (d : FVec F S128x256 .f32) (cr : Vec F S2x128 .f32) (ds fl : Vec F S64x128 .f32) : FVec F S64x128 .f32 :=
  select (cmpf .olt (shapeCast S64x128 ds shapeCasts_S64x128_S64x128) (broadcastTo S64x128 (extractStridedSlice S1x128 ![1, 0] cr slices_S2x128_o1_0_S1x128) broadcasts_S1x128_S64x128))
    (mulf (extractStridedSlice S64x128 ![64, 128] d slices_S128x256_o64_128_S64x128)
      (broadcastTo S64x128 (extractStridedSlice S1x128 ![0, 0] cr slices_S2x128_o0_0_S1x128) broadcasts_S1x128_S64x128))
    (shapeCast S64x128 fl shapeCasts_S64x128_S64x128)

/-- Each row's powers of two of its scores less their greatest. -/
def powers (s : FVec F S64x128 .f32) : FVec F S64x128 .bf16 :=
  truncf .bf16 (exp2 (subf s (broadcastTo S64x128 (shapeCast S64x1 (multiReduction .maximumf [1] S64 s 0xFF800000#32 reduces_S64x128_S64 (.inl rfl) rfl) shapeCasts_S64_S64x1) broadcasts_S64x1_S64x128))) bitsLt_bf16_f32

def weights (elo ehi : FVec F S64x128 .bf16) : FVec F S128x256 .bf16 :=
  have z : FVec F S64x128 .bf16 := broadcast S64x128 (Scalar.ofBits .bf16 0x0000#16)
  concatenate S128x256 0 [⟨S64x256, concatenate S64x256 1 [⟨S64x128, select k0_pay120 z elo⟩, ⟨S64x128, select k0_pay120 elo z⟩] concatenates_S64x128_S64x128_S64x256_d1⟩,
    ⟨S64x256, concatenate S64x256 1 [⟨S64x128, z⟩, ⟨S64x128, ehi⟩] concatenates_S64x128_S64x128_S64x256_d1⟩] concatenates_S64x256_S64x256_S128x256_d0

/-- The values' sums, divided by the sums of the weights. -/
def mixed (v : Vec F S176x256 .bf16) (p : FVec F S128x256 .bf16) : FVec F S160x128 .f32 :=
  have v159 : FVec F S176x128 .f32 := matmul dot_S176x256_S128x256_S176x128_1_1_0_0_n_n none v p (constant S176x128 .f32 0x00000000#32)
  mulf (extractStridedSlice S160x128 ![0, 0] v159 slices_S176x128_o0_0_S160x128)
    (broadcastTo S160x128 (divf (broadcast S1x128 (Scalar.ofBits .f32 0x3F800000#32)) (extractStridedSlice S1x128 ![160, 0] v159 slices_S176x128_o160_0_S1x128)) broadcasts_S1x128_S160x128)

def dots (q : Vec F S128x160 .bf16) (k : Vec F S160x256 .bf16) : FVec F S128x256 .f32 :=
  matmul dot_S128x160_S160x256_S128x256_1_0_0_1_n_n none q k (constant S128x256 .f32 0x00000000#32)

/-- A tile's result, channel by query. -/
def tileOut (q : Vec F S128x160 .bf16) (k : Vec F S160x256 .bf16) (v : Vec F S176x256 .bf16) (pr cr : Vec F S2x128 .f32)
    (dlo dhi flo fhi : Vec F S64x128 .f32) : FVec F S160x128 .f32 :=
  mixed v (weights (powers (scoreLo (dots q k) pr cr dlo flo)) (powers (scoreHi (dots q k) cr dhi fhi)))

variable (q : Vec Ideal S128x160 .bf16) (k : Vec Ideal S160x256 .bf16) (v : Vec Ideal S176x256 .bf16) (pr cr : Vec Ideal S2x128 .f32) (dlo dhi flo fhi : Vec Ideal S64x128 .f32)

theorem select_lane {α : Type} (l : ℕ) (hl : l < 128) (x y : α) :
    Scalar.select (IntOp.cmpi CmpIPredicate.slt (BitVec.ofNat 32 l) 64#32) x y = if l < 64 then x else y := by
  have : (BitVec.ofNat 32 l).slt 64#32 = decide (l < 64) := by
    rw [BitVec.slt_eq_decide, BitVec.toInt_eq_toNat_of_lt (by rw [BitVec.toNat_ofNat]; omega), BitVec.toNat_ofNat, Nat.mod_eq_of_lt (by omega)]
    exact decide_eq_decide.mpr (by show (l : ℤ) < 64 ↔ _; omega)
  by_cases h : l < 64 <;> simp [Scalar.select, IntOp.cmpi, this, h]

/-- The padded lane, from the previous tile's first, of the key that query `n` of a tile has in its lane `l`. -/
def col (n l : Fin 128) : Fin 256 := ⟨if n.val < 64 ∧ 64 ≤ l.val then l.val else 128 + l.val, by split <;> omega⟩

/-- A pair of tiles' rows, side by side. -/
def side (pr cr : Vec Ideal S2x128 .f32) (j : Fin 2) (c : Fin 256) : EReal :=
  if h : c.val < 128 then pr (ix2 j ⟨c.val, h⟩) else cr (ix2 j ⟨c.val - 128, by omega⟩)

/-- Two half tiles, one above the other. -/
def stack (lo hi : Vec Ideal S64x128 .f32) (n l : Fin 128) : EReal :=
  if h : n.val < 64 then lo (ix2 ⟨n.val, h⟩ l) else hi (ix2 ⟨n.val - 64, by omega⟩ l)

/-- The score of query `n` against the key in its lane `l`. -/
def scoreAt (n l : Fin 128) : EReal :=
  if stack dlo dhi n l < side pr cr 1 (col n l) then (∑ d, q (ix2 n d) * k (ix2 d (col n l))) * side pr cr 0 (col n l) else stack flo fhi n l

def maxAt (s : Fin 128 → EReal) : EReal := Finset.fold max (Ideal.ofBits FTy.f32 4286578688#32) s Finset.univ

theorem dots_at (r : Fin 128) (l : Fin 256) : dots q k (ix2 r l) = ∑ x, q (ix2 r x) * k (ix2 x l) := by
  pointwise [dots]

theorem scoreLo_at (r : Fin 64) (l : Fin 128) :
    scoreLo (dots q k) pr cr dlo flo (ix2 r l) = scoreAt q k pr cr dlo dhi flo fhi ⟨r.val, by omega⟩ l := by
  have hr := r.isLt
  pointwise [scoreLo, k0_pay119, k0_pay120]
  simp only [select_lane _ l.isLt, dots_at, scoreAt, stack, side, col, hr, dite_true, true_and]
  by_cases h : l.val < 64
  · have h1 : ¬ 64 ≤ l.val := by omega
    have h2 : ¬ 128 + l.val < 128 := by omega
    simp only [h, h1, h2, if_true, if_false, dite_false, Nat.add_sub_cancel_left]
  · have h1 : 64 ≤ l.val := by omega
    simp only [h, h1, if_true, if_false, l.isLt, dite_true]

theorem scoreHi_at (r : Fin 64) (l : Fin 128) :
    scoreHi (dots q k) cr dhi fhi (ix2 r l) = scoreAt q k pr cr dlo dhi flo fhi ⟨64 + r.val, by omega⟩ l := by
  have hr : ¬ 64 + r.val < 64 := by omega
  have h2 : ¬ 128 + l.val < 128 := by omega
  pointwise [scoreHi]
  simp only [dots_at, scoreAt, stack, side, col, hr, false_and, if_false, h2, dite_false, Nat.add_sub_cancel_left]

theorem powers_at (s : FVec Ideal S64x128 .f32) (r : Fin 64) (l : Fin 128) :
    powers s (ix2 r l) = Ideal.exp2 (s (ix2 r l) - maxAt fun x => s (ix2 r x)) := by
  pointwise [powers]
  rfl

/-- The weight, before it is divided, of the key in lane `l` of query `n`. -/
def powerAt (n l : Fin 128) : EReal :=
  Ideal.exp2 (scoreAt q k pr cr dlo dhi flo fhi n l - maxAt (scoreAt q k pr cr dlo dhi flo fhi n))

def allWeights : FVec Ideal S128x256 .bf16 := weights (powers (scoreLo (dots q k) pr cr dlo flo)) (powers (scoreHi (dots q k) cr dhi fhi))

theorem powers_lo (r : Fin 64) (l n l' : Fin 128) (hn : r.val = n.val) (hl : l.val = l'.val) :
    powers (scoreLo (dots q k) pr cr dlo flo) (ix2 r l) = powerAt q k pr cr dlo dhi flo fhi n l' := by
  obtain rfl : l = l' := Fin.ext hl
  have e : (⟨r.val, by omega⟩ : Fin 128) = n := Fin.ext hn
  rw [← e]
  rw [powers_at]
  simp only [scoreLo_at q k pr cr dlo dhi flo fhi, powerAt]

theorem powers_hi (r : Fin 64) (l n l' : Fin 128) (hn : 64 + r.val = n.val) (hl : l.val = l'.val) :
    powers (scoreHi (dots q k) cr dhi fhi) (ix2 r l) = powerAt q k pr cr dlo dhi flo fhi n l' := by
  obtain rfl : l = l' := Fin.ext hl
  have e : (⟨64 + r.val, by omega⟩ : Fin 128) = n := Fin.ext hn
  rw [← e]
  rw [powers_at]
  simp only [scoreHi_at q k pr cr dlo dhi flo fhi, powerAt]

theorem allWeights_at (n : Fin 128) (x : Fin 256) :
    allWeights q k pr cr dlo dhi flo fhi (ix2 n x)
      = if (if n.val < 64 then 64 ≤ x.val ∧ x.val < 192 else 128 ≤ x.val) then powerAt q k pr cr dlo dhi flo fhi n ⟨x.val % 128, by omega⟩ else 0 := by
  have hx := x.isLt
  have hn := n.isLt
  pointwise [allWeights, weights, k0_pay120]
  by_cases h1 : n.val < 64 <;> by_cases h2 : x.val < 128 <;> simp only [h1, h2, dite_true, dite_false, if_true, if_false]
  · refine (select_lane _ h2 _ _).trans ?_
    by_cases h3 : x.val < 64
    · exact (if_pos h3).trans (if_neg fun (h : 64 ≤ x.val ∧ x.val < 192) => by omega).symm
    · exact (if_neg h3).trans ((powers_lo q k pr cr dlo dhi flo fhi ⟨n.val, h1⟩ ⟨x.val, h2⟩ n ⟨x.val % 128, by omega⟩ rfl
        (Nat.mod_eq_of_lt h2).symm).trans (if_pos ⟨by omega, by omega⟩).symm)
  · refine (select_lane _ (by omega) _ _).trans ?_
    by_cases h3 : x.val - 128 < 64
    · exact (if_pos h3).trans ((powers_lo q k pr cr dlo dhi flo fhi ⟨n.val, h1⟩ ⟨x.val - 128, by omega⟩ n ⟨x.val % 128, by omega⟩ rfl
        (show x.val - 128 = x.val % 128 by omega)).trans (if_pos ⟨by omega, by omega⟩).symm)
    · exact (if_neg h3).trans (if_neg fun (h : 64 ≤ x.val ∧ x.val < 192) => by omega).symm
  · exact (if_neg fun (h : 128 ≤ x.val) => by omega).symm
  · exact (powers_hi q k pr cr dlo dhi flo fhi ⟨n.val - 64, by omega⟩ ⟨x.val - 128, by omega⟩ n ⟨x.val % 128, by omega⟩
      (show 64 + (n.val - 64) = n.val by omega) (show x.val - 128 = x.val % 128 by omega)).trans (if_pos (by omega)).symm

/-- A sum over both tiles, weighted, is the sum over the window's lanes. -/
theorem sum_window (f : Fin 256 → EReal) (n : Fin 128) :
    ∑ x, f x * allWeights q k pr cr dlo dhi flo fhi (ix2 n x) = ∑ l, f (col n l) * powerAt q k pr cr dlo dhi flo fhi n l := by
  simp only [allWeights_at]
  rw [Fin.sum_univ_add (a := 128) (b := 128), ← Finset.sum_add_distrib]
  refine Finset.sum_congr rfl fun l _ => ?_
  have hl := l.isLt
  have e1 : (⟨(Fin.castAdd 128 l).val % 128, by omega⟩ : Fin 128) = l := Fin.ext (by simp only [Fin.val_castAdd]; omega)
  have e2 : (⟨(Fin.natAdd 128 l).val % 128, by omega⟩ : Fin 128) = l := Fin.ext (by simp only [Fin.val_natAdd]; omega)
  rw [e1, e2]
  by_cases h : n.val < 64 ∧ 64 ≤ l.val
  · have hc : col n l = Fin.castAdd 128 l := Fin.ext (by simp only [col, h, and_self, if_true, Fin.val_castAdd])
    rw [if_pos (by rw [if_pos h.1]; simp only [Fin.val_castAdd]; omega), if_neg (by rw [if_pos h.1]; simp only [Fin.val_natAdd]; omega), mul_zero, add_zero, hc]
  · have hc : col n l = Fin.natAdd 128 l := Fin.ext (by simp only [col, if_neg h, Fin.val_natAdd])
    rw [if_neg (by split <;> simp only [Fin.val_castAdd] <;> omega), if_pos (by split <;> simp only [Fin.val_natAdd] <;> omega), mul_zero, zero_add, hc]

theorem mixed_at (p : FVec Ideal S128x256 .bf16) (r : Fin 160) (l : Fin 128) :
    mixed v p (ix2 r l) = (∑ x, v (ix2 ⟨r.val, by omega⟩ x) * p (ix2 l x)) * Ideal.div 1 (∑ x, v (ix2 160 x) * p (ix2 l x)) := by
  pointwise [mixed]

theorem tileOut_at (r : Fin 160) (n : Fin 128) :
    tileOut q k v pr cr dlo dhi flo fhi (ix2 r n)
      = (∑ l, v (ix2 ⟨r.val, by omega⟩ (col n l)) * powerAt q k pr cr dlo dhi flo fhi n l)
        * Ideal.div 1 (∑ l, v (ix2 160 (col n l)) * powerAt q k pr cr dlo dhi flo fhi n l) := by
  refine (mixed_at v _ r n).trans ?_
  exact congrArg₂ (· * Ideal.div 1 ·) (sum_window q k pr cr dlo dhi flo fhi (fun x => v (ix2 ⟨r.val, by omega⟩ x)) n)
    (sum_window q k pr cr dlo dhi flo fhi (fun x => v (ix2 160 x)) n)

end Cert.KernelIdeal.Ops
-- ==== Proof.Fill.lean ====
/- What a buffer holds after a loop of disjoint stores, read at an index. -/
module
public import proofs.«01_k».proof.Proof.Ops
public import Idealize.ShloMosaic.Lib.WritesUnit
@[expose] public section
set_option maxRecDepth 16384
noncomputable section
namespace Cert.KernelIdeal.Fill
open Idealize.ShloMosaic Idealize.ShloMosaic.View

section Loop
variable {nD : ℕ} {sig : RefSig} {κ : Kind} {sp : Space} {s : Shape} {e : EltTy} {Val : EltTy → Type}
  (v : View sig κ sp s e) (f : v.ty.Contents Val) (L : ℕ → List (Piece Val s e)) (n : ℕ)

/-- An index some trip covers reads what that trip stores, when no later trip covers it with anything else. -/
theorem read_loop (y : s.Idx) (cov : ℕ → Prop) (G : Val e)
    (hin : ∀ k, k < n → cov k → v.read Val (v.writes Val f (L (k + 1))) y = G)
    (hout : ∀ k, k < n → ¬ cov k → v.read Val (v.writes Val f (L (k + 1))) y = v.read Val (v.writes Val f (L k)) y) :
    (∃ k, k < n ∧ cov k) → v.read Val (v.writes Val f (L n)) y = G := by
  induction n with
  | zero => rintro ⟨k, hk, -⟩; exact absurd hk (Nat.not_lt_zero _)
  | succ n ih =>
    rintro ⟨k, hk, hc⟩
    by_cases h : cov n
    · exact hin n (Nat.lt_succ_self n) h
    · rw [hout n (Nat.lt_succ_self n) h]
      refine ih (fun k hk => hin k (by omega)) (fun k hk => hout k (by omega)) ⟨k, ?_, hc⟩
      rcases Nat.lt_succ_iff_lt_or_eq.mp hk with h' | rfl
      · exact h'
      · exact absurd hc h

/-- An index no trip covers reads what was there. -/
theorem read_loop_out (y : s.Idx) (h0 : L 0 = [])
    (hout : ∀ k, k < n → v.read Val (v.writes Val f (L (k + 1))) y = v.read Val (v.writes Val f (L k)) y) :
    v.read Val (v.writes Val f (L n)) y = v.read Val f y := by
  induction n with
  | zero => rw [h0]; rfl
  | succ n ih => rw [hout n (Nat.lt_succ_self n)]; exact ih fun k hk => hout k (by omega)

variable (size : Fin s.rank → ℕ) (off : Fin n → Fin s.rank → ℕ) (inb : ∀ i a, off i a + size a ≤ s.size a)
  (w : Fin n → (⟨s.rank, size⟩ : Shape).Idx → Val e)

/-- One store a trip: an index in one trip's rectangle only reads that trip's store. -/
theorem tiles_read (hL : ∀ k : Fin n, L (k.val + 1) = [⟨Rect.unit (off k) size (inb k), w k⟩] ++ L k.val)
    (y : s.Idx) (i : Fin n) (x : (⟨s.rank, size⟩ : Shape).Idx) (hx : ∀ a, (y a).val = off i a + (x a).val) (ax : Fin s.rank)
    (hdis : ∀ i' : Fin n, i' ≠ i → (y ax).val < off i' ax ∨ off i' ax + size ax ≤ (y ax).val) :
    v.read Val (v.writes Val f (L n)) y = w i x := by
  refine read_loop v f L n y (fun k => k = i.val) (w i x) ?_ ?_ ⟨i.val, i.isLt, rfl⟩
  · rintro k hk rfl
    rw [hL i]
    exact read_writes_cons_unit_of_mem v f (inb i) (w i) _ y x rfl hx
  · intro k hk hne
    rw [hL ⟨k, hk⟩]
    exact read_writes_cons_unit_of_not_mem v f (inb ⟨k, hk⟩) (w ⟨k, hk⟩) _ y rfl ax (hdis ⟨k, hk⟩ fun h => hne (congrArg Fin.val h))

/-- and an index in no trip's rectangle reads what was there. -/
theorem tiles_read_out (h0 : L 0 = []) (hL : ∀ k : Fin n, L (k.val + 1) = [⟨Rect.unit (off k) size (inb k), w k⟩] ++ L k.val)
    (y : s.Idx) (ax : Fin s.rank) (hdis : ∀ i' : Fin n, (y ax).val < off i' ax ∨ off i' ax + size ax ≤ (y ax).val) :
    v.read Val (v.writes Val f (L n)) y = v.read Val f y :=
  read_loop_out v f L n y h0 fun k hk => by
    rw [hL ⟨k, hk⟩]
    exact read_writes_cons_unit_of_not_mem v f (inb ⟨k, hk⟩) (w ⟨k, hk⟩) _ y rfl ax (hdis ⟨k, hk⟩)

end Loop

section Lanes
variable {sig : RefSig} {κ : Kind} {sp : Space} {e : EltTy} {Val : EltTy → Type} {R : ℕ} {n : ℕ}
  (v : View sig κ sp ⟨2, ![R, 2432]⟩ e) (f : v.ty.Contents Val) (L : ℕ → List (Piece Val ⟨2, ![R, 2432]⟩ e))

/-- A tile of lanes stored per trip. -/
theorem lanes_read (hn : n = 18) (off : Fin n → Fin 2 → ℕ) (inb : ∀ i a, off i a + (![R, 128] : Fin 2 → ℕ) a ≤ (⟨2, ![R, 2432]⟩ : Shape).size a)
    (w : Fin n → (⟨2, ![R, 128]⟩ : Shape).Idx → Val e)
    (hL : ∀ k : Fin n, L (k.val + 1) = [⟨Rect.unit (off k) ![R, 128] (inb k), w k⟩] ++ L k.val)
    (ho : ∀ k, off k = ![0, 128 * k.val + 128]) (d : Fin R) (x : Fin 2432) (hx : 128 ≤ x.val) :
    v.read Val (v.writes Val f (L n)) (ix2 d x) = w ⟨(x.val - 128) / 128, by omega⟩ (ix2 d ⟨(x.val - 128) % 128, by omega⟩) := by
  refine tiles_read v f L n _ off inb w hL (ix2 d x) ⟨(x.val - 128) / 128, by omega⟩ (ix2 d ⟨(x.val - 128) % 128, by omega⟩) ?_ (1 : Fin 2) ?_
  · intro a
    rw [ho]
    match a with
    | ⟨0, _⟩ => show d.val = 0 + d.val; omega
    | ⟨1, _⟩ => show x.val = 128 * ((x.val - 128) / 128) + 128 + (x.val - 128) % 128; omega
  · intro i hi
    rw [ho]
    have : i.val ≠ (x.val - 128) / 128 := fun h => hi (Fin.ext h)
    show x.val < 128 * i.val + 128 ∨ 128 * i.val + 128 + 128 ≤ x.val
    omega

/-- The last tile, stored again in front of the first. -/
theorem copy_read (w : (⟨2, ![R, 128]⟩ : Shape).Idx → Val e) (inb) (P : List (Piece Val ⟨2, ![R, 2432]⟩ e)) (d : Fin R) (x : Fin 2432) :
    v.read Val (v.writes Val f (⟨Rect.unit ![0, 0] ![R, 128] inb, w⟩ :: P)) (ix2 d x)
      = if h : x.val < 128 then w (ix2 d ⟨x.val, h⟩) else v.read Val (v.writes Val f P) (ix2 d x) := by
  split
  · rename_i h
    refine read_writes_cons_unit_of_mem v f inb w P (ix2 d x) (ix2 d ⟨x.val, h⟩) rfl ?_
    intro a
    match a with
    | ⟨0, _⟩ => show d.val = 0 + d.val; omega
    | ⟨1, _⟩ => show x.val = 0 + x.val; omega
  · rename_i h
    exact read_writes_cons_unit_of_not_mem v f inb w P (ix2 d x) rfl (1 : Fin 2) (Or.inr (by show 0 + 128 ≤ x.val; omega))

end Lanes

section Rows
variable {sig : RefSig} {κ : Kind} {sp : Space} {e : EltTy} {Val : EltTy → Type} {n : ℕ}

/-- A tile of rows stored per trip. -/
theorem rows_read {C : ℕ} (v : View sig κ sp ⟨2, ![2304, C]⟩ e) (f : v.ty.Contents Val) (L : ℕ → List (Piece Val ⟨2, ![2304, C]⟩ e))
    (hn : n = 18) (off : Fin n → Fin 2 → ℕ) (inb : ∀ i a, off i a + (![128, C] : Fin 2 → ℕ) a ≤ (⟨2, ![2304, C]⟩ : Shape).size a)
    (w : Fin n → (⟨2, ![128, C]⟩ : Shape).Idx → Val e)
    (hL : ∀ k : Fin n, L (k.val + 1) = [⟨Rect.unit (off k) ![128, C] (inb k), w k⟩] ++ L k.val)
    (ho : ∀ k, off k = ![128 * k.val, 0]) (p : Fin 2304) (d : Fin C) :
    v.read Val (v.writes Val f (L n)) (ix2 p d) = w ⟨p.val / 128, by omega⟩ (ix2 ⟨p.val % 128, by omega⟩ d) := by
  refine tiles_read v f L n _ off inb w hL (ix2 p d) ⟨p.val / 128, by omega⟩ (ix2 ⟨p.val % 128, by omega⟩ d) ?_ (0 : Fin 2) ?_
  · intro a
    rw [ho]
    match a with
    | ⟨0, _⟩ => show p.val = 128 * (p.val / 128) + p.val % 128; omega
    | ⟨1, _⟩ => show d.val = 0 + d.val; omega
  · intro i hi
    rw [ho]
    have : i.val ≠ p.val / 128 := fun h => hi (Fin.ext h)
    show p.val < 128 * i.val ∨ 128 * i.val + 128 ≤ p.val
    omega

/-- The same of rank three. -/
theorem words_read (v : View sig κ sp ⟨3, ![2304, 2, 128]⟩ e) (f : v.ty.Contents Val) (L : ℕ → List (Piece Val ⟨3, ![2304, 2, 128]⟩ e))
    (hn : n = 18) (off : Fin n → Fin 3 → ℕ) (inb : ∀ i a, off i a + (![128, 2, 128] : Fin 3 → ℕ) a ≤ (⟨3, ![2304, 2, 128]⟩ : Shape).size a)
    (w : Fin n → (⟨3, ![128, 2, 128]⟩ : Shape).Idx → Val e)
    (hL : ∀ k : Fin n, L (k.val + 1) = [⟨Rect.unit (off k) ![128, 2, 128] (inb k), w k⟩] ++ L k.val)
    (ho : ∀ k, off k = ![128 * k.val, 0, 0]) (p : Fin 2304) (u : Fin 2) (l : Fin 128) :
    v.read Val (v.writes Val f (L n)) (ix3 p u l) = w ⟨p.val / 128, by omega⟩ (ix3 ⟨p.val % 128, by omega⟩ u l) := by
  refine tiles_read v f L n _ off inb w hL (ix3 p u l) ⟨p.val / 128, by omega⟩ (ix3 ⟨p.val % 128, by omega⟩ u l) ?_ (0 : Fin 3) ?_
  · intro a
    rw [ho]
    match a with
    | ⟨0, _⟩ => show p.val = 128 * (p.val / 128) + p.val % 128; omega
    | ⟨1, _⟩ => show u.val = 0 + u.val; omega
    | ⟨2, _⟩ => show l.val = 0 + l.val; omega
  · intro i hi
    rw [ho]
    have : i.val ≠ p.val / 128 := fun h => hi (Fin.ext h)
    show p.val < 128 * i.val ∨ 128 * i.val + 128 ≤ p.val
    omega

/-- One row of a head stored per trip, at the row a word names: every row is read where its word sent it. -/
theorem scatter_read (v : View sig κ sp ⟨4, ![4, 2304, 2, 128]⟩ e) (f : v.ty.Contents Val) (L : ℕ → List (Piece Val ⟨4, ![4, 2304, 2, 128]⟩ e))
    (hn : n = 2304) (off : Fin n → Fin 4 → ℕ) (inb : ∀ i a, off i a + (![1, 1, 2, 128] : Fin 4 → ℕ) a ≤ (⟨4, ![4, 2304, 2, 128]⟩ : Shape).size a)
    (w : Fin n → (⟨4, ![1, 1, 2, 128]⟩ : Shape).Idx → Val e)
    (hL : ∀ k : Fin n, L (k.val + 1) = [⟨Rect.unit (off k) ![1, 1, 2, 128] (inb k), w k⟩] ++ L k.val)
    (h : Fin 4) (dest : Fin n → Fin 2304) (hdest : Function.Injective dest) (ho : ∀ k, off k = ![h.val, (dest k).val, 0, 0])
    (r : Fin n) (u : Fin 2) (l : Fin 128) :
    v.read Val (v.writes Val f (L n)) (ix4 h (dest r) u l) = w r (ix4 0 0 u l) := by
  refine tiles_read v f L n _ off inb w hL (ix4 h (dest r) u l) r (ix4 0 0 u l) ?_ (1 : Fin 4) ?_
  · intro a
    rw [ho]
    match a with
    | ⟨0, _⟩ => show h.val = h.val + 0; omega
    | ⟨1, _⟩ => show (dest r).val = (dest r).val + 0; omega
    | ⟨2, _⟩ => show u.val = 0 + u.val; omega
    | ⟨3, _⟩ => show l.val = 0 + l.val; omega
  · intro i hi
    rw [ho]
    have : (dest i).val ≠ (dest r).val := fun h => hi (hdest (Fin.ext h))
    show (dest r).val < (dest i).val ∨ (dest i).val + 1 ≤ (dest r).val
    omega

/-- Another head's rows are as they were. -/
theorem scatter_read_other (v : View sig κ sp ⟨4, ![4, 2304, 2, 128]⟩ e) (f : v.ty.Contents Val) (L : ℕ → List (Piece Val ⟨4, ![4, 2304, 2, 128]⟩ e))
    (off : Fin n → Fin 4 → ℕ) (inb : ∀ i a, off i a + (![1, 1, 2, 128] : Fin 4 → ℕ) a ≤ (⟨4, ![4, 2304, 2, 128]⟩ : Shape).size a)
    (w : Fin n → (⟨4, ![1, 1, 2, 128]⟩ : Shape).Idx → Val e) (h0 : L 0 = [])
    (hL : ∀ k : Fin n, L (k.val + 1) = [⟨Rect.unit (off k) ![1, 1, 2, 128] (inb k), w k⟩] ++ L k.val)
    (h h' : Fin 4) (hne : h' ≠ h) (dest : Fin n → ℕ) (ho : ∀ k, off k = ![h.val, dest k, 0, 0])
    (p : Fin 2304) (u : Fin 2) (l : Fin 128) :
    v.read Val (v.writes Val f (L n)) (ix4 h' p u l) = v.read Val f (ix4 h' p u l) := by
  refine tiles_read_out v f L n _ off inb w h0 hL (ix4 h' p u l) (0 : Fin 4) ?_
  intro i
  rw [ho]
  have : h'.val ≠ h.val := fun e => hne (Fin.ext e)
  show h'.val < h.val ∨ h.val + 1 ≤ h'.val
  omega

end Rows
end Cert.KernelIdeal.Fill
-- ==== Proof.Head.lean ====
/- A head of the kernel as functions of positions: each query's scores against the keys its window holds, their
   weights and the weighted sum of the values; and a tile of the kernel, read as those functions. -/
module
public import proofs.«01_k».proof.Proof.Fill
@[expose] public section
set_option maxRecDepth 16384
noncomputable section
namespace Cert.KernelIdeal.Head
open Cert.KernelIdeal Cert.KernelIdeal.Gen Cert.KernelIdeal.Ops Cert.KernelIdeal.Fill
open Idealize.ShloMosaic Idealize.ShloMosaic.TcCoe

section Words
variable {F : FTy → Type} [FloatOps F] [Named F]

/-- Two tiles of channels as the halves of words, a word for each query and lane. -/
def wordOf (lo hi : FVec F S128x128 .f32) : Vec F S128x2x128 .bf16 :=
  interleaveRows S128x2x128 (shapeCast S128x1x128 (truncf .bf16 (transpose S128x128 [1, 0] lo transposes_S128x128_p1_0_S128x128) bitsLt_bf16_f32) shapeCasts_S128x128_S128x1x128)
    (shapeCast S128x1x128 (truncf .bf16 (transpose S128x128 [1, 0] hi transposes_S128x128_p1_0_S128x128) bitsLt_bf16_f32) shapeCasts_S128x128_S128x1x128) bitcasts_S128x2x128_w16_S128x1x128_w32

/-- Each head's channels start 32 lanes further than the head's before it. -/
def word0 (o : FVec F S160x128 .f32) : Vec F S128x2x128 .bf16 :=
  wordOf (extractStridedSlice S128x128 ![0, 0] o slices_S160x128_o0_0_S128x128)
    (concatenate S128x128 0 [⟨S32x128, extractStridedSlice S32x128 ![128, 0] o slices_S160x128_o128_0_S32x128⟩, ⟨S96x128, k0_pay130⟩] concatenates_S32x128_S96x128_S128x128_d0)

def word1 (o : FVec F S160x128 .f32) : Vec F S128x2x128 .bf16 :=
  wordOf (concatenate S128x128 0 [⟨S32x128, k0_pay140⟩, ⟨S96x128, extractStridedSlice S96x128 ![0, 0] o slices_S160x128_o0_0_S96x128⟩] concatenates_S32x128_S96x128_S128x128_d0)
    (concatenate S128x128 0 [⟨S64x128, extractStridedSlice S64x128 ![96, 0] o slices_S160x128_o96_0_S64x128⟩, ⟨S64x128, k0_pay141⟩] concatenates_S64x128_S64x128_S128x128_d0)

def word2 (o : FVec F S160x128 .f32) : Vec F S128x2x128 .bf16 :=
  wordOf (concatenate S128x128 0 [⟨S64x128, k0_pay152⟩, ⟨S64x128, extractStridedSlice S64x128 ![0, 0] o slices_S160x128_o0_0_S64x128⟩] concatenates_S64x128_S64x128_S128x128_d0)
    (concatenate S128x128 0 [⟨S96x128, extractStridedSlice S96x128 ![64, 0] o slices_S160x128_o64_0_S96x128⟩, ⟨S32x128, k0_pay153⟩] concatenates_S96x128_S32x128_S128x128_d0)

def word3 (o : FVec F S160x128 .f32) : Vec F S128x2x128 .bf16 :=
  wordOf (concatenate S128x128 0 [⟨S96x128, k0_pay164⟩, ⟨S32x128, extractStridedSlice S32x128 ![0, 0] o slices_S160x128_o0_0_S32x128⟩] concatenates_S96x128_S32x128_S128x128_d0)
    (extractStridedSlice S128x128 ![32, 0] o slices_S160x128_o32_0_S128x128)

end Words

theorem wordOf_at (lo hi : FVec Ideal S128x128 .f32) (n : Fin 128) (u : Fin 2) (l : Fin 128) :
    wordOf lo hi (ix3 n u l) = if u.val = 0 then lo (ix2 l n) else hi (ix2 l n) := by
  fin_cases u <;> pointwise [wordOf] <;> simp

theorem at_eq {A B : ℕ} {α : Type} (o : (⟨2, ![A, B]⟩ : Shape).Idx → α) {r r' : Fin A} {n n' : Fin B} (h : r.val = r'.val) (hn : n.val = n'.val) :
    o (ix2 r n) = o (ix2 r' n') := by rw [Fin.ext h, Fin.ext hn]

/-- Channel `128 u + l` of a head's words, less where the head's channels start. -/
theorem word0_at (o : FVec Ideal S160x128 .f32) (n : Fin 128) (u : Fin 2) (l : Fin 128) (r : Fin 160) (h : 128 * u.val + l.val = r.val) :
    word0 o (ix3 n u l) = o (ix2 r n) := by
  rw [word0, wordOf_at]
  have hu := u.isLt
  split <;> pointwise
  · exact at_eq o (by simp only; omega) rfl
  · rw [dif_pos (by omega)]
    exact at_eq o (by simp only; omega) rfl

theorem word1_at (o : FVec Ideal S160x128 .f32) (n : Fin 128) (u : Fin 2) (l : Fin 128) (r : Fin 160) (h : 128 * u.val + l.val = 32 + r.val) :
    word1 o (ix3 n u l) = o (ix2 r n) := by
  rw [word1, wordOf_at]
  have hu := u.isLt
  split <;> pointwise
  · rw [dif_neg (by omega)]
    exact at_eq o (by simp only; omega) rfl
  · rw [dif_pos (by omega)]
    exact at_eq o (by simp only; omega) rfl

theorem word2_at (o : FVec Ideal S160x128 .f32) (n : Fin 128) (u : Fin 2) (l : Fin 128) (r : Fin 160) (h : 128 * u.val + l.val = 64 + r.val) :
    word2 o (ix3 n u l) = o (ix2 r n) := by
  rw [word2, wordOf_at]
  have hu := u.isLt
  split <;> pointwise
  · rw [dif_neg (by omega)]
    exact at_eq o (by simp only; omega) rfl
  · rw [dif_pos (by omega)]
    exact at_eq o (by simp only; omega) rfl

theorem word3_at (o : FVec Ideal S160x128 .f32) (n : Fin 128) (u : Fin 2) (l : Fin 128) (r : Fin 160) (h : 128 * u.val + l.val = 96 + r.val) :
    word3 o (ix3 n u l) = o (ix2 r n) := by
  rw [word3, wordOf_at]
  have hu := u.isLt
  split <;> pointwise
  · rw [dif_neg (by omega)]
    exact at_eq o (by simp only; omega) rfl
  · exact at_eq o (by simp only; omega) rfl

/-! ## A head of a point's blocks, position by position -/

section Model
variable (x1 x2 : Vec Ideal S1x4x5x144x128 .i32) (x3 : Vec Ideal S1x4x144x128 .f32) (x4 x5 : Vec Ideal S128x128 .f32) (h : Fin 4)

/-- Channel `d` of the head at position `p`: its code, multiplied by the side value of its channel block. -/
def chan (x : Vec Ideal S1x4x5x144x128 .i32) (j : ℕ → Fin 8) (d : Fin 160) (p : Fin 2304) : EReal :=
  codeAt (x (ix5 0 h ⟨d.val / 32, by omega⟩ ⟨8 * (p.val / 128) + d.val % 32 / 4, by omega⟩ ⟨p.val % 128, by omega⟩)) (d.val % 4)
    * x3 (ix4 0 h ⟨8 * (p.val / 128) + (j (d.val / 32)).val, by omega⟩ ⟨p.val % 128, by omega⟩)

/-- The position a padded lane holds: the last tile lies before the first. -/
def posAt (x : Fin 2432) : Fin 2304 := ⟨if x.val < 128 then x.val + 2176 else x.val - 128, by split <;> omega⟩

/-- The padded lane of the key in lane `l` of the query at `p`. -/
def laneAt (p : Fin 2304) (l : Fin 128) : Fin 2432 :=
  ⟨128 * (p.val / 128) + (col ⟨p.val % 128, by omega⟩ l).val, by have := (col ⟨p.val % 128, by omega⟩ l).isLt; omega⟩

def keyAt (d : Fin 160) (p : Fin 2304) : EReal := chan x3 h x1 rowOf d p

def valAt (d : Fin 160) (p : Fin 2304) : EReal := chan x3 h x2 (fun _ => 5) d p

/-- The factor the scores against position `p` carry. -/
def factorAt (p : Fin 2304) : EReal :=
  Ideal.rsqrt ((∑ d : Fin 160, keyAt x1 x3 h d p * keyAt x1 x3 h d p) * Named.named (F := Ideal) κ "inv_d" (φ := .f32) 1003277517#32 + Ideal.ofBits FTy.f32 897988541#32)
    * Named.named (F := Ideal) κ "scale" (φ := .f32) 1038718387#32

/-- What the gap to the key in padded lane `x` is compared with: nothing before the first position is seen. -/
def laterAt (x : Fin 2432) : EReal :=
  if hx : x.val < 128 then Ideal.ofBits FTy.f32 0xBF800000#32
  else x3 (ix4 0 h ⟨8 * ((x.val - 128) / 128) + 6, by omega⟩ ⟨(x.val - 128) % 128, by omega⟩)

def score (p : Fin 2304) (l : Fin 128) : EReal :=
  if x4 (ix2 ⟨p.val % 128, by omega⟩ l) < laterAt x3 h (laneAt p l) then
    (∑ d, keyAt x1 x3 h d p * keyAt x1 x3 h d (posAt (laneAt p l))) * factorAt x1 x3 h (posAt (laneAt p l))
  else x5 (ix2 ⟨p.val % 128, by omega⟩ l)

def power (p : Fin 2304) (l : Fin 128) : EReal :=
  Ideal.exp2 (score x1 x3 x4 x5 h p l - maxAt (score x1 x3 x4 x5 h p))

/-- Channel `r` of the head's result at position `p`. -/
def attend (r : Fin 160) (p : Fin 2304) : EReal :=
  (∑ l, valAt x2 x3 h r (posAt (laneAt p l)) * power x1 x3 x4 x5 h p l) * Ideal.div 1 (∑ l, 1 * power x1 x3 x4 x5 h p l)

/-- A tile whose operands are the head's keys, values and side rows is the head at the tile's positions. -/
theorem tile_attend (t : Fin 18) (q : Vec Ideal S128x160 .bf16) (k : Vec Ideal S160x256 .bf16) (v : Vec Ideal S176x256 .bf16)
    (pr cr : Vec Ideal S2x128 .f32) (dlo dhi flo fhi : Vec Ideal S64x128 .f32)
    (hq : ∀ n d, q (ix2 n d) = keyAt x1 x3 h d ⟨128 * t.val + n.val, by omega⟩)
    (hk : ∀ d c, k (ix2 d c) = keyAt x1 x3 h d (posAt ⟨128 * t.val + c.val, by omega⟩))
    (hv : ∀ (d : Fin 160) c, v (ix2 ⟨d.val, by omega⟩ c) = valAt x2 x3 h d (posAt ⟨128 * t.val + c.val, by omega⟩))
    (h1 : ∀ c, v (ix2 160 c) = 1)
    (hp0 : ∀ l, pr (ix2 0 l) = factorAt x1 x3 h (posAt ⟨128 * t.val + l.val, by omega⟩))
    (hp1 : ∀ l, pr (ix2 1 l) = laterAt x3 h ⟨128 * t.val + l.val, by omega⟩)
    (hc0 : ∀ l, cr (ix2 0 l) = factorAt x1 x3 h (posAt ⟨128 * t.val + 128 + l.val, by omega⟩))
    (hc1 : ∀ l, cr (ix2 1 l) = laterAt x3 h ⟨128 * t.val + 128 + l.val, by omega⟩)
    (hdl : ∀ r l, dlo (ix2 r l) = x4 (ix2 ⟨r.val, by omega⟩ l)) (hdh : ∀ r l, dhi (ix2 r l) = x4 (ix2 ⟨64 + r.val, by omega⟩ l))
    (hfl : ∀ r l, flo (ix2 r l) = x5 (ix2 ⟨r.val, by omega⟩ l)) (hfh : ∀ r l, fhi (ix2 r l) = x5 (ix2 ⟨64 + r.val, by omega⟩ l))
    (r : Fin 160) (n : Fin 128) :
    tileOut q k v pr cr dlo dhi flo fhi (ix2 r n) = attend x1 x2 x3 x4 x5 h r ⟨128 * t.val + n.val, by omega⟩ := by
  have hs0 : ∀ c, side pr cr 0 c = factorAt x1 x3 h (posAt ⟨128 * t.val + c.val, by omega⟩) := fun c => by
    unfold side; split
    · exact hp0 _
    · exact (hc0 _).trans (by congr 3; simp only; omega)
  have hs1 : ∀ c, side pr cr 1 c = laterAt x3 h ⟨128 * t.val + c.val, by omega⟩ := fun c => by
    unfold side; split
    · exact hp1 _
    · exact (hc1 _).trans (by congr 2; simp only; omega)
  have hd : ∀ n l, stack dlo dhi n l = x4 (ix2 n l) := fun n l => by
    unfold stack; split
    · exact hdl _ _
    · exact (hdh _ _).trans (at_eq x4 (by simp only; omega) rfl)
  have hf : ∀ n l, stack flo fhi n l = x5 (ix2 n l) := fun n l => by
    unfold stack; split
    · exact hfl _ _
    · exact (hfh _ _).trans (at_eq x5 (by simp only; omega) rfl)
  have e1 : (⟨(128 * t.val + n.val) % 128, by omega⟩ : Fin 128) = n := Fin.ext (by simp only; omega)
  have e2 : ∀ l, laneAt ⟨128 * t.val + n.val, by omega⟩ l = ⟨128 * t.val + (col n l).val, by have := (col n l).isLt; omega⟩ := fun l => by
    unfold laneAt
    apply Fin.ext
    simp only [e1]
    omega
  have hs : scoreAt q k pr cr dlo dhi flo fhi n = score x1 x3 x4 x5 h ⟨128 * t.val + n.val, by omega⟩ := by
    funext l
    unfold scoreAt score
    simp only [hs0, hs1, hd, hf, hq, hk, e1, e2]
  rw [tileOut_at]
  unfold attend power powerAt
  rw [hs]
  simp only [hv, h1, e2]

end Model
end Cert.KernelIdeal.Head
-- ==== Proof.HeadLoops.lean ====
/- What a head's loops leave: the load loop the head's keys, values and side rows, the score loop the head's results,
   the scatter loop those results at the rows the words name. Each is stated of any lists of stores of the loop's
   form, whatever the offsets' spelling. -/
module
public import proofs.«01_k».proof.Proof.Head
@[expose] public section
set_option maxRecDepth 16384
noncomputable section
namespace Cert.KernelIdeal.Head
open Cert.KernelIdeal Cert.KernelIdeal.Gen Cert.KernelIdeal.Ops Cert.KernelIdeal.Fill
open Idealize.ShloMosaic Idealize.ShloMosaic.TcCoe

section Reads
variable {sig : RefSig} {κ : Kind} {sp : Space} {e : EltTy} {Val : EltTy → Type}

/-- A load of a unit-stride rectangle, at an index. -/
theorem readAt_unit {s : Shape} (v : View sig κ sp s e) (X : v.ty.Contents Val) {off size : Fin s.rank → ℕ} (inb) (x) (y : s.Idx)
    (h : ∀ a, (y a).val = off a + (x a).val) :
    v.readAt Val (Rect.unit (s := s) off size inb).toLoadRect X x = v.read Val X y := by
  rw [View.readAt_apply]
  congr 1
  funext a
  apply Fin.ext
  rw [h a]
  show off a + 1 * (x a).val = _
  omega

theorem readAt2 {A B a b : ℕ} (v : View sig κ sp ⟨2, ![A, B]⟩ e) (X : v.ty.Contents Val) {off : Fin 2 → ℕ} (inb) {o0 o1 : ℕ} (ho : off = ![o0, o1])
    (i : Fin a) (j : Fin b) (i' : Fin A) (j' : Fin B) (hi : i'.val = o0 + i.val) (hj : j'.val = o1 + j.val) :
    v.readAt Val (Rect.unit (s := ⟨2, ![A, B]⟩) off ![a, b] inb).toLoadRect X (ix2 i j) = v.read Val X (ix2 i' j') := by
  subst ho
  refine readAt_unit v X inb (ix2 i j) (ix2 i' j') fun c => ?_
  match c with
  | ⟨0, _⟩ => exact hi
  | ⟨1, _⟩ => exact hj

theorem readAt4 {A B C D a b c d : ℕ} (v : View sig κ sp ⟨4, ![A, B, C, D]⟩ e) (X : v.ty.Contents Val) {off : Fin 4 → ℕ} (inb) {o0 o1 o2 o3 : ℕ}
    (ho : off = ![o0, o1, o2, o3]) (i : Fin a) (j : Fin b) (k : Fin c) (l : Fin d) (i' : Fin A) (j' : Fin B) (k' : Fin C) (l' : Fin D)
    (hi : i'.val = o0 + i.val) (hj : j'.val = o1 + j.val) (hk : k'.val = o2 + k.val) (hl : l'.val = o3 + l.val) :
    v.readAt Val (Rect.unit (s := ⟨4, ![A, B, C, D]⟩) off ![a, b, c, d] inb).toLoadRect X (ix4 i j k l) = v.read Val X (ix4 i' j' k' l') := by
  subst ho
  refine readAt_unit v X inb (ix4 i j k l) (ix4 i' j' k' l') fun c => ?_
  match c with
  | ⟨0, _⟩ => exact hi
  | ⟨1, _⟩ => exact hj
  | ⟨2, _⟩ => exact hk
  | ⟨3, _⟩ => exact hl

theorem readAt3 {A B C a b c : ℕ} (v : View sig κ sp ⟨3, ![A, B, C]⟩ e) (X : v.ty.Contents Val) {off : Fin 3 → ℕ} (inb) {o0 o1 o2 : ℕ}
    (ho : off = ![o0, o1, o2]) (i : Fin a) (j : Fin b) (k : Fin c) (i' : Fin A) (j' : Fin B) (k' : Fin C)
    (hi : i'.val = o0 + i.val) (hj : j'.val = o1 + j.val) (hk : k'.val = o2 + k.val) :
    v.readAt Val (Rect.unit (s := ⟨3, ![A, B, C]⟩) off ![a, b, c] inb).toLoadRect X (ix3 i j k) = v.read Val X (ix3 i' j' k') := by
  subst ho
  refine readAt_unit v X inb (ix3 i j k) (ix3 i' j' k') fun c => ?_
  match c with
  | ⟨0, _⟩ => exact hi
  | ⟨1, _⟩ => exact hj
  | ⟨2, _⟩ => exact hk

theorem readAt5 {A B C D E a b c d f : ℕ} (v : View sig κ sp ⟨5, ![A, B, C, D, E]⟩ e) (X : v.ty.Contents Val) {off : Fin 5 → ℕ} (inb) {o0 o1 o2 o3 o4 : ℕ}
    (ho : off = ![o0, o1, o2, o3, o4]) (i : Fin a) (j : Fin b) (k : Fin c) (l : Fin d) (m : Fin f)
    (i' : Fin A) (j' : Fin B) (k' : Fin C) (l' : Fin D) (m' : Fin E)
    (hi : i'.val = o0 + i.val) (hj : j'.val = o1 + j.val) (hk : k'.val = o2 + k.val) (hl : l'.val = o3 + l.val) (hm : m'.val = o4 + m.val) :
    v.readAt Val (Rect.unit (s := ⟨5, ![A, B, C, D, E]⟩) off ![a, b, c, d, f] inb).toLoadRect X (ix5 i j k l m) = v.read Val X (ix5 i' j' k' l' m') := by
  subst ho
  refine readAt_unit v X inb (ix5 i j k l m) (ix5 i' j' k' l' m') fun c => ?_
  match c with
  | ⟨0, _⟩ => exact hi
  | ⟨1, _⟩ => exact hj
  | ⟨2, _⟩ => exact hk
  | ⟨3, _⟩ => exact hl
  | ⟨4, _⟩ => exact hm

end Reads

/-- A row of a load tile. -/
def tileRow {n : ℕ} (hn : n = 18) (k : Fin n) (b : Fin 8) : Fin 144 := ⟨8 * k.val + b.val, by omega⟩
/-- A lane of the last tile. -/
def lastTile (l : Fin 128) : Fin 2432 := ⟨2304 + l.val, by omega⟩

section Loops
variable {sig : RefSig} {κ : Kind} {sp : Space}
  (x1 x2 : Vec Ideal S1x4x5x144x128 .i32) (x3 : Vec Ideal S1x4x144x128 .f32) (x4 x5 : Vec Ideal S128x128 .f32) (h : Fin 4)
  (v10 : View sig κ sp S160x2432 .bf16) (v11 : View sig κ sp S2304x160 .bf16) (v12 : View sig κ sp S176x2432 .bf16) (v13 : View sig κ sp S8x2432 .f32)

/-- The scratch buffers hold a head's keys, values and side rows. -/
structure Ready (X10 : v10.ty.Contents (Elt Ideal)) (X11 : v11.ty.Contents (Elt Ideal)) (X12 : v12.ty.Contents (Elt Ideal))
    (X13 : v13.ty.Contents (Elt Ideal)) : Prop where
  keys : ∀ d x, v10.read (Elt Ideal) X10 (ix2 d x) = keyAt x1 x3 h d (posAt x)
  rows : ∀ p d, v11.read (Elt Ideal) X11 (ix2 p d) = keyAt x1 x3 h d p
  vals : ∀ (d : Fin 160) x, v12.read (Elt Ideal) X12 (ix2 ⟨d.val, by omega⟩ x) = valAt x2 x3 h d (posAt x)
  ones : ∀ x, v12.read (Elt Ideal) X12 (ix2 160 x) = 1
  factor : ∀ x, v13.read (Elt Ideal) X13 (ix2 0 x) = factorAt x1 x3 h (posAt x)
  later : ∀ x, v13.read (Elt Ideal) X13 (ix2 1 x) = laterAt x3 h x

section Load
variable {n : ℕ} (hn : n = 18)
  (L : ℕ → List (View.Piece (Elt Ideal) S160x2432 .bf16) × List (View.Piece (Elt Ideal) S2304x160 .bf16)
    × List (View.Piece (Elt Ideal) S176x2432 .bf16) × List (View.Piece (Elt Ideal) S8x2432 .f32))
  (w w' : Fin n → Fin 5 → Vec Ideal S1x1x1x8x128 .i32) (a : Fin n → Vec Ideal S1x1x8x128 .f32)
  (o7 o8 o9 o10 o11 : Fin n → Fin 2 → ℕ)
  (i7 : ∀ k b, o7 k b + S160x128.size b ≤ S160x2432.size b) (i8 : ∀ k b, o8 k b + S128x160.size b ≤ S2304x160.size b)
  (i9 : ∀ k b, o9 k b + S176x128.size b ≤ S176x2432.size b) (i10 : ∀ k b, o10 k b + S1x128.size b ≤ S8x2432.size b)
  (i11 : ∀ k b, o11 k b + S1x128.size b ≤ S8x2432.size b)
  (e7 : ∀ k, o7 k = ![0, 128 * k.val + 128]) (e8 : ∀ k, o8 k = ![128 * k.val, 0]) (e9 : ∀ k, o9 k = ![0, 128 * k.val + 128])
  (e10 : ∀ k, o10 k = ![0, 128 * k.val + 128]) (e11 : ∀ k, o11 k = ![1, 128 * k.val + 128])
  (hL : ∀ k : Fin n, L (k.val + 1) = ([⟨Rect.unit (o7 k) S160x128.size (i7 k), keys (w k) (a k)⟩] ++ (L k.val).1,
    [⟨Rect.unit (o8 k) S128x160.size (i8 k), k0_pay122 (keys (w k) (a k))⟩] ++ (L k.val).2.1,
    [⟨Rect.unit (o9 k) S176x128.size (i9 k), vals (w' k) (a k)⟩] ++ (L k.val).2.2.1,
    [⟨Rect.unit (o11 k) S1x128.size (i11 k), k0_pay125 (auxTile (a k))⟩, ⟨Rect.unit (o10 k) S1x128.size (i10 k), norms (w k) (a k)⟩] ++ (L k.val).2.2.2))
  (hw : ∀ k j b l, w k j (ix5 0 0 0 b l) = x1 (ix5 0 h j (tileRow hn k b) l))
  (hw' : ∀ k j b l, w' k j (ix5 0 0 0 b l) = x2 (ix5 0 h j (tileRow hn k b) l))
  (ha : ∀ k b l, a k (ix4 0 0 b l) = x3 (ix4 0 h (tileRow hn k b) l))
include hn

section Elt
variable (x : Vec Ideal S1x4x5x144x128 .i32) (u : Fin n → Fin 5 → Vec Ideal S1x1x1x8x128 .i32)
  (hu : ∀ k j b l, u k j (ix5 0 0 0 b l) = x (ix5 0 h j (tileRow hn k b) l))
include hu ha

theorem elt_chan (j : ℕ → Fin 8) (d : Fin 160) (k : Fin n) (l : Fin 128) (p : Fin 2304) (hk : k.val = p.val / 128) (hl : l.val = p.val % 128) :
    elt (u k) (a k) j d l = chan x3 h x j d p := by
  rw [show l = ⟨p.val % 128, Nat.mod_lt _ (by decide)⟩ from Fin.ext hl]
  unfold elt chan
  simp only [hu, ha, tileRow, hk]

end Elt

include hL e7 hw ha in
theorem load_keys (f) (d : Fin 160) (x : Fin 2432) (hx : 128 ≤ x.val) (P) :
    v10.read (Elt Ideal) (v10.writes (Elt Ideal) f ((L n).1 ++ P)) (ix2 d x) = keyAt x1 x3 h d ⟨x.val - 128, by omega⟩ := by
  rw [View.writes_append]
  refine (lanes_read v10 _ (fun k => (L k).1) hn o7 i7 (fun k => keys (w k) (a k)) (fun k => by rw [hL k]) e7 d x hx).trans ?_
  rw [keys_at]
  exact elt_chan x3 h hn a ha x1 w hw rowOf d _ _ _ rfl rfl

include hL e8 hw ha in
theorem load_rows (f) (p : Fin 2304) (d : Fin 160) (P) :
    v11.read (Elt Ideal) (v11.writes (Elt Ideal) f ((L n).2.1 ++ P)) (ix2 p d) = keyAt x1 x3 h d p := by
  rw [View.writes_append]
  refine (rows_read v11 _ (fun k => (L k).2.1) hn o8 i8 (fun k => k0_pay122 (keys (w k) (a k))) (fun k => by rw [hL k]) e8 p d).trans ?_
  have : ∀ y : FVec Ideal S160x128 .bf16, ∀ q, k0_pay122 y (ix2 q d) = y (ix2 d q) := fun y q => by pointwise [k0_pay122]
  rw [this, keys_at]
  exact elt_chan x3 h hn a ha x1 w hw rowOf d _ _ _ rfl rfl

include hL e9 hw' ha in
theorem load_vals (f) (d : Fin 160) (x : Fin 2432) (hx : 128 ≤ x.val) (P) :
    v12.read (Elt Ideal) (v12.writes (Elt Ideal) f ((L n).2.2.1 ++ P)) (ix2 ⟨d.val, by omega⟩ x) = valAt x2 x3 h d ⟨x.val - 128, by omega⟩ := by
  rw [View.writes_append]
  refine (lanes_read v12 _ (fun k => (L k).2.2.1) hn o9 i9 (fun k => vals (w' k) (a k)) (fun k => by rw [hL k]) e9 ⟨d.val, by omega⟩ x hx).trans ?_
  rw [vals_at]
  exact elt_chan x3 h hn a ha x2 w' hw' _ d _ _ _ rfl rfl

include hL e9 in
theorem load_ones (f) (x : Fin 2432) (hx : 128 ≤ x.val) (P) :
    v12.read (Elt Ideal) (v12.writes (Elt Ideal) f ((L n).2.2.1 ++ P)) (ix2 160 x) = 1 := by
  rw [View.writes_append]
  refine (lanes_read v12 _ (fun k => (L k).2.2.1) hn o9 i9 (fun k => vals (w' k) (a k)) (fun k => by rw [hL k]) e9 160 x hx).trans ?_
  exact vals_one _ _ _ (by decide) _

include hL e10 e11 hw ha in
theorem load_factor (f) (x : Fin 2432) (hx : 128 ≤ x.val) (P) :
    v13.read (Elt Ideal) (v13.writes (Elt Ideal) f ((L n).2.2.2 ++ P)) (ix2 0 x) = factorAt x1 x3 h ⟨x.val - 128, by omega⟩ := by
  rw [View.writes_append]
  refine (read_loop v13 _ (fun k => (L k).2.2.2) n (ix2 0 x) (fun k => k = (x.val - 128) / 128)
    (norms (w ⟨(x.val - 128) / 128, by omega⟩) (a ⟨(x.val - 128) / 128, by omega⟩) (ix2 0 ⟨(x.val - 128) % 128, by omega⟩)) ?_ ?_ ⟨_, by omega, rfl⟩).trans ?_
  · rintro k hk rfl
    rw [hL ⟨_, hk⟩]
    refine (View.read_writes_cons_unit_of_not_mem v13 _ (i11 _) _ _ (ix2 0 x) (e11 _) (0 : Fin 2) (Or.inl (by show 0 < 1; omega))).trans ?_
    refine View.read_writes_cons_unit_of_mem v13 _ (i10 _) _ _ (ix2 0 x) (ix2 0 ⟨(x.val - 128) % 128, by omega⟩) (e10 _) fun b => ?_
    match b with
    | ⟨0, _⟩ => rfl
    | ⟨1, _⟩ => show x.val = 128 * ((x.val - 128) / 128) + 128 + (x.val - 128) % 128; omega
  · intro k hk hne
    rw [hL ⟨_, hk⟩]
    have ho : x.val < 128 * k + 128 ∨ 128 * k + 128 + 128 ≤ x.val := by omega
    refine (View.read_writes_cons_unit_of_not_mem v13 _ (i11 ⟨k, hk⟩) _ _ (ix2 0 x) (e11 ⟨k, hk⟩) (1 : Fin 2) ho).trans ?_
    exact View.read_writes_cons_unit_of_not_mem v13 _ (i10 ⟨k, hk⟩) _ _ (ix2 0 x) (e10 ⟨k, hk⟩) (1 : Fin 2) ho
  · rw [norms_at]
    unfold normAt factorAt keyAt
    simp only [fun d => elt_chan x3 h hn a ha x1 w hw rowOf d ⟨(x.val - 128) / 128, by omega⟩ ⟨(x.val - 128) % 128, by omega⟩ ⟨x.val - 128, by omega⟩ rfl rfl]

include hL e10 e11 ha in
theorem load_later (f) (x : Fin 2432) (hx : 128 ≤ x.val) (P) :
    v13.read (Elt Ideal) (v13.writes (Elt Ideal) f ((L n).2.2.2 ++ P)) (ix2 1 x) = laterAt x3 h x := by
  rw [View.writes_append]
  refine (read_loop v13 _ (fun k => (L k).2.2.2) n (ix2 1 x) (fun k => k = (x.val - 128) / 128)
    (k0_pay125 (auxTile (a ⟨(x.val - 128) / 128, by omega⟩)) (ix2 0 ⟨(x.val - 128) % 128, by omega⟩)) ?_ ?_ ⟨_, by omega, rfl⟩).trans ?_
  · rintro k hk rfl
    rw [hL ⟨_, hk⟩]
    refine View.read_writes_cons_unit_of_mem v13 _ (i11 _) _ _ (ix2 1 x) (ix2 0 ⟨(x.val - 128) % 128, by omega⟩) (e11 _) fun b => ?_
    match b with
    | ⟨0, _⟩ => rfl
    | ⟨1, _⟩ => show x.val = 128 * ((x.val - 128) / 128) + 128 + (x.val - 128) % 128; omega
  · intro k hk hne
    rw [hL ⟨_, hk⟩]
    have ho : x.val < 128 * k + 128 ∨ 128 * k + 128 + 128 ≤ x.val := by omega
    refine (View.read_writes_cons_unit_of_not_mem v13 _ (i11 ⟨k, hk⟩) _ _ (ix2 1 x) (e11 ⟨k, hk⟩) (1 : Fin 2) ho).trans ?_
    exact View.read_writes_cons_unit_of_not_mem v13 _ (i10 ⟨k, hk⟩) _ _ (ix2 1 x) (e10 ⟨k, hk⟩) (1 : Fin 2) ho
  · rw [later_at, ha]
    unfold laterAt
    rw [dif_neg (by omega)]
    rfl

include hL e7 e8 e9 e10 e11 hw hw' ha in
/-- After the load loop and the copies of the last tile the scratch buffers are ready. -/
theorem ready (f10 f11 f12 f13 P10 P11 P12 P13 A10 A11 A12 A13)
    (a10 : A10 = (L n).1 ++ P10) (a11 : A11 = (L n).2.1 ++ P11) (a12 : A12 = (L n).2.2.1 ++ P12) (a13 : A13 = (L n).2.2.2 ++ P13) (c10 c12 c13 c13')
    (W10 : Vec Ideal S160x128 .bf16) (W12 : Vec Ideal S176x128 .bf16) (W13 M13 : Vec Ideal S1x128 .f32)
    (h10 : ∀ d l, W10 (ix2 d l) = v10.read (Elt Ideal) (v10.writes (Elt Ideal) f10 A10) (ix2 d (lastTile l)))
    (h12 : ∀ d l, W12 (ix2 d l) = v12.read (Elt Ideal) (v12.writes (Elt Ideal) f12 A12) (ix2 d (lastTile l)))
    (h13 : ∀ l, W13 (ix2 0 l) = v13.read (Elt Ideal) (v13.writes (Elt Ideal) f13 A13) (ix2 0 (lastTile l)))
    (hM : ∀ l, M13 (ix2 0 l) = Ideal.ofBits FTy.f32 0xBF800000#32) :
    Ready x1 x2 x3 h v10 v11 v12 v13
      (v10.writes (Elt Ideal) f10 (⟨Rect.unit ![0, 0] S160x128.size c10, W10⟩ :: A10))
      (v11.writes (Elt Ideal) f11 A11)
      (v12.writes (Elt Ideal) f12 (⟨Rect.unit ![0, 0] S176x128.size c12, W12⟩ :: A12))
      (v13.writes (Elt Ideal) f13 (⟨Rect.unit ![1, 0] S1x128.size c13', M13⟩ :: ⟨Rect.unit ![0, 0] S1x128.size c13, W13⟩ :: A13)) := by
  subst a10 a11 a12 a13
  exact {
      keys d x := by
        refine (copy_read v10 f10 W10 c10 _ d x).trans ?_
        unfold posAt
        split
        · rw [h10]
          refine (load_keys x1 x3 h v10 hn L w w' a o7 o8 o9 o10 o11 i7 i8 i9 i10 i11 e7 hL hw ha f10 d (lastTile ⟨x.val, by assumption⟩) (by show 128 ≤ 2304 + x.val; omega) P10).trans ?_
          congr 1; apply Fin.ext; show 2304 + x.val - 128 = x.val + 2176; omega
        · exact load_keys x1 x3 h v10 hn L w w' a o7 o8 o9 o10 o11 i7 i8 i9 i10 i11 e7 hL hw ha f10 d x (by omega) P10
      rows p d := load_rows x1 x3 h v11 hn L w w' a o7 o8 o9 o10 o11 i7 i8 i9 i10 i11 e8 hL hw ha f11 p d P11
      vals d x := by
        refine (copy_read v12 f12 W12 c12 _ ⟨d.val, by omega⟩ x).trans ?_
        unfold posAt
        split
        · rw [h12]
          refine (load_vals x2 x3 h v12 hn L w w' a o7 o8 o9 o10 o11 i7 i8 i9 i10 i11 e9 hL hw' ha f12 d (lastTile ⟨x.val, by assumption⟩) (by show 128 ≤ 2304 + x.val; omega) P12).trans ?_
          congr 1; apply Fin.ext; show 2304 + x.val - 128 = x.val + 2176; omega
        · exact load_vals x2 x3 h v12 hn L w w' a o7 o8 o9 o10 o11 i7 i8 i9 i10 i11 e9 hL hw' ha f12 d x (by omega) P12
      ones x := by
        refine (copy_read v12 f12 W12 c12 _ 160 x).trans ?_
        split
        · rw [h12]
          exact load_ones v12 hn L w w' a o7 o8 o9 o10 o11 i7 i8 i9 i10 i11 e9 hL f12 (lastTile ⟨x.val, by assumption⟩) (by show 128 ≤ 2304 + x.val; omega) P12
        · exact load_ones v12 hn L w w' a o7 o8 o9 o10 o11 i7 i8 i9 i10 i11 e9 hL f12 x (by omega) P12
      factor x := by
        refine (View.read_writes_cons_unit_of_not_mem v13 _ c13' _ _ (ix2 0 x) rfl (0 : Fin 2) (Or.inl (by show 0 < 1; omega))).trans ?_
        unfold posAt
        split
        · rename_i hx
          refine (View.read_writes_cons_unit_of_mem v13 _ c13 _ _ (ix2 0 x) (ix2 0 ⟨x.val, hx⟩) rfl ?_).trans ?_
          · intro b
            match b with
            | ⟨0, _⟩ => rfl
            | ⟨1, _⟩ => show x.val = 0 + x.val; omega
          · rw [h13]
            refine (load_factor x1 x3 h v13 hn L w w' a o7 o8 o9 o10 o11 i7 i8 i9 i10 i11 e10 e11 hL hw ha f13 (lastTile ⟨x.val, by assumption⟩) (by show 128 ≤ 2304 + x.val; omega) P13).trans ?_
            congr 1; apply Fin.ext; show 2304 + x.val - 128 = x.val + 2176; omega
        · refine (View.read_writes_cons_unit_of_not_mem v13 _ c13 _ _ (ix2 0 x) rfl (1 : Fin 2) (Or.inr (by show 0 + 128 ≤ x.val; omega))).trans ?_
          exact load_factor x1 x3 h v13 hn L w w' a o7 o8 o9 o10 o11 i7 i8 i9 i10 i11 e10 e11 hL hw ha f13 x (by omega) P13
      later x := by
        by_cases hx : x.val < 128
        · refine (View.read_writes_cons_unit_of_mem v13 _ c13' _ _ (ix2 1 x) (ix2 0 ⟨x.val, hx⟩) rfl ?_).trans ?_
          · intro b
            match b with
            | ⟨0, _⟩ => rfl
            | ⟨1, _⟩ => show x.val = 0 + x.val; omega
          · rw [hM]
            unfold laterAt
            rw [dif_pos hx]
        · refine (View.read_writes_cons_unit_of_not_mem v13 _ c13' _ _ (ix2 1 x) rfl (1 : Fin 2) (Or.inr (by show 0 + 128 ≤ x.val; omega))).trans ?_
          refine (View.read_writes_cons_unit_of_not_mem v13 _ c13 _ _ (ix2 1 x) rfl (1 : Fin 2) (Or.inr (by show 0 + 128 ≤ x.val; omega))).trans ?_
          exact load_later x3 h v13 hn L w w' a o7 o8 o9 o10 o11 i7 i8 i9 i10 i11 e10 e11 hL ha f13 x (by omega) P13 }

end Load

section Score
variable {n : ℕ} (hn : n = 18) (v6 v7 : View sig κ sp S128x128 .f32) (v15 : View sig κ sp S2304x2x128 .bf16)
  (X6 : v6.ty.Contents (Elt Ideal)) (X7 : v7.ty.Contents (Elt Ideal)) (h6 : v6.read (Elt Ideal) X6 = x4) (h7 : v7.read (Elt Ideal) X7 = x5)
  {X10 : v10.ty.Contents (Elt Ideal)} {X11 : v11.ty.Contents (Elt Ideal)} {X12 : v12.ty.Contents (Elt Ideal)} {X13 : v13.ty.Contents (Elt Ideal)}
  (hR : Ready x1 x2 x3 h v10 v11 v12 v13 X10 X11 X12 X13)
  (L : ℕ → List (View.Piece (Elt Ideal) S2304x2x128 .bf16)) (W : FVec Ideal S160x128 .f32 → Vec Ideal S128x2x128 .bf16)
  (hW : ∀ o n u l (r : Fin 160), 128 * u.val + l.val = 32 * h.val + r.val → W o (ix3 n u l) = o (ix2 r n))
  (o12 o13 o14 o15 o16 : Fin n → Fin 2 → ℕ) (o17 : Fin n → Fin 3 → ℕ)
  (i12 : ∀ k b, o12 k b + S128x160.size b ≤ S2304x160.size b) (i13 : ∀ k b, o13 k b + S160x256.size b ≤ S160x2432.size b)
  (i14 : ∀ k b, o14 k b + S2x128.size b ≤ S8x2432.size b) (i15 : ∀ k b, o15 k b + S2x128.size b ≤ S8x2432.size b)
  (i16 : ∀ k b, o16 k b + S176x256.size b ≤ S176x2432.size b) (i17 : ∀ k b, o17 k b + S128x2x128.size b ≤ S2304x2x128.size b)
  (e12 : ∀ k, o12 k = ![128 * k.val, 0]) (e13 : ∀ k, o13 k = ![0, 128 * k.val]) (e14 : ∀ k, o14 k = ![0, 128 * k.val])
  (e15 : ∀ k, o15 k = ![0, 128 * k.val + 128]) (e16 : ∀ k, o16 k = ![0, 128 * k.val]) (e17 : ∀ k, o17 k = ![128 * k.val, 0, 0])
  (ilo : ∀ b, (![0, 0] : Fin 2 → ℕ) b + S64x128.size b ≤ S128x128.size b) (ihi : ∀ b, (![64, 0] : Fin 2 → ℕ) b + S64x128.size b ≤ S128x128.size b)
  (hL : ∀ k : Fin n, L (k.val + 1) = [⟨Rect.unit (o17 k) S128x2x128.size (i17 k), W (tileOut
      (v11.readAt (Elt Ideal) (Rect.unit (s := S2304x160) (o12 k) S128x160.size (i12 k)).toLoadRect X11)
      (v10.readAt (Elt Ideal) (Rect.unit (s := S160x2432) (o13 k) S160x256.size (i13 k)).toLoadRect X10)
      (v12.readAt (Elt Ideal) (Rect.unit (s := S176x2432) (o16 k) S176x256.size (i16 k)).toLoadRect X12)
      (v13.readAt (Elt Ideal) (Rect.unit (s := S8x2432) (o14 k) S2x128.size (i14 k)).toLoadRect X13)
      (v13.readAt (Elt Ideal) (Rect.unit (s := S8x2432) (o15 k) S2x128.size (i15 k)).toLoadRect X13)
      (v6.readAt (Elt Ideal) (Rect.unit (s := S128x128) ![0, 0] S64x128.size ilo).toLoadRect X6)
      (v6.readAt (Elt Ideal) (Rect.unit (s := S128x128) ![64, 0] S64x128.size ihi).toLoadRect X6)
      (v7.readAt (Elt Ideal) (Rect.unit (s := S128x128) ![0, 0] S64x128.size ilo).toLoadRect X7)
      (v7.readAt (Elt Ideal) (Rect.unit (s := S128x128) ![64, 0] S64x128.size ihi).toLoadRect X7))⟩] ++ L k.val)
include hn h6 h7 hR hW e12 e13 e14 e15 e16 e17 hL

/-- After the score loop the word buffer holds the head's results. -/
theorem scores (f P A) (hA : A = L n ++ P) (p : Fin 2304) (u : Fin 2) (l : Fin 128) (r : Fin 160) (hr : 128 * u.val + l.val = 32 * h.val + r.val) :
    v15.read (Elt Ideal) (v15.writes (Elt Ideal) f A) (ix3 p u l) = attend x1 x2 x3 x4 x5 h r p := by
  rw [hA]
  rw [View.writes_append]
  refine (words_read v15 _ L hn o17 i17 _ hL e17 p u l).trans ?_
  rw [hW _ _ u l r hr]
  refine (tile_attend x1 x2 x3 x4 x5 h ⟨p.val / 128, by omega⟩ _ _ _ _ _ _ _ _ _ ?_ ?_ ?_ ?_ ?_ ?_ ?_ ?_ ?_ ?_ ?_ ?_ r _).trans ?_
  · exact fun n d => (readAt2 v11 X11 (i12 _) (e12 _) n d ⟨128 * (p.val / 128) + n.val, by omega⟩ d rfl (by omega)).trans (hR.rows _ _)
  · exact fun d c => (readAt2 v10 X10 (i13 _) (e13 _) d c d ⟨128 * (p.val / 128) + c.val, by omega⟩ (by omega) rfl).trans (hR.keys _ _)
  · exact fun d c => (readAt2 v12 X12 (i16 _) (e16 _) (⟨d.val, by omega⟩ : Fin 176) c ⟨d.val, by omega⟩ ⟨128 * (p.val / 128) + c.val, by omega⟩ (by simp only; omega) rfl).trans (hR.vals _ _)
  · exact fun c => (readAt2 v12 X12 (i16 _) (e16 _) (160 : Fin 176) c 160 ⟨128 * (p.val / 128) + c.val, by omega⟩ rfl rfl).trans (hR.ones _)
  · exact fun l => (readAt2 v13 X13 (i14 _) (e14 _) (0 : Fin 2) l 0 ⟨128 * (p.val / 128) + l.val, by omega⟩ rfl rfl).trans (hR.factor _)
  · exact fun l => (readAt2 v13 X13 (i14 _) (e14 _) (1 : Fin 2) l 1 ⟨128 * (p.val / 128) + l.val, by omega⟩ rfl rfl).trans (hR.later _)
  · exact fun l => (readAt2 v13 X13 (i15 _) (e15 _) (0 : Fin 2) l 0 ⟨128 * (p.val / 128) + 128 + l.val, by omega⟩ rfl rfl).trans (hR.factor _)
  · exact fun l => (readAt2 v13 X13 (i15 _) (e15 _) (1 : Fin 2) l 1 ⟨128 * (p.val / 128) + 128 + l.val, by omega⟩ rfl rfl).trans (hR.later _)
  · exact fun r l => (readAt2 v6 X6 ilo rfl r l ⟨r.val, by omega⟩ l (by simp only; omega) (by omega)).trans (congrFun h6 _)
  · exact fun r l => (readAt2 v6 X6 ihi rfl r l ⟨64 + r.val, by omega⟩ l rfl (by omega)).trans (congrFun h6 _)
  · exact fun r l => (readAt2 v7 X7 ilo rfl r l ⟨r.val, by omega⟩ l (by simp only; omega) (by omega)).trans (congrFun h7 _)
  · exact fun r l => (readAt2 v7 X7 ihi rfl r l ⟨64 + r.val, by omega⟩ l rfl (by omega)).trans (congrFun h7 _)
  · congr 1; apply Fin.ext; simp only; omega

end Score

/-- A row read from the words is the row stored. -/
theorem row_pay (y : Vec Ideal S1x2x128 .bf16) (u : Fin 2) (l : Fin 128) : k0_pay131 y (ix4 0 0 u l) = y (ix3 0 u l) := by
  fin_cases u <;> pointwise [k0_pay131] <;> rfl

section Scatter
variable {n : ℕ} (hn : n = 2304) (v14 : View sig κ sp S4x2304x2x128 .bf16) (v15 : View sig κ sp S2304x2x128 .bf16)
  (row : Fin 4 → Fin 2304 → Fin 2304) (hrow : ∀ g, Function.Injective (row g))

/-- The row buffer holds the results of the first `H` heads, each at the row its word names. -/
def Placed (X14 : v14.ty.Contents (Elt Ideal)) (H : ℕ) : Prop :=
  ∀ (g : Fin 4), g.val < H → ∀ (p : Fin 2304) (u : Fin 2) (l : Fin 128) (r : Fin 160), 128 * u.val + l.val = 32 * g.val + r.val →
    v14.read (Elt Ideal) X14 (ix4 g (row g p) u l) = attend x1 x2 x3 x4 x5 g r p

variable {X15 : v15.ty.Contents (Elt Ideal)}
  (h15 : ∀ (p : Fin 2304) (u : Fin 2) (l : Fin 128) (r : Fin 160), 128 * u.val + l.val = 32 * h.val + r.val →
    v15.read (Elt Ideal) X15 (ix3 p u l) = attend x1 x2 x3 x4 x5 h r p)
  (L : ℕ → List (View.Piece (Elt Ideal) S4x2304x2x128 .bf16))
  (o18 : Fin n → Fin 3 → ℕ) (o20 : Fin n → Fin 4 → ℕ)
  (i18 : ∀ k b, o18 k b + S1x2x128.size b ≤ S2304x2x128.size b) (i20 : ∀ k b, o20 k b + S1x1x2x128.size b ≤ S4x2304x2x128.size b)
  (e18 : ∀ k, o18 k = ![k.val, 0, 0]) (e20 : ∀ k, o20 k = ![h.val, (row h (Fin.cast hn k)).val, 0, 0])
  (h0 : L 0 = [])
  (hL : ∀ k : Fin n, L (k.val + 1) = [⟨Rect.unit (o20 k) S1x1x2x128.size (i20 k),
    k0_pay131 (v15.readAt (Elt Ideal) (Rect.unit (s := S2304x2x128) (o18 k) S1x2x128.size (i18 k)).toLoadRect X15)⟩] ++ L k.val)
include hn hrow h15 e18 e20 h0 hL

theorem scatters (f P A) (hA : A = L n ++ P) (hf : Placed x1 x2 x3 x4 x5 v14 row (v14.writes (Elt Ideal) f P) h.val) :
    Placed x1 x2 x3 x4 x5 v14 row (v14.writes (Elt Ideal) f A) (h.val + 1) := by
  intro g hg p u l r hr
  rw [hA]
  rw [View.writes_append]
  by_cases hgh : g = h
  · subst hgh
    subst hn
    refine (scatter_read v14 _ L rfl o20 i20 _ hL g (row g) (hrow g) e20 p u l).trans ?_
    rw [row_pay]
    exact (readAt3 v15 X15 (i18 p) (e18 p) 0 u l p u l (by simp) (by omega) (by omega)).trans (h15 p u l r hr)
  · refine (scatter_read_other v14 _ L o20 i20 _ h0 hL h g hgh _ e20 (row g p) u l).trans ?_
    exact hf g (by have : g.val ≠ h.val := fun e => hgh (Fin.ext e); omega) p u l r hr

end Scatter
end Loops
end Cert.KernelIdeal.Head
-- ==== Proof.Heads.lean ====
/- The loops of each head, opened: a trip of each stores the operations of `Ops` on what it loads. So each head's
   loops leave its keys, its results and its rows. -/
module
public import proofs.«01_k».proof.Proof.HeadLoops
@[expose] public section
set_option maxRecDepth 16384
noncomputable section
namespace Cert.KernelIdeal.Head
open Cert.KernelIdeal Cert.KernelIdeal.Gen Cert.KernelIdeal.Ops Cert.KernelIdeal.Fill
open Idealize.ShloMosaic Idealize.ShloMosaic.TcCoe

section Forms
variable {sig : RefSig} {κ : Kind} {sp : Space}
  (x1 x2 : Vec Ideal S1x4x5x144x128 .i32) (x3 : Vec Ideal S1x4x144x128 .f32) (h : Fin 4)
  (v10 : View sig κ sp S160x2432 .bf16) (v11 : View sig κ sp S2304x160 .bf16) (v12 : View sig κ sp S176x2432 .bf16) (v13 : View sig κ sp S8x2432 .f32)

/-- With the load loop's stores `L` and the copies of the last tile behind it, the scratch buffers are ready. -/
def Loads (L : List (View.Piece (Elt Ideal) S160x2432 .bf16) × List (View.Piece (Elt Ideal) S2304x160 .bf16)
    × List (View.Piece (Elt Ideal) S176x2432 .bf16) × List (View.Piece (Elt Ideal) S8x2432 .f32)) : Prop :=
  ∀ (f10 f11 f12 f13 P10 P11 P12 P13 A10 A11 A12 A13), A10 = L.1 ++ P10 → A11 = L.2.1 ++ P11 → A12 = L.2.2.1 ++ P12 → A13 = L.2.2.2 ++ P13 →
    ∀ (c10 c12 c13 c13') (W10 : Vec Ideal S160x128 .bf16) (W12 : Vec Ideal S176x128 .bf16) (W13 M13 : Vec Ideal S1x128 .f32),
    (∀ d l, W10 (ix2 d l) = v10.read (Elt Ideal) (v10.writes (Elt Ideal) f10 A10) (ix2 d (lastTile l))) →
    (∀ d l, W12 (ix2 d l) = v12.read (Elt Ideal) (v12.writes (Elt Ideal) f12 A12) (ix2 d (lastTile l))) →
    (∀ l, W13 (ix2 0 l) = v13.read (Elt Ideal) (v13.writes (Elt Ideal) f13 A13) (ix2 0 (lastTile l))) →
    (∀ l, M13 (ix2 0 l) = Ideal.ofBits FTy.f32 0xBF800000#32) →
    Ready x1 x2 x3 h v10 v11 v12 v13
      (v10.writes (Elt Ideal) f10 (⟨Rect.unit ![0, 0] S160x128.size c10, W10⟩ :: A10))
      (v11.writes (Elt Ideal) f11 A11)
      (v12.writes (Elt Ideal) f12 (⟨Rect.unit ![0, 0] S176x128.size c12, W12⟩ :: A12))
      (v13.writes (Elt Ideal) f13 (⟨Rect.unit ![1, 0] S1x128.size c13', M13⟩ :: ⟨Rect.unit ![0, 0] S1x128.size c13, W13⟩ :: A13))

variable (x4 x5 : Vec Ideal S128x128 .f32)

/-- The word buffer holds a head's results. -/
def Scored (v15 : View sig κ sp S2304x2x128 .bf16) (X15 : v15.ty.Contents (Elt Ideal)) : Prop :=
  ∀ (p : Fin 2304) (u : Fin 2) (l : Fin 128) (r : Fin 160), 128 * u.val + l.val = 32 * h.val + r.val →
    v15.read (Elt Ideal) X15 (ix3 p u l) = attend x1 x2 x3 x4 x5 h r p

end Forms

/-- A trip's loads of words, slab by slab. -/
abbrev slabs {n : ℕ} {sig : RefSig} {κ : Kind} {sp : Space} (v : View sig κ sp S1x4x5x144x128 .i32) (X : v.ty.Contents (Elt Ideal))
    (o : Fin 5 → Fin n → Fin 5 → ℕ) (i : ∀ j k b, o j k b + S1x1x1x8x128.size b ≤ S1x4x5x144x128.size b) (k : Fin n) (j : Fin 5) : Vec Ideal S1x1x1x8x128 .i32 :=
  v.readAt (Elt Ideal) (Rect.unit (s := S1x4x5x144x128) (o j k) S1x1x1x8x128.size (i j k)).toLoadRect X

theorem slabs_at {n : ℕ} {sig : RefSig} {κ : Kind} {sp : Space} (v : View sig κ sp S1x4x5x144x128 .i32) (X : v.ty.Contents (Elt Ideal))
    (x) (hx : v.read (Elt Ideal) X = x) (h : Fin 4) (hn : n = 18) (o : Fin 5 → Fin n → Fin 5 → ℕ) (i) (e : ∀ j k, o j k = ![0, h.val, j.val, 8 * k.val, 0]) (k : Fin n) (j : Fin 5)
    (b : Fin 8) (l : Fin 128) : slabs v X o i k j (ix5 0 0 0 b l) = x (ix5 0 h j (tileRow hn k b) l) :=
  (readAt5 v X (i j k) (e j k) 0 0 0 b l 0 h j (tileRow hn k b) l rfl rfl rfl rfl (by omega)).trans (congrFun hx _)

abbrev auxes {n : ℕ} {sig : RefSig} {κ : Kind} {sp : Space} (v : View sig κ sp S1x4x144x128 .f32) (X : v.ty.Contents (Elt Ideal))
    (o : Fin n → Fin 4 → ℕ) (i : ∀ k b, o k b + S1x1x8x128.size b ≤ S1x4x144x128.size b) (k : Fin n) : Vec Ideal S1x1x8x128 .f32 :=
  v.readAt (Elt Ideal) (Rect.unit (s := S1x4x144x128) (o k) S1x1x8x128.size (i k)).toLoadRect X

theorem auxes_at {n : ℕ} {sig : RefSig} {κ : Kind} {sp : Space} (v : View sig κ sp S1x4x144x128 .f32) (X : v.ty.Contents (Elt Ideal))
    (x) (hx : v.read (Elt Ideal) X = x) (h : Fin 4) (hn : n = 18) (o : Fin n → Fin 4 → ℕ) (i) (e : ∀ k, o k = ![0, h.val, 8 * k.val, 0]) (k : Fin n)
    (b : Fin 8) (l : Fin 128) : auxes v X o i k (ix4 0 0 b l) = x (ix4 0 h (tileRow hn k b) l) :=
  (readAt4 v X (i k) (e k) 0 0 b l 0 h (tileRow hn k b) l rfl rfl rfl (by omega)).trans (congrFun hx _)

theorem first_eq : Shape.Idx.first (s := S1x1x1x1) (numel1_S1x1x1x1.symm ▸ Nat.one_pos) = ix4 0 0 0 0 := by
  funext a; fin_cases a <;> exact Subsingleton.elim (α := Fin 1) _ _

section Parts
variable (w : Fin 5 → Vec Ideal S1x1x1x8x128 .i32) (a : Vec Ideal S1x1x8x128 .f32) (p0 p1 p2 p3 p4 : FVec Ideal S32x128 .bf16)
  (h0 : p0 = scaled (w 0) (extractStridedSlice S1x128 ![0, 0] (auxTile a) slices_S8x128_o0_0_S1x128))
  (h1 : p1 = scaled (w 1) (extractStridedSlice S1x128 ![1, 0] (auxTile a) slices_S8x128_o1_0_S1x128))
  (h2 : p2 = scaled (w 2) (extractStridedSlice S1x128 ![2, 0] (auxTile a) slices_S8x128_o2_0_S1x128))
  (h3 : p3 = scaled (w 3) (extractStridedSlice S1x128 ![3, 0] (auxTile a) slices_S8x128_o3_0_S1x128))
  (h4 : p4 = scaled (w 4) (extractStridedSlice S1x128 ![4, 0] (auxTile a) slices_S8x128_o4_0_S1x128))
include h0 h1 h2 h3 h4
theorem keys_of : concatenate S160x128 0 [⟨S32x128, p0⟩, ⟨S32x128, p1⟩, ⟨S32x128, p2⟩, ⟨S32x128, p3⟩, ⟨S32x128, p4⟩]
    concatenates_S32x128_S32x128_S32x128_S32x128_S32x128_S160x128_d0 = keys w a := by
  subst h0 h1 h2 h3 h4; rfl
theorem squares_of : addf (addf (addf (addf (addf (broadcast S8x128 (Scalar.ofBits .f32 0x00000000#32)) (sqPart p0)) (sqPart p1)) (sqPart p2)) (sqPart p3)) (sqPart p4)
    = squares w a := by
  subst h0 h1 h2 h3 h4; rfl
end Parts

theorem vals_of (w : Fin 5 → Vec Ideal S1x1x1x8x128 .i32) (a : Vec Ideal S1x1x8x128 .f32) (p0 p1 p2 p3 p4 : FVec Ideal S32x128 .bf16)
    (h0 : p0 = valParts w a 0) (h1 : p1 = valParts w a 1) (h2 : p2 = valParts w a 2) (h3 : p3 = valParts w a 3) (h4 : p4 = valParts w a 4) :
    k0_pay123 p0 p1 p2 p3 p4 = vals w a := by
  subst h0 h1 h2 h3 h4; rfl

section Heads
variable (𝒱 : Variants) (c : Dev nD) (bd : Option 𝒱.V) (i : grid0.Coords) (arg2 : Memref sig .tc .smem S1x1x4x2304 .i32) (harg2 : arg2.IsWhole) (arg3 : Memref sig .tc .vmem S1x4x5x144x128 .i32) (harg3 : arg3.IsWhole) (arg4 : Memref sig .tc .vmem S1x4x5x144x128 .i32) (harg4 : arg4.IsWhole) (arg5 : Memref sig .tc .vmem S1x4x144x128 .f32) (harg5 : arg5.IsWhole) (arg6 : Memref sig .tc .vmem S128x128 .f32) (harg6 : arg6.IsWhole) (arg7 : Memref sig .tc .vmem S128x128 .f32) (harg7 : arg7.IsWhole) (arg8 : Memref sig .tc .hbm S24x2304x1920 .bf16) (harg8 : arg8.IsWhole) (arg9 : Memref sig .tc .vmem S1x2304x640 .bf16) (harg9 : arg9.IsWhole) (arg10 : Memref sig .tc .vmem S160x2432 .bf16) (harg10 : arg10.IsWhole) (arg11 : Memref sig .tc .vmem S2304x160 .bf16) (harg11 : arg11.IsWhole) (arg12 : Memref sig .tc .vmem S176x2432 .bf16) (harg12 : arg12.IsWhole) (arg13 : Memref sig .tc .vmem S8x2432 .f32) (harg13 : arg13.IsWhole) (arg14 : Memref sig .tc .vmem S4x2304x2x128 .bf16) (harg14 : arg14.IsWhole) (arg15 : Memref sig .tc .vmem S2304x2x128 .bf16) (harg15 : arg15.IsWhole)
  (x1 x2 : Vec Ideal S1x4x5x144x128 .i32) (x3 : Vec Ideal S1x4x144x128 .f32) (x4 x5 : Vec Ideal S128x128 .f32)
  (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty) (X7 : BufTy.Contents (Elt Ideal) arg7.view.ty)
  (h3 : arg3.view.read (Elt Ideal) X3 = x1) (h4 : arg4.view.read (Elt Ideal) X4 = x2) (h5 : arg5.view.read (Elt Ideal) X5 = x3)
  (h6 : arg6.view.read (Elt Ideal) X6 = x4) (h7 : arg7.view.read (Elt Ideal) X7 = x5)
  (X10 : BufTy.Contents (Elt Ideal) arg10.view.ty) (X11 : BufTy.Contents (Elt Ideal) arg11.view.ty) (X12 : BufTy.Contents (Elt Ideal) arg12.view.ty)
  (X13 : BufTy.Contents (Elt Ideal) arg13.view.ty) (X15 : BufTy.Contents (Elt Ideal) arg15.view.ty)
  (row : Fin 4 → Fin 2304 → Fin 2304) (hrow : ∀ g, Function.Injective (row g))

theorem offs0_inb : ∀ j k b, (![k0_off2, k0_off3, k0_off4, k0_off5, k0_off6] : Fin 5 → Fin k0_t1_loop.trips → Fin 5 → ℕ) j k b + S1x1x1x8x128.size b ≤ S1x4x5x144x128.size b := fun j k => by
  fin_cases j; exacts [k0_off2_inb k, k0_off3_inb k, k0_off4_inb k, k0_off5_inb k, k0_off6_inb k]
theorem offs0_eq : ∀ j k, (![k0_off2, k0_off3, k0_off4, k0_off5, k0_off6] : Fin 5 → Fin k0_t1_loop.trips → Fin 5 → ℕ) j k = ![0, 0, j.val, 8 * k.val, 0] := fun j k => by
  fin_cases j; exacts [k0_off2_eq k, k0_off3_eq k, k0_off4_eq k, k0_off5_eq k, k0_off6_eq k]

theorem keys0 (k : Fin k0_t1_loop.trips) : trip_k0_t1.sl.v208 (F := Ideal) arg3 arg5 X3 X5 k = keys (slabs arg3.view X3 _ offs0_inb k) (auxes arg5.view X5 _ k0_off1_inb k) :=
  keys_of (slabs arg3.view X3 _ offs0_inb k) (auxes arg5.view X5 _ k0_off1_inb k) _ _ _ _ _ rfl rfl rfl rfl rfl
theorem norms0 (k : Fin k0_t1_loop.trips) : k0_pay124 (trip_k0_t1.sl.v200 (F := Ideal) arg3 arg5 X3 X5 k) = norms (slabs arg3.view X3 _ offs0_inb k) (auxes arg5.view X5 _ k0_off1_inb k) :=
  congrArg k0_pay124 (squares_of (slabs arg3.view X3 _ offs0_inb k) (auxes arg5.view X5 _ k0_off1_inb k) _ _ _ _ _ rfl rfl rfl rfl rfl)
theorem vals0 (k : Fin k0_t1_loop.trips) : k0_pay123 (trip_k0_t1.sl.v123 (F := Ideal) arg4 arg5 X4 X5 k) (trip_k0_t1.sl.v144 arg4 arg5 X4 X5 k) (trip_k0_t1.sl.v165 arg4 arg5 X4 X5 k) (trip_k0_t1.sl.v186 arg4 arg5 X4 X5 k) (trip_k0_t1.sl.v207 arg4 arg5 X4 X5 k)
    = vals (slabs arg4.view X4 _ offs0_inb k) (auxes arg5.view X5 _ k0_off1_inb k) :=
  vals_of (slabs arg4.view X4 _ offs0_inb k) (auxes arg5.view X5 _ k0_off1_inb k) _ _ _ _ _ rfl rfl rfl rfl rfl

include h3 h4 h5 in
theorem loads0 : Loads x1 x2 x3 0 arg10.view arg11.view arg12.view arg13.view (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X3 X4 X5 k0_t1_loop.trips) :=
  ready x1 x2 x3 0 arg10.view arg11.view arg12.view arg13.view (by decide) (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X3 X4 X5)
    (slabs arg3.view X3 _ offs0_inb) (slabs arg4.view X4 _ offs0_inb) (auxes arg5.view X5 k0_off1 k0_off1_inb)
    k0_off7 k0_off8 k0_off9 k0_off10 k0_off11 k0_off7_inb k0_off8_inb k0_off9_inb k0_off10_inb k0_off11_inb
    k0_off7_eq k0_off8_eq k0_off9_eq k0_off10_eq k0_off11_eq
    (fun k => by
      have e : trip_k0_t1.sl.v212 (F := Ideal) arg3 arg5 X3 X5 k = trip_k0_t1.sl.v208 arg3 arg5 X3 X5 k := shapeCast_self (trip_k0_t1.sl.v208 (F := Ideal) arg3 arg5 X3 X5 k) _
      rw [pb_k0_t1_succ, ← keys0, ← norms0, ← vals0]
      unfold tripL_k0_t1 trip_k0_t1
      dsimp only
      rw [e]
      rfl)
    (slabs_at arg3.view X3 x1 h3 0 (by decide) _ offs0_inb offs0_eq) (slabs_at arg4.view X4 x2 h4 0 (by decide) _ offs0_inb offs0_eq)
    (auxes_at arg5.view X5 x3 h5 0 (by decide) _ _ k0_off1_eq)

theorem offs1_inb : ∀ j k b, (![k0_off22, k0_off23, k0_off24, k0_off25, k0_off26] : Fin 5 → Fin k0_t4_loop.trips → Fin 5 → ℕ) j k b + S1x1x1x8x128.size b ≤ S1x4x5x144x128.size b := fun j k => by
  fin_cases j; exacts [k0_off22_inb k, k0_off23_inb k, k0_off24_inb k, k0_off25_inb k, k0_off26_inb k]
theorem offs1_eq : ∀ j k, (![k0_off22, k0_off23, k0_off24, k0_off25, k0_off26] : Fin 5 → Fin k0_t4_loop.trips → Fin 5 → ℕ) j k = ![0, 1, j.val, 8 * k.val, 0] := fun j k => by
  fin_cases j; exacts [k0_off22_eq k, k0_off23_eq k, k0_off24_eq k, k0_off25_eq k, k0_off26_eq k]

theorem keys1 (k : Fin k0_t4_loop.trips) : trip_k0_t4.sl.v208 (F := Ideal) arg3 arg5 X3 X5 k = keys (slabs arg3.view X3 _ offs1_inb k) (auxes arg5.view X5 _ k0_off21_inb k) :=
  keys_of (slabs arg3.view X3 _ offs1_inb k) (auxes arg5.view X5 _ k0_off21_inb k) _ _ _ _ _ rfl rfl rfl rfl rfl
theorem norms1 (k : Fin k0_t4_loop.trips) : k0_pay134 (trip_k0_t4.sl.v200 (F := Ideal) arg3 arg5 X3 X5 k) = norms (slabs arg3.view X3 _ offs1_inb k) (auxes arg5.view X5 _ k0_off21_inb k) :=
  congrArg k0_pay134 (squares_of (slabs arg3.view X3 _ offs1_inb k) (auxes arg5.view X5 _ k0_off21_inb k) _ _ _ _ _ rfl rfl rfl rfl rfl)
theorem vals1 (k : Fin k0_t4_loop.trips) : k0_pay133 k0_pay121 (trip_k0_t4.sl.v123 (F := Ideal) arg4 arg5 X4 X5 k) (trip_k0_t4.sl.v144 arg4 arg5 X4 X5 k) (trip_k0_t4.sl.v165 arg4 arg5 X4 X5 k) (trip_k0_t4.sl.v186 arg4 arg5 X4 X5 k) (trip_k0_t4.sl.v207 arg4 arg5 X4 X5 k)
    = vals (slabs arg4.view X4 _ offs1_inb k) (auxes arg5.view X5 _ k0_off21_inb k) :=
  vals_of (slabs arg4.view X4 _ offs1_inb k) (auxes arg5.view X5 _ k0_off21_inb k) _ _ _ _ _ rfl rfl rfl rfl rfl

include h3 h4 h5 in
theorem loads1 : Loads x1 x2 x3 1 arg10.view arg11.view arg12.view arg13.view (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 X3 X4 X5 k0_t4_loop.trips) :=
  ready x1 x2 x3 1 arg10.view arg11.view arg12.view arg13.view (by decide) (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 X3 X4 X5)
    (slabs arg3.view X3 _ offs1_inb) (slabs arg4.view X4 _ offs1_inb) (auxes arg5.view X5 k0_off21 k0_off21_inb)
    k0_off27 k0_off28 k0_off29 k0_off30 k0_off31 k0_off27_inb k0_off28_inb k0_off29_inb k0_off30_inb k0_off31_inb
    k0_off27_eq k0_off28_eq k0_off29_eq k0_off30_eq k0_off31_eq
    (fun k => by
      have e : trip_k0_t4.sl.v212 (F := Ideal) arg3 arg5 X3 X5 k = trip_k0_t4.sl.v208 arg3 arg5 X3 X5 k := shapeCast_self (trip_k0_t4.sl.v208 (F := Ideal) arg3 arg5 X3 X5 k) _
      rw [pb_k0_t4_succ, ← keys1, ← norms1, ← vals1]
      unfold tripL_k0_t4 trip_k0_t4
      dsimp only
      rw [e]
      rfl)
    (slabs_at arg3.view X3 x1 h3 1 (by decide) _ offs1_inb offs1_eq) (slabs_at arg4.view X4 x2 h4 1 (by decide) _ offs1_inb offs1_eq)
    (auxes_at arg5.view X5 x3 h5 1 (by decide) _ _ k0_off21_eq)

theorem offs2_inb : ∀ j k b, (![k0_off42, k0_off43, k0_off44, k0_off45, k0_off46] : Fin 5 → Fin k0_t7_loop.trips → Fin 5 → ℕ) j k b + S1x1x1x8x128.size b ≤ S1x4x5x144x128.size b := fun j k => by
  fin_cases j; exacts [k0_off42_inb k, k0_off43_inb k, k0_off44_inb k, k0_off45_inb k, k0_off46_inb k]
theorem offs2_eq : ∀ j k, (![k0_off42, k0_off43, k0_off44, k0_off45, k0_off46] : Fin 5 → Fin k0_t7_loop.trips → Fin 5 → ℕ) j k = ![0, 2, j.val, 8 * k.val, 0] := fun j k => by
  fin_cases j; exacts [k0_off42_eq k, k0_off43_eq k, k0_off44_eq k, k0_off45_eq k, k0_off46_eq k]

theorem keys2 (k : Fin k0_t7_loop.trips) : trip_k0_t7.sl.v208 (F := Ideal) arg3 arg5 X3 X5 k = keys (slabs arg3.view X3 _ offs2_inb k) (auxes arg5.view X5 _ k0_off41_inb k) :=
  keys_of (slabs arg3.view X3 _ offs2_inb k) (auxes arg5.view X5 _ k0_off41_inb k) _ _ _ _ _ rfl rfl rfl rfl rfl
theorem norms2 (k : Fin k0_t7_loop.trips) : k0_pay146 (trip_k0_t7.sl.v200 (F := Ideal) arg3 arg5 X3 X5 k) = norms (slabs arg3.view X3 _ offs2_inb k) (auxes arg5.view X5 _ k0_off41_inb k) :=
  congrArg k0_pay146 (squares_of (slabs arg3.view X3 _ offs2_inb k) (auxes arg5.view X5 _ k0_off41_inb k) _ _ _ _ _ rfl rfl rfl rfl rfl)
theorem vals2 (k : Fin k0_t7_loop.trips) : k0_pay145 k0_pay121 (trip_k0_t7.sl.v123 (F := Ideal) arg4 arg5 X4 X5 k) (trip_k0_t7.sl.v144 arg4 arg5 X4 X5 k) (trip_k0_t7.sl.v165 arg4 arg5 X4 X5 k) (trip_k0_t7.sl.v186 arg4 arg5 X4 X5 k) (trip_k0_t7.sl.v207 arg4 arg5 X4 X5 k)
    = vals (slabs arg4.view X4 _ offs2_inb k) (auxes arg5.view X5 _ k0_off41_inb k) :=
  vals_of (slabs arg4.view X4 _ offs2_inb k) (auxes arg5.view X5 _ k0_off41_inb k) _ _ _ _ _ rfl rfl rfl rfl rfl

include h3 h4 h5 in
theorem loads2 (c0 c1 : BitVec 32) : Loads x1 x2 x3 2 arg10.view arg11.view arg12.view arg13.view (pb_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 c0 c1 X3 X4 X5 k0_t7_loop.trips) :=
  ready x1 x2 x3 2 arg10.view arg11.view arg12.view arg13.view (by decide) (pb_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 c0 c1 X3 X4 X5)
    (slabs arg3.view X3 _ offs2_inb) (slabs arg4.view X4 _ offs2_inb) (auxes arg5.view X5 k0_off41 k0_off41_inb)
    k0_off47 k0_off48 k0_off49 k0_off50 k0_off51 k0_off47_inb k0_off48_inb k0_off49_inb k0_off50_inb k0_off51_inb
    k0_off47_eq k0_off48_eq k0_off49_eq k0_off50_eq k0_off51_eq
    (fun k => by
      have e : trip_k0_t7.sl.v212 (F := Ideal) arg3 arg5 X3 X5 k = trip_k0_t7.sl.v208 arg3 arg5 X3 X5 k := shapeCast_self (trip_k0_t7.sl.v208 (F := Ideal) arg3 arg5 X3 X5 k) _
      rw [pb_k0_t7_succ, ← keys2, ← norms2, ← vals2]
      unfold tripL_k0_t7 trip_k0_t7
      dsimp only
      rw [e]
      rfl)
    (slabs_at arg3.view X3 x1 h3 2 (by decide) _ offs2_inb offs2_eq) (slabs_at arg4.view X4 x2 h4 2 (by decide) _ offs2_inb offs2_eq)
    (auxes_at arg5.view X5 x3 h5 2 (by decide) _ _ k0_off41_eq)

theorem offs3_inb : ∀ j k b, (![k0_off62, k0_off63, k0_off64, k0_off65, k0_off66] : Fin 5 → Fin k0_t10_loop.trips → Fin 5 → ℕ) j k b + S1x1x1x8x128.size b ≤ S1x4x5x144x128.size b := fun j k => by
  fin_cases j; exacts [k0_off62_inb k, k0_off63_inb k, k0_off64_inb k, k0_off65_inb k, k0_off66_inb k]
theorem offs3_eq : ∀ j k, (![k0_off62, k0_off63, k0_off64, k0_off65, k0_off66] : Fin 5 → Fin k0_t10_loop.trips → Fin 5 → ℕ) j k = ![0, 3, j.val, 8 * k.val, 0] := fun j k => by
  fin_cases j; exacts [k0_off62_eq k, k0_off63_eq k, k0_off64_eq k, k0_off65_eq k, k0_off66_eq k]

theorem keys3 (k : Fin k0_t10_loop.trips) : trip_k0_t10.sl.v208 (F := Ideal) arg3 arg5 X3 X5 k = keys (slabs arg3.view X3 _ offs3_inb k) (auxes arg5.view X5 _ k0_off61_inb k) :=
  keys_of (slabs arg3.view X3 _ offs3_inb k) (auxes arg5.view X5 _ k0_off61_inb k) _ _ _ _ _ rfl rfl rfl rfl rfl
theorem norms3 (k : Fin k0_t10_loop.trips) : k0_pay158 (trip_k0_t10.sl.v200 (F := Ideal) arg3 arg5 X3 X5 k) = norms (slabs arg3.view X3 _ offs3_inb k) (auxes arg5.view X5 _ k0_off61_inb k) :=
  congrArg k0_pay158 (squares_of (slabs arg3.view X3 _ offs3_inb k) (auxes arg5.view X5 _ k0_off61_inb k) _ _ _ _ _ rfl rfl rfl rfl rfl)
theorem vals3 (k : Fin k0_t10_loop.trips) : k0_pay157 k0_pay121 (trip_k0_t10.sl.v123 (F := Ideal) arg4 arg5 X4 X5 k) (trip_k0_t10.sl.v144 arg4 arg5 X4 X5 k) (trip_k0_t10.sl.v165 arg4 arg5 X4 X5 k) (trip_k0_t10.sl.v186 arg4 arg5 X4 X5 k) (trip_k0_t10.sl.v207 arg4 arg5 X4 X5 k)
    = vals (slabs arg4.view X4 _ offs3_inb k) (auxes arg5.view X5 _ k0_off61_inb k) :=
  vals_of (slabs arg4.view X4 _ offs3_inb k) (auxes arg5.view X5 _ k0_off61_inb k) _ _ _ _ _ rfl rfl rfl rfl rfl

include h3 h4 h5 in
theorem loads3 : Loads x1 x2 x3 3 arg10.view arg11.view arg12.view arg13.view (pb_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 X3 X4 X5 k0_t10_loop.trips) :=
  ready x1 x2 x3 3 arg10.view arg11.view arg12.view arg13.view (by decide) (pb_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 X3 X4 X5)
    (slabs arg3.view X3 _ offs3_inb) (slabs arg4.view X4 _ offs3_inb) (auxes arg5.view X5 k0_off61 k0_off61_inb)
    k0_off67 k0_off68 k0_off69 k0_off70 k0_off71 k0_off67_inb k0_off68_inb k0_off69_inb k0_off70_inb k0_off71_inb
    k0_off67_eq k0_off68_eq k0_off69_eq k0_off70_eq k0_off71_eq
    (fun k => by
      have e : trip_k0_t10.sl.v212 (F := Ideal) arg3 arg5 X3 X5 k = trip_k0_t10.sl.v208 arg3 arg5 X3 X5 k := shapeCast_self (trip_k0_t10.sl.v208 (F := Ideal) arg3 arg5 X3 X5 k) _
      rw [pb_k0_t10_succ, ← keys3, ← norms3, ← vals3]
      unfold tripL_k0_t10 trip_k0_t10
      dsimp only
      rw [e]
      rfl)
    (slabs_at arg3.view X3 x1 h3 3 (by decide) _ offs3_inb offs3_eq) (slabs_at arg4.view X4 x2 h4 3 (by decide) _ offs3_inb offs3_eq)
    (auxes_at arg5.view X5 x3 h5 3 (by decide) _ _ k0_off61_eq)

theorem tile0 (k : Fin k0_t2_loop.trips) : trip_k0_t2.sl.v165 (F := Ideal) arg6 arg7 arg10 arg11 arg12 arg13 X6 X7 X10 X11 X12 X13 k
    = tileOut (arg11.view.readAt (Elt Ideal) (Rect.unit (s := S2304x160) (k0_off12 k) S128x160.size (k0_off12_inb k)).toLoadRect X11)
      (arg10.view.readAt (Elt Ideal) (Rect.unit (s := S160x2432) (k0_off13 k) S160x256.size (k0_off13_inb k)).toLoadRect X10)
      (arg12.view.readAt (Elt Ideal) (Rect.unit (s := S176x2432) (k0_off16 k) S176x256.size (k0_off16_inb k)).toLoadRect X12)
      (arg13.view.readAt (Elt Ideal) (Rect.unit (s := S8x2432) (k0_off14 k) S2x128.size (k0_off14_inb k)).toLoadRect X13)
      (arg13.view.readAt (Elt Ideal) (Rect.unit (s := S8x2432) (k0_off15 k) S2x128.size (k0_off15_inb k)).toLoadRect X13)
      (arg6.view.readAt (Elt Ideal) (Rect.unit (s := S128x128) ![0, 0] S64x128.size inb_S128x128_S64x128_0_0).toLoadRect X6)
      (arg6.view.readAt (Elt Ideal) (Rect.unit (s := S128x128) ![64, 0] S64x128.size inb_S128x128_S64x128_64_0).toLoadRect X6)
      (arg7.view.readAt (Elt Ideal) (Rect.unit (s := S128x128) ![0, 0] S64x128.size inb_S128x128_S64x128_0_0).toLoadRect X7)
      (arg7.view.readAt (Elt Ideal) (Rect.unit (s := S128x128) ![64, 0] S64x128.size inb_S128x128_S64x128_64_0).toLoadRect X7) := rfl

include h6 h7 in
theorem scores0 (hR : Ready x1 x2 x3 0 arg10.view arg11.view arg12.view arg13.view X10 X11 X12 X13) (f P A)
    (hA : A = pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X6 X7 X10 X11 X12 X13 k0_t2_loop.trips ++ P) :
    Scored x1 x2 x3 0 x4 x5 arg15.view (arg15.view.writes (Elt Ideal) f A) :=
  scores x1 x2 x3 x4 x5 0 arg10.view arg11.view arg12.view arg13.view (by decide) arg6.view arg7.view arg15.view X6 X7 h6 h7 hR
    (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X6 X7 X10 X11 X12 X13) word0 (fun o n u l r hr => word0_at o n u l r (hr.trans (Nat.zero_add _)))
    k0_off12 k0_off13 k0_off14 k0_off15 k0_off16 k0_off17 k0_off12_inb k0_off13_inb k0_off14_inb k0_off15_inb k0_off16_inb k0_off17_inb
    k0_off12_eq k0_off13_eq k0_off14_eq k0_off15_eq k0_off16_eq k0_off17_eq inb_S128x128_S64x128_0_0 inb_S128x128_S64x128_64_0
    (fun k => by
      rw [pb_k0_t2_succ, ← tile0]
      unfold tripL_k0_t2 trip_k0_t2
      rfl) f P A hA

include hrow in
theorem scatters0 (hw) (hx2 : ∀ k : Fin 2304, (arg2.view.read (Elt Ideal) X2 (ix4 0 0 0 k)).toNat = (row 0 k).val)
    (h15 : Scored x1 x2 x3 0 x4 x5 arg15.view X15) (f P A)
    (hA : A = pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 X2 X15 hw k0_t3_loop.trips ++ P)
    (hf : Placed x1 x2 x3 x4 x5 arg14.view row (arg14.view.writes (Elt Ideal) f P) 0) :
    Placed x1 x2 x3 x4 x5 arg14.view row (arg14.view.writes (Elt Ideal) f A) 1 :=
  scatters x1 x2 x3 x4 x5 0 (by decide) arg14.view arg15.view row hrow h15
    (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 X2 X15 hw)
    k0_off18 (fun k => k0_off20 (trip_k0_t3.sl.r (F := Ideal) arg2 X2 k)) k0_off18_inb (fun k => hw k.val k.isLt) k0_off18_eq
    (fun k => by
      have e : trip_k0_t3.sl.r (F := Ideal) arg2 X2 k = arg2.view.read (Elt Ideal) X2 (ix4 0 0 0 (Fin.cast (by decide) k)) :=
        (congrArg _ first_eq).trans (readAt4 arg2.view X2 (k0_off19_inb k) (k0_off19_eq k) 0 0 0 0 0 0 0 (Fin.cast (by decide) k) rfl rfl rfl rfl)
      rw [e]
      unfold k0_off20
      simp only [Scalar.indexCast]
      rw [← hx2]
      simp) rfl
    (fun k => by
      rw [pb_k0_t3_succ]
      unfold tripL_k0_t3 trip_k0_t3
      rfl) f P A hA hf

theorem tile1 (k : Fin k0_t5_loop.trips) : trip_k0_t5.sl.v165 (F := Ideal) arg6 arg7 arg10 arg11 arg12 arg13 k0_pay119 k0_pay120 X6 X7 X10 X11 X12 X13 k
    = tileOut (arg11.view.readAt (Elt Ideal) (Rect.unit (s := S2304x160) (k0_off32 k) S128x160.size (k0_off32_inb k)).toLoadRect X11)
      (arg10.view.readAt (Elt Ideal) (Rect.unit (s := S160x2432) (k0_off33 k) S160x256.size (k0_off33_inb k)).toLoadRect X10)
      (arg12.view.readAt (Elt Ideal) (Rect.unit (s := S176x2432) (k0_off36 k) S176x256.size (k0_off36_inb k)).toLoadRect X12)
      (arg13.view.readAt (Elt Ideal) (Rect.unit (s := S8x2432) (k0_off34 k) S2x128.size (k0_off34_inb k)).toLoadRect X13)
      (arg13.view.readAt (Elt Ideal) (Rect.unit (s := S8x2432) (k0_off35 k) S2x128.size (k0_off35_inb k)).toLoadRect X13)
      (arg6.view.readAt (Elt Ideal) (Rect.unit (s := S128x128) ![0, 0] S64x128.size inb_S128x128_S64x128_0_0).toLoadRect X6)
      (arg6.view.readAt (Elt Ideal) (Rect.unit (s := S128x128) ![64, 0] S64x128.size inb_S128x128_S64x128_64_0).toLoadRect X6)
      (arg7.view.readAt (Elt Ideal) (Rect.unit (s := S128x128) ![0, 0] S64x128.size inb_S128x128_S64x128_0_0).toLoadRect X7)
      (arg7.view.readAt (Elt Ideal) (Rect.unit (s := S128x128) ![64, 0] S64x128.size inb_S128x128_S64x128_64_0).toLoadRect X7) := rfl

include h6 h7 in
theorem scores1 (hR : Ready x1 x2 x3 1 arg10.view arg11.view arg12.view arg13.view X10 X11 X12 X13) (f P A)
    (hA : A = pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 X6 X7 X10 X11 X12 X13 k0_t5_loop.trips ++ P) :
    Scored x1 x2 x3 1 x4 x5 arg15.view (arg15.view.writes (Elt Ideal) f A) :=
  scores x1 x2 x3 x4 x5 1 arg10.view arg11.view arg12.view arg13.view (by decide) arg6.view arg7.view arg15.view X6 X7 h6 h7 hR
    (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 X6 X7 X10 X11 X12 X13) word1 (fun o n u l r hr => word1_at o n u l r hr)
    k0_off32 k0_off33 k0_off34 k0_off35 k0_off36 k0_off37 k0_off32_inb k0_off33_inb k0_off34_inb k0_off35_inb k0_off36_inb k0_off37_inb
    k0_off32_eq k0_off33_eq k0_off34_eq k0_off35_eq k0_off36_eq k0_off37_eq inb_S128x128_S64x128_0_0 inb_S128x128_S64x128_64_0
    (fun k => by
      rw [pb_k0_t5_succ, ← tile1]
      unfold tripL_k0_t5 trip_k0_t5
      rfl) f P A hA

include hrow in
theorem scatters1 (c0 c1 : BitVec 32) (hw) (hx2 : ∀ k : Fin 2304, (arg2.view.read (Elt Ideal) X2 (ix4 0 0 1 k)).toNat = (row 1 k).val)
    (h15 : Scored x1 x2 x3 1 x4 x5 arg15.view X15) (f P A)
    (hA : A = pb_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 c0 c1 X2 X15 hw k0_t6_loop.trips ++ P)
    (hf : Placed x1 x2 x3 x4 x5 arg14.view row (arg14.view.writes (Elt Ideal) f P) 1) :
    Placed x1 x2 x3 x4 x5 arg14.view row (arg14.view.writes (Elt Ideal) f A) 2 :=
  scatters x1 x2 x3 x4 x5 1 (by decide) arg14.view arg15.view row hrow h15
    (pb_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 c0 c1 X2 X15 hw)
    k0_off38 (fun k => k0_off40 (trip_k0_t6.sl.r (F := Ideal) arg2 X2 k)) k0_off38_inb (fun k => hw k.val k.isLt) k0_off38_eq
    (fun k => by
      have e : trip_k0_t6.sl.r (F := Ideal) arg2 X2 k = arg2.view.read (Elt Ideal) X2 (ix4 0 0 1 (Fin.cast (by decide) k)) :=
        (congrArg _ first_eq).trans (readAt4 arg2.view X2 (k0_off39_inb k) (k0_off39_eq k) 0 0 0 0 0 0 1 (Fin.cast (by decide) k) rfl rfl rfl rfl)
      rw [e]
      unfold k0_off40
      simp only [Scalar.indexCast]
      rw [← hx2]
      simp) rfl
    (fun k => by
      rw [pb_k0_t6_succ]
      unfold tripL_k0_t6 trip_k0_t6
      rfl) f P A hA hf

theorem tile2 (k : Fin k0_t8_loop.trips) : trip_k0_t8.sl.v165 (F := Ideal) arg6 arg7 arg10 arg11 arg12 arg13 k0_pay119 k0_pay120 X6 X7 X10 X11 X12 X13 k
    = tileOut (arg11.view.readAt (Elt Ideal) (Rect.unit (s := S2304x160) (k0_off52 k) S128x160.size (k0_off52_inb k)).toLoadRect X11)
      (arg10.view.readAt (Elt Ideal) (Rect.unit (s := S160x2432) (k0_off53 k) S160x256.size (k0_off53_inb k)).toLoadRect X10)
      (arg12.view.readAt (Elt Ideal) (Rect.unit (s := S176x2432) (k0_off56 k) S176x256.size (k0_off56_inb k)).toLoadRect X12)
      (arg13.view.readAt (Elt Ideal) (Rect.unit (s := S8x2432) (k0_off54 k) S2x128.size (k0_off54_inb k)).toLoadRect X13)
      (arg13.view.readAt (Elt Ideal) (Rect.unit (s := S8x2432) (k0_off55 k) S2x128.size (k0_off55_inb k)).toLoadRect X13)
      (arg6.view.readAt (Elt Ideal) (Rect.unit (s := S128x128) ![0, 0] S64x128.size inb_S128x128_S64x128_0_0).toLoadRect X6)
      (arg6.view.readAt (Elt Ideal) (Rect.unit (s := S128x128) ![64, 0] S64x128.size inb_S128x128_S64x128_64_0).toLoadRect X6)
      (arg7.view.readAt (Elt Ideal) (Rect.unit (s := S128x128) ![0, 0] S64x128.size inb_S128x128_S64x128_0_0).toLoadRect X7)
      (arg7.view.readAt (Elt Ideal) (Rect.unit (s := S128x128) ![64, 0] S64x128.size inb_S128x128_S64x128_64_0).toLoadRect X7) := rfl

include h6 h7 in
theorem scores2 (c0 c1 : BitVec 32) (hR : Ready x1 x2 x3 2 arg10.view arg11.view arg12.view arg13.view X10 X11 X12 X13) (f P A)
    (hA : A = pb_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 c0 c1 X6 X7 X10 X11 X12 X13 k0_t8_loop.trips ++ P) :
    Scored x1 x2 x3 2 x4 x5 arg15.view (arg15.view.writes (Elt Ideal) f A) :=
  scores x1 x2 x3 x4 x5 2 arg10.view arg11.view arg12.view arg13.view (by decide) arg6.view arg7.view arg15.view X6 X7 h6 h7 hR
    (pb_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 c0 c1 X6 X7 X10 X11 X12 X13) word2 (fun o n u l r hr => word2_at o n u l r hr)
    k0_off52 k0_off53 k0_off54 k0_off55 k0_off56 k0_off57 k0_off52_inb k0_off53_inb k0_off54_inb k0_off55_inb k0_off56_inb k0_off57_inb
    k0_off52_eq k0_off53_eq k0_off54_eq k0_off55_eq k0_off56_eq k0_off57_eq inb_S128x128_S64x128_0_0 inb_S128x128_S64x128_64_0
    (fun k => by
      rw [pb_k0_t8_succ, ← tile2]
      unfold tripL_k0_t8 trip_k0_t8
      rfl) f P A hA

include hrow in
theorem scatters2 (c0 c1 : BitVec 32) (hw) (hx2 : ∀ k : Fin 2304, (arg2.view.read (Elt Ideal) X2 (ix4 0 0 2 k)).toNat = (row 2 k).val)
    (h15 : Scored x1 x2 x3 2 x4 x5 arg15.view X15) (f P A)
    (hA : A = pb_k0_t9 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 c0 c1 X2 X15 hw k0_t9_loop.trips ++ P)
    (hf : Placed x1 x2 x3 x4 x5 arg14.view row (arg14.view.writes (Elt Ideal) f P) 2) :
    Placed x1 x2 x3 x4 x5 arg14.view row (arg14.view.writes (Elt Ideal) f A) 3 :=
  scatters x1 x2 x3 x4 x5 2 (by decide) arg14.view arg15.view row hrow h15
    (pb_k0_t9 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 c0 c1 X2 X15 hw)
    k0_off58 (fun k => k0_off60 (trip_k0_t9.sl.r (F := Ideal) arg2 X2 k)) k0_off58_inb (fun k => hw k.val k.isLt) k0_off58_eq
    (fun k => by
      have e : trip_k0_t9.sl.r (F := Ideal) arg2 X2 k = arg2.view.read (Elt Ideal) X2 (ix4 0 0 2 (Fin.cast (by decide) k)) :=
        (congrArg _ first_eq).trans (readAt4 arg2.view X2 (k0_off59_inb k) (k0_off59_eq k) 0 0 0 0 0 0 2 (Fin.cast (by decide) k) rfl rfl rfl rfl)
      rw [e]
      unfold k0_off60
      simp only [Scalar.indexCast]
      rw [← hx2]
      simp) rfl
    (fun k => by
      rw [pb_k0_t9_succ]
      unfold tripL_k0_t9 trip_k0_t9
      rfl) f P A hA hf

theorem tile3 (k : Fin k0_t11_loop.trips) : trip_k0_t11.sl.v165 (F := Ideal) arg6 arg7 arg10 arg11 arg12 arg13 k0_pay119 k0_pay120 X6 X7 X10 X11 X12 X13 k
    = tileOut (arg11.view.readAt (Elt Ideal) (Rect.unit (s := S2304x160) (k0_off72 k) S128x160.size (k0_off72_inb k)).toLoadRect X11)
      (arg10.view.readAt (Elt Ideal) (Rect.unit (s := S160x2432) (k0_off73 k) S160x256.size (k0_off73_inb k)).toLoadRect X10)
      (arg12.view.readAt (Elt Ideal) (Rect.unit (s := S176x2432) (k0_off76 k) S176x256.size (k0_off76_inb k)).toLoadRect X12)
      (arg13.view.readAt (Elt Ideal) (Rect.unit (s := S8x2432) (k0_off74 k) S2x128.size (k0_off74_inb k)).toLoadRect X13)
      (arg13.view.readAt (Elt Ideal) (Rect.unit (s := S8x2432) (k0_off75 k) S2x128.size (k0_off75_inb k)).toLoadRect X13)
      (arg6.view.readAt (Elt Ideal) (Rect.unit (s := S128x128) ![0, 0] S64x128.size inb_S128x128_S64x128_0_0).toLoadRect X6)
      (arg6.view.readAt (Elt Ideal) (Rect.unit (s := S128x128) ![64, 0] S64x128.size inb_S128x128_S64x128_64_0).toLoadRect X6)
      (arg7.view.readAt (Elt Ideal) (Rect.unit (s := S128x128) ![0, 0] S64x128.size inb_S128x128_S64x128_0_0).toLoadRect X7)
      (arg7.view.readAt (Elt Ideal) (Rect.unit (s := S128x128) ![64, 0] S64x128.size inb_S128x128_S64x128_64_0).toLoadRect X7) := rfl

include h6 h7 in
theorem scores3 (hR : Ready x1 x2 x3 3 arg10.view arg11.view arg12.view arg13.view X10 X11 X12 X13) (f P A)
    (hA : A = pb_k0_t11 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 X6 X7 X10 X11 X12 X13 k0_t11_loop.trips ++ P) :
    Scored x1 x2 x3 3 x4 x5 arg15.view (arg15.view.writes (Elt Ideal) f A) :=
  scores x1 x2 x3 x4 x5 3 arg10.view arg11.view arg12.view arg13.view (by decide) arg6.view arg7.view arg15.view X6 X7 h6 h7 hR
    (pb_k0_t11 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 X6 X7 X10 X11 X12 X13) word3 (fun o n u l r hr => word3_at o n u l r hr)
    k0_off72 k0_off73 k0_off74 k0_off75 k0_off76 k0_off77 k0_off72_inb k0_off73_inb k0_off74_inb k0_off75_inb k0_off76_inb k0_off77_inb
    k0_off72_eq k0_off73_eq k0_off74_eq k0_off75_eq k0_off76_eq k0_off77_eq inb_S128x128_S64x128_0_0 inb_S128x128_S64x128_64_0
    (fun k => by
      rw [pb_k0_t11_succ, ← tile3]
      unfold tripL_k0_t11 trip_k0_t11
      rfl) f P A hA

include hrow in
theorem scatters3 (hw) (hx2 : ∀ k : Fin 2304, (arg2.view.read (Elt Ideal) X2 (ix4 0 0 3 k)).toNat = (row 3 k).val)
    (h15 : Scored x1 x2 x3 3 x4 x5 arg15.view X15) (f P A)
    (hA : A = pb_k0_t12 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 X2 X15 hw k0_t12_loop.trips ++ P)
    (hf : Placed x1 x2 x3 x4 x5 arg14.view row (arg14.view.writes (Elt Ideal) f P) 3) :
    Placed x1 x2 x3 x4 x5 arg14.view row (arg14.view.writes (Elt Ideal) f A) 4 :=
  scatters x1 x2 x3 x4 x5 3 (by decide) arg14.view arg15.view row hrow h15
    (pb_k0_t12 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 X2 X15 hw)
    k0_off78 (fun k => k0_off80 (trip_k0_t12.sl.r (F := Ideal) arg2 X2 k)) k0_off78_inb (fun k => hw k.val k.isLt) k0_off78_eq
    (fun k => by
      have e : trip_k0_t12.sl.r (F := Ideal) arg2 X2 k = arg2.view.read (Elt Ideal) X2 (ix4 0 0 3 (Fin.cast (by decide) k)) :=
        (congrArg _ first_eq).trans (readAt4 arg2.view X2 (k0_off79_inb k) (k0_off79_eq k) 0 0 0 0 0 0 3 (Fin.cast (by decide) k) rfl rfl rfl rfl)
      rw [e]
      unfold k0_off80
      simp only [Scalar.indexCast]
      rw [← hx2]
      simp) rfl
    (fun k => by
      rw [pb_k0_t12_succ]
      unfold tripL_k0_t12 trip_k0_t12
      rfl) f P A hA hf

end Heads
end Cert.KernelIdeal.Head
-- ==== Proof.Merge.lean ====
/- The merge of the four heads' rows: head `g`'s channels lie from column `160 g`, so a 128-lane block of the result holds
   the end of one head's words and the start of the next one's. -/
module
public import proofs.«01_k».proof.Proof.Heads
@[expose] public section
set_option maxRecDepth 16384
noncomputable section
namespace Cert.KernelIdeal.Head
open Cert.KernelIdeal Cert.KernelIdeal.Gen Cert.KernelIdeal.Ops Cert.KernelIdeal.Fill
open Idealize.ShloMosaic Idealize.ShloMosaic.TcCoe

/-- One half of the words of eight rows. -/
def half (p : Fin 2) (x : Vec Ideal S1x8x2x128 .bf16) : FVec Ideal S8x128 .bf16 :=
  shapeCast S8x128 (shapeCast S1x8x128 (rowsOfParity p S1x8x1x128 x bitcasts_S1x8x2x128_w16_S1x8x1x128_w32) shapeCasts_S1x8x1x128_S1x8x128) shapeCasts_S1x8x128_S8x128

theorem half_at (p : Fin 2) (x : Vec Ideal S1x8x2x128 .bf16) (q : Fin 8) (l : Fin 128) : half p x (ix2 q l) = x (ix4 0 q p l) := by
  fin_cases p <;> pointwise [half] <;> rfl

/-- The first `n` lanes of one, the rest of the other. -/
def upTo (n : BitVec 32) (a b : FVec Ideal S8x128 .bf16) : FVec Ideal S8x128 .bf16 :=
  select (cmpi .slt (iota .tc S8x128 32 [1] iota_S8x128_d1_w32) (broadcast S8x128 n)) a b

theorem upTo_at (n : ℕ) (hn : n < 129) (a b : FVec Ideal S8x128 .bf16) (q : Fin 8) (l : Fin 128) :
    upTo (BitVec.ofNat 32 n) a b (ix2 q l) = if l.val < n then a (ix2 q l) else b (ix2 q l) := by
  have : (BitVec.ofNat 32 l.val).slt (BitVec.ofNat 32 n) = decide (l.val < n) := by
    rw [BitVec.slt_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    exact decide_eq_decide.mpr (by omega)
  pointwise [upTo]
  by_cases h : l.val < n <;> simp [Scalar.select, IntOp.cmpi, this, h]

/-- Sixteen rows, of eight even and eight odd ones. -/
def rows16 (a b : FVec Ideal S8x128 .bf16) : FVec Ideal S1x16x128 .bf16 :=
  shapeCast S1x16x128 (interleaveRows S16x128 a b bitcasts_S16x128_w16_S8x128_w32) shapeCasts_S16x128_S1x16x128

theorem rows16_at (a b : FVec Ideal S8x128 .bf16) (n : Fin 16) (l : Fin 128) :
    rows16 a b (ix3 0 n l) = if n.val % 2 = 0 then a (ix2 ⟨n.val / 2, by omega⟩ l) else b (ix2 ⟨n.val / 2, by omega⟩ l) := by
  pointwise [rows16]

section Stores
variable {sig : RefSig} {κ : Kind} {sp : Space} {n : ℕ} (hn : n = 144) (v9 : View sig κ sp S1x2304x640 .bf16) (f : v9.ty.Contents (Elt Ideal))
  (L : ℕ → List (View.Piece (Elt Ideal) S1x2304x640 .bf16))
  (o0 o1 o2 o3 o4 : Fin n → Fin 3 → ℕ)
  (i0 : ∀ k b, o0 k b + S1x16x128.size b ≤ S1x2304x640.size b) (i1 : ∀ k b, o1 k b + S1x16x128.size b ≤ S1x2304x640.size b)
  (i2 : ∀ k b, o2 k b + S1x16x128.size b ≤ S1x2304x640.size b) (i3 : ∀ k b, o3 k b + S1x16x128.size b ≤ S1x2304x640.size b)
  (i4 : ∀ k b, o4 k b + S1x16x128.size b ≤ S1x2304x640.size b)
  (e0 : ∀ k, o0 k = ![0, 16 * k.val, 0]) (e1 : ∀ k, o1 k = ![0, 16 * k.val, 128]) (e2 : ∀ k, o2 k = ![0, 16 * k.val, 256])
  (e3 : ∀ k, o3 k = ![0, 16 * k.val, 384]) (e4 : ∀ k, o4 k = ![0, 16 * k.val, 512])
  (w0 w1 w2 w3 w4 : Fin n → Vec Ideal S1x16x128 .bf16)
  (hL : ∀ k : Fin n, L (k.val + 1) = [⟨Rect.unit (o4 k) S1x16x128.size (i4 k), w4 k⟩, ⟨Rect.unit (o3 k) S1x16x128.size (i3 k), w3 k⟩,
    ⟨Rect.unit (o2 k) S1x16x128.size (i2 k), w2 k⟩, ⟨Rect.unit (o1 k) S1x16x128.size (i1 k), w1 k⟩, ⟨Rect.unit (o0 k) S1x16x128.size (i0 k), w0 k⟩] ++ L k.val)

include e0 e1 e2 e3 e4 hL hn in
theorem blocks_read (G : EReal) (p : Fin 2304) (j : Fin 5) (l : Fin 128) (c : Fin 640) (hc : c.val = 128 * j.val + l.val)
    (hG : (![w0, w1, w2, w3, w4] j) ⟨p.val / 16, by omega⟩ (ix3 0 ⟨p.val % 16, by omega⟩ l) = G) :
    v9.read (Elt Ideal) (v9.writes (Elt Ideal) f (L n)) (ix3 0 p c) = G := by
  subst hn
  refine read_loop v9 f L 144 _ (fun k => k = p.val / 16) G ?_ ?_ ⟨_, by omega, rfl⟩
  · rintro k hk rfl
    rw [hL ⟨_, hk⟩]
    have skip : ∀ (o : Fin 144 → Fin 3 → ℕ) (i) (jj : ℕ) (e : o ⟨p.val / 16, hk⟩ = ![0, 16 * (p.val / 16), 128 * jj]) (w : Vec Ideal S1x16x128 .bf16) (P), j.val < jj →
        v9.read (Elt Ideal) (v9.writes (Elt Ideal) f (⟨Rect.unit (o ⟨p.val / 16, hk⟩) S1x16x128.size i, w⟩ :: P)) (ix3 0 p c) = v9.read (Elt Ideal) (v9.writes (Elt Ideal) f P) (ix3 0 p c) := by
      intro o i jj e w P hj
      exact View.read_writes_cons_unit_of_not_mem v9 f i w P (ix3 0 p c) e (2 : Fin 3) (Or.inl (by show c.val < 128 * jj; omega))
    have take : ∀ (o : Fin 144 → Fin 3 → ℕ) (i) (e : o ⟨p.val / 16, hk⟩ = ![0, 16 * (p.val / 16), 128 * j.val]) (w : Vec Ideal S1x16x128 .bf16) (P),
        v9.read (Elt Ideal) (v9.writes (Elt Ideal) f (⟨Rect.unit (o ⟨p.val / 16, hk⟩) S1x16x128.size i, w⟩ :: P)) (ix3 0 p c) = w (ix3 0 ⟨p.val % 16, by omega⟩ l) := by
      intro o i e w P
      refine View.read_writes_cons_unit_of_mem v9 f i w P (ix3 0 p c) (ix3 0 ⟨p.val % 16, by omega⟩ l) e fun b => ?_
      match b with
      | ⟨0, _⟩ => rfl
      | ⟨1, _⟩ => show p.val = 16 * (p.val / 16) + p.val % 16; omega
      | ⟨2, _⟩ => exact hc
    rw [← hG]
    match j, skip, take with
    | 0, skip, take => exact (skip o4 (i4 _) 4 (e4 _) _ _ (by decide)).trans ((skip o3 (i3 _) 3 (e3 _) _ _ (by decide)).trans ((skip o2 (i2 _) 2 (e2 _) _ _ (by decide)).trans ((skip o1 (i1 _) 1 (e1 _) _ _ (by decide)).trans (take o0 (i0 _) (e0 _) _ _))))
    | 1, skip, take => exact (skip o4 (i4 _) 4 (e4 _) _ _ (by decide)).trans ((skip o3 (i3 _) 3 (e3 _) _ _ (by decide)).trans ((skip o2 (i2 _) 2 (e2 _) _ _ (by decide)).trans (take o1 (i1 _) (e1 _) _ _)))
    | 2, skip, take => exact (skip o4 (i4 _) 4 (e4 _) _ _ (by decide)).trans ((skip o3 (i3 _) 3 (e3 _) _ _ (by decide)).trans (take o2 (i2 _) (e2 _) _ _))
    | 3, skip, take => exact (skip o4 (i4 _) 4 (e4 _) _ _ (by decide)).trans (take o3 (i3 _) (e3 _) _ _)
    | 4, skip, take => exact take o4 (i4 _) (e4 _) _ _
  · intro k hk hne
    rw [hL ⟨k, hk⟩]
    have skip : ∀ (o : Fin 144 → Fin 3 → ℕ) (i) (jj : ℕ) (e : o ⟨k, hk⟩ = ![0, 16 * k, 128 * jj]) (w : Vec Ideal S1x16x128 .bf16) (P),
        v9.read (Elt Ideal) (v9.writes (Elt Ideal) f (⟨Rect.unit (o ⟨k, hk⟩) S1x16x128.size i, w⟩ :: P)) (ix3 0 p c) = v9.read (Elt Ideal) (v9.writes (Elt Ideal) f P) (ix3 0 p c) := by
      intro o i jj e w P
      exact View.read_writes_cons_unit_of_not_mem v9 f i w P (ix3 0 p c) e (1 : Fin 3) (by show p.val < 16 * k ∨ 16 * k + 16 ≤ p.val; omega)
    exact (skip o4 (i4 _) 4 (e4 _) _ _).trans ((skip o3 (i3 _) 3 (e3 _) _ _).trans ((skip o2 (i2 _) 2 (e2 _) _ _).trans ((skip o1 (i1 _) 1 (e1 _) _ _).trans (skip o0 (i0 _) 0 (e0 _) _ _))))

end Stores

section Loads
variable {sig : RefSig} {κ : Kind} {sp : Space} {n : ℕ} (v14 : View sig κ sp S4x2304x2x128 .bf16) (X : v14.ty.Contents (Elt Ideal))

/-- A load of every other row. -/
theorem strided_at {o : Fin 4 → ℕ} (i) {a b : ℕ} (e : o = ![a, b, 0, 0]) (q : Fin 8) (u : Fin 2) (l : Fin 128) (g : Fin 4) (p : Fin 2304) (hg : g.val = a) (hp : p.val = b + 2 * q.val) :
    v14.readAt (Elt Ideal) (⟨o, S1x8x2x128.size, ![1, 2, 1, 1], i⟩ : LoadRect S4x2304x2x128) X (ix4 0 q u l) = v14.read (Elt Ideal) X (ix4 g p u l) := by
  subst e
  rw [View.readAt_apply]
  congr 1
  funext c
  apply Fin.ext
  match c with
  | ⟨0, _⟩ => show a + 1 * 0 = g.val; omega
  | ⟨1, _⟩ => show b + 2 * q.val = p.val; omega
  | ⟨2, _⟩ => show 0 + 1 * u.val = u.val; omega
  | ⟨3, _⟩ => show 0 + 1 * l.val = l.val; omega

end Loads

section Merge
variable (𝒱 : Variants) (c : Dev nD) (bd : Option 𝒱.V) (i : grid0.Coords) (arg2 : Memref sig .tc .smem S1x1x4x2304 .i32) (harg2 : arg2.IsWhole) (arg3 : Memref sig .tc .vmem S1x4x5x144x128 .i32) (harg3 : arg3.IsWhole) (arg4 : Memref sig .tc .vmem S1x4x5x144x128 .i32) (harg4 : arg4.IsWhole) (arg5 : Memref sig .tc .vmem S1x4x144x128 .f32) (harg5 : arg5.IsWhole) (arg6 : Memref sig .tc .vmem S128x128 .f32) (harg6 : arg6.IsWhole) (arg7 : Memref sig .tc .vmem S128x128 .f32) (harg7 : arg7.IsWhole) (arg8 : Memref sig .tc .hbm S24x2304x1920 .bf16) (harg8 : arg8.IsWhole) (arg9 : Memref sig .tc .vmem S1x2304x640 .bf16) (harg9 : arg9.IsWhole) (arg10 : Memref sig .tc .vmem S160x2432 .bf16) (harg10 : arg10.IsWhole) (arg11 : Memref sig .tc .vmem S2304x160 .bf16) (harg11 : arg11.IsWhole) (arg12 : Memref sig .tc .vmem S176x2432 .bf16) (harg12 : arg12.IsWhole) (arg13 : Memref sig .tc .vmem S8x2432 .f32) (harg13 : arg13.IsWhole) (arg14 : Memref sig .tc .vmem S4x2304x2x128 .bf16) (harg14 : arg14.IsWhole) (arg15 : Memref sig .tc .vmem S2304x2x128 .bf16) (harg15 : arg15.IsWhole)
  (X14 : BufTy.Contents (Elt Ideal) arg14.view.ty)

/-- The rows of the even and of the odd positions of a trip's head. -/
def evenOdd (g : Fin 4) (k : Fin k0_t13_loop.trips) : Vec Ideal S1x8x2x128 .bf16 × Vec Ideal S1x8x2x128 .bf16 :=
  ![(arg14.view.readAt (Elt Ideal) ⟨k0_off81 k, S1x8x2x128.size, ![1, 2, 1, 1], k0_off81_inb k⟩ X14, arg14.view.readAt (Elt Ideal) ⟨k0_off85 k, S1x8x2x128.size, ![1, 2, 1, 1], k0_off85_inb k⟩ X14),
    (arg14.view.readAt (Elt Ideal) ⟨k0_off82 k, S1x8x2x128.size, ![1, 2, 1, 1], k0_off82_inb k⟩ X14, arg14.view.readAt (Elt Ideal) ⟨k0_off86 k, S1x8x2x128.size, ![1, 2, 1, 1], k0_off86_inb k⟩ X14),
    (arg14.view.readAt (Elt Ideal) ⟨k0_off83 k, S1x8x2x128.size, ![1, 2, 1, 1], k0_off83_inb k⟩ X14, arg14.view.readAt (Elt Ideal) ⟨k0_off87 k, S1x8x2x128.size, ![1, 2, 1, 1], k0_off87_inb k⟩ X14),
    (arg14.view.readAt (Elt Ideal) ⟨k0_off84 k, S1x8x2x128.size, ![1, 2, 1, 1], k0_off84_inb k⟩ X14, arg14.view.readAt (Elt Ideal) ⟨k0_off88 k, S1x8x2x128.size, ![1, 2, 1, 1], k0_off88_inb k⟩ X14)] g

theorem even_at (g : Fin 4) (k : Fin k0_t13_loop.trips) (q : Fin 8) (u : Fin 2) (l : Fin 128) (p : Fin 2304) (hp : p.val = 16 * k.val + 2 * q.val) :
    (evenOdd arg14 X14 g k).1 (ix4 0 q u l) = arg14.view.read (Elt Ideal) X14 (ix4 g p u l) := by
  match g with
  | 0 => exact strided_at arg14.view X14 _ (k0_off81_eq k) q u l 0 p rfl hp
  | 1 => exact strided_at arg14.view X14 _ (k0_off82_eq k) q u l 1 p rfl hp
  | 2 => exact strided_at arg14.view X14 _ (k0_off83_eq k) q u l 2 p rfl hp
  | 3 => exact strided_at arg14.view X14 _ (k0_off84_eq k) q u l 3 p rfl hp

theorem odd_at (g : Fin 4) (k : Fin k0_t13_loop.trips) (q : Fin 8) (u : Fin 2) (l : Fin 128) (p : Fin 2304) (hp : p.val = 16 * k.val + 1 + 2 * q.val) :
    (evenOdd arg14 X14 g k).2 (ix4 0 q u l) = arg14.view.read (Elt Ideal) X14 (ix4 g p u l) := by
  match g with
  | 0 => exact strided_at arg14.view X14 _ (k0_off85_eq k) q u l 0 p rfl hp
  | 1 => exact strided_at arg14.view X14 _ (k0_off86_eq k) q u l 1 p rfl hp
  | 2 => exact strided_at arg14.view X14 _ (k0_off87_eq k) q u l 2 p rfl hp
  | 3 => exact strided_at arg14.view X14 _ (k0_off88_eq k) q u l 3 p rfl hp

/-- A block's sixteen rows: the end of head `g`'s words and the start of head `g'`'s. -/
def joined (n : BitVec 32) (g g' : Fin 4) (k : Fin k0_t13_loop.trips) : FVec Ideal S1x16x128 .bf16 :=
  rows16 (upTo n (half 1 (evenOdd arg14 X14 g k).1) (half 0 (evenOdd arg14 X14 g' k).1)) (upTo n (half 1 (evenOdd arg14 X14 g k).2) (half 0 (evenOdd arg14 X14 g' k).2))

def only (u : Fin 2) (g : Fin 4) (k : Fin k0_t13_loop.trips) : FVec Ideal S1x16x128 .bf16 :=
  rows16 (half u (evenOdd arg14 X14 g k).1) (half u (evenOdd arg14 X14 g k).2)

theorem only_at (u : Fin 2) (g : Fin 4) (k : Fin k0_t13_loop.trips) (r : Fin 16) (l : Fin 128) (p : Fin 2304) (hp : p.val = 16 * k.val + r.val) :
    only arg14 X14 u g k (ix3 0 r l) = arg14.view.read (Elt Ideal) X14 (ix4 g p u l) := by
  rw [only, rows16_at, half_at, half_at]
  split
  · exact even_at arg14 X14 g k _ u l p (by simp only; omega)
  · exact odd_at arg14 X14 g k _ u l p (by simp only; omega)

theorem joined_at (n : ℕ) (hn : n < 129) (g g' : Fin 4) (k : Fin k0_t13_loop.trips) (r : Fin 16) (l : Fin 128) (p : Fin 2304) (hp : p.val = 16 * k.val + r.val) :
    joined arg14 X14 (BitVec.ofNat 32 n) g g' k (ix3 0 r l) = if l.val < n then arg14.view.read (Elt Ideal) X14 (ix4 g p 1 l) else arg14.view.read (Elt Ideal) X14 (ix4 g' p 0 l) := by
  rw [joined, rows16_at, upTo_at n hn, upTo_at n hn, half_at, half_at, half_at, half_at]
  split <;> split
  · exact even_at arg14 X14 g k _ 1 l p (by simp only; omega)
  · exact even_at arg14 X14 g' k _ 0 l p (by simp only; omega)
  · exact odd_at arg14 X14 g k _ 1 l p (by simp only; omega)
  · exact odd_at arg14 X14 g' k _ 0 l p (by simp only; omega)

theorem t13_trip (k : Fin k0_t13_loop.trips) : pb_k0_t13 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 0#32 1#32 X14 (k.val + 1)
    = [⟨Rect.unit (k0_off93 k) S1x16x128.size (k0_off93_inb k), only arg14 X14 1 3 k⟩, ⟨Rect.unit (k0_off92 k) S1x16x128.size (k0_off92_inb k), joined arg14 X14 96#32 2 3 k⟩,
      ⟨Rect.unit (k0_off91 k) S1x16x128.size (k0_off91_inb k), joined arg14 X14 64#32 1 2 k⟩, ⟨Rect.unit (k0_off90 k) S1x16x128.size (k0_off90_inb k), joined arg14 X14 32#32 0 1 k⟩,
      ⟨Rect.unit (k0_off89 k) S1x16x128.size (k0_off89_inb k), only arg14 X14 0 0 k⟩] ++ pb_k0_t13 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 0#32 1#32 X14 k.val := by
  rw [pb_k0_t13_succ]
  unfold tripL_k0_t13 trip_k0_t13
  rfl

/-- The result window after the merge: channel `d` of head `g` at position `p` is word half `u`, lane `l` of the head's row `p`. -/
theorem merged (f) (g : Fin 4) (p : Fin 2304) (d : Fin 160) (u : Fin 2) (l : Fin 128) (h : 128 * u.val + l.val = 32 * g.val + d.val) (c' : Fin 640) (hc : c'.val = 160 * g.val + d.val) :
    arg9.view.read (Elt Ideal) (arg9.view.writes (Elt Ideal) f (pb_k0_t13 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 0#32 1#32 X14 k0_t13_loop.trips)) (ix3 0 p c')
      = arg14.view.read (Elt Ideal) X14 (ix4 g p u l) := by
  have hu := u.isLt
  have hg := g.isLt
  refine blocks_read (by decide) arg9.view f _ k0_off89 k0_off90 k0_off91 k0_off92 k0_off93 k0_off89_inb k0_off90_inb k0_off91_inb k0_off92_inb k0_off93_inb
    k0_off89_eq k0_off90_eq k0_off91_eq k0_off92_eq k0_off93_eq _ _ _ _ _ (t13_trip 𝒱 c bd i arg2 harg2 arg3 harg3 arg4 harg4 arg5 harg5 arg6 harg6 arg7 harg7 arg8 harg8 arg9 harg9 arg10 harg10 arg11 harg11 arg12 harg12 arg13 harg13 arg14 harg14 arg15 harg15 X14) _ p ⟨g.val + u.val, by omega⟩ l c' (by simp only; omega) ?_
  have hp : p.val = 16 * (p.val / 16) + p.val % 16 := by omega
  match g, u, h with
  | 0, 0, h => exact only_at arg14 X14 0 0 _ _ l p hp
  | 0, 1, h => exact (joined_at arg14 X14 32 (by omega) 0 1 _ _ l p hp).trans (if_pos (by simp at h; omega))
  | 1, 0, h => exact (joined_at arg14 X14 32 (by omega) 0 1 _ _ l p hp).trans (if_neg (by simp at h; omega))
  | 1, 1, h => exact (joined_at arg14 X14 64 (by omega) 1 2 _ _ l p hp).trans (if_pos (by simp at h; omega))
  | 2, 0, h => exact (joined_at arg14 X14 64 (by omega) 1 2 _ _ l p hp).trans (if_neg (by simp at h; omega))
  | 2, 1, h => exact (joined_at arg14 X14 96 (by omega) 2 3 _ _ l p hp).trans (if_pos (by simp at h; omega))
  | 3, 0, h => exact (joined_at arg14 X14 96 (by omega) 2 3 _ _ l p hp).trans (if_neg (by simp at h; omega))
  | 3, 1, h => exact only_at arg14 X14 1 3 _ _ l p hp

end Merge
end Cert.KernelIdeal.Head
-- ==== Proof.KernelIdealValue.lean ====
/- The value of `KernelIdeal`'s body at one point: the window's block of the result, each head's results at the rows the
   words name. -/
module
public import proofs.«01_k».proof.Proof.Merge
public import proofs.«01_k».proof.Proof.KernelIdealRun
@[expose] public section
set_option maxRecDepth 16384
noncomputable section
namespace Cert.KernelIdeal.Value
open Cert.KernelIdeal Cert.KernelIdeal.Gen Cert.KernelIdeal.Run Cert.KernelIdeal.Head
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The column of channel `d` of a window's head `g`. -/
def column (g : Fin 4) (d : Fin 160) : Fin 640 := ⟨160 * g.val + d.val, by omega⟩

/-- A window is determined by each head's rows, when every row is named. -/
theorem eq_of_rows (row : Fin 4 → Fin 2304 → Fin 2304) (hrow : ∀ g, Function.Injective (row g))
    (x1 x2 : Vec Ideal S1x4x5x144x128 .i32) (x3 : Vec Ideal S1x4x144x128 .f32) (x4 x5 : Vec Ideal S128x128 .f32)
    (out : Vec Ideal S1x2304x640 .bf16) (hout : ∀ (g : Fin 4) (p : Fin 2304) (d : Fin 160), out (ix3 0 (row g p) (column g d)) = attend x1 x2 x3 x4 x5 g d p)
    (y : Vec Ideal S1x2304x640 .bf16) (hy : ∀ (g : Fin 4) (p : Fin 2304) (d : Fin 160) (u : Fin 2) (l : Fin 128), 128 * u.val + l.val = 32 * g.val + d.val →
      y (ix3 0 (row g p) (column g d)) = attend x1 x2 x3 x4 x5 g d p) : y = out := by
  funext i
  have h0 : (i 0).val < 1 := (i 0).isLt
  have h2 : (i 2).val < 640 := (i 2).isLt
  obtain ⟨p, hp⟩ := (Finite.injective_iff_surjective.mp (hrow ⟨(i 2).val / 160, by omega⟩)) (i 1)
  have hi : i = ix3 0 (row ⟨(i 2).val / 160, by omega⟩ p) (column ⟨(i 2).val / 160, by omega⟩ ⟨(i 2).val % 160, by omega⟩) := by
    rw [hp]
    funext a
    match a with
    | ⟨0, _⟩ => exact Fin.ext (by show (i 0).val = 0; omega)
    | ⟨1, _⟩ => rfl
    | ⟨2, _⟩ => exact Fin.ext (by show (i 2).val = 160 * ((i 2).val / 160) + (i 2).val % 160; omega)
  rw [hi, hout]
  exact hy _ p _ ⟨(32 * ((i 2).val / 160) + (i 2).val % 160) / 128, by omega⟩ ⟨(32 * ((i 2).val / 160) + (i 2).val % 160) % 128, by omega⟩ (by simp only; omega)

set_option maxHeartbeats 4000000 in
/-- The body's triple, the result window handed back at the heads' results. -/
theorem kernelRun (c : Dev nD) (i : grid0.Coords) (arg2 : Memref sig .tc .smem S1x1x4x2304 .i32) (harg2 : arg2.IsWhole) (arg3 : Memref sig .tc .vmem S1x4x5x144x128 .i32) (harg3 : arg3.IsWhole) (arg4 : Memref sig .tc .vmem S1x4x5x144x128 .i32) (harg4 : arg4.IsWhole) (arg5 : Memref sig .tc .vmem S1x4x144x128 .f32) (harg5 : arg5.IsWhole) (arg6 : Memref sig .tc .vmem S128x128 .f32) (harg6 : arg6.IsWhole) (arg7 : Memref sig .tc .vmem S128x128 .f32) (harg7 : arg7.IsWhole) (arg9 : Memref sig .tc .vmem S1x2304x640 .bf16) (harg9 : arg9.IsWhole) (arg10 : Memref sig .tc .vmem S160x2432 .bf16) (harg10 : arg10.IsWhole) (arg11 : Memref sig .tc .vmem S2304x160 .bf16) (harg11 : arg11.IsWhole) (arg12 : Memref sig .tc .vmem S176x2432 .bf16) (harg12 : arg12.IsWhole) (arg13 : Memref sig .tc .vmem S8x2432 .f32) (harg13 : arg13.IsWhole) (arg14 : Memref sig .tc .vmem S4x2304x2x128 .bf16) (harg14 : arg14.IsWhole) (arg15 : Memref sig .tc .vmem S2304x2x128 .bf16) (harg15 : arg15.IsWhole)
    (x0 : Vec Ideal S1x1x4x2304 .i32) (x1 : Vec Ideal S1x4x5x144x128 .i32) (x2 : Vec Ideal S1x4x5x144x128 .i32) (x3 : Vec Ideal S1x4x144x128 .f32) (x4 : Vec Ideal S128x128 .f32) (x5 : Vec Ideal S128x128 .f32) (k0_hw1L : (∀ (kq : ℕ) (hkq : kq < k0_t3_loop.trips), k0_chk1 (arg2.view.readAt (Elt Ideal) (Rect.unit (s := S1x1x4x2304) (k0_off19 ⟨kq, hkq⟩) S1x1x1x1.size (k0_off19_inb ⟨kq, hkq⟩)).toLoadRect (harg2.unread x0) (Shape.Idx.first (numel1_S1x1x1x1.symm ▸ Nat.one_pos))))) (k0_hw2L : (∀ (kq : ℕ) (hkq : kq < k0_t6_loop.trips), k0_chk2 (arg2.view.readAt (Elt Ideal) (Rect.unit (s := S1x1x4x2304) (k0_off39 ⟨kq, hkq⟩) S1x1x1x1.size (k0_off39_inb ⟨kq, hkq⟩)).toLoadRect (harg2.unread x0) (Shape.Idx.first (numel1_S1x1x1x1.symm ▸ Nat.one_pos))))) (k0_hw3L : (∀ (kq : ℕ) (hkq : kq < k0_t9_loop.trips), k0_chk3 (arg2.view.readAt (Elt Ideal) (Rect.unit (s := S1x1x4x2304) (k0_off59 ⟨kq, hkq⟩) S1x1x1x1.size (k0_off59_inb ⟨kq, hkq⟩)).toLoadRect (harg2.unread x0) (Shape.Idx.first (numel1_S1x1x1x1.symm ▸ Nat.one_pos))))) (k0_hw4L : (∀ (kq : ℕ) (hkq : kq < k0_t12_loop.trips), k0_chk4 (arg2.view.readAt (Elt Ideal) (Rect.unit (s := S1x1x4x2304) (k0_off79 ⟨kq, hkq⟩) S1x1x1x1.size (k0_off79_inb ⟨kq, hkq⟩)).toLoadRect (harg2.unread x0) (Shape.Idx.first (numel1_S1x1x1x1.symm ▸ Nat.one_pos)))))
    (row : Fin 4 → Fin 2304 → Fin 2304) (hrow : ∀ g, Function.Injective (row g)) (hx0 : ∀ g k, (x0 (ix4 0 0 g k)).toNat = (row g k).val)
    (out : Vec Ideal S1x2304x640 .bf16) (hout : ∀ (g : Fin 4) (p : Fin 2304) (d : Fin 160), out (ix3 0 (row g p) (column g d)) = attend x1 x2 x3 x4 x5 g d p) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare out ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := Ideal)) Variants.none c none) E (cc0_attend i arg2 harg2 arg3 harg3 arg4 harg4 arg5 harg5 arg6 harg6 arg7 harg7 (Memref.whole main_arg4) (Memref.isWhole_whole _) arg9 harg9 arg10 harg10 arg11 harg11 arg12 harg12 arg13 harg13 arg14 harg14 arg15 harg15) K := by
    intro E K
    simp only [cc0_attend_eq_skeleton]; unfold cc0_attend_skel
    simp only [k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      have h2 : arg2.view.read (Elt Ideal) (harg2.unread x0) = x0 := harg2.read_unread _
      have h3 : arg3.view.read (Elt Ideal) (harg3.unread x1) = x1 := harg3.read_unread _
      have h4 : arg4.view.read (Elt Ideal) (harg4.unread x2) = x2 := harg4.read_unread _
      have h5 : arg5.view.read (Elt Ideal) (harg5.unread x3) = x3 := harg5.read_unread _
      have h6 : arg6.view.read (Elt Ideal) (harg6.unread x4) = x4 := harg6.read_unread _
      have h7 : arg7.view.read (Elt Ideal) (harg7.unread x5) = x5 := harg7.read_unread _
      refine eq_of_rows row hrow x1 x2 x3 x4 x5 out hout _ fun g p d u l h => ?_
      refine (merged _ _ _ _ _ _ _ _ _ _ _ _ _ _ _ _ _ _ _ _ _ _ _ _ _ _ _ _ _ _ _ _ _ _ g (row g p) d u l h (column g d) rfl).trans ?_
      refine (?_ : Placed x1 x2 x3 x4 x5 arg14.view row _ 4) g g.isLt p u l d h
      refine scatters3 _ _ _ _ _ _ _ _ _ _ _ _ _ _ _ _ _ _ _ _ _ _ _ _ _ _ _ _ _ _ _ _ x1 x2 x3 x4 x5 _ _ row hrow _ (fun k => (congrArg BitVec.toNat (congrFun h2 _)).trans (hx0 3 k)) ?_ _ _ _ rfl ?_
      · refine scores3 _ _ _ _ _ _ _ _ _ _ _ _ _ _ _ _ _ _ _ _ _ _ _ _ _ _ _ _ _ _ _ _ x1 x2 x3 x4 x5 _ _ h6 h7 _ _ _ _ ?_ _ _ _ rfl
        exact (loads3 _ _ _ _ _ _ _ _ _ _ _ _ _ _ _ _ _ _ _ _ _ _ _ _ _ _ _ _ _ _ _ _ x1 x2 x3 _ _ _ h3 h4 h5 _ _ _ _ _ _ _ _ _ _ _ _ rfl rfl rfl rfl _ _ _ _ _ _ _ _
        (fun d l => (congrFun (shapeCast_self _ _) (ix2 d l)).trans (readAt2 arg10.view _ _ rfl d l d (lastTile l) (Nat.zero_add _).symm rfl))
        (fun d l => (congrFun (shapeCast_self _ _) (ix2 d l)).trans (readAt2 arg12.view _ _ rfl d l d (lastTile l) (Nat.zero_add _).symm rfl))
        (fun l => (congrFun (shapeCast_self _ _) (ix2 0 l)).trans (readAt2 arg13.view _ _ rfl 0 l 0 (lastTile l) rfl rfl))
        (fun l => rfl))
      refine scatters2 _ _ _ _ _ _ _ _ _ _ _ _ _ _ _ _ _ _ _ _ _ _ _ _ _ _ _ _ _ _ _ _ x1 x2 x3 x4 x5 _ _ row hrow _ _ _ (fun k => (congrArg BitVec.toNat (congrFun h2 _)).trans (hx0 2 k)) ?_ _ _ _ rfl ?_
      · refine scores2 _ _ _ _ _ _ _ _ _ _ _ _ _ _ _ _ _ _ _ _ _ _ _ _ _ _ _ _ _ _ _ _ x1 x2 x3 x4 x5 _ _ h6 h7 _ _ _ _ _ _ ?_ _ _ _ rfl
        exact (loads2 _ _ _ _ _ _ _ _ _ _ _ _ _ _ _ _ _ _ _ _ _ _ _ _ _ _ _ _ _ _ _ _ x1 x2 x3 _ _ _ h3 h4 h5 _ _ _ _ _ _ _ _ _ _ _ _ _ _ rfl rfl rfl rfl _ _ _ _ _ _ _ _
        (fun d l => (congrFun (shapeCast_self _ _) (ix2 d l)).trans (readAt2 arg10.view _ _ rfl d l d (lastTile l) (Nat.zero_add _).symm rfl))
        (fun d l => (congrFun (shapeCast_self _ _) (ix2 d l)).trans (readAt2 arg12.view _ _ rfl d l d (lastTile l) (Nat.zero_add _).symm rfl))
        (fun l => (congrFun (shapeCast_self _ _) (ix2 0 l)).trans (readAt2 arg13.view _ _ rfl 0 l 0 (lastTile l) rfl rfl))
        (fun l => rfl))
      refine scatters1 _ _ _ _ _ _ _ _ _ _ _ _ _ _ _ _ _ _ _ _ _ _ _ _ _ _ _ _ _ _ _ _ x1 x2 x3 x4 x5 _ _ row hrow _ _ _ (fun k => (congrArg BitVec.toNat (congrFun h2 _)).trans (hx0 1 k)) ?_ _ _ _ rfl ?_
      · refine scores1 _ _ _ _ _ _ _ _ _ _ _ _ _ _ _ _ _ _ _ _ _ _ _ _ _ _ _ _ _ _ _ _ x1 x2 x3 x4 x5 _ _ h6 h7 _ _ _ _ ?_ _ _ _ rfl
        exact (loads1 _ _ _ _ _ _ _ _ _ _ _ _ _ _ _ _ _ _ _ _ _ _ _ _ _ _ _ _ _ _ _ _ x1 x2 x3 _ _ _ h3 h4 h5 _ _ _ _ _ _ _ _ _ _ _ _ rfl rfl rfl rfl _ _ _ _ _ _ _ _
        (fun d l => (congrFun (shapeCast_self _ _) (ix2 d l)).trans (readAt2 arg10.view _ _ rfl d l d (lastTile l) (Nat.zero_add _).symm rfl))
        (fun d l => (congrFun (shapeCast_self _ _) (ix2 d l)).trans (readAt2 arg12.view _ _ rfl d l d (lastTile l) (Nat.zero_add _).symm rfl))
        (fun l => (congrFun (shapeCast_self _ _) (ix2 0 l)).trans (readAt2 arg13.view _ _ rfl 0 l 0 (lastTile l) rfl rfl))
        (fun l => rfl))
      refine scatters0 _ _ _ _ _ _ _ _ _ _ _ _ _ _ _ _ _ _ _ _ _ _ _ _ _ _ _ _ _ _ _ _ x1 x2 x3 x4 x5 _ _ row hrow _ (fun k => (congrArg BitVec.toNat (congrFun h2 _)).trans (hx0 0 k)) ?_ _ _ _ (List.append_nil _).symm ?_
      · refine scores0 _ _ _ _ _ _ _ _ _ _ _ _ _ _ _ _ _ _ _ _ _ _ _ _ _ _ _ _ _ _ _ _ x1 x2 x3 x4 x5 _ _ h6 h7 _ _ _ _ ?_ _ _ _ (List.append_nil _).symm
        exact (loads0 _ _ _ _ _ _ _ _ _ _ _ _ _ _ _ _ _ _ _ _ _ _ _ _ _ _ _ _ _ _ _ _ x1 x2 x3 _ _ _ h3 h4 h5 _ _ _ _ _ _ _ _ _ _ _ _ (List.append_nil _).symm (List.append_nil _).symm (List.append_nil _).symm (List.append_nil _).symm _ _ _ _ _ _ _ _
        (fun d l => (congrFun (shapeCast_self _ _) (ix2 d l)).trans (readAt2 arg10.view _ _ rfl d l d (lastTile l) (Nat.zero_add _).symm rfl))
        (fun d l => (congrFun (shapeCast_self _ _) (ix2 d l)).trans (readAt2 arg12.view _ _ rfl d l d (lastTile l) (Nat.zero_add _).symm rfl))
        (fun l => (congrFun (shapeCast_self _ _) (ix2 0 l)).trans (readAt2 arg13.view _ _ rfl 0 l 0 (lastTile l) rfl rfl))
        (fun l => rfl))
      · exact fun g hg => absurd hg (Nat.not_lt_zero _)
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.KernelIdeal.Value
-- ==== Proof.KernelIdealArray.lean ====
/- The run of `KernelIdeal` with its result named: batches 8 to 15 of the result array hold the heads' results at the rows
   the words name, and every other element what the aliased operand held. -/
module

public import proofs.«01_k».proof.Proof.KernelIdealValue
public import proofs.«01_k».proof.Proof.KernelIdealSide

@[expose] public section

set_option maxRecDepth 16384

noncomputable section

namespace Cert.KernelIdeal.Value

open Cert.KernelIdeal Cert.KernelIdeal.Gen Cert.KernelIdeal.Run Cert.KernelIdeal.Head
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The row a word names. -/
def rowAt (w : Perm.PermArr) (b : Fin 8) (g : Fin 3) (h : Fin 4) (r : Fin 2304) : Fin 2304 :=
  if hw : (w (ix4 ⟨8 + b.val, by omega⟩ g h r)).toNat < 2304 then ⟨(w (ix4 ⟨8 + b.val, by omega⟩ g h r)).toNat, hw⟩ else 0

/-- The sorted position a row comes from. -/
def posOf (w : Perm.PermArr) (b : Fin 8) (g : Fin 3) (h : Fin 4) (p : Fin 2304) : Fin 2304 :=
  Function.invFun (rowAt w b g h) p

theorem rowAt_val {w : Perm.PermArr} (hp : Perm.Onto w) (b : Fin 8) (g : Fin 3) (h : Fin 4) (r : Fin 2304) :
    (w (ix4 ⟨8 + b.val, by omega⟩ g h r)).toNat = (rowAt w b g h r).val := by
  unfold rowAt; rw [dif_pos (hp.inRange b g h r)]

theorem rowAt_injective {w : Perm.PermArr} (hp : Perm.Onto w) (b : Fin 8) (g : Fin 3) (h : Fin 4) :
    Function.Injective (rowAt w b g h) := fun r r' e =>
  hp.inj b g h (BitVec.eq_of_toNat_eq (by rw [rowAt_val hp, rowAt_val hp, e]))

theorem posOf_rowAt {w : Perm.PermArr} (hp : Perm.Onto w) (b : Fin 8) (g : Fin 3) (h : Fin 4) (r : Fin 2304) :
    posOf w b g h (rowAt w b g h r) = r :=
  Function.leftInverse_invFun (rowAt_injective hp b g h) r

/-- The row each word of a point's block names. -/
def rowsOf (c : Dev nD) (t : Fin cfg0.N) : Fin 4 → Fin 2304 → Fin 2304 :=
  rowAt (m ((c : Thread nD τ).loc main_arg0)) (grid0.coords t 0) (grid0.coords t 1)

theorem rowsOf_injective (c : Dev nD) (t : Fin cfg0.N) (hp : Perm.Onto (m ((c : Thread nD τ).loc main_arg0))) (g : Fin 4) :
    Function.Injective (rowsOf m c t g) := rowAt_injective hp (grid0.coords t 0) (grid0.coords t 1) g

theorem iblk0_row (c : Dev nD) (t : Fin cfg0.N) (hp : Perm.Onto (m ((c : Thread nD τ).loc main_arg0))) (g : Fin 4) (k : Fin 2304) :
    ((iblk m c 0 t : Vec Ideal S1x1x4x2304 .i32) (ix4 0 0 g k)).toNat
      = (rowsOf m c t g k).val :=
  (congrArg BitVec.toNat (iblk0 m c t g k)).trans (rowAt_val hp (grid0.coords t 0) (grid0.coords t 1) g k)

/-- A point's window of the result: each head's results, at the rows its words name. -/
def windowOut (c : Dev nD) (t : Fin cfg0.N) : Vec Ideal S1x2304x640 .bf16 := fun y =>
  attend (iblk m c 1 t) (iblk m c 2 t) (iblk m c 3 t) (iblk m c 4 t) (iblk m c 5 t)
    ⟨(y 2).val / 160, Nat.div_lt_of_lt_mul (y 2).isLt⟩ ⟨(y 2).val % 160, Nat.mod_lt _ (by decide)⟩
    (posOf (m ((c : Thread nD τ).loc main_arg0)) (grid0.coords t 0) (grid0.coords t 1) ⟨(y 2).val / 160, Nat.div_lt_of_lt_mul (y 2).isLt⟩ (y 1))

theorem windowOut_row (c : Dev nD) (t : Fin cfg0.N) (hp : Perm.Onto (m ((c : Thread nD τ).loc main_arg0))) (g : Fin 4) (p : Fin 2304) (d : Fin 160) :
    windowOut m c t (ix3 0 (rowsOf m c t g p) (column g d))
      = attend (iblk m c 1 t) (iblk m c 2 t) (iblk m c 3 t) (iblk m c 4 t) (iblk m c 5 t) g d p := by
  have key : ∀ (h' : Fin 4) (d' : Fin 160), h' = g → d' = d →
      attend (iblk m c 1 t) (iblk m c 2 t) (iblk m c 3 t) (iblk m c 4 t) (iblk m c 5 t) h' d'
        (posOf (m ((c : Thread nD τ).loc main_arg0)) (grid0.coords t 0) (grid0.coords t 1) h' (rowsOf m c t g p))
      = attend (iblk m c 1 t) (iblk m c 2 t) (iblk m c 3 t) (iblk m c 4 t) (iblk m c 5 t) g d p := by
    rintro _ _ rfl rfl
    exact congrArg _ (posOf_rowAt hp _ _ _ _)
  exact key _ _ (Fin.ext (by show (160 * g.val + d.val) / 160 = g.val; omega)) (Fin.ext (by show (160 * g.val + d.val) % 160 = d.val; omega))

/-! ## The pipeline's proof data -/

/-- The proof data of the one pipeline on core `c`: the arrays as the region finds them (`V`); after the body at
    point `t` each input's buffer at its block and the result's at the heads' results; the invariant the class's
    (Lib/Pipeline/Frame.lean `ΦA`: the scoped rest and the generator register); nothing owed; full shares. -/
def dats  (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => windowOut m c t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq  (c : Dev nD) (w : Fin cfg0.W) : (dats m 0 c).A w = V m c (Pipeline.arrRef spec0 w) := by
  dsimp only [dats]

/-- What the body leaves, window by window (the proof data's `match` reduced by `dsimp`). -/
theorem after0_0  (c : Dev nD) (t : Fin cfg0.N) : (dats m 0 c).after 0 t = iblk m c 0 t := by dsimp only [dats]
theorem after0_1  (c : Dev nD) (t : Fin cfg0.N) : (dats m 0 c).after 1 t = iblk m c 1 t := by dsimp only [dats]
theorem after0_2  (c : Dev nD) (t : Fin cfg0.N) : (dats m 0 c).after 2 t = iblk m c 2 t := by dsimp only [dats]
theorem after0_3  (c : Dev nD) (t : Fin cfg0.N) : (dats m 0 c).after 3 t = iblk m c 3 t := by dsimp only [dats]
theorem after0_4  (c : Dev nD) (t : Fin cfg0.N) : (dats m 0 c).after 4 t = iblk m c 4 t := by dsimp only [dats]
theorem after0_6  (c : Dev nD) (t : Fin cfg0.N) : (dats m 0 c).after 6 t = windowOut m c t := by dsimp only [dats]
theorem after0_5  (c : Dev nD) (t : Fin cfg0.N) : (dats m 0 c).after 5 t = iblk m c 5 t := by dsimp only [dats]

/-- Each input's current staging buffer holds its block at every point, fetched there or not (`beforeK_W_of`). -/
theorem before0_0  (c : Dev nD) (t : Fin cfg0.N) (d) : (dats m 0 c).before 0 t d = iblk m c 0 t :=
  before0_0_of m (dats m 0 c) (A_eq m c 0) (after0_0 m c) t d
theorem before0_1  (c : Dev nD) (t : Fin cfg0.N) (d) : (dats m 0 c).before 1 t d = iblk m c 1 t :=
  before0_1_of m (dats m 0 c) (A_eq m c 1) (after0_1 m c) t d
theorem before0_2  (c : Dev nD) (t : Fin cfg0.N) (d) : (dats m 0 c).before 2 t d = iblk m c 2 t :=
  before0_2_of m (dats m 0 c) (A_eq m c 2) (after0_2 m c) t d
theorem before0_3  (c : Dev nD) (t : Fin cfg0.N) (d) : (dats m 0 c).before 3 t d = iblk m c 3 t :=
  before0_3_of m (dats m 0 c) (A_eq m c 3) (after0_3 m c) t d
theorem before0_4  (c : Dev nD) (t : Fin cfg0.N) (d) : (dats m 0 c).before 4 t d = iblk m c 4 t :=
  before0_4_of m (dats m 0 c) (A_eq m c 4) (after0_4 m c) t d
theorem before0_5  (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre  (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost  (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hp : ∀ c : Dev nD, Perm.Onto (m ((c : Thread nD τ).loc main_arg0))) (c : Dev nD) (t : Fin cfg0.N) :
    bodyPre m c t ⊢ wp frame (wpE (defs₀ (F := Ideal)) Variants.none c none) Set.univ (bodyAt0 t) (fun _ => bodyPost m c t) := by
  have hH := hyps_of_inRange m (fun c => (hp c).inRange)
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (Hyps.c0 hH c t) (Hyps.c1 hH c t) (Hyps.c2 hH c t) (Hyps.c3 hH c t)
    (rowsOf m c t) (rowsOf_injective m c t (hp c)) (iblk0_row m c t (hp c)) (windowOut m c t) (windowOut_row m c t (hp c))) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hp : ∀ c : Dev nD, Perm.Onto (m ((c : Thread nD τ).loc main_arg0))) (c : Dev nD) : BodyObligation (dats m 0 c) (defs₀ (F := Ideal)) Variants.none () Set.univ := fun t => by
  rw [bigSep_W0, bigSep_W0, defs₀_row]
  exact triple_restated (sound_body m hp c t) rfl .rfl fun _ => .rfl

/-! ## The run and the frame -/

-- `θ_run_frame`'s implicit arguments are found by unifying its conclusion with this one, which takes unfolding plain
-- definitions in a metavariable's type
set_option backward.isDefEq.respectTransparency.types false in
/-- The run: every array of the pipeline ends at what the proof data computes, and the other buffers at their contents at
    the region's entry. -/
theorem run_main (hp : ∀ c : Dev nD, Perm.Onto (m ((c : Thread nD τ).loc main_arg0))) : θ_run defs (onTc (τ := τ) (main (F := Ideal))) (s₀ m ρ) (Pipeline.FramePost cfgs (dats m) 0 (V m)) :=
  Pipeline.θ_run_frame (Q' := _) cfgs (dats m) (0 : Fin 1) launch0 defs₀ Variants.none m ρ main
    (hbody := fun c => (body_obligation m hp c).loose) (hshare := fun c => (dats m 0 c).share_full fun _ => rfl)
    (howed := fun _ _ => rfl) (V := V m) (hmain := hmain m Variants.none) (hA := A_eq m) (hΦ := fun _ _ => rfl)

end Cert.KernelIdeal.Value

end
-- ==== Proof.KernelIdealResult.lean ====
/- The result array of `KernelIdeal`'s run, element by element, and the tables its host operations build. -/
module

public import proofs.«01_k».proof.Proof.KernelIdealArray
public import Idealize.ShloMosaic.Lib.StableHlo.ReadAt

@[expose] public section

set_option maxRecDepth 16384

noncomputable section

namespace Cert.KernelIdeal.Value

open Cert.KernelIdeal Cert.KernelIdeal.Gen Cert.KernelIdeal.Run Cert.KernelIdeal.Head
open Idealize.ShloMosaic Idealize.ShloMosaic.TcCoe

variable (m : (ℓ : Loc nD τ sig) → Buf (Elt Ideal) ℓ)

/-- The words of one batch and head group. -/
def wordsOf (x : Vec Ideal S8x12x5x144x128 .i32) (b : Fin 8) (g : Fin 3) : Vec Ideal S1x4x5x144x128 .i32 := fun y =>
  x (ix5 b ⟨4 * g.val + (y 1).val, by have : (y 1).val < 4 := (y 1).isLt; omega⟩ (y 2) (y 3) (y 4))

/-- Their side values. -/
def sidesOf (x : Vec Ideal S8x12x144x128 .f32) (b : Fin 8) (g : Fin 3) : Vec Ideal S1x4x144x128 .f32 := fun y =>
  x (ix4 b ⟨4 * g.val + (y 1).val, by have : (y 1).val < 4 := (y 1).isLt; omega⟩ (y 2) (y 3))

/-- Channel `d` of a head's result, at a row. -/
def headAt (c : Dev nD) (b : Fin 8) (g : Fin 3) (h : Fin 4) (d : Fin 160) (p : Fin 2304) : EReal :=
  attend (wordsOf (m ((c : Thread nD τ).loc main_arg1)) b g) (wordsOf (m ((c : Thread nD τ).loc main_arg2)) b g)
    (sidesOf (m ((c : Thread nD τ).loc main_arg3)) b g) (V m c main_v15) (V m c main_v20) h d
    (posOf (m ((c : Thread nD τ).loc main_arg0)) b g h p)

theorem index1 : ∀ t : Fin grid0.N, win0_1.index t = ![(grid0.coords t 0).val, (grid0.coords t 1).val, 0, 0, 0] := by decide +kernel
theorem index2 : ∀ t : Fin grid0.N, win0_2.index t = ![(grid0.coords t 0).val, (grid0.coords t 1).val, 0, 0, 0] := by decide +kernel
theorem index3 : ∀ t : Fin grid0.N, win0_3.index t = ![(grid0.coords t 0).val, (grid0.coords t 1).val, 0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![8 + (grid0.coords t 0).val, 0, (grid0.coords t 1).val] := by decide +kernel

theorem iblk1 (c : Dev nD) (t : Fin cfg0.N) : (iblk m c 1 t : Vec Ideal S1x4x5x144x128 .i32)
    = wordsOf (m ((c : Thread nD τ).loc main_arg1)) (grid0.coords t 0) (grid0.coords t 1) := by
  funext y; unfold wordsOf; blk_ext [iblk, index1 t]
theorem iblk2 (c : Dev nD) (t : Fin cfg0.N) : (iblk m c 2 t : Vec Ideal S1x4x5x144x128 .i32)
    = wordsOf (m ((c : Thread nD τ).loc main_arg2)) (grid0.coords t 0) (grid0.coords t 1) := by
  funext y; unfold wordsOf; blk_ext [iblk, index2 t]
theorem iblk3 (c : Dev nD) (t : Fin cfg0.N) : (iblk m c 3 t : Vec Ideal S1x4x144x128 .f32)
    = sidesOf (m ((c : Thread nD τ).loc main_arg3)) (grid0.coords t 0) (grid0.coords t 1) := by
  funext y; unfold sidesOf; blk_ext [iblk, index3 t]
theorem iblk4 (c : Dev nD) (t : Fin cfg0.N) : (iblk m c 4 t : Vec Ideal S128x128 .f32) = V m c main_v15 := by
  funext y; blk_ext [iblk, index4 t]
theorem iblk5 (c : Dev nD) (t : Fin cfg0.N) : (iblk m c 5 t : Vec Ideal S128x128 .f32) = V m c main_v20 := by
  funext y; blk_ext [iblk, index5 t]

/-- The result, element by element. -/
def resultAt (c : Dev nD) : Vec Ideal S24x2304x1920 .bf16 := fun i =>
  headAt m c ⟨((i 0).val - 8) % 8, by omega⟩ ⟨(i 2).val / 640, Nat.div_lt_of_lt_mul (i 2).isLt⟩ ⟨(i 2).val % 640 / 160, by omega⟩ ⟨(i 2).val % 160, by omega⟩ (i 1)

theorem entry (c : Dev nD) : V m c main_v21 = m ((c : Thread nD τ).loc main_arg4) := by
  unfold V; after_reads_simp; try rfl

theorem final (c : Dev nD) : (dats m 0 c).arrAt 6 (cfgs 0).N
    = fun i => if 8 ≤ (i 0 : ℕ) ∧ (i 0 : ℕ) < 16 then resultAt m c i else m ((c : Thread nD τ).loc main_arg4) i := by
  rw [← entry m c]
  refine (dats m 0 c).arrAt_eq_of_coversWhere 6 (resultAt m c) (fun β => 8 ≤ β 0 ∧ β 0 < 16) (by decide +kernel) (fun t hf y => ?_)
    (fun j => by blk_simp [Pipeline.Window.cell_apply]; try omega)
  blk_simp [index6 t]
  rw [after0_6]
  have hb : (grid0.coords t 0).val < 8 := (grid0.coords t 0).isLt
  have hg : (grid0.coords t 1).val < 3 := (grid0.coords t 1).isLt
  have hy : (y 2).val < 640 := (y 2).isLt
  have he : (win0_6.blk t).view.emb y = (ix3 ⟨8 + (grid0.coords t 0).val, by omega⟩ (y 1) ⟨640 * (grid0.coords t 1).val + (y 2).val, by omega⟩ : S24x2304x1920.Idx) := by
    blk_ext [index6 t]
  rw [he]
  have key : ∀ (b' : Fin 8) (g' : Fin 3) (h' : Fin 4) (d' : Fin 160), b' = grid0.coords t 0 → g' = grid0.coords t 1 →
      h' = ⟨(y 2).val / 160, Nat.div_lt_of_lt_mul (y 2).isLt⟩ → d' = ⟨(y 2).val % 160, Nat.mod_lt _ (by decide)⟩ →
      windowOut m c t y = headAt m c b' g' h' d' (y 1) := by
    rintro _ _ _ _ rfl rfl rfl rfl
    unfold windowOut headAt
    rw [iblk1, iblk2, iblk3, iblk4, iblk5]
  exact key _ _ _ _ (Fin.ext (by show (8 + (grid0.coords t 0).val - 8) % 8 = _; omega))
    (Fin.ext (by show (640 * (grid0.coords t 1).val + (y 2).val) / 640 = _; omega))
    (Fin.ext (by show (640 * (grid0.coords t 1).val + (y 2).val) % 640 / 160 = (y 2).val / 160; omega))
    (Fin.ext (by show (640 * (grid0.coords t 1).val + (y 2).val) % 160 = (y 2).val % 160; omega))

end Cert.KernelIdeal.Value

end
-- ==== Proof.Softmax.lean ====
/- The kernel's softmax in base two and the reference's in base e, over the extended reals. -/
module

public import proofs.«01_k».proof.Proof.Ops

@[expose] public section

noncomputable section

namespace Cert.Softmax

open Idealize.ShloMosaic

/-- The reciprocal of the natural logarithm of two. -/
def invLog : ℝ := (Real.log 2)⁻¹

theorem invLog_pos : 0 < invLog := inv_pos.mpr (Real.log_pos (by norm_num))

theorem top_mul : (⊤ : EReal) * (invLog : EReal) = ⊤ := EReal.top_mul_coe_of_pos invLog_pos
theorem bot_mul : (⊥ : EReal) * (invLog : EReal) = ⊥ := EReal.bot_mul_coe_of_pos invLog_pos

theorem exp2_mul (x : EReal) : Ideal.exp2 (x * invLog) = Ideal.exp x := by
  induction x with
  | bot => rw [bot_mul]; rfl
  | top => rw [top_mul]; rfl
  | coe r =>
    rw [← EReal.coe_mul]
    show ((Real.rpow 2 (r * invLog) : ℝ) : EReal) = (Real.exp r : EReal)
    congr 1
    show (2 : ℝ) ^ (r * invLog) = _
    rw [Real.rpow_def_of_pos (by norm_num)]
    congr 1
    have : Real.log 2 ≠ 0 := (Real.log_pos (by norm_num)).ne'
    unfold invLog
    field_simp

theorem sub_mul (x y : EReal) : x * invLog - y * invLog = (x - y) * invLog := by
  induction x with
  | bot => rw [bot_mul, EReal.bot_sub, EReal.bot_sub, bot_mul]
  | top =>
    induction y with
    | bot => rw [bot_mul, top_mul, EReal.top_sub_bot, top_mul]
    | top => rw [top_mul, EReal.sub_top, bot_mul]
    | coe s => rw [top_mul, ← EReal.coe_mul, EReal.top_sub_coe, EReal.top_sub_coe, top_mul]
  | coe r =>
    induction y with
    | bot => rw [bot_mul, ← EReal.coe_mul, EReal.coe_sub_bot, EReal.coe_sub_bot, top_mul]
    | top => rw [top_mul, EReal.sub_top, EReal.sub_top, bot_mul]
    | coe s =>
      rw [← EReal.coe_mul, ← EReal.coe_mul, ← EReal.coe_sub, ← EReal.coe_sub, ← EReal.coe_mul]
      congr 1
      ring

theorem mono : Monotone fun x : EReal => x * (invLog : EReal) := fun _ _ h =>
  mul_le_mul_of_nonneg_right h (EReal.coe_nonneg.mpr invLog_pos.le)

theorem ninf : Ideal.ofBits FTy.f32 4286578688#32 = ⊥ := by
  simp [Ideal.ofBits, Ideal.ieee]

/-- The greatest of the scores. -/
def top (s : Fin 128 → EReal) : EReal := Cert.KernelIdeal.Ops.maxAt s

theorem top_eq (s : Fin 128 → EReal) : top s = Finset.univ.sup s := by
  show Finset.fold max (Ideal.ofBits FTy.f32 4286578688#32) s Finset.univ = _
  rw [ninf]
  rfl

theorem top_mul_eq (s : Fin 128 → EReal) : top (fun l => s l * invLog) = top s * invLog := by
  rw [top_eq, top_eq]
  exact (Finset.comp_sup_eq_sup_comp_of_is_total (fun x : EReal => x * (invLog : EReal)) mono bot_mul).symm

theorem power_eq (s : Fin 128 → EReal) (l : Fin 128) :
    Ideal.exp2 (s l * invLog - top (fun l => s l * invLog)) = Ideal.exp (s l - top s) := by
  rw [top_mul_eq, sub_mul, exp2_mul]

theorem top_reindex (s : Fin 128 → EReal) (σ : Equiv.Perm (Fin 128)) : top (fun l => s (σ l)) = top s := by
  rw [top_eq, top_eq]
  apply le_antisymm
  · exact Finset.sup_le fun l _ => Finset.le_sup (f := s) (Finset.mem_univ (σ l))
  · refine Finset.sup_le fun l _ => ?_
    have := Finset.le_sup (f := fun l => s (σ l)) (Finset.mem_univ (σ.symm l))
    simpa using this

theorem exp_nonneg (x : EReal) : 0 ≤ Ideal.exp x := by
  induction x with
  | bot => exact le_refl _
  | top => exact le_top
  | coe r => exact EReal.coe_nonneg.mpr (Real.exp_pos r).le

/-- The exponentials are all zero, or their sum is a positive real number. -/
theorem sum_cases (s : Fin 128 → EReal) :
    (∀ l, Ideal.exp (s l - top s) = 0) ∨ ∃ r : ℝ, 0 < r ∧ ∑ l, Ideal.exp (s l - top s) = (r : EReal) := by
  have hle : ∀ l, s l ≤ top s := fun l => by rw [top_eq]; exact Finset.le_sup (Finset.mem_univ l)
  have hex : ∃ l, top s = s l := by
    rw [top_eq]
    obtain ⟨l, _, h⟩ := Finset.exists_mem_eq_sup (Finset.univ : Finset (Fin 128)) Finset.univ_nonempty s
    exact ⟨l, h⟩
  generalize hM : top s = M at *
  induction M with
  | bot =>
    refine Or.inl fun l => ?_
    rw [le_bot_iff.mp (hle l), EReal.bot_sub]; rfl
  | top => exact Or.inl fun l => by rw [EReal.sub_top]; rfl
  | coe m =>
    right
    have hr : ∀ l, ∃ r : ℝ, 0 ≤ r ∧ Ideal.exp (s l - (m : EReal)) = (r : EReal) := fun l => by
      have h := hle l
      induction hs : s l with
      | bot => exact ⟨0, le_refl _, by rw [EReal.bot_sub]; rfl⟩
      | top => rw [hs] at h; exact absurd (top_le_iff.mp h) (EReal.coe_ne_top m)
      | coe x => exact ⟨Real.exp (x - m), (Real.exp_pos _).le, by rw [← EReal.coe_sub]; rfl⟩
    choose f hf0 hf using hr
    refine ⟨∑ l, f l, ?_, ?_⟩
    · obtain ⟨l, hl⟩ := hex
      refine Finset.sum_pos' (fun l _ => hf0 l) ⟨l, Finset.mem_univ l, ?_⟩
      have e := hf l
      rw [← hl, ← EReal.coe_sub, _root_.sub_self] at e
      have e' : ((Real.exp 0 : ℝ) : EReal) = (f l : EReal) := e
      rw [← EReal.coe_eq_coe_iff.mp e', Real.exp_zero]
      norm_num
    · rw [Finset.sum_congr rfl fun l _ => hf l]
      exact (map_sum (⟨⟨fun x : ℝ => (x : EReal), EReal.coe_zero⟩, EReal.coe_add⟩ : ℝ →+ EReal) f Finset.univ).symm

theorem sum_mul_coe {ι : Type} (t : Finset ι) (f : ι → EReal) (r : ℝ) (hr : 0 ≤ r) : (∑ l ∈ t, f l) * (r : EReal) = ∑ l ∈ t, f l * (r : EReal) := by
  classical
  induction t using Finset.induction_on with
  | empty => simp
  | insert a t ha ih =>
    rw [Finset.sum_insert ha, Finset.sum_insert ha, ← ih]
    exact EReal.right_distrib_of_nonneg_of_ne_top (EReal.coe_nonneg.mpr hr) (EReal.coe_ne_top r) _ _

/-- The sum divided at the end is the sum of the weights. -/
theorem sum_eq (s v w : Fin 128 → EReal) :
    (∑ l, (v l * w l) * Ideal.exp (s l - top s)) * Ideal.div 1 (∑ l, 1 * Ideal.exp (s l - top s))
      = ∑ l, (Ideal.exp (s l - top s) * Ideal.div 1 (∑ l, Ideal.exp (s l - top s))) * w l * v l := by
  rw [Finset.sum_congr rfl fun l _ => one_mul (Ideal.exp (s l - top s))]
  rcases sum_cases s with h | ⟨r, hr, h⟩
  · simp only [h, mul_zero, zero_mul, Finset.sum_const_zero]
  · rw [h]
    have e : Ideal.div 1 (r : EReal) = ((r⁻¹ : ℝ) : EReal) := by
      unfold Ideal.div
      rw [if_neg (by exact_mod_cast hr.ne'), one_mul, EReal.coe_inv]
    rw [e, sum_mul_coe _ _ _ (inv_nonneg.mpr hr.le)]
    refine Finset.sum_congr rfl fun l _ => ?_
    ac_rfl

end Cert.Softmax

end
-- ==== Proof.ReferenceHost.lean ====
/- What `ReferenceIdeal`'s host operations compute, in stages. -/
module

public import proofs.«01_k».proof.Proof.Gen.ReferenceIdeal.Frame
public import Idealize.ShloMosaic.PureOps.Ideal
public import Idealize.ShloMosaic.Lib.Pipeline.ValueKit
public import Idealize.ShloMosaic.Lib.StableHlo.ReadAt

@[expose] public section

set_option maxRecDepth 16384

noncomputable section

namespace Cert.ReferenceIdeal.Value

open Cert.ReferenceIdeal Cert.ReferenceIdeal.Gen
open Idealize.ShloMosaic Idealize.ShloMosaic.TcCoe

/-- The codes in sorted order. -/
def rows (x : FVec Ideal S276480x128 .bf16) : FVec Ideal S8x12x2304x160 .bf16 :=
  (shapeCast S8x12x2304x160 (transpose S8x12x18x128x5x32 [0, 1, 3, 5, 2, 4] (shapeCast S8x12x5x18x32x128 x shapeCasts_S276480x128_S8x12x5x18x32x128) transposes_S8x12x5x18x32x128_S8x12x18x128x5x32_0_1_3_5_2_4) shapeCasts_S8x12x18x128x5x32_S8x12x2304x160)

/-- The side values in sorted order. -/
def sides (x : FVec Ideal S8x12x144x128 .f32) : FVec Ideal S8x12x2304x8 .f32 :=
  (shapeCast S8x12x2304x8 (transpose S8x12x18x128x8 [0, 1, 2, 4, 3] (shapeCast S8x12x18x8x128 x shapeCasts_S8x12x144x128_S8x12x18x8x128) transposes_S8x12x18x8x128_S8x12x18x128x8_0_1_2_4_3) shapeCasts_S8x12x18x128x8_S8x12x2304x8)

/-- The scales of a key's channel blocks. -/
def scales (x : FVec Ideal S8x12x2304x8 .f32) : FVec Ideal S8x12x2304x5 .f32 :=
  (extractStridedSlice S8x12x2304x5 ![0, 0, 0, 0] x slices_S8x12x2304x8_S8x12x2304x5_0_0_0_0)

/-- The scale of a value. -/
def valScale (x : FVec Ideal S8x12x2304x8 .f32) : FVec Ideal S8x12x2304 .f32 :=
  (shapeCast S8x12x2304 (extractStridedSlice S8x12x2304x1 ![0, 0, 0, 5] x slices_S8x12x2304x8_S8x12x2304x1_0_0_0_5) shapeCasts_S8x12x2304x1_S8x12x2304)

/-- What the gaps to a key are compared with. -/
def laters (x : FVec Ideal S8x12x2304x8 .f32) : FVec Ideal S8x12x2304 .f32 :=
  (shapeCast S8x12x2304 (extractStridedSlice S8x12x2304x1 ![0, 0, 0, 6] x slices_S8x12x2304x8_S8x12x2304x1_0_0_0_6) shapeCasts_S8x12x2304x1_S8x12x2304)

/-- The keys: the codes scaled. -/
def keyRows (q : FVec Ideal S8x12x2304x160 .bf16) (s : FVec Ideal S8x12x2304x5 .f32) : FVec Ideal S8x12x2304x160 .bf16 :=
  (shapeCast S8x12x2304x160 (mulf (shapeCast S8x12x2304x5x32 q shapeCasts_S8x12x2304x160_S8x12x2304x5x32) (broadcastInDim S8x12x2304x5x32 ![0, 1, 2, 3, 4] bcast_S8x12x2304x5x1_S8x12x2304x5x32_0_1_2_3_4 (broadcastInDim S8x12x2304x5x1 ![0, 1, 2, 3] bcast_S8x12x2304x5_S8x12x2304x5x1_0_1_2_3 (truncf .bf16 s bitsLt_bf16_f32)))) shapeCasts_S8x12x2304x5x32_S8x12x2304x160)

/-- The factor the scores against a key carry. -/
def factors (k : FVec Ideal S8x12x2304x160 .bf16) : FVec Ideal S8x12x2304 .f32 :=
  (Host.divf (Host.rsqrt (addf (Host.divf (Host.reduceAdd (mulf (extf .f32 k bitsLt_bf16_f32) (extf .f32 k bitsLt_bf16_f32)) (constant S_ .f32 0x00000000#32) reducesTo_S8x12x2304x160_S8x12x2304_d3 h_S_) (broadcastInDim S8x12x2304 ![] bcast_S_S8x12x2304 (constant S_ .f32 0x43200000#32))) (broadcastInDim S8x12x2304 ![] bcast_S_S8x12x2304 (constant S_ .f32 0x358637BD#32)))) (broadcastInDim S8x12x2304 ![] bcast_S_S8x12x2304 (Host.sqrt (constant S_ .f32 0x43200000#32))))

/-- Rows by chunk. -/
def chunks (k : FVec Ideal S8x12x2304x160 .bf16) : FVec Ideal S8x12x36x64x160 .bf16 :=
  (shapeCast S8x12x36x64x160 k shapeCasts_S8x12x2304x160_S8x12x36x64x160)

/-- The previous chunk's rows and the chunk's. -/
def windows (k : FVec Ideal S8x12x36x64x160 .bf16) : FVec Ideal S8x12x36x128x160 .bf16 :=
  (concatenate S8x12x36x128x160 3 [⟨S8x12x36x64x160, (concatenate S8x12x36x64x160 2 [⟨S8x12x1x64x160, (extractStridedSlice S8x12x1x64x160 ![0, 0, 35, 0, 0] k slices_S8x12x36x64x160_S8x12x1x64x160_0_0_35_0_0)⟩, ⟨S8x12x35x64x160, (extractStridedSlice S8x12x35x64x160 ![0, 0, 0, 0, 0] k slices_S8x12x36x64x160_S8x12x35x64x160_0_0_0_0_0)⟩] concatenates_S8x12x1x64x160_S8x12x35x64x160_S8x12x36x64x160_d2)⟩, ⟨S8x12x36x64x160, k⟩] concatenates_S8x12x36x64x160_S8x12x36x64x160_S8x12x36x128x160_d3)

/-- The previous chunk's values and the chunk's. -/
def window (x : FVec Ideal S8x12x2304 .f32) : FVec Ideal S8x12x36x128 .f32 :=
  (concatenate S8x12x36x128 3 [⟨S8x12x36x64, (concatenate S8x12x36x64 2 [⟨S8x12x1x64, (extractStridedSlice S8x12x1x64 ![0, 0, 35, 0] (shapeCast S8x12x36x64 x shapeCasts_S8x12x2304_S8x12x36x64) slices_S8x12x36x64_S8x12x1x64_0_0_35_0)⟩, ⟨S8x12x35x64, (extractStridedSlice S8x12x35x64 ![0, 0, 0, 0] (shapeCast S8x12x36x64 x shapeCasts_S8x12x2304_S8x12x36x64) slices_S8x12x36x64_S8x12x35x64_0_0_0_0)⟩] concatenates_S8x12x1x64_S8x12x35x64_S8x12x36x64_d2)⟩, ⟨S8x12x36x64, (shapeCast S8x12x36x64 x shapeCasts_S8x12x2304_S8x12x36x64)⟩] concatenates_S8x12x36x64_S8x12x36x64_S8x12x36x128_d3)

/-- The products of queries and keys. -/
def dots (q : FVec Ideal S8x12x36x64x160 .bf16) (k : FVec Ideal S8x12x36x128x160 .bf16) : FVec Ideal S8x12x36x64x128 .f32 :=
  (Host.dotGeneral dot_S8x12x36x64x160_S8x12x36x128x160_S8x12x36x64x128_4_4_3_3_012_012 none q k)

/-- The scores, before the mask. -/
def scaledDots (d : FVec Ideal S8x12x36x64x128 .f32) (f : FVec Ideal S8x12x36x128 .f32) : FVec Ideal S8x12x36x64x128 .f32 :=
  (mulf d (broadcastInDim S8x12x36x64x128 ![0, 1, 2, 3, 4] bcast_S8x12x36x1x128_S8x12x36x64x128_0_1_2_3_4 (broadcastInDim S8x12x36x1x128 ![0, 1, 2, 4] bcast_S8x12x36x128_S8x12x36x1x128_0_1_2_4 f)))

/-- Whether a window position is in the sequence. -/
def inside  : IVec S36x64x128 1 :=
  (ori (cmpi .sgt (iotaInDim S36x64x128 32 0) (broadcastInDim S36x64x128 ![] bcast_S_S36x64x128 (constantI S_ 32 0#32))) (cmpi .sge (subi (iotaInDim S36x64x128 32 2) (broadcastInDim S36x64x128 ![] bcast_S_S36x64x128 (constantI S_ 32 64#32))) (broadcastInDim S36x64x128 ![] bcast_S_S36x64x128 (constantI S_ 32 0#32))))

/-- How far a key lies before its query. -/
def gaps  : FVec Ideal S36x64x128 .f32 :=
  (sitofp .f32 (select (cmpi .slt (subi (iotaInDim S36x64x128 32 2) (broadcastInDim S36x64x128 ![] bcast_S_S36x64x128 (constantI S_ 32 64#32))) (iotaInDim S36x64x128 32 1)) (subi (subi (iotaInDim S36x64x128 32 1) (subi (iotaInDim S36x64x128 32 2) (broadcastInDim S36x64x128 ![] bcast_S_S36x64x128 (constantI S_ 32 64#32)))) (broadcastInDim S36x64x128 ![] bcast_S_S36x64x128 (constantI S_ 32 1#32))) ((broadcastInDim S36x64x128 ![] bcast_S_S36x64x128) (constantI S_ 32 1048576#32))))

/-- The scores of keys not seen. -/
def fills  : FVec Ideal S36x64x128 .f32 :=
  (select (cmpi .eq (subi (iotaInDim S36x64x128 32 2) (broadcastInDim S36x64x128 ![] bcast_S_S36x64x128 (constantI S_ 32 64#32))) (iotaInDim S36x64x128 32 1)) ((broadcastInDim S36x64x128 ![] bcast_S_S36x64x128) (constant S_ .f32 0xC7C35000#32)) ((broadcastInDim S36x64x128 ![] bcast_S_S36x64x128) (constant S_ .f32 0xCE6E6B28#32)))

/-- The scores. -/
def scores (i : IVec S36x64x128 1) (g : FVec Ideal S36x64x128 .f32) (l : FVec Ideal S8x12x36x128 .f32) (s : FVec Ideal S8x12x36x64x128 .f32) (f : FVec Ideal S36x64x128 .f32) : FVec Ideal S8x12x36x64x128 .f32 :=
  (select (andi (broadcastInDim S8x12x36x64x128 ![0, 1, 2, 3, 4] bcast_S1x1x36x64x128_S8x12x36x64x128_0_1_2_3_4 (broadcastInDim S1x1x36x64x128 ![2, 3, 4] bcast_S36x64x128_S1x1x36x64x128_2_3_4 i)) (cmpf .olt (broadcastInDim S8x12x36x64x128 ![0, 1, 2, 3, 4] bcast_S1x1x36x64x128_S8x12x36x64x128_0_1_2_3_4 (broadcastInDim S1x1x36x64x128 ![2, 3, 4] bcast_S36x64x128_S1x1x36x64x128_2_3_4 g)) (broadcastInDim S8x12x36x64x128 ![0, 1, 2, 3, 4] bcast_S8x12x36x1x128_S8x12x36x64x128_0_1_2_3_4 (broadcastInDim S8x12x36x1x128 ![0, 1, 2, 4] bcast_S8x12x36x128_S8x12x36x1x128_0_1_2_4 l)))) s ((broadcastInDim S8x12x36x64x128 ![2, 3, 4] bcast_S36x64x128_S8x12x36x64x128_2_3_4) f))

/-- The scores' exponentials, the greatest taken off. -/
def expos (s : FVec Ideal S8x12x36x64x128 .f32) : FVec Ideal S8x12x36x64x128 .f32 :=
  (Host.exp (subf s (broadcastInDim S8x12x36x64x128 ![0, 1, 2, 3, 4] bcast_S8x12x36x64x1_S8x12x36x64x128_0_1_2_3_4 (broadcastInDim S8x12x36x64x1 ![0, 1, 2, 3] bcast_S8x12x36x64_S8x12x36x64x1_0_1_2_3 (Host.reduce FloatOps.maximumf s (constant S_ .f32 0xFF800000#32) reducesTo_S8x12x36x64x128_S8x12x36x64_d4 h_S_)))))

/-- The exponentials over their sum. -/
def softmax (e : FVec Ideal S8x12x36x64x128 .f32) : FVec Ideal S8x12x36x64x128 .f32 :=
  (mulf e (broadcastInDim S8x12x36x64x128 ![0, 1, 2, 3, 4] bcast_S8x12x36x64x1_S8x12x36x64x128_0_1_2_3_4 (Host.divf (broadcastInDim S8x12x36x64x1 ![] bcast_S_S8x12x36x64x1 (constant S_ .f32 0x3F800000#32)) (broadcastInDim S8x12x36x64x1 ![0, 1, 2, 3] bcast_S8x12x36x64_S8x12x36x64x1_0_1_2_3 (Host.reduceAdd e (constant S_ .f32 0x00000000#32) reducesTo_S8x12x36x64x128_S8x12x36x64_d4 h_S_)))))

/-- The weights times the values' scales. -/
def weights (p : FVec Ideal S8x12x36x64x128 .f32) (v : FVec Ideal S8x12x36x128 .f32) : FVec Ideal S8x12x36x64x128 .bf16 :=
  (truncf .bf16 (mulf p (broadcastInDim S8x12x36x64x128 ![0, 1, 2, 3, 4] bcast_S8x12x36x1x128_S8x12x36x64x128_0_1_2_3_4 (broadcastInDim S8x12x36x1x128 ![0, 1, 2, 4] bcast_S8x12x36x128_S8x12x36x1x128_0_1_2_4 v))) bitsLt_bf16_f32)

/-- The weighted sums of the values' codes. -/
def outs (p : FVec Ideal S8x12x36x64x128 .bf16) (v : FVec Ideal S8x12x36x128x160 .bf16) : FVec Ideal S8x12x2304x160 .bf16 :=
  (shapeCast S8x12x2304x160 (truncf .bf16 (Host.dotGeneral dot_S8x12x36x64x128_S8x12x36x128x160_S8x12x36x64x160_4_3_3_4_012_012 none p v) bitsLt_bf16_f32) shapeCasts_S8x12x36x64x160_S8x12x2304x160)

/-- Which row each sorted position goes to. -/
def places (w : IVec S24x3x4x2304 32) : FVec Ideal S8x12x2304x2304 .bf16 :=
  (uitofp .bf16 (cmpi .eq (broadcastInDim S8x12x2304x2304 ![0, 1, 2, 3] bcast_S8x12x2304x1_S8x12x2304x2304_0_1_2_3 (broadcastInDim S8x12x2304x1 ![0, 1, 2] bcast_S8x12x2304_S8x12x2304x1_0_1_2 (shapeCast S8x12x2304 (extractStridedSlice S8x3x4x2304 ![8, 0, 0, 0] w slices_S24x3x4x2304_S8x3x4x2304_8_0_0_0) shapeCasts_S8x3x4x2304_S8x12x2304))) (broadcastInDim S8x12x2304x2304 ![0, 1, 2, 3] bcast_S1x1x1x2304_S8x12x2304x2304_0_1_2_3 (broadcastInDim S1x1x1x2304 ![3] bcast_S2304_S1x1x1x2304_3 (iotaInDim S2304 32 0)))))

/-- The sums at their rows. -/
def placed (o : FVec Ideal S8x12x2304x160 .bf16) (p : FVec Ideal S8x12x2304x2304 .bf16) : FVec Ideal S8x2304x1920 .bf16 :=
  (shapeCast S8x2304x1920 (truncf .bf16 (transpose S8x2304x12x160 [0, 3, 1, 2] (Host.dotGeneral dot_S8x12x2304x160_S8x12x2304x2304_S8x12x160x2304_2_2_3_3_01_01 none o p) transposes_S8x12x160x2304_S8x2304x12x160_0_3_1_2) bitsLt_bf16_f32) shapeCasts_S8x2304x12x160_S8x2304x1920)

/-- The result array. -/
def joined (x : FVec Ideal S24x2304x1920 .bf16) (r : FVec Ideal S8x2304x1920 .bf16) : FVec Ideal S24x2304x1920 .bf16 :=
  concatenate S24x2304x1920 0 [⟨S8x2304x1920, (extractStridedSlice S8x2304x1920 ![0, 0, 0] x slices_S24x2304x1920_S8x2304x1920_0_0_0)⟩, ⟨S8x2304x1920, r⟩, ⟨S8x2304x1920, (extractStridedSlice S8x2304x1920 ![16, 0, 0] x slices_S24x2304x1920_S8x2304x1920_16_0_0)⟩] concatenates_S8x2304x1920_S8x2304x1920_S8x2304x1920_S24x2304x1920_d0

/-- The rows of the batches computed. -/
def whole (q v : FVec Ideal S276480x128 .bf16) (w : IVec S24x3x4x2304 32) (a : FVec Ideal S8x12x144x128 .f32) : FVec Ideal S8x2304x1920 .bf16 :=
  placed (outs (weights (softmax (expos (scores inside gaps (window (laters (sides a)))
    (scaledDots (dots (chunks (keyRows (rows q) (scales (sides a)))) (windows (chunks (keyRows (rows q) (scales (sides a))))))
      (window (factors (keyRows (rows q) (scales (sides a)))))) fills))) (window (valScale (sides a))))
    (windows (chunks (rows v)))) (places w)

set_option maxHeartbeats 4000000 in
theorem rows_eq (W : Valuation τ sig (Elt Ideal)) :
    StableHlo.upto (List.flatten [hostOps1, hostOps1_1, hostOps1_2, hostOps1_3, hostOps1_4, hostOps1_5]) W 140 (Proc.devRef .tc main_v120)
      = whole (W (Proc.devRef .tc main_v2_0)) (W (Proc.devRef .tc main_v2_1)) (W (Proc.devRef .tc main_arg0)) (W (Proc.devRef .tc main_arg3)) := by
  after_reads_simp
  simp -implicitDefEqProofs only [StableHlo.TRef.toBuf, StableHlo.TRef.ofBuf, cast_cast, cast_eq]
  simp only [whole, placed, outs, weights, softmax, expos, scores, inside, gaps, window, laters, sides, scaledDots, dots, chunks,
    keyRows, rows, scales, windows, factors, fills, valScale, places]
  try rfl

theorem low_eq (W : Valuation τ sig (Elt Ideal)) :
    StableHlo.upto (List.flatten [hostOps1, hostOps1_1, hostOps1_2, hostOps1_3, hostOps1_4, hostOps1_5]) W 140 (Proc.devRef .tc main_v121)
      = extractStridedSlice S8x2304x1920 ![0, 0, 0] (W (Proc.devRef .tc main_arg4) : FVec Ideal S24x2304x1920 .bf16) slices_S24x2304x1920_S8x2304x1920_0_0_0 := by
  after_reads_simp

theorem high_eq (W : Valuation τ sig (Elt Ideal)) :
    StableHlo.upto (List.flatten [hostOps1, hostOps1_1, hostOps1_2, hostOps1_3, hostOps1_4, hostOps1_5]) W 140 (Proc.devRef .tc main_v122)
      = extractStridedSlice S8x2304x1920 ![16, 0, 0] (W (Proc.devRef .tc main_arg4) : FVec Ideal S24x2304x1920 .bf16) slices_S24x2304x1920_S8x2304x1920_16_0_0 := by
  after_reads_simp

theorem joined_congr (x y z x' y' z' : FVec Ideal S8x2304x1920 .bf16) (hx : x = x') (hy : y = y') (hz : z = z') :
    concatenate S24x2304x1920 0 [⟨S8x2304x1920, x⟩, ⟨S8x2304x1920, y⟩, ⟨S8x2304x1920, z⟩] concatenates_S8x2304x1920_S8x2304x1920_S8x2304x1920_S24x2304x1920_d0
      = concatenate S24x2304x1920 0 [⟨S8x2304x1920, x'⟩, ⟨S8x2304x1920, y'⟩, ⟨S8x2304x1920, z'⟩] concatenates_S8x2304x1920_S8x2304x1920_S8x2304x1920_S24x2304x1920_d0 := by
  subst hx hy hz; rfl

set_option maxHeartbeats 4000000 in
theorem host_eq (W : Valuation τ sig (Elt Ideal)) :
    StableHlo.after (List.flatten [hostOps1, hostOps1_1, hostOps1_2, hostOps1_3, hostOps1_4, hostOps1_5]) W (Proc.devRef .tc main_v123)
      = joined (W (Proc.devRef .tc main_arg4)) (whole (W (Proc.devRef .tc main_v2_0)) (W (Proc.devRef .tc main_v2_1)) (W (Proc.devRef .tc main_arg0)) (W (Proc.devRef .tc main_arg3))) := by
  after_reads_simp
  exact joined_congr _ _ _ _ _ _ (low_eq W) (rows_eq W) (high_eq W)

end Cert.ReferenceIdeal.Value

end
-- ==== Proof.ReferenceRun.lean ====
/- The result `ReferenceIdeal`'s run leaves: its host operations' term of the arguments, the codes decoded. -/
module

public import proofs.«01_k».proof.Proof.ReferenceHost
public import Idealize.ShloMosaic.Lib.Claim

@[expose] public section

set_option maxRecDepth 16384

noncomputable section

namespace Cert.ReferenceIdeal.Value

open Cert.ReferenceIdeal Cert.ReferenceIdeal.Gen
open Idealize.ShloMosaic Idealize.ShloMosaic.TcCoe

variable (m : (ℓ : Loc nD τ sig) → Buf (Elt Ideal) ℓ) (ρ : Dev nD → PrngReg)

/-- The codes of an array of words. -/
def codes (x : IVec S8x12x5x144x128 32) : FVec Ideal S276480x128 .bf16 :=
  k0_pay1 (shapeCast S69120x128 x shapeCasts_S8x12x5x144x128_S69120x128)

theorem index0 : ∀ t : Fin grid0.N, win0_0.index t = ![0, 0] := by decide +kernel
theorem index1 : ∀ t : Fin grid0.N, win0_1.index t = ![0, 0] := by decide +kernel

theorem entry0 (c : Dev nD) : V m c main_v0 = shapeCast S69120x128 (m ((c : Thread nD τ).loc main_arg1)) shapeCasts_S8x12x5x144x128_S69120x128 := by
  unfold V
  after_reads_simp
  try rfl

theorem final2 (c : Dev nD) : (dats m 0 c).arrAt 2 (cfgs 0).N = codes (m ((c : Thread nD τ).loc main_arg1)) := by
  refine (dats m 0 c).arrAt_eq_of_after_last 2 t0_0 (by decide +kernel) _ fun j => ?_
  blk_simp
  rw [after0_2]
  frame_out
  unfold codes
  congr 2
  refine Eq.trans ?_ (entry0 m c)
  show (iblk m c 0 t0_0 : Vec Ideal S69120x128 .i32) = V m c main_v0
  funext y
  blk_ext [iblk, index0 t0_0]

theorem entry1 (c : Dev nD) : V m c main_v1 = shapeCast S69120x128 (m ((c : Thread nD τ).loc main_arg2)) shapeCasts_S8x12x5x144x128_S69120x128 := by
  unfold V
  after_reads_simp
  try rfl

theorem final3 (c : Dev nD) : (dats m 0 c).arrAt 3 (cfgs 0).N = codes (m ((c : Thread nD τ).loc main_arg2)) := by
  refine (dats m 0 c).arrAt_eq_of_after_last 3 t0_0 (by decide +kernel) _ fun j => ?_
  blk_simp
  rw [after0_3]
  frame_out
  unfold codes
  congr 2
  refine Eq.trans ?_ (entry1 m c)
  show (iblk m c 1 t0_0 : Vec Ideal S69120x128 .i32) = V m c main_v1
  funext y
  blk_ext [iblk, index1 t0_0]

theorem result_eq (c : Dev nD) : Pipeline.afterTail₀ cfgs (dats m) 0 (V0 m) [hostOps1, hostOps1_1, hostOps1_2, hostOps1_3, hostOps1_4, hostOps1_5] c main_v123
    = joined (m ((c : Thread nD τ).loc main_arg4)) (whole (codes (m ((c : Thread nD τ).loc main_arg1))) (codes (m ((c : Thread nD τ).loc main_arg2)))
        (m ((c : Thread nD τ).loc main_arg0)) (m ((c : Thread nD τ).loc main_arg3))) := by
  have hinj : Function.Injective (Pipeline.arrRef spec0) := by decide
  have h2 := (Pipeline.withArrays_arr spec0 hinj c (V0 m c) (fun w => (dats m 0 c).arrAt w (cfgs 0).N) 2).trans (final2 m c)
  have h3 := (Pipeline.withArrays_arr spec0 hinj c (V0 m c) (fun w => (dats m 0 c).arrAt w (cfgs 0).N) 3).trans (final3 m c)
  have h0 := (Pipeline.withArrays_of_ne spec0 c (V0 m c) (fun w => (dats m 0 c).arrAt w (cfgs 0).N) main_arg0 (by exact (by decide : ∀ w, Pipeline.arrRef spec0 w ≠ main_arg0))).trans (V_main_arg0 m c)
  have ha := (Pipeline.withArrays_of_ne spec0 c (V0 m c) (fun w => (dats m 0 c).arrAt w (cfgs 0).N) main_arg3 (by exact (by decide : ∀ w, Pipeline.arrRef spec0 w ≠ main_arg3))).trans (V_main_arg3 m c)
  have h4 := (Pipeline.withArrays_of_ne spec0 c (V0 m c) (fun w => (dats m 0 c).arrAt w (cfgs 0).N) main_arg4 (by exact (by decide : ∀ w, Pipeline.arrRef spec0 w ≠ main_arg4))).trans (V_main_arg4 m c)
  unfold Pipeline.afterTail₀
  refine (host_eq _).trans ?_
  have key : ∀ x x' q q' v v' w w' a a', x = x' → q = q' → v = v' → w = w' → a = a' → joined x (whole q v w a) = joined x' (whole q' v' w' a') := by
    rintro _ _ _ _ _ _ _ _ _ _ rfl rfl rfl rfl rfl; rfl
  exact key _ _ _ _ _ _ _ _ _ _ h4 h2 h3 h0 ha

/-- The run. -/
theorem run : θ_run defs (onTc (τ := τ) (main (F := Ideal))) ⟨m, fun _ => 0, ρ⟩ (fun r => ∀ c : Dev nD,
      r.2.mem ((c.tc : Thread nD τ).loc main_v123)
        = joined (m ((c : Thread nD τ).loc main_arg4)) (whole (codes (m ((c : Thread nD τ).loc main_arg1))) (codes (m ((c : Thread nD τ).loc main_arg2)))
        (m ((c : Thread nD τ).loc main_arg0)) (m ((c : Thread nD τ).loc main_arg3)))) :=
  (θ_run defs _ _).mono (fun r h c => ((h c).2 main_v123 (by decide +kernel)).trans (result_eq m c)) (run_main m ρ)

end Cert.ReferenceIdeal.Value

end
-- ==== Proof.ReferenceAt.lean ====
/- The stages of `ReferenceIdeal`'s host operations, read at an index. -/
module

public import proofs.«01_k».proof.Proof.ReferenceRun
public import proofs.«01_k».proof.Proof.Ops

@[expose] public section

set_option maxRecDepth 16384

noncomputable section

namespace Cert.ReferenceIdeal.Value

open Cert.ReferenceIdeal Cert.ReferenceIdeal.Gen
open Idealize.ShloMosaic Idealize.ShloMosaic.TcCoe
open Cert.KernelIdeal.Ops (codeAt)

/-- The word a code lies in, by sequence position and channel. -/
def wordIx (b : Fin 8) (h : Fin 12) (p : Fin 2304) (d : Fin 160) : S8x12x5x144x128.Idx :=
  ix5 b h ⟨d.val / 32, by omega⟩ ⟨8 * (p.val / 128) + d.val % 32 / 4, by omega⟩ ⟨p.val % 128, by omega⟩

/-- A side value's place. -/
def sideIx (b : Fin 8) (h : Fin 12) (p : Fin 2304) (j : Fin 8) : S8x12x144x128.Idx :=
  ix4 b h ⟨8 * (p.val / 128) + j.val, by omega⟩ ⟨p.val % 128, by omega⟩

/-- The position at index `j` of chunk `n`'s window. -/
def windowPos (n : Fin 36) (j : Fin 128) : Fin 2304 := ⟨64 * ((n.val + 35 + j.val / 64) % 36) + j.val % 64, by omega⟩

theorem words_at (x : IVec S8x12x5x144x128 32) (b : Fin 8) (h : Fin 12) (j : Fin 5) (s : Fin 144) (l : Fin 128) :
    shapeCast S69120x128 x shapeCasts_S8x12x5x144x128_S69120x128 (ix2 ⟨b.val * 8640 + h.val * 720 + j.val * 144 + s.val, by omega⟩ l) = x (ix5 b h j s l) := by
  pointwise

theorem rows_at (x : IVec S8x12x5x144x128 32) (b : Fin 8) (h : Fin 12) (p : Fin 2304) (d : Fin 160) :
    rows (codes x) (ix4 b h p d) = codeAt (x (wordIx b h p d)) (d.val % 4) := by
  pointwise [rows]
  unfold codes k0_pay1
  show Ideal.ofBits .fp8e4m3 (bitcast S276480x128 8 _ bitcasts_S69120x128_w32_S276480x128_w8 _) = _
  rw [codeAt]
  refine congrArg (Ideal.ofBits .fp8e4m3) ((Cert.KernelIdeal.Ops.bitcast_byte _ _ _ _ ⟨b.val * 8640 + h.val * 720 + d.val / 32 * 144 + p.val / 128 * 8 + d.val % 32 / 4, by omega⟩ (by show b.val * 8640 + h.val * 720 + d.val / 32 * 144 + p.val / 128 * 8 + d.val % 32 / 4 = (b.val * 34560 + h.val * 2880 + d.val / 32 * 576 + p.val / 128 * 32 + d.val % 32) / 4; omega)).trans ?_)
  have e : 8 * ((b.val * 34560 + h.val * 2880 + d.val / 32 * 576 + p.val / 128 * 32 + d.val % 32) % 4) = 8 * (d.val % 4) := by omega
  rw [e]
  congr 1
  rw [Idealize.ShloMosaic.shapeCast_self]
  have key : ∀ (y : IVec S69120x128 32) (q q' : Fin 69120) (l : Fin 128), q.val = q'.val → y (ix2 q l) = y (ix2 q' l) := fun _ _ _ _ e => by rw [Fin.ext e]
  refine (key _ _ ⟨b.val * 8640 + h.val * 720 + d.val / 32 * 144 + (8 * (p.val / 128) + d.val % 32 / 4), by omega⟩ _ ?_).trans
    (words_at x b h ⟨d.val / 32, by omega⟩ ⟨8 * (p.val / 128) + d.val % 32 / 4, by omega⟩ ⟨p.val % 128, by omega⟩)
  show b.val * 8640 + h.val * 720 + d.val / 32 * 144 + p.val / 128 * 8 + d.val % 32 / 4 = b.val * 8640 + h.val * 720 + d.val / 32 * 144 + (8 * (p.val / 128) + d.val % 32 / 4)
  omega

theorem sides_at (x : FVec Ideal S8x12x144x128 .f32) (b : Fin 8) (h : Fin 12) (p : Fin 2304) (j : Fin 8) :
    sides x (ix4 b h p j) = x (sideIx b h p j) := by
  pointwise [sides]
  refine congrArg x ?_
  unfold sideIx
  congr 1
  exact Fin.ext (by simp only; omega)

theorem scales_at (x : FVec Ideal S8x12x2304x8 .f32) (b : Fin 8) (h : Fin 12) (p : Fin 2304) (j : Fin 5) :
    scales x (ix4 b h p j) = x (ix4 b h p ⟨j.val, by omega⟩) := by
  pointwise [scales]

theorem valScale_at (x : FVec Ideal S8x12x2304x8 .f32) (b : Fin 8) (h : Fin 12) (p : Fin 2304) :
    valScale x (ix3 b h p) = x (ix4 b h p 5) := by
  pointwise [valScale]

theorem laters_at (x : FVec Ideal S8x12x2304x8 .f32) (b : Fin 8) (h : Fin 12) (p : Fin 2304) :
    laters x (ix3 b h p) = x (ix4 b h p 6) := by
  pointwise [laters]

theorem keyRows_at (q : FVec Ideal S8x12x2304x160 .bf16) (s : FVec Ideal S8x12x2304x5 .f32) (b : Fin 8) (h : Fin 12) (p : Fin 2304) (d : Fin 160) :
    keyRows q s (ix4 b h p d) = q (ix4 b h p d) * s (ix4 b h p ⟨d.val / 32, by omega⟩) := by
  pointwise [keyRows]

theorem factors_at (k : FVec Ideal S8x12x2304x160 .bf16) (b : Fin 8) (h : Fin 12) (p : Fin 2304) :
    factors k (ix3 b h p) = Ideal.div (Ideal.rsqrt (Ideal.div (∑ d : Fin 160, k (ix4 b h p d) * k (ix4 b h p d)) (Ideal.ofBits .f32 0x43200000#32)
      + Ideal.ofBits .f32 0x358637BD#32)) (Ideal.sqrt (Ideal.ofBits .f32 0x43200000#32)) := by
  pointwise [factors]

theorem windows_at (k : FVec Ideal S8x12x2304x160 .bf16) (b : Fin 8) (h : Fin 12) (n : Fin 36) (j : Fin 128) (d : Fin 160) :
    windows (chunks k) (ix5 b h n j d) = k (ix4 b h (windowPos n j) d) := by
  pointwise [windows, chunks]
  have key : ∀ q q' : Fin 2304, q.val = q'.val → k (ix4 b h q d) = k (ix4 b h q' d) := fun q q' e => by rw [Fin.ext e]
  split_ifs <;> exact key _ _ (by simp only [windowPos]; omega)

theorem chunks_at (k : FVec Ideal S8x12x2304x160 .bf16) (b : Fin 8) (h : Fin 12) (n : Fin 36) (j : Fin 64) (d : Fin 160) :
    chunks k (ix5 b h n j d) = k (ix4 b h ⟨64 * n.val + j.val, by omega⟩ d) := by
  pointwise [chunks]
  congr 2
  exact Fin.ext (by simp only; omega)

theorem window_at (x : FVec Ideal S8x12x2304 .f32) (b : Fin 8) (h : Fin 12) (n : Fin 36) (j : Fin 128) :
    window x (ix4 b h n j) = x (ix3 b h (windowPos n j)) := by
  pointwise [window]
  have key : ∀ q q' : Fin 2304, q.val = q'.val → x (ix3 b h q) = x (ix3 b h q') := fun q q' e => by rw [Fin.ext e]
  split_ifs <;> exact key _ _ (by simp only [windowPos]; omega)

theorem dots_at (q : FVec Ideal S8x12x36x64x160 .bf16) (k : FVec Ideal S8x12x36x128x160 .bf16) (b : Fin 8) (h : Fin 12) (n : Fin 36) (c : Fin 64) (j : Fin 128) :
    dots q k (ix5 b h n c j) = ∑ d : Fin 160, q (ix5 b h n c d) * k (ix5 b h n j d) := by
  pointwise [dots]

theorem scaledDots_at (q : FVec Ideal S8x12x36x64x128 .f32) (f : FVec Ideal S8x12x36x128 .f32) (b : Fin 8) (h : Fin 12) (n : Fin 36) (c : Fin 64) (j : Fin 128) :
    scaledDots q f (ix5 b h n c j) = q (ix5 b h n c j) * f (ix4 b h n j) := by
  pointwise [scaledDots]

theorem scores_at (i : IVec S36x64x128 1) (g : FVec Ideal S36x64x128 .f32) (l : FVec Ideal S8x12x36x128 .f32) (s : FVec Ideal S8x12x36x64x128 .f32) (f : FVec Ideal S36x64x128 .f32)
    (b : Fin 8) (h : Fin 12) (n : Fin 36) (c : Fin 64) (j : Fin 128) :
    scores i g l s f (ix5 b h n c j) = if i (ix3 n c j) = 1#1 ∧ g (ix3 n c j) < l (ix4 b h n j) then s (ix5 b h n c j) else f (ix3 n c j) := by
  pointwise [scores]
  have hi : ∀ y : BitVec 1, y = 0#1 ∨ y = 1#1 := by decide
  by_cases hg : g (ix3 n c j) < l (ix4 b h n j) <;> rcases hi (i (ix3 n c j)) with h' | h' <;> simp [h', hg, Scalar.select, IntOp.andi]

theorem expos_at (s : FVec Ideal S8x12x36x64x128 .f32) (b : Fin 8) (h : Fin 12) (n : Fin 36) (c : Fin 64) (j : Fin 128) :
    expos s (ix5 b h n c j) = Ideal.exp (s (ix5 b h n c j) - Cert.KernelIdeal.Ops.maxAt (fun l => s (ix5 b h n c l))) := by
  pointwise [expos]
  rfl

theorem softmax_at (s : FVec Ideal S8x12x36x64x128 .f32) (b : Fin 8) (h : Fin 12) (n : Fin 36) (c : Fin 64) (j : Fin 128) :
    softmax s (ix5 b h n c j) = s (ix5 b h n c j) * Ideal.div 1 (∑ l : Fin 128, s (ix5 b h n c l)) := by
  pointwise [softmax]

theorem weights_at (s : FVec Ideal S8x12x36x64x128 .f32) (v : FVec Ideal S8x12x36x128 .f32) (b : Fin 8) (h : Fin 12) (n : Fin 36) (c : Fin 64) (j : Fin 128) :
    weights s v (ix5 b h n c j) = s (ix5 b h n c j) * v (ix4 b h n j) := by
  pointwise [weights]

theorem outs_at (s : FVec Ideal S8x12x36x64x128 .bf16) (v : FVec Ideal S8x12x36x128x160 .bf16) (b : Fin 8) (h : Fin 12) (p : Fin 2304) (d : Fin 160) :
    outs s v (ix4 b h p d) = ∑ j : Fin 128, s (ix5 b h ⟨p.val / 64, by omega⟩ ⟨p.val % 64, by omega⟩ j) * v (ix5 b h ⟨p.val / 64, by omega⟩ j d) := by
  pointwise [outs]

theorem places_at (w : IVec S24x3x4x2304 32) (b : Fin 8) (h : Fin 12) (r p : Fin 2304) :
    places w (ix4 b h r p) = if w (ix4 ⟨8 + b.val, by omega⟩ ⟨h.val / 4, by omega⟩ ⟨h.val % 4, by omega⟩ r) = BitVec.ofNat 32 p.val then 1 else 0 := by
  pointwise [places]
  by_cases e : w (ix4 ⟨8 + b.val, by omega⟩ ⟨h.val / 4, by omega⟩ ⟨h.val % 4, by omega⟩ r) = BitVec.ofNat 32 p.val
  · rw [if_pos e, e]
    show (((IntOp.cmpi CmpIPredicate.eq (BitVec.ofNat 32 p.val) (BitVec.ofNat 32 p.val)).toNat : ℝ) : EReal) = 1
    simp [IntOp.cmpi]
  · rw [if_neg e]
    show (((IntOp.cmpi CmpIPredicate.eq (w (ix4 ⟨8 + b.val, by omega⟩ ⟨h.val / 4, by omega⟩ ⟨h.val % 4, by omega⟩ r)) (BitVec.ofNat 32 p.val)).toNat : ℝ) : EReal) = 0
    simp [IntOp.cmpi, beq_eq_false_iff_ne.mpr e]

theorem placed_at (o : FVec Ideal S8x12x2304x160 .bf16) (q : FVec Ideal S8x12x2304x2304 .bf16) (b : Fin 8) (p : Fin 2304) (x : Fin 1920) :
    placed o q (ix3 b p x) = ∑ r : Fin 2304, o (ix4 b ⟨x.val / 160, by omega⟩ r ⟨x.val % 160, by omega⟩) * q (ix4 b ⟨x.val / 160, by omega⟩ r p) := by
  pointwise [placed]

theorem joined_at (x : FVec Ideal S24x2304x1920 .bf16) (r : FVec Ideal S8x2304x1920 .bf16) (b : Fin 24) (p : Fin 2304) (y : Fin 1920) :
    joined x r (ix3 b p y) = if 8 ≤ b.val ∧ b.val < 16 then r (ix3 ⟨(b.val - 8) % 8, by omega⟩ p y) else x (ix3 b p y) := by
  pointwise [joined]
  have key : ∀ q q' : Fin 24, q.val = q'.val → x (ix3 q p y) = x (ix3 q' p y) := fun q q' e => by rw [Fin.ext e]
  have key' : ∀ q q' : Fin 8, q.val = q'.val → r (ix3 q p y) = r (ix3 q' p y) := fun q q' e => by rw [Fin.ext e]
  have e2 : S8x2304x1920.size 0 = 8 := rfl
  refine (show (if _h : b.val < 8 then x (ix3 b p y) else if _h : b.val - 8 < 8 then r (ix3 ⟨b.val - 8, by omega⟩ p y) else x (ix3 ⟨16 + (b.val - 8 - 8), by omega⟩ p y)) = _ from ?_)
  by_cases h1 : b.val < 8
  · rw [dif_pos h1, if_neg (by omega)]
  · rw [dif_neg h1]
    by_cases h2 : b.val - 8 < 8
    · rw [dif_pos h2, if_pos (by omega)]
      exact key' _ _ (by show b.val - 8 = (b.val - 8) % 8; omega)
    · rw [dif_neg h2, if_neg (by omega)]
      exact key _ _ (by show 16 + (b.val - 8 - 8) = b.val; omega)

theorem inside_at (n : Fin 36) (c : Fin 64) (j : Fin 128) : inside (ix3 n c j) = 1#1 ↔ (0 < n.val ∨ 64 ≤ j.val) := by
  pointwise [inside]
  have h1 : ∀ n : Fin 36, IntOp.cmpi CmpIPredicate.sgt (BitVec.ofNat 32 n.val) 0#32 = if 0 < n.val then 1#1 else 0#1 := by decide +kernel
  have h2 : ∀ j : Fin 128, IntOp.cmpi CmpIPredicate.sge (IntOp.subi (BitVec.ofNat 32 j.val) 64#32) 0#32 = if 64 ≤ j.val then 1#1 else 0#1 := by decide +kernel
  rw [h1, h2]
  by_cases e1 : 0 < n.val <;> by_cases e2 : 64 ≤ j.val <;> simp [e1, e2, IntOp.ori]

/-- The gap of a query to a key, `2^20` if the key does not lie before it. -/
def gapVal (q k : ℕ) : EReal := (((if k < q then ((q - k - 1 : ℕ) : ℤ) else 1048576 : ℤ) : ℝ) : EReal)

theorem gaps_at (n : Fin 36) (c : Fin 64) (j : Fin 128) : gaps (ix3 n c j) = gapVal (c.val + 64) j.val := by
  pointwise [gaps]
  have h1 : ∀ c : Fin 64, ∀ j : Fin 128, (Scalar.select (IntOp.cmpi CmpIPredicate.slt (IntOp.subi (BitVec.ofNat 32 j.val) 64#32) (BitVec.ofNat 32 c.val))
        (IntOp.subi (IntOp.subi (BitVec.ofNat 32 c.val) (IntOp.subi (BitVec.ofNat 32 j.val) 64#32)) 1#32) 1048576#32).toInt
      = if j.val < c.val + 64 then ((c.val + 64 - j.val - 1 : ℕ) : ℤ) else 1048576 := by decide +kernel
  show (((Scalar.select (IntOp.cmpi CmpIPredicate.slt (IntOp.subi (BitVec.ofNat 32 j.val) 64#32) (BitVec.ofNat 32 c.val))
        (IntOp.subi (IntOp.subi (BitVec.ofNat 32 c.val) (IntOp.subi (BitVec.ofNat 32 j.val) 64#32)) 1#32) 1048576#32).toInt : ℝ) : EReal) = _
  rw [h1]
  rfl

theorem fills_at (n : Fin 36) (c : Fin 64) (j : Fin 128) : fills (ix3 n c j) = if j.val = c.val + 64 then Ideal.ofBits .f32 0xC7C35000#32 else Ideal.ofBits .f32 0xCE6E6B28#32 := by
  pointwise [fills]
  have h1 : ∀ c : Fin 64, ∀ j : Fin 128, IntOp.cmpi CmpIPredicate.eq (IntOp.subi (BitVec.ofNat 32 j.val) 64#32) (BitVec.ofNat 32 c.val)
      = if j.val = c.val + 64 then 1#1 else 0#1 := by decide +kernel
  rw [h1]
  split_ifs <;> rfl

end Cert.ReferenceIdeal.Value

end
-- ==== Proof.KernelIdealTables.lean ====
/- The tables `KernelIdeal`'s host operations make for the kernel, and its named constants. -/
module

public import proofs.«01_k».proof.Proof.Gen.KernelIdeal.Frame
public import Idealize.ShloMosaic.Lib.Pipeline.ValueKit
public import Idealize.ShloMosaic.PureOps.Ideal
public import Idealize.ShloMosaic.Lib.StableHlo.ReadAt
public import proofs.«01_k».proof.Proof.Softmax
public import proofs.«01_k».proof.Proof.ReferenceAt

@[expose] public section

set_option maxRecDepth 16384

noncomputable section

namespace Cert.KernelIdeal.Value

open Cert.KernelIdeal Cert.KernelIdeal.Gen
open Idealize.ShloMosaic Idealize.ShloMosaic.TcCoe

variable (m : (ℓ : Loc nD τ sig) → Buf (Elt Ideal) ℓ)

/-- The window index of the key in lane `l` of query `q` of a tile. -/
def slot (q l : Fin 128) : Fin 128 := ⟨if q.val < 64 then (l.val + 64) % 128 else l.val, by split <;> omega⟩

set_option maxHeartbeats 4000000 in
theorem gap_word : ∀ q l : Fin 128,
    (Scalar.select
        (IntOp.cmpi CmpIPredicate.slt
          (Scalar.select
            (IntOp.andi (IntOp.cmpi CmpIPredicate.slt (BitVec.ofNat 32 q.val) 64#32) (IntOp.cmpi CmpIPredicate.sge (BitVec.ofNat 32 l.val) 64#32))
            (IntOp.subi (BitVec.ofNat 32 l.val) 128#32) (BitVec.ofNat 32 l.val))
          (BitVec.ofNat 32 q.val))
        (IntOp.subi
          (IntOp.subi (BitVec.ofNat 32 q.val)
            (Scalar.select
              (IntOp.andi (IntOp.cmpi CmpIPredicate.slt (BitVec.ofNat 32 q.val) 64#32) (IntOp.cmpi CmpIPredicate.sge (BitVec.ofNat 32 l.val) 64#32))
              (IntOp.subi (BitVec.ofNat 32 l.val) 128#32) (BitVec.ofNat 32 l.val)))
          1#32)
        1048576#32).toInt
      = if (slot q l).val < q.val % 64 + 64 then ((q.val % 64 + 64 - (slot q l).val - 1 : ℕ) : ℤ) else 1048576 := by decide +kernel

theorem same_word : ∀ q l : Fin 128,
    IntOp.cmpi CmpIPredicate.eq
        (Scalar.select
          (IntOp.andi (IntOp.cmpi CmpIPredicate.slt (BitVec.ofNat 32 q.val) 64#32) (IntOp.cmpi CmpIPredicate.sge (BitVec.ofNat 32 l.val) 64#32))
          (IntOp.subi (BitVec.ofNat 32 l.val) 128#32) (BitVec.ofNat 32 l.val))
        (BitVec.ofNat 32 q.val)
      = if (slot q l).val = q.val % 64 + 64 then 1#1 else 0#1 := by decide +kernel

theorem div_log (x : EReal) : Ideal.div x (Ideal.log (Ideal.ofBits FTy.f32 1073741824#32)) = x * (Softmax.invLog : EReal) := by
  have h2 : Ideal.ofBits FTy.f32 1073741824#32 = ((2 : ℝ) : EReal) := by
    simp [Ideal.ofBits, Ideal.ieee, -EReal.coe_mul]
    try norm_num
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  have h0 : Real.log 2 ≠ 0 := (Real.log_pos (by norm_num)).ne'
  rw [h2, hl]
  unfold Ideal.div Softmax.invLog
  rw [if_neg (by exact_mod_cast h0), EReal.coe_inv]

theorem dist_at (c : Dev nD) (q l : Fin 128) :
    (V m c main_v15 : FVec Ideal S128x128 .f32) (ix2 q l) = ReferenceIdeal.Value.gapVal (q.val % 64 + 64) (slot q l).val := by
  unfold V
  after_reads_simp
  simp -implicitDefEqProofs only [StableHlo.TRef.toBuf, StableHlo.TRef.ofBuf, cast_cast, cast_eq]
  pointwise
  unfold ReferenceIdeal.Value.gapVal
  rw [← gap_word q l]
  rfl

theorem fill_at (c : Dev nD) (q l : Fin 128) :
    (V m c main_v20 : FVec Ideal S128x128 .f32) (ix2 q l)
      = (if (slot q l).val = q.val % 64 + 64 then Ideal.ofBits .f32 0xC7C35000#32 else Ideal.ofBits .f32 0xCE6E6B28#32) * (Softmax.invLog : EReal) := by
  unfold V
  after_reads_simp
  simp -implicitDefEqProofs only [StableHlo.TRef.toBuf, StableHlo.TRef.ofBuf, cast_cast, cast_eq]
  pointwise
  refine (div_log _).trans ?_
  congr 1
  rw [same_word]
  split_ifs <;> rfl

theorem invD : Named.named (F := Ideal) κ "inv_d" (φ := .f32) 1003277517#32 = ((1 / 160 : ℝ) : EReal) := rfl
theorem scale : Named.named (F := Ideal) κ "scale" (φ := .f32) 1038718387#32 = (((Real.sqrt 160)⁻¹ * (Real.log 2)⁻¹ : ℝ) : EReal) := rfl

theorem bits160 : Ideal.ofBits FTy.f32 0x43200000#32 = ((160 : ℝ) : EReal) := by
  simp [Ideal.ofBits, Ideal.ieee, -EReal.coe_mul]
  try norm_num

/-- The factor of a key, the kernel's and the reference's. -/
theorem factor_eq (x : EReal) :
    Ideal.rsqrt (x * ((1 / 160 : ℝ) : EReal) + Ideal.ofBits FTy.f32 897988541#32) * (((Real.sqrt 160)⁻¹ * (Real.log 2)⁻¹ : ℝ) : EReal)
      = Ideal.div (Ideal.rsqrt (Ideal.div x (Ideal.ofBits FTy.f32 0x43200000#32) + Ideal.ofBits FTy.f32 0x358637BD#32)) (Ideal.sqrt (Ideal.ofBits FTy.f32 0x43200000#32))
        * (Softmax.invLog : EReal) := by
  have h1 : Ideal.div x ((160 : ℝ) : EReal) = x * ((1 / 160 : ℝ) : EReal) := by
    unfold Ideal.div
    rw [if_neg (by exact_mod_cast (by norm_num : (160 : ℝ) ≠ 0)), ← EReal.coe_inv, one_div]
  have h2 : Ideal.sqrt ((160 : ℝ) : EReal) = ((Real.sqrt 160 : ℝ) : EReal) := by
    show (if (160 : ℝ) < 0 then (⊥ : EReal) else ((Real.sqrt 160 : ℝ) : EReal)) = _
    rw [if_neg (by norm_num)]
  have h0 : Real.sqrt 160 ≠ 0 := (Real.sqrt_pos.mpr (by norm_num)).ne'
  have h3 : ∀ y : EReal, Ideal.div y ((Real.sqrt 160 : ℝ) : EReal) = y * (((Real.sqrt 160)⁻¹ : ℝ) : EReal) := fun y => by
    unfold Ideal.div
    rw [if_neg (by exact_mod_cast h0), ← EReal.coe_inv]
  rw [bits160, h1, h2, h3, EReal.coe_mul, ← mul_assoc]
  rfl

end Cert.KernelIdeal.Value

end
-- ==== Proof.Attend.lean ====
/- A head of the kernel is the reference's attention at every position. -/
module

public import proofs.«01_k».proof.Proof.KernelIdealResult
public import proofs.«01_k».proof.Proof.KernelIdealTables

@[expose] public section

set_option maxRecDepth 16384

noncomputable section

namespace Cert.Attend

open Idealize.ShloMosaic
open Cert.KernelIdeal.Ops (codeAt rowOf col maxAt)
open Cert.KernelIdeal.Value (slot wordsOf sidesOf)
open Cert.ReferenceIdeal.Value

/-- A batch's head, of a group and a head of it. -/
def headOf (g : Fin 3) (h : Fin 4) : Fin 12 := ⟨4 * g.val + h.val, by omega⟩

variable (q v : Vec Ideal Cert.ReferenceIdeal.S8x12x5x144x128 .i32) (a : Vec Ideal Cert.ReferenceIdeal.S8x12x144x128 .f32) (b : Fin 8) (g : Fin 3) (h : Fin 4)

/-- The reference's keys. -/
def refKeys : FVec Ideal Cert.ReferenceIdeal.S8x12x2304x160 .bf16 := keyRows (rows (codes q)) (Cert.ReferenceIdeal.Value.scales (sides a))

/-- The reference's scores. -/
def refScores : FVec Ideal Cert.ReferenceIdeal.S8x12x36x64x128 .f32 :=
  Cert.ReferenceIdeal.Value.scores inside gaps (window (laters (sides a))) (scaledDots (dots (chunks (refKeys q a)) (windows (chunks (refKeys q a)))) (window (factors (refKeys q a)))) fills

/-- The reference's results, in sorted order. -/
def refOuts : FVec Ideal Cert.ReferenceIdeal.S8x12x2304x160 .bf16 :=
  outs (weights (softmax (expos (refScores q a))) (window (valScale (sides a)))) (windows (chunks (rows (codes v))))

theorem key_eq (d : Fin 160) (p : Fin 2304) :
    Cert.KernelIdeal.Head.keyAt (wordsOf q b g) (sidesOf a b g) h d p = refKeys q a (ix4 b (headOf g h) p d) := by
  unfold refKeys
  rw [keyRows_at, rows_at, scales_at, sides_at]
  have key : ∀ j j' : Fin 8, j = j' → sidesOf a b g (ix4 0 h ⟨8 * (p.val / 128) + j.val, by omega⟩ ⟨p.val % 128, by omega⟩) = a (sideIx b (headOf g h) p j') := by
    rintro _ _ rfl; rfl
  exact congrArg₂ (· * ·) rfl (key (rowOf (d.val / 32)) ⟨d.val / 32, by omega⟩ (Fin.ext (by show d.val / 32 % 8 = d.val / 32; omega)))

theorem val_eq (d : Fin 160) (p : Fin 2304) :
    Cert.KernelIdeal.Head.valAt (wordsOf v b g) (sidesOf a b g) h d p
      = rows (codes v) (ix4 b (headOf g h) p d) * valScale (sides a) (ix3 b (headOf g h) p) := by
  rw [rows_at, valScale_at, sides_at]
  rfl

theorem factor_eq (p : Fin 2304) :
    Cert.KernelIdeal.Head.factorAt (wordsOf q b g) (sidesOf a b g) h p = factors (refKeys q a) (ix3 b (headOf g h) p) * (Softmax.invLog : EReal) := by
  rw [factors_at]
  unfold Cert.KernelIdeal.Head.factorAt
  simp only [key_eq]
  rw [Cert.KernelIdeal.Value.invD, Cert.KernelIdeal.Value.scale]
  exact Cert.KernelIdeal.Value.factor_eq _

/-- The lane's position is the window's. -/
theorem pos_eq (p : Fin 2304) (l : Fin 128) :
    Cert.KernelIdeal.Head.posAt (Cert.KernelIdeal.Head.laneAt p l) = windowPos ⟨p.val / 64, by omega⟩ (slot ⟨p.val % 128, by omega⟩ l) := by
  apply Fin.ext
  have hp := p.isLt
  have hl := l.isLt
  show (if 128 * (p.val / 128) + (if p.val % 128 < 64 ∧ 64 ≤ l.val then l.val else 128 + l.val) < 128
      then 128 * (p.val / 128) + (if p.val % 128 < 64 ∧ 64 ≤ l.val then l.val else 128 + l.val) + 2176
      else 128 * (p.val / 128) + (if p.val % 128 < 64 ∧ 64 ≤ l.val then l.val else 128 + l.val) - 128)
    = 64 * ((p.val / 64 + 35 + (if p.val % 128 < 64 then (l.val + 64) % 128 else l.val) / 64) % 36) + (if p.val % 128 < 64 then (l.val + 64) % 128 else l.val) % 64
  split_ifs <;> omega

theorem gap_nonneg (x y : ℕ) : 0 ≤ gapVal x y := by
  unfold gapVal
  split_ifs <;> exact_mod_cast (by positivity)

/-- A key is seen by the kernel where it is by the reference. -/
theorem seen_eq (p : Fin 2304) (l : Fin 128) :
    (gapVal (p.val % 128 % 64 + 64) (slot ⟨p.val % 128, by omega⟩ l).val < Cert.KernelIdeal.Head.laterAt (sidesOf a b g) h (Cert.KernelIdeal.Head.laneAt p l))
      ↔ (inside (ix3 ⟨p.val / 64, by omega⟩ ⟨p.val % 64, by omega⟩ (slot ⟨p.val % 128, by omega⟩ l)) = 1#1
        ∧ gaps (ix3 ⟨p.val / 64, by omega⟩ ⟨p.val % 64, by omega⟩ (slot ⟨p.val % 128, by omega⟩ l))
          < window (laters (sides a)) (ix4 b (headOf g h) ⟨p.val / 64, by omega⟩ (slot ⟨p.val % 128, by omega⟩ l))) := by
  have hp := p.isLt
  have hl := l.isLt
  have hlane : (Cert.KernelIdeal.Head.laneAt p l).val = 128 * (p.val / 128) + (if p.val % 128 < 64 ∧ 64 ≤ l.val then l.val else 128 + l.val) := rfl
  have hslot : (slot ⟨p.val % 128, by omega⟩ l).val = if p.val % 128 < 64 then (l.val + 64) % 128 else l.val := rfl
  rw [inside_at, gaps_at, window_at, laters_at, sides_at]
  have e64 : p.val % 128 % 64 = p.val % 64 := by omega
  rw [e64]
  by_cases hx : (Cert.KernelIdeal.Head.laneAt p l).val < 128
  · have hn : ¬ (0 < p.val / 64 ∨ 64 ≤ (slot ⟨p.val % 128, by omega⟩ l).val) := by
      rw [hslot]; rw [hlane] at hx
      split_ifs at hx ⊢ <;> omega
    have hneg : Ideal.ofBits FTy.f32 0xBF800000#32 = ((-1 : ℝ) : EReal) := by
      simp [Ideal.ofBits, Ideal.ieee, -EReal.coe_mul]
      try norm_num
    constructor
    · intro hlt
      exfalso
      unfold Cert.KernelIdeal.Head.laterAt at hlt
      rw [dif_pos hx, hneg] at hlt
      have h0 := lt_of_le_of_lt (gap_nonneg _ _) hlt
      have h1 : (0 : ℝ) < -1 := by exact_mod_cast h0
      norm_num at h1
    · exact fun h' => absurd h'.1 hn
  · have hy : (0 < p.val / 64 ∨ 64 ≤ (slot ⟨p.val % 128, by omega⟩ l).val) := by
      rw [hslot]; rw [hlane] at hx
      split_ifs at hx ⊢ <;> omega
    have hpos : (windowPos ⟨p.val / 64, by omega⟩ (slot ⟨p.val % 128, by omega⟩ l)).val = (Cert.KernelIdeal.Head.laneAt p l).val - 128 := by
      rw [← pos_eq]
      show (if (Cert.KernelIdeal.Head.laneAt p l).val < 128 then _ else _) = _
      rw [if_neg hx]
    have hl : Cert.KernelIdeal.Head.laterAt (sidesOf a b g) h (Cert.KernelIdeal.Head.laneAt p l)
        = a (sideIx b (headOf g h) (windowPos ⟨p.val / 64, by omega⟩ (slot ⟨p.val % 128, by omega⟩ l)) 6) := by
      unfold Cert.KernelIdeal.Head.laterAt
      rw [dif_neg hx]
      unfold sideIx
      simp only [hpos]
      rfl
    rw [hl]
    exact ⟨fun h' => ⟨hy, h'⟩, fun h' => h'.2⟩

variable (x4 x5 : Vec Ideal Cert.KernelIdeal.S128x128 .f32)
  (h4 : ∀ r l : Fin 128, x4 (ix2 r l) = gapVal (r.val % 64 + 64) (slot r l).val)
  (h5 : ∀ r l : Fin 128, x5 (ix2 r l) = (if (slot r l).val = r.val % 64 + 64 then Ideal.ofBits .f32 0xC7C35000#32 else Ideal.ofBits .f32 0xCE6E6B28#32) * (Softmax.invLog : EReal))

include h4 h5 in
theorem score_eq (p : Fin 2304) (l : Fin 128) :
    Cert.KernelIdeal.Head.score (wordsOf q b g) (sidesOf a b g) x4 x5 h p l
      = refScores q a (ix5 b (headOf g h) ⟨p.val / 64, by omega⟩ ⟨p.val % 64, by omega⟩ (slot ⟨p.val % 128, by omega⟩ l)) * (Softmax.invLog : EReal) := by
  unfold Cert.KernelIdeal.Head.score refScores
  have e64 : p.val % 128 % 64 = p.val % 64 := by omega
  have epos : (⟨64 * (p.val / 64) + p.val % 64, by omega⟩ : Fin 2304) = p := Fin.ext (by show 64 * (p.val / 64) + p.val % 64 = p.val; omega)
  rw [scores_at, h4, h5, fills_at]
  by_cases hs : (gapVal (p.val % 128 % 64 + 64) (slot ⟨p.val % 128, by omega⟩ l).val < Cert.KernelIdeal.Head.laterAt (sidesOf a b g) h (Cert.KernelIdeal.Head.laneAt p l))
  · rw [if_pos hs, if_pos ((seen_eq a b g h p l).mp hs), scaledDots_at, dots_at, window_at, factor_eq, pos_eq, mul_assoc]
    congr 1
    refine Finset.sum_congr rfl fun d _ => ?_
    rw [chunks_at, windows_at, key_eq, key_eq]
    congr 2
    rw [epos]
  · rw [if_neg hs, if_neg (fun h' => hs ((seen_eq a b g h p l).mpr h'))]
    simp only [e64]

/-- The lanes, as a rearrangement of the window. -/
def slots (r : Fin 128) : Equiv.Perm (Fin 128) where
  toFun := slot r
  invFun := slot r
  left_inv l := Fin.ext (by
    show (if r.val < 64 then ((if r.val < 64 then (l.val + 64) % 128 else l.val) + 64) % 128 else (if r.val < 64 then (l.val + 64) % 128 else l.val)) = l.val
    have := l.isLt
    split_ifs <;> omega)
  right_inv l := Fin.ext (by
    show (if r.val < 64 then ((if r.val < 64 then (l.val + 64) % 128 else l.val) + 64) % 128 else (if r.val < 64 then (l.val + 64) % 128 else l.val)) = l.val
    have := l.isLt
    split_ifs <;> omega)

include h4 h5 in
theorem attend_eq (d : Fin 160) (p : Fin 2304) :
    Cert.KernelIdeal.Head.attend (wordsOf q b g) (wordsOf v b g) (sidesOf a b g) x4 x5 h d p = refOuts q v a (ix4 b (headOf g h) p d) := by
  have hw : Cert.KernelIdeal.Head.score (wordsOf q b g) (sidesOf a b g) x4 x5 h p
      = fun l => refScores q a (ix5 b (headOf g h) ⟨p.val / 64, by omega⟩ ⟨p.val % 64, by omega⟩ (slots ⟨p.val % 128, by omega⟩ l)) * (Softmax.invLog : EReal) :=
    funext fun l => score_eq q a b g h x4 x5 h4 h5 p l
  have hpow : ∀ l, Cert.KernelIdeal.Head.power (wordsOf q b g) (sidesOf a b g) x4 x5 h p l
      = Ideal.exp (refScores q a (ix5 b (headOf g h) ⟨p.val / 64, by omega⟩ ⟨p.val % 64, by omega⟩ (slots ⟨p.val % 128, by omega⟩ l))
        - Softmax.top fun j => refScores q a (ix5 b (headOf g h) ⟨p.val / 64, by omega⟩ ⟨p.val % 64, by omega⟩ j)) := fun l => by
    unfold Cert.KernelIdeal.Head.power
    rw [hw]
    refine (Softmax.power_eq (fun l => refScores q a (ix5 b (headOf g h) ⟨p.val / 64, by omega⟩ ⟨p.val % 64, by omega⟩ (slots ⟨p.val % 128, by omega⟩ l))) l).trans ?_
    rw [Softmax.top_reindex (fun j => refScores q a (ix5 b (headOf g h) ⟨p.val / 64, by omega⟩ ⟨p.val % 64, by omega⟩ j))]
  have hval : ∀ l, Cert.KernelIdeal.Head.valAt (wordsOf v b g) (sidesOf a b g) h d (Cert.KernelIdeal.Head.posAt (Cert.KernelIdeal.Head.laneAt p l))
      = rows (codes v) (ix4 b (headOf g h) (windowPos ⟨p.val / 64, by omega⟩ (slots ⟨p.val % 128, by omega⟩ l)) d)
        * valScale (sides a) (ix3 b (headOf g h) (windowPos ⟨p.val / 64, by omega⟩ (slots ⟨p.val % 128, by omega⟩ l))) := fun l => by
    rw [val_eq, pos_eq]; rfl
  unfold Cert.KernelIdeal.Head.attend refOuts
  rw [outs_at]
  simp only [hpow, hval, weights_at, softmax_at, expos_at, windows_at, window_at]
  have hk := Softmax.sum_eq (fun j => refScores q a (ix5 b (headOf g h) ⟨p.val / 64, by omega⟩ ⟨p.val % 64, by omega⟩ j))
    (fun j => rows (codes v) (ix4 b (headOf g h) (windowPos ⟨p.val / 64, by omega⟩ j) d))
    (fun j => valScale (sides a) (ix3 b (headOf g h) (windowPos ⟨p.val / 64, by omega⟩ j)))
  refine Eq.trans ?_ hk
  exact congrArg₂ (fun x y => x * Ideal.div 1 y)
    (Equiv.sum_comp (slots ⟨p.val % 128, by omega⟩) fun j => rows (codes v) (ix4 b (headOf g h) (windowPos ⟨p.val / 64, by omega⟩ j) d) * valScale (sides a) (ix3 b (headOf g h) (windowPos ⟨p.val / 64, by omega⟩ j))
      * Ideal.exp (refScores q a (ix5 b (headOf g h) ⟨p.val / 64, by omega⟩ ⟨p.val % 64, by omega⟩ j)
        - Softmax.top fun j => refScores q a (ix5 b (headOf g h) ⟨p.val / 64, by omega⟩ ⟨p.val % 64, by omega⟩ j)))
    (Equiv.sum_comp (slots ⟨p.val % 128, by omega⟩) fun j => 1
      * Ideal.exp (refScores q a (ix5 b (headOf g h) ⟨p.val / 64, by omega⟩ ⟨p.val % 64, by omega⟩ j)
        - Softmax.top fun j => refScores q a (ix5 b (headOf g h) ⟨p.val / 64, by omega⟩ ⟨p.val % 64, by omega⟩ j)))

end Cert.Attend

end
-- ==== Proof.Algebraic.lean ====
/- The two runs end with the same result. -/
module

public import proofs.«01_k».proof.Defs
public import proofs.«01_k».proof.Proof.Attend
public import proofs.«01_k».proof.Proof.KernelIdealSide

@[expose] public section

set_option maxRecDepth 16384

noncomputable section

namespace Cert.Algebraic

open Idealize.ShloMosaic Idealize.ShloMosaic.TcCoe Idealize.SL.Sem
open Cert.KernelIdeal.Value (rowAt posOf rowAt_val rowAt_injective headAt resultAt)
open Cert.ReferenceIdeal.Value
open Cert.Attend

theorem rowAt_posOf {w : Perm.PermArr} (hp : Perm.Onto w) (b : Fin 8) (g : Fin 3) (h : Fin 4) (p : Fin 2304) : rowAt w b g h (posOf w b g h p) = p :=
  Function.rightInverse_invFun (Finite.injective_iff_surjective.mp (rowAt_injective hp b g h)) p

theorem names_row {w : Perm.PermArr} (hp : Perm.Onto w) (b : Fin 8) (g : Fin 3) (h : Fin 4) (p r : Fin 2304) :
    w (ix4 ⟨8 + b.val, by omega⟩ g h r) = BitVec.ofNat 32 p.val ↔ r = posOf w b g h p := by
  have hlt := p.isLt
  have e2 : (BitVec.ofNat 32 p.val).toNat = p.val := by rw [BitVec.toNat_ofNat]; omega
  constructor
  · intro e
    have e1 := ((rowAt_val hp b g h r).symm.trans (congrArg BitVec.toNat e)).trans e2
    exact rowAt_injective hp b g h ((Fin.ext e1).trans (rowAt_posOf hp b g h p).symm)
  · rintro rfl
    exact BitVec.eq_of_toNat_eq (((rowAt_val hp b g h _).trans (congrArg Fin.val (rowAt_posOf hp b g h p))).trans e2.symm)

/-- Of the sorted positions, one is placed at a row. -/
theorem place_sum {w : Perm.PermArr} (hp : Perm.Onto w) (b : Fin 8) (g : Fin 3) (h : Fin 4) (p : Fin 2304) (f : Fin 2304 → EReal) :
    ∑ r : Fin 2304, f r * places w (ix4 b (headOf g h) r p) = f (posOf w b g h p) := by
  have key : ∀ (g' : Fin 3) (h' : Fin 4) (r : Fin 2304), g' = g → h' = h →
      ((w (ix4 ⟨8 + b.val, by omega⟩ g' h' r) = BitVec.ofNat 32 p.val) ↔ r = posOf w b g h p) := fun _ _ r hg hh => by
    rw [hg, hh]; exact names_row hp b g h p r
  have e : ∀ r : Fin 2304, f r * places w (ix4 b (headOf g h) r p) = if r = posOf w b g h p then f r else 0 := fun r => by
    rw [places_at]
    by_cases hr : r = posOf w b g h p
    · rw [if_pos hr, if_pos ((key _ _ r (Fin.ext (by show (4 * g.val + h.val) / 4 = g.val; omega)) (Fin.ext (by show (4 * g.val + h.val) % 4 = h.val; omega))).mpr hr), mul_one]
    · rw [if_neg hr, if_neg (fun e => hr ((key _ _ r (Fin.ext (by show (4 * g.val + h.val) / 4 = g.val; omega)) (Fin.ext (by show (4 * g.val + h.val) % 4 = h.val; omega))).mp e)), mul_zero]
  rw [Finset.sum_congr rfl fun r _ => e r, Finset.sum_ite_eq', if_pos (Finset.mem_univ _)]

section
variable (m : (ℓ : Loc Cert.KernelIdeal.nD Cert.KernelIdeal.τ Cert.KernelIdeal.sig) → Buf (Elt Ideal) ℓ)

/-- The result of the two runs. -/
def result (c : Dev Cert.KernelIdeal.nD) : Vec Ideal Cert.KernelIdeal.S24x2304x1920 .bf16 := fun i =>
  if 8 ≤ (i 0).val ∧ (i 0).val < 16 then resultAt m c i else m ((c : Thread Cert.KernelIdeal.nD Cert.KernelIdeal.τ).loc Cert.KernelIdeal.main_arg4) i

theorem head_eq (c : Dev Cert.KernelIdeal.nD) (b : Fin 8) (g : Fin 3) (h : Fin 4) (d : Fin 160) (p : Fin 2304) :
    headAt m c b g h d p = refOuts (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (ix4 b (headOf g h) (posOf (m ((c : Thread Cert.KernelIdeal.nD Cert.KernelIdeal.τ).loc Cert.KernelIdeal.main_arg0)) b g h p) d) :=
  attend_eq _ _ _ b g h _ _ (Cert.KernelIdeal.Value.dist_at m c) (Cert.KernelIdeal.Value.fill_at m c) d _

theorem result_eq (c : Dev Cert.KernelIdeal.nD) (hp : Perm.Onto (m ((c : Thread Cert.KernelIdeal.nD Cert.KernelIdeal.τ).loc Cert.KernelIdeal.main_arg0))) :
    joined (m ((c : Thread Cert.KernelIdeal.nD Cert.KernelIdeal.τ).loc Cert.KernelIdeal.main_arg4))
      (whole (codes (m ((c : Thread Cert.KernelIdeal.nD Cert.KernelIdeal.τ).loc Cert.KernelIdeal.main_arg1)))
        (codes (m ((c : Thread Cert.KernelIdeal.nD Cert.KernelIdeal.τ).loc Cert.KernelIdeal.main_arg2)))
        (m ((c : Thread Cert.KernelIdeal.nD Cert.KernelIdeal.τ).loc Cert.KernelIdeal.main_arg0))
        (m ((c : Thread Cert.KernelIdeal.nD Cert.KernelIdeal.τ).loc Cert.KernelIdeal.main_arg3))) = result m c := by
  funext i
  obtain ⟨b, p, x, rfl⟩ : ∃ (b : Fin 24) (p : Fin 2304) (x : Fin 1920), i = ix3 b p x := ⟨i 0, i 1, i 2, by
    funext z; match z with | ⟨0, _⟩ => rfl | ⟨1, _⟩ => rfl | ⟨2, _⟩ => rfl⟩
  have hx := x.isLt
  rw [joined_at]
  show _ = if 8 ≤ b.val ∧ b.val < 16 then resultAt m c (ix3 b p x) else _
  split_ifs with hb
  · show placed (refOuts (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3)))
        (places (m ((c : Thread Cert.KernelIdeal.nD Cert.KernelIdeal.τ).loc Cert.KernelIdeal.main_arg0))) (ix3 ⟨(b.val - 8) % 8, by omega⟩ p x)
      = headAt m c ⟨(b.val - 8) % 8, by omega⟩ ⟨x.val / 640, by omega⟩ ⟨x.val % 640 / 160, by omega⟩ ⟨x.val % 160, by omega⟩ p
    rw [head_eq, placed_at]
    have key : ∀ (H H' : Fin 12) (hH : H = H') (o : FVec Ideal Cert.ReferenceIdeal.S8x12x2304x160 .bf16) (q : FVec Ideal Cert.ReferenceIdeal.S8x12x2304x2304 .bf16) (b : Fin 8) (d : Fin 160),
        ∑ r : Fin 2304, o (ix4 b H r d) * q (ix4 b H r p) = ∑ r : Fin 2304, o (ix4 b H' r d) * q (ix4 b H' r p) := by
      rintro _ _ rfl _ _ _ _; rfl
    refine (key _ (headOf ⟨x.val / 640, by omega⟩ ⟨x.val % 640 / 160, by omega⟩) (Fin.ext (by show x.val / 160 = 4 * (x.val / 640) + x.val % 640 / 160; omega)) _ _ _ _).trans ?_
    exact place_sum hp _ _ _ p fun r => refOuts _ _ _ (ix4 _ (headOf _ _) r _)
  · rfl

end

theorem algebraic : Cert.algebraic_KernelIdeal_ReferenceIdeal_pre_perm_onto := by
  intro m g m' g' hpre hargs
  have hp : ∀ c : Dev Cert.KernelIdeal.nD, Perm.Onto (m ((c : Thread Cert.KernelIdeal.nD Cert.KernelIdeal.τ).loc Cert.KernelIdeal.main_arg0)) :=
    fun c => Perm.onto_of_pre (hpre c)
  refine ⟨fun c => result m c, ?_, ?_⟩
  · have h1 := Cert.KernelIdeal.Value.run_main m g hp
    have h2 := Cert.KernelIdeal.Run.unchanged m g (Cert.KernelIdeal.Run.hyps_of_inRange m fun c => (hp c).inRange)
    refine (θ_run Cert.KernelIdeal.defs _ _).mono (fun r h c => ⟨?_, h.2 c⟩) (θ_run_and h1 h2)
    exact ((h.1 c).1 6).trans (Cert.KernelIdeal.Value.final m c)
  · have h1 := Cert.ReferenceIdeal.Value.run m' g'
    have h2 := Cert.ReferenceIdeal.Gen.unchanged m' g'
    refine (θ_run Cert.ReferenceIdeal.defs _ _).mono (fun r h c => ⟨?_, h.2 c⟩) (θ_run_and h1 h2)
    refine (h.1 c).trans ?_
    obtain ⟨e0, e1, e2, e3, e4⟩ := hargs c
    have key : ∀ x x' q q' v v' w w' a a', x = x' → q = q' → v = v' → w = w' → a = a' →
        joined x (whole (codes q) (codes v) w a) = joined x' (whole (codes q') (codes v') w' a') := by
      rintro _ _ _ _ _ _ _ _ _ _ rfl rfl rfl rfl rfl; rfl
    exact (key _ _ _ _ _ _ _ _ _ _ e4 e1 e2 e0 e3).trans (result_eq m c (hp c))

end Cert.Algebraic

end
-- ==== Proof.LastPerm.lean ====
/- What the two preconditions say of the sorted positions, read at one word: `last_perm_in_range` bounds every
   word of batches 16 to 23 by the number of rows, `last_perm_onto` says every row is named by some word of its
   head. A head naming every row names each row once, so the second implies the first. -/
module

public import proofs.«01_k».proof.Proof.Gen.Pre_last_perm_in_range
public import proofs.«01_k».proof.Proof.Gen.Pre_last_perm_onto
public import Idealize.ShloMosaic.Lib.ValueIdxCore
public import Idealize.ShloMosaic.Lib.Routing.OpsOrder
public import Idealize.ShloMosaic.Lib.Pipeline.ValueKit

@[expose] public section

set_option maxRecDepth 16384

noncomputable section

namespace Cert.LastPerm

open Idealize.ShloMosaic

/-- The sorted positions of all batches. -/
abbrev PermArr := (⟨4, ![24, 3, 4, 2304]⟩ : Shape).Idx → BitVec 32

/-- Every word of batches 16 to 23 names a row. -/
def InRange (p : PermArr) : Prop := ∀ (b : Fin 8) (g : Fin 3) (h : Fin 4) (r : Fin 2304),
  (p (ix4 ⟨16 + b.val, by omega⟩ g h r)).toNat < 2304

/-- Every row is named by a word of each head of batches 16 to 23. -/
def Onto (p : PermArr) : Prop := ∀ (b : Fin 8) (g : Fin 3) (h : Fin 4) (q : Fin 2304),
  ∃ r : Fin 2304, (p (ix4 ⟨16 + b.val, by omega⟩ g h r)).toNat = q.val

theorem inRange_of_pre {F : FTy → Type} [FloatOps F] [Cert.Pre_last_perm_in_range.Facts] {p : PermArr} {a1 a2 a3 a4}
    (h : Cert.Pre_last_perm_in_range.fn (F := F) p a1 a2 a3 a4 = fun _ => 1#1) : InRange p := by
  intro b g hd r
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h (ix4 b g hd r)
  simp only [Cert.Pre_last_perm_in_range.fn, andi, cmpi, broadcastInDim, constantI, IntOp.cmpi, andi_ofBool,
    ofBool_eq_one, Bool.and_eq_true] at e
  obtain ⟨hge, hlt⟩ := e
  have hi : ∀ hs, (extractStridedSlice Cert.Pre_last_perm_in_range.S8x3x4x2304 ![16, 0, 0, 0] p hs (ix4 b g hd r))
      = p (ix4 ⟨16 + b.val, by omega⟩ g hd r) := by
    intro hs
    pointwise
    blk_ext []
  rw [hi] at hge hlt
  simp only [BitVec.sle, BitVec.slt, decide_eq_true_eq, BitVec.toInt, BitVec.toNat_ofNat] at hge hlt
  omega

theorem onto_of_pre {F : FTy → Type} [FloatOps F] [Cert.Pre_last_perm_onto.Facts] {p : PermArr} {a1 a2 a3 a4}
    (h : Cert.Pre_last_perm_onto.fn (F := F) p a1 a2 a3 a4 = fun _ => 1#1) : Onto p := by
  intro b g hd q
  have ofBool_eq_one (p : Bool) : (BitVec.ofBool p = 1#1) ↔ p = true := by cases p <;> decide
  have e := congrFun h (ix4 b g hd q)
  simp only [Cert.Pre_last_perm_onto.fn] at e
  rw [Host.reduce_eq_fold_single IntOp.ori _ _ _ (show Shape.Reduces _ [3] _ by decide)] at e
  obtain ⟨r, -, hr⟩ := (Routing.fold_ori _ _).1 e
  refine ⟨r, ?_⟩
  have hl : (show Shape.Reduces Cert.Pre_last_perm_onto.S8x3x4x2304x2304 [3] Cert.Pre_last_perm_onto.S8x3x4x2304 by decide).lift
      (ix4 b g hd q) r = ix5 b g hd r q := by
    funext c; fin_cases c <;> rfl
  rw [Function.comp_apply, hl] at hr
  simp only [cmpi, IntOp.cmpi, ofBool_eq_one, beq_iff_eq] at hr
  pointwise at hr
  rw [hr, BitVec.toNat_ofNat]; omega

/-- A head naming every row names rows only. -/
theorem Onto.inRange {p : PermArr} (h : Onto p) : InRange p := by
  intro b g hd r
  choose s hs using h b g hd
  have hinj : Function.Injective s := fun x y hxy => by
    have := hs x; rw [hxy, hs y] at this; exact Fin.ext this.symm
  obtain ⟨q, rfl⟩ := (Finite.injective_iff_surjective.mp hinj) r
  rw [hs q]; exact q.isLt

/-- and each row once. -/
theorem Onto.inj {p : PermArr} (h : Onto p) (b : Fin 8) (g : Fin 3) (hd : Fin 4) {r r' : Fin 2304}
    (e : p (ix4 ⟨16 + b.val, by omega⟩ g hd r) = p (ix4 ⟨16 + b.val, by omega⟩ g hd r')) : r = r' := by
  choose s hs using h b g hd
  have hinj : Function.Injective s := fun x y hxy => by
    have := hs x; rw [hxy, hs y] at this; exact Fin.ext this.symm
  obtain ⟨q, rfl⟩ := (Finite.injective_iff_surjective.mp hinj) r
  obtain ⟨q', rfl⟩ := (Finite.injective_iff_surjective.mp hinj) r'
  have : q.val = q'.val := by rw [← hs q, ← hs q', e]
  rw [Fin.ext this]

end Cert.LastPerm

end
-- ==== Proof.LastKernelRun.lean ====
/- The frame of `LastKernel`: the body's run at one point, each perm word a row of the window, the output
   window handed back at some contents; then the launch, whose final states have the argument arrays
   unchanged and every counter at zero. -/
module

public import proofs.«01_k».proof.Proof.Gen.LastKernel.Frame
public import proofs.«01_k».proof.Proof.Gen.LastKernel.Loops
public import Idealize.ShloMosaic.Lib.Claim

@[expose] public section

set_option maxRecDepth 16384

noncomputable section

namespace Cert.LastKernel.Run

open Cert.LastKernel Cert.LastKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c)⟩) h

/-! ## The kernel body on any staging memrefs: a subtype the run finds -/

/-- Each window's current staging memref at point `t`, spelled as the pipeline passes it (`bodyAt0`), and its wholeness. -/
abbrev ms0_0 (t : Fin cfg0.N) : Memref sig .tc .smem S1x1x4x2304 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x5x144x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x5x144x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4x144x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2304x640 .bf16 := win0_6.stage (cfg0.slots t 6)
abbrev hs0_6 (t : Fin cfg0.N) : (ms0_6 t).IsWhole := hstage0_6 ((cfg0.slots t 6).cast nbuf0_6)

/-! ## The side conditions the body assumes, as the frame's hypothesis -/

/-- The side conditions the body ASSUMES of words it loads from its input SMEM windows, or inside a counted
    loop of the loop's carried counter at every trip (the printed `TpuEff.assume
    (kK_chkN …)`: facts computed from the words that no program decides for every word), at EVERY point, over the
    words of the argument blocks there — spelled as each case's run reads them (`View.readAt` through the window's
    memref at its held contents), each under the conditions of the branches it sits inside. The frame holds
    under it; Proof.lean proves it from the certificate's
    precondition (`hyps_of_pre`; `View.readAt_apply` and `Memref.IsWhole.read_unread` rewrite a conjunct to the
    predicate at the block's word). -/
def Hyps (m : (ℓ : Loc nD τ sig) → Buf (Elt F) ℓ) : Prop :=
  ∀ (c : Dev nD) (t : Fin cfg0.N),
    (∀ (kq : ℕ) (hkq : kq < k0_t3_loop.trips), k0_chk1 ((ms0_0 t).view.readAt (Elt F) (Rect.unit (s := S1x1x4x2304) (k0_off19 ⟨kq, hkq⟩) S1x1x1x1.size (k0_off19_inb ⟨kq, hkq⟩)).toLoadRect ((hs0_0 t).unread (iblk m c 0 t)) (Shape.Idx.first (numel1_S1x1x1x1.symm ▸ Nat.one_pos))))
    ∧ (∀ (kq : ℕ) (hkq : kq < k0_t6_loop.trips), k0_chk2 ((ms0_0 t).view.readAt (Elt F) (Rect.unit (s := S1x1x4x2304) (k0_off39 ⟨kq, hkq⟩) S1x1x1x1.size (k0_off39_inb ⟨kq, hkq⟩)).toLoadRect ((hs0_0 t).unread (iblk m c 0 t)) (Shape.Idx.first (numel1_S1x1x1x1.symm ▸ Nat.one_pos))))
    ∧ (∀ (kq : ℕ) (hkq : kq < k0_t9_loop.trips), k0_chk3 ((ms0_0 t).view.readAt (Elt F) (Rect.unit (s := S1x1x4x2304) (k0_off59 ⟨kq, hkq⟩) S1x1x1x1.size (k0_off59_inb ⟨kq, hkq⟩)).toLoadRect ((hs0_0 t).unread (iblk m c 0 t)) (Shape.Idx.first (numel1_S1x1x1x1.symm ▸ Nat.one_pos))))
    ∧ (∀ (kq : ℕ) (hkq : kq < k0_t12_loop.trips), k0_chk4 ((ms0_0 t).view.readAt (Elt F) (Rect.unit (s := S1x1x4x2304) (k0_off79 ⟨kq, hkq⟩) S1x1x1x1.size (k0_off79_inb ⟨kq, hkq⟩)).toLoadRect ((hs0_0 t).unread (iblk m c 0 t)) (Shape.Idx.first (numel1_S1x1x1x1.symm ▸ Nat.one_pos))))

/-! Each conjunct of `Hyps` by name: its statement (`Hyps.pN`), a lemma citing it (`Hyps.cN`: what a run, or a
    statement over it, takes for that side condition), and `Hyps` built from one proof per conjunct (`Hyps.of`:
    what Proof.lean's `hyps_of_pre` applies). -/

/-- Conjunct 0 of `Hyps` at point `t`: the side condition `k0_chk1` the body assumes as `k0_hw1L`. -/
abbrev Hyps.p0 (m : (ℓ : Loc nD τ sig) → Buf (Elt F) ℓ) (c : Dev nD) (t : Fin cfg0.N) : Prop :=
  (∀ (kq : ℕ) (hkq : kq < k0_t3_loop.trips), k0_chk1 ((ms0_0 t).view.readAt (Elt F) (Rect.unit (s := S1x1x4x2304) (k0_off19 ⟨kq, hkq⟩) S1x1x1x1.size (k0_off19_inb ⟨kq, hkq⟩)).toLoadRect ((hs0_0 t).unread (iblk m c 0 t)) (Shape.Idx.first (numel1_S1x1x1x1.symm ▸ Nat.one_pos))))
variable {m} in
theorem Hyps.c0 (hH : Hyps m) (c : Dev nD) (t : Fin cfg0.N) :
    (∀ (kq : ℕ) (hkq : kq < k0_t3_loop.trips), k0_chk1 ((ms0_0 t).view.readAt (Elt F) (Rect.unit (s := S1x1x4x2304) (k0_off19 ⟨kq, hkq⟩) S1x1x1x1.size (k0_off19_inb ⟨kq, hkq⟩)).toLoadRect ((hs0_0 t).unread (iblk m c 0 t)) (Shape.Idx.first (numel1_S1x1x1x1.symm ▸ Nat.one_pos)))) := (hH c t).1
/-- Conjunct 1 of `Hyps` at point `t`: the side condition `k0_chk2` the body assumes as `k0_hw2L`. -/
abbrev Hyps.p1 (m : (ℓ : Loc nD τ sig) → Buf (Elt F) ℓ) (c : Dev nD) (t : Fin cfg0.N) : Prop :=
  (∀ (kq : ℕ) (hkq : kq < k0_t6_loop.trips), k0_chk2 ((ms0_0 t).view.readAt (Elt F) (Rect.unit (s := S1x1x4x2304) (k0_off39 ⟨kq, hkq⟩) S1x1x1x1.size (k0_off39_inb ⟨kq, hkq⟩)).toLoadRect ((hs0_0 t).unread (iblk m c 0 t)) (Shape.Idx.first (numel1_S1x1x1x1.symm ▸ Nat.one_pos))))
variable {m} in
theorem Hyps.c1 (hH : Hyps m) (c : Dev nD) (t : Fin cfg0.N) :
    (∀ (kq : ℕ) (hkq : kq < k0_t6_loop.trips), k0_chk2 ((ms0_0 t).view.readAt (Elt F) (Rect.unit (s := S1x1x4x2304) (k0_off39 ⟨kq, hkq⟩) S1x1x1x1.size (k0_off39_inb ⟨kq, hkq⟩)).toLoadRect ((hs0_0 t).unread (iblk m c 0 t)) (Shape.Idx.first (numel1_S1x1x1x1.symm ▸ Nat.one_pos)))) := (hH c t).2.1
/-- Conjunct 2 of `Hyps` at point `t`: the side condition `k0_chk3` the body assumes as `k0_hw3L`. -/
abbrev Hyps.p2 (m : (ℓ : Loc nD τ sig) → Buf (Elt F) ℓ) (c : Dev nD) (t : Fin cfg0.N) : Prop :=
  (∀ (kq : ℕ) (hkq : kq < k0_t9_loop.trips), k0_chk3 ((ms0_0 t).view.readAt (Elt F) (Rect.unit (s := S1x1x4x2304) (k0_off59 ⟨kq, hkq⟩) S1x1x1x1.size (k0_off59_inb ⟨kq, hkq⟩)).toLoadRect ((hs0_0 t).unread (iblk m c 0 t)) (Shape.Idx.first (numel1_S1x1x1x1.symm ▸ Nat.one_pos))))
variable {m} in
theorem Hyps.c2 (hH : Hyps m) (c : Dev nD) (t : Fin cfg0.N) :
    (∀ (kq : ℕ) (hkq : kq < k0_t9_loop.trips), k0_chk3 ((ms0_0 t).view.readAt (Elt F) (Rect.unit (s := S1x1x4x2304) (k0_off59 ⟨kq, hkq⟩) S1x1x1x1.size (k0_off59_inb ⟨kq, hkq⟩)).toLoadRect ((hs0_0 t).unread (iblk m c 0 t)) (Shape.Idx.first (numel1_S1x1x1x1.symm ▸ Nat.one_pos)))) := (hH c t).2.2.1
/-- Conjunct 3 of `Hyps` at point `t`: the side condition `k0_chk4` the body assumes as `k0_hw4L`. -/
abbrev Hyps.p3 (m : (ℓ : Loc nD τ sig) → Buf (Elt F) ℓ) (c : Dev nD) (t : Fin cfg0.N) : Prop :=
  (∀ (kq : ℕ) (hkq : kq < k0_t12_loop.trips), k0_chk4 ((ms0_0 t).view.readAt (Elt F) (Rect.unit (s := S1x1x4x2304) (k0_off79 ⟨kq, hkq⟩) S1x1x1x1.size (k0_off79_inb ⟨kq, hkq⟩)).toLoadRect ((hs0_0 t).unread (iblk m c 0 t)) (Shape.Idx.first (numel1_S1x1x1x1.symm ▸ Nat.one_pos))))
variable {m} in
theorem Hyps.c3 (hH : Hyps m) (c : Dev nD) (t : Fin cfg0.N) :
    (∀ (kq : ℕ) (hkq : kq < k0_t12_loop.trips), k0_chk4 ((ms0_0 t).view.readAt (Elt F) (Rect.unit (s := S1x1x4x2304) (k0_off79 ⟨kq, hkq⟩) S1x1x1x1.size (k0_off79_inb ⟨kq, hkq⟩)).toLoadRect ((hs0_0 t).unread (iblk m c 0 t)) (Shape.Idx.first (numel1_S1x1x1x1.symm ▸ Nat.one_pos)))) := (hH c t).2.2.2
variable {m} in
theorem Hyps.of
    (p0 : ∀ (c : Dev nD) (t : Fin cfg0.N), Hyps.p0 m c t)
    (p1 : ∀ (c : Dev nD) (t : Fin cfg0.N), Hyps.p1 m c t)
    (p2 : ∀ (c : Dev nD) (t : Fin cfg0.N), Hyps.p2 m c t)
    (p3 : ∀ (c : Dev nD) (t : Fin cfg0.N), Hyps.p3 m c t) :
    Hyps m := fun c t =>
  And.intro (p0 c t) (And.intro (p1 c t) (And.intro (p2 c t) (p3 c t)))

/-- The scratch operands: whole scoped buffers of the kernel's own, passed beside the windows. -/
abbrev scM0_0 : Memref sig .tc .vmem S160x2432 .bf16 := Memref.whole cc0_scratch0
abbrev scM0_1 : Memref sig .tc .vmem S2304x160 .bf16 := Memref.whole cc0_scratch1
abbrev scM0_2 : Memref sig .tc .vmem S176x2432 .bf16 := Memref.whole cc0_scratch2
abbrev scM0_3 : Memref sig .tc .vmem S8x2432 .f32 := Memref.whole cc0_scratch3
abbrev scM0_4 : Memref sig .tc .vmem S4x2304x128 .i32 := Memref.whole cc0_scratch4
abbrev scM0_5 : Memref sig .tc .vmem S2304x128 .i32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

-- (the run's proof term is large: checking it walks past the default budget)
set_option maxHeartbeats 1476000 in
/-- The body's triple: on whole staging memrefs — the inputs' at their contents,
    the FORGOTTEN outputs' (6) at anything, handed back at some contents nothing names —
    the body runs to the continuation holding the inputs' as they were, the scratch at some contents: the printed functions are their skeletons (`*_eq_skeleton`),
    which `sl_exec` runs (Lib/Exec.lean). -/
theorem kernelRun0_A (c : Dev nD) (i : grid0.Coords) (arg2 : Memref sig .tc .smem S1x1x4x2304 .i32) (harg2 : arg2.IsWhole) (arg3 : Memref sig .tc .vmem S1x4x5x144x128 .i32) (harg3 : arg3.IsWhole) (arg4 : Memref sig .tc .vmem S1x4x5x144x128 .i32) (harg4 : arg4.IsWhole) (arg5 : Memref sig .tc .vmem S1x4x144x128 .f32) (harg5 : arg5.IsWhole) (arg6 : Memref sig .tc .vmem S128x128 .f32) (harg6 : arg6.IsWhole) (arg7 : Memref sig .tc .vmem S128x128 .f32) (harg7 : arg7.IsWhole) (arg9 : Memref sig .tc .vmem S1x2304x640 .bf16) (harg9 : arg9.IsWhole) (arg10 : Memref sig .tc .vmem S160x2432 .bf16) (harg10 : arg10.IsWhole) (arg11 : Memref sig .tc .vmem S2304x160 .bf16) (harg11 : arg11.IsWhole) (arg12 : Memref sig .tc .vmem S176x2432 .bf16) (harg12 : arg12.IsWhole) (arg13 : Memref sig .tc .vmem S8x2432 .f32) (harg13 : arg13.IsWhole) (arg14 : Memref sig .tc .vmem S4x2304x128 .i32) (harg14 : arg14.IsWhole) (arg15 : Memref sig .tc .vmem S2304x128 .i32) (harg15 : arg15.IsWhole)
    (x0 : Vec F S1x1x4x2304 .i32) (x1 : Vec F S1x4x5x144x128 .i32) (x2 : Vec F S1x4x5x144x128 .i32) (x3 : Vec F S1x4x144x128 .f32) (x4 : Vec F S128x128 .f32) (x5 : Vec F S128x128 .f32) (k0_hw1L : (∀ (kq : ℕ) (hkq : kq < k0_t3_loop.trips), k0_chk1 (arg2.view.readAt (Elt F) (Rect.unit (s := S1x1x4x2304) (k0_off19 ⟨kq, hkq⟩) S1x1x1x1.size (k0_off19_inb ⟨kq, hkq⟩)).toLoadRect (harg2.unread x0) (Shape.Idx.first (numel1_S1x1x1x1.symm ▸ Nat.one_pos))))) (k0_hw2L : (∀ (kq : ℕ) (hkq : kq < k0_t6_loop.trips), k0_chk2 (arg2.view.readAt (Elt F) (Rect.unit (s := S1x1x4x2304) (k0_off39 ⟨kq, hkq⟩) S1x1x1x1.size (k0_off39_inb ⟨kq, hkq⟩)).toLoadRect (harg2.unread x0) (Shape.Idx.first (numel1_S1x1x1x1.symm ▸ Nat.one_pos))))) (k0_hw3L : (∀ (kq : ℕ) (hkq : kq < k0_t9_loop.trips), k0_chk3 (arg2.view.readAt (Elt F) (Rect.unit (s := S1x1x4x2304) (k0_off59 ⟨kq, hkq⟩) S1x1x1x1.size (k0_off59_inb ⟨kq, hkq⟩)).toLoadRect (harg2.unread x0) (Shape.Idx.first (numel1_S1x1x1x1.symm ▸ Nat.one_pos))))) (k0_hw4L : (∀ (kq : ℕ) (hkq : kq < k0_t12_loop.trips), k0_chk4 (arg2.view.readAt (Elt F) (Rect.unit (s := S1x1x4x2304) (k0_off79 ⟨kq, hkq⟩) S1x1x1x1.size (k0_off79_inb ⟨kq, hkq⟩)).toLoadRect (harg2.unread x0) (Shape.Idx.first (numel1_S1x1x1x1.symm ▸ Nat.one_pos))))) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_attend i arg2 harg2 arg3 harg3 arg4 harg4 arg5 harg5 arg6 harg6 arg7 harg7 (Memref.whole main_arg4) (Memref.isWhole_whole _) arg9 harg9 arg10 harg10 arg11 harg11 arg12 harg12 arg13 harg13 arg14 harg14 arg15 harg15) K := by
    intro E K
    simp only [cc0_attend_eq_skeleton]; unfold cc0_attend_skel
    simp only [k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (hH : Hyps m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (hH : Hyps m) (c : Dev nD) (w : Fin cfg0.W) : (dats m hH 0 c).A w = V m c (Pipeline.arrRef spec0 w) := by
  dsimp only [dats]

/-- What the body leaves, window by window (the proof data's `match` reduced by `dsimp`). -/
theorem after0_0 (hH : Hyps m) (c : Dev nD) (t : Fin cfg0.N) : (dats m hH 0 c).after 0 t = iblk m c 0 t := by dsimp only [dats]
theorem after0_1 (hH : Hyps m) (c : Dev nD) (t : Fin cfg0.N) : (dats m hH 0 c).after 1 t = iblk m c 1 t := by dsimp only [dats]
theorem after0_2 (hH : Hyps m) (c : Dev nD) (t : Fin cfg0.N) : (dats m hH 0 c).after 2 t = iblk m c 2 t := by dsimp only [dats]
theorem after0_3 (hH : Hyps m) (c : Dev nD) (t : Fin cfg0.N) : (dats m hH 0 c).after 3 t = iblk m c 3 t := by dsimp only [dats]
theorem after0_4 (hH : Hyps m) (c : Dev nD) (t : Fin cfg0.N) : (dats m hH 0 c).after 4 t = iblk m c 4 t := by dsimp only [dats]
theorem after0_5 (hH : Hyps m) (c : Dev nD) (t : Fin cfg0.N) : (dats m hH 0 c).after 5 t = iblk m c 5 t := by dsimp only [dats]

/-- Each input's current staging buffer holds its block at every point, fetched there or not (`beforeK_W_of`). -/
theorem before0_0 (hH : Hyps m) (c : Dev nD) (t : Fin cfg0.N) (d) : (dats m hH 0 c).before 0 t d = iblk m c 0 t :=
  before0_0_of m (dats m hH 0 c) (A_eq m hH c 0) (after0_0 m hH c) t d
theorem before0_1 (hH : Hyps m) (c : Dev nD) (t : Fin cfg0.N) (d) : (dats m hH 0 c).before 1 t d = iblk m c 1 t :=
  before0_1_of m (dats m hH 0 c) (A_eq m hH c 1) (after0_1 m hH c) t d
theorem before0_2 (hH : Hyps m) (c : Dev nD) (t : Fin cfg0.N) (d) : (dats m hH 0 c).before 2 t d = iblk m c 2 t :=
  before0_2_of m (dats m hH 0 c) (A_eq m hH c 2) (after0_2 m hH c) t d
theorem before0_3 (hH : Hyps m) (c : Dev nD) (t : Fin cfg0.N) (d) : (dats m hH 0 c).before 3 t d = iblk m c 3 t :=
  before0_3_of m (dats m hH 0 c) (A_eq m hH c 3) (after0_3 m hH c) t d
theorem before0_4 (hH : Hyps m) (c : Dev nD) (t : Fin cfg0.N) (d) : (dats m hH 0 c).before 4 t d = iblk m c 4 t :=
  before0_4_of m (dats m hH 0 c) (A_eq m hH c 4) (after0_4 m hH c) t d
theorem before0_5 (hH : Hyps m) (c : Dev nD) (t : Fin cfg0.N) (d) : (dats m hH 0 c).before 5 t d = iblk m c 5 t :=
  before0_5_of m (dats m hH 0 c) (A_eq m hH c 5) (after0_5 m hH c) t d

/-! ## The body obligation, at a generic point -/

/-- What the body is called with at point `t` (Lib/Pipeline.lean `BodyObligation`'s precondition, the windows one by one), -/
def bodyPre (hH : Hyps m) (c : Dev nD) (t : Fin cfg0.N) : sProp 𝕄 :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d))
    ∗ (∃ d, owns (c : Thread nD τ) (ms0_3 t) fullShare ((dats m hH 0 c).before 3 t d))
    ∗ (∃ d, owns (c : Thread nD τ) (ms0_4 t) fullShare ((dats m hH 0 c).before 4 t d))
    ∗ (∃ d, owns (c : Thread nD τ) (ms0_5 t) fullShare ((dats m hH 0 c).before 5 t d))
    ∗ (∃ d, owns (c : Thread nD τ) (ms0_6 t) fullShare d))

/-- and what it returns. -/
def bodyPost (hH : Hyps m) (c : Dev nD) (t : Fin cfg0.N) : sProp 𝕄 :=
  iprop((dats m hH 0 c).Φ t.succ ∗ (dats m hH 0 c).owesAt () t.succ
    ∗ owns (c : Thread nD τ) (ms0_0 t) fullShare ((dats m hH 0 c).after 0 t)
    ∗ owns (c : Thread nD τ) (ms0_1 t) fullShare ((dats m hH 0 c).after 1 t)
    ∗ owns (c : Thread nD τ) (ms0_2 t) fullShare ((dats m hH 0 c).after 2 t)
    ∗ owns (c : Thread nD τ) (ms0_3 t) fullShare ((dats m hH 0 c).after 3 t)
    ∗ owns (c : Thread nD τ) (ms0_4 t) fullShare ((dats m hH 0 c).after 4 t)
    ∗ owns (c : Thread nD τ) (ms0_5 t) fullShare ((dats m hH 0 c).after 5 t)
    ∗ (∃ d, owns (c : Thread nD τ) (ms0_6 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hH : Hyps m) (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0_0, before0_1, before0_2, before0_3, before0_4, before0_5]
  rw [show (dats m hH 0 c).Φ t.succ = (dats m hH 0 c).Φ t.castSucc from rfl,
    show (dats m hH 0 c).owesAt () t.succ = (dats m hH 0 c).owesAt () t.castSucc from rfl,
    after0_0, after0_1, after0_2, after0_3, after0_4, after0_5]
  rw [show (dats m hH 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (Hyps.c0 hH c t) (Hyps.c1 hH c t) (Hyps.c2 hH c t) (Hyps.c3 hH c t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hH : Hyps m) (c : Dev nD) : BodyObligation (dats (F := F) m hH 0 c) (defs₀ (F := F)) Variants.none () Set.univ forgets0 := fun t => by
  rw [bigSep_W0, bigSep_W0, defs₀_row]
  exact triple_restated (sound_body m hH c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hH : Hyps m) : θ_run defs (onTc (τ := τ) (main (F := F))) (s₀ m ρ) (fun r => (Pipeline.RDat.FramePost (cfgs 0) (fun c => (dats m hH 0 c).toRForget forgets0) (V m)) r ∧ r.2.sem = fun _ => 0) :=
  Pipeline.θ_run_frame_forget (Q' := _) cfgs (dats m hH) (0 : Fin 1) launch0 defs₀ Variants.none forgets0 m ρ main
    (hbody := fun c => (body_obligation m hH c).loose) (hshare := fun c => (dats m hH 0 c).share_full fun _ => rfl)
    (howed := fun _ _ => rfl) (V := V m) (hmain := hmain m Variants.none) (hA := A_eq m hH) (hΦ := fun _ _ => rfl)

/-- At the compiled mesh, for any values, from any memory with zero counters: every weakly fair execution of @main on the
    TensorCores terminates, and every final state has every INPUT array of the pipeline unchanged, nothing stated of the
    FORGOTTEN outputs (window 6) (Lib/Pipeline/Frame.lean `RDat.FramePost` over the proof data with those windows
    forgotten, Dat.lean `Dat.toRForget`), and every other unscoped buffer at its region-entry contents. -/
theorem run_main (hH : Hyps m) : θ_run defs (onTc (τ := τ) (main (F := F))) (s₀ m ρ) (Pipeline.RDat.FramePost (cfgs 0) (fun c => (dats m hH 0 c).toRForget forgets0) (V m)) :=
  (θ_run defs _ _).mono (fun _ h => h.1) (run_main_quiescent m ρ hH)

/-- `frame` without the counters: the argument arrays end unchanged. -/
theorem unchanged (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m hH 0 c).toRForget forgets0) (A_eq m hH) (run_main m ρ hH)

/-- THE FRAME: `Cert.quiescent_Kernel`'s statement (Defs.lean) at any `F` — Proof.lean cites it at `Bits`:
    `theorem Cert.Proof.claim : Cert.Claim := ⟨Cert.LastKernel.Gen.facts, fun m ρ _ => Cert.LastKernel.Gen.frame m ρ⟩`; here UNDER `Hyps` (the side conditions the body assumes,
    at every point), which Proof.lean proves from the precondition: `⟨…, fun m ρ h => Cert.LastKernel.Gen.frame m ρ (hyps_of_pre m h)⟩`. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hH) ((θ_run defs _ _).mono (fun _ h => h.2) (run_main_quiescent m ρ hH))

end Cert.LastKernel.Run

end
-- ==== Proof.LastKernelSide.lean ====
/- The side conditions `LastKernel`'s body assumes of the sorted positions it reads, from their range. -/
module

public import proofs.«01_k».proof.Proof.LastPerm
public import proofs.«01_k».proof.Proof.LastKernelRun

@[expose] public section

set_option maxRecDepth 16384

noncomputable section

namespace Cert.LastKernel.Run

open Cert.LastKernel Cert.LastKernel.Gen
open Idealize.ShloMosaic Idealize.ShloMosaic.TcCoe

variable (m : (ℓ : Loc nD τ sig) → Buf (Elt Bits) ℓ)

theorem index0 : ∀ t : Fin grid0.N, win0_0.index t = ![16 + (grid0.coords t 0).val, (grid0.coords t 1).val, 0, 0] := by
  decide +kernel

/-- A word of a point's block is a word of its batch and head group. -/
theorem iblk0 (c : Dev nD) (t : Fin cfg0.N) (h : Fin 4) (r : Fin 2304) :
    iblk m c 0 t (ix4 0 0 h r)
      = m ((c : Thread nD τ).loc main_arg0)
        (ix4 ⟨16 + (grid0.coords t 0).val, by have := (grid0.coords t 0).isLt; change _ < 8 at this; omega⟩ (grid0.coords t 1) h r) := by
  blk_ext [iblk, index0 t]

theorem iblk0_lt (c : Dev nD) (t : Fin cfg0.N) (hp : LastPerm.InRange (m ((c : Thread nD τ).loc main_arg0))) (i) :
    (iblk m c 0 t i).toNat < 2304 := by
  have hi : i = (ix4 (0 : Fin 1) (0 : Fin 1) (i 2 : Fin 4) (i 3 : Fin 2304) : (⟨4, ![1, 1, 4, 2304]⟩ : Shape).Idx) := by
    have h0 : (i 0).val < 1 := (i 0).isLt
    have h1 : (i 1).val < 1 := (i 1).isLt
    funext a; fin_cases a
    · exact Fin.ext (by show (i 0).val = 0; omega)
    · exact Fin.ext (by show (i 1).val = 0; omega)
    · rfl
    · rfl
  have e := iblk0 m c t (i 2 : Fin 4) (i 3 : Fin 2304)
  rw [← hi] at e
  rw [e]
  exact hp ⟨(grid0.coords t 0).val, (grid0.coords t 0).isLt⟩ (grid0.coords t 1) (i 2) (i 3)

theorem chk1_of_lt (v : BitVec 32) (h : v.toNat < 2304) : k0_chk1 v := by
  intro a; fin_cases a <;> simp [k0_off20, Scalar.indexCast] <;> omega
theorem chk2_of_lt (v : BitVec 32) (h : v.toNat < 2304) : k0_chk2 v := by
  intro a; fin_cases a <;> simp [k0_off40, Scalar.indexCast] <;> omega
theorem chk3_of_lt (v : BitVec 32) (h : v.toNat < 2304) : k0_chk3 v := by
  intro a; fin_cases a <;> simp [k0_off60, Scalar.indexCast] <;> omega
theorem chk4_of_lt (v : BitVec 32) (h : v.toNat < 2304) : k0_chk4 v := by
  intro a; fin_cases a <;> simp [k0_off80, Scalar.indexCast] <;> omega

/-- The range of the sorted positions gives every side condition. -/
theorem hyps_of_inRange (hp : ∀ c : Dev nD, LastPerm.InRange (m ((c : Thread nD τ).loc main_arg0))) : Hyps m :=
  Hyps.of
    (fun c t k hk => by simp only [View.readAt_apply, Memref.IsWhole.read_unread]; exact chk1_of_lt _ (iblk0_lt m c t (hp c) _))
    (fun c t k hk => by simp only [View.readAt_apply, Memref.IsWhole.read_unread]; exact chk2_of_lt _ (iblk0_lt m c t (hp c) _))
    (fun c t k hk => by simp only [View.readAt_apply, Memref.IsWhole.read_unread]; exact chk3_of_lt _ (iblk0_lt m c t (hp c) _))
    (fun c t k hk => by simp only [View.readAt_apply, Memref.IsWhole.read_unread]; exact chk4_of_lt _ (iblk0_lt m c t (hp c) _))

end Cert.LastKernel.Run

end
-- ==== Proof.LastKernelIdealRun.lean ====
/- The frame of `LastKernelIdeal`: the body's run at one point, each perm word a row of the window, the output
   window handed back at some contents; then the launch, whose final states have the argument arrays
   unchanged and every counter at zero. -/
module

public import proofs.«01_k».proof.Proof.Gen.LastKernelIdeal.Frame
public import proofs.«01_k».proof.Proof.Gen.LastKernelIdeal.Loops
public import Idealize.ShloMosaic.Lib.Claim

@[expose] public section

set_option maxRecDepth 16384

noncomputable section

namespace Cert.LastKernelIdeal.Run

open Cert.LastKernelIdeal Cert.LastKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c)⟩) h

/-! ## The kernel body on any staging memrefs: a subtype the run finds -/

/-- Each window's current staging memref at point `t`, spelled as the pipeline passes it (`bodyAt0`), and its wholeness. -/
abbrev ms0_0 (t : Fin cfg0.N) : Memref sig .tc .smem S1x1x4x2304 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x5x144x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x5x144x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4x144x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2304x640 .bf16 := win0_6.stage (cfg0.slots t 6)
abbrev hs0_6 (t : Fin cfg0.N) : (ms0_6 t).IsWhole := hstage0_6 ((cfg0.slots t 6).cast nbuf0_6)

/-! ## The side conditions the body assumes, as the frame's hypothesis -/

/-- The side conditions the body ASSUMES of words it loads from its input SMEM windows, or inside a counted
    loop of the loop's carried counter at every trip (the printed `TpuEff.assume
    (kK_chkN …)`: facts computed from the words that no program decides for every word), at EVERY point, over the
    words of the argument blocks there — spelled as each case's run reads them (`View.readAt` through the window's
    memref at its held contents), each under the conditions of the branches it sits inside. The frame holds
    under it; Proof.lean proves it from the certificate's
    precondition (`hyps_of_pre`; `View.readAt_apply` and `Memref.IsWhole.read_unread` rewrite a conjunct to the
    predicate at the block's word). -/
def Hyps (m : (ℓ : Loc nD τ sig) → Buf (Elt F) ℓ) : Prop :=
  ∀ (c : Dev nD) (t : Fin cfg0.N),
    (∀ (kq : ℕ) (hkq : kq < k0_t3_loop.trips), k0_chk1 ((ms0_0 t).view.readAt (Elt F) (Rect.unit (s := S1x1x4x2304) (k0_off19 ⟨kq, hkq⟩) S1x1x1x1.size (k0_off19_inb ⟨kq, hkq⟩)).toLoadRect ((hs0_0 t).unread (iblk m c 0 t)) (Shape.Idx.first (numel1_S1x1x1x1.symm ▸ Nat.one_pos))))
    ∧ (∀ (kq : ℕ) (hkq : kq < k0_t6_loop.trips), k0_chk2 ((ms0_0 t).view.readAt (Elt F) (Rect.unit (s := S1x1x4x2304) (k0_off39 ⟨kq, hkq⟩) S1x1x1x1.size (k0_off39_inb ⟨kq, hkq⟩)).toLoadRect ((hs0_0 t).unread (iblk m c 0 t)) (Shape.Idx.first (numel1_S1x1x1x1.symm ▸ Nat.one_pos))))
    ∧ (∀ (kq : ℕ) (hkq : kq < k0_t9_loop.trips), k0_chk3 ((ms0_0 t).view.readAt (Elt F) (Rect.unit (s := S1x1x4x2304) (k0_off59 ⟨kq, hkq⟩) S1x1x1x1.size (k0_off59_inb ⟨kq, hkq⟩)).toLoadRect ((hs0_0 t).unread (iblk m c 0 t)) (Shape.Idx.first (numel1_S1x1x1x1.symm ▸ Nat.one_pos))))
    ∧ (∀ (kq : ℕ) (hkq : kq < k0_t12_loop.trips), k0_chk4 ((ms0_0 t).view.readAt (Elt F) (Rect.unit (s := S1x1x4x2304) (k0_off79 ⟨kq, hkq⟩) S1x1x1x1.size (k0_off79_inb ⟨kq, hkq⟩)).toLoadRect ((hs0_0 t).unread (iblk m c 0 t)) (Shape.Idx.first (numel1_S1x1x1x1.symm ▸ Nat.one_pos))))

/-! Each conjunct of `Hyps` by name: its statement (`Hyps.pN`), a lemma citing it (`Hyps.cN`: what a run, or a
    statement over it, takes for that side condition), and `Hyps` built from one proof per conjunct (`Hyps.of`:
    what Proof.lean's `hyps_of_pre` applies). -/

/-- Conjunct 0 of `Hyps` at point `t`: the side condition `k0_chk1` the body assumes as `k0_hw1L`. -/
abbrev Hyps.p0 (m : (ℓ : Loc nD τ sig) → Buf (Elt F) ℓ) (c : Dev nD) (t : Fin cfg0.N) : Prop :=
  (∀ (kq : ℕ) (hkq : kq < k0_t3_loop.trips), k0_chk1 ((ms0_0 t).view.readAt (Elt F) (Rect.unit (s := S1x1x4x2304) (k0_off19 ⟨kq, hkq⟩) S1x1x1x1.size (k0_off19_inb ⟨kq, hkq⟩)).toLoadRect ((hs0_0 t).unread (iblk m c 0 t)) (Shape.Idx.first (numel1_S1x1x1x1.symm ▸ Nat.one_pos))))
variable {m} in
theorem Hyps.c0 (hH : Hyps m) (c : Dev nD) (t : Fin cfg0.N) :
    (∀ (kq : ℕ) (hkq : kq < k0_t3_loop.trips), k0_chk1 ((ms0_0 t).view.readAt (Elt F) (Rect.unit (s := S1x1x4x2304) (k0_off19 ⟨kq, hkq⟩) S1x1x1x1.size (k0_off19_inb ⟨kq, hkq⟩)).toLoadRect ((hs0_0 t).unread (iblk m c 0 t)) (Shape.Idx.first (numel1_S1x1x1x1.symm ▸ Nat.one_pos)))) := (hH c t).1
/-- Conjunct 1 of `Hyps` at point `t`: the side condition `k0_chk2` the body assumes as `k0_hw2L`. -/
abbrev Hyps.p1 (m : (ℓ : Loc nD τ sig) → Buf (Elt F) ℓ) (c : Dev nD) (t : Fin cfg0.N) : Prop :=
  (∀ (kq : ℕ) (hkq : kq < k0_t6_loop.trips), k0_chk2 ((ms0_0 t).view.readAt (Elt F) (Rect.unit (s := S1x1x4x2304) (k0_off39 ⟨kq, hkq⟩) S1x1x1x1.size (k0_off39_inb ⟨kq, hkq⟩)).toLoadRect ((hs0_0 t).unread (iblk m c 0 t)) (Shape.Idx.first (numel1_S1x1x1x1.symm ▸ Nat.one_pos))))
variable {m} in
theorem Hyps.c1 (hH : Hyps m) (c : Dev nD) (t : Fin cfg0.N) :
    (∀ (kq : ℕ) (hkq : kq < k0_t6_loop.trips), k0_chk2 ((ms0_0 t).view.readAt (Elt F) (Rect.unit (s := S1x1x4x2304) (k0_off39 ⟨kq, hkq⟩) S1x1x1x1.size (k0_off39_inb ⟨kq, hkq⟩)).toLoadRect ((hs0_0 t).unread (iblk m c 0 t)) (Shape.Idx.first (numel1_S1x1x1x1.symm ▸ Nat.one_pos)))) := (hH c t).2.1
/-- Conjunct 2 of `Hyps` at point `t`: the side condition `k0_chk3` the body assumes as `k0_hw3L`. -/
abbrev Hyps.p2 (m : (ℓ : Loc nD τ sig) → Buf (Elt F) ℓ) (c : Dev nD) (t : Fin cfg0.N) : Prop :=
  (∀ (kq : ℕ) (hkq : kq < k0_t9_loop.trips), k0_chk3 ((ms0_0 t).view.readAt (Elt F) (Rect.unit (s := S1x1x4x2304) (k0_off59 ⟨kq, hkq⟩) S1x1x1x1.size (k0_off59_inb ⟨kq, hkq⟩)).toLoadRect ((hs0_0 t).unread (iblk m c 0 t)) (Shape.Idx.first (numel1_S1x1x1x1.symm ▸ Nat.one_pos))))
variable {m} in
theorem Hyps.c2 (hH : Hyps m) (c : Dev nD) (t : Fin cfg0.N) :
    (∀ (kq : ℕ) (hkq : kq < k0_t9_loop.trips), k0_chk3 ((ms0_0 t).view.readAt (Elt F) (Rect.unit (s := S1x1x4x2304) (k0_off59 ⟨kq, hkq⟩) S1x1x1x1.size (k0_off59_inb ⟨kq, hkq⟩)).toLoadRect ((hs0_0 t).unread (iblk m c 0 t)) (Shape.Idx.first (numel1_S1x1x1x1.symm ▸ Nat.one_pos)))) := (hH c t).2.2.1
/-- Conjunct 3 of `Hyps` at point `t`: the side condition `k0_chk4` the body assumes as `k0_hw4L`. -/
abbrev Hyps.p3 (m : (ℓ : Loc nD τ sig) → Buf (Elt F) ℓ) (c : Dev nD) (t : Fin cfg0.N) : Prop :=
  (∀ (kq : ℕ) (hkq : kq < k0_t12_loop.trips), k0_chk4 ((ms0_0 t).view.readAt (Elt F) (Rect.unit (s := S1x1x4x2304) (k0_off79 ⟨kq, hkq⟩) S1x1x1x1.size (k0_off79_inb ⟨kq, hkq⟩)).toLoadRect ((hs0_0 t).unread (iblk m c 0 t)) (Shape.Idx.first (numel1_S1x1x1x1.symm ▸ Nat.one_pos))))
variable {m} in
theorem Hyps.c3 (hH : Hyps m) (c : Dev nD) (t : Fin cfg0.N) :
    (∀ (kq : ℕ) (hkq : kq < k0_t12_loop.trips), k0_chk4 ((ms0_0 t).view.readAt (Elt F) (Rect.unit (s := S1x1x4x2304) (k0_off79 ⟨kq, hkq⟩) S1x1x1x1.size (k0_off79_inb ⟨kq, hkq⟩)).toLoadRect ((hs0_0 t).unread (iblk m c 0 t)) (Shape.Idx.first (numel1_S1x1x1x1.symm ▸ Nat.one_pos)))) := (hH c t).2.2.2
variable {m} in
theorem Hyps.of
    (p0 : ∀ (c : Dev nD) (t : Fin cfg0.N), Hyps.p0 m c t)
    (p1 : ∀ (c : Dev nD) (t : Fin cfg0.N), Hyps.p1 m c t)
    (p2 : ∀ (c : Dev nD) (t : Fin cfg0.N), Hyps.p2 m c t)
    (p3 : ∀ (c : Dev nD) (t : Fin cfg0.N), Hyps.p3 m c t) :
    Hyps m := fun c t =>
  And.intro (p0 c t) (And.intro (p1 c t) (And.intro (p2 c t) (p3 c t)))

/-- The scratch operands: whole scoped buffers of the kernel's own, passed beside the windows. -/
abbrev scM0_0 : Memref sig .tc .vmem S160x2432 .bf16 := Memref.whole cc0_scratch0
abbrev scM0_1 : Memref sig .tc .vmem S2304x160 .bf16 := Memref.whole cc0_scratch1
abbrev scM0_2 : Memref sig .tc .vmem S176x2432 .bf16 := Memref.whole cc0_scratch2
abbrev scM0_3 : Memref sig .tc .vmem S8x2432 .f32 := Memref.whole cc0_scratch3
abbrev scM0_4 : Memref sig .tc .vmem S4x2304x2x128 .bf16 := Memref.whole cc0_scratch4
abbrev scM0_5 : Memref sig .tc .vmem S2304x2x128 .bf16 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

-- (the run's proof term is large: checking it walks past the default budget)
set_option maxHeartbeats 1424000 in
/-- The body's triple: on whole staging memrefs — the inputs' at their contents,
    the FORGOTTEN outputs' (6) at anything, handed back at some contents nothing names —
    the body runs to the continuation holding the inputs' as they were, the scratch at some contents: the printed functions are their skeletons (`*_eq_skeleton`),
    which `sl_exec` runs (Lib/Exec.lean). -/
theorem kernelRun0_A (c : Dev nD) (i : grid0.Coords) (arg2 : Memref sig .tc .smem S1x1x4x2304 .i32) (harg2 : arg2.IsWhole) (arg3 : Memref sig .tc .vmem S1x4x5x144x128 .i32) (harg3 : arg3.IsWhole) (arg4 : Memref sig .tc .vmem S1x4x5x144x128 .i32) (harg4 : arg4.IsWhole) (arg5 : Memref sig .tc .vmem S1x4x144x128 .f32) (harg5 : arg5.IsWhole) (arg6 : Memref sig .tc .vmem S128x128 .f32) (harg6 : arg6.IsWhole) (arg7 : Memref sig .tc .vmem S128x128 .f32) (harg7 : arg7.IsWhole) (arg9 : Memref sig .tc .vmem S1x2304x640 .bf16) (harg9 : arg9.IsWhole) (arg10 : Memref sig .tc .vmem S160x2432 .bf16) (harg10 : arg10.IsWhole) (arg11 : Memref sig .tc .vmem S2304x160 .bf16) (harg11 : arg11.IsWhole) (arg12 : Memref sig .tc .vmem S176x2432 .bf16) (harg12 : arg12.IsWhole) (arg13 : Memref sig .tc .vmem S8x2432 .f32) (harg13 : arg13.IsWhole) (arg14 : Memref sig .tc .vmem S4x2304x2x128 .bf16) (harg14 : arg14.IsWhole) (arg15 : Memref sig .tc .vmem S2304x2x128 .bf16) (harg15 : arg15.IsWhole)
    (x0 : Vec F S1x1x4x2304 .i32) (x1 : Vec F S1x4x5x144x128 .i32) (x2 : Vec F S1x4x5x144x128 .i32) (x3 : Vec F S1x4x144x128 .f32) (x4 : Vec F S128x128 .f32) (x5 : Vec F S128x128 .f32) (k0_hw1L : (∀ (kq : ℕ) (hkq : kq < k0_t3_loop.trips), k0_chk1 (arg2.view.readAt (Elt F) (Rect.unit (s := S1x1x4x2304) (k0_off19 ⟨kq, hkq⟩) S1x1x1x1.size (k0_off19_inb ⟨kq, hkq⟩)).toLoadRect (harg2.unread x0) (Shape.Idx.first (numel1_S1x1x1x1.symm ▸ Nat.one_pos))))) (k0_hw2L : (∀ (kq : ℕ) (hkq : kq < k0_t6_loop.trips), k0_chk2 (arg2.view.readAt (Elt F) (Rect.unit (s := S1x1x4x2304) (k0_off39 ⟨kq, hkq⟩) S1x1x1x1.size (k0_off39_inb ⟨kq, hkq⟩)).toLoadRect (harg2.unread x0) (Shape.Idx.first (numel1_S1x1x1x1.symm ▸ Nat.one_pos))))) (k0_hw3L : (∀ (kq : ℕ) (hkq : kq < k0_t9_loop.trips), k0_chk3 (arg2.view.readAt (Elt F) (Rect.unit (s := S1x1x4x2304) (k0_off59 ⟨kq, hkq⟩) S1x1x1x1.size (k0_off59_inb ⟨kq, hkq⟩)).toLoadRect (harg2.unread x0) (Shape.Idx.first (numel1_S1x1x1x1.symm ▸ Nat.one_pos))))) (k0_hw4L : (∀ (kq : ℕ) (hkq : kq < k0_t12_loop.trips), k0_chk4 (arg2.view.readAt (Elt F) (Rect.unit (s := S1x1x4x2304) (k0_off79 ⟨kq, hkq⟩) S1x1x1x1.size (k0_off79_inb ⟨kq, hkq⟩)).toLoadRect (harg2.unread x0) (Shape.Idx.first (numel1_S1x1x1x1.symm ▸ Nat.one_pos))))) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_attend i arg2 harg2 arg3 harg3 arg4 harg4 arg5 harg5 arg6 harg6 arg7 harg7 (Memref.whole main_arg4) (Memref.isWhole_whole _) arg9 harg9 arg10 harg10 arg11 harg11 arg12 harg12 arg13 harg13 arg14 harg14 arg15 harg15) K := by
    intro E K
    simp only [cc0_attend_eq_skeleton]; unfold cc0_attend_skel
    simp only [k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (hH : Hyps m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (hH : Hyps m) (c : Dev nD) (w : Fin cfg0.W) : (dats m hH 0 c).A w = V m c (Pipeline.arrRef spec0 w) := by
  dsimp only [dats]

/-- What the body leaves, window by window (the proof data's `match` reduced by `dsimp`). -/
theorem after0_0 (hH : Hyps m) (c : Dev nD) (t : Fin cfg0.N) : (dats m hH 0 c).after 0 t = iblk m c 0 t := by dsimp only [dats]
theorem after0_1 (hH : Hyps m) (c : Dev nD) (t : Fin cfg0.N) : (dats m hH 0 c).after 1 t = iblk m c 1 t := by dsimp only [dats]
theorem after0_2 (hH : Hyps m) (c : Dev nD) (t : Fin cfg0.N) : (dats m hH 0 c).after 2 t = iblk m c 2 t := by dsimp only [dats]
theorem after0_3 (hH : Hyps m) (c : Dev nD) (t : Fin cfg0.N) : (dats m hH 0 c).after 3 t = iblk m c 3 t := by dsimp only [dats]
theorem after0_4 (hH : Hyps m) (c : Dev nD) (t : Fin cfg0.N) : (dats m hH 0 c).after 4 t = iblk m c 4 t := by dsimp only [dats]
theorem after0_5 (hH : Hyps m) (c : Dev nD) (t : Fin cfg0.N) : (dats m hH 0 c).after 5 t = iblk m c 5 t := by dsimp only [dats]

/-- Each input's current staging buffer holds its block at every point, fetched there or not (`beforeK_W_of`). -/
theorem before0_0 (hH : Hyps m) (c : Dev nD) (t : Fin cfg0.N) (d) : (dats m hH 0 c).before 0 t d = iblk m c 0 t :=
  before0_0_of m (dats m hH 0 c) (A_eq m hH c 0) (after0_0 m hH c) t d
theorem before0_1 (hH : Hyps m) (c : Dev nD) (t : Fin cfg0.N) (d) : (dats m hH 0 c).before 1 t d = iblk m c 1 t :=
  before0_1_of m (dats m hH 0 c) (A_eq m hH c 1) (after0_1 m hH c) t d
theorem before0_2 (hH : Hyps m) (c : Dev nD) (t : Fin cfg0.N) (d) : (dats m hH 0 c).before 2 t d = iblk m c 2 t :=
  before0_2_of m (dats m hH 0 c) (A_eq m hH c 2) (after0_2 m hH c) t d
theorem before0_3 (hH : Hyps m) (c : Dev nD) (t : Fin cfg0.N) (d) : (dats m hH 0 c).before 3 t d = iblk m c 3 t :=
  before0_3_of m (dats m hH 0 c) (A_eq m hH c 3) (after0_3 m hH c) t d
theorem before0_4 (hH : Hyps m) (c : Dev nD) (t : Fin cfg0.N) (d) : (dats m hH 0 c).before 4 t d = iblk m c 4 t :=
  before0_4_of m (dats m hH 0 c) (A_eq m hH c 4) (after0_4 m hH c) t d
theorem before0_5 (hH : Hyps m) (c : Dev nD) (t : Fin cfg0.N) (d) : (dats m hH 0 c).before 5 t d = iblk m c 5 t :=
  before0_5_of m (dats m hH 0 c) (A_eq m hH c 5) (after0_5 m hH c) t d

/-! ## The body obligation, at a generic point -/

/-- What the body is called with at point `t` (Lib/Pipeline.lean `BodyObligation`'s precondition, the windows one by one), -/
def bodyPre (hH : Hyps m) (c : Dev nD) (t : Fin cfg0.N) : sProp 𝕄 :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d))
    ∗ (∃ d, owns (c : Thread nD τ) (ms0_3 t) fullShare ((dats m hH 0 c).before 3 t d))
    ∗ (∃ d, owns (c : Thread nD τ) (ms0_4 t) fullShare ((dats m hH 0 c).before 4 t d))
    ∗ (∃ d, owns (c : Thread nD τ) (ms0_5 t) fullShare ((dats m hH 0 c).before 5 t d))
    ∗ (∃ d, owns (c : Thread nD τ) (ms0_6 t) fullShare d))

/-- and what it returns. -/
def bodyPost (hH : Hyps m) (c : Dev nD) (t : Fin cfg0.N) : sProp 𝕄 :=
  iprop((dats m hH 0 c).Φ t.succ ∗ (dats m hH 0 c).owesAt () t.succ
    ∗ owns (c : Thread nD τ) (ms0_0 t) fullShare ((dats m hH 0 c).after 0 t)
    ∗ owns (c : Thread nD τ) (ms0_1 t) fullShare ((dats m hH 0 c).after 1 t)
    ∗ owns (c : Thread nD τ) (ms0_2 t) fullShare ((dats m hH 0 c).after 2 t)
    ∗ owns (c : Thread nD τ) (ms0_3 t) fullShare ((dats m hH 0 c).after 3 t)
    ∗ owns (c : Thread nD τ) (ms0_4 t) fullShare ((dats m hH 0 c).after 4 t)
    ∗ owns (c : Thread nD τ) (ms0_5 t) fullShare ((dats m hH 0 c).after 5 t)
    ∗ (∃ d, owns (c : Thread nD τ) (ms0_6 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hH : Hyps m) (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0_0, before0_1, before0_2, before0_3, before0_4, before0_5]
  rw [show (dats m hH 0 c).Φ t.succ = (dats m hH 0 c).Φ t.castSucc from rfl,
    show (dats m hH 0 c).owesAt () t.succ = (dats m hH 0 c).owesAt () t.castSucc from rfl,
    after0_0, after0_1, after0_2, after0_3, after0_4, after0_5]
  rw [show (dats m hH 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (Hyps.c0 hH c t) (Hyps.c1 hH c t) (Hyps.c2 hH c t) (Hyps.c3 hH c t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hH : Hyps m) (c : Dev nD) : BodyObligation (dats (F := F) m hH 0 c) (defs₀ (F := F)) Variants.none () Set.univ forgets0 := fun t => by
  rw [bigSep_W0, bigSep_W0, defs₀_row]
  exact triple_restated (sound_body m hH c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hH : Hyps m) : θ_run defs (onTc (τ := τ) (main (F := F))) (s₀ m ρ) (fun r => (Pipeline.RDat.FramePost (cfgs 0) (fun c => (dats m hH 0 c).toRForget forgets0) (V m)) r ∧ r.2.sem = fun _ => 0) :=
  Pipeline.θ_run_frame_forget (Q' := _) cfgs (dats m hH) (0 : Fin 1) launch0 defs₀ Variants.none forgets0 m ρ main
    (hbody := fun c => (body_obligation m hH c).loose) (hshare := fun c => (dats m hH 0 c).share_full fun _ => rfl)
    (howed := fun _ _ => rfl) (V := V m) (hmain := hmain m Variants.none) (hA := A_eq m hH) (hΦ := fun _ _ => rfl)

/-- At the compiled mesh, for any values, from any memory with zero counters: every weakly fair execution of @main on the
    TensorCores terminates, and every final state has every INPUT array of the pipeline unchanged, nothing stated of the
    FORGOTTEN outputs (window 6) (Lib/Pipeline/Frame.lean `RDat.FramePost` over the proof data with those windows
    forgotten, Dat.lean `Dat.toRForget`), and every other unscoped buffer at its region-entry contents. -/
theorem run_main (hH : Hyps m) : θ_run defs (onTc (τ := τ) (main (F := F))) (s₀ m ρ) (Pipeline.RDat.FramePost (cfgs 0) (fun c => (dats m hH 0 c).toRForget forgets0) (V m)) :=
  (θ_run defs _ _).mono (fun _ h => h.1) (run_main_quiescent m ρ hH)

/-- `frame` without the counters: the argument arrays end unchanged. -/
theorem unchanged (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m hH 0 c).toRForget forgets0) (A_eq m hH) (run_main m ρ hH)

/-- THE FRAME: `Cert.quiescent_KernelIdeal`'s statement (Defs.lean) at any `F` — Proof.lean cites it at `Bits`:
    `theorem Cert.Proof.claim : Cert.Claim := ⟨Cert.LastKernelIdeal.Gen.facts, fun m ρ _ => Cert.LastKernelIdeal.Gen.frame m ρ⟩`; here UNDER `Hyps` (the side conditions the body assumes,
    at every point), which Proof.lean proves from the precondition: `⟨…, fun m ρ h => Cert.LastKernelIdeal.Gen.frame m ρ (hyps_of_pre m h)⟩`. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hH) ((θ_run defs _ _).mono (fun _ h => h.2) (run_main_quiescent m ρ hH))

end Cert.LastKernelIdeal.Run

end
-- ==== Proof.LastKernelIdealSide.lean ====
/- The side conditions `LastKernelIdeal`'s body assumes of the sorted positions it reads, from their range. -/
module

public import proofs.«01_k».proof.Proof.LastPerm
public import proofs.«01_k».proof.Proof.LastKernelIdealRun

@[expose] public section

set_option maxRecDepth 16384

noncomputable section

namespace Cert.LastKernelIdeal.Run

open Cert.LastKernelIdeal Cert.LastKernelIdeal.Gen
open Idealize.ShloMosaic Idealize.ShloMosaic.TcCoe

variable (m : (ℓ : Loc nD τ sig) → Buf (Elt Ideal) ℓ)

theorem index0 : ∀ t : Fin grid0.N, win0_0.index t = ![16 + (grid0.coords t 0).val, (grid0.coords t 1).val, 0, 0] := by
  decide +kernel

/-- A word of a point's block is a word of its batch and head group. -/
theorem iblk0 (c : Dev nD) (t : Fin cfg0.N) (h : Fin 4) (r : Fin 2304) :
    iblk m c 0 t (ix4 0 0 h r)
      = m ((c : Thread nD τ).loc main_arg0)
        (ix4 ⟨16 + (grid0.coords t 0).val, by have := (grid0.coords t 0).isLt; change _ < 8 at this; omega⟩ (grid0.coords t 1) h r) := by
  blk_ext [iblk, index0 t]

theorem iblk0_lt (c : Dev nD) (t : Fin cfg0.N) (hp : LastPerm.InRange (m ((c : Thread nD τ).loc main_arg0))) (i) :
    (iblk m c 0 t i).toNat < 2304 := by
  have hi : i = (ix4 (0 : Fin 1) (0 : Fin 1) (i 2 : Fin 4) (i 3 : Fin 2304) : (⟨4, ![1, 1, 4, 2304]⟩ : Shape).Idx) := by
    have h0 : (i 0).val < 1 := (i 0).isLt
    have h1 : (i 1).val < 1 := (i 1).isLt
    funext a; fin_cases a
    · exact Fin.ext (by show (i 0).val = 0; omega)
    · exact Fin.ext (by show (i 1).val = 0; omega)
    · rfl
    · rfl
  have e := iblk0 m c t (i 2 : Fin 4) (i 3 : Fin 2304)
  rw [← hi] at e
  rw [e]
  exact hp ⟨(grid0.coords t 0).val, (grid0.coords t 0).isLt⟩ (grid0.coords t 1) (i 2) (i 3)

theorem chk1_of_lt (v : BitVec 32) (h : v.toNat < 2304) : k0_chk1 v := by
  intro a; fin_cases a <;> simp [k0_off20, Scalar.indexCast] <;> omega
theorem chk2_of_lt (v : BitVec 32) (h : v.toNat < 2304) : k0_chk2 v := by
  intro a; fin_cases a <;> simp [k0_off40, Scalar.indexCast] <;> omega
theorem chk3_of_lt (v : BitVec 32) (h : v.toNat < 2304) : k0_chk3 v := by
  intro a; fin_cases a <;> simp [k0_off60, Scalar.indexCast] <;> omega
theorem chk4_of_lt (v : BitVec 32) (h : v.toNat < 2304) : k0_chk4 v := by
  intro a; fin_cases a <;> simp [k0_off80, Scalar.indexCast] <;> omega

/-- The range of the sorted positions gives every side condition. -/
theorem hyps_of_inRange (hp : ∀ c : Dev nD, LastPerm.InRange (m ((c : Thread nD τ).loc main_arg0))) : Hyps m :=
  Hyps.of
    (fun c t k hk => by simp only [View.readAt_apply, Memref.IsWhole.read_unread]; exact chk1_of_lt _ (iblk0_lt m c t (hp c) _))
    (fun c t k hk => by simp only [View.readAt_apply, Memref.IsWhole.read_unread]; exact chk2_of_lt _ (iblk0_lt m c t (hp c) _))
    (fun c t k hk => by simp only [View.readAt_apply, Memref.IsWhole.read_unread]; exact chk3_of_lt _ (iblk0_lt m c t (hp c) _))
    (fun c t k hk => by simp only [View.readAt_apply, Memref.IsWhole.read_unread]; exact chk4_of_lt _ (iblk0_lt m c t (hp c) _))

end Cert.LastKernelIdeal.Run

end
-- ==== Proof.LastPreserves.lean ====
/- The idealization changed `LastKernel` only where its rules say: each rule's statement at the shapes and constants it was
   taken at. -/
module

public import proofs.«01_k».proof.Defs
public import Idealize.ShloMosaic.Lib.Bf16PairInverse

@[expose] public section

noncomputable section

namespace Cert.LastPreserves

open Idealize.ShloMosaic

theorem preserves : Cert.preserves_LastKernel_LastKernelIdeal :=
  ⟨IdealRules.bf16_pair.bufferStatement _ _, IdealRules.bf16_pair.bufferStatement _ _,
    IdealRules.named_const.statement _ _ _ _ _ rfl, IdealRules.named_const.statement _ _ _ _ _ rfl,
    IdealRules.bf16_pair.packStatement _, IdealRules.bf16_pair.statement _ _, IdealRules.bf16_pair.statement _ _,
    IdealRules.bf16_pair.statement _ _, IdealRules.bf16_pair.statement _ _, IdealRules.bf16_pair.statement _ _⟩

end Cert.LastPreserves

end
-- ==== Proof.LastOps.lean ====
/- The operations of a head of the kernel, each read at an index: the codes decoded and scaled, the scores, their
   exponentials and the weighted sums. -/
module
public import proofs.«01_k».proof.Proof.Gen.LastKernelIdeal.Frame
public import proofs.«01_k».proof.Proof.Gen.LastKernelIdeal.Loops
public import Idealize.ShloMosaic.Lib.Pipeline.ValueKit
public import Idealize.ShloMosaic.PureOps.Ideal
public import Idealize.ShloMosaic.Lib.BitcastFour
@[expose] public section
set_option maxRecDepth 16384
noncomputable section
namespace Cert.LastKernelIdeal.Ops
open Cert.LastKernelIdeal Cert.LastKernelIdeal.Gen
open Idealize.ShloMosaic Idealize.ShloMosaic.TcCoe
variable {F : FTy → Type} [FloatOps F] [Named F]

/-- A slab of words, its bytes read as fp8. -/
def slab (w : Vec F S1x1x1x8x128 .i32) : FVec F S32x128 .bf16 :=
  extf .bf16 (bitcastToFloat .fp8e4m3 (bitcast S32x128 8 (shapeCast S8x128 w shapeCasts_S1x1x1x8x128_S8x128) bitcasts_S8x128_w32_S32x128_w8)) bitsLt_fp8e4m3_bf16

def auxTile (a : Vec F S1x1x8x128 .f32) : FVec F S8x128 .f32 := shapeCast S8x128 a shapeCasts_S1x1x8x128_S8x128

/-- A slab's values, each lane multiplied by its scale. -/
def scaled (w : Vec F S1x1x1x8x128 .i32) (r : FVec F S1x128 .f32) : FVec F S32x128 .bf16 :=
  mulf (slab w) (broadcastTo S32x128 (truncf .bf16 r bitsLt_bf16_f32) broadcasts_S1x128_S32x128)

def keyParts (w : Fin 5 → Vec F S1x1x1x8x128 .i32) (a : Vec F S1x1x8x128 .f32) : Fin 5 → FVec F S32x128 .bf16 :=
  ![scaled (w 0) (extractStridedSlice S1x128 ![0, 0] (auxTile a) slices_S8x128_o0_0_S1x128),
    scaled (w 1) (extractStridedSlice S1x128 ![1, 0] (auxTile a) slices_S8x128_o1_0_S1x128),
    scaled (w 2) (extractStridedSlice S1x128 ![2, 0] (auxTile a) slices_S8x128_o2_0_S1x128),
    scaled (w 3) (extractStridedSlice S1x128 ![3, 0] (auxTile a) slices_S8x128_o3_0_S1x128),
    scaled (w 4) (extractStridedSlice S1x128 ![4, 0] (auxTile a) slices_S8x128_o4_0_S1x128)]

/-- The keys of a tile, channel by lane. -/
def keys (w : Fin 5 → Vec F S1x1x1x8x128 .i32) (a : Vec F S1x1x8x128 .f32) : FVec F S160x128 .bf16 :=
  concatenate S160x128 0 [⟨S32x128, keyParts w a 0⟩, ⟨S32x128, keyParts w a 1⟩, ⟨S32x128, keyParts w a 2⟩,
    ⟨S32x128, keyParts w a 3⟩, ⟨S32x128, keyParts w a 4⟩] concatenates_S32x128_S32x128_S32x128_S32x128_S32x128_S160x128_d0

def valParts (w : Fin 5 → Vec F S1x1x1x8x128 .i32) (a : Vec F S1x1x8x128 .f32) (j : Fin 5) : FVec F S32x128 .bf16 :=
  scaled (w j) (extractStridedSlice S1x128 ![5, 0] (auxTile a) slices_S8x128_o5_0_S1x128)

/-- The values of a tile and the sixteen rows of ones. -/
def vals (w : Fin 5 → Vec F S1x1x1x8x128 .i32) (a : Vec F S1x1x8x128 .f32) : FVec F S176x128 .bf16 :=
  k0_pay123 (valParts w a 0) (valParts w a 1) (valParts w a 2) (valParts w a 3) (valParts w a 4)

def sqPart (k : FVec F S32x128 .bf16) : FVec F S8x128 .f32 :=
  multiReduction .add [0] S8x128 (shapeCast S4x8x128 (mulf (extf .f32 k bitsLt_bf16_f32) (extf .f32 k bitsLt_bf16_f32)) shapeCasts_S32x128_S4x8x128) 0x00000000#32 reduces_S4x8x128_S8x128 (.inl rfl) rfl

def squares (w : Fin 5 → Vec F S1x1x1x8x128 .i32) (a : Vec F S1x1x8x128 .f32) : FVec F S8x128 .f32 :=
  addf (addf (addf (addf (addf (broadcast S8x128 (Scalar.ofBits .f32 0x00000000#32)) (sqPart (keyParts w a 0))) (sqPart (keyParts w a 1)))
    (sqPart (keyParts w a 2))) (sqPart (keyParts w a 3))) (sqPart (keyParts w a 4))

/-- The factor each key's scores carry. -/
def norms (w : Fin 5 → Vec F S1x1x1x8x128 .i32) (a : Vec F S1x1x8x128 .f32) : FVec F S1x128 .f32 := k0_pay124 (squares w a)

/-- A byte of a word, read as fp8. -/
def codeAt (x : BitVec 32) (b : ℕ) : EReal := Ideal.ofBits .fp8e4m3 (x.extractLsb' (8 * b) 8)

theorem bitcast_byte {R n : ℕ} {R4 : ℕ} (x : (⟨2, ![R, n]⟩ : Shape).Idx → BitVec 32)
    (h : (⟨2, ![R, n]⟩ : Shape).Bitcasts 32 ⟨2, ![R4, n]⟩ 8) (p : Fin R4) (l : Fin n) (a : Fin R) (ha : a.val = p.val / 4) :
    bitcast ⟨2, ![R4, n]⟩ 8 x h (ix2 p l) = (x (ix2 a l)).extractLsb' (8 * (p.val % 4)) 8 := by
  apply BitVec.eq_of_getLsbD_eq
  intro q hq
  rw [bitcast_getLsbD x h _ q hq (by decide), BitVec.getLsbD_extractLsb']
  have hr : (⟨2, ![R4, n]⟩ : Shape).row (ix2 p l) = p.val := rfl
  have e2 : ((⟨2, ![R4, n]⟩ : Shape).row (ix2 p l) * 8 + q) % 32 = 8 * (p.val % 4) + q := by rw [hr]; omega
  rw [e2]
  simp only [hq, decide_true, Bool.true_and]
  congr 2
  funext c
  match c with
  | ⟨0, _⟩ => exact Fin.ext ((h.srcIdx_row _ _ _ ⟨0, Nat.zero_lt_two⟩ rfl).trans (by rw [hr]; show _ = a.val; omega))
  | ⟨1, _⟩ => exact Fin.ext (h.srcIdx_other _ _ _ ⟨1, Nat.one_lt_two⟩ (by show ¬ 1 + 2 = 2; omega))

theorem slab_at (w : Vec Ideal S1x1x1x8x128 .i32) (r : Fin 32) (l : Fin 128) :
    slab w (ix2 r l) = codeAt (w (ix5 0 0 0 ⟨r.val / 4, by omega⟩ l)) (r.val % 4) := by
  pointwise [slab]
  rw [codeAt]
  refine congrArg (Ideal.ofBits .fp8e4m3) ((bitcast_byte _ _ r l ⟨r.val / 4, by omega⟩ rfl).trans ?_)
  pointwise

theorem scaled_at (w : Vec Ideal S1x1x1x8x128 .i32) (x : FVec Ideal S1x128 .f32) (r : Fin 32) (l : Fin 128) :
    scaled w x (ix2 r l) = codeAt (w (ix5 0 0 0 ⟨r.val / 4, by omega⟩ l)) (r.val % 4) * x (ix2 0 l) := by
  pointwise [scaled]
  rw [slab_at]

/-- A value of a tile: the code of channel `d`, multiplied by row `j` of the side values. -/
def elt (w : Fin 5 → Vec Ideal S1x1x1x8x128 .i32) (a : Vec Ideal S1x1x8x128 .f32) (j : ℕ → Fin 8) (d : Fin 160) (l : Fin 128) : EReal :=
  codeAt (w ⟨d.val / 32, by omega⟩ (ix5 0 0 0 ⟨d.val % 32 / 4, by omega⟩ l)) (d.val % 4) * a (ix4 0 0 (j (d.val / 32)) l)

def rowOf (n : ℕ) : Fin 8 := ⟨n % 8, by omega⟩

theorem keyParts_at (w : Fin 5 → Vec Ideal S1x1x1x8x128 .i32) (a : Vec Ideal S1x1x8x128 .f32) (j : Fin 5) (r : Fin 32) (l : Fin 128) :
    keyParts w a j (ix2 r l) = elt w a rowOf ⟨32 * j.val + r.val, by omega⟩ l := by
  have e1 : (32 * j.val + r.val) / 32 = j.val := by omega
  have e2 : (32 * j.val + r.val) % 32 = r.val := by omega
  have e3 : (32 * j.val + r.val) % 4 = r.val % 4 := by omega
  unfold elt
  simp only [e1, e2, e3]
  fin_cases j <;> (show scaled _ _ (ix2 r l) = _; rw [scaled_at]; congr 1 <;> pointwise [auxTile, rowOf])

theorem keys_at (w : Fin 5 → Vec Ideal S1x1x1x8x128 .i32) (a : Vec Ideal S1x1x8x128 .f32) (d : Fin 160) (l : Fin 128) :
    keys w a (ix2 d l) = elt w a rowOf d l := by
  have hd := d.isLt
  pointwise [keys]
  split_ifs <;> (rw [keyParts_at]; congr 1; apply Fin.ext; simp only [Fin.val_zero, Fin.val_one, Fin.val_two]; simp; try omega)

theorem valParts_at (w : Fin 5 → Vec Ideal S1x1x1x8x128 .i32) (a : Vec Ideal S1x1x8x128 .f32) (j : Fin 5) (r : Fin 32) (l : Fin 128) :
    valParts w a j (ix2 r l) = elt w a (fun _ => 5) ⟨32 * j.val + r.val, by omega⟩ l := by
  have e1 : (32 * j.val + r.val) / 32 = j.val := by omega
  have e2 : (32 * j.val + r.val) % 32 = r.val := by omega
  have e3 : (32 * j.val + r.val) % 4 = r.val % 4 := by omega
  unfold elt
  simp only [e1, e2, e3]
  rw [valParts, scaled_at]; congr 1; pointwise [auxTile]

theorem vals_at (w : Fin 5 → Vec Ideal S1x1x1x8x128 .i32) (a : Vec Ideal S1x1x8x128 .f32) (d : Fin 160) (l : Fin 128) :
    vals w a (ix2 ⟨d.val, by omega⟩ l) = elt w a (fun _ => 5) d l := by
  have hd := d.isLt
  pointwise [vals, k0_pay123]
  split_ifs <;> first | (exfalso; omega) | (rw [valParts_at]; congr 1; apply Fin.ext; simp only [Fin.val_zero, Fin.val_one, Fin.val_two]; simp; try omega)

theorem vals_one (w : Fin 5 → Vec Ideal S1x1x1x8x128 .i32) (a : Vec Ideal S1x1x8x128 .f32) (d : Fin 176) (hd : 160 ≤ d.val) (l : Fin 128) :
    vals w a (ix2 d l) = 1 := by
  pointwise [vals, k0_pay123, k0_pay121]
  repeat rw [dif_neg (by omega)]

/-- Eight sums of five sums of four are one sum of a hundred and sixty. -/
theorem sum_regroup (f : Fin 160 → EReal) :
    (∑ x : Fin 8, (∑ y : Fin 4, f ⟨32 * (0 : Fin 5).val + (y.val * 8 + x.val), by omega⟩ + ∑ y : Fin 4, f ⟨32 * (1 : Fin 5).val + (y.val * 8 + x.val), by have : (1 : Fin 5).val = 1 := rfl; omega⟩
      + ∑ y : Fin 4, f ⟨32 * (2 : Fin 5).val + (y.val * 8 + x.val), by have : (2 : Fin 5).val = 2 := rfl; omega⟩ + ∑ y : Fin 4, f ⟨32 * (3 : Fin 5).val + (y.val * 8 + x.val), by have : (3 : Fin 5).val = 3 := rfl; omega⟩
      + ∑ y : Fin 4, f ⟨32 * (4 : Fin 5).val + (y.val * 8 + x.val), by have : (4 : Fin 5).val = 4 := rfl; omega⟩)) = ∑ d, f d := by
  have h : ∀ x : Fin 8, (∑ y : Fin 4, f ⟨32 * (0 : Fin 5).val + (y.val * 8 + x.val), by omega⟩ + ∑ y : Fin 4, f ⟨32 * (1 : Fin 5).val + (y.val * 8 + x.val), by have : (1 : Fin 5).val = 1 := rfl; omega⟩
      + ∑ y : Fin 4, f ⟨32 * (2 : Fin 5).val + (y.val * 8 + x.val), by have : (2 : Fin 5).val = 2 := rfl; omega⟩ + ∑ y : Fin 4, f ⟨32 * (3 : Fin 5).val + (y.val * 8 + x.val), by have : (3 : Fin 5).val = 3 := rfl; omega⟩
      + ∑ y : Fin 4, f ⟨32 * (4 : Fin 5).val + (y.val * 8 + x.val), by have : (4 : Fin 5).val = 4 := rfl; omega⟩)
      = ∑ j : Fin 5, ∑ y : Fin 4, f ⟨32 * j.val + (y.val * 8 + x.val), by omega⟩ := fun x => by
    rw [Fin.sum_univ_five]
  rw [Finset.sum_congr rfl fun x _ => h x]
  rw [← Finset.sum_congr rfl fun x _ => Fintype.sum_prod_type (f := fun p : Fin 5 × Fin 4 => f ⟨32 * p.1.val + (p.2.val * 8 + x.val), by omega⟩)]
  rw [← Fintype.sum_prod_type (f := fun p : Fin 8 × (Fin 5 × Fin 4) => f ⟨32 * p.2.1.val + (p.2.2.val * 8 + p.1.val), by omega⟩)]
  refine Fintype.sum_bijective (fun p : Fin 8 × (Fin 5 × Fin 4) => (⟨32 * p.2.1.val + (p.2.2.val * 8 + p.1.val), by omega⟩ : Fin 160)) ⟨?_, ?_⟩ _ _ fun _ => rfl
  · rintro ⟨a, b, c⟩ ⟨a', b', c'⟩ h
    have h := congrArg Fin.val h
    simp only at h
    simp only [Prod.mk.injEq, Fin.ext_iff]
    omega
  · intro d
    exact ⟨(⟨d.val % 8, by omega⟩, ⟨d.val / 32, by omega⟩, ⟨d.val % 32 / 8, by omega⟩), Fin.ext (by simp only; omega)⟩

/-- The factor of the key at lane `l`: the root mean square's reciprocal and the score's scale. -/
def normAt (w : Fin 5 → Vec Ideal S1x1x1x8x128 .i32) (a : Vec Ideal S1x1x8x128 .f32) (l : Fin 128) : EReal :=
  Ideal.rsqrt ((∑ d : Fin 160, elt w a rowOf d l * elt w a rowOf d l) * Named.named (F := Ideal) κ "inv_d" (φ := .f32) 1003277517#32 + Ideal.ofBits FTy.f32 897988541#32)
    * Named.named (F := Ideal) κ "scale" (φ := .f32) 1038718387#32

theorem norms_at (w : Fin 5 → Vec Ideal S1x1x1x8x128 .i32) (a : Vec Ideal S1x1x8x128 .f32) (l : Fin 128) :
    norms w a (ix2 0 l) = normAt w a l := by
  pointwise [norms, k0_pay124, squares, sqPart]
  simp only [keyParts_at]
  rw [sum_regroup (fun d => elt w a rowOf d l * elt w a rowOf d l)]
  rfl

theorem later_at (a : Vec Ideal S1x1x8x128 .f32) (l : Fin 128) : k0_pay125 (auxTile a) (ix2 0 l) = a (ix4 0 0 6 l) := by
  pointwise [k0_pay125, auxTile]

/-! ## One tile's scores and its product with the values -/

/-- The scores of the first chunk's rows: each row's 128 keys lie one to a lane. -/
def scoreLo (d : FVec F S128x256 .f32) (pr cr : Vec F S2x128 .f32) (ds fl : Vec F S64x128 .f32) : FVec F S64x128 .f32 :=
  have v112 : Vec F S2x128 .f32 := select (broadcastTo S2x128 (shapeCast S1x128 k0_pay119 shapeCasts_S1x128_S1x128) broadcasts_S1x128_S2x128) cr pr
  select (cmpf .olt (shapeCast S64x128 ds shapeCasts_S64x128_S64x128) (broadcastTo S64x128 (extractStridedSlice S1x128 ![1, 0] v112 slices_S2x128_o1_0_S1x128) broadcasts_S1x128_S64x128))
    (mulf (select k0_pay120 (extractStridedSlice S64x128 ![0, 128] d slices_S128x256_o0_128_S64x128) (extractStridedSlice S64x128 ![0, 0] d slices_S128x256_o0_0_S64x128))
      (broadcastTo S64x128 (extractStridedSlice S1x128 ![0, 0] v112 slices_S2x128_o0_0_S1x128) broadcasts_S1x128_S64x128))
    (shapeCast S64x128 fl shapeCasts_S64x128_S64x128)

def scoreHi (d : FVec F S128x256 .f32) (cr : Vec F S2x128 .f32) (ds fl : Vec F S64x128 .f32) : FVec F S64x128 .f32 :=
  select (cmpf .olt (shapeCast S64x128 ds shapeCasts_S64x128_S64x128) (broadcastTo S64x128 (extractStridedSlice S1x128 ![1, 0] cr slices_S2x128_o1_0_S1x128) broadcasts_S1x128_S64x128))
    (mulf (extractStridedSlice S64x128 ![64, 128] d slices_S128x256_o64_128_S64x128)
      (broadcastTo S64x128 (extractStridedSlice S1x128 ![0, 0] cr slices_S2x128_o0_0_S1x128) broadcasts_S1x128_S64x128))
    (shapeCast S64x128 fl shapeCasts_S64x128_S64x128)

/-- Each row's powers of two of its scores less their greatest. -/
def powers (s : FVec F S64x128 .f32) : FVec F S64x128 .bf16 :=
  truncf .bf16 (exp2 (subf s (broadcastTo S64x128 (shapeCast S64x1 (multiReduction .maximumf [1] S64 s 0xFF800000#32 reduces_S64x128_S64 (.inl rfl) rfl) shapeCasts_S64_S64x1) broadcasts_S64x1_S64x128))) bitsLt_bf16_f32

def weights (elo ehi : FVec F S64x128 .bf16) : FVec F S128x256 .bf16 :=
  have z : FVec F S64x128 .bf16 := broadcast S64x128 (Scalar.ofBits .bf16 0x0000#16)
  concatenate S128x256 0 [⟨S64x256, concatenate S64x256 1 [⟨S64x128, select k0_pay120 z elo⟩, ⟨S64x128, select k0_pay120 elo z⟩] concatenates_S64x128_S64x128_S64x256_d1⟩,
    ⟨S64x256, concatenate S64x256 1 [⟨S64x128, z⟩, ⟨S64x128, ehi⟩] concatenates_S64x128_S64x128_S64x256_d1⟩] concatenates_S64x256_S64x256_S128x256_d0

/-- The values' sums, divided by the sums of the weights. -/
def mixed (v : Vec F S176x256 .bf16) (p : FVec F S128x256 .bf16) : FVec F S160x128 .f32 :=
  have v159 : FVec F S176x128 .f32 := matmul dot_S176x256_S128x256_S176x128_1_1_0_0_n_n none v p (constant S176x128 .f32 0x00000000#32)
  mulf (extractStridedSlice S160x128 ![0, 0] v159 slices_S176x128_o0_0_S160x128)
    (broadcastTo S160x128 (divf (broadcast S1x128 (Scalar.ofBits .f32 0x3F800000#32)) (extractStridedSlice S1x128 ![160, 0] v159 slices_S176x128_o160_0_S1x128)) broadcasts_S1x128_S160x128)

def dots (q : Vec F S128x160 .bf16) (k : Vec F S160x256 .bf16) : FVec F S128x256 .f32 :=
  matmul dot_S128x160_S160x256_S128x256_1_0_0_1_n_n none q k (constant S128x256 .f32 0x00000000#32)

/-- A tile's result, channel by query. -/
def tileOut (q : Vec F S128x160 .bf16) (k : Vec F S160x256 .bf16) (v : Vec F S176x256 .bf16) (pr cr : Vec F S2x128 .f32)
    (dlo dhi flo fhi : Vec F S64x128 .f32) : FVec F S160x128 .f32 :=
  mixed v (weights (powers (scoreLo (dots q k) pr cr dlo flo)) (powers (scoreHi (dots q k) cr dhi fhi)))

variable (q : Vec Ideal S128x160 .bf16) (k : Vec Ideal S160x256 .bf16) (v : Vec Ideal S176x256 .bf16) (pr cr : Vec Ideal S2x128 .f32) (dlo dhi flo fhi : Vec Ideal S64x128 .f32)

theorem select_lane {α : Type} (l : ℕ) (hl : l < 128) (x y : α) :
    Scalar.select (IntOp.cmpi CmpIPredicate.slt (BitVec.ofNat 32 l) 64#32) x y = if l < 64 then x else y := by
  have : (BitVec.ofNat 32 l).slt 64#32 = decide (l < 64) := by
    rw [BitVec.slt_eq_decide, BitVec.toInt_eq_toNat_of_lt (by rw [BitVec.toNat_ofNat]; omega), BitVec.toNat_ofNat, Nat.mod_eq_of_lt (by omega)]
    exact decide_eq_decide.mpr (by show (l : ℤ) < 64 ↔ _; omega)
  by_cases h : l < 64 <;> simp [Scalar.select, IntOp.cmpi, this, h]

/-- The padded lane, from the previous tile's first, of the key that query `n` of a tile has in its lane `l`. -/
def col (n l : Fin 128) : Fin 256 := ⟨if n.val < 64 ∧ 64 ≤ l.val then l.val else 128 + l.val, by split <;> omega⟩

/-- A pair of tiles' rows, side by side. -/
def side (pr cr : Vec Ideal S2x128 .f32) (j : Fin 2) (c : Fin 256) : EReal :=
  if h : c.val < 128 then pr (ix2 j ⟨c.val, h⟩) else cr (ix2 j ⟨c.val - 128, by omega⟩)

/-- Two half tiles, one above the other. -/
def stack (lo hi : Vec Ideal S64x128 .f32) (n l : Fin 128) : EReal :=
  if h : n.val < 64 then lo (ix2 ⟨n.val, h⟩ l) else hi (ix2 ⟨n.val - 64, by omega⟩ l)

/-- The score of query `n` against the key in its lane `l`. -/
def scoreAt (n l : Fin 128) : EReal :=
  if stack dlo dhi n l < side pr cr 1 (col n l) then (∑ d, q (ix2 n d) * k (ix2 d (col n l))) * side pr cr 0 (col n l) else stack flo fhi n l

def maxAt (s : Fin 128 → EReal) : EReal := Finset.fold max (Ideal.ofBits FTy.f32 4286578688#32) s Finset.univ

theorem dots_at (r : Fin 128) (l : Fin 256) : dots q k (ix2 r l) = ∑ x, q (ix2 r x) * k (ix2 x l) := by
  pointwise [dots]

theorem scoreLo_at (r : Fin 64) (l : Fin 128) :
    scoreLo (dots q k) pr cr dlo flo (ix2 r l) = scoreAt q k pr cr dlo dhi flo fhi ⟨r.val, by omega⟩ l := by
  have hr := r.isLt
  pointwise [scoreLo, k0_pay119, k0_pay120]
  simp only [select_lane _ l.isLt, dots_at, scoreAt, stack, side, col, hr, dite_true, true_and]
  by_cases h : l.val < 64
  · have h1 : ¬ 64 ≤ l.val := by omega
    have h2 : ¬ 128 + l.val < 128 := by omega
    simp only [h, h1, h2, if_true, if_false, dite_false, Nat.add_sub_cancel_left]
  · have h1 : 64 ≤ l.val := by omega
    simp only [h, h1, if_true, if_false, l.isLt, dite_true]

theorem scoreHi_at (r : Fin 64) (l : Fin 128) :
    scoreHi (dots q k) cr dhi fhi (ix2 r l) = scoreAt q k pr cr dlo dhi flo fhi ⟨64 + r.val, by omega⟩ l := by
  have hr : ¬ 64 + r.val < 64 := by omega
  have h2 : ¬ 128 + l.val < 128 := by omega
  pointwise [scoreHi]
  simp only [dots_at, scoreAt, stack, side, col, hr, false_and, if_false, h2, dite_false, Nat.add_sub_cancel_left]

theorem powers_at (s : FVec Ideal S64x128 .f32) (r : Fin 64) (l : Fin 128) :
    powers s (ix2 r l) = Ideal.exp2 (s (ix2 r l) - maxAt fun x => s (ix2 r x)) := by
  pointwise [powers]
  rfl

/-- The weight, before it is divided, of the key in lane `l` of query `n`. -/
def powerAt (n l : Fin 128) : EReal :=
  Ideal.exp2 (scoreAt q k pr cr dlo dhi flo fhi n l - maxAt (scoreAt q k pr cr dlo dhi flo fhi n))

def allWeights : FVec Ideal S128x256 .bf16 := weights (powers (scoreLo (dots q k) pr cr dlo flo)) (powers (scoreHi (dots q k) cr dhi fhi))

theorem powers_lo (r : Fin 64) (l n l' : Fin 128) (hn : r.val = n.val) (hl : l.val = l'.val) :
    powers (scoreLo (dots q k) pr cr dlo flo) (ix2 r l) = powerAt q k pr cr dlo dhi flo fhi n l' := by
  obtain rfl : l = l' := Fin.ext hl
  have e : (⟨r.val, by omega⟩ : Fin 128) = n := Fin.ext hn
  rw [← e]
  rw [powers_at]
  simp only [scoreLo_at q k pr cr dlo dhi flo fhi, powerAt]

theorem powers_hi (r : Fin 64) (l n l' : Fin 128) (hn : 64 + r.val = n.val) (hl : l.val = l'.val) :
    powers (scoreHi (dots q k) cr dhi fhi) (ix2 r l) = powerAt q k pr cr dlo dhi flo fhi n l' := by
  obtain rfl : l = l' := Fin.ext hl
  have e : (⟨64 + r.val, by omega⟩ : Fin 128) = n := Fin.ext hn
  rw [← e]
  rw [powers_at]
  simp only [scoreHi_at q k pr cr dlo dhi flo fhi, powerAt]

theorem allWeights_at (n : Fin 128) (x : Fin 256) :
    allWeights q k pr cr dlo dhi flo fhi (ix2 n x)
      = if (if n.val < 64 then 64 ≤ x.val ∧ x.val < 192 else 128 ≤ x.val) then powerAt q k pr cr dlo dhi flo fhi n ⟨x.val % 128, by omega⟩ else 0 := by
  have hx := x.isLt
  have hn := n.isLt
  pointwise [allWeights, weights, k0_pay120]
  by_cases h1 : n.val < 64 <;> by_cases h2 : x.val < 128 <;> simp only [h1, h2, dite_true, dite_false, if_true, if_false]
  · refine (select_lane _ h2 _ _).trans ?_
    by_cases h3 : x.val < 64
    · exact (if_pos h3).trans (if_neg fun (h : 64 ≤ x.val ∧ x.val < 192) => by omega).symm
    · exact (if_neg h3).trans ((powers_lo q k pr cr dlo dhi flo fhi ⟨n.val, h1⟩ ⟨x.val, h2⟩ n ⟨x.val % 128, by omega⟩ rfl
        (Nat.mod_eq_of_lt h2).symm).trans (if_pos ⟨by omega, by omega⟩).symm)
  · refine (select_lane _ (by omega) _ _).trans ?_
    by_cases h3 : x.val - 128 < 64
    · exact (if_pos h3).trans ((powers_lo q k pr cr dlo dhi flo fhi ⟨n.val, h1⟩ ⟨x.val - 128, by omega⟩ n ⟨x.val % 128, by omega⟩ rfl
        (show x.val - 128 = x.val % 128 by omega)).trans (if_pos ⟨by omega, by omega⟩).symm)
    · exact (if_neg h3).trans (if_neg fun (h : 64 ≤ x.val ∧ x.val < 192) => by omega).symm
  · exact (if_neg fun (h : 128 ≤ x.val) => by omega).symm
  · exact (powers_hi q k pr cr dlo dhi flo fhi ⟨n.val - 64, by omega⟩ ⟨x.val - 128, by omega⟩ n ⟨x.val % 128, by omega⟩
      (show 64 + (n.val - 64) = n.val by omega) (show x.val - 128 = x.val % 128 by omega)).trans (if_pos (by omega)).symm

/-- A sum over both tiles, weighted, is the sum over the window's lanes. -/
theorem sum_window (f : Fin 256 → EReal) (n : Fin 128) :
    ∑ x, f x * allWeights q k pr cr dlo dhi flo fhi (ix2 n x) = ∑ l, f (col n l) * powerAt q k pr cr dlo dhi flo fhi n l := by
  simp only [allWeights_at]
  rw [Fin.sum_univ_add (a := 128) (b := 128), ← Finset.sum_add_distrib]
  refine Finset.sum_congr rfl fun l _ => ?_
  have hl := l.isLt
  have e1 : (⟨(Fin.castAdd 128 l).val % 128, by omega⟩ : Fin 128) = l := Fin.ext (by simp only [Fin.val_castAdd]; omega)
  have e2 : (⟨(Fin.natAdd 128 l).val % 128, by omega⟩ : Fin 128) = l := Fin.ext (by simp only [Fin.val_natAdd]; omega)
  rw [e1, e2]
  by_cases h : n.val < 64 ∧ 64 ≤ l.val
  · have hc : col n l = Fin.castAdd 128 l := Fin.ext (by simp only [col, h, and_self, if_true, Fin.val_castAdd])
    rw [if_pos (by rw [if_pos h.1]; simp only [Fin.val_castAdd]; omega), if_neg (by rw [if_pos h.1]; simp only [Fin.val_natAdd]; omega), mul_zero, add_zero, hc]
  · have hc : col n l = Fin.natAdd 128 l := Fin.ext (by simp only [col, if_neg h, Fin.val_natAdd])
    rw [if_neg (by split <;> simp only [Fin.val_castAdd] <;> omega), if_pos (by split <;> simp only [Fin.val_natAdd] <;> omega), mul_zero, zero_add, hc]

theorem mixed_at (p : FVec Ideal S128x256 .bf16) (r : Fin 160) (l : Fin 128) :
    mixed v p (ix2 r l) = (∑ x, v (ix2 ⟨r.val, by omega⟩ x) * p (ix2 l x)) * Ideal.div 1 (∑ x, v (ix2 160 x) * p (ix2 l x)) := by
  pointwise [mixed]

theorem tileOut_at (r : Fin 160) (n : Fin 128) :
    tileOut q k v pr cr dlo dhi flo fhi (ix2 r n)
      = (∑ l, v (ix2 ⟨r.val, by omega⟩ (col n l)) * powerAt q k pr cr dlo dhi flo fhi n l)
        * Ideal.div 1 (∑ l, v (ix2 160 (col n l)) * powerAt q k pr cr dlo dhi flo fhi n l) := by
  refine (mixed_at v _ r n).trans ?_
  exact congrArg₂ (· * Ideal.div 1 ·) (sum_window q k pr cr dlo dhi flo fhi (fun x => v (ix2 ⟨r.val, by omega⟩ x)) n)
    (sum_window q k pr cr dlo dhi flo fhi (fun x => v (ix2 160 x)) n)

end Cert.LastKernelIdeal.Ops
-- ==== Proof.LastFill.lean ====
/- What a buffer holds after a loop of disjoint stores, read at an index. -/
module
public import proofs.«01_k».proof.Proof.LastOps
public import Idealize.ShloMosaic.Lib.WritesUnit
@[expose] public section
set_option maxRecDepth 16384
noncomputable section
namespace Cert.LastKernelIdeal.Fill
open Idealize.ShloMosaic Idealize.ShloMosaic.View

section Loop
variable {nD : ℕ} {sig : RefSig} {κ : Kind} {sp : Space} {s : Shape} {e : EltTy} {Val : EltTy → Type}
  (v : View sig κ sp s e) (f : v.ty.Contents Val) (L : ℕ → List (Piece Val s e)) (n : ℕ)

/-- An index some trip covers reads what that trip stores, when no later trip covers it with anything else. -/
theorem read_loop (y : s.Idx) (cov : ℕ → Prop) (G : Val e)
    (hin : ∀ k, k < n → cov k → v.read Val (v.writes Val f (L (k + 1))) y = G)
    (hout : ∀ k, k < n → ¬ cov k → v.read Val (v.writes Val f (L (k + 1))) y = v.read Val (v.writes Val f (L k)) y) :
    (∃ k, k < n ∧ cov k) → v.read Val (v.writes Val f (L n)) y = G := by
  induction n with
  | zero => rintro ⟨k, hk, -⟩; exact absurd hk (Nat.not_lt_zero _)
  | succ n ih =>
    rintro ⟨k, hk, hc⟩
    by_cases h : cov n
    · exact hin n (Nat.lt_succ_self n) h
    · rw [hout n (Nat.lt_succ_self n) h]
      refine ih (fun k hk => hin k (by omega)) (fun k hk => hout k (by omega)) ⟨k, ?_, hc⟩
      rcases Nat.lt_succ_iff_lt_or_eq.mp hk with h' | rfl
      · exact h'
      · exact absurd hc h

/-- An index no trip covers reads what was there. -/
theorem read_loop_out (y : s.Idx) (h0 : L 0 = [])
    (hout : ∀ k, k < n → v.read Val (v.writes Val f (L (k + 1))) y = v.read Val (v.writes Val f (L k)) y) :
    v.read Val (v.writes Val f (L n)) y = v.read Val f y := by
  induction n with
  | zero => rw [h0]; rfl
  | succ n ih => rw [hout n (Nat.lt_succ_self n)]; exact ih fun k hk => hout k (by omega)

variable (size : Fin s.rank → ℕ) (off : Fin n → Fin s.rank → ℕ) (inb : ∀ i a, off i a + size a ≤ s.size a)
  (w : Fin n → (⟨s.rank, size⟩ : Shape).Idx → Val e)

/-- One store a trip: an index in one trip's rectangle only reads that trip's store. -/
theorem tiles_read (hL : ∀ k : Fin n, L (k.val + 1) = [⟨Rect.unit (off k) size (inb k), w k⟩] ++ L k.val)
    (y : s.Idx) (i : Fin n) (x : (⟨s.rank, size⟩ : Shape).Idx) (hx : ∀ a, (y a).val = off i a + (x a).val) (ax : Fin s.rank)
    (hdis : ∀ i' : Fin n, i' ≠ i → (y ax).val < off i' ax ∨ off i' ax + size ax ≤ (y ax).val) :
    v.read Val (v.writes Val f (L n)) y = w i x := by
  refine read_loop v f L n y (fun k => k = i.val) (w i x) ?_ ?_ ⟨i.val, i.isLt, rfl⟩
  · rintro k hk rfl
    rw [hL i]
    exact read_writes_cons_unit_of_mem v f (inb i) (w i) _ y x rfl hx
  · intro k hk hne
    rw [hL ⟨k, hk⟩]
    exact read_writes_cons_unit_of_not_mem v f (inb ⟨k, hk⟩) (w ⟨k, hk⟩) _ y rfl ax (hdis ⟨k, hk⟩ fun h => hne (congrArg Fin.val h))

/-- and an index in no trip's rectangle reads what was there. -/
theorem tiles_read_out (h0 : L 0 = []) (hL : ∀ k : Fin n, L (k.val + 1) = [⟨Rect.unit (off k) size (inb k), w k⟩] ++ L k.val)
    (y : s.Idx) (ax : Fin s.rank) (hdis : ∀ i' : Fin n, (y ax).val < off i' ax ∨ off i' ax + size ax ≤ (y ax).val) :
    v.read Val (v.writes Val f (L n)) y = v.read Val f y :=
  read_loop_out v f L n y h0 fun k hk => by
    rw [hL ⟨k, hk⟩]
    exact read_writes_cons_unit_of_not_mem v f (inb ⟨k, hk⟩) (w ⟨k, hk⟩) _ y rfl ax (hdis ⟨k, hk⟩)

end Loop

section Lanes
variable {sig : RefSig} {κ : Kind} {sp : Space} {e : EltTy} {Val : EltTy → Type} {R : ℕ} {n : ℕ}
  (v : View sig κ sp ⟨2, ![R, 2432]⟩ e) (f : v.ty.Contents Val) (L : ℕ → List (Piece Val ⟨2, ![R, 2432]⟩ e))

/-- A tile of lanes stored per trip. -/
theorem lanes_read (hn : n = 18) (off : Fin n → Fin 2 → ℕ) (inb : ∀ i a, off i a + (![R, 128] : Fin 2 → ℕ) a ≤ (⟨2, ![R, 2432]⟩ : Shape).size a)
    (w : Fin n → (⟨2, ![R, 128]⟩ : Shape).Idx → Val e)
    (hL : ∀ k : Fin n, L (k.val + 1) = [⟨Rect.unit (off k) ![R, 128] (inb k), w k⟩] ++ L k.val)
    (ho : ∀ k, off k = ![0, 128 * k.val + 128]) (d : Fin R) (x : Fin 2432) (hx : 128 ≤ x.val) :
    v.read Val (v.writes Val f (L n)) (ix2 d x) = w ⟨(x.val - 128) / 128, by omega⟩ (ix2 d ⟨(x.val - 128) % 128, by omega⟩) := by
  refine tiles_read v f L n _ off inb w hL (ix2 d x) ⟨(x.val - 128) / 128, by omega⟩ (ix2 d ⟨(x.val - 128) % 128, by omega⟩) ?_ (1 : Fin 2) ?_
  · intro a
    rw [ho]
    match a with
    | ⟨0, _⟩ => show d.val = 0 + d.val; omega
    | ⟨1, _⟩ => show x.val = 128 * ((x.val - 128) / 128) + 128 + (x.val - 128) % 128; omega
  · intro i hi
    rw [ho]
    have : i.val ≠ (x.val - 128) / 128 := fun h => hi (Fin.ext h)
    show x.val < 128 * i.val + 128 ∨ 128 * i.val + 128 + 128 ≤ x.val
    omega

/-- The last tile, stored again in front of the first. -/
theorem copy_read (w : (⟨2, ![R, 128]⟩ : Shape).Idx → Val e) (inb) (P : List (Piece Val ⟨2, ![R, 2432]⟩ e)) (d : Fin R) (x : Fin 2432) :
    v.read Val (v.writes Val f (⟨Rect.unit ![0, 0] ![R, 128] inb, w⟩ :: P)) (ix2 d x)
      = if h : x.val < 128 then w (ix2 d ⟨x.val, h⟩) else v.read Val (v.writes Val f P) (ix2 d x) := by
  split
  · rename_i h
    refine read_writes_cons_unit_of_mem v f inb w P (ix2 d x) (ix2 d ⟨x.val, h⟩) rfl ?_
    intro a
    match a with
    | ⟨0, _⟩ => show d.val = 0 + d.val; omega
    | ⟨1, _⟩ => show x.val = 0 + x.val; omega
  · rename_i h
    exact read_writes_cons_unit_of_not_mem v f inb w P (ix2 d x) rfl (1 : Fin 2) (Or.inr (by show 0 + 128 ≤ x.val; omega))

end Lanes

section Rows
variable {sig : RefSig} {κ : Kind} {sp : Space} {e : EltTy} {Val : EltTy → Type} {n : ℕ}

/-- A tile of rows stored per trip. -/
theorem rows_read {C : ℕ} (v : View sig κ sp ⟨2, ![2304, C]⟩ e) (f : v.ty.Contents Val) (L : ℕ → List (Piece Val ⟨2, ![2304, C]⟩ e))
    (hn : n = 18) (off : Fin n → Fin 2 → ℕ) (inb : ∀ i a, off i a + (![128, C] : Fin 2 → ℕ) a ≤ (⟨2, ![2304, C]⟩ : Shape).size a)
    (w : Fin n → (⟨2, ![128, C]⟩ : Shape).Idx → Val e)
    (hL : ∀ k : Fin n, L (k.val + 1) = [⟨Rect.unit (off k) ![128, C] (inb k), w k⟩] ++ L k.val)
    (ho : ∀ k, off k = ![128 * k.val, 0]) (p : Fin 2304) (d : Fin C) :
    v.read Val (v.writes Val f (L n)) (ix2 p d) = w ⟨p.val / 128, by omega⟩ (ix2 ⟨p.val % 128, by omega⟩ d) := by
  refine tiles_read v f L n _ off inb w hL (ix2 p d) ⟨p.val / 128, by omega⟩ (ix2 ⟨p.val % 128, by omega⟩ d) ?_ (0 : Fin 2) ?_
  · intro a
    rw [ho]
    match a with
    | ⟨0, _⟩ => show p.val = 128 * (p.val / 128) + p.val % 128; omega
    | ⟨1, _⟩ => show d.val = 0 + d.val; omega
  · intro i hi
    rw [ho]
    have : i.val ≠ p.val / 128 := fun h => hi (Fin.ext h)
    show p.val < 128 * i.val ∨ 128 * i.val + 128 ≤ p.val
    omega

/-- The same of rank three. -/
theorem words_read (v : View sig κ sp ⟨3, ![2304, 2, 128]⟩ e) (f : v.ty.Contents Val) (L : ℕ → List (Piece Val ⟨3, ![2304, 2, 128]⟩ e))
    (hn : n = 18) (off : Fin n → Fin 3 → ℕ) (inb : ∀ i a, off i a + (![128, 2, 128] : Fin 3 → ℕ) a ≤ (⟨3, ![2304, 2, 128]⟩ : Shape).size a)
    (w : Fin n → (⟨3, ![128, 2, 128]⟩ : Shape).Idx → Val e)
    (hL : ∀ k : Fin n, L (k.val + 1) = [⟨Rect.unit (off k) ![128, 2, 128] (inb k), w k⟩] ++ L k.val)
    (ho : ∀ k, off k = ![128 * k.val, 0, 0]) (p : Fin 2304) (u : Fin 2) (l : Fin 128) :
    v.read Val (v.writes Val f (L n)) (ix3 p u l) = w ⟨p.val / 128, by omega⟩ (ix3 ⟨p.val % 128, by omega⟩ u l) := by
  refine tiles_read v f L n _ off inb w hL (ix3 p u l) ⟨p.val / 128, by omega⟩ (ix3 ⟨p.val % 128, by omega⟩ u l) ?_ (0 : Fin 3) ?_
  · intro a
    rw [ho]
    match a with
    | ⟨0, _⟩ => show p.val = 128 * (p.val / 128) + p.val % 128; omega
    | ⟨1, _⟩ => show u.val = 0 + u.val; omega
    | ⟨2, _⟩ => show l.val = 0 + l.val; omega
  · intro i hi
    rw [ho]
    have : i.val ≠ p.val / 128 := fun h => hi (Fin.ext h)
    show p.val < 128 * i.val ∨ 128 * i.val + 128 ≤ p.val
    omega

/-- One row of a head stored per trip, at the row a word names: every row is read where its word sent it. -/
theorem scatter_read (v : View sig κ sp ⟨4, ![4, 2304, 2, 128]⟩ e) (f : v.ty.Contents Val) (L : ℕ → List (Piece Val ⟨4, ![4, 2304, 2, 128]⟩ e))
    (hn : n = 2304) (off : Fin n → Fin 4 → ℕ) (inb : ∀ i a, off i a + (![1, 1, 2, 128] : Fin 4 → ℕ) a ≤ (⟨4, ![4, 2304, 2, 128]⟩ : Shape).size a)
    (w : Fin n → (⟨4, ![1, 1, 2, 128]⟩ : Shape).Idx → Val e)
    (hL : ∀ k : Fin n, L (k.val + 1) = [⟨Rect.unit (off k) ![1, 1, 2, 128] (inb k), w k⟩] ++ L k.val)
    (h : Fin 4) (dest : Fin n → Fin 2304) (hdest : Function.Injective dest) (ho : ∀ k, off k = ![h.val, (dest k).val, 0, 0])
    (r : Fin n) (u : Fin 2) (l : Fin 128) :
    v.read Val (v.writes Val f (L n)) (ix4 h (dest r) u l) = w r (ix4 0 0 u l) := by
  refine tiles_read v f L n _ off inb w hL (ix4 h (dest r) u l) r (ix4 0 0 u l) ?_ (1 : Fin 4) ?_
  · intro a
    rw [ho]
    match a with
    | ⟨0, _⟩ => show h.val = h.val + 0; omega
    | ⟨1, _⟩ => show (dest r).val = (dest r).val + 0; omega
    | ⟨2, _⟩ => show u.val = 0 + u.val; omega
    | ⟨3, _⟩ => show l.val = 0 + l.val; omega
  · intro i hi
    rw [ho]
    have : (dest i).val ≠ (dest r).val := fun h => hi (hdest (Fin.ext h))
    show (dest r).val < (dest i).val ∨ (dest i).val + 1 ≤ (dest r).val
    omega

/-- Another head's rows are as they were. -/
theorem scatter_read_other (v : View sig κ sp ⟨4, ![4, 2304, 2, 128]⟩ e) (f : v.ty.Contents Val) (L : ℕ → List (Piece Val ⟨4, ![4, 2304, 2, 128]⟩ e))
    (off : Fin n → Fin 4 → ℕ) (inb : ∀ i a, off i a + (![1, 1, 2, 128] : Fin 4 → ℕ) a ≤ (⟨4, ![4, 2304, 2, 128]⟩ : Shape).size a)
    (w : Fin n → (⟨4, ![1, 1, 2, 128]⟩ : Shape).Idx → Val e) (h0 : L 0 = [])
    (hL : ∀ k : Fin n, L (k.val + 1) = [⟨Rect.unit (off k) ![1, 1, 2, 128] (inb k), w k⟩] ++ L k.val)
    (h h' : Fin 4) (hne : h' ≠ h) (dest : Fin n → ℕ) (ho : ∀ k, off k = ![h.val, dest k, 0, 0])
    (p : Fin 2304) (u : Fin 2) (l : Fin 128) :
    v.read Val (v.writes Val f (L n)) (ix4 h' p u l) = v.read Val f (ix4 h' p u l) := by
  refine tiles_read_out v f L n _ off inb w h0 hL (ix4 h' p u l) (0 : Fin 4) ?_
  intro i
  rw [ho]
  have : h'.val ≠ h.val := fun e => hne (Fin.ext e)
  show h'.val < h.val ∨ h.val + 1 ≤ h'.val
  omega

end Rows
end Cert.LastKernelIdeal.Fill
-- ==== Proof.LastHead.lean ====
/- A head of the kernel as functions of positions: each query's scores against the keys its window holds, their
   weights and the weighted sum of the values; and a tile of the kernel, read as those functions. -/
module
public import proofs.«01_k».proof.Proof.LastFill
@[expose] public section
set_option maxRecDepth 16384
noncomputable section
namespace Cert.LastKernelIdeal.Head
open Cert.LastKernelIdeal Cert.LastKernelIdeal.Gen Cert.LastKernelIdeal.Ops Cert.LastKernelIdeal.Fill
open Idealize.ShloMosaic Idealize.ShloMosaic.TcCoe

section Words
variable {F : FTy → Type} [FloatOps F] [Named F]

/-- Two tiles of channels as the halves of words, a word for each query and lane. -/
def wordOf (lo hi : FVec F S128x128 .f32) : Vec F S128x2x128 .bf16 :=
  interleaveRows S128x2x128 (shapeCast S128x1x128 (truncf .bf16 (transpose S128x128 [1, 0] lo transposes_S128x128_p1_0_S128x128) bitsLt_bf16_f32) shapeCasts_S128x128_S128x1x128)
    (shapeCast S128x1x128 (truncf .bf16 (transpose S128x128 [1, 0] hi transposes_S128x128_p1_0_S128x128) bitsLt_bf16_f32) shapeCasts_S128x128_S128x1x128) bitcasts_S128x2x128_w16_S128x1x128_w32

/-- Each head's channels start 32 lanes further than the head's before it. -/
def word0 (o : FVec F S160x128 .f32) : Vec F S128x2x128 .bf16 :=
  wordOf (extractStridedSlice S128x128 ![0, 0] o slices_S160x128_o0_0_S128x128)
    (concatenate S128x128 0 [⟨S32x128, extractStridedSlice S32x128 ![128, 0] o slices_S160x128_o128_0_S32x128⟩, ⟨S96x128, k0_pay130⟩] concatenates_S32x128_S96x128_S128x128_d0)

def word1 (o : FVec F S160x128 .f32) : Vec F S128x2x128 .bf16 :=
  wordOf (concatenate S128x128 0 [⟨S32x128, k0_pay140⟩, ⟨S96x128, extractStridedSlice S96x128 ![0, 0] o slices_S160x128_o0_0_S96x128⟩] concatenates_S32x128_S96x128_S128x128_d0)
    (concatenate S128x128 0 [⟨S64x128, extractStridedSlice S64x128 ![96, 0] o slices_S160x128_o96_0_S64x128⟩, ⟨S64x128, k0_pay141⟩] concatenates_S64x128_S64x128_S128x128_d0)

def word2 (o : FVec F S160x128 .f32) : Vec F S128x2x128 .bf16 :=
  wordOf (concatenate S128x128 0 [⟨S64x128, k0_pay152⟩, ⟨S64x128, extractStridedSlice S64x128 ![0, 0] o slices_S160x128_o0_0_S64x128⟩] concatenates_S64x128_S64x128_S128x128_d0)
    (concatenate S128x128 0 [⟨S96x128, extractStridedSlice S96x128 ![64, 0] o slices_S160x128_o64_0_S96x128⟩, ⟨S32x128, k0_pay153⟩] concatenates_S96x128_S32x128_S128x128_d0)

def word3 (o : FVec F S160x128 .f32) : Vec F S128x2x128 .bf16 :=
  wordOf (concatenate S128x128 0 [⟨S96x128, k0_pay164⟩, ⟨S32x128, extractStridedSlice S32x128 ![0, 0] o slices_S160x128_o0_0_S32x128⟩] concatenates_S96x128_S32x128_S128x128_d0)
    (extractStridedSlice S128x128 ![32, 0] o slices_S160x128_o32_0_S128x128)

end Words

theorem wordOf_at (lo hi : FVec Ideal S128x128 .f32) (n : Fin 128) (u : Fin 2) (l : Fin 128) :
    wordOf lo hi (ix3 n u l) = if u.val = 0 then lo (ix2 l n) else hi (ix2 l n) := by
  fin_cases u <;> pointwise [wordOf] <;> simp

theorem at_eq {A B : ℕ} {α : Type} (o : (⟨2, ![A, B]⟩ : Shape).Idx → α) {r r' : Fin A} {n n' : Fin B} (h : r.val = r'.val) (hn : n.val = n'.val) :
    o (ix2 r n) = o (ix2 r' n') := by rw [Fin.ext h, Fin.ext hn]

/-- Channel `128 u + l` of a head's words, less where the head's channels start. -/
theorem word0_at (o : FVec Ideal S160x128 .f32) (n : Fin 128) (u : Fin 2) (l : Fin 128) (r : Fin 160) (h : 128 * u.val + l.val = r.val) :
    word0 o (ix3 n u l) = o (ix2 r n) := by
  rw [word0, wordOf_at]
  have hu := u.isLt
  split <;> pointwise
  · exact at_eq o (by simp only; omega) rfl
  · rw [dif_pos (by omega)]
    exact at_eq o (by simp only; omega) rfl

theorem word1_at (o : FVec Ideal S160x128 .f32) (n : Fin 128) (u : Fin 2) (l : Fin 128) (r : Fin 160) (h : 128 * u.val + l.val = 32 + r.val) :
    word1 o (ix3 n u l) = o (ix2 r n) := by
  rw [word1, wordOf_at]
  have hu := u.isLt
  split <;> pointwise
  · rw [dif_neg (by omega)]
    exact at_eq o (by simp only; omega) rfl
  · rw [dif_pos (by omega)]
    exact at_eq o (by simp only; omega) rfl

theorem word2_at (o : FVec Ideal S160x128 .f32) (n : Fin 128) (u : Fin 2) (l : Fin 128) (r : Fin 160) (h : 128 * u.val + l.val = 64 + r.val) :
    word2 o (ix3 n u l) = o (ix2 r n) := by
  rw [word2, wordOf_at]
  have hu := u.isLt
  split <;> pointwise
  · rw [dif_neg (by omega)]
    exact at_eq o (by simp only; omega) rfl
  · rw [dif_pos (by omega)]
    exact at_eq o (by simp only; omega) rfl

theorem word3_at (o : FVec Ideal S160x128 .f32) (n : Fin 128) (u : Fin 2) (l : Fin 128) (r : Fin 160) (h : 128 * u.val + l.val = 96 + r.val) :
    word3 o (ix3 n u l) = o (ix2 r n) := by
  rw [word3, wordOf_at]
  have hu := u.isLt
  split <;> pointwise
  · rw [dif_neg (by omega)]
    exact at_eq o (by simp only; omega) rfl
  · exact at_eq o (by simp only; omega) rfl

/-! ## A head of a point's blocks, position by position -/

section Model
variable (x1 x2 : Vec Ideal S1x4x5x144x128 .i32) (x3 : Vec Ideal S1x4x144x128 .f32) (x4 x5 : Vec Ideal S128x128 .f32) (h : Fin 4)

/-- Channel `d` of the head at position `p`: its code, multiplied by the side value of its channel block. -/
def chan (x : Vec Ideal S1x4x5x144x128 .i32) (j : ℕ → Fin 8) (d : Fin 160) (p : Fin 2304) : EReal :=
  codeAt (x (ix5 0 h ⟨d.val / 32, by omega⟩ ⟨8 * (p.val / 128) + d.val % 32 / 4, by omega⟩ ⟨p.val % 128, by omega⟩)) (d.val % 4)
    * x3 (ix4 0 h ⟨8 * (p.val / 128) + (j (d.val / 32)).val, by omega⟩ ⟨p.val % 128, by omega⟩)

/-- The position a padded lane holds: the last tile lies before the first. -/
def posAt (x : Fin 2432) : Fin 2304 := ⟨if x.val < 128 then x.val + 2176 else x.val - 128, by split <;> omega⟩

/-- The padded lane of the key in lane `l` of the query at `p`. -/
def laneAt (p : Fin 2304) (l : Fin 128) : Fin 2432 :=
  ⟨128 * (p.val / 128) + (col ⟨p.val % 128, by omega⟩ l).val, by have := (col ⟨p.val % 128, by omega⟩ l).isLt; omega⟩

def keyAt (d : Fin 160) (p : Fin 2304) : EReal := chan x3 h x1 rowOf d p

def valAt (d : Fin 160) (p : Fin 2304) : EReal := chan x3 h x2 (fun _ => 5) d p

/-- The factor the scores against position `p` carry. -/
def factorAt (p : Fin 2304) : EReal :=
  Ideal.rsqrt ((∑ d : Fin 160, keyAt x1 x3 h d p * keyAt x1 x3 h d p) * Named.named (F := Ideal) κ "inv_d" (φ := .f32) 1003277517#32 + Ideal.ofBits FTy.f32 897988541#32)
    * Named.named (F := Ideal) κ "scale" (φ := .f32) 1038718387#32

/-- What the gap to the key in padded lane `x` is compared with: nothing before the first position is seen. -/
def laterAt (x : Fin 2432) : EReal :=
  if hx : x.val < 128 then Ideal.ofBits FTy.f32 0xBF800000#32
  else x3 (ix4 0 h ⟨8 * ((x.val - 128) / 128) + 6, by omega⟩ ⟨(x.val - 128) % 128, by omega⟩)

def score (p : Fin 2304) (l : Fin 128) : EReal :=
  if x4 (ix2 ⟨p.val % 128, by omega⟩ l) < laterAt x3 h (laneAt p l) then
    (∑ d, keyAt x1 x3 h d p * keyAt x1 x3 h d (posAt (laneAt p l))) * factorAt x1 x3 h (posAt (laneAt p l))
  else x5 (ix2 ⟨p.val % 128, by omega⟩ l)

def power (p : Fin 2304) (l : Fin 128) : EReal :=
  Ideal.exp2 (score x1 x3 x4 x5 h p l - maxAt (score x1 x3 x4 x5 h p))

/-- Channel `r` of the head's result at position `p`. -/
def attend (r : Fin 160) (p : Fin 2304) : EReal :=
  (∑ l, valAt x2 x3 h r (posAt (laneAt p l)) * power x1 x3 x4 x5 h p l) * Ideal.div 1 (∑ l, 1 * power x1 x3 x4 x5 h p l)

/-- A tile whose operands are the head's keys, values and side rows is the head at the tile's positions. -/
theorem tile_attend (t : Fin 18) (q : Vec Ideal S128x160 .bf16) (k : Vec Ideal S160x256 .bf16) (v : Vec Ideal S176x256 .bf16)
    (pr cr : Vec Ideal S2x128 .f32) (dlo dhi flo fhi : Vec Ideal S64x128 .f32)
    (hq : ∀ n d, q (ix2 n d) = keyAt x1 x3 h d ⟨128 * t.val + n.val, by omega⟩)
    (hk : ∀ d c, k (ix2 d c) = keyAt x1 x3 h d (posAt ⟨128 * t.val + c.val, by omega⟩))
    (hv : ∀ (d : Fin 160) c, v (ix2 ⟨d.val, by omega⟩ c) = valAt x2 x3 h d (posAt ⟨128 * t.val + c.val, by omega⟩))
    (h1 : ∀ c, v (ix2 160 c) = 1)
    (hp0 : ∀ l, pr (ix2 0 l) = factorAt x1 x3 h (posAt ⟨128 * t.val + l.val, by omega⟩))
    (hp1 : ∀ l, pr (ix2 1 l) = laterAt x3 h ⟨128 * t.val + l.val, by omega⟩)
    (hc0 : ∀ l, cr (ix2 0 l) = factorAt x1 x3 h (posAt ⟨128 * t.val + 128 + l.val, by omega⟩))
    (hc1 : ∀ l, cr (ix2 1 l) = laterAt x3 h ⟨128 * t.val + 128 + l.val, by omega⟩)
    (hdl : ∀ r l, dlo (ix2 r l) = x4 (ix2 ⟨r.val, by omega⟩ l)) (hdh : ∀ r l, dhi (ix2 r l) = x4 (ix2 ⟨64 + r.val, by omega⟩ l))
    (hfl : ∀ r l, flo (ix2 r l) = x5 (ix2 ⟨r.val, by omega⟩ l)) (hfh : ∀ r l, fhi (ix2 r l) = x5 (ix2 ⟨64 + r.val, by omega⟩ l))
    (r : Fin 160) (n : Fin 128) :
    tileOut q k v pr cr dlo dhi flo fhi (ix2 r n) = attend x1 x2 x3 x4 x5 h r ⟨128 * t.val + n.val, by omega⟩ := by
  have hs0 : ∀ c, side pr cr 0 c = factorAt x1 x3 h (posAt ⟨128 * t.val + c.val, by omega⟩) := fun c => by
    unfold side; split
    · exact hp0 _
    · exact (hc0 _).trans (by congr 3; simp only; omega)
  have hs1 : ∀ c, side pr cr 1 c = laterAt x3 h ⟨128 * t.val + c.val, by omega⟩ := fun c => by
    unfold side; split
    · exact hp1 _
    · exact (hc1 _).trans (by congr 2; simp only; omega)
  have hd : ∀ n l, stack dlo dhi n l = x4 (ix2 n l) := fun n l => by
    unfold stack; split
    · exact hdl _ _
    · exact (hdh _ _).trans (at_eq x4 (by simp only; omega) rfl)
  have hf : ∀ n l, stack flo fhi n l = x5 (ix2 n l) := fun n l => by
    unfold stack; split
    · exact hfl _ _
    · exact (hfh _ _).trans (at_eq x5 (by simp only; omega) rfl)
  have e1 : (⟨(128 * t.val + n.val) % 128, by omega⟩ : Fin 128) = n := Fin.ext (by simp only; omega)
  have e2 : ∀ l, laneAt ⟨128 * t.val + n.val, by omega⟩ l = ⟨128 * t.val + (col n l).val, by have := (col n l).isLt; omega⟩ := fun l => by
    unfold laneAt
    apply Fin.ext
    simp only [e1]
    omega
  have hs : scoreAt q k pr cr dlo dhi flo fhi n = score x1 x3 x4 x5 h ⟨128 * t.val + n.val, by omega⟩ := by
    funext l
    unfold scoreAt score
    simp only [hs0, hs1, hd, hf, hq, hk, e1, e2]
  rw [tileOut_at]
  unfold attend power powerAt
  rw [hs]
  simp only [hv, h1, e2]

end Model
end Cert.LastKernelIdeal.Head
-- ==== Proof.LastHeadLoops.lean ====
/- What a head's loops leave: the load loop the head's keys, values and side rows, the score loop the head's results,
   the scatter loop those results at the rows the words name. Each is stated of any lists of stores of the loop's
   form, whatever the offsets' spelling. -/
module
public import proofs.«01_k».proof.Proof.LastHead
@[expose] public section
set_option maxRecDepth 16384
noncomputable section
namespace Cert.LastKernelIdeal.Head
open Cert.LastKernelIdeal Cert.LastKernelIdeal.Gen Cert.LastKernelIdeal.Ops Cert.LastKernelIdeal.Fill
open Idealize.ShloMosaic Idealize.ShloMosaic.TcCoe

section Reads
variable {sig : RefSig} {κ : Kind} {sp : Space} {e : EltTy} {Val : EltTy → Type}

/-- A load of a unit-stride rectangle, at an index. -/
theorem readAt_unit {s : Shape} (v : View sig κ sp s e) (X : v.ty.Contents Val) {off size : Fin s.rank → ℕ} (inb) (x) (y : s.Idx)
    (h : ∀ a, (y a).val = off a + (x a).val) :
    v.readAt Val (Rect.unit (s := s) off size inb).toLoadRect X x = v.read Val X y := by
  rw [View.readAt_apply]
  congr 1
  funext a
  apply Fin.ext
  rw [h a]
  show off a + 1 * (x a).val = _
  omega

theorem readAt2 {A B a b : ℕ} (v : View sig κ sp ⟨2, ![A, B]⟩ e) (X : v.ty.Contents Val) {off : Fin 2 → ℕ} (inb) {o0 o1 : ℕ} (ho : off = ![o0, o1])
    (i : Fin a) (j : Fin b) (i' : Fin A) (j' : Fin B) (hi : i'.val = o0 + i.val) (hj : j'.val = o1 + j.val) :
    v.readAt Val (Rect.unit (s := ⟨2, ![A, B]⟩) off ![a, b] inb).toLoadRect X (ix2 i j) = v.read Val X (ix2 i' j') := by
  subst ho
  refine readAt_unit v X inb (ix2 i j) (ix2 i' j') fun c => ?_
  match c with
  | ⟨0, _⟩ => exact hi
  | ⟨1, _⟩ => exact hj

theorem readAt4 {A B C D a b c d : ℕ} (v : View sig κ sp ⟨4, ![A, B, C, D]⟩ e) (X : v.ty.Contents Val) {off : Fin 4 → ℕ} (inb) {o0 o1 o2 o3 : ℕ}
    (ho : off = ![o0, o1, o2, o3]) (i : Fin a) (j : Fin b) (k : Fin c) (l : Fin d) (i' : Fin A) (j' : Fin B) (k' : Fin C) (l' : Fin D)
    (hi : i'.val = o0 + i.val) (hj : j'.val = o1 + j.val) (hk : k'.val = o2 + k.val) (hl : l'.val = o3 + l.val) :
    v.readAt Val (Rect.unit (s := ⟨4, ![A, B, C, D]⟩) off ![a, b, c, d] inb).toLoadRect X (ix4 i j k l) = v.read Val X (ix4 i' j' k' l') := by
  subst ho
  refine readAt_unit v X inb (ix4 i j k l) (ix4 i' j' k' l') fun c => ?_
  match c with
  | ⟨0, _⟩ => exact hi
  | ⟨1, _⟩ => exact hj
  | ⟨2, _⟩ => exact hk
  | ⟨3, _⟩ => exact hl

theorem readAt3 {A B C a b c : ℕ} (v : View sig κ sp ⟨3, ![A, B, C]⟩ e) (X : v.ty.Contents Val) {off : Fin 3 → ℕ} (inb) {o0 o1 o2 : ℕ}
    (ho : off = ![o0, o1, o2]) (i : Fin a) (j : Fin b) (k : Fin c) (i' : Fin A) (j' : Fin B) (k' : Fin C)
    (hi : i'.val = o0 + i.val) (hj : j'.val = o1 + j.val) (hk : k'.val = o2 + k.val) :
    v.readAt Val (Rect.unit (s := ⟨3, ![A, B, C]⟩) off ![a, b, c] inb).toLoadRect X (ix3 i j k) = v.read Val X (ix3 i' j' k') := by
  subst ho
  refine readAt_unit v X inb (ix3 i j k) (ix3 i' j' k') fun c => ?_
  match c with
  | ⟨0, _⟩ => exact hi
  | ⟨1, _⟩ => exact hj
  | ⟨2, _⟩ => exact hk

theorem readAt5 {A B C D E a b c d f : ℕ} (v : View sig κ sp ⟨5, ![A, B, C, D, E]⟩ e) (X : v.ty.Contents Val) {off : Fin 5 → ℕ} (inb) {o0 o1 o2 o3 o4 : ℕ}
    (ho : off = ![o0, o1, o2, o3, o4]) (i : Fin a) (j : Fin b) (k : Fin c) (l : Fin d) (m : Fin f)
    (i' : Fin A) (j' : Fin B) (k' : Fin C) (l' : Fin D) (m' : Fin E)
    (hi : i'.val = o0 + i.val) (hj : j'.val = o1 + j.val) (hk : k'.val = o2 + k.val) (hl : l'.val = o3 + l.val) (hm : m'.val = o4 + m.val) :
    v.readAt Val (Rect.unit (s := ⟨5, ![A, B, C, D, E]⟩) off ![a, b, c, d, f] inb).toLoadRect X (ix5 i j k l m) = v.read Val X (ix5 i' j' k' l' m') := by
  subst ho
  refine readAt_unit v X inb (ix5 i j k l m) (ix5 i' j' k' l' m') fun c => ?_
  match c with
  | ⟨0, _⟩ => exact hi
  | ⟨1, _⟩ => exact hj
  | ⟨2, _⟩ => exact hk
  | ⟨3, _⟩ => exact hl
  | ⟨4, _⟩ => exact hm

end Reads

/-- A row of a load tile. -/
def tileRow {n : ℕ} (hn : n = 18) (k : Fin n) (b : Fin 8) : Fin 144 := ⟨8 * k.val + b.val, by omega⟩
/-- A lane of the last tile. -/
def lastTile (l : Fin 128) : Fin 2432 := ⟨2304 + l.val, by omega⟩

section Loops
variable {sig : RefSig} {κ : Kind} {sp : Space}
  (x1 x2 : Vec Ideal S1x4x5x144x128 .i32) (x3 : Vec Ideal S1x4x144x128 .f32) (x4 x5 : Vec Ideal S128x128 .f32) (h : Fin 4)
  (v10 : View sig κ sp S160x2432 .bf16) (v11 : View sig κ sp S2304x160 .bf16) (v12 : View sig κ sp S176x2432 .bf16) (v13 : View sig κ sp S8x2432 .f32)

/-- The scratch buffers hold a head's keys, values and side rows. -/
structure Ready (X10 : v10.ty.Contents (Elt Ideal)) (X11 : v11.ty.Contents (Elt Ideal)) (X12 : v12.ty.Contents (Elt Ideal))
    (X13 : v13.ty.Contents (Elt Ideal)) : Prop where
  keys : ∀ d x, v10.read (Elt Ideal) X10 (ix2 d x) = keyAt x1 x3 h d (posAt x)
  rows : ∀ p d, v11.read (Elt Ideal) X11 (ix2 p d) = keyAt x1 x3 h d p
  vals : ∀ (d : Fin 160) x, v12.read (Elt Ideal) X12 (ix2 ⟨d.val, by omega⟩ x) = valAt x2 x3 h d (posAt x)
  ones : ∀ x, v12.read (Elt Ideal) X12 (ix2 160 x) = 1
  factor : ∀ x, v13.read (Elt Ideal) X13 (ix2 0 x) = factorAt x1 x3 h (posAt x)
  later : ∀ x, v13.read (Elt Ideal) X13 (ix2 1 x) = laterAt x3 h x

section Load
variable {n : ℕ} (hn : n = 18)
  (L : ℕ → List (View.Piece (Elt Ideal) S160x2432 .bf16) × List (View.Piece (Elt Ideal) S2304x160 .bf16)
    × List (View.Piece (Elt Ideal) S176x2432 .bf16) × List (View.Piece (Elt Ideal) S8x2432 .f32))
  (w w' : Fin n → Fin 5 → Vec Ideal S1x1x1x8x128 .i32) (a : Fin n → Vec Ideal S1x1x8x128 .f32)
  (o7 o8 o9 o10 o11 : Fin n → Fin 2 → ℕ)
  (i7 : ∀ k b, o7 k b + S160x128.size b ≤ S160x2432.size b) (i8 : ∀ k b, o8 k b + S128x160.size b ≤ S2304x160.size b)
  (i9 : ∀ k b, o9 k b + S176x128.size b ≤ S176x2432.size b) (i10 : ∀ k b, o10 k b + S1x128.size b ≤ S8x2432.size b)
  (i11 : ∀ k b, o11 k b + S1x128.size b ≤ S8x2432.size b)
  (e7 : ∀ k, o7 k = ![0, 128 * k.val + 128]) (e8 : ∀ k, o8 k = ![128 * k.val, 0]) (e9 : ∀ k, o9 k = ![0, 128 * k.val + 128])
  (e10 : ∀ k, o10 k = ![0, 128 * k.val + 128]) (e11 : ∀ k, o11 k = ![1, 128 * k.val + 128])
  (hL : ∀ k : Fin n, L (k.val + 1) = ([⟨Rect.unit (o7 k) S160x128.size (i7 k), keys (w k) (a k)⟩] ++ (L k.val).1,
    [⟨Rect.unit (o8 k) S128x160.size (i8 k), k0_pay122 (keys (w k) (a k))⟩] ++ (L k.val).2.1,
    [⟨Rect.unit (o9 k) S176x128.size (i9 k), vals (w' k) (a k)⟩] ++ (L k.val).2.2.1,
    [⟨Rect.unit (o11 k) S1x128.size (i11 k), k0_pay125 (auxTile (a k))⟩, ⟨Rect.unit (o10 k) S1x128.size (i10 k), norms (w k) (a k)⟩] ++ (L k.val).2.2.2))
  (hw : ∀ k j b l, w k j (ix5 0 0 0 b l) = x1 (ix5 0 h j (tileRow hn k b) l))
  (hw' : ∀ k j b l, w' k j (ix5 0 0 0 b l) = x2 (ix5 0 h j (tileRow hn k b) l))
  (ha : ∀ k b l, a k (ix4 0 0 b l) = x3 (ix4 0 h (tileRow hn k b) l))
include hn

section Elt
variable (x : Vec Ideal S1x4x5x144x128 .i32) (u : Fin n → Fin 5 → Vec Ideal S1x1x1x8x128 .i32)
  (hu : ∀ k j b l, u k j (ix5 0 0 0 b l) = x (ix5 0 h j (tileRow hn k b) l))
include hu ha

theorem elt_chan (j : ℕ → Fin 8) (d : Fin 160) (k : Fin n) (l : Fin 128) (p : Fin 2304) (hk : k.val = p.val / 128) (hl : l.val = p.val % 128) :
    elt (u k) (a k) j d l = chan x3 h x j d p := by
  rw [show l = ⟨p.val % 128, Nat.mod_lt _ (by decide)⟩ from Fin.ext hl]
  unfold elt chan
  simp only [hu, ha, tileRow, hk]

end Elt

include hL e7 hw ha in
theorem load_keys (f) (d : Fin 160) (x : Fin 2432) (hx : 128 ≤ x.val) (P) :
    v10.read (Elt Ideal) (v10.writes (Elt Ideal) f ((L n).1 ++ P)) (ix2 d x) = keyAt x1 x3 h d ⟨x.val - 128, by omega⟩ := by
  rw [View.writes_append]
  refine (lanes_read v10 _ (fun k => (L k).1) hn o7 i7 (fun k => keys (w k) (a k)) (fun k => by rw [hL k]) e7 d x hx).trans ?_
  rw [keys_at]
  exact elt_chan x3 h hn a ha x1 w hw rowOf d _ _ _ rfl rfl

include hL e8 hw ha in
theorem load_rows (f) (p : Fin 2304) (d : Fin 160) (P) :
    v11.read (Elt Ideal) (v11.writes (Elt Ideal) f ((L n).2.1 ++ P)) (ix2 p d) = keyAt x1 x3 h d p := by
  rw [View.writes_append]
  refine (rows_read v11 _ (fun k => (L k).2.1) hn o8 i8 (fun k => k0_pay122 (keys (w k) (a k))) (fun k => by rw [hL k]) e8 p d).trans ?_
  have : ∀ y : FVec Ideal S160x128 .bf16, ∀ q, k0_pay122 y (ix2 q d) = y (ix2 d q) := fun y q => by pointwise [k0_pay122]
  rw [this, keys_at]
  exact elt_chan x3 h hn a ha x1 w hw rowOf d _ _ _ rfl rfl

include hL e9 hw' ha in
theorem load_vals (f) (d : Fin 160) (x : Fin 2432) (hx : 128 ≤ x.val) (P) :
    v12.read (Elt Ideal) (v12.writes (Elt Ideal) f ((L n).2.2.1 ++ P)) (ix2 ⟨d.val, by omega⟩ x) = valAt x2 x3 h d ⟨x.val - 128, by omega⟩ := by
  rw [View.writes_append]
  refine (lanes_read v12 _ (fun k => (L k).2.2.1) hn o9 i9 (fun k => vals (w' k) (a k)) (fun k => by rw [hL k]) e9 ⟨d.val, by omega⟩ x hx).trans ?_
  rw [vals_at]
  exact elt_chan x3 h hn a ha x2 w' hw' _ d _ _ _ rfl rfl

include hL e9 in
theorem load_ones (f) (x : Fin 2432) (hx : 128 ≤ x.val) (P) :
    v12.read (Elt Ideal) (v12.writes (Elt Ideal) f ((L n).2.2.1 ++ P)) (ix2 160 x) = 1 := by
  rw [View.writes_append]
  refine (lanes_read v12 _ (fun k => (L k).2.2.1) hn o9 i9 (fun k => vals (w' k) (a k)) (fun k => by rw [hL k]) e9 160 x hx).trans ?_
  exact vals_one _ _ _ (by decide) _

include hL e10 e11 hw ha in
theorem load_factor (f) (x : Fin 2432) (hx : 128 ≤ x.val) (P) :
    v13.read (Elt Ideal) (v13.writes (Elt Ideal) f ((L n).2.2.2 ++ P)) (ix2 0 x) = factorAt x1 x3 h ⟨x.val - 128, by omega⟩ := by
  rw [View.writes_append]
  refine (read_loop v13 _ (fun k => (L k).2.2.2) n (ix2 0 x) (fun k => k = (x.val - 128) / 128)
    (norms (w ⟨(x.val - 128) / 128, by omega⟩) (a ⟨(x.val - 128) / 128, by omega⟩) (ix2 0 ⟨(x.val - 128) % 128, by omega⟩)) ?_ ?_ ⟨_, by omega, rfl⟩).trans ?_
  · rintro k hk rfl
    rw [hL ⟨_, hk⟩]
    refine (View.read_writes_cons_unit_of_not_mem v13 _ (i11 _) _ _ (ix2 0 x) (e11 _) (0 : Fin 2) (Or.inl (by show 0 < 1; omega))).trans ?_
    refine View.read_writes_cons_unit_of_mem v13 _ (i10 _) _ _ (ix2 0 x) (ix2 0 ⟨(x.val - 128) % 128, by omega⟩) (e10 _) fun b => ?_
    match b with
    | ⟨0, _⟩ => rfl
    | ⟨1, _⟩ => show x.val = 128 * ((x.val - 128) / 128) + 128 + (x.val - 128) % 128; omega
  · intro k hk hne
    rw [hL ⟨_, hk⟩]
    have ho : x.val < 128 * k + 128 ∨ 128 * k + 128 + 128 ≤ x.val := by omega
    refine (View.read_writes_cons_unit_of_not_mem v13 _ (i11 ⟨k, hk⟩) _ _ (ix2 0 x) (e11 ⟨k, hk⟩) (1 : Fin 2) ho).trans ?_
    exact View.read_writes_cons_unit_of_not_mem v13 _ (i10 ⟨k, hk⟩) _ _ (ix2 0 x) (e10 ⟨k, hk⟩) (1 : Fin 2) ho
  · rw [norms_at]
    unfold normAt factorAt keyAt
    simp only [fun d => elt_chan x3 h hn a ha x1 w hw rowOf d ⟨(x.val - 128) / 128, by omega⟩ ⟨(x.val - 128) % 128, by omega⟩ ⟨x.val - 128, by omega⟩ rfl rfl]

include hL e10 e11 ha in
theorem load_later (f) (x : Fin 2432) (hx : 128 ≤ x.val) (P) :
    v13.read (Elt Ideal) (v13.writes (Elt Ideal) f ((L n).2.2.2 ++ P)) (ix2 1 x) = laterAt x3 h x := by
  rw [View.writes_append]
  refine (read_loop v13 _ (fun k => (L k).2.2.2) n (ix2 1 x) (fun k => k = (x.val - 128) / 128)
    (k0_pay125 (auxTile (a ⟨(x.val - 128) / 128, by omega⟩)) (ix2 0 ⟨(x.val - 128) % 128, by omega⟩)) ?_ ?_ ⟨_, by omega, rfl⟩).trans ?_
  · rintro k hk rfl
    rw [hL ⟨_, hk⟩]
    refine View.read_writes_cons_unit_of_mem v13 _ (i11 _) _ _ (ix2 1 x) (ix2 0 ⟨(x.val - 128) % 128, by omega⟩) (e11 _) fun b => ?_
    match b with
    | ⟨0, _⟩ => rfl
    | ⟨1, _⟩ => show x.val = 128 * ((x.val - 128) / 128) + 128 + (x.val - 128) % 128; omega
  · intro k hk hne
    rw [hL ⟨_, hk⟩]
    have ho : x.val < 128 * k + 128 ∨ 128 * k + 128 + 128 ≤ x.val := by omega
    refine (View.read_writes_cons_unit_of_not_mem v13 _ (i11 ⟨k, hk⟩) _ _ (ix2 1 x) (e11 ⟨k, hk⟩) (1 : Fin 2) ho).trans ?_
    exact View.read_writes_cons_unit_of_not_mem v13 _ (i10 ⟨k, hk⟩) _ _ (ix2 1 x) (e10 ⟨k, hk⟩) (1 : Fin 2) ho
  · rw [later_at, ha]
    unfold laterAt
    rw [dif_neg (by omega)]
    rfl

include hL e7 e8 e9 e10 e11 hw hw' ha in
/-- After the load loop and the copies of the last tile the scratch buffers are ready. -/
theorem ready (f10 f11 f12 f13 P10 P11 P12 P13 A10 A11 A12 A13)
    (a10 : A10 = (L n).1 ++ P10) (a11 : A11 = (L n).2.1 ++ P11) (a12 : A12 = (L n).2.2.1 ++ P12) (a13 : A13 = (L n).2.2.2 ++ P13) (c10 c12 c13 c13')
    (W10 : Vec Ideal S160x128 .bf16) (W12 : Vec Ideal S176x128 .bf16) (W13 M13 : Vec Ideal S1x128 .f32)
    (h10 : ∀ d l, W10 (ix2 d l) = v10.read (Elt Ideal) (v10.writes (Elt Ideal) f10 A10) (ix2 d (lastTile l)))
    (h12 : ∀ d l, W12 (ix2 d l) = v12.read (Elt Ideal) (v12.writes (Elt Ideal) f12 A12) (ix2 d (lastTile l)))
    (h13 : ∀ l, W13 (ix2 0 l) = v13.read (Elt Ideal) (v13.writes (Elt Ideal) f13 A13) (ix2 0 (lastTile l)))
    (hM : ∀ l, M13 (ix2 0 l) = Ideal.ofBits FTy.f32 0xBF800000#32) :
    Ready x1 x2 x3 h v10 v11 v12 v13
      (v10.writes (Elt Ideal) f10 (⟨Rect.unit ![0, 0] S160x128.size c10, W10⟩ :: A10))
      (v11.writes (Elt Ideal) f11 A11)
      (v12.writes (Elt Ideal) f12 (⟨Rect.unit ![0, 0] S176x128.size c12, W12⟩ :: A12))
      (v13.writes (Elt Ideal) f13 (⟨Rect.unit ![1, 0] S1x128.size c13', M13⟩ :: ⟨Rect.unit ![0, 0] S1x128.size c13, W13⟩ :: A13)) := by
  subst a10 a11 a12 a13
  exact {
      keys d x := by
        refine (copy_read v10 f10 W10 c10 _ d x).trans ?_
        unfold posAt
        split
        · rw [h10]
          refine (load_keys x1 x3 h v10 hn L w w' a o7 o8 o9 o10 o11 i7 i8 i9 i10 i11 e7 hL hw ha f10 d (lastTile ⟨x.val, by assumption⟩) (by show 128 ≤ 2304 + x.val; omega) P10).trans ?_
          congr 1; apply Fin.ext; show 2304 + x.val - 128 = x.val + 2176; omega
        · exact load_keys x1 x3 h v10 hn L w w' a o7 o8 o9 o10 o11 i7 i8 i9 i10 i11 e7 hL hw ha f10 d x (by omega) P10
      rows p d := load_rows x1 x3 h v11 hn L w w' a o7 o8 o9 o10 o11 i7 i8 i9 i10 i11 e8 hL hw ha f11 p d P11
      vals d x := by
        refine (copy_read v12 f12 W12 c12 _ ⟨d.val, by omega⟩ x).trans ?_
        unfold posAt
        split
        · rw [h12]
          refine (load_vals x2 x3 h v12 hn L w w' a o7 o8 o9 o10 o11 i7 i8 i9 i10 i11 e9 hL hw' ha f12 d (lastTile ⟨x.val, by assumption⟩) (by show 128 ≤ 2304 + x.val; omega) P12).trans ?_
          congr 1; apply Fin.ext; show 2304 + x.val - 128 = x.val + 2176; omega
        · exact load_vals x2 x3 h v12 hn L w w' a o7 o8 o9 o10 o11 i7 i8 i9 i10 i11 e9 hL hw' ha f12 d x (by omega) P12
      ones x := by
        refine (copy_read v12 f12 W12 c12 _ 160 x).trans ?_
        split
        · rw [h12]
          exact load_ones v12 hn L w w' a o7 o8 o9 o10 o11 i7 i8 i9 i10 i11 e9 hL f12 (lastTile ⟨x.val, by assumption⟩) (by show 128 ≤ 2304 + x.val; omega) P12
        · exact load_ones v12 hn L w w' a o7 o8 o9 o10 o11 i7 i8 i9 i10 i11 e9 hL f12 x (by omega) P12
      factor x := by
        refine (View.read_writes_cons_unit_of_not_mem v13 _ c13' _ _ (ix2 0 x) rfl (0 : Fin 2) (Or.inl (by show 0 < 1; omega))).trans ?_
        unfold posAt
        split
        · rename_i hx
          refine (View.read_writes_cons_unit_of_mem v13 _ c13 _ _ (ix2 0 x) (ix2 0 ⟨x.val, hx⟩) rfl ?_).trans ?_
          · intro b
            match b with
            | ⟨0, _⟩ => rfl
            | ⟨1, _⟩ => show x.val = 0 + x.val; omega
          · rw [h13]
            refine (load_factor x1 x3 h v13 hn L w w' a o7 o8 o9 o10 o11 i7 i8 i9 i10 i11 e10 e11 hL hw ha f13 (lastTile ⟨x.val, by assumption⟩) (by show 128 ≤ 2304 + x.val; omega) P13).trans ?_
            congr 1; apply Fin.ext; show 2304 + x.val - 128 = x.val + 2176; omega
        · refine (View.read_writes_cons_unit_of_not_mem v13 _ c13 _ _ (ix2 0 x) rfl (1 : Fin 2) (Or.inr (by show 0 + 128 ≤ x.val; omega))).trans ?_
          exact load_factor x1 x3 h v13 hn L w w' a o7 o8 o9 o10 o11 i7 i8 i9 i10 i11 e10 e11 hL hw ha f13 x (by omega) P13
      later x := by
        by_cases hx : x.val < 128
        · refine (View.read_writes_cons_unit_of_mem v13 _ c13' _ _ (ix2 1 x) (ix2 0 ⟨x.val, hx⟩) rfl ?_).trans ?_
          · intro b
            match b with
            | ⟨0, _⟩ => rfl
            | ⟨1, _⟩ => show x.val = 0 + x.val; omega
          · rw [hM]
            unfold laterAt
            rw [dif_pos hx]
        · refine (View.read_writes_cons_unit_of_not_mem v13 _ c13' _ _ (ix2 1 x) rfl (1 : Fin 2) (Or.inr (by show 0 + 128 ≤ x.val; omega))).trans ?_
          refine (View.read_writes_cons_unit_of_not_mem v13 _ c13 _ _ (ix2 1 x) rfl (1 : Fin 2) (Or.inr (by show 0 + 128 ≤ x.val; omega))).trans ?_
          exact load_later x3 h v13 hn L w w' a o7 o8 o9 o10 o11 i7 i8 i9 i10 i11 e10 e11 hL ha f13 x (by omega) P13 }

end Load

section Score
variable {n : ℕ} (hn : n = 18) (v6 v7 : View sig κ sp S128x128 .f32) (v15 : View sig κ sp S2304x2x128 .bf16)
  (X6 : v6.ty.Contents (Elt Ideal)) (X7 : v7.ty.Contents (Elt Ideal)) (h6 : v6.read (Elt Ideal) X6 = x4) (h7 : v7.read (Elt Ideal) X7 = x5)
  {X10 : v10.ty.Contents (Elt Ideal)} {X11 : v11.ty.Contents (Elt Ideal)} {X12 : v12.ty.Contents (Elt Ideal)} {X13 : v13.ty.Contents (Elt Ideal)}
  (hR : Ready x1 x2 x3 h v10 v11 v12 v13 X10 X11 X12 X13)
  (L : ℕ → List (View.Piece (Elt Ideal) S2304x2x128 .bf16)) (W : FVec Ideal S160x128 .f32 → Vec Ideal S128x2x128 .bf16)
  (hW : ∀ o n u l (r : Fin 160), 128 * u.val + l.val = 32 * h.val + r.val → W o (ix3 n u l) = o (ix2 r n))
  (o12 o13 o14 o15 o16 : Fin n → Fin 2 → ℕ) (o17 : Fin n → Fin 3 → ℕ)
  (i12 : ∀ k b, o12 k b + S128x160.size b ≤ S2304x160.size b) (i13 : ∀ k b, o13 k b + S160x256.size b ≤ S160x2432.size b)
  (i14 : ∀ k b, o14 k b + S2x128.size b ≤ S8x2432.size b) (i15 : ∀ k b, o15 k b + S2x128.size b ≤ S8x2432.size b)
  (i16 : ∀ k b, o16 k b + S176x256.size b ≤ S176x2432.size b) (i17 : ∀ k b, o17 k b + S128x2x128.size b ≤ S2304x2x128.size b)
  (e12 : ∀ k, o12 k = ![128 * k.val, 0]) (e13 : ∀ k, o13 k = ![0, 128 * k.val]) (e14 : ∀ k, o14 k = ![0, 128 * k.val])
  (e15 : ∀ k, o15 k = ![0, 128 * k.val + 128]) (e16 : ∀ k, o16 k = ![0, 128 * k.val]) (e17 : ∀ k, o17 k = ![128 * k.val, 0, 0])
  (ilo : ∀ b, (![0, 0] : Fin 2 → ℕ) b + S64x128.size b ≤ S128x128.size b) (ihi : ∀ b, (![64, 0] : Fin 2 → ℕ) b + S64x128.size b ≤ S128x128.size b)
  (hL : ∀ k : Fin n, L (k.val + 1) = [⟨Rect.unit (o17 k) S128x2x128.size (i17 k), W (tileOut
      (v11.readAt (Elt Ideal) (Rect.unit (s := S2304x160) (o12 k) S128x160.size (i12 k)).toLoadRect X11)
      (v10.readAt (Elt Ideal) (Rect.unit (s := S160x2432) (o13 k) S160x256.size (i13 k)).toLoadRect X10)
      (v12.readAt (Elt Ideal) (Rect.unit (s := S176x2432) (o16 k) S176x256.size (i16 k)).toLoadRect X12)
      (v13.readAt (Elt Ideal) (Rect.unit (s := S8x2432) (o14 k) S2x128.size (i14 k)).toLoadRect X13)
      (v13.readAt (Elt Ideal) (Rect.unit (s := S8x2432) (o15 k) S2x128.size (i15 k)).toLoadRect X13)
      (v6.readAt (Elt Ideal) (Rect.unit (s := S128x128) ![0, 0] S64x128.size ilo).toLoadRect X6)
      (v6.readAt (Elt Ideal) (Rect.unit (s := S128x128) ![64, 0] S64x128.size ihi).toLoadRect X6)
      (v7.readAt (Elt Ideal) (Rect.unit (s := S128x128) ![0, 0] S64x128.size ilo).toLoadRect X7)
      (v7.readAt (Elt Ideal) (Rect.unit (s := S128x128) ![64, 0] S64x128.size ihi).toLoadRect X7))⟩] ++ L k.val)
include hn h6 h7 hR hW e12 e13 e14 e15 e16 e17 hL

/-- After the score loop the word buffer holds the head's results. -/
theorem scores (f P A) (hA : A = L n ++ P) (p : Fin 2304) (u : Fin 2) (l : Fin 128) (r : Fin 160) (hr : 128 * u.val + l.val = 32 * h.val + r.val) :
    v15.read (Elt Ideal) (v15.writes (Elt Ideal) f A) (ix3 p u l) = attend x1 x2 x3 x4 x5 h r p := by
  rw [hA]
  rw [View.writes_append]
  refine (words_read v15 _ L hn o17 i17 _ hL e17 p u l).trans ?_
  rw [hW _ _ u l r hr]
  refine (tile_attend x1 x2 x3 x4 x5 h ⟨p.val / 128, by omega⟩ _ _ _ _ _ _ _ _ _ ?_ ?_ ?_ ?_ ?_ ?_ ?_ ?_ ?_ ?_ ?_ ?_ r _).trans ?_
  · exact fun n d => (readAt2 v11 X11 (i12 _) (e12 _) n d ⟨128 * (p.val / 128) + n.val, by omega⟩ d rfl (by omega)).trans (hR.rows _ _)
  · exact fun d c => (readAt2 v10 X10 (i13 _) (e13 _) d c d ⟨128 * (p.val / 128) + c.val, by omega⟩ (by omega) rfl).trans (hR.keys _ _)
  · exact fun d c => (readAt2 v12 X12 (i16 _) (e16 _) (⟨d.val, by omega⟩ : Fin 176) c ⟨d.val, by omega⟩ ⟨128 * (p.val / 128) + c.val, by omega⟩ (by simp only; omega) rfl).trans (hR.vals _ _)
  · exact fun c => (readAt2 v12 X12 (i16 _) (e16 _) (160 : Fin 176) c 160 ⟨128 * (p.val / 128) + c.val, by omega⟩ rfl rfl).trans (hR.ones _)
  · exact fun l => (readAt2 v13 X13 (i14 _) (e14 _) (0 : Fin 2) l 0 ⟨128 * (p.val / 128) + l.val, by omega⟩ rfl rfl).trans (hR.factor _)
  · exact fun l => (readAt2 v13 X13 (i14 _) (e14 _) (1 : Fin 2) l 1 ⟨128 * (p.val / 128) + l.val, by omega⟩ rfl rfl).trans (hR.later _)
  · exact fun l => (readAt2 v13 X13 (i15 _) (e15 _) (0 : Fin 2) l 0 ⟨128 * (p.val / 128) + 128 + l.val, by omega⟩ rfl rfl).trans (hR.factor _)
  · exact fun l => (readAt2 v13 X13 (i15 _) (e15 _) (1 : Fin 2) l 1 ⟨128 * (p.val / 128) + 128 + l.val, by omega⟩ rfl rfl).trans (hR.later _)
  · exact fun r l => (readAt2 v6 X6 ilo rfl r l ⟨r.val, by omega⟩ l (by simp only; omega) (by omega)).trans (congrFun h6 _)
  · exact fun r l => (readAt2 v6 X6 ihi rfl r l ⟨64 + r.val, by omega⟩ l rfl (by omega)).trans (congrFun h6 _)
  · exact fun r l => (readAt2 v7 X7 ilo rfl r l ⟨r.val, by omega⟩ l (by simp only; omega) (by omega)).trans (congrFun h7 _)
  · exact fun r l => (readAt2 v7 X7 ihi rfl r l ⟨64 + r.val, by omega⟩ l rfl (by omega)).trans (congrFun h7 _)
  · congr 1; apply Fin.ext; simp only; omega

end Score

/-- A row read from the words is the row stored. -/
theorem row_pay (y : Vec Ideal S1x2x128 .bf16) (u : Fin 2) (l : Fin 128) : k0_pay131 y (ix4 0 0 u l) = y (ix3 0 u l) := by
  fin_cases u <;> pointwise [k0_pay131] <;> rfl

section Scatter
variable {n : ℕ} (hn : n = 2304) (v14 : View sig κ sp S4x2304x2x128 .bf16) (v15 : View sig κ sp S2304x2x128 .bf16)
  (row : Fin 4 → Fin 2304 → Fin 2304) (hrow : ∀ g, Function.Injective (row g))

/-- The row buffer holds the results of the first `H` heads, each at the row its word names. -/
def Placed (X14 : v14.ty.Contents (Elt Ideal)) (H : ℕ) : Prop :=
  ∀ (g : Fin 4), g.val < H → ∀ (p : Fin 2304) (u : Fin 2) (l : Fin 128) (r : Fin 160), 128 * u.val + l.val = 32 * g.val + r.val →
    v14.read (Elt Ideal) X14 (ix4 g (row g p) u l) = attend x1 x2 x3 x4 x5 g r p

variable {X15 : v15.ty.Contents (Elt Ideal)}
  (h15 : ∀ (p : Fin 2304) (u : Fin 2) (l : Fin 128) (r : Fin 160), 128 * u.val + l.val = 32 * h.val + r.val →
    v15.read (Elt Ideal) X15 (ix3 p u l) = attend x1 x2 x3 x4 x5 h r p)
  (L : ℕ → List (View.Piece (Elt Ideal) S4x2304x2x128 .bf16))
  (o18 : Fin n → Fin 3 → ℕ) (o20 : Fin n → Fin 4 → ℕ)
  (i18 : ∀ k b, o18 k b + S1x2x128.size b ≤ S2304x2x128.size b) (i20 : ∀ k b, o20 k b + S1x1x2x128.size b ≤ S4x2304x2x128.size b)
  (e18 : ∀ k, o18 k = ![k.val, 0, 0]) (e20 : ∀ k, o20 k = ![h.val, (row h (Fin.cast hn k)).val, 0, 0])
  (h0 : L 0 = [])
  (hL : ∀ k : Fin n, L (k.val + 1) = [⟨Rect.unit (o20 k) S1x1x2x128.size (i20 k),
    k0_pay131 (v15.readAt (Elt Ideal) (Rect.unit (s := S2304x2x128) (o18 k) S1x2x128.size (i18 k)).toLoadRect X15)⟩] ++ L k.val)
include hn hrow h15 e18 e20 h0 hL

theorem scatters (f P A) (hA : A = L n ++ P) (hf : Placed x1 x2 x3 x4 x5 v14 row (v14.writes (Elt Ideal) f P) h.val) :
    Placed x1 x2 x3 x4 x5 v14 row (v14.writes (Elt Ideal) f A) (h.val + 1) := by
  intro g hg p u l r hr
  rw [hA]
  rw [View.writes_append]
  by_cases hgh : g = h
  · subst hgh
    subst hn
    refine (scatter_read v14 _ L rfl o20 i20 _ hL g (row g) (hrow g) e20 p u l).trans ?_
    rw [row_pay]
    exact (readAt3 v15 X15 (i18 p) (e18 p) 0 u l p u l (by simp) (by omega) (by omega)).trans (h15 p u l r hr)
  · refine (scatter_read_other v14 _ L o20 i20 _ h0 hL h g hgh _ e20 (row g p) u l).trans ?_
    exact hf g (by have : g.val ≠ h.val := fun e => hgh (Fin.ext e); omega) p u l r hr

end Scatter
end Loops
end Cert.LastKernelIdeal.Head
-- ==== Proof.LastHeads.lean ====
/- The loops of each head, opened: a trip of each stores the operations of `Ops` on what it loads. So each head's
   loops leave its keys, its results and its rows. -/
module
public import proofs.«01_k».proof.Proof.LastHeadLoops
@[expose] public section
set_option maxRecDepth 16384
noncomputable section
namespace Cert.LastKernelIdeal.Head
open Cert.LastKernelIdeal Cert.LastKernelIdeal.Gen Cert.LastKernelIdeal.Ops Cert.LastKernelIdeal.Fill
open Idealize.ShloMosaic Idealize.ShloMosaic.TcCoe

section Forms
variable {sig : RefSig} {κ : Kind} {sp : Space}
  (x1 x2 : Vec Ideal S1x4x5x144x128 .i32) (x3 : Vec Ideal S1x4x144x128 .f32) (h : Fin 4)
  (v10 : View sig κ sp S160x2432 .bf16) (v11 : View sig κ sp S2304x160 .bf16) (v12 : View sig κ sp S176x2432 .bf16) (v13 : View sig κ sp S8x2432 .f32)

/-- With the load loop's stores `L` and the copies of the last tile behind it, the scratch buffers are ready. -/
def Loads (L : List (View.Piece (Elt Ideal) S160x2432 .bf16) × List (View.Piece (Elt Ideal) S2304x160 .bf16)
    × List (View.Piece (Elt Ideal) S176x2432 .bf16) × List (View.Piece (Elt Ideal) S8x2432 .f32)) : Prop :=
  ∀ (f10 f11 f12 f13 P10 P11 P12 P13 A10 A11 A12 A13), A10 = L.1 ++ P10 → A11 = L.2.1 ++ P11 → A12 = L.2.2.1 ++ P12 → A13 = L.2.2.2 ++ P13 →
    ∀ (c10 c12 c13 c13') (W10 : Vec Ideal S160x128 .bf16) (W12 : Vec Ideal S176x128 .bf16) (W13 M13 : Vec Ideal S1x128 .f32),
    (∀ d l, W10 (ix2 d l) = v10.read (Elt Ideal) (v10.writes (Elt Ideal) f10 A10) (ix2 d (lastTile l))) →
    (∀ d l, W12 (ix2 d l) = v12.read (Elt Ideal) (v12.writes (Elt Ideal) f12 A12) (ix2 d (lastTile l))) →
    (∀ l, W13 (ix2 0 l) = v13.read (Elt Ideal) (v13.writes (Elt Ideal) f13 A13) (ix2 0 (lastTile l))) →
    (∀ l, M13 (ix2 0 l) = Ideal.ofBits FTy.f32 0xBF800000#32) →
    Ready x1 x2 x3 h v10 v11 v12 v13
      (v10.writes (Elt Ideal) f10 (⟨Rect.unit ![0, 0] S160x128.size c10, W10⟩ :: A10))
      (v11.writes (Elt Ideal) f11 A11)
      (v12.writes (Elt Ideal) f12 (⟨Rect.unit ![0, 0] S176x128.size c12, W12⟩ :: A12))
      (v13.writes (Elt Ideal) f13 (⟨Rect.unit ![1, 0] S1x128.size c13', M13⟩ :: ⟨Rect.unit ![0, 0] S1x128.size c13, W13⟩ :: A13))

variable (x4 x5 : Vec Ideal S128x128 .f32)

/-- The word buffer holds a head's results. -/
def Scored (v15 : View sig κ sp S2304x2x128 .bf16) (X15 : v15.ty.Contents (Elt Ideal)) : Prop :=
  ∀ (p : Fin 2304) (u : Fin 2) (l : Fin 128) (r : Fin 160), 128 * u.val + l.val = 32 * h.val + r.val →
    v15.read (Elt Ideal) X15 (ix3 p u l) = attend x1 x2 x3 x4 x5 h r p

end Forms

/-- A trip's loads of words, slab by slab. -/
abbrev slabs {n : ℕ} {sig : RefSig} {κ : Kind} {sp : Space} (v : View sig κ sp S1x4x5x144x128 .i32) (X : v.ty.Contents (Elt Ideal))
    (o : Fin 5 → Fin n → Fin 5 → ℕ) (i : ∀ j k b, o j k b + S1x1x1x8x128.size b ≤ S1x4x5x144x128.size b) (k : Fin n) (j : Fin 5) : Vec Ideal S1x1x1x8x128 .i32 :=
  v.readAt (Elt Ideal) (Rect.unit (s := S1x4x5x144x128) (o j k) S1x1x1x8x128.size (i j k)).toLoadRect X

theorem slabs_at {n : ℕ} {sig : RefSig} {κ : Kind} {sp : Space} (v : View sig κ sp S1x4x5x144x128 .i32) (X : v.ty.Contents (Elt Ideal))
    (x) (hx : v.read (Elt Ideal) X = x) (h : Fin 4) (hn : n = 18) (o : Fin 5 → Fin n → Fin 5 → ℕ) (i) (e : ∀ j k, o j k = ![0, h.val, j.val, 8 * k.val, 0]) (k : Fin n) (j : Fin 5)
    (b : Fin 8) (l : Fin 128) : slabs v X o i k j (ix5 0 0 0 b l) = x (ix5 0 h j (tileRow hn k b) l) :=
  (readAt5 v X (i j k) (e j k) 0 0 0 b l 0 h j (tileRow hn k b) l rfl rfl rfl rfl (by omega)).trans (congrFun hx _)

abbrev auxes {n : ℕ} {sig : RefSig} {κ : Kind} {sp : Space} (v : View sig κ sp S1x4x144x128 .f32) (X : v.ty.Contents (Elt Ideal))
    (o : Fin n → Fin 4 → ℕ) (i : ∀ k b, o k b + S1x1x8x128.size b ≤ S1x4x144x128.size b) (k : Fin n) : Vec Ideal S1x1x8x128 .f32 :=
  v.readAt (Elt Ideal) (Rect.unit (s := S1x4x144x128) (o k) S1x1x8x128.size (i k)).toLoadRect X

theorem auxes_at {n : ℕ} {sig : RefSig} {κ : Kind} {sp : Space} (v : View sig κ sp S1x4x144x128 .f32) (X : v.ty.Contents (Elt Ideal))
    (x) (hx : v.read (Elt Ideal) X = x) (h : Fin 4) (hn : n = 18) (o : Fin n → Fin 4 → ℕ) (i) (e : ∀ k, o k = ![0, h.val, 8 * k.val, 0]) (k : Fin n)
    (b : Fin 8) (l : Fin 128) : auxes v X o i k (ix4 0 0 b l) = x (ix4 0 h (tileRow hn k b) l) :=
  (readAt4 v X (i k) (e k) 0 0 b l 0 h (tileRow hn k b) l rfl rfl rfl (by omega)).trans (congrFun hx _)

theorem first_eq : Shape.Idx.first (s := S1x1x1x1) (numel1_S1x1x1x1.symm ▸ Nat.one_pos) = ix4 0 0 0 0 := by
  funext a; fin_cases a <;> exact Subsingleton.elim (α := Fin 1) _ _

section Parts
variable (w : Fin 5 → Vec Ideal S1x1x1x8x128 .i32) (a : Vec Ideal S1x1x8x128 .f32) (p0 p1 p2 p3 p4 : FVec Ideal S32x128 .bf16)
  (h0 : p0 = scaled (w 0) (extractStridedSlice S1x128 ![0, 0] (auxTile a) slices_S8x128_o0_0_S1x128))
  (h1 : p1 = scaled (w 1) (extractStridedSlice S1x128 ![1, 0] (auxTile a) slices_S8x128_o1_0_S1x128))
  (h2 : p2 = scaled (w 2) (extractStridedSlice S1x128 ![2, 0] (auxTile a) slices_S8x128_o2_0_S1x128))
  (h3 : p3 = scaled (w 3) (extractStridedSlice S1x128 ![3, 0] (auxTile a) slices_S8x128_o3_0_S1x128))
  (h4 : p4 = scaled (w 4) (extractStridedSlice S1x128 ![4, 0] (auxTile a) slices_S8x128_o4_0_S1x128))
include h0 h1 h2 h3 h4
theorem keys_of : concatenate S160x128 0 [⟨S32x128, p0⟩, ⟨S32x128, p1⟩, ⟨S32x128, p2⟩, ⟨S32x128, p3⟩, ⟨S32x128, p4⟩]
    concatenates_S32x128_S32x128_S32x128_S32x128_S32x128_S160x128_d0 = keys w a := by
  subst h0 h1 h2 h3 h4; rfl
theorem squares_of : addf (addf (addf (addf (addf (broadcast S8x128 (Scalar.ofBits .f32 0x00000000#32)) (sqPart p0)) (sqPart p1)) (sqPart p2)) (sqPart p3)) (sqPart p4)
    = squares w a := by
  subst h0 h1 h2 h3 h4; rfl
end Parts

theorem vals_of (w : Fin 5 → Vec Ideal S1x1x1x8x128 .i32) (a : Vec Ideal S1x1x8x128 .f32) (p0 p1 p2 p3 p4 : FVec Ideal S32x128 .bf16)
    (h0 : p0 = valParts w a 0) (h1 : p1 = valParts w a 1) (h2 : p2 = valParts w a 2) (h3 : p3 = valParts w a 3) (h4 : p4 = valParts w a 4) :
    k0_pay123 p0 p1 p2 p3 p4 = vals w a := by
  subst h0 h1 h2 h3 h4; rfl

section Heads
variable (𝒱 : Variants) (c : Dev nD) (bd : Option 𝒱.V) (i : grid0.Coords) (arg2 : Memref sig .tc .smem S1x1x4x2304 .i32) (harg2 : arg2.IsWhole) (arg3 : Memref sig .tc .vmem S1x4x5x144x128 .i32) (harg3 : arg3.IsWhole) (arg4 : Memref sig .tc .vmem S1x4x5x144x128 .i32) (harg4 : arg4.IsWhole) (arg5 : Memref sig .tc .vmem S1x4x144x128 .f32) (harg5 : arg5.IsWhole) (arg6 : Memref sig .tc .vmem S128x128 .f32) (harg6 : arg6.IsWhole) (arg7 : Memref sig .tc .vmem S128x128 .f32) (harg7 : arg7.IsWhole) (arg8 : Memref sig .tc .hbm S24x2304x1920 .bf16) (harg8 : arg8.IsWhole) (arg9 : Memref sig .tc .vmem S1x2304x640 .bf16) (harg9 : arg9.IsWhole) (arg10 : Memref sig .tc .vmem S160x2432 .bf16) (harg10 : arg10.IsWhole) (arg11 : Memref sig .tc .vmem S2304x160 .bf16) (harg11 : arg11.IsWhole) (arg12 : Memref sig .tc .vmem S176x2432 .bf16) (harg12 : arg12.IsWhole) (arg13 : Memref sig .tc .vmem S8x2432 .f32) (harg13 : arg13.IsWhole) (arg14 : Memref sig .tc .vmem S4x2304x2x128 .bf16) (harg14 : arg14.IsWhole) (arg15 : Memref sig .tc .vmem S2304x2x128 .bf16) (harg15 : arg15.IsWhole)
  (x1 x2 : Vec Ideal S1x4x5x144x128 .i32) (x3 : Vec Ideal S1x4x144x128 .f32) (x4 x5 : Vec Ideal S128x128 .f32)
  (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty) (X7 : BufTy.Contents (Elt Ideal) arg7.view.ty)
  (h3 : arg3.view.read (Elt Ideal) X3 = x1) (h4 : arg4.view.read (Elt Ideal) X4 = x2) (h5 : arg5.view.read (Elt Ideal) X5 = x3)
  (h6 : arg6.view.read (Elt Ideal) X6 = x4) (h7 : arg7.view.read (Elt Ideal) X7 = x5)
  (X10 : BufTy.Contents (Elt Ideal) arg10.view.ty) (X11 : BufTy.Contents (Elt Ideal) arg11.view.ty) (X12 : BufTy.Contents (Elt Ideal) arg12.view.ty)
  (X13 : BufTy.Contents (Elt Ideal) arg13.view.ty) (X15 : BufTy.Contents (Elt Ideal) arg15.view.ty)
  (row : Fin 4 → Fin 2304 → Fin 2304) (hrow : ∀ g, Function.Injective (row g))

theorem offs0_inb : ∀ j k b, (![k0_off2, k0_off3, k0_off4, k0_off5, k0_off6] : Fin 5 → Fin k0_t1_loop.trips → Fin 5 → ℕ) j k b + S1x1x1x8x128.size b ≤ S1x4x5x144x128.size b := fun j k => by
  fin_cases j; exacts [k0_off2_inb k, k0_off3_inb k, k0_off4_inb k, k0_off5_inb k, k0_off6_inb k]
theorem offs0_eq : ∀ j k, (![k0_off2, k0_off3, k0_off4, k0_off5, k0_off6] : Fin 5 → Fin k0_t1_loop.trips → Fin 5 → ℕ) j k = ![0, 0, j.val, 8 * k.val, 0] := fun j k => by
  fin_cases j; exacts [k0_off2_eq k, k0_off3_eq k, k0_off4_eq k, k0_off5_eq k, k0_off6_eq k]

theorem keys0 (k : Fin k0_t1_loop.trips) : trip_k0_t1.sl.v208 (F := Ideal) arg3 arg5 X3 X5 k = keys (slabs arg3.view X3 _ offs0_inb k) (auxes arg5.view X5 _ k0_off1_inb k) :=
  keys_of (slabs arg3.view X3 _ offs0_inb k) (auxes arg5.view X5 _ k0_off1_inb k) _ _ _ _ _ rfl rfl rfl rfl rfl
theorem norms0 (k : Fin k0_t1_loop.trips) : k0_pay124 (trip_k0_t1.sl.v200 (F := Ideal) arg3 arg5 X3 X5 k) = norms (slabs arg3.view X3 _ offs0_inb k) (auxes arg5.view X5 _ k0_off1_inb k) :=
  congrArg k0_pay124 (squares_of (slabs arg3.view X3 _ offs0_inb k) (auxes arg5.view X5 _ k0_off1_inb k) _ _ _ _ _ rfl rfl rfl rfl rfl)
theorem vals0 (k : Fin k0_t1_loop.trips) : k0_pay123 (trip_k0_t1.sl.v123 (F := Ideal) arg4 arg5 X4 X5 k) (trip_k0_t1.sl.v144 arg4 arg5 X4 X5 k) (trip_k0_t1.sl.v165 arg4 arg5 X4 X5 k) (trip_k0_t1.sl.v186 arg4 arg5 X4 X5 k) (trip_k0_t1.sl.v207 arg4 arg5 X4 X5 k)
    = vals (slabs arg4.view X4 _ offs0_inb k) (auxes arg5.view X5 _ k0_off1_inb k) :=
  vals_of (slabs arg4.view X4 _ offs0_inb k) (auxes arg5.view X5 _ k0_off1_inb k) _ _ _ _ _ rfl rfl rfl rfl rfl

include h3 h4 h5 in
theorem loads0 : Loads x1 x2 x3 0 arg10.view arg11.view arg12.view arg13.view (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X3 X4 X5 k0_t1_loop.trips) :=
  ready x1 x2 x3 0 arg10.view arg11.view arg12.view arg13.view (by decide) (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X3 X4 X5)
    (slabs arg3.view X3 _ offs0_inb) (slabs arg4.view X4 _ offs0_inb) (auxes arg5.view X5 k0_off1 k0_off1_inb)
    k0_off7 k0_off8 k0_off9 k0_off10 k0_off11 k0_off7_inb k0_off8_inb k0_off9_inb k0_off10_inb k0_off11_inb
    k0_off7_eq k0_off8_eq k0_off9_eq k0_off10_eq k0_off11_eq
    (fun k => by
      have e : trip_k0_t1.sl.v212 (F := Ideal) arg3 arg5 X3 X5 k = trip_k0_t1.sl.v208 arg3 arg5 X3 X5 k := shapeCast_self (trip_k0_t1.sl.v208 (F := Ideal) arg3 arg5 X3 X5 k) _
      rw [pb_k0_t1_succ, ← keys0, ← norms0, ← vals0]
      unfold tripL_k0_t1 trip_k0_t1
      dsimp only
      rw [e]
      rfl)
    (slabs_at arg3.view X3 x1 h3 0 (by decide) _ offs0_inb offs0_eq) (slabs_at arg4.view X4 x2 h4 0 (by decide) _ offs0_inb offs0_eq)
    (auxes_at arg5.view X5 x3 h5 0 (by decide) _ _ k0_off1_eq)

theorem offs1_inb : ∀ j k b, (![k0_off22, k0_off23, k0_off24, k0_off25, k0_off26] : Fin 5 → Fin k0_t4_loop.trips → Fin 5 → ℕ) j k b + S1x1x1x8x128.size b ≤ S1x4x5x144x128.size b := fun j k => by
  fin_cases j; exacts [k0_off22_inb k, k0_off23_inb k, k0_off24_inb k, k0_off25_inb k, k0_off26_inb k]
theorem offs1_eq : ∀ j k, (![k0_off22, k0_off23, k0_off24, k0_off25, k0_off26] : Fin 5 → Fin k0_t4_loop.trips → Fin 5 → ℕ) j k = ![0, 1, j.val, 8 * k.val, 0] := fun j k => by
  fin_cases j; exacts [k0_off22_eq k, k0_off23_eq k, k0_off24_eq k, k0_off25_eq k, k0_off26_eq k]

theorem keys1 (k : Fin k0_t4_loop.trips) : trip_k0_t4.sl.v208 (F := Ideal) arg3 arg5 X3 X5 k = keys (slabs arg3.view X3 _ offs1_inb k) (auxes arg5.view X5 _ k0_off21_inb k) :=
  keys_of (slabs arg3.view X3 _ offs1_inb k) (auxes arg5.view X5 _ k0_off21_inb k) _ _ _ _ _ rfl rfl rfl rfl rfl
theorem norms1 (k : Fin k0_t4_loop.trips) : k0_pay134 (trip_k0_t4.sl.v200 (F := Ideal) arg3 arg5 X3 X5 k) = norms (slabs arg3.view X3 _ offs1_inb k) (auxes arg5.view X5 _ k0_off21_inb k) :=
  congrArg k0_pay134 (squares_of (slabs arg3.view X3 _ offs1_inb k) (auxes arg5.view X5 _ k0_off21_inb k) _ _ _ _ _ rfl rfl rfl rfl rfl)
theorem vals1 (k : Fin k0_t4_loop.trips) : k0_pay133 k0_pay121 (trip_k0_t4.sl.v123 (F := Ideal) arg4 arg5 X4 X5 k) (trip_k0_t4.sl.v144 arg4 arg5 X4 X5 k) (trip_k0_t4.sl.v165 arg4 arg5 X4 X5 k) (trip_k0_t4.sl.v186 arg4 arg5 X4 X5 k) (trip_k0_t4.sl.v207 arg4 arg5 X4 X5 k)
    = vals (slabs arg4.view X4 _ offs1_inb k) (auxes arg5.view X5 _ k0_off21_inb k) :=
  vals_of (slabs arg4.view X4 _ offs1_inb k) (auxes arg5.view X5 _ k0_off21_inb k) _ _ _ _ _ rfl rfl rfl rfl rfl

include h3 h4 h5 in
theorem loads1 : Loads x1 x2 x3 1 arg10.view arg11.view arg12.view arg13.view (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 X3 X4 X5 k0_t4_loop.trips) :=
  ready x1 x2 x3 1 arg10.view arg11.view arg12.view arg13.view (by decide) (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 X3 X4 X5)
    (slabs arg3.view X3 _ offs1_inb) (slabs arg4.view X4 _ offs1_inb) (auxes arg5.view X5 k0_off21 k0_off21_inb)
    k0_off27 k0_off28 k0_off29 k0_off30 k0_off31 k0_off27_inb k0_off28_inb k0_off29_inb k0_off30_inb k0_off31_inb
    k0_off27_eq k0_off28_eq k0_off29_eq k0_off30_eq k0_off31_eq
    (fun k => by
      have e : trip_k0_t4.sl.v212 (F := Ideal) arg3 arg5 X3 X5 k = trip_k0_t4.sl.v208 arg3 arg5 X3 X5 k := shapeCast_self (trip_k0_t4.sl.v208 (F := Ideal) arg3 arg5 X3 X5 k) _
      rw [pb_k0_t4_succ, ← keys1, ← norms1, ← vals1]
      unfold tripL_k0_t4 trip_k0_t4
      dsimp only
      rw [e]
      rfl)
    (slabs_at arg3.view X3 x1 h3 1 (by decide) _ offs1_inb offs1_eq) (slabs_at arg4.view X4 x2 h4 1 (by decide) _ offs1_inb offs1_eq)
    (auxes_at arg5.view X5 x3 h5 1 (by decide) _ _ k0_off21_eq)

theorem offs2_inb : ∀ j k b, (![k0_off42, k0_off43, k0_off44, k0_off45, k0_off46] : Fin 5 → Fin k0_t7_loop.trips → Fin 5 → ℕ) j k b + S1x1x1x8x128.size b ≤ S1x4x5x144x128.size b := fun j k => by
  fin_cases j; exacts [k0_off42_inb k, k0_off43_inb k, k0_off44_inb k, k0_off45_inb k, k0_off46_inb k]
theorem offs2_eq : ∀ j k, (![k0_off42, k0_off43, k0_off44, k0_off45, k0_off46] : Fin 5 → Fin k0_t7_loop.trips → Fin 5 → ℕ) j k = ![0, 2, j.val, 8 * k.val, 0] := fun j k => by
  fin_cases j; exacts [k0_off42_eq k, k0_off43_eq k, k0_off44_eq k, k0_off45_eq k, k0_off46_eq k]

theorem keys2 (k : Fin k0_t7_loop.trips) : trip_k0_t7.sl.v208 (F := Ideal) arg3 arg5 X3 X5 k = keys (slabs arg3.view X3 _ offs2_inb k) (auxes arg5.view X5 _ k0_off41_inb k) :=
  keys_of (slabs arg3.view X3 _ offs2_inb k) (auxes arg5.view X5 _ k0_off41_inb k) _ _ _ _ _ rfl rfl rfl rfl rfl
theorem norms2 (k : Fin k0_t7_loop.trips) : k0_pay146 (trip_k0_t7.sl.v200 (F := Ideal) arg3 arg5 X3 X5 k) = norms (slabs arg3.view X3 _ offs2_inb k) (auxes arg5.view X5 _ k0_off41_inb k) :=
  congrArg k0_pay146 (squares_of (slabs arg3.view X3 _ offs2_inb k) (auxes arg5.view X5 _ k0_off41_inb k) _ _ _ _ _ rfl rfl rfl rfl rfl)
theorem vals2 (k : Fin k0_t7_loop.trips) : k0_pay145 k0_pay121 (trip_k0_t7.sl.v123 (F := Ideal) arg4 arg5 X4 X5 k) (trip_k0_t7.sl.v144 arg4 arg5 X4 X5 k) (trip_k0_t7.sl.v165 arg4 arg5 X4 X5 k) (trip_k0_t7.sl.v186 arg4 arg5 X4 X5 k) (trip_k0_t7.sl.v207 arg4 arg5 X4 X5 k)
    = vals (slabs arg4.view X4 _ offs2_inb k) (auxes arg5.view X5 _ k0_off41_inb k) :=
  vals_of (slabs arg4.view X4 _ offs2_inb k) (auxes arg5.view X5 _ k0_off41_inb k) _ _ _ _ _ rfl rfl rfl rfl rfl

include h3 h4 h5 in
theorem loads2 (c0 c1 : BitVec 32) : Loads x1 x2 x3 2 arg10.view arg11.view arg12.view arg13.view (pb_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 c0 c1 X3 X4 X5 k0_t7_loop.trips) :=
  ready x1 x2 x3 2 arg10.view arg11.view arg12.view arg13.view (by decide) (pb_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 c0 c1 X3 X4 X5)
    (slabs arg3.view X3 _ offs2_inb) (slabs arg4.view X4 _ offs2_inb) (auxes arg5.view X5 k0_off41 k0_off41_inb)
    k0_off47 k0_off48 k0_off49 k0_off50 k0_off51 k0_off47_inb k0_off48_inb k0_off49_inb k0_off50_inb k0_off51_inb
    k0_off47_eq k0_off48_eq k0_off49_eq k0_off50_eq k0_off51_eq
    (fun k => by
      have e : trip_k0_t7.sl.v212 (F := Ideal) arg3 arg5 X3 X5 k = trip_k0_t7.sl.v208 arg3 arg5 X3 X5 k := shapeCast_self (trip_k0_t7.sl.v208 (F := Ideal) arg3 arg5 X3 X5 k) _
      rw [pb_k0_t7_succ, ← keys2, ← norms2, ← vals2]
      unfold tripL_k0_t7 trip_k0_t7
      dsimp only
      rw [e]
      rfl)
    (slabs_at arg3.view X3 x1 h3 2 (by decide) _ offs2_inb offs2_eq) (slabs_at arg4.view X4 x2 h4 2 (by decide) _ offs2_inb offs2_eq)
    (auxes_at arg5.view X5 x3 h5 2 (by decide) _ _ k0_off41_eq)

theorem offs3_inb : ∀ j k b, (![k0_off62, k0_off63, k0_off64, k0_off65, k0_off66] : Fin 5 → Fin k0_t10_loop.trips → Fin 5 → ℕ) j k b + S1x1x1x8x128.size b ≤ S1x4x5x144x128.size b := fun j k => by
  fin_cases j; exacts [k0_off62_inb k, k0_off63_inb k, k0_off64_inb k, k0_off65_inb k, k0_off66_inb k]
theorem offs3_eq : ∀ j k, (![k0_off62, k0_off63, k0_off64, k0_off65, k0_off66] : Fin 5 → Fin k0_t10_loop.trips → Fin 5 → ℕ) j k = ![0, 3, j.val, 8 * k.val, 0] := fun j k => by
  fin_cases j; exacts [k0_off62_eq k, k0_off63_eq k, k0_off64_eq k, k0_off65_eq k, k0_off66_eq k]

theorem keys3 (k : Fin k0_t10_loop.trips) : trip_k0_t10.sl.v208 (F := Ideal) arg3 arg5 X3 X5 k = keys (slabs arg3.view X3 _ offs3_inb k) (auxes arg5.view X5 _ k0_off61_inb k) :=
  keys_of (slabs arg3.view X3 _ offs3_inb k) (auxes arg5.view X5 _ k0_off61_inb k) _ _ _ _ _ rfl rfl rfl rfl rfl
theorem norms3 (k : Fin k0_t10_loop.trips) : k0_pay158 (trip_k0_t10.sl.v200 (F := Ideal) arg3 arg5 X3 X5 k) = norms (slabs arg3.view X3 _ offs3_inb k) (auxes arg5.view X5 _ k0_off61_inb k) :=
  congrArg k0_pay158 (squares_of (slabs arg3.view X3 _ offs3_inb k) (auxes arg5.view X5 _ k0_off61_inb k) _ _ _ _ _ rfl rfl rfl rfl rfl)
theorem vals3 (k : Fin k0_t10_loop.trips) : k0_pay157 k0_pay121 (trip_k0_t10.sl.v123 (F := Ideal) arg4 arg5 X4 X5 k) (trip_k0_t10.sl.v144 arg4 arg5 X4 X5 k) (trip_k0_t10.sl.v165 arg4 arg5 X4 X5 k) (trip_k0_t10.sl.v186 arg4 arg5 X4 X5 k) (trip_k0_t10.sl.v207 arg4 arg5 X4 X5 k)
    = vals (slabs arg4.view X4 _ offs3_inb k) (auxes arg5.view X5 _ k0_off61_inb k) :=
  vals_of (slabs arg4.view X4 _ offs3_inb k) (auxes arg5.view X5 _ k0_off61_inb k) _ _ _ _ _ rfl rfl rfl rfl rfl

include h3 h4 h5 in
theorem loads3 : Loads x1 x2 x3 3 arg10.view arg11.view arg12.view arg13.view (pb_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 X3 X4 X5 k0_t10_loop.trips) :=
  ready x1 x2 x3 3 arg10.view arg11.view arg12.view arg13.view (by decide) (pb_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 X3 X4 X5)
    (slabs arg3.view X3 _ offs3_inb) (slabs arg4.view X4 _ offs3_inb) (auxes arg5.view X5 k0_off61 k0_off61_inb)
    k0_off67 k0_off68 k0_off69 k0_off70 k0_off71 k0_off67_inb k0_off68_inb k0_off69_inb k0_off70_inb k0_off71_inb
    k0_off67_eq k0_off68_eq k0_off69_eq k0_off70_eq k0_off71_eq
    (fun k => by
      have e : trip_k0_t10.sl.v212 (F := Ideal) arg3 arg5 X3 X5 k = trip_k0_t10.sl.v208 arg3 arg5 X3 X5 k := shapeCast_self (trip_k0_t10.sl.v208 (F := Ideal) arg3 arg5 X3 X5 k) _
      rw [pb_k0_t10_succ, ← keys3, ← norms3, ← vals3]
      unfold tripL_k0_t10 trip_k0_t10
      dsimp only
      rw [e]
      rfl)
    (slabs_at arg3.view X3 x1 h3 3 (by decide) _ offs3_inb offs3_eq) (slabs_at arg4.view X4 x2 h4 3 (by decide) _ offs3_inb offs3_eq)
    (auxes_at arg5.view X5 x3 h5 3 (by decide) _ _ k0_off61_eq)

theorem tile0 (k : Fin k0_t2_loop.trips) : trip_k0_t2.sl.v165 (F := Ideal) arg6 arg7 arg10 arg11 arg12 arg13 X6 X7 X10 X11 X12 X13 k
    = tileOut (arg11.view.readAt (Elt Ideal) (Rect.unit (s := S2304x160) (k0_off12 k) S128x160.size (k0_off12_inb k)).toLoadRect X11)
      (arg10.view.readAt (Elt Ideal) (Rect.unit (s := S160x2432) (k0_off13 k) S160x256.size (k0_off13_inb k)).toLoadRect X10)
      (arg12.view.readAt (Elt Ideal) (Rect.unit (s := S176x2432) (k0_off16 k) S176x256.size (k0_off16_inb k)).toLoadRect X12)
      (arg13.view.readAt (Elt Ideal) (Rect.unit (s := S8x2432) (k0_off14 k) S2x128.size (k0_off14_inb k)).toLoadRect X13)
      (arg13.view.readAt (Elt Ideal) (Rect.unit (s := S8x2432) (k0_off15 k) S2x128.size (k0_off15_inb k)).toLoadRect X13)
      (arg6.view.readAt (Elt Ideal) (Rect.unit (s := S128x128) ![0, 0] S64x128.size inb_S128x128_S64x128_0_0).toLoadRect X6)
      (arg6.view.readAt (Elt Ideal) (Rect.unit (s := S128x128) ![64, 0] S64x128.size inb_S128x128_S64x128_64_0).toLoadRect X6)
      (arg7.view.readAt (Elt Ideal) (Rect.unit (s := S128x128) ![0, 0] S64x128.size inb_S128x128_S64x128_0_0).toLoadRect X7)
      (arg7.view.readAt (Elt Ideal) (Rect.unit (s := S128x128) ![64, 0] S64x128.size inb_S128x128_S64x128_64_0).toLoadRect X7) := rfl

include h6 h7 in
theorem scores0 (hR : Ready x1 x2 x3 0 arg10.view arg11.view arg12.view arg13.view X10 X11 X12 X13) (f P A)
    (hA : A = pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X6 X7 X10 X11 X12 X13 k0_t2_loop.trips ++ P) :
    Scored x1 x2 x3 0 x4 x5 arg15.view (arg15.view.writes (Elt Ideal) f A) :=
  scores x1 x2 x3 x4 x5 0 arg10.view arg11.view arg12.view arg13.view (by decide) arg6.view arg7.view arg15.view X6 X7 h6 h7 hR
    (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X6 X7 X10 X11 X12 X13) word0 (fun o n u l r hr => word0_at o n u l r (hr.trans (Nat.zero_add _)))
    k0_off12 k0_off13 k0_off14 k0_off15 k0_off16 k0_off17 k0_off12_inb k0_off13_inb k0_off14_inb k0_off15_inb k0_off16_inb k0_off17_inb
    k0_off12_eq k0_off13_eq k0_off14_eq k0_off15_eq k0_off16_eq k0_off17_eq inb_S128x128_S64x128_0_0 inb_S128x128_S64x128_64_0
    (fun k => by
      rw [pb_k0_t2_succ, ← tile0]
      unfold tripL_k0_t2 trip_k0_t2
      rfl) f P A hA

include hrow in
theorem scatters0 (hw) (hx2 : ∀ k : Fin 2304, (arg2.view.read (Elt Ideal) X2 (ix4 0 0 0 k)).toNat = (row 0 k).val)
    (h15 : Scored x1 x2 x3 0 x4 x5 arg15.view X15) (f P A)
    (hA : A = pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 X2 X15 hw k0_t3_loop.trips ++ P)
    (hf : Placed x1 x2 x3 x4 x5 arg14.view row (arg14.view.writes (Elt Ideal) f P) 0) :
    Placed x1 x2 x3 x4 x5 arg14.view row (arg14.view.writes (Elt Ideal) f A) 1 :=
  scatters x1 x2 x3 x4 x5 0 (by decide) arg14.view arg15.view row hrow h15
    (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 X2 X15 hw)
    k0_off18 (fun k => k0_off20 (trip_k0_t3.sl.r (F := Ideal) arg2 X2 k)) k0_off18_inb (fun k => hw k.val k.isLt) k0_off18_eq
    (fun k => by
      have e : trip_k0_t3.sl.r (F := Ideal) arg2 X2 k = arg2.view.read (Elt Ideal) X2 (ix4 0 0 0 (Fin.cast (by decide) k)) :=
        (congrArg _ first_eq).trans (readAt4 arg2.view X2 (k0_off19_inb k) (k0_off19_eq k) 0 0 0 0 0 0 0 (Fin.cast (by decide) k) rfl rfl rfl rfl)
      rw [e]
      unfold k0_off20
      simp only [Scalar.indexCast]
      rw [← hx2]
      simp) rfl
    (fun k => by
      rw [pb_k0_t3_succ]
      unfold tripL_k0_t3 trip_k0_t3
      rfl) f P A hA hf

theorem tile1 (k : Fin k0_t5_loop.trips) : trip_k0_t5.sl.v165 (F := Ideal) arg6 arg7 arg10 arg11 arg12 arg13 k0_pay119 k0_pay120 X6 X7 X10 X11 X12 X13 k
    = tileOut (arg11.view.readAt (Elt Ideal) (Rect.unit (s := S2304x160) (k0_off32 k) S128x160.size (k0_off32_inb k)).toLoadRect X11)
      (arg10.view.readAt (Elt Ideal) (Rect.unit (s := S160x2432) (k0_off33 k) S160x256.size (k0_off33_inb k)).toLoadRect X10)
      (arg12.view.readAt (Elt Ideal) (Rect.unit (s := S176x2432) (k0_off36 k) S176x256.size (k0_off36_inb k)).toLoadRect X12)
      (arg13.view.readAt (Elt Ideal) (Rect.unit (s := S8x2432) (k0_off34 k) S2x128.size (k0_off34_inb k)).toLoadRect X13)
      (arg13.view.readAt (Elt Ideal) (Rect.unit (s := S8x2432) (k0_off35 k) S2x128.size (k0_off35_inb k)).toLoadRect X13)
      (arg6.view.readAt (Elt Ideal) (Rect.unit (s := S128x128) ![0, 0] S64x128.size inb_S128x128_S64x128_0_0).toLoadRect X6)
      (arg6.view.readAt (Elt Ideal) (Rect.unit (s := S128x128) ![64, 0] S64x128.size inb_S128x128_S64x128_64_0).toLoadRect X6)
      (arg7.view.readAt (Elt Ideal) (Rect.unit (s := S128x128) ![0, 0] S64x128.size inb_S128x128_S64x128_0_0).toLoadRect X7)
      (arg7.view.readAt (Elt Ideal) (Rect.unit (s := S128x128) ![64, 0] S64x128.size inb_S128x128_S64x128_64_0).toLoadRect X7) := rfl

include h6 h7 in
theorem scores1 (hR : Ready x1 x2 x3 1 arg10.view arg11.view arg12.view arg13.view X10 X11 X12 X13) (f P A)
    (hA : A = pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 X6 X7 X10 X11 X12 X13 k0_t5_loop.trips ++ P) :
    Scored x1 x2 x3 1 x4 x5 arg15.view (arg15.view.writes (Elt Ideal) f A) :=
  scores x1 x2 x3 x4 x5 1 arg10.view arg11.view arg12.view arg13.view (by decide) arg6.view arg7.view arg15.view X6 X7 h6 h7 hR
    (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 X6 X7 X10 X11 X12 X13) word1 (fun o n u l r hr => word1_at o n u l r hr)
    k0_off32 k0_off33 k0_off34 k0_off35 k0_off36 k0_off37 k0_off32_inb k0_off33_inb k0_off34_inb k0_off35_inb k0_off36_inb k0_off37_inb
    k0_off32_eq k0_off33_eq k0_off34_eq k0_off35_eq k0_off36_eq k0_off37_eq inb_S128x128_S64x128_0_0 inb_S128x128_S64x128_64_0
    (fun k => by
      rw [pb_k0_t5_succ, ← tile1]
      unfold tripL_k0_t5 trip_k0_t5
      rfl) f P A hA

include hrow in
theorem scatters1 (c0 c1 : BitVec 32) (hw) (hx2 : ∀ k : Fin 2304, (arg2.view.read (Elt Ideal) X2 (ix4 0 0 1 k)).toNat = (row 1 k).val)
    (h15 : Scored x1 x2 x3 1 x4 x5 arg15.view X15) (f P A)
    (hA : A = pb_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 c0 c1 X2 X15 hw k0_t6_loop.trips ++ P)
    (hf : Placed x1 x2 x3 x4 x5 arg14.view row (arg14.view.writes (Elt Ideal) f P) 1) :
    Placed x1 x2 x3 x4 x5 arg14.view row (arg14.view.writes (Elt Ideal) f A) 2 :=
  scatters x1 x2 x3 x4 x5 1 (by decide) arg14.view arg15.view row hrow h15
    (pb_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 c0 c1 X2 X15 hw)
    k0_off38 (fun k => k0_off40 (trip_k0_t6.sl.r (F := Ideal) arg2 X2 k)) k0_off38_inb (fun k => hw k.val k.isLt) k0_off38_eq
    (fun k => by
      have e : trip_k0_t6.sl.r (F := Ideal) arg2 X2 k = arg2.view.read (Elt Ideal) X2 (ix4 0 0 1 (Fin.cast (by decide) k)) :=
        (congrArg _ first_eq).trans (readAt4 arg2.view X2 (k0_off39_inb k) (k0_off39_eq k) 0 0 0 0 0 0 1 (Fin.cast (by decide) k) rfl rfl rfl rfl)
      rw [e]
      unfold k0_off40
      simp only [Scalar.indexCast]
      rw [← hx2]
      simp) rfl
    (fun k => by
      rw [pb_k0_t6_succ]
      unfold tripL_k0_t6 trip_k0_t6
      rfl) f P A hA hf

theorem tile2 (k : Fin k0_t8_loop.trips) : trip_k0_t8.sl.v165 (F := Ideal) arg6 arg7 arg10 arg11 arg12 arg13 k0_pay119 k0_pay120 X6 X7 X10 X11 X12 X13 k
    = tileOut (arg11.view.readAt (Elt Ideal) (Rect.unit (s := S2304x160) (k0_off52 k) S128x160.size (k0_off52_inb k)).toLoadRect X11)
      (arg10.view.readAt (Elt Ideal) (Rect.unit (s := S160x2432) (k0_off53 k) S160x256.size (k0_off53_inb k)).toLoadRect X10)
      (arg12.view.readAt (Elt Ideal) (Rect.unit (s := S176x2432) (k0_off56 k) S176x256.size (k0_off56_inb k)).toLoadRect X12)
      (arg13.view.readAt (Elt Ideal) (Rect.unit (s := S8x2432) (k0_off54 k) S2x128.size (k0_off54_inb k)).toLoadRect X13)
      (arg13.view.readAt (Elt Ideal) (Rect.unit (s := S8x2432) (k0_off55 k) S2x128.size (k0_off55_inb k)).toLoadRect X13)
      (arg6.view.readAt (Elt Ideal) (Rect.unit (s := S128x128) ![0, 0] S64x128.size inb_S128x128_S64x128_0_0).toLoadRect X6)
      (arg6.view.readAt (Elt Ideal) (Rect.unit (s := S128x128) ![64, 0] S64x128.size inb_S128x128_S64x128_64_0).toLoadRect X6)
      (arg7.view.readAt (Elt Ideal) (Rect.unit (s := S128x128) ![0, 0] S64x128.size inb_S128x128_S64x128_0_0).toLoadRect X7)
      (arg7.view.readAt (Elt Ideal) (Rect.unit (s := S128x128) ![64, 0] S64x128.size inb_S128x128_S64x128_64_0).toLoadRect X7) := rfl

include h6 h7 in
theorem scores2 (c0 c1 : BitVec 32) (hR : Ready x1 x2 x3 2 arg10.view arg11.view arg12.view arg13.view X10 X11 X12 X13) (f P A)
    (hA : A = pb_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 c0 c1 X6 X7 X10 X11 X12 X13 k0_t8_loop.trips ++ P) :
    Scored x1 x2 x3 2 x4 x5 arg15.view (arg15.view.writes (Elt Ideal) f A) :=
  scores x1 x2 x3 x4 x5 2 arg10.view arg11.view arg12.view arg13.view (by decide) arg6.view arg7.view arg15.view X6 X7 h6 h7 hR
    (pb_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 c0 c1 X6 X7 X10 X11 X12 X13) word2 (fun o n u l r hr => word2_at o n u l r hr)
    k0_off52 k0_off53 k0_off54 k0_off55 k0_off56 k0_off57 k0_off52_inb k0_off53_inb k0_off54_inb k0_off55_inb k0_off56_inb k0_off57_inb
    k0_off52_eq k0_off53_eq k0_off54_eq k0_off55_eq k0_off56_eq k0_off57_eq inb_S128x128_S64x128_0_0 inb_S128x128_S64x128_64_0
    (fun k => by
      rw [pb_k0_t8_succ, ← tile2]
      unfold tripL_k0_t8 trip_k0_t8
      rfl) f P A hA

include hrow in
theorem scatters2 (c0 c1 : BitVec 32) (hw) (hx2 : ∀ k : Fin 2304, (arg2.view.read (Elt Ideal) X2 (ix4 0 0 2 k)).toNat = (row 2 k).val)
    (h15 : Scored x1 x2 x3 2 x4 x5 arg15.view X15) (f P A)
    (hA : A = pb_k0_t9 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 c0 c1 X2 X15 hw k0_t9_loop.trips ++ P)
    (hf : Placed x1 x2 x3 x4 x5 arg14.view row (arg14.view.writes (Elt Ideal) f P) 2) :
    Placed x1 x2 x3 x4 x5 arg14.view row (arg14.view.writes (Elt Ideal) f A) 3 :=
  scatters x1 x2 x3 x4 x5 2 (by decide) arg14.view arg15.view row hrow h15
    (pb_k0_t9 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 c0 c1 X2 X15 hw)
    k0_off58 (fun k => k0_off60 (trip_k0_t9.sl.r (F := Ideal) arg2 X2 k)) k0_off58_inb (fun k => hw k.val k.isLt) k0_off58_eq
    (fun k => by
      have e : trip_k0_t9.sl.r (F := Ideal) arg2 X2 k = arg2.view.read (Elt Ideal) X2 (ix4 0 0 2 (Fin.cast (by decide) k)) :=
        (congrArg _ first_eq).trans (readAt4 arg2.view X2 (k0_off59_inb k) (k0_off59_eq k) 0 0 0 0 0 0 2 (Fin.cast (by decide) k) rfl rfl rfl rfl)
      rw [e]
      unfold k0_off60
      simp only [Scalar.indexCast]
      rw [← hx2]
      simp) rfl
    (fun k => by
      rw [pb_k0_t9_succ]
      unfold tripL_k0_t9 trip_k0_t9
      rfl) f P A hA hf

theorem tile3 (k : Fin k0_t11_loop.trips) : trip_k0_t11.sl.v165 (F := Ideal) arg6 arg7 arg10 arg11 arg12 arg13 k0_pay119 k0_pay120 X6 X7 X10 X11 X12 X13 k
    = tileOut (arg11.view.readAt (Elt Ideal) (Rect.unit (s := S2304x160) (k0_off72 k) S128x160.size (k0_off72_inb k)).toLoadRect X11)
      (arg10.view.readAt (Elt Ideal) (Rect.unit (s := S160x2432) (k0_off73 k) S160x256.size (k0_off73_inb k)).toLoadRect X10)
      (arg12.view.readAt (Elt Ideal) (Rect.unit (s := S176x2432) (k0_off76 k) S176x256.size (k0_off76_inb k)).toLoadRect X12)
      (arg13.view.readAt (Elt Ideal) (Rect.unit (s := S8x2432) (k0_off74 k) S2x128.size (k0_off74_inb k)).toLoadRect X13)
      (arg13.view.readAt (Elt Ideal) (Rect.unit (s := S8x2432) (k0_off75 k) S2x128.size (k0_off75_inb k)).toLoadRect X13)
      (arg6.view.readAt (Elt Ideal) (Rect.unit (s := S128x128) ![0, 0] S64x128.size inb_S128x128_S64x128_0_0).toLoadRect X6)
      (arg6.view.readAt (Elt Ideal) (Rect.unit (s := S128x128) ![64, 0] S64x128.size inb_S128x128_S64x128_64_0).toLoadRect X6)
      (arg7.view.readAt (Elt Ideal) (Rect.unit (s := S128x128) ![0, 0] S64x128.size inb_S128x128_S64x128_0_0).toLoadRect X7)
      (arg7.view.readAt (Elt Ideal) (Rect.unit (s := S128x128) ![64, 0] S64x128.size inb_S128x128_S64x128_64_0).toLoadRect X7) := rfl

include h6 h7 in
theorem scores3 (hR : Ready x1 x2 x3 3 arg10.view arg11.view arg12.view arg13.view X10 X11 X12 X13) (f P A)
    (hA : A = pb_k0_t11 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 X6 X7 X10 X11 X12 X13 k0_t11_loop.trips ++ P) :
    Scored x1 x2 x3 3 x4 x5 arg15.view (arg15.view.writes (Elt Ideal) f A) :=
  scores x1 x2 x3 x4 x5 3 arg10.view arg11.view arg12.view arg13.view (by decide) arg6.view arg7.view arg15.view X6 X7 h6 h7 hR
    (pb_k0_t11 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 X6 X7 X10 X11 X12 X13) word3 (fun o n u l r hr => word3_at o n u l r hr)
    k0_off72 k0_off73 k0_off74 k0_off75 k0_off76 k0_off77 k0_off72_inb k0_off73_inb k0_off74_inb k0_off75_inb k0_off76_inb k0_off77_inb
    k0_off72_eq k0_off73_eq k0_off74_eq k0_off75_eq k0_off76_eq k0_off77_eq inb_S128x128_S64x128_0_0 inb_S128x128_S64x128_64_0
    (fun k => by
      rw [pb_k0_t11_succ, ← tile3]
      unfold tripL_k0_t11 trip_k0_t11
      rfl) f P A hA

include hrow in
theorem scatters3 (hw) (hx2 : ∀ k : Fin 2304, (arg2.view.read (Elt Ideal) X2 (ix4 0 0 3 k)).toNat = (row 3 k).val)
    (h15 : Scored x1 x2 x3 3 x4 x5 arg15.view X15) (f P A)
    (hA : A = pb_k0_t12 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 X2 X15 hw k0_t12_loop.trips ++ P)
    (hf : Placed x1 x2 x3 x4 x5 arg14.view row (arg14.view.writes (Elt Ideal) f P) 3) :
    Placed x1 x2 x3 x4 x5 arg14.view row (arg14.view.writes (Elt Ideal) f A) 4 :=
  scatters x1 x2 x3 x4 x5 3 (by decide) arg14.view arg15.view row hrow h15
    (pb_k0_t12 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay119 k0_pay120 k0_pay121 X2 X15 hw)
    k0_off78 (fun k => k0_off80 (trip_k0_t12.sl.r (F := Ideal) arg2 X2 k)) k0_off78_inb (fun k => hw k.val k.isLt) k0_off78_eq
    (fun k => by
      have e : trip_k0_t12.sl.r (F := Ideal) arg2 X2 k = arg2.view.read (Elt Ideal) X2 (ix4 0 0 3 (Fin.cast (by decide) k)) :=
        (congrArg _ first_eq).trans (readAt4 arg2.view X2 (k0_off79_inb k) (k0_off79_eq k) 0 0 0 0 0 0 3 (Fin.cast (by decide) k) rfl rfl rfl rfl)
      rw [e]
      unfold k0_off80
      simp only [Scalar.indexCast]
      rw [← hx2]
      simp) rfl
    (fun k => by
      rw [pb_k0_t12_succ]
      unfold tripL_k0_t12 trip_k0_t12
      rfl) f P A hA hf

end Heads
end Cert.LastKernelIdeal.Head
-- ==== Proof.LastMerge.lean ====
/- The merge of the four heads' rows: head `g`'s channels lie from column `160 g`, so a 128-lane block of the result holds
   the end of one head's words and the start of the next one's. -/
module
public import proofs.«01_k».proof.Proof.LastHeads
@[expose] public section
set_option maxRecDepth 16384
noncomputable section
namespace Cert.LastKernelIdeal.Head
open Cert.LastKernelIdeal Cert.LastKernelIdeal.Gen Cert.LastKernelIdeal.Ops Cert.LastKernelIdeal.Fill
open Idealize.ShloMosaic Idealize.ShloMosaic.TcCoe

/-- One half of the words of eight rows. -/
def half (p : Fin 2) (x : Vec Ideal S1x8x2x128 .bf16) : FVec Ideal S8x128 .bf16 :=
  shapeCast S8x128 (shapeCast S1x8x128 (rowsOfParity p S1x8x1x128 x bitcasts_S1x8x2x128_w16_S1x8x1x128_w32) shapeCasts_S1x8x1x128_S1x8x128) shapeCasts_S1x8x128_S8x128

theorem half_at (p : Fin 2) (x : Vec Ideal S1x8x2x128 .bf16) (q : Fin 8) (l : Fin 128) : half p x (ix2 q l) = x (ix4 0 q p l) := by
  fin_cases p <;> pointwise [half] <;> rfl

/-- The first `n` lanes of one, the rest of the other. -/
def upTo (n : BitVec 32) (a b : FVec Ideal S8x128 .bf16) : FVec Ideal S8x128 .bf16 :=
  select (cmpi .slt (iota .tc S8x128 32 [1] iota_S8x128_d1_w32) (broadcast S8x128 n)) a b

theorem upTo_at (n : ℕ) (hn : n < 129) (a b : FVec Ideal S8x128 .bf16) (q : Fin 8) (l : Fin 128) :
    upTo (BitVec.ofNat 32 n) a b (ix2 q l) = if l.val < n then a (ix2 q l) else b (ix2 q l) := by
  have : (BitVec.ofNat 32 l.val).slt (BitVec.ofNat 32 n) = decide (l.val < n) := by
    rw [BitVec.slt_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    exact decide_eq_decide.mpr (by omega)
  pointwise [upTo]
  by_cases h : l.val < n <;> simp [Scalar.select, IntOp.cmpi, this, h]

/-- Sixteen rows, of eight even and eight odd ones. -/
def rows16 (a b : FVec Ideal S8x128 .bf16) : FVec Ideal S1x16x128 .bf16 :=
  shapeCast S1x16x128 (interleaveRows S16x128 a b bitcasts_S16x128_w16_S8x128_w32) shapeCasts_S16x128_S1x16x128

theorem rows16_at (a b : FVec Ideal S8x128 .bf16) (n : Fin 16) (l : Fin 128) :
    rows16 a b (ix3 0 n l) = if n.val % 2 = 0 then a (ix2 ⟨n.val / 2, by omega⟩ l) else b (ix2 ⟨n.val / 2, by omega⟩ l) := by
  pointwise [rows16]

section Stores
variable {sig : RefSig} {κ : Kind} {sp : Space} {n : ℕ} (hn : n = 144) (v9 : View sig κ sp S1x2304x640 .bf16) (f : v9.ty.Contents (Elt Ideal))
  (L : ℕ → List (View.Piece (Elt Ideal) S1x2304x640 .bf16))
  (o0 o1 o2 o3 o4 : Fin n → Fin 3 → ℕ)
  (i0 : ∀ k b, o0 k b + S1x16x128.size b ≤ S1x2304x640.size b) (i1 : ∀ k b, o1 k b + S1x16x128.size b ≤ S1x2304x640.size b)
  (i2 : ∀ k b, o2 k b + S1x16x128.size b ≤ S1x2304x640.size b) (i3 : ∀ k b, o3 k b + S1x16x128.size b ≤ S1x2304x640.size b)
  (i4 : ∀ k b, o4 k b + S1x16x128.size b ≤ S1x2304x640.size b)
  (e0 : ∀ k, o0 k = ![0, 16 * k.val, 0]) (e1 : ∀ k, o1 k = ![0, 16 * k.val, 128]) (e2 : ∀ k, o2 k = ![0, 16 * k.val, 256])
  (e3 : ∀ k, o3 k = ![0, 16 * k.val, 384]) (e4 : ∀ k, o4 k = ![0, 16 * k.val, 512])
  (w0 w1 w2 w3 w4 : Fin n → Vec Ideal S1x16x128 .bf16)
  (hL : ∀ k : Fin n, L (k.val + 1) = [⟨Rect.unit (o4 k) S1x16x128.size (i4 k), w4 k⟩, ⟨Rect.unit (o3 k) S1x16x128.size (i3 k), w3 k⟩,
    ⟨Rect.unit (o2 k) S1x16x128.size (i2 k), w2 k⟩, ⟨Rect.unit (o1 k) S1x16x128.size (i1 k), w1 k⟩, ⟨Rect.unit (o0 k) S1x16x128.size (i0 k), w0 k⟩] ++ L k.val)

include e0 e1 e2 e3 e4 hL hn in
theorem blocks_read (G : EReal) (p : Fin 2304) (j : Fin 5) (l : Fin 128) (c : Fin 640) (hc : c.val = 128 * j.val + l.val)
    (hG : (![w0, w1, w2, w3, w4] j) ⟨p.val / 16, by omega⟩ (ix3 0 ⟨p.val % 16, by omega⟩ l) = G) :
    v9.read (Elt Ideal) (v9.writes (Elt Ideal) f (L n)) (ix3 0 p c) = G := by
  subst hn
  refine read_loop v9 f L 144 _ (fun k => k = p.val / 16) G ?_ ?_ ⟨_, by omega, rfl⟩
  · rintro k hk rfl
    rw [hL ⟨_, hk⟩]
    have skip : ∀ (o : Fin 144 → Fin 3 → ℕ) (i) (jj : ℕ) (e : o ⟨p.val / 16, hk⟩ = ![0, 16 * (p.val / 16), 128 * jj]) (w : Vec Ideal S1x16x128 .bf16) (P), j.val < jj →
        v9.read (Elt Ideal) (v9.writes (Elt Ideal) f (⟨Rect.unit (o ⟨p.val / 16, hk⟩) S1x16x128.size i, w⟩ :: P)) (ix3 0 p c) = v9.read (Elt Ideal) (v9.writes (Elt Ideal) f P) (ix3 0 p c) := by
      intro o i jj e w P hj
      exact View.read_writes_cons_unit_of_not_mem v9 f i w P (ix3 0 p c) e (2 : Fin 3) (Or.inl (by show c.val < 128 * jj; omega))
    have take : ∀ (o : Fin 144 → Fin 3 → ℕ) (i) (e : o ⟨p.val / 16, hk⟩ = ![0, 16 * (p.val / 16), 128 * j.val]) (w : Vec Ideal S1x16x128 .bf16) (P),
        v9.read (Elt Ideal) (v9.writes (Elt Ideal) f (⟨Rect.unit (o ⟨p.val / 16, hk⟩) S1x16x128.size i, w⟩ :: P)) (ix3 0 p c) = w (ix3 0 ⟨p.val % 16, by omega⟩ l) := by
      intro o i e w P
      refine View.read_writes_cons_unit_of_mem v9 f i w P (ix3 0 p c) (ix3 0 ⟨p.val % 16, by omega⟩ l) e fun b => ?_
      match b with
      | ⟨0, _⟩ => rfl
      | ⟨1, _⟩ => show p.val = 16 * (p.val / 16) + p.val % 16; omega
      | ⟨2, _⟩ => exact hc
    rw [← hG]
    match j, skip, take with
    | 0, skip, take => exact (skip o4 (i4 _) 4 (e4 _) _ _ (by decide)).trans ((skip o3 (i3 _) 3 (e3 _) _ _ (by decide)).trans ((skip o2 (i2 _) 2 (e2 _) _ _ (by decide)).trans ((skip o1 (i1 _) 1 (e1 _) _ _ (by decide)).trans (take o0 (i0 _) (e0 _) _ _))))
    | 1, skip, take => exact (skip o4 (i4 _) 4 (e4 _) _ _ (by decide)).trans ((skip o3 (i3 _) 3 (e3 _) _ _ (by decide)).trans ((skip o2 (i2 _) 2 (e2 _) _ _ (by decide)).trans (take o1 (i1 _) (e1 _) _ _)))
    | 2, skip, take => exact (skip o4 (i4 _) 4 (e4 _) _ _ (by decide)).trans ((skip o3 (i3 _) 3 (e3 _) _ _ (by decide)).trans (take o2 (i2 _) (e2 _) _ _))
    | 3, skip, take => exact (skip o4 (i4 _) 4 (e4 _) _ _ (by decide)).trans (take o3 (i3 _) (e3 _) _ _)
    | 4, skip, take => exact take o4 (i4 _) (e4 _) _ _
  · intro k hk hne
    rw [hL ⟨k, hk⟩]
    have skip : ∀ (o : Fin 144 → Fin 3 → ℕ) (i) (jj : ℕ) (e : o ⟨k, hk⟩ = ![0, 16 * k, 128 * jj]) (w : Vec Ideal S1x16x128 .bf16) (P),
        v9.read (Elt Ideal) (v9.writes (Elt Ideal) f (⟨Rect.unit (o ⟨k, hk⟩) S1x16x128.size i, w⟩ :: P)) (ix3 0 p c) = v9.read (Elt Ideal) (v9.writes (Elt Ideal) f P) (ix3 0 p c) := by
      intro o i jj e w P
      exact View.read_writes_cons_unit_of_not_mem v9 f i w P (ix3 0 p c) e (1 : Fin 3) (by show p.val < 16 * k ∨ 16 * k + 16 ≤ p.val; omega)
    exact (skip o4 (i4 _) 4 (e4 _) _ _).trans ((skip o3 (i3 _) 3 (e3 _) _ _).trans ((skip o2 (i2 _) 2 (e2 _) _ _).trans ((skip o1 (i1 _) 1 (e1 _) _ _).trans (skip o0 (i0 _) 0 (e0 _) _ _))))

end Stores

section Loads
variable {sig : RefSig} {κ : Kind} {sp : Space} {n : ℕ} (v14 : View sig κ sp S4x2304x2x128 .bf16) (X : v14.ty.Contents (Elt Ideal))

/-- A load of every other row. -/
theorem strided_at {o : Fin 4 → ℕ} (i) {a b : ℕ} (e : o = ![a, b, 0, 0]) (q : Fin 8) (u : Fin 2) (l : Fin 128) (g : Fin 4) (p : Fin 2304) (hg : g.val = a) (hp : p.val = b + 2 * q.val) :
    v14.readAt (Elt Ideal) (⟨o, S1x8x2x128.size, ![1, 2, 1, 1], i⟩ : LoadRect S4x2304x2x128) X (ix4 0 q u l) = v14.read (Elt Ideal) X (ix4 g p u l) := by
  subst e
  rw [View.readAt_apply]
  congr 1
  funext c
  apply Fin.ext
  match c with
  | ⟨0, _⟩ => show a + 1 * 0 = g.val; omega
  | ⟨1, _⟩ => show b + 2 * q.val = p.val; omega
  | ⟨2, _⟩ => show 0 + 1 * u.val = u.val; omega
  | ⟨3, _⟩ => show 0 + 1 * l.val = l.val; omega

end Loads

section Merge
variable (𝒱 : Variants) (c : Dev nD) (bd : Option 𝒱.V) (i : grid0.Coords) (arg2 : Memref sig .tc .smem S1x1x4x2304 .i32) (harg2 : arg2.IsWhole) (arg3 : Memref sig .tc .vmem S1x4x5x144x128 .i32) (harg3 : arg3.IsWhole) (arg4 : Memref sig .tc .vmem S1x4x5x144x128 .i32) (harg4 : arg4.IsWhole) (arg5 : Memref sig .tc .vmem S1x4x144x128 .f32) (harg5 : arg5.IsWhole) (arg6 : Memref sig .tc .vmem S128x128 .f32) (harg6 : arg6.IsWhole) (arg7 : Memref sig .tc .vmem S128x128 .f32) (harg7 : arg7.IsWhole) (arg8 : Memref sig .tc .hbm S24x2304x1920 .bf16) (harg8 : arg8.IsWhole) (arg9 : Memref sig .tc .vmem S1x2304x640 .bf16) (harg9 : arg9.IsWhole) (arg10 : Memref sig .tc .vmem S160x2432 .bf16) (harg10 : arg10.IsWhole) (arg11 : Memref sig .tc .vmem S2304x160 .bf16) (harg11 : arg11.IsWhole) (arg12 : Memref sig .tc .vmem S176x2432 .bf16) (harg12 : arg12.IsWhole) (arg13 : Memref sig .tc .vmem S8x2432 .f32) (harg13 : arg13.IsWhole) (arg14 : Memref sig .tc .vmem S4x2304x2x128 .bf16) (harg14 : arg14.IsWhole) (arg15 : Memref sig .tc .vmem S2304x2x128 .bf16) (harg15 : arg15.IsWhole)
  (X14 : BufTy.Contents (Elt Ideal) arg14.view.ty)

/-- The rows of the even and of the odd positions of a trip's head. -/
def evenOdd (g : Fin 4) (k : Fin k0_t13_loop.trips) : Vec Ideal S1x8x2x128 .bf16 × Vec Ideal S1x8x2x128 .bf16 :=
  ![(arg14.view.readAt (Elt Ideal) ⟨k0_off81 k, S1x8x2x128.size, ![1, 2, 1, 1], k0_off81_inb k⟩ X14, arg14.view.readAt (Elt Ideal) ⟨k0_off85 k, S1x8x2x128.size, ![1, 2, 1, 1], k0_off85_inb k⟩ X14),
    (arg14.view.readAt (Elt Ideal) ⟨k0_off82 k, S1x8x2x128.size, ![1, 2, 1, 1], k0_off82_inb k⟩ X14, arg14.view.readAt (Elt Ideal) ⟨k0_off86 k, S1x8x2x128.size, ![1, 2, 1, 1], k0_off86_inb k⟩ X14),
    (arg14.view.readAt (Elt Ideal) ⟨k0_off83 k, S1x8x2x128.size, ![1, 2, 1, 1], k0_off83_inb k⟩ X14, arg14.view.readAt (Elt Ideal) ⟨k0_off87 k, S1x8x2x128.size, ![1, 2, 1, 1], k0_off87_inb k⟩ X14),
    (arg14.view.readAt (Elt Ideal) ⟨k0_off84 k, S1x8x2x128.size, ![1, 2, 1, 1], k0_off84_inb k⟩ X14, arg14.view.readAt (Elt Ideal) ⟨k0_off88 k, S1x8x2x128.size, ![1, 2, 1, 1], k0_off88_inb k⟩ X14)] g

theorem even_at (g : Fin 4) (k : Fin k0_t13_loop.trips) (q : Fin 8) (u : Fin 2) (l : Fin 128) (p : Fin 2304) (hp : p.val = 16 * k.val + 2 * q.val) :
    (evenOdd arg14 X14 g k).1 (ix4 0 q u l) = arg14.view.read (Elt Ideal) X14 (ix4 g p u l) := by
  match g with
  | 0 => exact strided_at arg14.view X14 _ (k0_off81_eq k) q u l 0 p rfl hp
  | 1 => exact strided_at arg14.view X14 _ (k0_off82_eq k) q u l 1 p rfl hp
  | 2 => exact strided_at arg14.view X14 _ (k0_off83_eq k) q u l 2 p rfl hp
  | 3 => exact strided_at arg14.view X14 _ (k0_off84_eq k) q u l 3 p rfl hp

theorem odd_at (g : Fin 4) (k : Fin k0_t13_loop.trips) (q : Fin 8) (u : Fin 2) (l : Fin 128) (p : Fin 2304) (hp : p.val = 16 * k.val + 1 + 2 * q.val) :
    (evenOdd arg14 X14 g k).2 (ix4 0 q u l) = arg14.view.read (Elt Ideal) X14 (ix4 g p u l) := by
  match g with
  | 0 => exact strided_at arg14.view X14 _ (k0_off85_eq k) q u l 0 p rfl hp
  | 1 => exact strided_at arg14.view X14 _ (k0_off86_eq k) q u l 1 p rfl hp
  | 2 => exact strided_at arg14.view X14 _ (k0_off87_eq k) q u l 2 p rfl hp
  | 3 => exact strided_at arg14.view X14 _ (k0_off88_eq k) q u l 3 p rfl hp

/-- A block's sixteen rows: the end of head `g`'s words and the start of head `g'`'s. -/
def joined (n : BitVec 32) (g g' : Fin 4) (k : Fin k0_t13_loop.trips) : FVec Ideal S1x16x128 .bf16 :=
  rows16 (upTo n (half 1 (evenOdd arg14 X14 g k).1) (half 0 (evenOdd arg14 X14 g' k).1)) (upTo n (half 1 (evenOdd arg14 X14 g k).2) (half 0 (evenOdd arg14 X14 g' k).2))

def only (u : Fin 2) (g : Fin 4) (k : Fin k0_t13_loop.trips) : FVec Ideal S1x16x128 .bf16 :=
  rows16 (half u (evenOdd arg14 X14 g k).1) (half u (evenOdd arg14 X14 g k).2)

theorem only_at (u : Fin 2) (g : Fin 4) (k : Fin k0_t13_loop.trips) (r : Fin 16) (l : Fin 128) (p : Fin 2304) (hp : p.val = 16 * k.val + r.val) :
    only arg14 X14 u g k (ix3 0 r l) = arg14.view.read (Elt Ideal) X14 (ix4 g p u l) := by
  rw [only, rows16_at, half_at, half_at]
  split
  · exact even_at arg14 X14 g k _ u l p (by simp only; omega)
  · exact odd_at arg14 X14 g k _ u l p (by simp only; omega)

theorem joined_at (n : ℕ) (hn : n < 129) (g g' : Fin 4) (k : Fin k0_t13_loop.trips) (r : Fin 16) (l : Fin 128) (p : Fin 2304) (hp : p.val = 16 * k.val + r.val) :
    joined arg14 X14 (BitVec.ofNat 32 n) g g' k (ix3 0 r l) = if l.val < n then arg14.view.read (Elt Ideal) X14 (ix4 g p 1 l) else arg14.view.read (Elt Ideal) X14 (ix4 g' p 0 l) := by
  rw [joined, rows16_at, upTo_at n hn, upTo_at n hn, half_at, half_at, half_at, half_at]
  split <;> split
  · exact even_at arg14 X14 g k _ 1 l p (by simp only; omega)
  · exact even_at arg14 X14 g' k _ 0 l p (by simp only; omega)
  · exact odd_at arg14 X14 g k _ 1 l p (by simp only; omega)
  · exact odd_at arg14 X14 g' k _ 0 l p (by simp only; omega)

theorem t13_trip (k : Fin k0_t13_loop.trips) : pb_k0_t13 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 0#32 1#32 X14 (k.val + 1)
    = [⟨Rect.unit (k0_off93 k) S1x16x128.size (k0_off93_inb k), only arg14 X14 1 3 k⟩, ⟨Rect.unit (k0_off92 k) S1x16x128.size (k0_off92_inb k), joined arg14 X14 96#32 2 3 k⟩,
      ⟨Rect.unit (k0_off91 k) S1x16x128.size (k0_off91_inb k), joined arg14 X14 64#32 1 2 k⟩, ⟨Rect.unit (k0_off90 k) S1x16x128.size (k0_off90_inb k), joined arg14 X14 32#32 0 1 k⟩,
      ⟨Rect.unit (k0_off89 k) S1x16x128.size (k0_off89_inb k), only arg14 X14 0 0 k⟩] ++ pb_k0_t13 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 0#32 1#32 X14 k.val := by
  rw [pb_k0_t13_succ]
  unfold tripL_k0_t13 trip_k0_t13
  rfl

/-- The result window after the merge: channel `d` of head `g` at position `p` is word half `u`, lane `l` of the head's row `p`. -/
theorem merged (f) (g : Fin 4) (p : Fin 2304) (d : Fin 160) (u : Fin 2) (l : Fin 128) (h : 128 * u.val + l.val = 32 * g.val + d.val) (c' : Fin 640) (hc : c'.val = 160 * g.val + d.val) :
    arg9.view.read (Elt Ideal) (arg9.view.writes (Elt Ideal) f (pb_k0_t13 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 0#32 1#32 X14 k0_t13_loop.trips)) (ix3 0 p c')
      = arg14.view.read (Elt Ideal) X14 (ix4 g p u l) := by
  have hu := u.isLt
  have hg := g.isLt
  refine blocks_read (by decide) arg9.view f _ k0_off89 k0_off90 k0_off91 k0_off92 k0_off93 k0_off89_inb k0_off90_inb k0_off91_inb k0_off92_inb k0_off93_inb
    k0_off89_eq k0_off90_eq k0_off91_eq k0_off92_eq k0_off93_eq _ _ _ _ _ (t13_trip 𝒱 c bd i arg2 harg2 arg3 harg3 arg4 harg4 arg5 harg5 arg6 harg6 arg7 harg7 arg8 harg8 arg9 harg9 arg10 harg10 arg11 harg11 arg12 harg12 arg13 harg13 arg14 harg14 arg15 harg15 X14) _ p ⟨g.val + u.val, by omega⟩ l c' (by simp only; omega) ?_
  have hp : p.val = 16 * (p.val / 16) + p.val % 16 := by omega
  match g, u, h with
  | 0, 0, h => exact only_at arg14 X14 0 0 _ _ l p hp
  | 0, 1, h => exact (joined_at arg14 X14 32 (by omega) 0 1 _ _ l p hp).trans (if_pos (by simp at h; omega))
  | 1, 0, h => exact (joined_at arg14 X14 32 (by omega) 0 1 _ _ l p hp).trans (if_neg (by simp at h; omega))
  | 1, 1, h => exact (joined_at arg14 X14 64 (by omega) 1 2 _ _ l p hp).trans (if_pos (by simp at h; omega))
  | 2, 0, h => exact (joined_at arg14 X14 64 (by omega) 1 2 _ _ l p hp).trans (if_neg (by simp at h; omega))
  | 2, 1, h => exact (joined_at arg14 X14 96 (by omega) 2 3 _ _ l p hp).trans (if_pos (by simp at h; omega))
  | 3, 0, h => exact (joined_at arg14 X14 96 (by omega) 2 3 _ _ l p hp).trans (if_neg (by simp at h; omega))
  | 3, 1, h => exact only_at arg14 X14 1 3 _ _ l p hp

end Merge
end Cert.LastKernelIdeal.Head
-- ==== Proof.LastKernelIdealValue.lean ====
/- The value of `LastKernelIdeal`'s body at one point: the window's block of the result, each head's results at the rows the
   words name. -/
module
public import proofs.«01_k».proof.Proof.LastMerge
public import proofs.«01_k».proof.Proof.LastKernelIdealRun
@[expose] public section
set_option maxRecDepth 16384
noncomputable section
namespace Cert.LastKernelIdeal.Value
open Cert.LastKernelIdeal Cert.LastKernelIdeal.Gen Cert.LastKernelIdeal.Run Cert.LastKernelIdeal.Head
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The column of channel `d` of a window's head `g`. -/
def column (g : Fin 4) (d : Fin 160) : Fin 640 := ⟨160 * g.val + d.val, by omega⟩

/-- A window is determined by each head's rows, when every row is named. -/
theorem eq_of_rows (row : Fin 4 → Fin 2304 → Fin 2304) (hrow : ∀ g, Function.Injective (row g))
    (x1 x2 : Vec Ideal S1x4x5x144x128 .i32) (x3 : Vec Ideal S1x4x144x128 .f32) (x4 x5 : Vec Ideal S128x128 .f32)
    (out : Vec Ideal S1x2304x640 .bf16) (hout : ∀ (g : Fin 4) (p : Fin 2304) (d : Fin 160), out (ix3 0 (row g p) (column g d)) = attend x1 x2 x3 x4 x5 g d p)
    (y : Vec Ideal S1x2304x640 .bf16) (hy : ∀ (g : Fin 4) (p : Fin 2304) (d : Fin 160) (u : Fin 2) (l : Fin 128), 128 * u.val + l.val = 32 * g.val + d.val →
      y (ix3 0 (row g p) (column g d)) = attend x1 x2 x3 x4 x5 g d p) : y = out := by
  funext i
  have h0 : (i 0).val < 1 := (i 0).isLt
  have h2 : (i 2).val < 640 := (i 2).isLt
  obtain ⟨p, hp⟩ := (Finite.injective_iff_surjective.mp (hrow ⟨(i 2).val / 160, by omega⟩)) (i 1)
  have hi : i = ix3 0 (row ⟨(i 2).val / 160, by omega⟩ p) (column ⟨(i 2).val / 160, by omega⟩ ⟨(i 2).val % 160, by omega⟩) := by
    rw [hp]
    funext a
    match a with
    | ⟨0, _⟩ => exact Fin.ext (by show (i 0).val = 0; omega)
    | ⟨1, _⟩ => rfl
    | ⟨2, _⟩ => exact Fin.ext (by show (i 2).val = 160 * ((i 2).val / 160) + (i 2).val % 160; omega)
  rw [hi, hout]
  exact hy _ p _ ⟨(32 * ((i 2).val / 160) + (i 2).val % 160) / 128, by omega⟩ ⟨(32 * ((i 2).val / 160) + (i 2).val % 160) % 128, by omega⟩ (by simp only; omega)

set_option maxHeartbeats 4000000 in
/-- The body's triple, the result window handed back at the heads' results. -/
theorem kernelRun (c : Dev nD) (i : grid0.Coords) (arg2 : Memref sig .tc .smem S1x1x4x2304 .i32) (harg2 : arg2.IsWhole) (arg3 : Memref sig .tc .vmem S1x4x5x144x128 .i32) (harg3 : arg3.IsWhole) (arg4 : Memref sig .tc .vmem S1x4x5x144x128 .i32) (harg4 : arg4.IsWhole) (arg5 : Memref sig .tc .vmem S1x4x144x128 .f32) (harg5 : arg5.IsWhole) (arg6 : Memref sig .tc .vmem S128x128 .f32) (harg6 : arg6.IsWhole) (arg7 : Memref sig .tc .vmem S128x128 .f32) (harg7 : arg7.IsWhole) (arg9 : Memref sig .tc .vmem S1x2304x640 .bf16) (harg9 : arg9.IsWhole) (arg10 : Memref sig .tc .vmem S160x2432 .bf16) (harg10 : arg10.IsWhole) (arg11 : Memref sig .tc .vmem S2304x160 .bf16) (harg11 : arg11.IsWhole) (arg12 : Memref sig .tc .vmem S176x2432 .bf16) (harg12 : arg12.IsWhole) (arg13 : Memref sig .tc .vmem S8x2432 .f32) (harg13 : arg13.IsWhole) (arg14 : Memref sig .tc .vmem S4x2304x2x128 .bf16) (harg14 : arg14.IsWhole) (arg15 : Memref sig .tc .vmem S2304x2x128 .bf16) (harg15 : arg15.IsWhole)
    (x0 : Vec Ideal S1x1x4x2304 .i32) (x1 : Vec Ideal S1x4x5x144x128 .i32) (x2 : Vec Ideal S1x4x5x144x128 .i32) (x3 : Vec Ideal S1x4x144x128 .f32) (x4 : Vec Ideal S128x128 .f32) (x5 : Vec Ideal S128x128 .f32) (k0_hw1L : (∀ (kq : ℕ) (hkq : kq < k0_t3_loop.trips), k0_chk1 (arg2.view.readAt (Elt Ideal) (Rect.unit (s := S1x1x4x2304) (k0_off19 ⟨kq, hkq⟩) S1x1x1x1.size (k0_off19_inb ⟨kq, hkq⟩)).toLoadRect (harg2.unread x0) (Shape.Idx.first (numel1_S1x1x1x1.symm ▸ Nat.one_pos))))) (k0_hw2L : (∀ (kq : ℕ) (hkq : kq < k0_t6_loop.trips), k0_chk2 (arg2.view.readAt (Elt Ideal) (Rect.unit (s := S1x1x4x2304) (k0_off39 ⟨kq, hkq⟩) S1x1x1x1.size (k0_off39_inb ⟨kq, hkq⟩)).toLoadRect (harg2.unread x0) (Shape.Idx.first (numel1_S1x1x1x1.symm ▸ Nat.one_pos))))) (k0_hw3L : (∀ (kq : ℕ) (hkq : kq < k0_t9_loop.trips), k0_chk3 (arg2.view.readAt (Elt Ideal) (Rect.unit (s := S1x1x4x2304) (k0_off59 ⟨kq, hkq⟩) S1x1x1x1.size (k0_off59_inb ⟨kq, hkq⟩)).toLoadRect (harg2.unread x0) (Shape.Idx.first (numel1_S1x1x1x1.symm ▸ Nat.one_pos))))) (k0_hw4L : (∀ (kq : ℕ) (hkq : kq < k0_t12_loop.trips), k0_chk4 (arg2.view.readAt (Elt Ideal) (Rect.unit (s := S1x1x4x2304) (k0_off79 ⟨kq, hkq⟩) S1x1x1x1.size (k0_off79_inb ⟨kq, hkq⟩)).toLoadRect (harg2.unread x0) (Shape.Idx.first (numel1_S1x1x1x1.symm ▸ Nat.one_pos)))))
    (row : Fin 4 → Fin 2304 → Fin 2304) (hrow : ∀ g, Function.Injective (row g)) (hx0 : ∀ g k, (x0 (ix4 0 0 g k)).toNat = (row g k).val)
    (out : Vec Ideal S1x2304x640 .bf16) (hout : ∀ (g : Fin 4) (p : Fin 2304) (d : Fin 160), out (ix3 0 (row g p) (column g d)) = attend x1 x2 x3 x4 x5 g d p) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare out ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := Ideal)) Variants.none c none) E (cc0_attend i arg2 harg2 arg3 harg3 arg4 harg4 arg5 harg5 arg6 harg6 arg7 harg7 (Memref.whole main_arg4) (Memref.isWhole_whole _) arg9 harg9 arg10 harg10 arg11 harg11 arg12 harg12 arg13 harg13 arg14 harg14 arg15 harg15) K := by
    intro E K
    simp only [cc0_attend_eq_skeleton]; unfold cc0_attend_skel
    simp only [k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      have h2 : arg2.view.read (Elt Ideal) (harg2.unread x0) = x0 := harg2.read_unread _
      have h3 : arg3.view.read (Elt Ideal) (harg3.unread x1) = x1 := harg3.read_unread _
      have h4 : arg4.view.read (Elt Ideal) (harg4.unread x2) = x2 := harg4.read_unread _
      have h5 : arg5.view.read (Elt Ideal) (harg5.unread x3) = x3 := harg5.read_unread _
      have h6 : arg6.view.read (Elt Ideal) (harg6.unread x4) = x4 := harg6.read_unread _
      have h7 : arg7.view.read (Elt Ideal) (harg7.unread x5) = x5 := harg7.read_unread _
      refine eq_of_rows row hrow x1 x2 x3 x4 x5 out hout _ fun g p d u l h => ?_
      refine (merged _ _ _ _ _ _ _ _ _ _ _ _ _ _ _ _ _ _ _ _ _ _ _ _ _ _ _ _ _ _ _ _ _ _ g (row g p) d u l h (column g d) rfl).trans ?_
      refine (?_ : Placed x1 x2 x3 x4 x5 arg14.view row _ 4) g g.isLt p u l d h
      refine scatters3 _ _ _ _ _ _ _ _ _ _ _ _ _ _ _ _ _ _ _ _ _ _ _ _ _ _ _ _ _ _ _ _ x1 x2 x3 x4 x5 _ _ row hrow _ (fun k => (congrArg BitVec.toNat (congrFun h2 _)).trans (hx0 3 k)) ?_ _ _ _ rfl ?_
      · refine scores3 _ _ _ _ _ _ _ _ _ _ _ _ _ _ _ _ _ _ _ _ _ _ _ _ _ _ _ _ _ _ _ _ x1 x2 x3 x4 x5 _ _ h6 h7 _ _ _ _ ?_ _ _ _ rfl
        exact (loads3 _ _ _ _ _ _ _ _ _ _ _ _ _ _ _ _ _ _ _ _ _ _ _ _ _ _ _ _ _ _ _ _ x1 x2 x3 _ _ _ h3 h4 h5 _ _ _ _ _ _ _ _ _ _ _ _ rfl rfl rfl rfl _ _ _ _ _ _ _ _
        (fun d l => (congrFun (shapeCast_self _ _) (ix2 d l)).trans (readAt2 arg10.view _ _ rfl d l d (lastTile l) (Nat.zero_add _).symm rfl))
        (fun d l => (congrFun (shapeCast_self _ _) (ix2 d l)).trans (readAt2 arg12.view _ _ rfl d l d (lastTile l) (Nat.zero_add _).symm rfl))
        (fun l => (congrFun (shapeCast_self _ _) (ix2 0 l)).trans (readAt2 arg13.view _ _ rfl 0 l 0 (lastTile l) rfl rfl))
        (fun l => rfl))
      refine scatters2 _ _ _ _ _ _ _ _ _ _ _ _ _ _ _ _ _ _ _ _ _ _ _ _ _ _ _ _ _ _ _ _ x1 x2 x3 x4 x5 _ _ row hrow _ _ _ (fun k => (congrArg BitVec.toNat (congrFun h2 _)).trans (hx0 2 k)) ?_ _ _ _ rfl ?_
      · refine scores2 _ _ _ _ _ _ _ _ _ _ _ _ _ _ _ _ _ _ _ _ _ _ _ _ _ _ _ _ _ _ _ _ x1 x2 x3 x4 x5 _ _ h6 h7 _ _ _ _ _ _ ?_ _ _ _ rfl
        exact (loads2 _ _ _ _ _ _ _ _ _ _ _ _ _ _ _ _ _ _ _ _ _ _ _ _ _ _ _ _ _ _ _ _ x1 x2 x3 _ _ _ h3 h4 h5 _ _ _ _ _ _ _ _ _ _ _ _ _ _ rfl rfl rfl rfl _ _ _ _ _ _ _ _
        (fun d l => (congrFun (shapeCast_self _ _) (ix2 d l)).trans (readAt2 arg10.view _ _ rfl d l d (lastTile l) (Nat.zero_add _).symm rfl))
        (fun d l => (congrFun (shapeCast_self _ _) (ix2 d l)).trans (readAt2 arg12.view _ _ rfl d l d (lastTile l) (Nat.zero_add _).symm rfl))
        (fun l => (congrFun (shapeCast_self _ _) (ix2 0 l)).trans (readAt2 arg13.view _ _ rfl 0 l 0 (lastTile l) rfl rfl))
        (fun l => rfl))
      refine scatters1 _ _ _ _ _ _ _ _ _ _ _ _ _ _ _ _ _ _ _ _ _ _ _ _ _ _ _ _ _ _ _ _ x1 x2 x3 x4 x5 _ _ row hrow _ _ _ (fun k => (congrArg BitVec.toNat (congrFun h2 _)).trans (hx0 1 k)) ?_ _ _ _ rfl ?_
      · refine scores1 _ _ _ _ _ _ _ _ _ _ _ _ _ _ _ _ _ _ _ _ _ _ _ _ _ _ _ _ _ _ _ _ x1 x2 x3 x4 x5 _ _ h6 h7 _ _ _ _ ?_ _ _ _ rfl
        exact (loads1 _ _ _ _ _ _ _ _ _ _ _ _ _ _ _ _ _ _ _ _ _ _ _ _ _ _ _ _ _ _ _ _ x1 x2 x3 _ _ _ h3 h4 h5 _ _ _ _ _ _ _ _ _ _ _ _ rfl rfl rfl rfl _ _ _ _ _ _ _ _
        (fun d l => (congrFun (shapeCast_self _ _) (ix2 d l)).trans (readAt2 arg10.view _ _ rfl d l d (lastTile l) (Nat.zero_add _).symm rfl))
        (fun d l => (congrFun (shapeCast_self _ _) (ix2 d l)).trans (readAt2 arg12.view _ _ rfl d l d (lastTile l) (Nat.zero_add _).symm rfl))
        (fun l => (congrFun (shapeCast_self _ _) (ix2 0 l)).trans (readAt2 arg13.view _ _ rfl 0 l 0 (lastTile l) rfl rfl))
        (fun l => rfl))
      refine scatters0 _ _ _ _ _ _ _ _ _ _ _ _ _ _ _ _ _ _ _ _ _ _ _ _ _ _ _ _ _ _ _ _ x1 x2 x3 x4 x5 _ _ row hrow _ (fun k => (congrArg BitVec.toNat (congrFun h2 _)).trans (hx0 0 k)) ?_ _ _ _ (List.append_nil _).symm ?_
      · refine scores0 _ _ _ _ _ _ _ _ _ _ _ _ _ _ _ _ _ _ _ _ _ _ _ _ _ _ _ _ _ _ _ _ x1 x2 x3 x4 x5 _ _ h6 h7 _ _ _ _ ?_ _ _ _ (List.append_nil _).symm
        exact (loads0 _ _ _ _ _ _ _ _ _ _ _ _ _ _ _ _ _ _ _ _ _ _ _ _ _ _ _ _ _ _ _ _ x1 x2 x3 _ _ _ h3 h4 h5 _ _ _ _ _ _ _ _ _ _ _ _ (List.append_nil _).symm (List.append_nil _).symm (List.append_nil _).symm (List.append_nil _).symm _ _ _ _ _ _ _ _
        (fun d l => (congrFun (shapeCast_self _ _) (ix2 d l)).trans (readAt2 arg10.view _ _ rfl d l d (lastTile l) (Nat.zero_add _).symm rfl))
        (fun d l => (congrFun (shapeCast_self _ _) (ix2 d l)).trans (readAt2 arg12.view _ _ rfl d l d (lastTile l) (Nat.zero_add _).symm rfl))
        (fun l => (congrFun (shapeCast_self _ _) (ix2 0 l)).trans (readAt2 arg13.view _ _ rfl 0 l 0 (lastTile l) rfl rfl))
        (fun l => rfl))
      · exact fun g hg => absurd hg (Nat.not_lt_zero _)
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.LastKernelIdeal.Value
-- ==== Proof.LastKernelIdealArray.lean ====
/- The run of `LastKernelIdeal` with its result named: batches 16 to 23 of the result array hold the heads' results at the rows
   the words name, and every other element what the aliased operand held. -/
module

public import proofs.«01_k».proof.Proof.LastKernelIdealValue
public import proofs.«01_k».proof.Proof.LastKernelIdealSide

@[expose] public section

set_option maxRecDepth 16384

noncomputable section

namespace Cert.LastKernelIdeal.Value

open Cert.LastKernelIdeal Cert.LastKernelIdeal.Gen Cert.LastKernelIdeal.Run Cert.LastKernelIdeal.Head
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The row a word names. -/
def rowAt (w : LastPerm.PermArr) (b : Fin 8) (g : Fin 3) (h : Fin 4) (r : Fin 2304) : Fin 2304 :=
  if hw : (w (ix4 ⟨16 + b.val, by omega⟩ g h r)).toNat < 2304 then ⟨(w (ix4 ⟨16 + b.val, by omega⟩ g h r)).toNat, hw⟩ else 0

/-- The sorted position a row comes from. -/
def posOf (w : LastPerm.PermArr) (b : Fin 8) (g : Fin 3) (h : Fin 4) (p : Fin 2304) : Fin 2304 :=
  Function.invFun (rowAt w b g h) p

theorem rowAt_val {w : LastPerm.PermArr} (hp : LastPerm.Onto w) (b : Fin 8) (g : Fin 3) (h : Fin 4) (r : Fin 2304) :
    (w (ix4 ⟨16 + b.val, by omega⟩ g h r)).toNat = (rowAt w b g h r).val := by
  unfold rowAt; rw [dif_pos (hp.inRange b g h r)]

theorem rowAt_injective {w : LastPerm.PermArr} (hp : LastPerm.Onto w) (b : Fin 8) (g : Fin 3) (h : Fin 4) :
    Function.Injective (rowAt w b g h) := fun r r' e =>
  hp.inj b g h (BitVec.eq_of_toNat_eq (by rw [rowAt_val hp, rowAt_val hp, e]))

theorem posOf_rowAt {w : LastPerm.PermArr} (hp : LastPerm.Onto w) (b : Fin 8) (g : Fin 3) (h : Fin 4) (r : Fin 2304) :
    posOf w b g h (rowAt w b g h r) = r :=
  Function.leftInverse_invFun (rowAt_injective hp b g h) r

/-- The row each word of a point's block names. -/
def rowsOf (c : Dev nD) (t : Fin cfg0.N) : Fin 4 → Fin 2304 → Fin 2304 :=
  rowAt (m ((c : Thread nD τ).loc main_arg0)) (grid0.coords t 0) (grid0.coords t 1)

theorem rowsOf_injective (c : Dev nD) (t : Fin cfg0.N) (hp : LastPerm.Onto (m ((c : Thread nD τ).loc main_arg0))) (g : Fin 4) :
    Function.Injective (rowsOf m c t g) := rowAt_injective hp (grid0.coords t 0) (grid0.coords t 1) g

theorem iblk0_row (c : Dev nD) (t : Fin cfg0.N) (hp : LastPerm.Onto (m ((c : Thread nD τ).loc main_arg0))) (g : Fin 4) (k : Fin 2304) :
    ((iblk m c 0 t : Vec Ideal S1x1x4x2304 .i32) (ix4 0 0 g k)).toNat
      = (rowsOf m c t g k).val :=
  (congrArg BitVec.toNat (iblk0 m c t g k)).trans (rowAt_val hp (grid0.coords t 0) (grid0.coords t 1) g k)

/-- A point's window of the result: each head's results, at the rows its words name. -/
def windowOut (c : Dev nD) (t : Fin cfg0.N) : Vec Ideal S1x2304x640 .bf16 := fun y =>
  attend (iblk m c 1 t) (iblk m c 2 t) (iblk m c 3 t) (iblk m c 4 t) (iblk m c 5 t)
    ⟨(y 2).val / 160, Nat.div_lt_of_lt_mul (y 2).isLt⟩ ⟨(y 2).val % 160, Nat.mod_lt _ (by decide)⟩
    (posOf (m ((c : Thread nD τ).loc main_arg0)) (grid0.coords t 0) (grid0.coords t 1) ⟨(y 2).val / 160, Nat.div_lt_of_lt_mul (y 2).isLt⟩ (y 1))

theorem windowOut_row (c : Dev nD) (t : Fin cfg0.N) (hp : LastPerm.Onto (m ((c : Thread nD τ).loc main_arg0))) (g : Fin 4) (p : Fin 2304) (d : Fin 160) :
    windowOut m c t (ix3 0 (rowsOf m c t g p) (column g d))
      = attend (iblk m c 1 t) (iblk m c 2 t) (iblk m c 3 t) (iblk m c 4 t) (iblk m c 5 t) g d p := by
  have key : ∀ (h' : Fin 4) (d' : Fin 160), h' = g → d' = d →
      attend (iblk m c 1 t) (iblk m c 2 t) (iblk m c 3 t) (iblk m c 4 t) (iblk m c 5 t) h' d'
        (posOf (m ((c : Thread nD τ).loc main_arg0)) (grid0.coords t 0) (grid0.coords t 1) h' (rowsOf m c t g p))
      = attend (iblk m c 1 t) (iblk m c 2 t) (iblk m c 3 t) (iblk m c 4 t) (iblk m c 5 t) g d p := by
    rintro _ _ rfl rfl
    exact congrArg _ (posOf_rowAt hp _ _ _ _)
  exact key _ _ (Fin.ext (by show (160 * g.val + d.val) / 160 = g.val; omega)) (Fin.ext (by show (160 * g.val + d.val) % 160 = d.val; omega))

/-! ## The pipeline's proof data -/

/-- The proof data of the one pipeline on core `c`: the arrays as the region finds them (`V`); after the body at
    point `t` each input's buffer at its block and the result's at the heads' results; the invariant the class's
    (Lib/Pipeline/Frame.lean `ΦA`: the scoped rest and the generator register); nothing owed; full shares. -/
def dats  (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => windowOut m c t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq  (c : Dev nD) (w : Fin cfg0.W) : (dats m 0 c).A w = V m c (Pipeline.arrRef spec0 w) := by
  dsimp only [dats]

/-- What the body leaves, window by window (the proof data's `match` reduced by `dsimp`). -/
theorem after0_0  (c : Dev nD) (t : Fin cfg0.N) : (dats m 0 c).after 0 t = iblk m c 0 t := by dsimp only [dats]
theorem after0_1  (c : Dev nD) (t : Fin cfg0.N) : (dats m 0 c).after 1 t = iblk m c 1 t := by dsimp only [dats]
theorem after0_2  (c : Dev nD) (t : Fin cfg0.N) : (dats m 0 c).after 2 t = iblk m c 2 t := by dsimp only [dats]
theorem after0_3  (c : Dev nD) (t : Fin cfg0.N) : (dats m 0 c).after 3 t = iblk m c 3 t := by dsimp only [dats]
theorem after0_4  (c : Dev nD) (t : Fin cfg0.N) : (dats m 0 c).after 4 t = iblk m c 4 t := by dsimp only [dats]
theorem after0_6  (c : Dev nD) (t : Fin cfg0.N) : (dats m 0 c).after 6 t = windowOut m c t := by dsimp only [dats]
theorem after0_5  (c : Dev nD) (t : Fin cfg0.N) : (dats m 0 c).after 5 t = iblk m c 5 t := by dsimp only [dats]

/-- Each input's current staging buffer holds its block at every point, fetched there or not (`beforeK_W_of`). -/
theorem before0_0  (c : Dev nD) (t : Fin cfg0.N) (d) : (dats m 0 c).before 0 t d = iblk m c 0 t :=
  before0_0_of m (dats m 0 c) (A_eq m c 0) (after0_0 m c) t d
theorem before0_1  (c : Dev nD) (t : Fin cfg0.N) (d) : (dats m 0 c).before 1 t d = iblk m c 1 t :=
  before0_1_of m (dats m 0 c) (A_eq m c 1) (after0_1 m c) t d
theorem before0_2  (c : Dev nD) (t : Fin cfg0.N) (d) : (dats m 0 c).before 2 t d = iblk m c 2 t :=
  before0_2_of m (dats m 0 c) (A_eq m c 2) (after0_2 m c) t d
theorem before0_3  (c : Dev nD) (t : Fin cfg0.N) (d) : (dats m 0 c).before 3 t d = iblk m c 3 t :=
  before0_3_of m (dats m 0 c) (A_eq m c 3) (after0_3 m c) t d
theorem before0_4  (c : Dev nD) (t : Fin cfg0.N) (d) : (dats m 0 c).before 4 t d = iblk m c 4 t :=
  before0_4_of m (dats m 0 c) (A_eq m c 4) (after0_4 m c) t d
theorem before0_5  (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre  (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost  (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hp : ∀ c : Dev nD, LastPerm.Onto (m ((c : Thread nD τ).loc main_arg0))) (c : Dev nD) (t : Fin cfg0.N) :
    bodyPre m c t ⊢ wp frame (wpE (defs₀ (F := Ideal)) Variants.none c none) Set.univ (bodyAt0 t) (fun _ => bodyPost m c t) := by
  have hH := hyps_of_inRange m (fun c => (hp c).inRange)
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (Hyps.c0 hH c t) (Hyps.c1 hH c t) (Hyps.c2 hH c t) (Hyps.c3 hH c t)
    (rowsOf m c t) (rowsOf_injective m c t (hp c)) (iblk0_row m c t (hp c)) (windowOut m c t) (windowOut_row m c t (hp c))) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hp : ∀ c : Dev nD, LastPerm.Onto (m ((c : Thread nD τ).loc main_arg0))) (c : Dev nD) : BodyObligation (dats m 0 c) (defs₀ (F := Ideal)) Variants.none () Set.univ := fun t => by
  rw [bigSep_W0, bigSep_W0, defs₀_row]
  exact triple_restated (sound_body m hp c t) rfl .rfl fun _ => .rfl

/-! ## The run and the frame -/

-- `θ_run_frame`'s implicit arguments are found by unifying its conclusion with this one, which takes unfolding plain
-- definitions in a metavariable's type
set_option backward.isDefEq.respectTransparency.types false in
/-- The run: every array of the pipeline ends at what the proof data computes, and the other buffers at their contents at
    the region's entry. -/
theorem run_main (hp : ∀ c : Dev nD, LastPerm.Onto (m ((c : Thread nD τ).loc main_arg0))) : θ_run defs (onTc (τ := τ) (main (F := Ideal))) (s₀ m ρ) (Pipeline.FramePost cfgs (dats m) 0 (V m)) :=
  Pipeline.θ_run_frame (Q' := _) cfgs (dats m) (0 : Fin 1) launch0 defs₀ Variants.none m ρ main
    (hbody := fun c => (body_obligation m hp c).loose) (hshare := fun c => (dats m 0 c).share_full fun _ => rfl)
    (howed := fun _ _ => rfl) (V := V m) (hmain := hmain m Variants.none) (hA := A_eq m) (hΦ := fun _ _ => rfl)

end Cert.LastKernelIdeal.Value

end
-- ==== Proof.LastKernelIdealResult.lean ====
/- The result array of `LastKernelIdeal`'s run, element by element, and the tables its host operations build. -/
module

public import proofs.«01_k».proof.Proof.LastKernelIdealArray
public import Idealize.ShloMosaic.Lib.StableHlo.ReadAt

@[expose] public section

set_option maxRecDepth 16384

noncomputable section

namespace Cert.LastKernelIdeal.Value

open Cert.LastKernelIdeal Cert.LastKernelIdeal.Gen Cert.LastKernelIdeal.Run Cert.LastKernelIdeal.Head
open Idealize.ShloMosaic Idealize.ShloMosaic.TcCoe

variable (m : (ℓ : Loc nD τ sig) → Buf (Elt Ideal) ℓ)

/-- The words of one batch and head group. -/
def wordsOf (x : Vec Ideal S8x12x5x144x128 .i32) (b : Fin 8) (g : Fin 3) : Vec Ideal S1x4x5x144x128 .i32 := fun y =>
  x (ix5 b ⟨4 * g.val + (y 1).val, by have : (y 1).val < 4 := (y 1).isLt; omega⟩ (y 2) (y 3) (y 4))

/-- Their side values. -/
def sidesOf (x : Vec Ideal S8x12x144x128 .f32) (b : Fin 8) (g : Fin 3) : Vec Ideal S1x4x144x128 .f32 := fun y =>
  x (ix4 b ⟨4 * g.val + (y 1).val, by have : (y 1).val < 4 := (y 1).isLt; omega⟩ (y 2) (y 3))

/-- Channel `d` of a head's result, at a row. -/
def headAt (c : Dev nD) (b : Fin 8) (g : Fin 3) (h : Fin 4) (d : Fin 160) (p : Fin 2304) : EReal :=
  attend (wordsOf (m ((c : Thread nD τ).loc main_arg1)) b g) (wordsOf (m ((c : Thread nD τ).loc main_arg2)) b g)
    (sidesOf (m ((c : Thread nD τ).loc main_arg3)) b g) (V m c main_v15) (V m c main_v20) h d
    (posOf (m ((c : Thread nD τ).loc main_arg0)) b g h p)

theorem index1 : ∀ t : Fin grid0.N, win0_1.index t = ![(grid0.coords t 0).val, (grid0.coords t 1).val, 0, 0, 0] := by decide +kernel
theorem index2 : ∀ t : Fin grid0.N, win0_2.index t = ![(grid0.coords t 0).val, (grid0.coords t 1).val, 0, 0, 0] := by decide +kernel
theorem index3 : ∀ t : Fin grid0.N, win0_3.index t = ![(grid0.coords t 0).val, (grid0.coords t 1).val, 0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![16 + (grid0.coords t 0).val, 0, (grid0.coords t 1).val] := by decide +kernel

theorem iblk1 (c : Dev nD) (t : Fin cfg0.N) : (iblk m c 1 t : Vec Ideal S1x4x5x144x128 .i32)
    = wordsOf (m ((c : Thread nD τ).loc main_arg1)) (grid0.coords t 0) (grid0.coords t 1) := by
  funext y; unfold wordsOf; blk_ext [iblk, index1 t]
theorem iblk2 (c : Dev nD) (t : Fin cfg0.N) : (iblk m c 2 t : Vec Ideal S1x4x5x144x128 .i32)
    = wordsOf (m ((c : Thread nD τ).loc main_arg2)) (grid0.coords t 0) (grid0.coords t 1) := by
  funext y; unfold wordsOf; blk_ext [iblk, index2 t]
theorem iblk3 (c : Dev nD) (t : Fin cfg0.N) : (iblk m c 3 t : Vec Ideal S1x4x144x128 .f32)
    = sidesOf (m ((c : Thread nD τ).loc main_arg3)) (grid0.coords t 0) (grid0.coords t 1) := by
  funext y; unfold sidesOf; blk_ext [iblk, index3 t]
theorem iblk4 (c : Dev nD) (t : Fin cfg0.N) : (iblk m c 4 t : Vec Ideal S128x128 .f32) = V m c main_v15 := by
  funext y; blk_ext [iblk, index4 t]
theorem iblk5 (c : Dev nD) (t : Fin cfg0.N) : (iblk m c 5 t : Vec Ideal S128x128 .f32) = V m c main_v20 := by
  funext y; blk_ext [iblk, index5 t]

/-- The result, element by element. -/
def resultAt (c : Dev nD) : Vec Ideal S24x2304x1920 .bf16 := fun i =>
  headAt m c ⟨((i 0).val - 16) % 8, by omega⟩ ⟨(i 2).val / 640, Nat.div_lt_of_lt_mul (i 2).isLt⟩ ⟨(i 2).val % 640 / 160, by omega⟩ ⟨(i 2).val % 160, by omega⟩ (i 1)

theorem entry (c : Dev nD) : V m c main_v21 = m ((c : Thread nD τ).loc main_arg4) := by
  unfold V; after_reads_simp; try rfl

theorem final (c : Dev nD) : (dats m 0 c).arrAt 6 (cfgs 0).N
    = fun i => if 16 ≤ (i 0 : ℕ) ∧ (i 0 : ℕ) < 24 then resultAt m c i else m ((c : Thread nD τ).loc main_arg4) i := by
  rw [← entry m c]
  refine (dats m 0 c).arrAt_eq_of_coversWhere 6 (resultAt m c) (fun β => 16 ≤ β 0 ∧ β 0 < 24) (by decide +kernel) (fun t hf y => ?_)
    (fun j => by blk_simp [Pipeline.Window.cell_apply]; try omega)
  blk_simp [index6 t]
  rw [after0_6]
  have hb : (grid0.coords t 0).val < 8 := (grid0.coords t 0).isLt
  have hg : (grid0.coords t 1).val < 3 := (grid0.coords t 1).isLt
  have hy : (y 2).val < 640 := (y 2).isLt
  have he : (win0_6.blk t).view.emb y = (ix3 ⟨16 + (grid0.coords t 0).val, by omega⟩ (y 1) ⟨640 * (grid0.coords t 1).val + (y 2).val, by omega⟩ : S24x2304x1920.Idx) := by
    blk_ext [index6 t]
  rw [he]
  have key : ∀ (b' : Fin 8) (g' : Fin 3) (h' : Fin 4) (d' : Fin 160), b' = grid0.coords t 0 → g' = grid0.coords t 1 →
      h' = ⟨(y 2).val / 160, Nat.div_lt_of_lt_mul (y 2).isLt⟩ → d' = ⟨(y 2).val % 160, Nat.mod_lt _ (by decide)⟩ →
      windowOut m c t y = headAt m c b' g' h' d' (y 1) := by
    rintro _ _ _ _ rfl rfl rfl rfl
    unfold windowOut headAt
    rw [iblk1, iblk2, iblk3, iblk4, iblk5]
  exact key _ _ _ _ (Fin.ext (by show (16 + (grid0.coords t 0).val - 16) % 8 = _; omega))
    (Fin.ext (by show (640 * (grid0.coords t 1).val + (y 2).val) / 640 = _; omega))
    (Fin.ext (by show (640 * (grid0.coords t 1).val + (y 2).val) % 640 / 160 = (y 2).val / 160; omega))
    (Fin.ext (by show (640 * (grid0.coords t 1).val + (y 2).val) % 160 = (y 2).val % 160; omega))

end Cert.LastKernelIdeal.Value

end
-- ==== Proof.LastSoftmax.lean ====
/- The kernel's softmax in base two and the reference's in base e, over the extended reals. -/
module

public import proofs.«01_k».proof.Proof.LastOps

@[expose] public section

noncomputable section

namespace Cert.LastSoftmax

open Idealize.ShloMosaic

/-- The reciprocal of the natural logarithm of two. -/
def invLog : ℝ := (Real.log 2)⁻¹

theorem invLog_pos : 0 < invLog := inv_pos.mpr (Real.log_pos (by norm_num))

theorem top_mul : (⊤ : EReal) * (invLog : EReal) = ⊤ := EReal.top_mul_coe_of_pos invLog_pos
theorem bot_mul : (⊥ : EReal) * (invLog : EReal) = ⊥ := EReal.bot_mul_coe_of_pos invLog_pos

theorem exp2_mul (x : EReal) : Ideal.exp2 (x * invLog) = Ideal.exp x := by
  induction x with
  | bot => rw [bot_mul]; rfl
  | top => rw [top_mul]; rfl
  | coe r =>
    rw [← EReal.coe_mul]
    show ((Real.rpow 2 (r * invLog) : ℝ) : EReal) = (Real.exp r : EReal)
    congr 1
    show (2 : ℝ) ^ (r * invLog) = _
    rw [Real.rpow_def_of_pos (by norm_num)]
    congr 1
    have : Real.log 2 ≠ 0 := (Real.log_pos (by norm_num)).ne'
    unfold invLog
    field_simp

theorem sub_mul (x y : EReal) : x * invLog - y * invLog = (x - y) * invLog := by
  induction x with
  | bot => rw [bot_mul, EReal.bot_sub, EReal.bot_sub, bot_mul]
  | top =>
    induction y with
    | bot => rw [bot_mul, top_mul, EReal.top_sub_bot, top_mul]
    | top => rw [top_mul, EReal.sub_top, bot_mul]
    | coe s => rw [top_mul, ← EReal.coe_mul, EReal.top_sub_coe, EReal.top_sub_coe, top_mul]
  | coe r =>
    induction y with
    | bot => rw [bot_mul, ← EReal.coe_mul, EReal.coe_sub_bot, EReal.coe_sub_bot, top_mul]
    | top => rw [top_mul, EReal.sub_top, EReal.sub_top, bot_mul]
    | coe s =>
      rw [← EReal.coe_mul, ← EReal.coe_mul, ← EReal.coe_sub, ← EReal.coe_sub, ← EReal.coe_mul]
      congr 1
      ring

theorem mono : Monotone fun x : EReal => x * (invLog : EReal) := fun _ _ h =>
  mul_le_mul_of_nonneg_right h (EReal.coe_nonneg.mpr invLog_pos.le)

theorem ninf : Ideal.ofBits FTy.f32 4286578688#32 = ⊥ := by
  simp [Ideal.ofBits, Ideal.ieee]

/-- The greatest of the scores. -/
def top (s : Fin 128 → EReal) : EReal := Cert.LastKernelIdeal.Ops.maxAt s

theorem top_eq (s : Fin 128 → EReal) : top s = Finset.univ.sup s := by
  show Finset.fold max (Ideal.ofBits FTy.f32 4286578688#32) s Finset.univ = _
  rw [ninf]
  rfl

theorem top_mul_eq (s : Fin 128 → EReal) : top (fun l => s l * invLog) = top s * invLog := by
  rw [top_eq, top_eq]
  exact (Finset.comp_sup_eq_sup_comp_of_is_total (fun x : EReal => x * (invLog : EReal)) mono bot_mul).symm

theorem power_eq (s : Fin 128 → EReal) (l : Fin 128) :
    Ideal.exp2 (s l * invLog - top (fun l => s l * invLog)) = Ideal.exp (s l - top s) := by
  rw [top_mul_eq, sub_mul, exp2_mul]

theorem top_reindex (s : Fin 128 → EReal) (σ : Equiv.Perm (Fin 128)) : top (fun l => s (σ l)) = top s := by
  rw [top_eq, top_eq]
  apply le_antisymm
  · exact Finset.sup_le fun l _ => Finset.le_sup (f := s) (Finset.mem_univ (σ l))
  · refine Finset.sup_le fun l _ => ?_
    have := Finset.le_sup (f := fun l => s (σ l)) (Finset.mem_univ (σ.symm l))
    simpa using this

theorem exp_nonneg (x : EReal) : 0 ≤ Ideal.exp x := by
  induction x with
  | bot => exact le_refl _
  | top => exact le_top
  | coe r => exact EReal.coe_nonneg.mpr (Real.exp_pos r).le

/-- The exponentials are all zero, or their sum is a positive real number. -/
theorem sum_cases (s : Fin 128 → EReal) :
    (∀ l, Ideal.exp (s l - top s) = 0) ∨ ∃ r : ℝ, 0 < r ∧ ∑ l, Ideal.exp (s l - top s) = (r : EReal) := by
  have hle : ∀ l, s l ≤ top s := fun l => by rw [top_eq]; exact Finset.le_sup (Finset.mem_univ l)
  have hex : ∃ l, top s = s l := by
    rw [top_eq]
    obtain ⟨l, _, h⟩ := Finset.exists_mem_eq_sup (Finset.univ : Finset (Fin 128)) Finset.univ_nonempty s
    exact ⟨l, h⟩
  generalize hM : top s = M at *
  induction M with
  | bot =>
    refine Or.inl fun l => ?_
    rw [le_bot_iff.mp (hle l), EReal.bot_sub]; rfl
  | top => exact Or.inl fun l => by rw [EReal.sub_top]; rfl
  | coe m =>
    right
    have hr : ∀ l, ∃ r : ℝ, 0 ≤ r ∧ Ideal.exp (s l - (m : EReal)) = (r : EReal) := fun l => by
      have h := hle l
      induction hs : s l with
      | bot => exact ⟨0, le_refl _, by rw [EReal.bot_sub]; rfl⟩
      | top => rw [hs] at h; exact absurd (top_le_iff.mp h) (EReal.coe_ne_top m)
      | coe x => exact ⟨Real.exp (x - m), (Real.exp_pos _).le, by rw [← EReal.coe_sub]; rfl⟩
    choose f hf0 hf using hr
    refine ⟨∑ l, f l, ?_, ?_⟩
    · obtain ⟨l, hl⟩ := hex
      refine Finset.sum_pos' (fun l _ => hf0 l) ⟨l, Finset.mem_univ l, ?_⟩
      have e := hf l
      rw [← hl, ← EReal.coe_sub, _root_.sub_self] at e
      have e' : ((Real.exp 0 : ℝ) : EReal) = (f l : EReal) := e
      rw [← EReal.coe_eq_coe_iff.mp e', Real.exp_zero]
      norm_num
    · rw [Finset.sum_congr rfl fun l _ => hf l]
      exact (map_sum (⟨⟨fun x : ℝ => (x : EReal), EReal.coe_zero⟩, EReal.coe_add⟩ : ℝ →+ EReal) f Finset.univ).symm

theorem sum_mul_coe {ι : Type} (t : Finset ι) (f : ι → EReal) (r : ℝ) (hr : 0 ≤ r) : (∑ l ∈ t, f l) * (r : EReal) = ∑ l ∈ t, f l * (r : EReal) := by
  classical
  induction t using Finset.induction_on with
  | empty => simp
  | insert a t ha ih =>
    rw [Finset.sum_insert ha, Finset.sum_insert ha, ← ih]
    exact EReal.right_distrib_of_nonneg_of_ne_top (EReal.coe_nonneg.mpr hr) (EReal.coe_ne_top r) _ _

/-- The sum divided at the end is the sum of the weights. -/
theorem sum_eq (s v w : Fin 128 → EReal) :
    (∑ l, (v l * w l) * Ideal.exp (s l - top s)) * Ideal.div 1 (∑ l, 1 * Ideal.exp (s l - top s))
      = ∑ l, (Ideal.exp (s l - top s) * Ideal.div 1 (∑ l, Ideal.exp (s l - top s))) * w l * v l := by
  rw [Finset.sum_congr rfl fun l _ => one_mul (Ideal.exp (s l - top s))]
  rcases sum_cases s with h | ⟨r, hr, h⟩
  · simp only [h, mul_zero, zero_mul, Finset.sum_const_zero]
  · rw [h]
    have e : Ideal.div 1 (r : EReal) = ((r⁻¹ : ℝ) : EReal) := by
      unfold Ideal.div
      rw [if_neg (by exact_mod_cast hr.ne'), one_mul, EReal.coe_inv]
    rw [e, sum_mul_coe _ _ _ (inv_nonneg.mpr hr.le)]
    refine Finset.sum_congr rfl fun l _ => ?_
    ac_rfl

end Cert.LastSoftmax

end
-- ==== Proof.LastReferenceHost.lean ====
/- What `LastReferenceIdeal`'s host operations compute, in stages. -/
module

public import proofs.«01_k».proof.Proof.Gen.LastReferenceIdeal.Frame
public import Idealize.ShloMosaic.PureOps.Ideal
public import Idealize.ShloMosaic.Lib.Pipeline.ValueKit
public import Idealize.ShloMosaic.Lib.StableHlo.ReadAt

@[expose] public section

set_option maxRecDepth 16384

noncomputable section

namespace Cert.LastReferenceIdeal.Value

open Cert.LastReferenceIdeal Cert.LastReferenceIdeal.Gen
open Idealize.ShloMosaic Idealize.ShloMosaic.TcCoe

/-- The codes in sorted order. -/
def rows (x : FVec Ideal S276480x128 .bf16) : FVec Ideal S8x12x2304x160 .bf16 :=
  (shapeCast S8x12x2304x160 (transpose S8x12x18x128x5x32 [0, 1, 3, 5, 2, 4] (shapeCast S8x12x5x18x32x128 x shapeCasts_S276480x128_S8x12x5x18x32x128) transposes_S8x12x5x18x32x128_S8x12x18x128x5x32_0_1_3_5_2_4) shapeCasts_S8x12x18x128x5x32_S8x12x2304x160)

/-- The side values in sorted order. -/
def sides (x : FVec Ideal S8x12x144x128 .f32) : FVec Ideal S8x12x2304x8 .f32 :=
  (shapeCast S8x12x2304x8 (transpose S8x12x18x128x8 [0, 1, 2, 4, 3] (shapeCast S8x12x18x8x128 x shapeCasts_S8x12x144x128_S8x12x18x8x128) transposes_S8x12x18x8x128_S8x12x18x128x8_0_1_2_4_3) shapeCasts_S8x12x18x128x8_S8x12x2304x8)

/-- The scales of a key's channel blocks. -/
def scales (x : FVec Ideal S8x12x2304x8 .f32) : FVec Ideal S8x12x2304x5 .f32 :=
  (extractStridedSlice S8x12x2304x5 ![0, 0, 0, 0] x slices_S8x12x2304x8_S8x12x2304x5_0_0_0_0)

/-- The scale of a value. -/
def valScale (x : FVec Ideal S8x12x2304x8 .f32) : FVec Ideal S8x12x2304 .f32 :=
  (shapeCast S8x12x2304 (extractStridedSlice S8x12x2304x1 ![0, 0, 0, 5] x slices_S8x12x2304x8_S8x12x2304x1_0_0_0_5) shapeCasts_S8x12x2304x1_S8x12x2304)

/-- What the gaps to a key are compared with. -/
def laters (x : FVec Ideal S8x12x2304x8 .f32) : FVec Ideal S8x12x2304 .f32 :=
  (shapeCast S8x12x2304 (extractStridedSlice S8x12x2304x1 ![0, 0, 0, 6] x slices_S8x12x2304x8_S8x12x2304x1_0_0_0_6) shapeCasts_S8x12x2304x1_S8x12x2304)

/-- The keys: the codes scaled. -/
def keyRows (q : FVec Ideal S8x12x2304x160 .bf16) (s : FVec Ideal S8x12x2304x5 .f32) : FVec Ideal S8x12x2304x160 .bf16 :=
  (shapeCast S8x12x2304x160 (mulf (shapeCast S8x12x2304x5x32 q shapeCasts_S8x12x2304x160_S8x12x2304x5x32) (broadcastInDim S8x12x2304x5x32 ![0, 1, 2, 3, 4] bcast_S8x12x2304x5x1_S8x12x2304x5x32_0_1_2_3_4 (broadcastInDim S8x12x2304x5x1 ![0, 1, 2, 3] bcast_S8x12x2304x5_S8x12x2304x5x1_0_1_2_3 (truncf .bf16 s bitsLt_bf16_f32)))) shapeCasts_S8x12x2304x5x32_S8x12x2304x160)

/-- The factor the scores against a key carry. -/
def factors (k : FVec Ideal S8x12x2304x160 .bf16) : FVec Ideal S8x12x2304 .f32 :=
  (Host.divf (Host.rsqrt (addf (Host.divf (Host.reduceAdd (mulf (extf .f32 k bitsLt_bf16_f32) (extf .f32 k bitsLt_bf16_f32)) (constant S_ .f32 0x00000000#32) reducesTo_S8x12x2304x160_S8x12x2304_d3 h_S_) (broadcastInDim S8x12x2304 ![] bcast_S_S8x12x2304 (constant S_ .f32 0x43200000#32))) (broadcastInDim S8x12x2304 ![] bcast_S_S8x12x2304 (constant S_ .f32 0x358637BD#32)))) (broadcastInDim S8x12x2304 ![] bcast_S_S8x12x2304 (Host.sqrt (constant S_ .f32 0x43200000#32))))

/-- Rows by chunk. -/
def chunks (k : FVec Ideal S8x12x2304x160 .bf16) : FVec Ideal S8x12x36x64x160 .bf16 :=
  (shapeCast S8x12x36x64x160 k shapeCasts_S8x12x2304x160_S8x12x36x64x160)

/-- The previous chunk's rows and the chunk's. -/
def windows (k : FVec Ideal S8x12x36x64x160 .bf16) : FVec Ideal S8x12x36x128x160 .bf16 :=
  (concatenate S8x12x36x128x160 3 [⟨S8x12x36x64x160, (concatenate S8x12x36x64x160 2 [⟨S8x12x1x64x160, (extractStridedSlice S8x12x1x64x160 ![0, 0, 35, 0, 0] k slices_S8x12x36x64x160_S8x12x1x64x160_0_0_35_0_0)⟩, ⟨S8x12x35x64x160, (extractStridedSlice S8x12x35x64x160 ![0, 0, 0, 0, 0] k slices_S8x12x36x64x160_S8x12x35x64x160_0_0_0_0_0)⟩] concatenates_S8x12x1x64x160_S8x12x35x64x160_S8x12x36x64x160_d2)⟩, ⟨S8x12x36x64x160, k⟩] concatenates_S8x12x36x64x160_S8x12x36x64x160_S8x12x36x128x160_d3)

/-- The previous chunk's values and the chunk's. -/
def window (x : FVec Ideal S8x12x2304 .f32) : FVec Ideal S8x12x36x128 .f32 :=
  (concatenate S8x12x36x128 3 [⟨S8x12x36x64, (concatenate S8x12x36x64 2 [⟨S8x12x1x64, (extractStridedSlice S8x12x1x64 ![0, 0, 35, 0] (shapeCast S8x12x36x64 x shapeCasts_S8x12x2304_S8x12x36x64) slices_S8x12x36x64_S8x12x1x64_0_0_35_0)⟩, ⟨S8x12x35x64, (extractStridedSlice S8x12x35x64 ![0, 0, 0, 0] (shapeCast S8x12x36x64 x shapeCasts_S8x12x2304_S8x12x36x64) slices_S8x12x36x64_S8x12x35x64_0_0_0_0)⟩] concatenates_S8x12x1x64_S8x12x35x64_S8x12x36x64_d2)⟩, ⟨S8x12x36x64, (shapeCast S8x12x36x64 x shapeCasts_S8x12x2304_S8x12x36x64)⟩] concatenates_S8x12x36x64_S8x12x36x64_S8x12x36x128_d3)

/-- The products of queries and keys. -/
def dots (q : FVec Ideal S8x12x36x64x160 .bf16) (k : FVec Ideal S8x12x36x128x160 .bf16) : FVec Ideal S8x12x36x64x128 .f32 :=
  (Host.dotGeneral dot_S8x12x36x64x160_S8x12x36x128x160_S8x12x36x64x128_4_4_3_3_012_012 none q k)

/-- The scores, before the mask. -/
def scaledDots (d : FVec Ideal S8x12x36x64x128 .f32) (f : FVec Ideal S8x12x36x128 .f32) : FVec Ideal S8x12x36x64x128 .f32 :=
  (mulf d (broadcastInDim S8x12x36x64x128 ![0, 1, 2, 3, 4] bcast_S8x12x36x1x128_S8x12x36x64x128_0_1_2_3_4 (broadcastInDim S8x12x36x1x128 ![0, 1, 2, 4] bcast_S8x12x36x128_S8x12x36x1x128_0_1_2_4 f)))

/-- Whether a window position is in the sequence. -/
def inside  : IVec S36x64x128 1 :=
  (ori (cmpi .sgt (iotaInDim S36x64x128 32 0) (broadcastInDim S36x64x128 ![] bcast_S_S36x64x128 (constantI S_ 32 0#32))) (cmpi .sge (subi (iotaInDim S36x64x128 32 2) (broadcastInDim S36x64x128 ![] bcast_S_S36x64x128 (constantI S_ 32 64#32))) (broadcastInDim S36x64x128 ![] bcast_S_S36x64x128 (constantI S_ 32 0#32))))

/-- How far a key lies before its query. -/
def gaps  : FVec Ideal S36x64x128 .f32 :=
  (sitofp .f32 (select (cmpi .slt (subi (iotaInDim S36x64x128 32 2) (broadcastInDim S36x64x128 ![] bcast_S_S36x64x128 (constantI S_ 32 64#32))) (iotaInDim S36x64x128 32 1)) (subi (subi (iotaInDim S36x64x128 32 1) (subi (iotaInDim S36x64x128 32 2) (broadcastInDim S36x64x128 ![] bcast_S_S36x64x128 (constantI S_ 32 64#32)))) (broadcastInDim S36x64x128 ![] bcast_S_S36x64x128 (constantI S_ 32 1#32))) ((broadcastInDim S36x64x128 ![] bcast_S_S36x64x128) (constantI S_ 32 1048576#32))))

/-- The scores of keys not seen. -/
def fills  : FVec Ideal S36x64x128 .f32 :=
  (select (cmpi .eq (subi (iotaInDim S36x64x128 32 2) (broadcastInDim S36x64x128 ![] bcast_S_S36x64x128 (constantI S_ 32 64#32))) (iotaInDim S36x64x128 32 1)) ((broadcastInDim S36x64x128 ![] bcast_S_S36x64x128) (constant S_ .f32 0xC7C35000#32)) ((broadcastInDim S36x64x128 ![] bcast_S_S36x64x128) (constant S_ .f32 0xCE6E6B28#32)))

/-- The scores. -/
def scores (i : IVec S36x64x128 1) (g : FVec Ideal S36x64x128 .f32) (l : FVec Ideal S8x12x36x128 .f32) (s : FVec Ideal S8x12x36x64x128 .f32) (f : FVec Ideal S36x64x128 .f32) : FVec Ideal S8x12x36x64x128 .f32 :=
  (select (andi (broadcastInDim S8x12x36x64x128 ![0, 1, 2, 3, 4] bcast_S1x1x36x64x128_S8x12x36x64x128_0_1_2_3_4 (broadcastInDim S1x1x36x64x128 ![2, 3, 4] bcast_S36x64x128_S1x1x36x64x128_2_3_4 i)) (cmpf .olt (broadcastInDim S8x12x36x64x128 ![0, 1, 2, 3, 4] bcast_S1x1x36x64x128_S8x12x36x64x128_0_1_2_3_4 (broadcastInDim S1x1x36x64x128 ![2, 3, 4] bcast_S36x64x128_S1x1x36x64x128_2_3_4 g)) (broadcastInDim S8x12x36x64x128 ![0, 1, 2, 3, 4] bcast_S8x12x36x1x128_S8x12x36x64x128_0_1_2_3_4 (broadcastInDim S8x12x36x1x128 ![0, 1, 2, 4] bcast_S8x12x36x128_S8x12x36x1x128_0_1_2_4 l)))) s ((broadcastInDim S8x12x36x64x128 ![2, 3, 4] bcast_S36x64x128_S8x12x36x64x128_2_3_4) f))

/-- The scores' exponentials, the greatest taken off. -/
def expos (s : FVec Ideal S8x12x36x64x128 .f32) : FVec Ideal S8x12x36x64x128 .f32 :=
  (Host.exp (subf s (broadcastInDim S8x12x36x64x128 ![0, 1, 2, 3, 4] bcast_S8x12x36x64x1_S8x12x36x64x128_0_1_2_3_4 (broadcastInDim S8x12x36x64x1 ![0, 1, 2, 3] bcast_S8x12x36x64_S8x12x36x64x1_0_1_2_3 (Host.reduce FloatOps.maximumf s (constant S_ .f32 0xFF800000#32) reducesTo_S8x12x36x64x128_S8x12x36x64_d4 h_S_)))))

/-- The exponentials over their sum. -/
def softmax (e : FVec Ideal S8x12x36x64x128 .f32) : FVec Ideal S8x12x36x64x128 .f32 :=
  (mulf e (broadcastInDim S8x12x36x64x128 ![0, 1, 2, 3, 4] bcast_S8x12x36x64x1_S8x12x36x64x128_0_1_2_3_4 (Host.divf (broadcastInDim S8x12x36x64x1 ![] bcast_S_S8x12x36x64x1 (constant S_ .f32 0x3F800000#32)) (broadcastInDim S8x12x36x64x1 ![0, 1, 2, 3] bcast_S8x12x36x64_S8x12x36x64x1_0_1_2_3 (Host.reduceAdd e (constant S_ .f32 0x00000000#32) reducesTo_S8x12x36x64x128_S8x12x36x64_d4 h_S_)))))

/-- The weights times the values' scales. -/
def weights (p : FVec Ideal S8x12x36x64x128 .f32) (v : FVec Ideal S8x12x36x128 .f32) : FVec Ideal S8x12x36x64x128 .bf16 :=
  (truncf .bf16 (mulf p (broadcastInDim S8x12x36x64x128 ![0, 1, 2, 3, 4] bcast_S8x12x36x1x128_S8x12x36x64x128_0_1_2_3_4 (broadcastInDim S8x12x36x1x128 ![0, 1, 2, 4] bcast_S8x12x36x128_S8x12x36x1x128_0_1_2_4 v))) bitsLt_bf16_f32)

/-- The weighted sums of the values' codes. -/
def outs (p : FVec Ideal S8x12x36x64x128 .bf16) (v : FVec Ideal S8x12x36x128x160 .bf16) : FVec Ideal S8x12x2304x160 .bf16 :=
  (shapeCast S8x12x2304x160 (truncf .bf16 (Host.dotGeneral dot_S8x12x36x64x128_S8x12x36x128x160_S8x12x36x64x160_4_3_3_4_012_012 none p v) bitsLt_bf16_f32) shapeCasts_S8x12x36x64x160_S8x12x2304x160)

/-- Which row each sorted position goes to. -/
def places (w : IVec S24x3x4x2304 32) : FVec Ideal S8x12x2304x2304 .bf16 :=
  (uitofp .bf16 (cmpi .eq (broadcastInDim S8x12x2304x2304 ![0, 1, 2, 3] bcast_S8x12x2304x1_S8x12x2304x2304_0_1_2_3 (broadcastInDim S8x12x2304x1 ![0, 1, 2] bcast_S8x12x2304_S8x12x2304x1_0_1_2 (shapeCast S8x12x2304 (extractStridedSlice S8x3x4x2304 ![16, 0, 0, 0] w slices_S24x3x4x2304_S8x3x4x2304_16_0_0_0) shapeCasts_S8x3x4x2304_S8x12x2304))) (broadcastInDim S8x12x2304x2304 ![0, 1, 2, 3] bcast_S1x1x1x2304_S8x12x2304x2304_0_1_2_3 (broadcastInDim S1x1x1x2304 ![3] bcast_S2304_S1x1x1x2304_3 (iotaInDim S2304 32 0)))))

/-- The sums at their rows. -/
def placed (o : FVec Ideal S8x12x2304x160 .bf16) (p : FVec Ideal S8x12x2304x2304 .bf16) : FVec Ideal S8x2304x1920 .bf16 :=
  (shapeCast S8x2304x1920 (truncf .bf16 (transpose S8x2304x12x160 [0, 3, 1, 2] (Host.dotGeneral dot_S8x12x2304x160_S8x12x2304x2304_S8x12x160x2304_2_2_3_3_01_01 none o p) transposes_S8x12x160x2304_S8x2304x12x160_0_3_1_2) bitsLt_bf16_f32) shapeCasts_S8x2304x12x160_S8x2304x1920)

/-- The result array. -/
def joined (x : FVec Ideal S24x2304x1920 .bf16) (r : FVec Ideal S8x2304x1920 .bf16) : FVec Ideal S24x2304x1920 .bf16 :=
  concatenate S24x2304x1920 0 [⟨S16x2304x1920, (extractStridedSlice S16x2304x1920 ![0, 0, 0] x slices_S24x2304x1920_S16x2304x1920_0_0_0)⟩, ⟨S8x2304x1920, r⟩] concatenates_S16x2304x1920_S8x2304x1920_S24x2304x1920_d0

/-- The rows of the batches computed. -/
def whole (q v : FVec Ideal S276480x128 .bf16) (w : IVec S24x3x4x2304 32) (a : FVec Ideal S8x12x144x128 .f32) : FVec Ideal S8x2304x1920 .bf16 :=
  placed (outs (weights (softmax (expos (scores inside gaps (window (laters (sides a)))
    (scaledDots (dots (chunks (keyRows (rows q) (scales (sides a)))) (windows (chunks (keyRows (rows q) (scales (sides a))))))
      (window (factors (keyRows (rows q) (scales (sides a)))))) fills))) (window (valScale (sides a))))
    (windows (chunks (rows v)))) (places w)

set_option maxHeartbeats 4000000 in
theorem rows_eq (W : Valuation τ sig (Elt Ideal)) :
    StableHlo.upto (List.flatten [hostOps1, hostOps1_1, hostOps1_2, hostOps1_3, hostOps1_4, hostOps1_5]) W 139 (Proc.devRef .tc main_v120)
      = whole (W (Proc.devRef .tc main_v2_0)) (W (Proc.devRef .tc main_v2_1)) (W (Proc.devRef .tc main_arg0)) (W (Proc.devRef .tc main_arg3)) := by
  after_reads_simp
  simp -implicitDefEqProofs only [StableHlo.TRef.toBuf, StableHlo.TRef.ofBuf, cast_cast, cast_eq]
  simp only [whole, placed, outs, weights, softmax, expos, scores, inside, gaps, window, laters, sides, scaledDots, dots, chunks,
    keyRows, rows, scales, windows, factors, fills, valScale, places]
  try rfl

theorem low_eq (W : Valuation τ sig (Elt Ideal)) :
    StableHlo.upto (List.flatten [hostOps1, hostOps1_1, hostOps1_2, hostOps1_3, hostOps1_4, hostOps1_5]) W 139 (Proc.devRef .tc main_v121)
      = extractStridedSlice S16x2304x1920 ![0, 0, 0] (W (Proc.devRef .tc main_arg4) : FVec Ideal S24x2304x1920 .bf16) slices_S24x2304x1920_S16x2304x1920_0_0_0 := by
  after_reads_simp

theorem joined_congr (x x' : FVec Ideal S16x2304x1920 .bf16) (y y' : FVec Ideal S8x2304x1920 .bf16) (hx : x = x') (hy : y = y') :
    concatenate S24x2304x1920 0 [⟨S16x2304x1920, x⟩, ⟨S8x2304x1920, y⟩] concatenates_S16x2304x1920_S8x2304x1920_S24x2304x1920_d0
      = concatenate S24x2304x1920 0 [⟨S16x2304x1920, x'⟩, ⟨S8x2304x1920, y'⟩] concatenates_S16x2304x1920_S8x2304x1920_S24x2304x1920_d0 := by
  subst hx hy; rfl

set_option maxHeartbeats 4000000 in
theorem host_eq (W : Valuation τ sig (Elt Ideal)) :
    StableHlo.after (List.flatten [hostOps1, hostOps1_1, hostOps1_2, hostOps1_3, hostOps1_4, hostOps1_5]) W (Proc.devRef .tc main_v122)
      = joined (W (Proc.devRef .tc main_arg4)) (whole (W (Proc.devRef .tc main_v2_0)) (W (Proc.devRef .tc main_v2_1)) (W (Proc.devRef .tc main_arg0)) (W (Proc.devRef .tc main_arg3))) := by
  after_reads_simp
  exact joined_congr _ _ _ _ (low_eq W) (rows_eq W)

end Cert.LastReferenceIdeal.Value

end
-- ==== Proof.LastReferenceRun.lean ====
/- The result `LastReferenceIdeal`'s run leaves: its host operations' term of the arguments, the codes decoded. -/
module

public import proofs.«01_k».proof.Proof.LastReferenceHost
public import Idealize.ShloMosaic.Lib.Claim

@[expose] public section

set_option maxRecDepth 16384

noncomputable section

namespace Cert.LastReferenceIdeal.Value

open Cert.LastReferenceIdeal Cert.LastReferenceIdeal.Gen
open Idealize.ShloMosaic Idealize.ShloMosaic.TcCoe

variable (m : (ℓ : Loc nD τ sig) → Buf (Elt Ideal) ℓ) (ρ : Dev nD → PrngReg)

/-- The codes of an array of words. -/
def codes (x : IVec S8x12x5x144x128 32) : FVec Ideal S276480x128 .bf16 :=
  k0_pay1 (shapeCast S69120x128 x shapeCasts_S8x12x5x144x128_S69120x128)

theorem index0 : ∀ t : Fin grid0.N, win0_0.index t = ![0, 0] := by decide +kernel
theorem index1 : ∀ t : Fin grid0.N, win0_1.index t = ![0, 0] := by decide +kernel

theorem entry0 (c : Dev nD) : V m c main_v0 = shapeCast S69120x128 (m ((c : Thread nD τ).loc main_arg1)) shapeCasts_S8x12x5x144x128_S69120x128 := by
  unfold V
  after_reads_simp
  try rfl

theorem final2 (c : Dev nD) : (dats m 0 c).arrAt 2 (cfgs 0).N = codes (m ((c : Thread nD τ).loc main_arg1)) := by
  refine (dats m 0 c).arrAt_eq_of_after_last 2 t0_0 (by decide +kernel) _ fun j => ?_
  blk_simp
  rw [after0_2]
  frame_out
  unfold codes
  congr 2
  refine Eq.trans ?_ (entry0 m c)
  show (iblk m c 0 t0_0 : Vec Ideal S69120x128 .i32) = V m c main_v0
  funext y
  blk_ext [iblk, index0 t0_0]

theorem entry1 (c : Dev nD) : V m c main_v1 = shapeCast S69120x128 (m ((c : Thread nD τ).loc main_arg2)) shapeCasts_S8x12x5x144x128_S69120x128 := by
  unfold V
  after_reads_simp
  try rfl

theorem final3 (c : Dev nD) : (dats m 0 c).arrAt 3 (cfgs 0).N = codes (m ((c : Thread nD τ).loc main_arg2)) := by
  refine (dats m 0 c).arrAt_eq_of_after_last 3 t0_0 (by decide +kernel) _ fun j => ?_
  blk_simp
  rw [after0_3]
  frame_out
  unfold codes
  congr 2
  refine Eq.trans ?_ (entry1 m c)
  show (iblk m c 1 t0_0 : Vec Ideal S69120x128 .i32) = V m c main_v1
  funext y
  blk_ext [iblk, index1 t0_0]

theorem result_eq (c : Dev nD) : Pipeline.afterTail₀ cfgs (dats m) 0 (V0 m) [hostOps1, hostOps1_1, hostOps1_2, hostOps1_3, hostOps1_4, hostOps1_5] c main_v122
    = joined (m ((c : Thread nD τ).loc main_arg4)) (whole (codes (m ((c : Thread nD τ).loc main_arg1))) (codes (m ((c : Thread nD τ).loc main_arg2)))
        (m ((c : Thread nD τ).loc main_arg0)) (m ((c : Thread nD τ).loc main_arg3))) := by
  have hinj : Function.Injective (Pipeline.arrRef spec0) := by decide
  have h2 := (Pipeline.withArrays_arr spec0 hinj c (V0 m c) (fun w => (dats m 0 c).arrAt w (cfgs 0).N) 2).trans (final2 m c)
  have h3 := (Pipeline.withArrays_arr spec0 hinj c (V0 m c) (fun w => (dats m 0 c).arrAt w (cfgs 0).N) 3).trans (final3 m c)
  have h0 := (Pipeline.withArrays_of_ne spec0 c (V0 m c) (fun w => (dats m 0 c).arrAt w (cfgs 0).N) main_arg0 (by exact (by decide : ∀ w, Pipeline.arrRef spec0 w ≠ main_arg0))).trans (V_main_arg0 m c)
  have ha := (Pipeline.withArrays_of_ne spec0 c (V0 m c) (fun w => (dats m 0 c).arrAt w (cfgs 0).N) main_arg3 (by exact (by decide : ∀ w, Pipeline.arrRef spec0 w ≠ main_arg3))).trans (V_main_arg3 m c)
  have h4 := (Pipeline.withArrays_of_ne spec0 c (V0 m c) (fun w => (dats m 0 c).arrAt w (cfgs 0).N) main_arg4 (by exact (by decide : ∀ w, Pipeline.arrRef spec0 w ≠ main_arg4))).trans (V_main_arg4 m c)
  unfold Pipeline.afterTail₀
  refine (host_eq _).trans ?_
  have key : ∀ x x' q q' v v' w w' a a', x = x' → q = q' → v = v' → w = w' → a = a' → joined x (whole q v w a) = joined x' (whole q' v' w' a') := by
    rintro _ _ _ _ _ _ _ _ _ _ rfl rfl rfl rfl rfl; rfl
  exact key _ _ _ _ _ _ _ _ _ _ h4 h2 h3 h0 ha

/-- The run. -/
theorem run : θ_run defs (onTc (τ := τ) (main (F := Ideal))) ⟨m, fun _ => 0, ρ⟩ (fun r => ∀ c : Dev nD,
      r.2.mem ((c.tc : Thread nD τ).loc main_v122)
        = joined (m ((c : Thread nD τ).loc main_arg4)) (whole (codes (m ((c : Thread nD τ).loc main_arg1))) (codes (m ((c : Thread nD τ).loc main_arg2)))
        (m ((c : Thread nD τ).loc main_arg0)) (m ((c : Thread nD τ).loc main_arg3)))) :=
  (θ_run defs _ _).mono (fun r h c => ((h c).2 main_v122 (by decide +kernel)).trans (result_eq m c)) (run_main m ρ)

end Cert.LastReferenceIdeal.Value

end
-- ==== Proof.LastReferenceAt.lean ====
/- The stages of `LastReferenceIdeal`'s host operations, read at an index. -/
module

public import proofs.«01_k».proof.Proof.LastReferenceRun
public import proofs.«01_k».proof.Proof.LastOps

@[expose] public section

set_option maxRecDepth 16384

noncomputable section

namespace Cert.LastReferenceIdeal.Value

open Cert.LastReferenceIdeal Cert.LastReferenceIdeal.Gen
open Idealize.ShloMosaic Idealize.ShloMosaic.TcCoe
open Cert.LastKernelIdeal.Ops (codeAt)

/-- The word a code lies in, by sequence position and channel. -/
def wordIx (b : Fin 8) (h : Fin 12) (p : Fin 2304) (d : Fin 160) : S8x12x5x144x128.Idx :=
  ix5 b h ⟨d.val / 32, by omega⟩ ⟨8 * (p.val / 128) + d.val % 32 / 4, by omega⟩ ⟨p.val % 128, by omega⟩

/-- A side value's place. -/
def sideIx (b : Fin 8) (h : Fin 12) (p : Fin 2304) (j : Fin 8) : S8x12x144x128.Idx :=
  ix4 b h ⟨8 * (p.val / 128) + j.val, by omega⟩ ⟨p.val % 128, by omega⟩

/-- The position at index `j` of chunk `n`'s window. -/
def windowPos (n : Fin 36) (j : Fin 128) : Fin 2304 := ⟨64 * ((n.val + 35 + j.val / 64) % 36) + j.val % 64, by omega⟩

theorem words_at (x : IVec S8x12x5x144x128 32) (b : Fin 8) (h : Fin 12) (j : Fin 5) (s : Fin 144) (l : Fin 128) :
    shapeCast S69120x128 x shapeCasts_S8x12x5x144x128_S69120x128 (ix2 ⟨b.val * 8640 + h.val * 720 + j.val * 144 + s.val, by omega⟩ l) = x (ix5 b h j s l) := by
  pointwise

theorem rows_at (x : IVec S8x12x5x144x128 32) (b : Fin 8) (h : Fin 12) (p : Fin 2304) (d : Fin 160) :
    rows (codes x) (ix4 b h p d) = codeAt (x (wordIx b h p d)) (d.val % 4) := by
  pointwise [rows]
  unfold codes k0_pay1
  show Ideal.ofBits .fp8e4m3 (bitcast S276480x128 8 _ bitcasts_S69120x128_w32_S276480x128_w8 _) = _
  rw [codeAt]
  refine congrArg (Ideal.ofBits .fp8e4m3) ((Cert.LastKernelIdeal.Ops.bitcast_byte _ _ _ _ ⟨b.val * 8640 + h.val * 720 + d.val / 32 * 144 + p.val / 128 * 8 + d.val % 32 / 4, by omega⟩ (by show b.val * 8640 + h.val * 720 + d.val / 32 * 144 + p.val / 128 * 8 + d.val % 32 / 4 = (b.val * 34560 + h.val * 2880 + d.val / 32 * 576 + p.val / 128 * 32 + d.val % 32) / 4; omega)).trans ?_)
  have e : 8 * ((b.val * 34560 + h.val * 2880 + d.val / 32 * 576 + p.val / 128 * 32 + d.val % 32) % 4) = 8 * (d.val % 4) := by omega
  rw [e]
  congr 1
  rw [Idealize.ShloMosaic.shapeCast_self]
  have key : ∀ (y : IVec S69120x128 32) (q q' : Fin 69120) (l : Fin 128), q.val = q'.val → y (ix2 q l) = y (ix2 q' l) := fun _ _ _ _ e => by rw [Fin.ext e]
  refine (key _ _ ⟨b.val * 8640 + h.val * 720 + d.val / 32 * 144 + (8 * (p.val / 128) + d.val % 32 / 4), by omega⟩ _ ?_).trans
    (words_at x b h ⟨d.val / 32, by omega⟩ ⟨8 * (p.val / 128) + d.val % 32 / 4, by omega⟩ ⟨p.val % 128, by omega⟩)
  show b.val * 8640 + h.val * 720 + d.val / 32 * 144 + p.val / 128 * 8 + d.val % 32 / 4 = b.val * 8640 + h.val * 720 + d.val / 32 * 144 + (8 * (p.val / 128) + d.val % 32 / 4)
  omega

theorem sides_at (x : FVec Ideal S8x12x144x128 .f32) (b : Fin 8) (h : Fin 12) (p : Fin 2304) (j : Fin 8) :
    sides x (ix4 b h p j) = x (sideIx b h p j) := by
  pointwise [sides]
  refine congrArg x ?_
  unfold sideIx
  congr 1
  exact Fin.ext (by simp only; omega)

theorem scales_at (x : FVec Ideal S8x12x2304x8 .f32) (b : Fin 8) (h : Fin 12) (p : Fin 2304) (j : Fin 5) :
    scales x (ix4 b h p j) = x (ix4 b h p ⟨j.val, by omega⟩) := by
  pointwise [scales]

theorem valScale_at (x : FVec Ideal S8x12x2304x8 .f32) (b : Fin 8) (h : Fin 12) (p : Fin 2304) :
    valScale x (ix3 b h p) = x (ix4 b h p 5) := by
  pointwise [valScale]

theorem laters_at (x : FVec Ideal S8x12x2304x8 .f32) (b : Fin 8) (h : Fin 12) (p : Fin 2304) :
    laters x (ix3 b h p) = x (ix4 b h p 6) := by
  pointwise [laters]

theorem keyRows_at (q : FVec Ideal S8x12x2304x160 .bf16) (s : FVec Ideal S8x12x2304x5 .f32) (b : Fin 8) (h : Fin 12) (p : Fin 2304) (d : Fin 160) :
    keyRows q s (ix4 b h p d) = q (ix4 b h p d) * s (ix4 b h p ⟨d.val / 32, by omega⟩) := by
  pointwise [keyRows]

theorem factors_at (k : FVec Ideal S8x12x2304x160 .bf16) (b : Fin 8) (h : Fin 12) (p : Fin 2304) :
    factors k (ix3 b h p) = Ideal.div (Ideal.rsqrt (Ideal.div (∑ d : Fin 160, k (ix4 b h p d) * k (ix4 b h p d)) (Ideal.ofBits .f32 0x43200000#32)
      + Ideal.ofBits .f32 0x358637BD#32)) (Ideal.sqrt (Ideal.ofBits .f32 0x43200000#32)) := by
  pointwise [factors]

theorem windows_at (k : FVec Ideal S8x12x2304x160 .bf16) (b : Fin 8) (h : Fin 12) (n : Fin 36) (j : Fin 128) (d : Fin 160) :
    windows (chunks k) (ix5 b h n j d) = k (ix4 b h (windowPos n j) d) := by
  pointwise [windows, chunks]
  have key : ∀ q q' : Fin 2304, q.val = q'.val → k (ix4 b h q d) = k (ix4 b h q' d) := fun q q' e => by rw [Fin.ext e]
  split_ifs <;> exact key _ _ (by simp only [windowPos]; omega)

theorem chunks_at (k : FVec Ideal S8x12x2304x160 .bf16) (b : Fin 8) (h : Fin 12) (n : Fin 36) (j : Fin 64) (d : Fin 160) :
    chunks k (ix5 b h n j d) = k (ix4 b h ⟨64 * n.val + j.val, by omega⟩ d) := by
  pointwise [chunks]
  congr 2
  exact Fin.ext (by simp only; omega)

theorem window_at (x : FVec Ideal S8x12x2304 .f32) (b : Fin 8) (h : Fin 12) (n : Fin 36) (j : Fin 128) :
    window x (ix4 b h n j) = x (ix3 b h (windowPos n j)) := by
  pointwise [window]
  have key : ∀ q q' : Fin 2304, q.val = q'.val → x (ix3 b h q) = x (ix3 b h q') := fun q q' e => by rw [Fin.ext e]
  split_ifs <;> exact key _ _ (by simp only [windowPos]; omega)

theorem dots_at (q : FVec Ideal S8x12x36x64x160 .bf16) (k : FVec Ideal S8x12x36x128x160 .bf16) (b : Fin 8) (h : Fin 12) (n : Fin 36) (c : Fin 64) (j : Fin 128) :
    dots q k (ix5 b h n c j) = ∑ d : Fin 160, q (ix5 b h n c d) * k (ix5 b h n j d) := by
  pointwise [dots]

theorem scaledDots_at (q : FVec Ideal S8x12x36x64x128 .f32) (f : FVec Ideal S8x12x36x128 .f32) (b : Fin 8) (h : Fin 12) (n : Fin 36) (c : Fin 64) (j : Fin 128) :
    scaledDots q f (ix5 b h n c j) = q (ix5 b h n c j) * f (ix4 b h n j) := by
  pointwise [scaledDots]

theorem scores_at (i : IVec S36x64x128 1) (g : FVec Ideal S36x64x128 .f32) (l : FVec Ideal S8x12x36x128 .f32) (s : FVec Ideal S8x12x36x64x128 .f32) (f : FVec Ideal S36x64x128 .f32)
    (b : Fin 8) (h : Fin 12) (n : Fin 36) (c : Fin 64) (j : Fin 128) :
    scores i g l s f (ix5 b h n c j) = if i (ix3 n c j) = 1#1 ∧ g (ix3 n c j) < l (ix4 b h n j) then s (ix5 b h n c j) else f (ix3 n c j) := by
  pointwise [scores]
  have hi : ∀ y : BitVec 1, y = 0#1 ∨ y = 1#1 := by decide
  by_cases hg : g (ix3 n c j) < l (ix4 b h n j) <;> rcases hi (i (ix3 n c j)) with h' | h' <;> simp [h', hg, Scalar.select, IntOp.andi]

theorem expos_at (s : FVec Ideal S8x12x36x64x128 .f32) (b : Fin 8) (h : Fin 12) (n : Fin 36) (c : Fin 64) (j : Fin 128) :
    expos s (ix5 b h n c j) = Ideal.exp (s (ix5 b h n c j) - Cert.LastKernelIdeal.Ops.maxAt (fun l => s (ix5 b h n c l))) := by
  pointwise [expos]
  rfl

theorem softmax_at (s : FVec Ideal S8x12x36x64x128 .f32) (b : Fin 8) (h : Fin 12) (n : Fin 36) (c : Fin 64) (j : Fin 128) :
    softmax s (ix5 b h n c j) = s (ix5 b h n c j) * Ideal.div 1 (∑ l : Fin 128, s (ix5 b h n c l)) := by
  pointwise [softmax]

theorem weights_at (s : FVec Ideal S8x12x36x64x128 .f32) (v : FVec Ideal S8x12x36x128 .f32) (b : Fin 8) (h : Fin 12) (n : Fin 36) (c : Fin 64) (j : Fin 128) :
    weights s v (ix5 b h n c j) = s (ix5 b h n c j) * v (ix4 b h n j) := by
  pointwise [weights]

theorem outs_at (s : FVec Ideal S8x12x36x64x128 .bf16) (v : FVec Ideal S8x12x36x128x160 .bf16) (b : Fin 8) (h : Fin 12) (p : Fin 2304) (d : Fin 160) :
    outs s v (ix4 b h p d) = ∑ j : Fin 128, s (ix5 b h ⟨p.val / 64, by omega⟩ ⟨p.val % 64, by omega⟩ j) * v (ix5 b h ⟨p.val / 64, by omega⟩ j d) := by
  pointwise [outs]

theorem places_at (w : IVec S24x3x4x2304 32) (b : Fin 8) (h : Fin 12) (r p : Fin 2304) :
    places w (ix4 b h r p) = if w (ix4 ⟨16 + b.val, by omega⟩ ⟨h.val / 4, by omega⟩ ⟨h.val % 4, by omega⟩ r) = BitVec.ofNat 32 p.val then 1 else 0 := by
  pointwise [places]
  by_cases e : w (ix4 ⟨16 + b.val, by omega⟩ ⟨h.val / 4, by omega⟩ ⟨h.val % 4, by omega⟩ r) = BitVec.ofNat 32 p.val
  · rw [if_pos e, e]
    show (((IntOp.cmpi CmpIPredicate.eq (BitVec.ofNat 32 p.val) (BitVec.ofNat 32 p.val)).toNat : ℝ) : EReal) = 1
    simp [IntOp.cmpi]
  · rw [if_neg e]
    show (((IntOp.cmpi CmpIPredicate.eq (w (ix4 ⟨16 + b.val, by omega⟩ ⟨h.val / 4, by omega⟩ ⟨h.val % 4, by omega⟩ r)) (BitVec.ofNat 32 p.val)).toNat : ℝ) : EReal) = 0
    simp [IntOp.cmpi, beq_eq_false_iff_ne.mpr e]

theorem placed_at (o : FVec Ideal S8x12x2304x160 .bf16) (q : FVec Ideal S8x12x2304x2304 .bf16) (b : Fin 8) (p : Fin 2304) (x : Fin 1920) :
    placed o q (ix3 b p x) = ∑ r : Fin 2304, o (ix4 b ⟨x.val / 160, by omega⟩ r ⟨x.val % 160, by omega⟩) * q (ix4 b ⟨x.val / 160, by omega⟩ r p) := by
  pointwise [placed]

theorem joined_at (x : FVec Ideal S24x2304x1920 .bf16) (r : FVec Ideal S8x2304x1920 .bf16) (b : Fin 24) (p : Fin 2304) (y : Fin 1920) :
    joined x r (ix3 b p y) = if 16 ≤ b.val ∧ b.val < 24 then r (ix3 ⟨(b.val - 16) % 8, by omega⟩ p y) else x (ix3 b p y) := by
  pointwise [joined]
  have key' : ∀ q q' : Fin 8, q.val = q'.val → r (ix3 q p y) = r (ix3 q' p y) := fun q q' e => by rw [Fin.ext e]
  refine (show (if _h : b.val < 16 then x (ix3 b p y) else r (ix3 ⟨b.val - 16, by omega⟩ p y)) = _ from ?_)
  by_cases h1 : b.val < 16
  · rw [dif_pos h1, if_neg (by omega)]
  · rw [dif_neg h1, if_pos (by omega)]
    exact key' _ _ (by show b.val - 16 = (b.val - 16) % 8; omega)

theorem inside_at (n : Fin 36) (c : Fin 64) (j : Fin 128) : inside (ix3 n c j) = 1#1 ↔ (0 < n.val ∨ 64 ≤ j.val) := by
  pointwise [inside]
  have h1 : ∀ n : Fin 36, IntOp.cmpi CmpIPredicate.sgt (BitVec.ofNat 32 n.val) 0#32 = if 0 < n.val then 1#1 else 0#1 := by decide +kernel
  have h2 : ∀ j : Fin 128, IntOp.cmpi CmpIPredicate.sge (IntOp.subi (BitVec.ofNat 32 j.val) 64#32) 0#32 = if 64 ≤ j.val then 1#1 else 0#1 := by decide +kernel
  rw [h1, h2]
  by_cases e1 : 0 < n.val <;> by_cases e2 : 64 ≤ j.val <;> simp [e1, e2, IntOp.ori]

/-- The gap of a query to a key, `2^20` if the key does not lie before it. -/
def gapVal (q k : ℕ) : EReal := (((if k < q then ((q - k - 1 : ℕ) : ℤ) else 1048576 : ℤ) : ℝ) : EReal)

theorem gaps_at (n : Fin 36) (c : Fin 64) (j : Fin 128) : gaps (ix3 n c j) = gapVal (c.val + 64) j.val := by
  pointwise [gaps]
  have h1 : ∀ c : Fin 64, ∀ j : Fin 128, (Scalar.select (IntOp.cmpi CmpIPredicate.slt (IntOp.subi (BitVec.ofNat 32 j.val) 64#32) (BitVec.ofNat 32 c.val))
        (IntOp.subi (IntOp.subi (BitVec.ofNat 32 c.val) (IntOp.subi (BitVec.ofNat 32 j.val) 64#32)) 1#32) 1048576#32).toInt
      = if j.val < c.val + 64 then ((c.val + 64 - j.val - 1 : ℕ) : ℤ) else 1048576 := by decide +kernel
  show (((Scalar.select (IntOp.cmpi CmpIPredicate.slt (IntOp.subi (BitVec.ofNat 32 j.val) 64#32) (BitVec.ofNat 32 c.val))
        (IntOp.subi (IntOp.subi (BitVec.ofNat 32 c.val) (IntOp.subi (BitVec.ofNat 32 j.val) 64#32)) 1#32) 1048576#32).toInt : ℝ) : EReal) = _
  rw [h1]
  rfl

theorem fills_at (n : Fin 36) (c : Fin 64) (j : Fin 128) : fills (ix3 n c j) = if j.val = c.val + 64 then Ideal.ofBits .f32 0xC7C35000#32 else Ideal.ofBits .f32 0xCE6E6B28#32 := by
  pointwise [fills]
  have h1 : ∀ c : Fin 64, ∀ j : Fin 128, IntOp.cmpi CmpIPredicate.eq (IntOp.subi (BitVec.ofNat 32 j.val) 64#32) (BitVec.ofNat 32 c.val)
      = if j.val = c.val + 64 then 1#1 else 0#1 := by decide +kernel
  rw [h1]
  split_ifs <;> rfl

end Cert.LastReferenceIdeal.Value

end
-- ==== Proof.LastKernelIdealTables.lean ====
/- The tables `LastKernelIdeal`'s host operations make for the kernel, and its named constants. -/
module

public import proofs.«01_k».proof.Proof.Gen.LastKernelIdeal.Frame
public import Idealize.ShloMosaic.Lib.Pipeline.ValueKit
public import Idealize.ShloMosaic.PureOps.Ideal
public import Idealize.ShloMosaic.Lib.StableHlo.ReadAt
public import proofs.«01_k».proof.Proof.LastSoftmax
public import proofs.«01_k».proof.Proof.LastReferenceAt

@[expose] public section

set_option maxRecDepth 16384

noncomputable section

namespace Cert.LastKernelIdeal.Value

open Cert.LastKernelIdeal Cert.LastKernelIdeal.Gen
open Idealize.ShloMosaic Idealize.ShloMosaic.TcCoe

variable (m : (ℓ : Loc nD τ sig) → Buf (Elt Ideal) ℓ)

/-- The window index of the key in lane `l` of query `q` of a tile. -/
def slot (q l : Fin 128) : Fin 128 := ⟨if q.val < 64 then (l.val + 64) % 128 else l.val, by split <;> omega⟩

set_option maxHeartbeats 4000000 in
theorem gap_word : ∀ q l : Fin 128,
    (Scalar.select
        (IntOp.cmpi CmpIPredicate.slt
          (Scalar.select
            (IntOp.andi (IntOp.cmpi CmpIPredicate.slt (BitVec.ofNat 32 q.val) 64#32) (IntOp.cmpi CmpIPredicate.sge (BitVec.ofNat 32 l.val) 64#32))
            (IntOp.subi (BitVec.ofNat 32 l.val) 128#32) (BitVec.ofNat 32 l.val))
          (BitVec.ofNat 32 q.val))
        (IntOp.subi
          (IntOp.subi (BitVec.ofNat 32 q.val)
            (Scalar.select
              (IntOp.andi (IntOp.cmpi CmpIPredicate.slt (BitVec.ofNat 32 q.val) 64#32) (IntOp.cmpi CmpIPredicate.sge (BitVec.ofNat 32 l.val) 64#32))
              (IntOp.subi (BitVec.ofNat 32 l.val) 128#32) (BitVec.ofNat 32 l.val)))
          1#32)
        1048576#32).toInt
      = if (slot q l).val < q.val % 64 + 64 then ((q.val % 64 + 64 - (slot q l).val - 1 : ℕ) : ℤ) else 1048576 := by decide +kernel

theorem same_word : ∀ q l : Fin 128,
    IntOp.cmpi CmpIPredicate.eq
        (Scalar.select
          (IntOp.andi (IntOp.cmpi CmpIPredicate.slt (BitVec.ofNat 32 q.val) 64#32) (IntOp.cmpi CmpIPredicate.sge (BitVec.ofNat 32 l.val) 64#32))
          (IntOp.subi (BitVec.ofNat 32 l.val) 128#32) (BitVec.ofNat 32 l.val))
        (BitVec.ofNat 32 q.val)
      = if (slot q l).val = q.val % 64 + 64 then 1#1 else 0#1 := by decide +kernel

theorem div_log (x : EReal) : Ideal.div x (Ideal.log (Ideal.ofBits FTy.f32 1073741824#32)) = x * (LastSoftmax.invLog : EReal) := by
  have h2 : Ideal.ofBits FTy.f32 1073741824#32 = ((2 : ℝ) : EReal) := by
    simp [Ideal.ofBits, Ideal.ieee, -EReal.coe_mul]
    try norm_num
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  have h0 : Real.log 2 ≠ 0 := (Real.log_pos (by norm_num)).ne'
  rw [h2, hl]
  unfold Ideal.div LastSoftmax.invLog
  rw [if_neg (by exact_mod_cast h0), EReal.coe_inv]

theorem dist_at (c : Dev nD) (q l : Fin 128) :
    (V m c main_v15 : FVec Ideal S128x128 .f32) (ix2 q l) = LastReferenceIdeal.Value.gapVal (q.val % 64 + 64) (slot q l).val := by
  unfold V
  after_reads_simp
  simp -implicitDefEqProofs only [StableHlo.TRef.toBuf, StableHlo.TRef.ofBuf, cast_cast, cast_eq]
  pointwise
  unfold LastReferenceIdeal.Value.gapVal
  rw [← gap_word q l]
  rfl

theorem fill_at (c : Dev nD) (q l : Fin 128) :
    (V m c main_v20 : FVec Ideal S128x128 .f32) (ix2 q l)
      = (if (slot q l).val = q.val % 64 + 64 then Ideal.ofBits .f32 0xC7C35000#32 else Ideal.ofBits .f32 0xCE6E6B28#32) * (LastSoftmax.invLog : EReal) := by
  unfold V
  after_reads_simp
  simp -implicitDefEqProofs only [StableHlo.TRef.toBuf, StableHlo.TRef.ofBuf, cast_cast, cast_eq]
  pointwise
  refine (div_log _).trans ?_
  congr 1
  rw [same_word]
  split_ifs <;> rfl

theorem invD : Named.named (F := Ideal) κ "inv_d" (φ := .f32) 1003277517#32 = ((1 / 160 : ℝ) : EReal) := rfl
theorem scale : Named.named (F := Ideal) κ "scale" (φ := .f32) 1038718387#32 = (((Real.sqrt 160)⁻¹ * (Real.log 2)⁻¹ : ℝ) : EReal) := rfl

theorem bits160 : Ideal.ofBits FTy.f32 0x43200000#32 = ((160 : ℝ) : EReal) := by
  simp [Ideal.ofBits, Ideal.ieee, -EReal.coe_mul]
  try norm_num

/-- The factor of a key, the kernel's and the reference's. -/
theorem factor_eq (x : EReal) :
    Ideal.rsqrt (x * ((1 / 160 : ℝ) : EReal) + Ideal.ofBits FTy.f32 897988541#32) * (((Real.sqrt 160)⁻¹ * (Real.log 2)⁻¹ : ℝ) : EReal)
      = Ideal.div (Ideal.rsqrt (Ideal.div x (Ideal.ofBits FTy.f32 0x43200000#32) + Ideal.ofBits FTy.f32 0x358637BD#32)) (Ideal.sqrt (Ideal.ofBits FTy.f32 0x43200000#32))
        * (LastSoftmax.invLog : EReal) := by
  have h1 : Ideal.div x ((160 : ℝ) : EReal) = x * ((1 / 160 : ℝ) : EReal) := by
    unfold Ideal.div
    rw [if_neg (by exact_mod_cast (by norm_num : (160 : ℝ) ≠ 0)), ← EReal.coe_inv, one_div]
  have h2 : Ideal.sqrt ((160 : ℝ) : EReal) = ((Real.sqrt 160 : ℝ) : EReal) := by
    show (if (160 : ℝ) < 0 then (⊥ : EReal) else ((Real.sqrt 160 : ℝ) : EReal)) = _
    rw [if_neg (by norm_num)]
  have h0 : Real.sqrt 160 ≠ 0 := (Real.sqrt_pos.mpr (by norm_num)).ne'
  have h3 : ∀ y : EReal, Ideal.div y ((Real.sqrt 160 : ℝ) : EReal) = y * (((Real.sqrt 160)⁻¹ : ℝ) : EReal) := fun y => by
    unfold Ideal.div
    rw [if_neg (by exact_mod_cast h0), ← EReal.coe_inv]
  rw [bits160, h1, h2, h3, EReal.coe_mul, ← mul_assoc]
  rfl

end Cert.LastKernelIdeal.Value

end
-- ==== Proof.LastAttend.lean ====
/- A head of the kernel is the reference's attention at every position. -/
module

public import proofs.«01_k».proof.Proof.LastKernelIdealResult
public import proofs.«01_k».proof.Proof.LastKernelIdealTables

@[expose] public section

set_option maxRecDepth 16384

noncomputable section

namespace Cert.LastAttend

open Idealize.ShloMosaic
open Cert.LastKernelIdeal.Ops (codeAt rowOf col maxAt)
open Cert.LastKernelIdeal.Value (slot wordsOf sidesOf)
open Cert.LastReferenceIdeal.Value

/-- A batch's head, of a group and a head of it. -/
def headOf (g : Fin 3) (h : Fin 4) : Fin 12 := ⟨4 * g.val + h.val, by omega⟩

variable (q v : Vec Ideal Cert.LastReferenceIdeal.S8x12x5x144x128 .i32) (a : Vec Ideal Cert.LastReferenceIdeal.S8x12x144x128 .f32) (b : Fin 8) (g : Fin 3) (h : Fin 4)

/-- The reference's keys. -/
def refKeys : FVec Ideal Cert.LastReferenceIdeal.S8x12x2304x160 .bf16 := keyRows (rows (codes q)) (Cert.LastReferenceIdeal.Value.scales (sides a))

/-- The reference's scores. -/
def refScores : FVec Ideal Cert.LastReferenceIdeal.S8x12x36x64x128 .f32 :=
  Cert.LastReferenceIdeal.Value.scores inside gaps (window (laters (sides a))) (scaledDots (dots (chunks (refKeys q a)) (windows (chunks (refKeys q a)))) (window (factors (refKeys q a)))) fills

/-- The reference's results, in sorted order. -/
def refOuts : FVec Ideal Cert.LastReferenceIdeal.S8x12x2304x160 .bf16 :=
  outs (weights (softmax (expos (refScores q a))) (window (valScale (sides a)))) (windows (chunks (rows (codes v))))

theorem key_eq (d : Fin 160) (p : Fin 2304) :
    Cert.LastKernelIdeal.Head.keyAt (wordsOf q b g) (sidesOf a b g) h d p = refKeys q a (ix4 b (headOf g h) p d) := by
  unfold refKeys
  rw [keyRows_at, rows_at, scales_at, sides_at]
  have key : ∀ j j' : Fin 8, j = j' → sidesOf a b g (ix4 0 h ⟨8 * (p.val / 128) + j.val, by omega⟩ ⟨p.val % 128, by omega⟩) = a (sideIx b (headOf g h) p j') := by
    rintro _ _ rfl; rfl
  exact congrArg₂ (· * ·) rfl (key (rowOf (d.val / 32)) ⟨d.val / 32, by omega⟩ (Fin.ext (by show d.val / 32 % 8 = d.val / 32; omega)))

theorem val_eq (d : Fin 160) (p : Fin 2304) :
    Cert.LastKernelIdeal.Head.valAt (wordsOf v b g) (sidesOf a b g) h d p
      = rows (codes v) (ix4 b (headOf g h) p d) * valScale (sides a) (ix3 b (headOf g h) p) := by
  rw [rows_at, valScale_at, sides_at]
  rfl

theorem factor_eq (p : Fin 2304) :
    Cert.LastKernelIdeal.Head.factorAt (wordsOf q b g) (sidesOf a b g) h p = factors (refKeys q a) (ix3 b (headOf g h) p) * (LastSoftmax.invLog : EReal) := by
  rw [factors_at]
  unfold Cert.LastKernelIdeal.Head.factorAt
  simp only [key_eq]
  rw [Cert.LastKernelIdeal.Value.invD, Cert.LastKernelIdeal.Value.scale]
  exact Cert.LastKernelIdeal.Value.factor_eq _

/-- The lane's position is the window's. -/
theorem pos_eq (p : Fin 2304) (l : Fin 128) :
    Cert.LastKernelIdeal.Head.posAt (Cert.LastKernelIdeal.Head.laneAt p l) = windowPos ⟨p.val / 64, by omega⟩ (slot ⟨p.val % 128, by omega⟩ l) := by
  apply Fin.ext
  have hp := p.isLt
  have hl := l.isLt
  show (if 128 * (p.val / 128) + (if p.val % 128 < 64 ∧ 64 ≤ l.val then l.val else 128 + l.val) < 128
      then 128 * (p.val / 128) + (if p.val % 128 < 64 ∧ 64 ≤ l.val then l.val else 128 + l.val) + 2176
      else 128 * (p.val / 128) + (if p.val % 128 < 64 ∧ 64 ≤ l.val then l.val else 128 + l.val) - 128)
    = 64 * ((p.val / 64 + 35 + (if p.val % 128 < 64 then (l.val + 64) % 128 else l.val) / 64) % 36) + (if p.val % 128 < 64 then (l.val + 64) % 128 else l.val) % 64
  split_ifs <;> omega

theorem gap_nonneg (x y : ℕ) : 0 ≤ gapVal x y := by
  unfold gapVal
  split_ifs <;> exact_mod_cast (by positivity)

/-- A key is seen by the kernel where it is by the reference. -/
theorem seen_eq (p : Fin 2304) (l : Fin 128) :
    (gapVal (p.val % 128 % 64 + 64) (slot ⟨p.val % 128, by omega⟩ l).val < Cert.LastKernelIdeal.Head.laterAt (sidesOf a b g) h (Cert.LastKernelIdeal.Head.laneAt p l))
      ↔ (inside (ix3 ⟨p.val / 64, by omega⟩ ⟨p.val % 64, by omega⟩ (slot ⟨p.val % 128, by omega⟩ l)) = 1#1
        ∧ gaps (ix3 ⟨p.val / 64, by omega⟩ ⟨p.val % 64, by omega⟩ (slot ⟨p.val % 128, by omega⟩ l))
          < window (laters (sides a)) (ix4 b (headOf g h) ⟨p.val / 64, by omega⟩ (slot ⟨p.val % 128, by omega⟩ l))) := by
  have hp := p.isLt
  have hl := l.isLt
  have hlane : (Cert.LastKernelIdeal.Head.laneAt p l).val = 128 * (p.val / 128) + (if p.val % 128 < 64 ∧ 64 ≤ l.val then l.val else 128 + l.val) := rfl
  have hslot : (slot ⟨p.val % 128, by omega⟩ l).val = if p.val % 128 < 64 then (l.val + 64) % 128 else l.val := rfl
  rw [inside_at, gaps_at, window_at, laters_at, sides_at]
  have e64 : p.val % 128 % 64 = p.val % 64 := by omega
  rw [e64]
  by_cases hx : (Cert.LastKernelIdeal.Head.laneAt p l).val < 128
  · have hn : ¬ (0 < p.val / 64 ∨ 64 ≤ (slot ⟨p.val % 128, by omega⟩ l).val) := by
      rw [hslot]; rw [hlane] at hx
      split_ifs at hx ⊢ <;> omega
    have hneg : Ideal.ofBits FTy.f32 0xBF800000#32 = ((-1 : ℝ) : EReal) := by
      simp [Ideal.ofBits, Ideal.ieee, -EReal.coe_mul]
      try norm_num
    constructor
    · intro hlt
      exfalso
      unfold Cert.LastKernelIdeal.Head.laterAt at hlt
      rw [dif_pos hx, hneg] at hlt
      have h0 := lt_of_le_of_lt (gap_nonneg _ _) hlt
      have h1 : (0 : ℝ) < -1 := by exact_mod_cast h0
      norm_num at h1
    · exact fun h' => absurd h'.1 hn
  · have hy : (0 < p.val / 64 ∨ 64 ≤ (slot ⟨p.val % 128, by omega⟩ l).val) := by
      rw [hslot]; rw [hlane] at hx
      split_ifs at hx ⊢ <;> omega
    have hpos : (windowPos ⟨p.val / 64, by omega⟩ (slot ⟨p.val % 128, by omega⟩ l)).val = (Cert.LastKernelIdeal.Head.laneAt p l).val - 128 := by
      rw [← pos_eq]
      show (if (Cert.LastKernelIdeal.Head.laneAt p l).val < 128 then _ else _) = _
      rw [if_neg hx]
    have hl : Cert.LastKernelIdeal.Head.laterAt (sidesOf a b g) h (Cert.LastKernelIdeal.Head.laneAt p l)
        = a (sideIx b (headOf g h) (windowPos ⟨p.val / 64, by omega⟩ (slot ⟨p.val % 128, by omega⟩ l)) 6) := by
      unfold Cert.LastKernelIdeal.Head.laterAt
      rw [dif_neg hx]
      unfold sideIx
      simp only [hpos]
      rfl
    rw [hl]
    exact ⟨fun h' => ⟨hy, h'⟩, fun h' => h'.2⟩

variable (x4 x5 : Vec Ideal Cert.LastKernelIdeal.S128x128 .f32)
  (h4 : ∀ r l : Fin 128, x4 (ix2 r l) = gapVal (r.val % 64 + 64) (slot r l).val)
  (h5 : ∀ r l : Fin 128, x5 (ix2 r l) = (if (slot r l).val = r.val % 64 + 64 then Ideal.ofBits .f32 0xC7C35000#32 else Ideal.ofBits .f32 0xCE6E6B28#32) * (LastSoftmax.invLog : EReal))

include h4 h5 in
theorem score_eq (p : Fin 2304) (l : Fin 128) :
    Cert.LastKernelIdeal.Head.score (wordsOf q b g) (sidesOf a b g) x4 x5 h p l
      = refScores q a (ix5 b (headOf g h) ⟨p.val / 64, by omega⟩ ⟨p.val % 64, by omega⟩ (slot ⟨p.val % 128, by omega⟩ l)) * (LastSoftmax.invLog : EReal) := by
  unfold Cert.LastKernelIdeal.Head.score refScores
  have e64 : p.val % 128 % 64 = p.val % 64 := by omega
  have epos : (⟨64 * (p.val / 64) + p.val % 64, by omega⟩ : Fin 2304) = p := Fin.ext (by show 64 * (p.val / 64) + p.val % 64 = p.val; omega)
  rw [scores_at, h4, h5, fills_at]
  by_cases hs : (gapVal (p.val % 128 % 64 + 64) (slot ⟨p.val % 128, by omega⟩ l).val < Cert.LastKernelIdeal.Head.laterAt (sidesOf a b g) h (Cert.LastKernelIdeal.Head.laneAt p l))
  · rw [if_pos hs, if_pos ((seen_eq a b g h p l).mp hs), scaledDots_at, dots_at, window_at, factor_eq, pos_eq, mul_assoc]
    congr 1
    refine Finset.sum_congr rfl fun d _ => ?_
    rw [chunks_at, windows_at, key_eq, key_eq]
    congr 2
    rw [epos]
  · rw [if_neg hs, if_neg (fun h' => hs ((seen_eq a b g h p l).mpr h'))]
    simp only [e64]

/-- The lanes, as a rearrangement of the window. -/
def slots (r : Fin 128) : Equiv.Perm (Fin 128) where
  toFun := slot r
  invFun := slot r
  left_inv l := Fin.ext (by
    show (if r.val < 64 then ((if r.val < 64 then (l.val + 64) % 128 else l.val) + 64) % 128 else (if r.val < 64 then (l.val + 64) % 128 else l.val)) = l.val
    have := l.isLt
    split_ifs <;> omega)
  right_inv l := Fin.ext (by
    show (if r.val < 64 then ((if r.val < 64 then (l.val + 64) % 128 else l.val) + 64) % 128 else (if r.val < 64 then (l.val + 64) % 128 else l.val)) = l.val
    have := l.isLt
    split_ifs <;> omega)

include h4 h5 in
theorem attend_eq (d : Fin 160) (p : Fin 2304) :
    Cert.LastKernelIdeal.Head.attend (wordsOf q b g) (wordsOf v b g) (sidesOf a b g) x4 x5 h d p = refOuts q v a (ix4 b (headOf g h) p d) := by
  have hw : Cert.LastKernelIdeal.Head.score (wordsOf q b g) (sidesOf a b g) x4 x5 h p
      = fun l => refScores q a (ix5 b (headOf g h) ⟨p.val / 64, by omega⟩ ⟨p.val % 64, by omega⟩ (slots ⟨p.val % 128, by omega⟩ l)) * (LastSoftmax.invLog : EReal) :=
    funext fun l => score_eq q a b g h x4 x5 h4 h5 p l
  have hpow : ∀ l, Cert.LastKernelIdeal.Head.power (wordsOf q b g) (sidesOf a b g) x4 x5 h p l
      = Ideal.exp (refScores q a (ix5 b (headOf g h) ⟨p.val / 64, by omega⟩ ⟨p.val % 64, by omega⟩ (slots ⟨p.val % 128, by omega⟩ l))
        - LastSoftmax.top fun j => refScores q a (ix5 b (headOf g h) ⟨p.val / 64, by omega⟩ ⟨p.val % 64, by omega⟩ j)) := fun l => by
    unfold Cert.LastKernelIdeal.Head.power
    rw [hw]
    refine (LastSoftmax.power_eq (fun l => refScores q a (ix5 b (headOf g h) ⟨p.val / 64, by omega⟩ ⟨p.val % 64, by omega⟩ (slots ⟨p.val % 128, by omega⟩ l))) l).trans ?_
    rw [LastSoftmax.top_reindex (fun j => refScores q a (ix5 b (headOf g h) ⟨p.val / 64, by omega⟩ ⟨p.val % 64, by omega⟩ j))]
  have hval : ∀ l, Cert.LastKernelIdeal.Head.valAt (wordsOf v b g) (sidesOf a b g) h d (Cert.LastKernelIdeal.Head.posAt (Cert.LastKernelIdeal.Head.laneAt p l))
      = rows (codes v) (ix4 b (headOf g h) (windowPos ⟨p.val / 64, by omega⟩ (slots ⟨p.val % 128, by omega⟩ l)) d)
        * valScale (sides a) (ix3 b (headOf g h) (windowPos ⟨p.val / 64, by omega⟩ (slots ⟨p.val % 128, by omega⟩ l))) := fun l => by
    rw [val_eq, pos_eq]; rfl
  unfold Cert.LastKernelIdeal.Head.attend refOuts
  rw [outs_at]
  simp only [hpow, hval, weights_at, softmax_at, expos_at, windows_at, window_at]
  have hk := LastSoftmax.sum_eq (fun j => refScores q a (ix5 b (headOf g h) ⟨p.val / 64, by omega⟩ ⟨p.val % 64, by omega⟩ j))
    (fun j => rows (codes v) (ix4 b (headOf g h) (windowPos ⟨p.val / 64, by omega⟩ j) d))
    (fun j => valScale (sides a) (ix3 b (headOf g h) (windowPos ⟨p.val / 64, by omega⟩ j)))
  refine Eq.trans ?_ hk
  exact congrArg₂ (fun x y => x * Ideal.div 1 y)
    (Equiv.sum_comp (slots ⟨p.val % 128, by omega⟩) fun j => rows (codes v) (ix4 b (headOf g h) (windowPos ⟨p.val / 64, by omega⟩ j) d) * valScale (sides a) (ix3 b (headOf g h) (windowPos ⟨p.val / 64, by omega⟩ j))
      * Ideal.exp (refScores q a (ix5 b (headOf g h) ⟨p.val / 64, by omega⟩ ⟨p.val % 64, by omega⟩ j)
        - LastSoftmax.top fun j => refScores q a (ix5 b (headOf g h) ⟨p.val / 64, by omega⟩ ⟨p.val % 64, by omega⟩ j)))
    (Equiv.sum_comp (slots ⟨p.val % 128, by omega⟩) fun j => 1
      * Ideal.exp (refScores q a (ix5 b (headOf g h) ⟨p.val / 64, by omega⟩ ⟨p.val % 64, by omega⟩ j)
        - LastSoftmax.top fun j => refScores q a (ix5 b (headOf g h) ⟨p.val / 64, by omega⟩ ⟨p.val % 64, by omega⟩ j)))

end Cert.LastAttend

end
-- ==== Proof.LastAlgebraic.lean ====
/- The two runs end with the same result. -/
module

public import proofs.«01_k».proof.Defs
public import proofs.«01_k».proof.Proof.LastAttend
public import proofs.«01_k».proof.Proof.LastKernelIdealSide

@[expose] public section

set_option maxRecDepth 16384

noncomputable section

namespace Cert.LastAlgebraic

open Idealize.ShloMosaic Idealize.ShloMosaic.TcCoe Idealize.SL.Sem
open Cert.LastKernelIdeal.Value (rowAt posOf rowAt_val rowAt_injective headAt resultAt)
open Cert.LastReferenceIdeal.Value
open Cert.LastAttend

theorem rowAt_posOf {w : LastPerm.PermArr} (hp : LastPerm.Onto w) (b : Fin 8) (g : Fin 3) (h : Fin 4) (p : Fin 2304) : rowAt w b g h (posOf w b g h p) = p :=
  Function.rightInverse_invFun (Finite.injective_iff_surjective.mp (rowAt_injective hp b g h)) p

theorem names_row {w : LastPerm.PermArr} (hp : LastPerm.Onto w) (b : Fin 8) (g : Fin 3) (h : Fin 4) (p r : Fin 2304) :
    w (ix4 ⟨16 + b.val, by omega⟩ g h r) = BitVec.ofNat 32 p.val ↔ r = posOf w b g h p := by
  have hlt := p.isLt
  have e2 : (BitVec.ofNat 32 p.val).toNat = p.val := by rw [BitVec.toNat_ofNat]; omega
  constructor
  · intro e
    have e1 := ((rowAt_val hp b g h r).symm.trans (congrArg BitVec.toNat e)).trans e2
    exact rowAt_injective hp b g h ((Fin.ext e1).trans (rowAt_posOf hp b g h p).symm)
  · rintro rfl
    exact BitVec.eq_of_toNat_eq (((rowAt_val hp b g h _).trans (congrArg Fin.val (rowAt_posOf hp b g h p))).trans e2.symm)

/-- Of the sorted positions, one is placed at a row. -/
theorem place_sum {w : LastPerm.PermArr} (hp : LastPerm.Onto w) (b : Fin 8) (g : Fin 3) (h : Fin 4) (p : Fin 2304) (f : Fin 2304 → EReal) :
    ∑ r : Fin 2304, f r * places w (ix4 b (headOf g h) r p) = f (posOf w b g h p) := by
  have key : ∀ (g' : Fin 3) (h' : Fin 4) (r : Fin 2304), g' = g → h' = h →
      ((w (ix4 ⟨16 + b.val, by omega⟩ g' h' r) = BitVec.ofNat 32 p.val) ↔ r = posOf w b g h p) := fun _ _ r hg hh => by
    rw [hg, hh]; exact names_row hp b g h p r
  have e : ∀ r : Fin 2304, f r * places w (ix4 b (headOf g h) r p) = if r = posOf w b g h p then f r else 0 := fun r => by
    rw [places_at]
    by_cases hr : r = posOf w b g h p
    · rw [if_pos hr, if_pos ((key _ _ r (Fin.ext (by show (4 * g.val + h.val) / 4 = g.val; omega)) (Fin.ext (by show (4 * g.val + h.val) % 4 = h.val; omega))).mpr hr), mul_one]
    · rw [if_neg hr, if_neg (fun e => hr ((key _ _ r (Fin.ext (by show (4 * g.val + h.val) / 4 = g.val; omega)) (Fin.ext (by show (4 * g.val + h.val) % 4 = h.val; omega))).mp e)), mul_zero]
  rw [Finset.sum_congr rfl fun r _ => e r, Finset.sum_ite_eq', if_pos (Finset.mem_univ _)]

section
variable (m : (ℓ : Loc Cert.LastKernelIdeal.nD Cert.LastKernelIdeal.τ Cert.LastKernelIdeal.sig) → Buf (Elt Ideal) ℓ)

/-- The result of the two runs. -/
def result (c : Dev Cert.LastKernelIdeal.nD) : Vec Ideal Cert.LastKernelIdeal.S24x2304x1920 .bf16 := fun i =>
  if 16 ≤ (i 0).val ∧ (i 0).val < 24 then resultAt m c i else m ((c : Thread Cert.LastKernelIdeal.nD Cert.LastKernelIdeal.τ).loc Cert.LastKernelIdeal.main_arg4) i

theorem head_eq (c : Dev Cert.LastKernelIdeal.nD) (b : Fin 8) (g : Fin 3) (h : Fin 4) (d : Fin 160) (p : Fin 2304) :
    headAt m c b g h d p = refOuts (m ((c : Thread Cert.LastKernelIdeal.nD Cert.LastKernelIdeal.τ).loc Cert.LastKernelIdeal.main_arg1))
        (m ((c : Thread Cert.LastKernelIdeal.nD Cert.LastKernelIdeal.τ).loc Cert.LastKernelIdeal.main_arg2))
        (m ((c : Thread Cert.LastKernelIdeal.nD Cert.LastKernelIdeal.τ).loc Cert.LastKernelIdeal.main_arg3))
        (ix4 b (headOf g h) (posOf (m ((c : Thread Cert.LastKernelIdeal.nD Cert.LastKernelIdeal.τ).loc Cert.LastKernelIdeal.main_arg0)) b g h p) d) :=
  attend_eq _ _ _ b g h _ _ (Cert.LastKernelIdeal.Value.dist_at m c) (Cert.LastKernelIdeal.Value.fill_at m c) d _

theorem result_eq (c : Dev Cert.LastKernelIdeal.nD) (hp : LastPerm.Onto (m ((c : Thread Cert.LastKernelIdeal.nD Cert.LastKernelIdeal.τ).loc Cert.LastKernelIdeal.main_arg0))) :
    joined (m ((c : Thread Cert.LastKernelIdeal.nD Cert.LastKernelIdeal.τ).loc Cert.LastKernelIdeal.main_arg4))
      (whole (codes (m ((c : Thread Cert.LastKernelIdeal.nD Cert.LastKernelIdeal.τ).loc Cert.LastKernelIdeal.main_arg1)))
        (codes (m ((c : Thread Cert.LastKernelIdeal.nD Cert.LastKernelIdeal.τ).loc Cert.LastKernelIdeal.main_arg2)))
        (m ((c : Thread Cert.LastKernelIdeal.nD Cert.LastKernelIdeal.τ).loc Cert.LastKernelIdeal.main_arg0))
        (m ((c : Thread Cert.LastKernelIdeal.nD Cert.LastKernelIdeal.τ).loc Cert.LastKernelIdeal.main_arg3))) = result m c := by
  funext i
  obtain ⟨b, p, x, rfl⟩ : ∃ (b : Fin 24) (p : Fin 2304) (x : Fin 1920), i = ix3 b p x := ⟨i 0, i 1, i 2, by
    funext z; match z with | ⟨0, _⟩ => rfl | ⟨1, _⟩ => rfl | ⟨2, _⟩ => rfl⟩
  have hx := x.isLt
  rw [joined_at]
  show _ = if 16 ≤ b.val ∧ b.val < 24 then resultAt m c (ix3 b p x) else _
  split_ifs with hb
  · show placed (refOuts (m ((c : Thread Cert.LastKernelIdeal.nD Cert.LastKernelIdeal.τ).loc Cert.LastKernelIdeal.main_arg1))
          (m ((c : Thread Cert.LastKernelIdeal.nD Cert.LastKernelIdeal.τ).loc Cert.LastKernelIdeal.main_arg2))
          (m ((c : Thread Cert.LastKernelIdeal.nD Cert.LastKernelIdeal.τ).loc Cert.LastKernelIdeal.main_arg3)))
        (places (m ((c : Thread Cert.LastKernelIdeal.nD Cert.LastKernelIdeal.τ).loc Cert.LastKernelIdeal.main_arg0))) (ix3 ⟨(b.val - 16) % 8, by omega⟩ p x)
      = headAt m c ⟨(b.val - 16) % 8, by omega⟩ ⟨x.val / 640, by omega⟩ ⟨x.val % 640 / 160, by omega⟩ ⟨x.val % 160, by omega⟩ p
    rw [head_eq, placed_at]
    have key : ∀ (H H' : Fin 12) (hH : H = H') (o : FVec Ideal Cert.LastReferenceIdeal.S8x12x2304x160 .bf16) (q : FVec Ideal Cert.LastReferenceIdeal.S8x12x2304x2304 .bf16) (b : Fin 8) (d : Fin 160),
        ∑ r : Fin 2304, o (ix4 b H r d) * q (ix4 b H r p) = ∑ r : Fin 2304, o (ix4 b H' r d) * q (ix4 b H' r p) := by
      rintro _ _ rfl _ _ _ _; rfl
    refine (key _ (headOf ⟨x.val / 640, by omega⟩ ⟨x.val % 640 / 160, by omega⟩) (Fin.ext (by show x.val / 160 = 4 * (x.val / 640) + x.val % 640 / 160; omega)) _ _ _ _).trans ?_
    exact place_sum hp _ _ _ p fun r => refOuts _ _ _ (ix4 _ (headOf _ _) r _)
  · rfl

end

theorem algebraic : Cert.algebraic_LastKernelIdeal_LastReferenceIdeal_pre_last_perm_onto := by
  intro m g m' g' hpre hargs
  have hp : ∀ c : Dev Cert.LastKernelIdeal.nD, LastPerm.Onto (m ((c : Thread Cert.LastKernelIdeal.nD Cert.LastKernelIdeal.τ).loc Cert.LastKernelIdeal.main_arg0)) :=
    fun c => LastPerm.onto_of_pre (hpre c)
  refine ⟨fun c => result m c, ?_, ?_⟩
  · have h1 := Cert.LastKernelIdeal.Value.run_main m g hp
    have h2 := Cert.LastKernelIdeal.Run.unchanged m g (Cert.LastKernelIdeal.Run.hyps_of_inRange m fun c => (hp c).inRange)
    refine (θ_run Cert.LastKernelIdeal.defs _ _).mono (fun r h c => ⟨?_, h.2 c⟩) (θ_run_and h1 h2)
    exact ((h.1 c).1 6).trans (Cert.LastKernelIdeal.Value.final m c)
  · have h1 := Cert.LastReferenceIdeal.Value.run m' g'
    have h2 := Cert.LastReferenceIdeal.Gen.unchanged m' g'
    refine (θ_run Cert.LastReferenceIdeal.defs _ _).mono (fun r h c => ⟨?_, h.2 c⟩) (θ_run_and h1 h2)
    refine (h.1 c).trans ?_
    obtain ⟨e0, e1, e2, e3, e4⟩ := hargs c
    have key : ∀ x x' q q' v v' w w' a a', x = x' → q = q' → v = v' → w = w' → a = a' →
        joined x (whole (codes q) (codes v) w a) = joined x' (whole (codes q') (codes v') w' a') := by
      rintro _ _ _ _ _ _ _ _ _ _ rfl rfl rfl rfl rfl; rfl
    exact (key _ _ _ _ _ _ _ _ _ _ e4 e1 e2 e0 e3).trans (result_eq m c (hp c))

end Cert.LastAlgebraic

end
-- ==== Proof.lean ====
module

public import proofs.«01_k».proof.Defs
public import proofs.«01_k».proof.Proof.KernelSide
public import proofs.«01_k».proof.Proof.KernelIdealSide
public import proofs.«01_k».proof.Proof.Preserves
public import proofs.«01_k».proof.Proof.Algebraic
public import proofs.«01_k».proof.Proof.LastKernelSide
public import proofs.«01_k».proof.Proof.LastKernelIdealSide
public import proofs.«01_k».proof.Proof.LastPreserves
public import proofs.«01_k».proof.Proof.LastAlgebraic
public import proofs.«01_k».proof.Proof.Gen.ReferenceIdeal.Frame
public import proofs.«01_k».proof.Proof.Gen.LastReferenceIdeal.Frame
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.LastKernel.Gen.facts, Cert.LastKernelIdeal.Gen.facts, Cert.LastReferenceIdeal.Gen.facts,
    Cert.Pre_perm_in_range.Gen.facts, Cert.Pre_perm_onto.Gen.facts,
    Cert.Pre_last_perm_in_range.Gen.facts, Cert.Pre_last_perm_onto.Gen.facts,
    fun m ρ h => Cert.Kernel.Run.frame m ρ (Cert.Kernel.Run.hyps_of_inRange m fun c => Cert.Perm.inRange_of_pre (h c)),
    fun m ρ h => Cert.KernelIdeal.Run.frame m ρ (Cert.KernelIdeal.Run.hyps_of_inRange m fun c => Cert.Perm.inRange_of_pre (h c)),
    fun m ρ h => Cert.KernelIdeal.Run.frame m ρ (Cert.KernelIdeal.Run.hyps_of_inRange m fun c => (Cert.Perm.onto_of_pre (h c)).inRange),
    fun m ρ _ => Cert.ReferenceIdeal.Gen.frame m ρ,
    fun m ρ _ => Cert.ReferenceIdeal.Gen.frame m ρ,
    fun m ρ h => Cert.LastKernel.Run.frame m ρ (Cert.LastKernel.Run.hyps_of_inRange m fun c => Cert.LastPerm.inRange_of_pre (h c)),
    fun m ρ h => Cert.LastKernelIdeal.Run.frame m ρ (Cert.LastKernelIdeal.Run.hyps_of_inRange m fun c => Cert.LastPerm.inRange_of_pre (h c)),
    fun m ρ h => Cert.LastKernelIdeal.Run.frame m ρ (Cert.LastKernelIdeal.Run.hyps_of_inRange m fun c => (Cert.LastPerm.onto_of_pre (h c)).inRange),
    fun m ρ _ => Cert.LastReferenceIdeal.Gen.frame m ρ,
    fun m ρ _ => Cert.LastReferenceIdeal.Gen.frame m ρ,
    Cert.Preserves.preserves,
    Cert.Algebraic.algebraic,
    Cert.LastPreserves.preserves,
    Cert.LastAlgebraic.algebraic⟩

end Cert.Proof

end
